-- ==== Defs.lean ====
def Pre_Gla (m : (ℓ : Loc Cert.Gla.nD Cert.Gla.τ Cert.Gla.sig) → Buf (Elt Bits) ℓ) : Prop :=
  True

def Pre_GlaIdeal (m : (ℓ : Loc Cert.GlaIdeal.nD Cert.GlaIdeal.τ Cert.GlaIdeal.sig) → Buf (Elt Ideal) ℓ) : Prop :=
  True

def Pre_GlaRefIdeal (m : (ℓ : Loc Cert.GlaRefIdeal.nD Cert.GlaRefIdeal.τ Cert.GlaRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def quiescent_Gla [hGla : Cert.Gla.Facts] : Prop :=
  ∀ (m : (ℓ : Loc Cert.Gla.nD Cert.Gla.τ Cert.Gla.sig) → Buf (Elt Bits) ℓ) (g : Dev Cert.Gla.nD → PrngReg), Pre_Gla m →
    θ_run (Cert.Gla.defs (F := Bits)) (onTc (τ := Cert.Gla.τ) (Cert.Gla.main (F := Bits))) ⟨m, fun _ => 0, g⟩ (fun r => (∀ c : Dev Cert.Gla.nD,
      r.2.mem ((c.tc : Thread Cert.Gla.nD Cert.Gla.τ).loc Cert.Gla.main_arg0) = m ((c.tc : Thread Cert.Gla.nD Cert.Gla.τ).loc Cert.Gla.main_arg0)
      ∧ r.2.mem ((c.tc : Thread Cert.Gla.nD Cert.Gla.τ).loc Cert.Gla.main_arg1) = m ((c.tc : Thread Cert.Gla.nD Cert.Gla.τ).loc Cert.Gla.main_arg1)
      ∧ r.2.mem ((c.tc : Thread Cert.Gla.nD Cert.Gla.τ).loc Cert.Gla.main_arg2) = m ((c.tc : Thread Cert.Gla.nD Cert.Gla.τ).loc Cert.Gla.main_arg2)
      ∧ r.2.mem ((c.tc : Thread Cert.Gla.nD Cert.Gla.τ).loc Cert.Gla.main_arg3) = m ((c.tc : Thread Cert.Gla.nD Cert.Gla.τ).loc Cert.Gla.main_arg3)
      ∧ r.2.mem ((c.tc : Thread Cert.Gla.nD Cert.Gla.τ).loc Cert.Gla.main_arg4) = m ((c.tc : Thread Cert.Gla.nD Cert.Gla.τ).loc Cert.Gla.main_arg4))
      ∧ r.2.sem = fun _ => 0)

def quiescent_GlaIdeal [hGlaIdeal : Cert.GlaIdeal.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4))
      ∧ r.2.sem = fun _ => 0)

def quiescent_GlaRefIdeal [hGlaRefIdeal : Cert.GlaRefIdeal.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3)
      ∧ r.2.mem ((c.tc : Thread Cert.GlaRefIdeal.nD Cert.GlaRefIdeal.τ).loc Cert.GlaRefIdeal.main_arg4) = m ((c.tc : Thread Cert.GlaRefIdeal.nD Cert.GlaRefIdeal.τ).loc Cert.GlaRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4))
      ∧ r.2.sem = fun _ => 0)

def preserves_Gla_GlaIdeal : Prop :=
  True

def algebraic_GlaIdeal_GlaRefIdeal [hGlaIdeal : Cert.GlaIdeal.Facts] [hGlaRefIdeal : Cert.GlaRefIdeal.Facts] : Prop :=
  ∀ (m : (ℓ : Loc Cert.GlaIdeal.nD Cert.GlaIdeal.τ Cert.GlaIdeal.sig) → Buf (Elt Ideal) ℓ) (g : Dev Cert.GlaIdeal.nD → PrngReg)
    (m' : (ℓ : Loc Cert.GlaRefIdeal.nD Cert.GlaRefIdeal.τ Cert.GlaRefIdeal.sig) → Buf (Elt Ideal) ℓ) (g' : Dev Cert.GlaRefIdeal.nD → PrngReg), Pre_GlaIdeal m →
    (∀ c : Dev Cert.GlaIdeal.nD,
      m' ((c.tc : Thread Cert.GlaRefIdeal.nD Cert.GlaRefIdeal.τ).loc Cert.GlaRefIdeal.main_arg0) = m ((c.tc : Thread Cert.GlaIdeal.nD Cert.GlaIdeal.τ).loc Cert.GlaIdeal.main_arg0)
      ∧ m' ((c.tc : Thread Cert.GlaRefIdeal.nD Cert.GlaRefIdeal.τ).loc Cert.GlaRefIdeal.main_arg1) = m ((c.tc : Thread Cert.GlaIdeal.nD Cert.GlaIdeal.τ).loc Cert.GlaIdeal.main_arg1)
      ∧ m' ((c.tc : Thread Cert.GlaRefIdeal.nD Cert.GlaRefIdeal.τ).loc Cert.GlaRefIdeal.main_arg2) = m ((c.tc : Thread Cert.GlaIdeal.nD Cert.GlaIdeal.τ).loc Cert.GlaIdeal.main_arg2)
      ∧ m' ((c.tc : Thread Cert.GlaRefIdeal.nD Cert.GlaRefIdeal.τ).loc Cert.GlaRefIdeal.main_arg3) = m ((c.tc : Thread Cert.GlaIdeal.nD Cert.GlaIdeal.τ).loc Cert.GlaIdeal.main_arg3)
      ∧ m' ((c.tc : Thread Cert.GlaRefIdeal.nD Cert.GlaRefIdeal.τ).loc Cert.GlaRefIdeal.main_arg4) = m ((c.tc : Thread Cert.GlaIdeal.nD Cert.GlaIdeal.τ).loc Cert.GlaIdeal.main_arg4)) →
    ∃ (v0 : (c : Dev Cert.GlaIdeal.nD) → Buf (Elt Ideal) ((c.tc : Thread Cert.GlaIdeal.nD Cert.GlaIdeal.τ).loc Cert.GlaIdeal.main_v1)),
      θ_run (Cert.GlaIdeal.defs (F := Ideal)) (onTc (τ := Cert.GlaIdeal.τ) (Cert.GlaIdeal.main (F := Ideal))) ⟨m, fun _ => 0, g⟩ (fun r => ∀ c : Dev Cert.GlaIdeal.nD,
          r.2.mem ((c.tc : Thread Cert.GlaIdeal.nD Cert.GlaIdeal.τ).loc Cert.GlaIdeal.main_v1) = v0 c
          ∧ r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
          ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
          ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
          ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
          ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4))
      ∧ θ_run (Cert.GlaRefIdeal.defs (F := Ideal)) (onTc (τ := Cert.GlaRefIdeal.τ) (Cert.GlaRefIdeal.main (F := Ideal))) ⟨m', fun _ => 0, g'⟩ (fun r => ∀ c : Dev Cert.GlaRefIdeal.nD,
          r.2.mem ((c.tc : Thread Cert.GlaRefIdeal.nD Cert.GlaRefIdeal.τ).loc Cert.GlaRefIdeal.main_v56) = v0 c
          ∧ r.2.mem ((c.tc : Thread Cert.GlaRefIdeal.nD Cert.GlaRefIdeal.τ).loc Cert.GlaRefIdeal.main_arg0) = m' ((c.tc : Thread Cert.GlaRefIdeal.nD Cert.GlaRefIdeal.τ).loc Cert.GlaRefIdeal.main_arg0)
          ∧ r.2.mem ((c.tc : Thread Cert.GlaRefIdeal.nD Cert.GlaRefIdeal.τ).loc Cert.GlaRefIdeal.main_arg1) = m' ((c.tc : Thread Cert.GlaRefIdeal.nD Cert.GlaRefIdeal.τ).loc Cert.GlaRefIdeal.main_arg1)
          ∧ r.2.mem ((c.tc : Thread Cert.GlaRefIdeal.nD Cert.GlaRefIdeal.τ).loc Cert.GlaRefIdeal.main_arg2) = m' ((c.tc : Thread Cert.GlaRefIdeal.nD Cert.GlaRefIdeal.τ).loc Cert.GlaRefIdeal.main_arg2)
          ∧ r.2.mem ((c.tc : Thread Cert.GlaRefIdeal.nD Cert.GlaRefIdeal.τ).loc Cert.GlaRefIdeal.main_arg3) = m' ((c.tc : Thread Cert.GlaRefIdeal.nD Cert.GlaRefIdeal.τ).loc Cert.GlaRefIdeal.main_arg3)
          ∧ r.2.mem ((c.tc : Thread Cert.GlaRefIdeal.nD Cert.GlaRefIdeal.τ).loc Cert.GlaRefIdeal.main_arg4) = m' ((c.tc : Thread Cert.GlaRefIdeal.nD Cert.GlaRefIdeal.τ).loc Cert.GlaRefIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v33) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)) →
    ∃ (v0 : (c : Dev Cert.MixIdeal.nD) → Buf (Elt Ideal) ((c.tc : Thread Cert.MixIdeal.nD Cert.MixIdeal.τ).loc Cert.MixIdeal.main_v8)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v8) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v51) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)) →
    ∃ (v0 : (c : Dev Cert.InprojIdeal.nD) → Buf (Elt Ideal) ((c.tc : Thread Cert.InprojIdeal.nD Cert.InprojIdeal.τ).loc Cert.InprojIdeal.main_v30_0)) (v1 : (c : Dev Cert.InprojIdeal.nD) → Buf (Elt Ideal) ((c.tc : Thread Cert.InprojIdeal.nD Cert.InprojIdeal.τ).loc Cert.InprojIdeal.main_v30_1)) (v2 : (c : Dev Cert.InprojIdeal.nD) → Buf (Elt Ideal) ((c.tc : Thread Cert.InprojIdeal.nD Cert.InprojIdeal.τ).loc Cert.InprojIdeal.main_v30_2)) (v3 : (c : Dev Cert.InprojIdeal.nD) → Buf (Elt Ideal) ((c.tc : Thread Cert.InprojIdeal.nD Cert.InprojIdeal.τ).loc Cert.InprojIdeal.main_v30_3)) (v4 : (c : Dev Cert.InprojIdeal.nD) → Buf (Elt Ideal) ((c.tc : Thread Cert.InprojIdeal.nD Cert.InprojIdeal.τ).loc Cert.InprojIdeal.main_v30_4)) (v5 : (c : Dev Cert.InprojIdeal.nD) → Buf (Elt Ideal) ((c.tc : Thread Cert.InprojIdeal.nD Cert.InprojIdeal.τ).loc Cert.InprojIdeal.main_v30_5)) (v6 : (c : Dev Cert.InprojIdeal.nD) → Buf (Elt Ideal) ((c.tc : Thread Cert.InprojIdeal.nD Cert.InprojIdeal.τ).loc Cert.InprojIdeal.main_v30_6)) (v7 : (c : Dev Cert.InprojIdeal.nD) → Buf (Elt Ideal) ((c.tc : Thread Cert.InprojIdeal.nD Cert.InprojIdeal.τ).loc Cert.InprojIdeal.main_v30_7)) (v8 : (c : Dev Cert.InprojIdeal.nD) → Buf (Elt Ideal) ((c.tc : Thread Cert.InprojIdeal.nD Cert.InprojIdeal.τ).loc Cert.InprojIdeal.main_v30_8)) (v9 : (c : Dev Cert.InprojIdeal.nD) → Buf (Elt Ideal) ((c.tc : Thread Cert.InprojIdeal.nD Cert.InprojIdeal.τ).loc Cert.InprojIdeal.main_v30_9)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v30_0) = v0 c
          ∧ r.2.mem ((c.tc : Thread Cert.InprojIdeal.nD Cert.InprojIdeal.τ).loc Cert.InprojIdeal.main_v30_1) = v1 c
          ∧ r.2.mem ((c.tc : Thread Cert.InprojIdeal.nD Cert.InprojIdeal.τ).loc Cert.InprojIdeal.main_v30_2) = v2 c
          ∧ r.2.mem ((c.tc : Thread Cert.InprojIdeal.nD Cert.InprojIdeal.τ).loc Cert.InprojIdeal.main_v30_3) = v3 c
          ∧ r.2.mem ((c.tc : Thread Cert.InprojIdeal.nD Cert.InprojIdeal.τ).loc Cert.InprojIdeal.main_v30_4) = v4 c
          ∧ r.2.mem ((c.tc : Thread Cert.InprojIdeal.nD Cert.InprojIdeal.τ).loc Cert.InprojIdeal.main_v30_5) = v5 c
          ∧ r.2.mem ((c.tc : Thread Cert.InprojIdeal.nD Cert.InprojIdeal.τ).loc Cert.InprojIdeal.main_v30_6) = v6 c
          ∧ r.2.mem ((c.tc : Thread Cert.InprojIdeal.nD Cert.InprojIdeal.τ).loc Cert.InprojIdeal.main_v30_7) = v7 c
          ∧ r.2.mem ((c.tc : Thread Cert.InprojIdeal.nD Cert.InprojIdeal.τ).loc Cert.InprojIdeal.main_v30_8) = v8 c
          ∧ r.2.mem ((c.tc : Thread Cert.InprojIdeal.nD Cert.InprojIdeal.τ).loc Cert.InprojIdeal.main_v30_9) = v9 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v54) = v0 c
          ∧ r.2.mem ((c.tc : Thread Cert.InprojRefIdeal.nD Cert.InprojRefIdeal.τ).loc Cert.InprojRefIdeal.main_v55) = v1 c
          ∧ r.2.mem ((c.tc : Thread Cert.InprojRefIdeal.nD Cert.InprojRefIdeal.τ).loc Cert.InprojRefIdeal.main_v56) = v2 c
          ∧ r.2.mem ((c.tc : Thread Cert.InprojRefIdeal.nD Cert.InprojRefIdeal.τ).loc Cert.InprojRefIdeal.main_v44) = v3 c
          ∧ r.2.mem ((c.tc : Thread Cert.InprojRefIdeal.nD Cert.InprojRefIdeal.τ).loc Cert.InprojRefIdeal.main_v57) = v4 c
          ∧ r.2.mem ((c.tc : Thread Cert.InprojRefIdeal.nD Cert.InprojRefIdeal.τ).loc Cert.InprojRefIdeal.main_v58) = v5 c
          ∧ r.2.mem ((c.tc : Thread Cert.InprojRefIdeal.nD Cert.InprojRefIdeal.τ).loc Cert.InprojRefIdeal.main_v61) = v6 c
          ∧ r.2.mem ((c.tc : Thread Cert.InprojRefIdeal.nD Cert.InprojRefIdeal.τ).loc Cert.InprojRefIdeal.main_v62) = v7 c
          ∧ r.2.mem ((c.tc : Thread Cert.InprojRefIdeal.nD Cert.InprojRefIdeal.τ).loc Cert.InprojRefIdeal.main_v24) = v8 c
          ∧ r.2.mem ((c.tc : Thread Cert.InprojRefIdeal.nD Cert.InprojRefIdeal.τ).loc Cert.InprojRefIdeal.main_v53) = v9 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4))

def Claim : Prop :=
  ∃ (hGla : Cert.Gla.Facts) (hGlaIdeal : Cert.GlaIdeal.Facts) (hGlaRefIdeal : Cert.GlaRefIdeal.Facts) (hFfn : Cert.Ffn.Facts) (hFfnIdeal : Cert.FfnIdeal.Facts) (hFfnRefIdeal : Cert.FfnRefIdeal.Facts) (hMix : Cert.Mix.Facts) (hMixIdeal : Cert.MixIdeal.Facts) (hMixRefIdeal : Cert.MixRefIdeal.Facts) (hInproj : Cert.Inproj.Facts) (hInprojIdeal : Cert.InprojIdeal.Facts) (hInprojRefIdeal : Cert.InprojRefIdeal.Facts),
    quiescent_Gla (hGla := hGla)
    ∧ quiescent_GlaIdeal (hGlaIdeal := hGlaIdeal)
    ∧ quiescent_GlaRefIdeal (hGlaRefIdeal := hGlaRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Mix (hMix := hMix)
    ∧ quiescent_MixIdeal (hMixIdeal := hMixIdeal)
    ∧ quiescent_MixRefIdeal (hMixRefIdeal := hMixRefIdeal)
    ∧ quiescent_Inproj (hInproj := hInproj)
    ∧ quiescent_InprojIdeal (hInprojIdeal := hInprojIdeal)
    ∧ quiescent_InprojRefIdeal (hInprojRefIdeal := hInprojRefIdeal)
    ∧ preserves_Gla_GlaIdeal
    ∧ algebraic_GlaIdeal_GlaRefIdeal (hGlaIdeal := hGlaIdeal) (hGlaRefIdeal := hGlaRefIdeal)
    ∧ preserves_Ffn_FfnIdeal
    ∧ algebraic_FfnIdeal_FfnRefIdeal (hFfnIdeal := hFfnIdeal) (hFfnRefIdeal := hFfnRefIdeal)
    ∧ preserves_Mix_MixIdeal
    ∧ algebraic_MixIdeal_MixRefIdeal (hMixIdeal := hMixIdeal) (hMixRefIdeal := hMixRefIdeal)
    ∧ preserves_Inproj_InprojIdeal
    ∧ algebraic_InprojIdeal_InprojRefIdeal (hInprojIdeal := hInprojIdeal) (hInprojRefIdeal := hInprojRefIdeal)
-- ==== Gla.lean ====
abbrev S65536x512 : Shape := ⟨2, ![65536, 512]⟩
abbrev S65536x256 : Shape := ⟨2, ![65536, 256]⟩
abbrev S128 : Shape := ⟨1, ![128]⟩
abbrev S1x128 : Shape := ⟨2, ![1, 128]⟩
abbrev S1024x512 : Shape := ⟨2, ![1024, 512]⟩
abbrev S1024x256 : Shape := ⟨2, ![1024, 256]⟩
abbrev S4x128x64 : Shape := ⟨3, ![4, 128, 64]⟩
abbrev S64x64 : Shape := ⟨2, ![64, 64]⟩
abbrev S64x256 : Shape := ⟨2, ![64, 256]⟩
abbrev S64x1 : Shape := ⟨2, ![64, 1]⟩
abbrev S1x256 : Shape := ⟨2, ![1, 256]⟩
abbrev S64x128 : Shape := ⟨2, ![64, 128]⟩
abbrev S128x64 : Shape := ⟨2, ![128, 64]⟩
abbrev S1x128x64 : Shape := ⟨3, ![1, 128, 64]⟩
abbrev S1x64 : Shape := ⟨2, ![1, 64]⟩
abbrev S64 : Shape := ⟨1, ![64]⟩

abbrev nBuf : Space → Nat
  | .hbm => 7
  | .vmem => 12
  | .smem => 0
  | _ => 0

abbrev bufTy : (tb : Table) → Fin (tcTables nBuf tb) → BufTy
  | .hbm, ⟨0, _⟩ => ⟨S65536x512, .f32⟩
  | .hbm, ⟨1, _⟩ => ⟨S65536x512, .bf16⟩
  | .hbm, ⟨2, _⟩ => ⟨S65536x256, .f32⟩
  | .hbm, ⟨3, _⟩ => ⟨S65536x512, .f32⟩
  | .hbm, ⟨4, _⟩ => ⟨S128, .f32⟩
  | .hbm, ⟨5, _⟩ => ⟨S1x128, .f32⟩
  | .hbm, ⟨6, _⟩ => ⟨S65536x512, .bf16⟩
  | .local _ .vmem, ⟨0, _⟩ => ⟨S1024x512, .f32⟩
  | .local _ .vmem, ⟨1, _⟩ => ⟨S1024x512, .f32⟩
  | .local _ .vmem, ⟨2, _⟩ => ⟨S1024x512, .bf16⟩
  | .local _ .vmem, ⟨3, _⟩ => ⟨S1024x512, .bf16⟩
  | .local _ .vmem, ⟨4, _⟩ => ⟨S1024x256, .f32⟩
  | .local _ .vmem, ⟨5, _⟩ => ⟨S1024x256, .f32⟩
  | .local _ .vmem, ⟨6, _⟩ => ⟨S1024x512, .f32⟩
  | .local _ .vmem, ⟨7, _⟩ => ⟨S1024x512, .f32⟩
  | .local _ .vmem, ⟨8, _⟩ => ⟨S1x128, .f32⟩
  | .local _ .vmem, ⟨9, _⟩ => ⟨S1024x512, .bf16⟩
  | .local _ .vmem, ⟨10, _⟩ => ⟨S1024x512, .bf16⟩
  | .local _ .vmem, ⟨11, _⟩ => ⟨S4x128x64, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GlaRefIdeal.lean ====
abbrev S65536x512 : Shape := ⟨2, ![65536, 512]⟩
abbrev S65536x256 : Shape := ⟨2, ![65536, 256]⟩
abbrev S128 : Shape := ⟨1, ![128]⟩
abbrev S8x128x64x4x64 : Shape := ⟨5, ![8, 128, 64, 4, 64]⟩
abbrev S8x4x128x64x64 : Shape := ⟨5, ![8, 4, 128, 64, 64]⟩
abbrev S8x128x64x4x128 : Shape := ⟨5, ![8, 128, 64, 4, 128]⟩
abbrev S8x4x128x64x128 : Shape := ⟨5, ![8, 4, 128, 64, 128]⟩
abbrev S_ : Shape := ⟨0, ![]⟩
abbrev S8x4x128x1x64 : Shape := ⟨5, ![8, 4, 128, 1, 64]⟩
abbrev S64x64 : Shape := ⟨2, ![64, 64]⟩
abbrev S8x4x128x64 : Shape := ⟨4, ![8, 4, 128, 64]⟩
abbrev S8x4x64x128 : Shape := ⟨4, ![8, 4, 64, 128]⟩
abbrev S128x8x4x64 : Shape := ⟨4, ![128, 8, 4, 64]⟩
abbrev S128x8x4x64x128 : Shape := ⟨5, ![128, 8, 4, 64, 128]⟩
abbrev S1x8x4x64 : Shape := ⟨4, ![1, 8, 4, 64]⟩
abbrev S8x4x64 : Shape := ⟨3, ![8, 4, 64]⟩
abbrev S1x8x4x64x128 : Shape := ⟨5, ![1, 8, 4, 64, 128]⟩
abbrev S8x4x64x1 : Shape := ⟨4, ![8, 4, 64, 1]⟩
abbrev S8x8192x4x128 : Shape := ⟨4, ![8, 8192, 4, 128]⟩
abbrev S8x8192x4 : Shape := ⟨3, ![8, 8192, 4]⟩
abbrev S8x8192x4x1 : Shape := ⟨4, ![8, 8192, 4, 1]⟩
abbrev S1x1x1x128 : Shape := ⟨4, ![1, 1, 1, 128]⟩

abbrev nBuf : Space → Nat
  | .hbm => 120
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S65536x512, .bf16⟩
  | .hbm, ⟨2, _⟩ => ⟨S65536x256, .f32⟩
  | .hbm, ⟨3, _⟩ => ⟨S65536x512, .f32⟩
  | .hbm, ⟨4, _⟩ => ⟨S128, .f32⟩
  | .hbm, ⟨5, _⟩ => ⟨S65536x256, .f32⟩
  | .hbm, ⟨6, _⟩ => ⟨S8x128x64x4x64, .f32⟩
  | .hbm, ⟨7, _⟩ => ⟨S8x4x128x64x64, .f32⟩
  | .hbm, ⟨8, _⟩ => ⟨S65536x256, .f32⟩
  | .hbm, ⟨9, _⟩ => ⟨S8x128x64x4x64, .f32⟩
  | .hbm, ⟨10, _⟩ => ⟨S8x4x128x64x64, .f32⟩
  | .hbm, ⟨11, _⟩ => ⟨S65536x512, .f32⟩
  | .hbm, ⟨12, _⟩ => ⟨S8x128x64x4x128, .f32⟩
  | .hbm, ⟨13, _⟩ => ⟨S8x4x128x64x128, .f32⟩
  | .hbm, ⟨14, _⟩ => ⟨S8x128x64x4x64, .f32⟩
  | .hbm, ⟨15, _⟩ => ⟨S8x4x128x64x64, .f32⟩
  | .hbm, ⟨16, _⟩ => ⟨S_, .f32⟩
  | .hbm, ⟨17, _⟩ => ⟨S_, .f32⟩
  | .hbm, ⟨18, _⟩ => ⟨S8x4x128x64x64, .f32⟩
  | .hbm, ⟨19, _⟩ => ⟨S8x4x128x1x64, .f32⟩
  | .hbm, ⟨20, _⟩ => ⟨S8x4x128x64x64, .f32⟩
  | .hbm, ⟨21, _⟩ => ⟨S8x4x128x64x64, .f32⟩
  | .hbm, ⟨22, _⟩ => ⟨S8x4x128x64x64, .f32⟩
  | .hbm, ⟨23, _⟩ => ⟨S8x4x128x64x64, .f32⟩
  | .hbm, ⟨24, _⟩ => ⟨S8x4x128x64x64, .f32⟩
  | .hbm, ⟨25, _⟩ => ⟨S8x4x128x64x64, .f32⟩
  | .hbm, ⟨26, _⟩ => ⟨S8x4x128x64x64, .f32⟩
  | .hbm, ⟨27, _⟩ => ⟨S8x4x128x64x64, .f32⟩
  | .hbm, ⟨28, _⟩ => ⟨S8x4x128x64x64, .f32⟩
  | .hbm, ⟨29, _⟩ => ⟨S_, .i1⟩
  | .hbm, ⟨30, _⟩ => ⟨S64x64, .i1⟩
  | .hbm, ⟨31, _⟩ => ⟨S64x64, .i32⟩
  | .hbm, ⟨32, _⟩ => ⟨S_, .i32⟩
  | .hbm, ⟨33, _⟩ => ⟨S64x64, .i32⟩
  | .hbm, ⟨34, _⟩ => ⟨S64x64, .i32⟩
  | .hbm, ⟨35, _⟩ => ⟨S64x64, .i32⟩
  | .hbm, ⟨36, _⟩ => ⟨S64x64, .i1⟩
  | .hbm, ⟨37, _⟩ => ⟨S_, .i1⟩
  | .hbm, ⟨38, _⟩ => ⟨S64x64, .i1⟩
  | .hbm, ⟨39, _⟩ => ⟨S64x64, .i1⟩
  | .hbm, ⟨40, _⟩ => ⟨S8x4x128x64x64, .f32⟩
  | .hbm, ⟨41, _⟩ => ⟨S_, .f32⟩
  | .hbm, ⟨42, _⟩ => ⟨S_, .f32⟩
  | .hbm, ⟨43, _⟩ => ⟨S8x4x128x64x64, .i1⟩
  | .hbm, ⟨44, _⟩ => ⟨S8x4x128x64x64, .f32⟩
  | .hbm, ⟨45, _⟩ => ⟨S8x4x128x64x64, .f32⟩
  | .hbm, ⟨46, _⟩ => ⟨S8x4x128x64x128, .f32⟩
  | .hbm, ⟨47, _⟩ => ⟨S8x4x128x64x128, .f32⟩
  | .hbm, ⟨48, _⟩ => ⟨S8x4x128x64, .f32⟩
  | .hbm, ⟨49, _⟩ => ⟨S8x4x128x64, .f32⟩
  | .hbm, ⟨50, _⟩ => ⟨S_, .f32⟩
  | .hbm, ⟨51, _⟩ => ⟨S8x4x64x128, .f32⟩
  | .hbm, ⟨52, _⟩ => ⟨S128x8x4x64, .f32⟩
  | .hbm, ⟨53, _⟩ => ⟨S128x8x4x64x128, .f32⟩
  | .hbm, ⟨54, _⟩ => ⟨S_, .f32⟩
  | .hbm, ⟨55, _⟩ => ⟨S128x8x4x64x128, .f32⟩
  | .hbm, ⟨56, _⟩ => ⟨S_, .i32⟩
  | .hbm, ⟨57, _⟩ => ⟨S128x8x4x64, .f32⟩
  | .hbm, ⟨58, _⟩ => ⟨S128x8x4x64x128, .f32⟩
  | .hbm, ⟨59, _⟩ => ⟨S_, .i32⟩
  | .hbm, ⟨60, _⟩ => ⟨S8x4x64x128, .f32⟩
  | .hbm, ⟨61, _⟩ => ⟨S128x8x4x64x128, .f32⟩
  | .hbm, ⟨62, _⟩ => ⟨S_, .i32⟩
  | .hbm, ⟨63, _⟩ => ⟨S_, .i1⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S1x8x4x64, .f32⟩
  | .hbm, ⟨68, _⟩ => ⟨S8x4x64, .f32⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S1x8x4x64x128, .f32⟩
  | .hbm, ⟨74, _⟩ => ⟨S8x4x64x128, .f32⟩
  | .hbm, ⟨75, _⟩ => ⟨S8x4x64x1, .f32⟩
  | .hbm, ⟨76, _⟩ => ⟨S8x4x64x128, .f32⟩
  | .hbm, ⟨77, _⟩ => ⟨S8x4x64x128, .f32⟩
  | .hbm, ⟨78, _⟩ => ⟨S8x4x64x128, .f32⟩
  | .hbm, ⟨79, _⟩ => ⟨S1x8x4x64x128, .f32⟩
  | .hbm, ⟨80, _⟩ => ⟨S_, .i32⟩
  | .hbm, ⟨81, _⟩ => ⟨S_, .i32⟩
  | .hbm, ⟨82, _⟩ => ⟨S_, .i32⟩
  | .hbm, ⟨83, _⟩ => ⟨S_, .i32⟩
  | .hbm, ⟨84, _⟩ => ⟨S128x8x4x64x128, .f32⟩
  | .hbm, ⟨85, _⟩ => ⟨S_, .i32⟩
  | .hbm, ⟨86, _⟩ => ⟨S_, .i32⟩
  | .hbm, ⟨87, _⟩ => ⟨S8x4x128x64x128, .f32⟩
  | .hbm, ⟨88, _⟩ => ⟨S8x4x128x64x128, .f32⟩
  | .hbm, ⟨89, _⟩ => ⟨S8x4x128x64x128, .f32⟩
  | .hbm, ⟨90, _⟩ => ⟨S8x128x64x4x128, .f32⟩
  | .hbm, ⟨91, _⟩ => ⟨S8x8192x4x128, .f32⟩
  | .hbm, ⟨92, _⟩ => ⟨S8x8192x4x128, .f32⟩
  | .hbm, ⟨93, _⟩ => ⟨S_, .f32⟩
  | .hbm, ⟨94, _⟩ => ⟨S8x8192x4, .f32⟩
  | .hbm, ⟨95, _⟩ => ⟨S8x8192x4x1, .f32⟩
  | .hbm, ⟨96, _⟩ => ⟨S_, .f32⟩
  | .hbm, ⟨97, _⟩ => ⟨S8x8192x4x1, .f32⟩
  | .hbm, ⟨98, _⟩ => ⟨S8x8192x4x1, .f32⟩
  | .hbm, ⟨99, _⟩ => ⟨S_, .f32⟩
  | .hbm, ⟨100, _⟩ => ⟨S8x8192x4x1, .f32⟩
  | .hbm, ⟨101, _⟩ => ⟨S8x8192x4x1, .f32⟩
  | .hbm, ⟨102, _⟩ => ⟨S8x8192x4x1, .f32⟩
  | .hbm, ⟨103, _⟩ => ⟨S8x8192x4x128, .f32⟩
  | .hbm, ⟨104, _⟩ => ⟨S8x8192x4x128, .f32⟩
  | .hbm, ⟨105, _⟩ => ⟨S1x1x1x128, .f32⟩
  | .hbm, ⟨106, _⟩ => ⟨S8x8192x4x128, .f32⟩
  | .hbm, ⟨107, _⟩ => ⟨S8x8192x4x128, .f32⟩
  | .hbm, ⟨108, _⟩ => ⟨S65536x512, .f32⟩
  | .hbm, ⟨109, _⟩ => ⟨S65536x512, .f32⟩
  | .hbm, ⟨110, _⟩ => ⟨S65536x512, .f32⟩
  | .hbm, ⟨111, _⟩ => ⟨S_, .f32⟩
  | .hbm, ⟨112, _⟩ => ⟨S65536x512, .f32⟩
  | .hbm, ⟨113, _⟩ => ⟨S65536x512, .f32⟩
  | .hbm, ⟨114, _⟩ => ⟨S_, .f32⟩
  | .hbm, ⟨115, _⟩ => ⟨S65536x512, .f32⟩
  | .hbm, ⟨116, _⟩ => ⟨S65536x512, .f32⟩
  | .hbm, ⟨117, _⟩ => ⟨S65536x512, .f32⟩
  | .hbm, ⟨118, _⟩ => ⟨S65536x512, .f32⟩
  | .hbm, ⟨119, _⟩ => ⟨S65536x512, .bf16⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_call0_cst : Ref sig .tc := ⟨.hbm, 16, rfl⟩
abbrev main_call0_call0_v0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c : Ref sig .tc := ⟨.hbm, 29, rfl⟩
abbrev main_v22 : Ref sig .tc := ⟨.hbm, 30, rfl⟩
abbrev main_call1_v0 : Ref sig .tc := ⟨.hbm, 31, rfl⟩
abbrev main_call1_c : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_c_0 : Ref sig .tc := ⟨.hbm, 37, rfl⟩
abbrev main_call1_v5 : Ref sig .tc := ⟨.hbm, 38, rfl⟩
abbrev main_v23 : Ref sig .tc := ⟨.hbm, 39, rfl⟩
abbrev main_v24 : Ref sig .tc := ⟨.hbm, 40, rfl⟩
abbrev main_cst : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_0 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_1 : Ref sig .tc := ⟨.hbm, 54, rfl⟩
abbrev main_v33 : Ref sig .tc := ⟨.hbm, 55, rfl⟩
abbrev main_c_2 : Ref sig .tc := ⟨.hbm, 56, rfl⟩
abbrev main_v34_0 : Ref sig .tc := ⟨.hbm, 57, rfl⟩
abbrev main_v34_1 : Ref sig .tc := ⟨.hbm, 58, rfl⟩
abbrev main_v34_2 : Ref sig .tc := ⟨.hbm, 59, rfl⟩
abbrev main_v34_3 : Ref sig .tc := ⟨.hbm, 60, rfl⟩
abbrev main_v34_4 : Ref sig .tc := ⟨.hbm, 61, rfl⟩
abbrev main_while0c_c_10 : Ref sig .tc := ⟨.hbm, 62, rfl⟩
abbrev main_while0c_v57 : Ref sig .tc := ⟨.hbm, 63, rfl⟩
abbrev main_while0b_call3_c : Ref sig .tc := ⟨.hbm, 64, rfl⟩
abbrev main_while0b_call3_c_0 : Ref sig .tc := ⟨.hbm, 65, rfl⟩
abbrev main_while0b_call3_c_1 : Ref sig .tc := ⟨.hbm, 66, rfl⟩
abbrev main_while0b_call3_v0 : Ref sig .tc := ⟨.hbm, 67, rfl⟩
abbrev main_while0b_v57 : Ref sig .tc := ⟨.hbm, 68, rfl⟩
abbrev main_while0b_call4_c : Ref sig .tc := ⟨.hbm, 69, rfl⟩
abbrev main_while0b_call4_c_0 : Ref sig .tc := ⟨.hbm, 70, rfl⟩
abbrev main_while0b_call4_c_1 : Ref sig .tc := ⟨.hbm, 71, rfl⟩
abbrev main_while0b_call4_c_2 : Ref sig .tc := ⟨.hbm, 72, rfl⟩
abbrev main_while0b_call4_v0 : Ref sig .tc := ⟨.hbm, 73, rfl⟩
abbrev main_while0b_v58 : Ref sig .tc := ⟨.hbm, 74, rfl⟩
abbrev main_while0b_v59 : Ref sig .tc := ⟨.hbm, 75, rfl⟩
abbrev main_while0b_v60 : Ref sig .tc := ⟨.hbm, 76, rfl⟩
abbrev main_while0b_v61 : Ref sig .tc := ⟨.hbm, 77, rfl⟩
abbrev main_while0b_v62 : Ref sig .tc := ⟨.hbm, 78, rfl⟩
abbrev main_while0b_call5_v0 : Ref sig .tc := ⟨.hbm, 79, rfl⟩
abbrev main_while0b_call5_c : Ref sig .tc := ⟨.hbm, 80, rfl⟩
abbrev main_while0b_call5_c_0 : Ref sig .tc := ⟨.hbm, 81, rfl⟩
abbrev main_while0b_call5_c_1 : Ref sig .tc := ⟨.hbm, 82, rfl⟩
abbrev main_while0b_call5_c_2 : Ref sig .tc := ⟨.hbm, 83, rfl⟩
abbrev main_while0b_v63 : Ref sig .tc := ⟨.hbm, 84, rfl⟩
abbrev main_while0b_c_10 : Ref sig .tc := ⟨.hbm, 85, rfl⟩
abbrev main_while0b_v64 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_cst_3 : Ref sig .tc := ⟨.hbm, 93, rfl⟩
abbrev main_v41 : Ref sig .tc := ⟨.hbm, 94, rfl⟩
abbrev main_v42 : Ref sig .tc := ⟨.hbm, 95, rfl⟩
abbrev main_cst_4 : Ref sig .tc := ⟨.hbm, 96, rfl⟩
abbrev main_v43 : Ref sig .tc := ⟨.hbm, 97, rfl⟩
abbrev main_v44 : Ref sig .tc := ⟨.hbm, 98, rfl⟩
abbrev main_cst_5 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_call6_v0 : Ref sig .tc := ⟨.hbm, 109, rfl⟩
abbrev main_call6_v1 : Ref sig .tc := ⟨.hbm, 110, rfl⟩
abbrev main_call6_cst : Ref sig .tc := ⟨.hbm, 111, rfl⟩
abbrev main_call6_v2 : Ref sig .tc := ⟨.hbm, 112, rfl⟩
abbrev main_call6_v3 : Ref sig .tc := ⟨.hbm, 113, rfl⟩
abbrev main_call6_cst_0 : Ref sig .tc := ⟨.hbm, 114, rfl⟩
abbrev main_call6_v4 : Ref sig .tc := ⟨.hbm, 115, rfl⟩
abbrev main_call6_v5 : Ref sig .tc := ⟨.hbm, 116, rfl⟩
abbrev main_v54 : Ref sig .tc := ⟨.hbm, 117, rfl⟩
abbrev main_v55 : Ref sig .tc := ⟨.hbm, 118, rfl⟩
abbrev main_v56 : Ref sig .tc := ⟨.hbm, 119, rfl⟩

abbrev nD : Nat := 1
abbrev τ : Topo := Topo.v7x

variable {F : FTy → Type} [FloatOps F]

abbrev main_while0_count : Scf.Loop 32 := ⟨0#32, 128#32, 1#32⟩
-- ==== Ffn.lean ====
abbrev S65536x1024 : Shape := ⟨2, ![65536, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S1024x1024 : Shape := ⟨2, ![1024, 1024]⟩
abbrev S1024x1 : Shape := ⟨2, ![1024, 1]⟩
abbrev S1024x256 : Shape := ⟨2, ![1024, 256]⟩
abbrev S256x1024 : Shape := ⟨2, ![256, 1024]⟩

abbrev nBuf : Space → Nat
  | .hbm => 12
  | .vmem => 9
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S1x1024, .f32⟩
  | .hbm, ⟨11, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnRefIdeal.lean ====
abbrev S65536x1024 : Shape := ⟨2, ![65536, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x2816 : Shape := ⟨2, ![65536, 2816]⟩

abbrev nBuf : Space → Nat
  | .hbm => 55
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S65536x1024, .f32⟩
  | .hbm, ⟨7, _⟩ => ⟨S_, .f32⟩
  | .hbm, ⟨8, _⟩ => ⟨S65536, .f32⟩
  | .hbm, ⟨9, _⟩ => ⟨S65536x1, .f32⟩
  | .hbm, ⟨10, _⟩ => ⟨S_, .f32⟩
  | .hbm, ⟨11, _⟩ => ⟨S65536x1, .f32⟩
  | .hbm, ⟨12, _⟩ => ⟨S65536x1, .f32⟩
  | .hbm, ⟨13, _⟩ => ⟨S_, .f32⟩
  | .hbm, ⟨14, _⟩ => ⟨S65536x1, .f32⟩
  | .hbm, ⟨15, _⟩ => ⟨S65536x1, .f32⟩
  | .hbm, ⟨16, _⟩ => ⟨S65536x1, .f32⟩
  | .hbm, ⟨17, _⟩ => ⟨S65536x1024, .f32⟩
  | .hbm, ⟨18, _⟩ => ⟨S65536x1024, .f32⟩
  | .hbm, ⟨19, _⟩ => ⟨S1x1024, .f32⟩
  | .hbm, ⟨20, _⟩ => ⟨S65536x1024, .f32⟩
  | .hbm, ⟨21, _⟩ => ⟨S65536x1024, .f32⟩
  | .hbm, ⟨22, _⟩ => ⟨S65536x2816, .f32⟩
  | .hbm, ⟨23, _⟩ => ⟨S65536x2816, .f32⟩
  | .hbm, ⟨24, _⟩ => ⟨S65536x2816, .f32⟩
  | .hbm, ⟨25, _⟩ => ⟨S_, .f32⟩
  | .hbm, ⟨26, _⟩ => ⟨S65536x2816, .f32⟩
  | .hbm, ⟨27, _⟩ => ⟨S65536x2816, .f32⟩
  | .hbm, ⟨28, _⟩ => ⟨S_, .f32⟩
  | .hbm, ⟨29, _⟩ => ⟨S65536x2816, .f32⟩
  | .hbm, ⟨30, _⟩ => ⟨S65536x2816, .f32⟩
  | .hbm, ⟨31, _⟩ => ⟨S65536x2816, .f32⟩
  | .hbm, ⟨32, _⟩ => ⟨S65536x2816, .f32⟩
  | .hbm, ⟨33, _⟩ => ⟨S65536x2816, .f32⟩
  | .hbm, ⟨34, _⟩ => ⟨S65536x1024, .f32⟩
  | .hbm, ⟨35, _⟩ => ⟨S65536x1024, .f32⟩
  | .hbm, ⟨36, _⟩ => ⟨S_, .f32⟩
  | .hbm, ⟨37, _⟩ => ⟨S65536, .f32⟩
  | .hbm, ⟨38, _⟩ => ⟨S65536x1, .f32⟩
  | .hbm, ⟨39, _⟩ => ⟨S_, .f32⟩
  | .hbm, ⟨40, _⟩ => ⟨S65536x1, .f32⟩
  | .hbm, ⟨41, _⟩ => ⟨S65536x1, .f32⟩
  | .hbm, ⟨42, _⟩ => ⟨S_, .f32⟩
  | .hbm, ⟨43, _⟩ => ⟨S65536x1, .f32⟩
  | .hbm, ⟨44, _⟩ => ⟨S65536x1, .f32⟩
  | .hbm, ⟨45, _⟩ => ⟨S65536x1, .f32⟩
  | .hbm, ⟨46, _⟩ => ⟨S65536x1024, .f32⟩
  | .hbm, ⟨47, _⟩ => ⟨S65536x1024, .f32⟩
  | .hbm, ⟨48, _⟩ => ⟨S1x1024, .f32⟩
  | .hbm, ⟨49, _⟩ => ⟨S65536x1024, .f32⟩
  | .hbm, ⟨50, _⟩ => ⟨S65536x1024, .f32⟩
  | .hbm, ⟨51, _⟩ => ⟨S_, .f32⟩
  | .hbm, ⟨52, _⟩ => ⟨S65536x1024, .f32⟩
  | .hbm, ⟨53, _⟩ => ⟨S65536x1024, .f32⟩
  | .hbm, ⟨54, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== Mix.lean ====
abbrev S65536x1024 : Shape := ⟨2, ![65536, 1024]⟩
abbrev S65536x512 : Shape := ⟨2, ![65536, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S2x512x1024 : Shape := ⟨3, ![2, 512, 1024]⟩
abbrev S1024x512 : Shape := ⟨2, ![1024, 512]⟩
abbrev S1x512x1024 : Shape := ⟨3, ![1, 512, 1024]⟩
abbrev S512x1024 : Shape := ⟨2, ![512, 1024]⟩
abbrev S1024x1 : Shape := ⟨2, ![1024, 1]⟩
abbrev S1024x256 : Shape := ⟨2, ![1024, 256]⟩
abbrev S256x1024 : Shape := ⟨2, ![256, 1024]⟩

abbrev nBuf : Space → Nat
  | .hbm => 19
  | .vmem => 15
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x512, .bf16⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S1024, .f32⟩
  | .hbm, ⟨10, _⟩ => ⟨S1024x2816, .bf16⟩
  | .hbm, ⟨11, _⟩ => ⟨S1024x2816, .bf16⟩
  | .hbm, ⟨12, _⟩ => ⟨S2816x1024, .bf16⟩
  | .hbm, ⟨13, _⟩ => ⟨S1x1024, .f32⟩
  | .hbm, ⟨14, _⟩ => ⟨S1x1024, .f32⟩
  | .hbm, ⟨15, _⟩ => ⟨S2x512x1024, .f32⟩
  | .hbm, ⟨16, _⟩ => ⟨S2x512x1024, .bf16⟩
  | .hbm, ⟨17, _⟩ => ⟨S1x1024, .f32⟩
  | .hbm, ⟨18, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S2x512x1024, .bf16⟩
  | .local _ .vmem, ⟨7, _⟩ => ⟨S1x1024, .f32⟩
  | .local _ .vmem, ⟨8, _⟩ => ⟨S1x1024, .f32⟩
  | .local _ .vmem, ⟨9, _⟩ => ⟨S1024x2816, .bf16⟩
  | .local _ .vmem, ⟨10, _⟩ => ⟨S1024x2816, .bf16⟩
  | .local _ .vmem, ⟨11, _⟩ => ⟨S2816x1024, .bf16⟩
  | .local _ .vmem, ⟨12, _⟩ => ⟨S1x1024, .f32⟩
  | .local _ .vmem, ⟨13, _⟩ => ⟨S1024x1024, .f32⟩
  | .local _ .vmem, ⟨14, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MixRefIdeal.lean ====
abbrev S65536x1024 : Shape := ⟨2, ![65536, 1024]⟩
abbrev S65536x512 : Shape := ⟨2, ![65536, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x2816 : Shape := ⟨2, ![65536, 2816]⟩

abbrev nBuf : Space → Nat
  | .hbm => 80
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x512, .bf16⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S1024, .f32⟩
  | .hbm, ⟨10, _⟩ => ⟨S65536x512, .f32⟩
  | .hbm, ⟨11, _⟩ => ⟨S65536x512, .f32⟩
  | .hbm, ⟨12, _⟩ => ⟨S65536x1024, .f32⟩
  | .hbm, ⟨13, _⟩ => ⟨S65536x1024, .f32⟩
  | .hbm, ⟨14, _⟩ => ⟨S65536x1024, .f32⟩
  | .hbm, ⟨15, _⟩ => ⟨S_, .f32⟩
  | .hbm, ⟨16, _⟩ => ⟨S65536, .f32⟩
  | .hbm, ⟨17, _⟩ => ⟨S65536x1, .f32⟩
  | .hbm, ⟨18, _⟩ => ⟨S_, .f32⟩
  | .hbm, ⟨19, _⟩ => ⟨S65536x1, .f32⟩
  | .hbm, ⟨20, _⟩ => ⟨S65536x1, .f32⟩
  | .hbm, ⟨21, _⟩ => ⟨S_, .f32⟩
  | .hbm, ⟨22, _⟩ => ⟨S65536x1, .f32⟩
  | .hbm, ⟨23, _⟩ => ⟨S65536x1, .f32⟩
  | .hbm, ⟨24, _⟩ => ⟨S65536x1, .f32⟩
  | .hbm, ⟨25, _⟩ => ⟨S65536x1024, .f32⟩
  | .hbm, ⟨26, _⟩ => ⟨S65536x1024, .f32⟩
  | .hbm, ⟨27, _⟩ => ⟨S1x1024, .f32⟩
  | .hbm, ⟨28, _⟩ => ⟨S65536x1024, .f32⟩
  | .hbm, ⟨29, _⟩ => ⟨S65536x1024, .f32⟩
  | .hbm, ⟨30, _⟩ => ⟨S65536x1024, .f32⟩
  | .hbm, ⟨31, _⟩ => ⟨S65536x1024, .f32⟩
  | .hbm, ⟨32, _⟩ => ⟨S_, .f32⟩
  | .hbm, ⟨33, _⟩ => ⟨S65536, .f32⟩
  | .hbm, ⟨34, _⟩ => ⟨S65536x1, .f32⟩
  | .hbm, ⟨35, _⟩ => ⟨S_, .f32⟩
  | .hbm, ⟨36, _⟩ => ⟨S65536x1, .f32⟩
  | .hbm, ⟨37, _⟩ => ⟨S65536x1, .f32⟩
  | .hbm, ⟨38, _⟩ => ⟨S_, .f32⟩
  | .hbm, ⟨39, _⟩ => ⟨S65536x1, .f32⟩
  | .hbm, ⟨40, _⟩ => ⟨S65536x1, .f32⟩
  | .hbm, ⟨41, _⟩ => ⟨S65536x1, .f32⟩
  | .hbm, ⟨42, _⟩ => ⟨S65536x1024, .f32⟩
  | .hbm, ⟨43, _⟩ => ⟨S65536x1024, .f32⟩
  | .hbm, ⟨44, _⟩ => ⟨S1x1024, .f32⟩
  | .hbm, ⟨45, _⟩ => ⟨S65536x1024, .f32⟩
  | .hbm, ⟨46, _⟩ => ⟨S65536x1024, .f32⟩
  | .hbm, ⟨47, _⟩ => ⟨S65536x2816, .f32⟩
  | .hbm, ⟨48, _⟩ => ⟨S65536x2816, .f32⟩
  | .hbm, ⟨49, _⟩ => ⟨S65536x2816, .f32⟩
  | .hbm, ⟨50, _⟩ => ⟨S_, .f32⟩
  | .hbm, ⟨51, _⟩ => ⟨S65536x2816, .f32⟩
  | .hbm, ⟨52, _⟩ => ⟨S65536x2816, .f32⟩
  | .hbm, ⟨53, _⟩ => ⟨S_, .f32⟩
  | .hbm, ⟨54, _⟩ => ⟨S65536x2816, .f32⟩
  | .hbm, ⟨55, _⟩ => ⟨S65536x2816, .f32⟩
  | .hbm, ⟨56, _⟩ => ⟨S65536x2816, .f32⟩
  | .hbm, ⟨57, _⟩ => ⟨S65536x2816, .f32⟩
  | .hbm, ⟨58, _⟩ => ⟨S65536x2816, .f32⟩
  | .hbm, ⟨59, _⟩ => ⟨S65536x1024, .f32⟩
  | .hbm, ⟨60, _⟩ => ⟨S65536x1024, .f32⟩
  | .hbm, ⟨61, _⟩ => ⟨S_, .f32⟩
  | .hbm, ⟨62, _⟩ => ⟨S65536, .f32⟩
  | .hbm, ⟨63, _⟩ => ⟨S65536x1, .f32⟩
  | .hbm, ⟨64, _⟩ => ⟨S_, .f32⟩
  | .hbm, ⟨65, _⟩ => ⟨S65536x1, .f32⟩
  | .hbm, ⟨66, _⟩ => ⟨S65536x1, .f32⟩
  | .hbm, ⟨67, _⟩ => ⟨S_, .f32⟩
  | .hbm, ⟨68, _⟩ => ⟨S65536x1, .f32⟩
  | .hbm, ⟨69, _⟩ => ⟨S65536x1, .f32⟩
  | .hbm, ⟨70, _⟩ => ⟨S65536x1, .f32⟩
  | .hbm, ⟨71, _⟩ => ⟨S65536x1024, .f32⟩
  | .hbm, ⟨72, _⟩ => ⟨S65536x1024, .f32⟩
  | .hbm, ⟨73, _⟩ => ⟨S1x1024, .f32⟩
  | .hbm, ⟨74, _⟩ => ⟨S65536x1024, .f32⟩
  | .hbm, ⟨75, _⟩ => ⟨S65536x1024, .f32⟩
  | .hbm, ⟨76, _⟩ => ⟨S_, .f32⟩
  | .hbm, ⟨77, _⟩ => ⟨S65536x1024, .f32⟩
  | .hbm, ⟨78, _⟩ => ⟨S65536x1024, .f32⟩
  | .hbm, ⟨79, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_5 : Ref sig .tc := ⟨.hbm, 61, rfl⟩
abbrev main_v37 : Ref sig .tc := ⟨.hbm, 62, rfl⟩
abbrev main_v38 : Ref sig .tc := ⟨.hbm, 63, rfl⟩
abbrev main_cst_6 : Ref sig .tc := ⟨.hbm, 64, rfl⟩
abbrev main_v39 : Ref sig .tc := ⟨.hbm, 65, rfl⟩
abbrev main_v40 : Ref sig .tc := ⟨.hbm, 66, rfl⟩
abbrev main_cst_7 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_8 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩

abbrev nD : Nat := 1
abbrev τ : Topo := Topo.v7x

variable {F : FTy → Type} [FloatOps F]
-- ==== Inproj.lean ====
abbrev S65536x1024 : Shape := ⟨2, ![65536, 1024]⟩
abbrev S1024 : Shape := ⟨1, ![1024]⟩
abbrev S1024x2904 : Shape := ⟨2, ![1024, 2904]⟩
abbrev S16x256 : Shape := ⟨2, ![16, 256]⟩
abbrev S256 : Shape := ⟨1, ![256]⟩
abbrev S1024x512 : Shape := ⟨2, ![1024, 512]⟩
abbrev S1024x128 : Shape := ⟨2, ![1024, 128]⟩
abbrev S1024x64 : Shape := ⟨2, ![1024, 64]⟩
abbrev S1024x8 : Shape := ⟨2, ![1024, 8]⟩
abbrev S1024x256 : Shape := ⟨2, ![1024, 256]⟩
abbrev S1024x16 : Shape := ⟨2, ![1024, 16]⟩
abbrev S_ : Shape := ⟨0, ![]⟩
abbrev S1024x40 : Shape := ⟨2, ![1024, 40]⟩
abbrev S1024x1792 : Shape := ⟨2, ![1024, 1792]⟩
abbrev S1024x1168 : Shape := ⟨2, ![1024, 1168]⟩
abbrev S1168x1024 : Shape := ⟨2, ![1168, 1024]⟩
abbrev S128x256 : Shape := ⟨2, ![128, 256]⟩
abbrev S1 : Shape := ⟨1, ![1]⟩
abbrev S1x1024 : Shape := ⟨2, ![1, 1024]⟩
abbrev S1x256 : Shape := ⟨2, ![1, 256]⟩
abbrev S8x64x65536 : Shape := ⟨3, ![8, 64, 65536]⟩
abbrev S2x80x65536 : Shape := ⟨3, ![2, 80, 65536]⟩
abbrev S8x65536 : Shape := ⟨2, ![8, 65536]⟩
abbrev S2x65536x64 : Shape := ⟨3, ![2, 65536, 64]⟩
abbrev S65536x64 : Shape := ⟨2, ![65536, 64]⟩
abbrev S65536x512 : Shape := ⟨2, ![65536, 512]⟩
abbrev S65536x256 : Shape := ⟨2, ![65536, 256]⟩
abbrev S1024x1024 : Shape := ⟨2, ![1024, 1024]⟩
abbrev S8x64x1024 : Shape := ⟨3, ![8, 64, 1024]⟩
abbrev S2x80x1024 : Shape := ⟨3, ![2, 80, 1024]⟩
abbrev S8x1024 : Shape := ⟨2, ![8, 1024]⟩
abbrev S2x1024x64 : Shape := ⟨3, ![2, 1024, 64]⟩
abbrev S1024x1 : Shape := ⟨2, ![1024, 1]⟩
abbrev S64x1024 : Shape := ⟨2, ![64, 1024]⟩
abbrev S1x64x1024 : Shape := ⟨3, ![1, 64, 1024]⟩
abbrev S16x1024 : Shape := ⟨2, ![16, 1024]⟩
abbrev S80x1024 : Shape := ⟨2, ![80, 1024]⟩
abbrev S1x80x1024 : Shape := ⟨3, ![1, 80, 1024]⟩
abbrev S1x1024x64 : Shape := ⟨3, ![1, 1024, 64]⟩

abbrev nBuf : Space → Nat
  | .hbm => 53
  | .vmem => 27
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x2904, .f32⟩
  | .hbm, ⟨3, _⟩ => ⟨S16x256, .f32⟩
  | .hbm, ⟨4, _⟩ => ⟨S256, .f32⟩
  | .hbm, ⟨5, _⟩ => ⟨S1024x512, .f32⟩
  | .hbm, ⟨6, _⟩ => ⟨S1024x128, .f32⟩
  | .hbm, ⟨7, _⟩ => ⟨S1024x128, .f32⟩
  | .hbm, ⟨8, _⟩ => ⟨S1024x512, .f32⟩
  | .hbm, ⟨9, _⟩ => ⟨S1024x64, .f32⟩
  | .hbm, ⟨10, _⟩ => ⟨S1024x8, .f32⟩
  | .hbm, ⟨11, _⟩ => ⟨S1024x256, .f32⟩
  | .hbm, ⟨12, _⟩ => ⟨S1024x256, .f32⟩
  | .hbm, ⟨13, _⟩ => ⟨S1024x512, .f32⟩
  | .hbm, ⟨14, _⟩ => ⟨S1024x16, .f32⟩
  | .hbm, ⟨15, _⟩ => ⟨S1024x512, .f32⟩
  | .hbm, ⟨16, _⟩ => ⟨S_, .f32⟩
  | .hbm, ⟨17, _⟩ => ⟨S1024x8, .f32⟩
  | .hbm, ⟨18, _⟩ => ⟨S_, .f32⟩
  | .hbm, ⟨19, _⟩ => ⟨S1024x40, .f32⟩
  | .hbm, ⟨20, _⟩ => ⟨S_, .f32⟩
  | .hbm, ⟨21, _⟩ => ⟨S1024x256, .f32⟩
  | .hbm, ⟨22, _⟩ => ⟨S1024x256, .f32⟩
  | .hbm, ⟨23, _⟩ => ⟨S1024x1792, .f32⟩
  | .hbm, ⟨24, _⟩ => ⟨S_, .f32⟩
  | .hbm, ⟨25, _⟩ => ⟨S1024x512, .f32⟩
  | .hbm, ⟨26, _⟩ => ⟨S1024x512, .f32⟩
  | .hbm, ⟨27, _⟩ => ⟨S_, .f32⟩
  | .hbm, ⟨28, _⟩ => ⟨S1024x512, .f32⟩
  | .hbm, ⟨29, _⟩ => ⟨S1024x512, .f32⟩
  | .hbm, ⟨30, _⟩ => ⟨S_, .f32⟩
  | .hbm, ⟨31, _⟩ => ⟨S1024x8, .f32⟩
  | .hbm, ⟨32, _⟩ => ⟨S1024x1168, .f32⟩
  | .hbm, ⟨33, _⟩ => ⟨S1168x1024, .f32⟩
  | .hbm, ⟨34, _⟩ => ⟨S1024x1792, .bf16⟩
  | .hbm, ⟨35, _⟩ => ⟨S1168x1024, .bf16⟩
  | .hbm, ⟨36, _⟩ => ⟨S_, .f32⟩
  | .hbm, ⟨37, _⟩ => ⟨S128x256, .f32⟩
  | .hbm, ⟨38, _⟩ => ⟨S_, .i32⟩
  | .hbm, ⟨39, _⟩ => ⟨S1, .i32⟩
  | .hbm, ⟨40, _⟩ => ⟨S128x256, .f32⟩
  | .hbm, ⟨41, _⟩ => ⟨S1x1024, .f32⟩
  | .hbm, ⟨42, _⟩ => ⟨S1x256, .f32⟩
  | .hbm, ⟨43, _⟩ => ⟨S8x64x65536, .bf16⟩
  | .hbm, ⟨44, _⟩ => ⟨S8x64x65536, .bf16⟩
  | .hbm, ⟨45, _⟩ => ⟨S2x80x65536, .bf16⟩
  | .hbm, ⟨46, _⟩ => ⟨S8x65536, .f32⟩
  | .hbm, ⟨47, _⟩ => ⟨S2x65536x64, .bf16⟩
  | .hbm, ⟨48, _⟩ => ⟨S65536x64, .bf16⟩
  | .hbm, ⟨49, _⟩ => ⟨S65536x512, .f32⟩
  | .hbm, ⟨50, _⟩ => ⟨S65536x512, .bf16⟩
  | .hbm, ⟨51, _⟩ => ⟨S65536x512, .f32⟩
  | .hbm, ⟨52, _⟩ => ⟨S65536x256, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1792, .bf16⟩
  | .local _ .vmem, ⟨4, _⟩ => ⟨S1168x1024, .bf16⟩
  | .local _ .vmem, ⟨5, _⟩ => ⟨S128x256, .f32⟩
  | .local _ .vmem, ⟨6, _⟩ => ⟨S1x256, .f32⟩
  | .local _ .vmem, ⟨7, _⟩ => ⟨S8x64x1024, .bf16⟩
  | .local _ .vmem, ⟨8, _⟩ => ⟨S8x64x1024, .bf16⟩
  | .local _ .vmem, ⟨9, _⟩ => ⟨S8x64x1024, .bf16⟩
  | .local _ .vmem, ⟨10, _⟩ => ⟨S8x64x1024, .bf16⟩
  | .local _ .vmem, ⟨11, _⟩ => ⟨S2x80x1024, .bf16⟩
  | .local _ .vmem, ⟨12, _⟩ => ⟨S2x80x1024, .bf16⟩
  | .local _ .vmem, ⟨13, _⟩ => ⟨S8x1024, .f32⟩
  | .local _ .vmem, ⟨14, _⟩ => ⟨S8x1024, .f32⟩
  | .local _ .vmem, ⟨15, _⟩ => ⟨S2x1024x64, .bf16⟩
  | .local _ .vmem, ⟨16, _⟩ => ⟨S2x1024x64, .bf16⟩
  | .local _ .vmem, ⟨17, _⟩ => ⟨S1024x64, .bf16⟩
  | .local _ .vmem, ⟨18, _⟩ => ⟨S1024x64, .bf16⟩
  | .local _ .vmem, ⟨19, _⟩ => ⟨S1024x512, .f32⟩
  | .local _ .vmem, ⟨20, _⟩ => ⟨S1024x512, .f32⟩
  | .local _ .vmem, ⟨21, _⟩ => ⟨S1024x512, .bf16⟩
  | .local _ .vmem, ⟨22, _⟩ => ⟨S1024x512, .bf16⟩
  | .local _ .vmem, ⟨23, _⟩ => ⟨S1024x512, .f32⟩
  | .local _ .vmem, ⟨24, _⟩ => ⟨S1024x512, .f32⟩
  | .local _ .vmem, ⟨25, _⟩ => ⟨S1024x256, .f32⟩
  | .local _ .vmem, ⟨26, _⟩ => ⟨S1024x256, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_c : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30_0 : Ref sig .tc := ⟨.hbm, 43, rfl⟩
abbrev main_v30_1 : Ref sig .tc := ⟨.hbm, 44, rfl⟩
abbrev main_v30_2 : Ref sig .tc := ⟨.hbm, 45, rfl⟩
abbrev main_v30_3 : Ref sig .tc := ⟨.hbm, 46, rfl⟩
abbrev main_v30_4 : Ref sig .tc := ⟨.hbm, 47, rfl⟩
abbrev main_v30_5 : Ref sig .tc := ⟨.hbm, 48, rfl⟩
abbrev main_v30_6 : Ref sig .tc := ⟨.hbm, 49, rfl⟩
abbrev main_v30_7 : Ref sig .tc := ⟨.hbm, 50, rfl⟩
abbrev main_v30_8 : Ref sig .tc := ⟨.hbm, 51, rfl⟩
abbrev main_v30_9 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1792 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1168x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x64x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x64x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x80x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x1024x64 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x64 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== InprojRefIdeal.lean ====
abbrev S65536x1024 : Shape := ⟨2, ![65536, 1024]⟩
abbrev S1024 : Shape := ⟨1, ![1024]⟩
abbrev S1024x2904 : Shape := ⟨2, ![1024, 2904]⟩
abbrev S16x256 : Shape := ⟨2, ![16, 256]⟩
abbrev S256 : Shape := ⟨1, ![256]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x2904 : Shape := ⟨2, ![65536, 2904]⟩
abbrev S65536x512 : Shape := ⟨2, ![65536, 512]⟩
abbrev S65536x128 : Shape := ⟨2, ![65536, 128]⟩
abbrev S65536x64 : Shape := ⟨2, ![65536, 64]⟩
abbrev S65536x8 : Shape := ⟨2, ![65536, 8]⟩
abbrev S65536x256 : Shape := ⟨2, ![65536, 256]⟩
abbrev S65536x16 : Shape := ⟨2, ![65536, 16]⟩
abbrev S65536x8x64 : Shape := ⟨3, ![65536, 8, 64]⟩
abbrev S8x64x65536 : Shape := ⟨3, ![8, 64, 65536]⟩
abbrev S16 : Shape := ⟨1, ![16]⟩
abbrev S1x16x1 : Shape := ⟨3, ![1, 16, 1]⟩
abbrev S2x16x65536 : Shape := ⟨3, ![2, 16, 65536]⟩
abbrev S65536x2x64 : Shape := ⟨3, ![65536, 2, 64]⟩
abbrev S2x64x65536 : Shape := ⟨3, ![2, 64, 65536]⟩
abbrev S2x80x65536 : Shape := ⟨3, ![2, 80, 65536]⟩
abbrev S8x65536 : Shape := ⟨2, ![8, 65536]⟩
abbrev S2x65536x64 : Shape := ⟨3, ![2, 65536, 64]⟩
abbrev S1x256 : Shape := ⟨2, ![1, 256]⟩

abbrev nBuf : Space → Nat
  | .hbm => 92
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x2904, .f32⟩
  | .hbm, ⟨3, _⟩ => ⟨S16x256, .f32⟩
  | .hbm, ⟨4, _⟩ => ⟨S256, .f32⟩
  | .hbm, ⟨5, _⟩ => ⟨S65536x1024, .f32⟩
  | .hbm, ⟨6, _⟩ => ⟨S_, .f32⟩
  | .hbm, ⟨7, _⟩ => ⟨S65536, .f32⟩
  | .hbm, ⟨8, _⟩ => ⟨S65536x1, .f32⟩
  | .hbm, ⟨9, _⟩ => ⟨S_, .f32⟩
  | .hbm, ⟨10, _⟩ => ⟨S65536x1, .f32⟩
  | .hbm, ⟨11, _⟩ => ⟨S65536x1, .f32⟩
  | .hbm, ⟨12, _⟩ => ⟨S_, .f32⟩
  | .hbm, ⟨13, _⟩ => ⟨S65536x1, .f32⟩
  | .hbm, ⟨14, _⟩ => ⟨S65536x1, .f32⟩
  | .hbm, ⟨15, _⟩ => ⟨S65536x1, .f32⟩
  | .hbm, ⟨16, _⟩ => ⟨S65536x1024, .f32⟩
  | .hbm, ⟨17, _⟩ => ⟨S65536x1024, .f32⟩
  | .hbm, ⟨18, _⟩ => ⟨S1x1024, .f32⟩
  | .hbm, ⟨19, _⟩ => ⟨S65536x1024, .f32⟩
  | .hbm, ⟨20, _⟩ => ⟨S65536x1024, .f32⟩
  | .hbm, ⟨21, _⟩ => ⟨S65536x2904, .f32⟩
  | .hbm, ⟨22, _⟩ => ⟨S65536x512, .f32⟩
  | .hbm, ⟨23, _⟩ => ⟨S65536x128, .f32⟩
  | .hbm, ⟨24, _⟩ => ⟨S65536x128, .f32⟩
  | .hbm, ⟨25, _⟩ => ⟨S65536x512, .f32⟩
  | .hbm, ⟨26, _⟩ => ⟨S65536x64, .f32⟩
  | .hbm, ⟨27, _⟩ => ⟨S65536x8, .f32⟩
  | .hbm, ⟨28, _⟩ => ⟨S65536x256, .f32⟩
  | .hbm, ⟨29, _⟩ => ⟨S65536x256, .f32⟩
  | .hbm, ⟨30, _⟩ => ⟨S65536x512, .f32⟩
  | .hbm, ⟨31, _⟩ => ⟨S65536x16, .f32⟩
  | .hbm, ⟨32, _⟩ => ⟨S65536x512, .f32⟩
  | .hbm, ⟨33, _⟩ => ⟨S_, .f32⟩
  | .hbm, ⟨34, _⟩ => ⟨S65536x512, .f32⟩
  | .hbm, ⟨35, _⟩ => ⟨S65536x512, .f32⟩
  | .hbm, ⟨36, _⟩ => ⟨S65536x8x64, .f32⟩
  | .hbm, ⟨37, _⟩ => ⟨S8x64x65536, .f32⟩
  | .hbm, ⟨38, _⟩ => ⟨S_, .f32⟩
  | .hbm, ⟨39, _⟩ => ⟨S65536x512, .f32⟩
  | .hbm, ⟨40, _⟩ => ⟨S65536x512, .f32⟩
  | .hbm, ⟨41, _⟩ => ⟨S65536x8x64, .f32⟩
  | .hbm, ⟨42, _⟩ => ⟨S8x64x65536, .f32⟩
  | .hbm, ⟨43, _⟩ => ⟨S16, .i32⟩
  | .hbm, ⟨44, _⟩ => ⟨S1x16x1, .i32⟩
  | .hbm, ⟨45, _⟩ => ⟨S_, .i32⟩
  | .hbm, ⟨46, _⟩ => ⟨S1x16x1, .i32⟩
  | .hbm, ⟨47, _⟩ => ⟨S1x16x1, .i1⟩
  | .hbm, ⟨48, _⟩ => ⟨S2x16x65536, .i1⟩
  | .hbm, ⟨49, _⟩ => ⟨S2x16x65536, .f32⟩
  | .hbm, ⟨50, _⟩ => ⟨S65536x2x64, .f32⟩
  | .hbm, ⟨51, _⟩ => ⟨S2x64x65536, .f32⟩
  | .hbm, ⟨52, _⟩ => ⟨S2x80x65536, .f32⟩
  | .hbm, ⟨53, _⟩ => ⟨S_, .f32⟩
  | .hbm, ⟨54, _⟩ => ⟨S65536x8, .f32⟩
  | .hbm, ⟨55, _⟩ => ⟨S65536x8, .f32⟩
  | .hbm, ⟨56, _⟩ => ⟨S8x65536, .f32⟩
  | .hbm, ⟨57, _⟩ => ⟨S65536x2x64, .f32⟩
  | .hbm, ⟨58, _⟩ => ⟨S2x65536x64, .f32⟩
  | .hbm, ⟨59, _⟩ => ⟨S65536x256, .f32⟩
  | .hbm, ⟨60, _⟩ => ⟨S1x256, .f32⟩
  | .hbm, ⟨61, _⟩ => ⟨S65536x256, .f32⟩
  | .hbm, ⟨62, _⟩ => ⟨S65536x256, .f32⟩
  | .hbm, ⟨63, _⟩ => ⟨S65536x256, .f32⟩
  | .hbm, ⟨64, _⟩ => ⟨S_, .f32⟩
  | .hbm, ⟨65, _⟩ => ⟨S65536x256, .f32⟩
  | .hbm, ⟨66, _⟩ => ⟨S65536x256, .f32⟩
  | .hbm, ⟨67, _⟩ => ⟨S65536x256, .f32⟩
  | .hbm, ⟨68, _⟩ => ⟨S65536x256, .f32⟩
  | .hbm, ⟨69, _⟩ => ⟨S65536x256, .i1⟩
  | .hbm, ⟨70, _⟩ => ⟨S65536x256, .f32⟩
  | .hbm, ⟨71, _⟩ => ⟨S65536x256, .f32⟩
  | .hbm, ⟨72, _⟩ => ⟨S65536x256, .f32⟩
  | .hbm, ⟨73, _⟩ => ⟨S65536x256, .f32⟩
  | .hbm, ⟨74, _⟩ => ⟨S65536x256, .f32⟩
  | .hbm, ⟨75, _⟩ => ⟨S65536x256, .f32⟩
  | .hbm, ⟨76, _⟩ => ⟨S65536x256, .f32⟩
  | .hbm, ⟨77, _⟩ => ⟨S65536x256, .f32⟩
  | .hbm, ⟨78, _⟩ => ⟨S65536x256, .f32⟩
  | .hbm, ⟨79, _⟩ => ⟨S_, .f32⟩
  | .hbm, ⟨80, _⟩ => ⟨S65536x256, .f32⟩
  | .hbm, ⟨81, _⟩ => ⟨S65536x256, .f32⟩
  | .hbm, ⟨82, _⟩ => ⟨S8x64x65536, .bf16⟩
  | .hbm, ⟨83, _⟩ => ⟨S8x64x65536, .bf16⟩
  | .hbm, ⟨84, _⟩ => ⟨S2x80x65536, .bf16⟩
  | .hbm, ⟨85, _⟩ => ⟨S2x65536x64, .bf16⟩
  | .hbm, ⟨86, _⟩ => ⟨S65536x64, .bf16⟩
  | .hbm, ⟨87, _⟩ => ⟨S_, .f32⟩
  | .hbm, ⟨88, _⟩ => ⟨S65536x256, .f32⟩
  | .hbm, ⟨89, _⟩ => ⟨S65536x256, .f32⟩
  | .hbm, ⟨90, _⟩ => ⟨S65536x512, .f32⟩
  | .hbm, ⟨91, _⟩ => ⟨S65536x512, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_4 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_call0_v0 : Ref sig .tc := ⟨.hbm, 63, rfl⟩
abbrev main_call0_call0_cst : Ref sig .tc := ⟨.hbm, 64, rfl⟩
abbrev main_call0_call0_v0 : Ref sig .tc := ⟨.hbm, 65, rfl⟩
abbrev main_call0_call0_v1 : Ref sig .tc := ⟨.hbm, 66, rfl⟩
abbrev main_call0_call0_v2 : Ref sig .tc := ⟨.hbm, 67, rfl⟩
abbrev main_call0_call0_v3 : Ref sig .tc := ⟨.hbm, 68, rfl⟩
abbrev main_call0_call0_v4 : Ref sig .tc := ⟨.hbm, 69, rfl⟩
abbrev main_call0_call0_v5 : Ref sig .tc := ⟨.hbm, 70, rfl⟩
abbrev main_call0_call0_v6 : Ref sig .tc := ⟨.hbm, 71, rfl⟩
abbrev main_call0_call0_v7 : Ref sig .tc := ⟨.hbm, 72, rfl⟩
abbrev main_call0_call0_v8 : Ref sig .tc := ⟨.hbm, 73, rfl⟩
abbrev main_call0_call0_v9 : Ref sig .tc := ⟨.hbm, 74, rfl⟩
abbrev main_call0_call0_v10 : Ref sig .tc := ⟨.hbm, 75, rfl⟩
abbrev main_call0_call0_v11 : Ref sig .tc := ⟨.hbm, 76, rfl⟩
abbrev main_call0_v1 : Ref sig .tc := ⟨.hbm, 77, rfl⟩
abbrev main_v51 : Ref sig .tc := ⟨.hbm, 78, rfl⟩
abbrev main_cst_5 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_6 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩

abbrev nD : Nat := 1
abbrev τ : Topo := Topo.v7x

variable {F : FTy → Type} [FloatOps F]
-- ==== Proof.GlaRef.lean ====
/-
  The reference of gated linear attention: what its host loop leaves. No operation writes an argument, so the arguments
  end as they began; the loop carries the state, and stores the state before every chunk.
-/
module

public import proofs.«01_k».proof.Defs
public import proofs.«01_k».proof.Proof.Gen.GlaRefIdeal.Run
public import Idealize.ShloMosaic.Lib.Claim

@[expose] public section

set_option maxRecDepth 16384

noncomputable section

open Idealize.ShloMosaic Idealize.ShloMosaic.TcCoe Idealize.SL.Sem
open Idealize.ShloMosaic.StableHlo

namespace Cert.GlaRefIdeal.Loop

open Cert.GlaRefIdeal Cert.GlaRefIdeal.Gen Cert.GlaRefIdeal.Value

variable {F : FTy → Type} [FloatOps F]

/-- The buffers the operations after the loop write. -/
abbrev post_W : List (Ref sig .tc) := [main_v35, main_v36, main_v37, main_v38, main_v39, main_v40, main_cst_3, main_v41, main_v42, main_cst_4, main_v43, main_v44, main_cst_5, main_v45, main_v46, main_v47, main_v48, main_v49, main_v50, main_v51, main_v52, main_v53]
theorem hostOps0_7_writes : (hostOps0_7 : List (HloOp τ sig (Elt F))).Forall fun op => op.writes ⊆ (post_W.map (Proc.devRef (τ := τ) .tc)).toFinset :=
  StableHlo.forall_writes_sub_of_map rfl
abbrev post1_W : List (Ref sig .tc) := [main_call6_v0, main_call6_v1, main_call6_cst, main_call6_v2, main_call6_v3, main_call6_cst_0, main_call6_v4, main_call6_v5, main_v54]
theorem hostOps0_8_writes : (hostOps0_8 : List (HloOp τ sig (Elt F))).Forall fun op => op.writes ⊆ (post1_W.map (Proc.devRef (τ := τ) .tc)).toFinset :=
  StableHlo.forall_writes_sub_of_map rfl
abbrev post2_W : List (Ref sig .tc) := [main_v55, main_v56]
theorem hostOps0_9_writes : (hostOps0_9 : List (HloOp τ sig (Elt F))).Forall fun op => op.writes ⊆ (post2_W.map (Proc.devRef (τ := τ) .tc)).toFinset :=
  StableHlo.forall_writes_sub_of_map rfl

/-- Every buffer written inside one trip of the loop. -/
abbrev trip_W : List (Ref sig .tc) := condOps_W ++ while0Ops0_W ++ while0Ops0_1_W ++ while0Ops0_2_W ++ while0Ops0_3_W ++ while0Ops0_4_W
/-- Every buffer written before the loop. -/
abbrev pre_W : List (Ref sig .tc) := hostOps0_W ++ hostOps0_1_W ++ hostOps0_2_W ++ hostOps0_3_W ++ hostOps0_4_W ++ hostOps0_5_W ++ hostOps0_6_W

/-- One trip leaves a buffer it does not write. -/
theorem trip_keep (r : Ref sig .tc) (h : r ∉ trip_W) (X : Valuation τ sig (Elt F)) :
    afterL bodyI (after condOps X) (Proc.devRef .tc r) = X (Proc.devRef .tc r) := by
  simp only [trip_W, List.mem_append, not_or] at h
  obtain ⟨⟨⟨⟨⟨h0, h1⟩, h2⟩, h3⟩, h4⟩, h5⟩ := h
  simp only [bodyI, afterL_cons, afterL_nil]
  rw [after_of_writes_sub _ _ while0Ops0_4_writes h5, after_of_writes_sub _ _ while0Ops0_3_writes h4,
    after_of_writes_sub _ _ while0Ops0_2_writes h3, after_of_writes_sub _ _ while0Ops0_1_writes h2,
    after_of_writes_sub _ _ while0Ops0_writes h1, after_of_writes_sub _ _ condOps_writes h0]

/-- So do any number of trips. -/
theorem atK_keep (m : (ℓ : Loc nD τ sig) → Buf (Elt F) ℓ) (c : Dev nD) (r : Ref sig .tc) (h : r ∉ trip_W) :
    ∀ k, atK m k c (Proc.devRef .tc r) = entryContents preI m c (Proc.devRef .tc r)
  | 0 => rfl
  | k + 1 => (trip_keep r h (atK m k c)).trans (atK_keep m c r h k)

/-- The operations before the loop leave a buffer they do not write. -/
theorem entry_keep (m : (ℓ : Loc nD τ sig) → Buf (Elt F) ℓ) (c : Dev nD) (r : Ref sig .tc) (h : r ∉ pre_W) :
    entryContents preI m c (Proc.devRef .tc r) = launchContents m c (Proc.devRef .tc r) := by
  simp only [pre_W, List.mem_append, not_or] at h
  obtain ⟨⟨⟨⟨⟨⟨h0, h1⟩, h2⟩, h3⟩, h4⟩, h5⟩, h6⟩ := h
  simp only [preI, afterL_cons, afterL_nil]
  rw [after_of_writes_sub _ _ hostOps0_6_writes h6, after_of_writes_sub _ _ hostOps0_5_writes h5,
    after_of_writes_sub _ _ hostOps0_4_writes h4, after_of_writes_sub _ _ hostOps0_3_writes h3,
    after_of_writes_sub _ _ hostOps0_2_writes h2, after_of_writes_sub _ _ hostOps0_1_writes h1,
    after_of_writes_sub _ _ hostOps0_writes h0]

/-- After the loop, a buffer that no trip writes holds what it held before. -/
theorem loop_keep (m : (ℓ : Loc nD τ sig) → Buf (Elt F) ℓ) (c : Dev nD) (r : Ref sig .tc) (h : r ∉ trip_W) :
    after condOps (atK m 128 c) (Proc.devRef .tc r) = entryContents preI m c (Proc.devRef .tc r) := by
  have h0 : r ∉ condOps_W := fun hm => h (by simp only [trip_W, List.mem_append]; exact Or.inl (Or.inl (Or.inl (Or.inl (Or.inl hm)))))
  rw [after_of_writes_sub _ _ condOps_writes h0]
  exact atK_keep m c r h 128

/-- An argument ends as it began. -/
theorem arg_keep (m : (ℓ : Loc nD τ sig) → Buf (Elt F) ℓ) (c : Dev nD) (r : Ref sig .tc)
    (h : r ∉ pre_W) (ht : r ∉ trip_W) (h7 : r ∉ post_W) (h8 : r ∉ post1_W) (h9 : r ∉ post2_W) :
    finalContents condOps preI bodyI postI 128 m c (Proc.devRef .tc r) = launchContents m c (Proc.devRef .tc r) := by
  show afterL postI (after condOps (atK m 128 c)) (Proc.devRef .tc r) = _
  simp only [postI, afterL_cons, afterL_nil]
  rw [after_of_writes_sub _ _ hostOps0_9_writes h9, after_of_writes_sub _ _ hostOps0_8_writes h8,
    after_of_writes_sub _ _ hostOps0_7_writes h7, loop_keep m c r ht, entry_keep m c r h]

end Cert.GlaRefIdeal.Loop

namespace Cert.Proof.Gla

open Cert.GlaRefIdeal Cert.GlaRefIdeal.Gen Cert.GlaRefIdeal.Value Cert.GlaRefIdeal.Loop

/-- The reference runs and leaves its arguments. -/
theorem frame_r : Cert.quiescent_GlaRefIdeal := fun m ρ _ =>
  (θ_run Cert.GlaRefIdeal.defs _ _).mono
    (fun r h => ⟨fun c => ⟨(h c main_arg0 rfl).trans (arg_keep m c _ (by decide) (by decide) (by decide) (by decide) (by decide)),
      (h c main_arg1 rfl).trans (arg_keep m c _ (by decide) (by decide) (by decide) (by decide) (by decide)),
      (h c main_arg2 rfl).trans (arg_keep m c _ (by decide) (by decide) (by decide) (by decide) (by decide)),
      (h c main_arg3 rfl).trans (arg_keep m c _ (by decide) (by decide) (by decide) (by decide) (by decide)),
      (h c main_arg4 rfl).trans (arg_keep m c _ (by decide) (by decide) (by decide) (by decide) (by decide))⟩,
      Idealize.ShloMosaic.sem_eq_zero_of_no_sems (by decide) r.2⟩)
    (Cert.GlaRefIdeal.Value.run_fold (F := Ideal) m ρ)

end Cert.Proof.Gla

end
-- ==== Proof.FfnBlock.lean ====
/-
  The feed-forward half step of one row, and what one block of the feed-forward kernel holds.

  `rms`, `act`, `down`, `ffn` write the half step of ONE row over the extended reals. The kernel computes the hidden
  layer in eleven tiles of 256 columns and adds their contributions; over the extended reals that is the one product
  over all 2816 columns, because addition there is commutative and associative.
-/
module

public import proofs.«01_k».proof.Proof.Gen.FfnIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

/-! ## One row -/

namespace Cert.Layer

/-- An entry of a row over the root of the row's mean square (plus the small constant). -/
def rms (v : Fin 1024 → EReal) (i : Fin 1024) : EReal :=
  v i * Ideal.rsqrt (Ideal.div (∑ k : Fin 1024, v k * v k) (Ideal.ofBits .f32 0x44800000#32) + Ideal.ofBits .f32 0x358637BD#32)

/-- The gate: `g · sigmoid(g) · u`. -/
def act (g u : EReal) : EReal := g * Ideal.logistic g * u

/-- One hidden unit of a normalised row `h`. -/
def hid (h : Fin 1024 → EReal) (wg wu : Fin 1024 → Fin 2816 → EReal) (k : Fin 2816) : EReal :=
  act (∑ i : Fin 1024, h i * wg i k) (∑ i : Fin 1024, h i * wu i k)

/-- The feed-forward layer of a normalised row. -/
def down (h : Fin 1024 → EReal) (wg wu : Fin 1024 → Fin 2816 → EReal) (wd : Fin 2816 → Fin 1024 → EReal) (l : Fin 1024) : EReal :=
  ∑ k : Fin 2816, hid h wg wu k * wd k l

/-- The half step of one row: the row plus half the normalised feed-forward layer of the normalised row. -/
def ffn (x g : Fin 1024 → EReal) (wg wu : Fin 1024 → Fin 2816 → EReal) (wd : Fin 2816 → Fin 1024 → EReal)
    (g' : Fin 1024 → EReal) (l : Fin 1024) : EReal :=
  x l + Ideal.ofBits .f32 0x3F000000#32 * (rms (down (fun i => rms x i * g i) wg wu wd) l * g' l)

/-- Eleven tiles of 256 columns, added first to last, are the one sum over 2816 columns. -/
theorem tiles (f : Fin 2816 → EReal) :
    (∑ t : Fin 256, f ⟨t, by omega⟩) + (∑ t : Fin 256, f ⟨256 + t, by omega⟩) + (∑ t : Fin 256, f ⟨512 + t, by omega⟩)
      + (∑ t : Fin 256, f ⟨768 + t, by omega⟩) + (∑ t : Fin 256, f ⟨1024 + t, by omega⟩) + (∑ t : Fin 256, f ⟨1280 + t, by omega⟩)
      + (∑ t : Fin 256, f ⟨1536 + t, by omega⟩) + (∑ t : Fin 256, f ⟨1792 + t, by omega⟩) + (∑ t : Fin 256, f ⟨2048 + t, by omega⟩)
      + (∑ t : Fin 256, f ⟨2304 + t, by omega⟩) + (∑ t : Fin 256, f ⟨2560 + t, by omega⟩) = ∑ k, f k := by
  have e : ∀ F : Fin 11 → EReal, ∑ j, F j = F 0 + F 1 + F 2 + F 3 + F 4 + F 5 + F 6 + F 7 + F 8 + F 9 + F 10 := by
    intro F
    simp only [Fin.sum_univ_castSucc, Finset.univ_eq_empty, Finset.sum_empty, zero_add]
    rfl
  rw [Fin.sum_univ_tiles 11 256 rfl f, e]
  have z : ∀ (t : Fin 256) (h : (t : ℕ) < 2816) (h' : ((0 : Fin 11) : ℕ) * 256 + t < 2816), f ⟨t, h⟩ = f ⟨((0 : Fin 11) : ℕ) * 256 + t, h'⟩ :=
    fun t _ _ => congrArg f (Fin.ext (by simp))
  rw [Finset.sum_congr rfl fun t _ => z t _ _]
  rfl

end Cert.Layer

/-! ## One block of the kernel -/

namespace Cert.FfnIdeal.Block

open Cert.FfnIdeal Cert.FfnIdeal.Gen Cert.Layer

/-- The product of the normalised rows with one tile of columns. -/
def proj (h : FVec Ideal S1024x1024 .bf16) (w : FVec Ideal S1024x256 .bf16) : FVec Ideal S1024x256 .f32 :=
  matmul (F := Ideal) dot_S1024x1024_S1024x256_S1024x256_1_0_0_1_n_n none h (shapeCast S1024x256 w shapeCasts_S1024x256_S1024x256)
    (constant (F := Ideal) S1024x256 .f32 0x00000000#32)

/-- The contribution of one tile of hidden units. -/
def tile (h : FVec Ideal S1024x1024 .bf16) (wg wu : FVec Ideal S1024x256 .bf16) (wd : FVec Ideal S256x1024 .bf16) :
    FVec Ideal S1024x1024 .f32 :=
  matmul (F := Ideal) dot_S1024x256_S256x1024_S1024x1024_1_0_0_1_n_n none
    (truncf (F := Ideal) .bf16 (mulf (mulf (proj h wg) (logistic (F := Ideal) (proj h wg))) (proj h wu)) bitsLt_bf16_f32)
    (shapeCast S256x1024 wd shapeCasts_S256x1024_S256x1024) (constant (F := Ideal) S1024x1024 .f32 0x00000000#32)

theorem proj_at (h : FVec Ideal S1024x1024 .bf16) (w : FVec Ideal S1024x256 .bf16) (r : Fin 1024) (k : Fin 256) :
    proj h w (ix2 r k) = ∑ i : Fin 1024, h (ix2 r i) * w (ix2 i k) := by
  pointwise [proj]

theorem tile_at (h : FVec Ideal S1024x1024 .bf16) (wg wu : FVec Ideal S1024x256 .bf16) (wd : FVec Ideal S256x1024 .bf16)
    (r l : Fin 1024) : tile h wg wu wd (ix2 r l)
      = ∑ t : Fin 256, act (∑ i : Fin 1024, h (ix2 r i) * wg (ix2 i t)) (∑ i : Fin 1024, h (ix2 r i) * wu (ix2 i t)) * wd (ix2 t l) := by
  pointwise [tile]
  refine Finset.sum_congr rfl fun t _ => ?_
  rw [← proj_at, ← proj_at]
  rfl

/-- The eleven contributions of `h`, added first to last. -/
def acc (h : FVec Ideal S1024x1024 .bf16) (wg wu : FVec Ideal S1024x2816 .bf16) (wd : FVec Ideal S2816x1024 .bf16) :
    FVec Ideal S1024x1024 .f32 :=
  addf (addf (addf (addf (addf (addf (addf (addf (addf (addf (tile h (View.ld (Val := Elt Ideal) (e' := .bf16) wg r0_2) (View.ld (Val := Elt Ideal) (e' := .bf16) wu r0_2) (View.ld (Val := Elt Ideal) (e' := .bf16) wd r0_4))
    (tile h (View.ld (Val := Elt Ideal) (e' := .bf16) wg r0_3) (View.ld (Val := Elt Ideal) (e' := .bf16) wu r0_3) (View.ld (Val := Elt Ideal) (e' := .bf16) wd r0_6)))
    (tile h (View.ld (Val := Elt Ideal) (e' := .bf16) wg r0_5) (View.ld (Val := Elt Ideal) (e' := .bf16) wu r0_5) (View.ld (Val := Elt Ideal) (e' := .bf16) wd r0_8)))
    (tile h (View.ld (Val := Elt Ideal) (e' := .bf16) wg r0_7) (View.ld (Val := Elt Ideal) (e' := .bf16) wu r0_7) (View.ld (Val := Elt Ideal) (e' := .bf16) wd r0_10)))
    (tile h (View.ld (Val := Elt Ideal) (e' := .bf16) wg r0_9) (View.ld (Val := Elt Ideal) (e' := .bf16) wu r0_9) (View.ld (Val := Elt Ideal) (e' := .bf16) wd r0_12)))
    (tile h (View.ld (Val := Elt Ideal) (e' := .bf16) wg r0_11) (View.ld (Val := Elt Ideal) (e' := .bf16) wu r0_11) (View.ld (Val := Elt Ideal) (e' := .bf16) wd r0_14)))
    (tile h (View.ld (Val := Elt Ideal) (e' := .bf16) wg r0_13) (View.ld (Val := Elt Ideal) (e' := .bf16) wu r0_13) (View.ld (Val := Elt Ideal) (e' := .bf16) wd r0_16)))
    (tile h (View.ld (Val := Elt Ideal) (e' := .bf16) wg r0_15) (View.ld (Val := Elt Ideal) (e' := .bf16) wu r0_15) (View.ld (Val := Elt Ideal) (e' := .bf16) wd r0_18)))
    (tile h (View.ld (Val := Elt Ideal) (e' := .bf16) wg r0_17) (View.ld (Val := Elt Ideal) (e' := .bf16) wu r0_17) (View.ld (Val := Elt Ideal) (e' := .bf16) wd r0_20)))
    (tile h (View.ld (Val := Elt Ideal) (e' := .bf16) wg r0_19) (View.ld (Val := Elt Ideal) (e' := .bf16) wu r0_19) (View.ld (Val := Elt Ideal) (e' := .bf16) wd r0_22)))
    (tile h (View.ld (Val := Elt Ideal) (e' := .bf16) wg r0_21) (View.ld (Val := Elt Ideal) (e' := .bf16) wu r0_21) (View.ld (Val := Elt Ideal) (e' := .bf16) wd r0_23))

theorem acc_at (h : FVec Ideal S1024x1024 .bf16) (wg wu : FVec Ideal S1024x2816 .bf16) (wd : FVec Ideal S2816x1024 .bf16)
    (r l : Fin 1024) : acc h wg wu wd (ix2 r l)
      = down (fun i => h (ix2 r i)) (fun i k => wg (ix2 i k)) (fun i k => wu (ix2 i k)) (fun k l => wd (ix2 k l)) l := by
  unfold down
  rw [← tiles]
  pointwise [acc]
  simp only [tile_at]
  pointwise
  rfl

/-- A row of a block times the reciprocal root of its mean square, times a gain. -/
def norm (x : FVec Ideal S1024x1024 .f32) (g : FVec Ideal S1x1024 .f32) : FVec Ideal S1024x1024 .f32 :=
  mulf (mulf x (broadcastTo S1024x1024 (rsqrt (F := Ideal) (addf (divf (shapeCast S1024x1
      (multiReduction (F := Ideal) .add [1] S1024 (mulf x x) 0x00000000#32 reduces_S1024x1024_S1024 (.inl rfl) rfl) shapeCasts_S1024_S1024x1)
      (broadcast S1024x1 (Scalar.ofBits (F := Ideal) .f32 0x44800000#32))) (broadcast S1024x1 (Scalar.ofBits (F := Ideal) .f32 0x358637BD#32))))
      broadcasts_S1024x1_S1024x1024))
    (broadcastTo S1024x1024 (shapeCast S1x1024 g shapeCasts_S1x1024_S1x1024) broadcasts_S1x1024_S1024x1024)

theorem norm_at (x : FVec Ideal S1024x1024 .f32) (g : FVec Ideal S1x1024 .f32) (r l : Fin 1024) :
    norm x g (ix2 r l) = rms (fun k => x (ix2 r k)) l * g (ix2 0 l) := by
  pointwise [norm, rms]

/-- The half step of a block of rows. -/
def step (x : FVec Ideal S1024x1024 .f32) (g : FVec Ideal S1x1024 .f32) (wg wu : FVec Ideal S1024x2816 .bf16)
    (wd : FVec Ideal S2816x1024 .bf16) (g' : FVec Ideal S1x1024 .f32) : FVec Ideal S1024x1024 .f32 :=
  addf x (mulf (broadcast S1024x1024 (Scalar.ofBits (F := Ideal) .f32 0x3F000000#32))
    (norm (acc (truncf (F := Ideal) .bf16 (norm x g) bitsLt_bf16_f32) wg wu wd) g'))

theorem step_at (x : FVec Ideal S1024x1024 .f32) (g : FVec Ideal S1x1024 .f32) (wg wu : FVec Ideal S1024x2816 .bf16)
    (wd : FVec Ideal S2816x1024 .bf16) (g' : FVec Ideal S1x1024 .f32) (r l : Fin 1024) :
    step x g wg wu wd g' (ix2 r l) = ffn (fun k => x (ix2 r k)) (fun k => g (ix2 0 k)) (fun i k => wg (ix2 i k))
      (fun i k => wu (ix2 i k)) (fun k l => wd (ix2 k l)) (fun k => g' (ix2 0 k)) l := by
  pointwise [step, ffn]
  rw [norm_at]
  simp only [acc_at]
  have e : ∀ i, (truncf (F := Ideal) .bf16 (norm x g) bitsLt_bf16_f32) (ix2 r i) = rms (fun k => x (ix2 r k)) i * g (ix2 0 i) :=
    fun i => norm_at x g r i
  simp only [e]

theorem hz : (![0, 0] : Fin 2 → Nat) = fun _ => 0 := funext fun a => by fin_cases a <;> rfl

/-- What the body leaves in the output's buffer is the half step of the block of rows. -/
theorem out_eq (x0 : FVec Ideal S1024x1024 .f32) (x1 : FVec Ideal S1x1024 .f32) (x2 x3 : FVec Ideal S1024x2816 .bf16)
    (x4 : FVec Ideal S2816x1024 .bf16) (x5 : FVec Ideal S1x1024 .f32) :
    out0_6 (F := Ideal) x0 x1 x2 x3 x4 x5 = step x0 x1 x2 x3 x4 x5 := by
  have h0 : View.ld (Val := Elt Ideal) (e' := .f32) x0 r0_0 = x0 := View.ld_unit_zero (S := S1024x1024) hz _ _
  have h1 : View.ld (Val := Elt Ideal) (e' := .f32) x1 r0_1 = x1 := View.ld_unit_zero (S := S1x1024) hz _ _
  have h5 : View.ld (Val := Elt Ideal) (e' := .f32) x5 r0_1 = x5 := View.ld_unit_zero (S := S1x1024) hz _ _
  unfold_out out0_6
  rw [View.canon_unit_zero hz, h0, h1, h5]
  rfl

end Cert.FfnIdeal.Block

end
-- ==== Proof.FfnValue.lean ====
/-
  The feed-forward call: the kernel's result array and the reference's are the same function of the arguments, row by row.
-/
module

public import proofs.«01_k».proof.Defs
public import proofs.«01_k».proof.Proof.FfnBlock
public import proofs.«01_k».proof.Proof.Gen.FfnIdeal.Value
public import proofs.«01_k».proof.Proof.Gen.FfnRefIdeal.Run
public import Idealize.ShloMosaic.Lib.Claim

@[expose] public section

set_option maxRecDepth 16384

noncomputable section

open Idealize.ShloMosaic Idealize.ShloMosaic.TcCoe Idealize.SL.Sem
open Idealize.ShloMosaic.Pipeline (Dat)

/-! ## The reference -/

namespace Cert.FfnRefIdeal.Rows

open Cert.FfnRefIdeal Cert.FfnRefIdeal.Gen Cert.Layer

/-- The rows of an array times the reciprocal root of their mean square, times a gain, on the host. -/
def norm (x : FVec Ideal S65536x1024 .f32) (g : FVec Ideal S1024 .f32) : FVec Ideal S65536x1024 .f32 :=
  mulf (mulf x (broadcastInDim S65536x1024 ![0, 1] bcast_S65536x1_S65536x1024_0_1 (Host.rsqrt (F := Ideal) (addf (Host.divf
      (broadcastInDim S65536x1 ![0] bcast_S65536_S65536x1_0 (Host.reduceAdd (F := Ideal) (mulf x x) (constant S_ .f32 0x00000000#32)
        reducesTo_S65536x1024_S65536_d1 h_S_))
      (broadcastInDim S65536x1 ![] bcast_S_S65536x1 (constant (F := Ideal) S_ .f32 0x44800000#32)))
      (broadcastInDim S65536x1 ![] bcast_S_S65536x1 (constant (F := Ideal) S_ .f32 0x358637BD#32))))))
    (broadcastInDim S65536x1024 ![0, 1] bcast_S1x1024_S65536x1024_0_1 (broadcastInDim S1x1024 ![1] bcast_S1024_S1x1024_1 g))

theorem norm_at (x : FVec Ideal S65536x1024 .f32) (g : FVec Ideal S1024 .f32) (r : Fin 65536) (l : Fin 1024) :
    norm x g (ix2 r l) = rms (fun k => x (ix2 r k)) l * g (ix1 l) := by
  pointwise [norm, rms]

/-- The product with a wide matrix, on the host. -/
def proj (h : FVec Ideal S65536x1024 .f32) (w : FVec Ideal S1024x2816 .f32) : FVec Ideal S65536x2816 .f32 :=
  Host.dotGeneral (F := Ideal) dot_S65536x1024_S1024x2816_S65536x2816_1_0_0_1_n_n none h w

theorem proj_at (h : FVec Ideal S65536x1024 .f32) (w : FVec Ideal S1024x2816 .f32) (r : Fin 65536) (k : Fin 2816) :
    proj h w (ix2 r k) = ∑ i : Fin 1024, h (ix2 r i) * w (ix2 i k) := by
  pointwise [proj]

/-- The feed-forward layer, on the host. -/
def layer (h : FVec Ideal S65536x1024 .f32) (wg wu : FVec Ideal S1024x2816 .f32) (wd : FVec Ideal S2816x1024 .f32) :
    FVec Ideal S65536x1024 .f32 :=
  Host.dotGeneral (F := Ideal) dot_S65536x2816_S2816x1024_S65536x1024_1_0_0_1_n_n none (mulf (mulf (proj h wg)
    (Host.divf (broadcastInDim S65536x2816 ![] bcast_S_S65536x2816 (constant (F := Ideal) S_ .f32 0x3F800000#32))
      (addf (broadcastInDim S65536x2816 ![] bcast_S_S65536x2816 (constant (F := Ideal) S_ .f32 0x3F800000#32))
        (Host.exp (F := Ideal) (Host.negf (F := Ideal) (proj h wg)))))) (proj h wu)) wd

theorem layer_at (h : FVec Ideal S65536x1024 .f32) (wg wu : FVec Ideal S1024x2816 .f32) (wd : FVec Ideal S2816x1024 .f32)
    (r : Fin 65536) (l : Fin 1024) : layer h wg wu wd (ix2 r l)
      = down (fun i => h (ix2 r i)) (fun i k => wg (ix2 i k)) (fun i k => wu (ix2 i k)) (fun k l => wd (ix2 k l)) l := by
  pointwise [layer, down, hid, act, Ideal.logistic]
  simp only [proj_at]

/-- The half step, on the host. -/
def step (x : FVec Ideal S65536x1024 .f32) (g : FVec Ideal S1024 .f32) (wg wu : FVec Ideal S1024x2816 .f32)
    (wd : FVec Ideal S2816x1024 .f32) (g' : FVec Ideal S1024 .f32) : FVec Ideal S65536x1024 .f32 :=
  addf x (mulf (broadcastInDim S65536x1024 ![] bcast_S_S65536x1024 (constant (F := Ideal) S_ .f32 0x3F000000#32))
    (norm (layer (norm x g) wg wu wd) g'))

theorem step_at (x : FVec Ideal S65536x1024 .f32) (g : FVec Ideal S1024 .f32) (wg wu : FVec Ideal S1024x2816 .f32)
    (wd : FVec Ideal S2816x1024 .f32) (g' : FVec Ideal S1024 .f32) (r : Fin 65536) (l : Fin 1024) :
    step x g wg wu wd g' (ix2 r l) = ffn (fun k => x (ix2 r k)) (fun k => g (ix1 k)) (fun i k => wg (ix2 i k))
      (fun i k => wu (ix2 i k)) (fun k l => wd (ix2 k l)) (fun k => g' (ix1 k)) l := by
  pointwise [step, ffn]
  rw [norm_at]
  simp only [layer_at, norm_at]

/-- The reference's term is the half step of its arguments. -/
theorem res_eq (m : (ℓ : Loc nD τ sig) → Buf (Elt Ideal) ℓ) (c : Dev nD) : Value.res_out0 m c
    = step (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  unfold Value.res_out0 Value.res_main_v33
  rfl

end Cert.FfnRefIdeal.Rows

/-! ## The kernel -/

namespace Cert.FfnIdeal.Rows

open Cert.FfnIdeal Cert.FfnIdeal.Gen Cert.Layer

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0])

/-- The host's part before the call: the weights narrowed (the identity here), the gains as one row. -/
theorem V_v0 (c : Dev nD) : V m c main_v0 = m ((c : Thread nD τ).loc main_arg2) := by entry_read; rfl
theorem V_v1 (c : Dev nD) : V m c main_v1 = m ((c : Thread nD τ).loc main_arg3) := by entry_read; rfl
theorem V_v2 (c : Dev nD) : V m c main_v2 = m ((c : Thread nD τ).loc main_arg4) := by entry_read; rfl
theorem V_v3 (c : Dev nD) : V m c main_v3 = shapeCast S1x1024 (m ((c : Thread nD τ).loc main_arg1)) shapeCasts_S1024_S1x1024 := by entry_read; rfl
theorem V_v4 (c : Dev nD) : V m c main_v4 = shapeCast S1x1024 (m ((c : Thread nD τ).loc main_arg5)) shapeCasts_S1024_S1x1024 := by entry_read; rfl

/-- What point `t` leaves at `(r, l)` is the half step of row `1024 t + r` of the arguments. -/
theorem point (c : Dev nD) (t : Fin cfg0.N) (r l : Fin 1024) (R : Fin 65536) (hR : R.val = t.val * 1024 + r.val) :
    out0_6 (F := Ideal) (iblk m c 0 t) (iblk m c 1 t) (iblk m c 2 t) (iblk m c 3 t) (iblk m c 4 t) (iblk m c 5 t) (ix2 r l)
      = ffn (fun k => (show FVec Ideal S65536x1024 .f32 from m ((c : Thread nD τ).loc main_arg0)) (ix2 R k))
        (fun k => (show FVec Ideal S1024 .f32 from m ((c : Thread nD τ).loc main_arg1)) (ix1 k))
        (fun i k => (show FVec Ideal S1024x2816 .f32 from m ((c : Thread nD τ).loc main_arg2)) (ix2 i k))
        (fun i k => (show FVec Ideal S1024x2816 .f32 from m ((c : Thread nD τ).loc main_arg3)) (ix2 i k))
        (fun k l => (show FVec Ideal S2816x1024 .f32 from m ((c : Thread nD τ).loc main_arg4)) (ix2 k l))
        (fun k => (show FVec Ideal S1024 .f32 from m ((c : Thread nD τ).loc main_arg5)) (ix1 k)) l := by
  refine (congrFun (Block.out_eq _ _ _ _ _ _) _).trans ((Block.step_at _ _ _ _ _ _ r l).trans ?_)
  have e0 : ∀ k : Fin 1024, (show FVec Ideal S1024x1024 .f32 from iblk m c 0 t) (ix2 r k)
      = (show FVec Ideal S65536x1024 .f32 from m ((c : Thread nD τ).loc main_arg0)) (ix2 R k) := by
    intro k; blk_ext [iblk, V, idx t, hR]
  have e1 : ∀ k : Fin 1024, (show FVec Ideal S1x1024 .f32 from iblk m c 1 t) (ix2 0 k)
      = (show FVec Ideal S1024 .f32 from m ((c : Thread nD τ).loc main_arg1)) (ix1 k) := by
    intro k
    have e : (show FVec Ideal S1x1024 .f32 from iblk m c 1 t) (ix2 0 k) = (show FVec Ideal S1x1024 .f32 from V m c main_v3) (ix2 0 k) := by
      blk_ext [iblk, idx t]
    rw [e, V_v3]
    pointwise
  have e2 : ∀ (i : Fin 1024) (k : Fin 2816), (show FVec Ideal S1024x2816 .bf16 from iblk m c 2 t) (ix2 i k)
      = (show FVec Ideal S1024x2816 .f32 from m ((c : Thread nD τ).loc main_arg2)) (ix2 i k) := by
    intro i k; blk_ext [iblk, V_v0, idx t]
  have e3 : ∀ (i : Fin 1024) (k : Fin 2816), (show FVec Ideal S1024x2816 .bf16 from iblk m c 3 t) (ix2 i k)
      = (show FVec Ideal S1024x2816 .f32 from m ((c : Thread nD τ).loc main_arg3)) (ix2 i k) := by
    intro i k; blk_ext [iblk, V_v1, idx t]
  have e4 : ∀ (k : Fin 2816) (l : Fin 1024), (show FVec Ideal S2816x1024 .bf16 from iblk m c 4 t) (ix2 k l)
      = (show FVec Ideal S2816x1024 .f32 from m ((c : Thread nD τ).loc main_arg4)) (ix2 k l) := by
    intro k l; blk_ext [iblk, V_v2, idx t]
  have e5 : ∀ k : Fin 1024, (show FVec Ideal S1x1024 .f32 from iblk m c 5 t) (ix2 0 k)
      = (show FVec Ideal S1024 .f32 from m ((c : Thread nD τ).loc main_arg5)) (ix1 k) := by
    intro k
    have e : (show FVec Ideal S1x1024 .f32 from iblk m c 5 t) (ix2 0 k) = (show FVec Ideal S1x1024 .f32 from V m c main_v4) (ix2 0 k) := by
      blk_ext [iblk, idx t]
    rw [e, V_v4]
    pointwise
  rw [show (fun k => (show FVec Ideal S1024x1024 .f32 from iblk m c 0 t) (ix2 r k)) = _ from funext e0,
    show (fun k => (show FVec Ideal S1x1024 .f32 from iblk m c 1 t) (ix2 0 k)) = _ from funext e1,
    show (fun i k => (show FVec Ideal S1024x2816 .bf16 from iblk m c 2 t) (ix2 i k)) = _ from funext fun i => funext (e2 i),
    show (fun i k => (show FVec Ideal S1024x2816 .bf16 from iblk m c 3 t) (ix2 i k)) = _ from funext fun i => funext (e3 i),
    show (fun k l => (show FVec Ideal S2816x1024 .bf16 from iblk m c 4 t) (ix2 k l)) = _ from funext fun i => funext (e4 i),
    show (fun k => (show FVec Ideal S1x1024 .f32 from iblk m c 5 t) (ix2 0 k)) = _ from funext e5]

/-- The result array after the run is the reference's half step of the arguments. -/
theorem final (c : Dev nD) : (dats m 0 c).arrAt 6 (cfgs 0).N
    = FfnRefIdeal.Rows.step (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]
  have ht : t.val < 64 := Nat.lt_of_lt_of_eq t.isLt N_0
  have hr : (y 0).val < 1024 := (y 0).isLt
  have hl : (y 1).val < 1024 := (y 1).isLt
  have ey : y = (ix2 (⟨(y 0).val, hr⟩ : Fin 1024) (⟨(y 1).val, hl⟩ : Fin 1024)) := by blk_ext
  have ee : ((cfg0.win 6).blk t).view.emb y = (ix2 (⟨t.val * 1024 + (y 0).val, by omega⟩ : Fin 65536) (⟨(y 1).val, hl⟩ : Fin 1024)) := by
    blk_ext [idx t]
  rw [ee]
  refine Eq.trans ?_ (FfnRefIdeal.Rows.step_at _ _ _ _ _ _ _ _).symm
  refine Eq.trans (congrArg _ ey) ?_
  exact point m c t _ _ _ rfl

end Cert.FfnIdeal.Rows

/-! ## The claims -/

namespace Cert.Proof.Ffn

theorem frame_r : Cert.quiescent_FfnRefIdeal := fun m ρ _ =>
  (θ_run Cert.FfnRefIdeal.defs _ _).mono (fun r h => ⟨fun c => (h c).2, Idealize.ShloMosaic.sem_eq_zero_of_no_sems (by decide) r.2⟩)
    (Cert.FfnRefIdeal.Value.run (F := Ideal) m ρ)

/-- At the ideal values the call's result is the reference's. -/
theorem algebraic : Cert.algebraic_FfnIdeal_FfnRefIdeal := by
  pair_intro
  · run_from Cert.FfnIdeal.Value.run_blocks m g
  · run_from Cert.FfnRefIdeal.Value.run m' g'
    refine (Cert.FfnRefIdeal.Rows.res_eq m' c).trans ?_
    obtain ⟨h0, h1, h2, h3, h4, h5⟩ := hagree c
    rw [h0, h1, h2, h3, h4, h5]
    exact (Cert.FfnIdeal.Rows.final m c).symm

end Cert.Proof.Ffn

end
-- ==== Proof.MixValue.lean ====
/-
  The output projection with its residual and the second feed-forward half step: kernel and reference are the same
  function of the arguments, row by row. The kernel multiplies the two head groups with the two halves of the output
  matrix and adds; the reference multiplies their concatenation with the whole matrix. The half step is the one of
  `FfnBlock` / `FfnValue`.
-/
module

public import proofs.«01_k».proof.Defs
public import proofs.«01_k».proof.Proof.FfnValue
public import proofs.«01_k».proof.Proof.Gen.MixIdeal.Value
public import proofs.«01_k».proof.Proof.Gen.MixRefIdeal.Run
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Layer

/-- The output projection of one row: the two head groups with their halves of the matrix. -/
def proj2 (a b : Fin 512 → EReal) (w : Fin 1024 → Fin 1024 → EReal) (l : Fin 1024) : EReal :=
  (∑ k : Fin 512, a k * w ⟨k, by omega⟩ l) + ∑ k : Fin 512, b k * w ⟨512 + k, by omega⟩ l

/-- The residual after the output projection, one row. -/
def mixed (x : Fin 1024 → EReal) (a b : Fin 512 → EReal) (w : Fin 1024 → Fin 1024 → EReal) (g : Fin 1024 → EReal) (l : Fin 1024) : EReal :=
  x l + rms (proj2 a b w) l * g l

end Cert.Layer

/-! ## The reference -/

namespace Cert.MixRefIdeal.Rows

open Cert.MixRefIdeal Cert.MixRefIdeal.Gen Cert.Layer

/-- The output projection, on the host. -/
def proj (a b : FVec Ideal S65536x512 .bf16) (w : FVec Ideal S1024x1024 .f32) : FVec Ideal S65536x1024 .f32 :=
  Host.dotGeneral (F := Ideal) (φ₁ := .f32) dot_S65536x1024_S1024x1024_S65536x1024_1_0_0_1_n_n none
    (concatenate S65536x1024 1 [⟨S65536x512, extf (F := Ideal) .f32 a bitsLt_bf16_f32⟩, ⟨S65536x512, extf (F := Ideal) .f32 b bitsLt_bf16_f32⟩]
      concatenates_S65536x512_S65536x512_S65536x1024_d1) w

theorem proj_at (a b : FVec Ideal S65536x512 .bf16) (w : FVec Ideal S1024x1024 .f32) (r : Fin 65536) (l : Fin 1024) :
    proj a b w (ix2 r l) = proj2 (fun k => a (ix2 r k)) (fun k => b (ix2 r k)) (fun i l => w (ix2 i l)) l := by
  pointwise [proj, proj2]

/-- The residual after the output projection, on the host. -/
def mix (x : FVec Ideal S65536x1024 .f32) (a b : FVec Ideal S65536x512 .bf16) (w : FVec Ideal S1024x1024 .f32) (g : FVec Ideal S1024 .f32) :
    FVec Ideal S65536x1024 .f32 :=
  addf x (FfnRefIdeal.Rows.norm (proj a b w) g)

theorem mix_at (x : FVec Ideal S65536x1024 .f32) (a b : FVec Ideal S65536x512 .bf16) (w : FVec Ideal S1024x1024 .f32)
    (g : FVec Ideal S1024 .f32) (r : Fin 65536) (l : Fin 1024) : mix x a b w g (ix2 r l)
      = mixed (fun k => x (ix2 r k)) (fun k => a (ix2 r k)) (fun k => b (ix2 r k)) (fun i l => w (ix2 i l)) (fun k => g (ix1 k)) l := by
  pointwise [mix, mixed]
  rw [FfnRefIdeal.Rows.norm_at]
  simp only [proj_at]

/-- The reference's term is the half step of the residual. -/
theorem res_eq (m : (ℓ : Loc nD τ sig) → Buf (Elt Ideal) ℓ) (c : Dev nD) : Value.res_out0 m c
    = FfnRefIdeal.Rows.step (mix (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)))
        (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) := by
  unfold Value.res_out0 Value.res_main_v51
  rfl

end Cert.MixRefIdeal.Rows

/-! ## The kernel -/

namespace Cert.MixIdeal.Rows

open Cert.MixIdeal Cert.MixIdeal.Gen Cert.Layer

/-- The residual after the output projection, a block of rows. -/
def mix (x : FVec Ideal S1024x1024 .f32) (a b : FVec Ideal S1024x512 .bf16) (w : FVec Ideal S2x512x1024 .bf16) (g : FVec Ideal S1x1024 .f32) :
    FVec Ideal S1024x1024 .f32 :=
  addf x (FfnIdeal.Block.norm (addf
    (matmul (F := Ideal) (φ₁ := .bf16) (φ₂ := .bf16) dot_S1024x512_S512x1024_S1024x1024_1_0_0_1_n_n none a
      (shapeCast S512x1024 (View.ld (Val := Elt Ideal) (e' := .bf16) w r0_1) shapeCasts_S1x512x1024_S512x1024) (constant (F := Ideal) S1024x1024 .f32 0x00000000#32))
    (matmul (F := Ideal) (φ₁ := .bf16) (φ₂ := .bf16) dot_S1024x512_S512x1024_S1024x1024_1_0_0_1_n_n none b
      (shapeCast S512x1024 (View.ld (Val := Elt Ideal) (e' := .bf16) w r0_2) shapeCasts_S1x512x1024_S512x1024) (constant (F := Ideal) S1024x1024 .f32 0x00000000#32))) g)

/-- Row `i` of the output matrix in its two halves. -/
def half (w : FVec Ideal S2x512x1024 .bf16) (i l : Fin 1024) : EReal :=
  w (ix3 ⟨i / 512, by omega⟩ ⟨i % 512, Nat.mod_lt _ (by decide)⟩ l)

theorem mix_at (x : FVec Ideal S1024x1024 .f32) (a b : FVec Ideal S1024x512 .bf16) (w : FVec Ideal S2x512x1024 .bf16)
    (g : FVec Ideal S1x1024 .f32) (r l : Fin 1024) : mix x a b w g (ix2 r l)
      = mixed (fun k => x (ix2 r k)) (fun k => a (ix2 r k)) (fun k => b (ix2 r k)) (half w) (fun k => g (ix2 0 k)) l := by
  have e : ∀ l : Fin 1024, (addf
    (matmul (F := Ideal) (φ₁ := .bf16) (φ₂ := .bf16) dot_S1024x512_S512x1024_S1024x1024_1_0_0_1_n_n none a
      (shapeCast S512x1024 (View.ld (Val := Elt Ideal) (e' := .bf16) w r0_1) shapeCasts_S1x512x1024_S512x1024) (constant (F := Ideal) S1024x1024 .f32 0x00000000#32))
    (matmul (F := Ideal) (φ₁ := .bf16) (φ₂ := .bf16) dot_S1024x512_S512x1024_S1024x1024_1_0_0_1_n_n none b
      (shapeCast S512x1024 (View.ld (Val := Elt Ideal) (e' := .bf16) w r0_2) shapeCasts_S1x512x1024_S512x1024) (constant (F := Ideal) S1024x1024 .f32 0x00000000#32)))
      (ix2 r l) = proj2 (fun k => a (ix2 r k)) (fun k => b (ix2 r k)) (half w) l := by
    intro l
    pointwise [proj2, half]
    refine congrArg₂ (· + ·) (Finset.sum_congr rfl fun k _ => congrArg _ (congrArg w ?_)) (Finset.sum_congr rfl fun k _ => congrArg _ (congrArg w ?_))
    · refine (ix3_inj ..).2 ⟨Fin.ext ?_, Fin.ext ?_, rfl⟩ <;> simp <;> omega
    · refine (ix3_inj ..).2 ⟨Fin.ext ?_, Fin.ext ?_, rfl⟩ <;> simp <;> omega
  refine (congrArg (x (ix2 r l) + ·) (FfnIdeal.Block.norm_at _ g r l)).trans ?_
  unfold mixed
  rw [funext e]

theorem hz : (![0, 0] : Fin 2 → Nat) = fun _ => 0 := funext fun a => by fin_cases a <;> rfl

/-- What the body leaves in the output's buffer is the half step of the residual's block of rows. -/
theorem out_eq (x0 : FVec Ideal S1024x1024 .f32) (x1 x2 : FVec Ideal S1024x512 .bf16) (x3 : FVec Ideal S2x512x1024 .bf16)
    (x4 x5 : FVec Ideal S1x1024 .f32) (x6 x7 : FVec Ideal S1024x2816 .bf16) (x8 : FVec Ideal S2816x1024 .bf16) (x9 : FVec Ideal S1x1024 .f32) :
    out0_10 (F := Ideal) x0 x1 x2 x3 x4 x5 x6 x7 x8 x9 = FfnIdeal.Block.step (mix x0 x1 x2 x3 x4) x5 x6 x7 x8 x9 := by
  have h0 : View.ld (Val := Elt Ideal) (e' := .f32) x0 r0_3 = x0 := View.ld_unit_zero (S := S1024x1024) hz _ _
  have h1 : View.ld (Val := Elt Ideal) (e' := .bf16) x1 r0_0 = x1 := View.ld_unit_zero (S := S1024x512) hz _ _
  have h2 : View.ld (Val := Elt Ideal) (e' := .bf16) x2 r0_0 = x2 := View.ld_unit_zero (S := S1024x512) hz _ _
  have h4 : View.ld (Val := Elt Ideal) (e' := .f32) x4 r0_4 = x4 := View.ld_unit_zero (S := S1x1024) hz _ _
  have h5 : View.ld (Val := Elt Ideal) (e' := .f32) x5 r0_4 = x5 := View.ld_unit_zero (S := S1x1024) hz _ _
  have h9 : View.ld (Val := Elt Ideal) (e' := .f32) x9 r0_4 = x9 := View.ld_unit_zero (S := S1x1024) hz _ _
  unfold_out out0_10
  rw [View.canon_unit_zero hz, h0, h1, h2, h4, h5, h9]
  rfl

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, 0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![t.val, 0] :=
  (by decide +kernel : ∀ t : Fin grid0.N, win0_0.index t = ![t.val, 0] ∧ win0_1.index t = ![t.val, 0] ∧ win0_2.index t = ![t.val, 0]
    ∧ win0_3.index t = ![0, 0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![t.val, 0])

/-- The host's part before the call: the weights narrowed (the identity here), the output matrix in two halves, the gains
    as one row. -/
theorem V_v0 (c : Dev nD) : V m c main_v0 = m ((c : Thread nD τ).loc main_arg6) := by entry_read; rfl
theorem V_v1 (c : Dev nD) : V m c main_v1 = m ((c : Thread nD τ).loc main_arg7) := by entry_read; rfl
theorem V_v2 (c : Dev nD) : V m c main_v2 = m ((c : Thread nD τ).loc main_arg8) := by entry_read; rfl
theorem V_v3 (c : Dev nD) : V m c main_v3 = shapeCast S1x1024 (m ((c : Thread nD τ).loc main_arg5)) shapeCasts_S1024_S1x1024 := by entry_read; rfl
theorem V_v4 (c : Dev nD) : V m c main_v4 = shapeCast S1x1024 (m ((c : Thread nD τ).loc main_arg9)) shapeCasts_S1024_S1x1024 := by entry_read; rfl
theorem V_v6 (c : Dev nD) : V m c main_v6 = shapeCast S2x512x1024 (m ((c : Thread nD τ).loc main_arg3)) shapeCasts_S1024x1024_S2x512x1024 := by
  entry_read; rfl
theorem V_v7 (c : Dev nD) : V m c main_v7 = shapeCast S1x1024 (m ((c : Thread nD τ).loc main_arg4)) shapeCasts_S1024_S1x1024 := by entry_read; rfl

theorem halves (w : FVec Ideal S1024x1024 .f32) (h : S1024x1024.ShapeCasts S2x512x1024) (p : Fin 2) (q : Fin 512) (l : Fin 1024) :
    shapeCast S2x512x1024 w h (ix3 p q l) = w (ix2 (⟨p.val * 512 + q.val, by omega⟩ : Fin 1024) l) := by
  pointwise

section
variable (c : Dev nD) (t : Fin cfg0.N)

theorem b0 (r : Fin 1024) (R : Fin 65536) (hR : R.val = t.val * 1024 + r.val) (k : Fin 1024) :
    (show FVec Ideal S1024x1024 .f32 from iblk m c 0 t) (ix2 r k)
      = (show FVec Ideal S65536x1024 .f32 from m ((c : Thread nD τ).loc main_arg0)) (ix2 R k) := by blk_ext [iblk, V, idx t, hR]
theorem b1 (r : Fin 1024) (R : Fin 65536) (hR : R.val = t.val * 1024 + r.val) (k : Fin 512) :
    (show FVec Ideal S1024x512 .bf16 from iblk m c 1 t) (ix2 r k)
      = (show FVec Ideal S65536x512 .bf16 from m ((c : Thread nD τ).loc main_arg1)) (ix2 R k) := by blk_ext [iblk, V, idx t, hR]
theorem b2 (r : Fin 1024) (R : Fin 65536) (hR : R.val = t.val * 1024 + r.val) (k : Fin 512) :
    (show FVec Ideal S1024x512 .bf16 from iblk m c 2 t) (ix2 r k)
      = (show FVec Ideal S65536x512 .bf16 from m ((c : Thread nD τ).loc main_arg2)) (ix2 R k) := by blk_ext [iblk, V, idx t, hR]
theorem b3 (i l : Fin 1024) : half (show FVec Ideal S2x512x1024 .bf16 from iblk m c 3 t) i l
    = (show FVec Ideal S1024x1024 .f32 from m ((c : Thread nD τ).loc main_arg3)) (ix2 i l) := by
  unfold half
  have e : ∀ (p : Fin 2) (q : Fin 512), (show FVec Ideal S2x512x1024 .bf16 from iblk m c 3 t) (ix3 p q l)
      = (show FVec Ideal S2x512x1024 .f32 from V m c main_v6) (ix3 p q l) := by intro p q; blk_ext [iblk, idx t]
  rw [e, V_v6]
  refine (halves _ _ _ _ _).trans ?_
  refine congrArg (show FVec Ideal S1024x1024 .f32 from m ((c : Thread nD τ).loc main_arg3)) ((ix2_inj ..).2 ⟨Fin.ext ?_, rfl⟩)
  show (i : ℕ) / 512 * 512 + (i : ℕ) % 512 = i
  omega
theorem b4 (k : Fin 1024) : (show FVec Ideal S1x1024 .f32 from iblk m c 4 t) (ix2 0 k)
    = (show FVec Ideal S1024 .f32 from m ((c : Thread nD τ).loc main_arg4)) (ix1 k) := by
  have e : (show FVec Ideal S1x1024 .f32 from iblk m c 4 t) (ix2 0 k) = (show FVec Ideal S1x1024 .f32 from V m c main_v7) (ix2 0 k) := by
    blk_ext [iblk, idx t]
  rw [e, V_v7]
  pointwise
theorem b5 (k : Fin 1024) : (show FVec Ideal S1x1024 .f32 from iblk m c 5 t) (ix2 0 k)
    = (show FVec Ideal S1024 .f32 from m ((c : Thread nD τ).loc main_arg5)) (ix1 k) := by
  have e : (show FVec Ideal S1x1024 .f32 from iblk m c 5 t) (ix2 0 k) = (show FVec Ideal S1x1024 .f32 from V m c main_v3) (ix2 0 k) := by
    blk_ext [iblk, idx t]
  rw [e, V_v3]
  pointwise
theorem b6 (i : Fin 1024) (k : Fin 2816) : (show FVec Ideal S1024x2816 .bf16 from iblk m c 6 t) (ix2 i k)
    = (show FVec Ideal S1024x2816 .f32 from m ((c : Thread nD τ).loc main_arg6)) (ix2 i k) := by blk_ext [iblk, V_v0, idx t]
theorem b7 (i : Fin 1024) (k : Fin 2816) : (show FVec Ideal S1024x2816 .bf16 from iblk m c 7 t) (ix2 i k)
    = (show FVec Ideal S1024x2816 .f32 from m ((c : Thread nD τ).loc main_arg7)) (ix2 i k) := by blk_ext [iblk, V_v1, idx t]
theorem b8 (k : Fin 2816) (l : Fin 1024) : (show FVec Ideal S2816x1024 .bf16 from iblk m c 8 t) (ix2 k l)
    = (show FVec Ideal S2816x1024 .f32 from m ((c : Thread nD τ).loc main_arg8)) (ix2 k l) := by blk_ext [iblk, V_v2, idx t]
theorem b9 (k : Fin 1024) : (show FVec Ideal S1x1024 .f32 from iblk m c 9 t) (ix2 0 k)
    = (show FVec Ideal S1024 .f32 from m ((c : Thread nD τ).loc main_arg9)) (ix1 k) := by
  have e : (show FVec Ideal S1x1024 .f32 from iblk m c 9 t) (ix2 0 k) = (show FVec Ideal S1x1024 .f32 from V m c main_v4) (ix2 0 k) := by
    blk_ext [iblk, idx t]
  rw [e, V_v4]
  pointwise

end

/-- What point `t` leaves at `(r, l)` is the half step of row `1024 t + r` of the residual. -/
theorem point (c : Dev nD) (t : Fin cfg0.N) (r l : Fin 1024) (R : Fin 65536) (hR : R.val = t.val * 1024 + r.val) :
    out0_10 (F := Ideal) (iblk m c 0 t) (iblk m c 1 t) (iblk m c 2 t) (iblk m c 3 t) (iblk m c 4 t) (iblk m c 5 t) (iblk m c 6 t)
        (iblk m c 7 t) (iblk m c 8 t) (iblk m c 9 t) (ix2 r l)
      = ffn (mixed (fun k => (show FVec Ideal S65536x1024 .f32 from m ((c : Thread nD τ).loc main_arg0)) (ix2 R k))
          (fun k => (show FVec Ideal S65536x512 .bf16 from m ((c : Thread nD τ).loc main_arg1)) (ix2 R k))
          (fun k => (show FVec Ideal S65536x512 .bf16 from m ((c : Thread nD τ).loc main_arg2)) (ix2 R k))
          (fun i l => (show FVec Ideal S1024x1024 .f32 from m ((c : Thread nD τ).loc main_arg3)) (ix2 i l))
          (fun k => (show FVec Ideal S1024 .f32 from m ((c : Thread nD τ).loc main_arg4)) (ix1 k)))
        (fun k => (show FVec Ideal S1024 .f32 from m ((c : Thread nD τ).loc main_arg5)) (ix1 k))
        (fun i k => (show FVec Ideal S1024x2816 .f32 from m ((c : Thread nD τ).loc main_arg6)) (ix2 i k))
        (fun i k => (show FVec Ideal S1024x2816 .f32 from m ((c : Thread nD τ).loc main_arg7)) (ix2 i k))
        (fun k l => (show FVec Ideal S2816x1024 .f32 from m ((c : Thread nD τ).loc main_arg8)) (ix2 k l))
        (fun k => (show FVec Ideal S1024 .f32 from m ((c : Thread nD τ).loc main_arg9)) (ix1 k)) l := by
  refine (congrFun (out_eq _ _ _ _ _ _ _ _ _ _) _).trans ((FfnIdeal.Block.step_at _ _ _ _ _ _ r l).trans ?_)
  rw [← funext (b0 m c t r R hR), ← funext (b1 m c t r R hR), ← funext (b2 m c t r R hR), ← funext fun i => funext (b3 m c t i),
    ← funext (b4 m c t), ← funext (b5 m c t), ← funext fun i => funext (b6 m c t i), ← funext fun i => funext (b7 m c t i),
    ← funext fun i => funext (b8 m c t i), ← funext (b9 m c t)]
  exact congrFun (congrArg (fun x => ffn x _ _ _ _ _) (funext fun k => mix_at _ _ _ _ _ r k)) l

/-- The result array after the run is the reference's function of the arguments. -/
theorem final (c : Dev nD) : (dats m 0 c).arrAt 10 (cfgs 0).N
    = FfnRefIdeal.Rows.step (MixRefIdeal.Rows.mix (m ((c : Thread nD τ).loc main_arg0)) (m ((c : Thread nD τ).loc main_arg1))
          (m ((c : Thread nD τ).loc main_arg2)) (m ((c : Thread nD τ).loc main_arg3)) (m ((c : Thread nD τ).loc main_arg4)))
        (m ((c : Thread nD τ).loc main_arg5)) (m ((c : Thread nD τ).loc main_arg6)) (m ((c : Thread nD τ).loc main_arg7))
        (m ((c : Thread nD τ).loc main_arg8)) (m ((c : Thread nD τ).loc main_arg9)) := by
  refine (dats m 0 c).arrAt_eq_of_covers 10 _ (by decide +kernel) fun t _ y => ?_
  blk_simp
  rw [after0_10]
  have ht : t.val < 64 := Nat.lt_of_lt_of_eq t.isLt N_0
  have hr : (y 0).val < 1024 := (y 0).isLt
  have hl : (y 1).val < 1024 := (y 1).isLt
  have ey : y = (ix2 (⟨(y 0).val, hr⟩ : Fin 1024) (⟨(y 1).val, hl⟩ : Fin 1024)) := by blk_ext
  have ee : ((cfg0.win 10).blk t).view.emb y = (ix2 (⟨t.val * 1024 + (y 0).val, by omega⟩ : Fin 65536) (⟨(y 1).val, hl⟩ : Fin 1024)) := by
    blk_ext [idx t]
  rw [ee]
  refine Eq.trans ?_ (FfnRefIdeal.Rows.step_at _ _ _ _ _ _ _ _).symm
  refine Eq.trans (congrArg _ ey) ?_
  refine (point m c t _ _ ⟨t.val * 1024 + (y 0).val, by omega⟩ rfl).trans ?_
  exact congrFun (congrArg (fun x => ffn x _ _ _ _ _) (funext fun k => (MixRefIdeal.Rows.mix_at _ _ _ _ _ _ k).symm)) _

end Cert.MixIdeal.Rows

/-! ## The claims -/

namespace Cert.Proof.Mix

theorem frame_r : Cert.quiescent_MixRefIdeal := fun m ρ _ =>
  (θ_run Cert.MixRefIdeal.defs _ _).mono (fun r h => ⟨fun c => (h c).2, Idealize.ShloMosaic.sem_eq_zero_of_no_sems (by decide) r.2⟩)
    (Cert.MixRefIdeal.Value.run (F := Ideal) m ρ)

/-- At the ideal values the call's result is the reference's. -/
theorem algebraic : Cert.algebraic_MixIdeal_MixRefIdeal := by
  pair_intro
  · run_from Cert.MixIdeal.Value.run_blocks m g
  · run_from Cert.MixRefIdeal.Value.run m' g'
    refine (Cert.MixRefIdeal.Rows.res_eq m' c).trans ?_
    obtain ⟨h0, h1, h2, h3, h4, h5, h6, h7, h8, h9⟩ := hagree c
    rw [h0, h1, h2, h3, h4, h5, h6, h7, h8, h9]
    exact (Cert.MixIdeal.Rows.final m c).symm

end Cert.Proof.Mix

end
-- ==== Proof.InprojRef.lean ====
/-
  The reference of the input projections, entry by entry: one wide product of the normalised rows with the whole
  projection matrix, cut into heads, scaled and turned.
-/
module

public import proofs.«01_k».proof.Defs
public import proofs.«01_k».proof.Proof.FfnValue
public import proofs.«01_k».proof.Proof.Gen.InprojRefIdeal.Run

@[expose] public section

set_option maxRecDepth 16384

noncomputable section

open Idealize.ShloMosaic Idealize.ShloMosaic.TcCoe Idealize.SL.Sem

namespace Cert.Layer

/-- The projection of one normalised row on one column of the matrix. -/
def prj (x g : Fin 1024 → EReal) (w : Fin 1024 → EReal) : EReal := ∑ i : Fin 1024, (rms x i * g i) * w i

/-- The two scales: one over the root of the head width, and one over the root of the number of indexer heads. -/
def s8 : EReal := Ideal.ofBits .f32 0x3E000000#32
def sh : EReal := Ideal.ofBits .f32 0x3EB504F3#32

/-- The logarithm of the gate from its argument, as the reference writes it: minus the softplus of `-z`, over 16. -/
def gateRef (z : EReal) : EReal :=
  Ideal.div (-(max (-z) 0 + Ideal.log1p (Ideal.exp (-(max (-z - 0) (-(-z - 0))))))) (Ideal.ofBits .f32 0x41800000#32)

/-- The gate as the kernel writes it. -/
def gateKer (z : EReal) : EReal :=
  (min z 0 - Ideal.log1p (Ideal.exp (0 - max z (-z)))) * Ideal.ofBits .f32 0x3D800000#32

/-- The row of ones, from the comparison of the row's number with zero: read unsigned, and widened and read signed. -/
theorem ones_u (e : Fin 16) : FloatOps.uitofp (F := Ideal) .f32 (IntOp.cmpi .eq (BitVec.ofNat 32 e.val) 0#32) = if e.val = 0 then 1 else 0 := by
  have h : ∀ e : Fin 16, IntOp.cmpi .eq (BitVec.ofNat 32 e.val) 0#32 = if e.val = 0 then 1#1 else 0#1 := by decide
  rw [h]
  split_ifs
  · show (((1#1 : BitVec 1).toNat : ℝ) : EReal) = 1
    norm_num
  · show (((0#1 : BitVec 1).toNat : ℝ) : EReal) = 0
    norm_num

theorem ones_s (e : Fin 16) : FloatOps.sitofp (F := Ideal) .f32 (BitVec.setWidth 32 (IntOp.cmpi .eq (BitVec.ofNat 32 e.val) 0#32)) = if e.val = 0 then 1 else 0 := by
  have h : ∀ e : Fin 16, BitVec.setWidth 32 (IntOp.cmpi .eq (BitVec.ofNat 32 e.val) 0#32) = if e.val = 0 then 1#32 else 0#32 := by decide
  rw [h]
  split_ifs
  · show (((1#32 : BitVec 32).toInt : ℝ) : EReal) = 1
    norm_num
  · show (((0#32 : BitVec 32).toInt : ℝ) : EReal) = 0
    norm_num

end Cert.Layer

namespace Cert.InprojRefIdeal.Rows

open Cert.InprojRefIdeal Cert.InprojRefIdeal.Gen Cert.Layer

/-- The wide product. -/
def P (x : FVec Ideal S65536x1024 .f32) (g : FVec Ideal S1024 .f32) (w : FVec Ideal S1024x2904 .f32) : FVec Ideal S65536x2904 .f32 :=
  Host.dotGeneral (F := Ideal) dot_S65536x1024_S1024x2904_S65536x2904_1_0_0_1_n_n none (FfnRefIdeal.Rows.norm x g) w

theorem P_at (x : FVec Ideal S65536x1024 .f32) (g : FVec Ideal S1024 .f32) (w : FVec Ideal S1024x2904 .f32) (r : Fin 65536) (j : Fin 2904) :
    P x g w (ix2 r j) = prj (fun k => x (ix2 r k)) (fun k => g (ix1 k)) (fun k => w (ix2 k j)) := by
  pointwise [P, prj]
  simp only [FfnRefIdeal.Rows.norm_at]

variable (p : FVec Ideal S65536x2904 .f32)

/-- The queries of the sparse attention, scaled, by head and transposed. -/
def q : FVec Ideal S8x64x65536 .bf16 :=
  truncf (F := Ideal) .bf16 (transpose S8x64x65536 [1, 2, 0] (shapeCast S65536x8x64 (mulf (extractStridedSlice S65536x512 ![0, 0] p slices_S65536x2904_S65536x512_0_0) (broadcastInDim S65536x512 ![] bcast_S_S65536x512 (constant (F := Ideal) S_ .f32 0x3E000000#32))) shapeCasts_S65536x512_S65536x8x64) transposes_S65536x8x64_S8x64x65536_1_2_0) bitsLt_bf16_f32

theorem q_at (h : Fin 8) (d : Fin 64) (r : Fin 65536) (j : Fin 2904) (hj : j.val = h.val * 64 + d.val) :
    q p (ix3 h d r) = p (ix2 r j) * s8 := by
  pointwise [q, s8]
  refine congrArg (· * _) ?_
  blk_ext [hj]

/-- The indexer's queries. -/
def qi : FVec Ideal S8x64x65536 .bf16 :=
  truncf (F := Ideal) .bf16 (transpose S8x64x65536 [1, 2, 0] (shapeCast S65536x8x64 (mulf (extractStridedSlice S65536x512 ![0, 768] p slices_S65536x2904_S65536x512_0_768) (broadcastInDim S65536x512 ![] bcast_S_S65536x512 (constant (F := Ideal) S_ .f32 0x3E000000#32))) shapeCasts_S65536x512_S65536x8x64) transposes_S65536x8x64_S8x64x65536_1_2_0) bitsLt_bf16_f32

theorem qi_at (h : Fin 8) (d : Fin 64) (r : Fin 65536) (j : Fin 2904) (hj : j.val = 768 + (h.val * 64 + d.val)) :
    qi p (ix3 h d r) = p (ix2 r j) * s8 := by
  pointwise [qi, s8]
  refine congrArg (· * _) ?_
  blk_ext [hj]

/-- The values with one row of ones under them. -/
def v : FVec Ideal S2x80x65536 .bf16 :=
  truncf (F := Ideal) .bf16 (concatenate S2x80x65536 1 [⟨S2x64x65536, (transpose S2x64x65536 [1, 2, 0] (shapeCast S65536x2x64 (extractStridedSlice S65536x128 ![0, 640] p slices_S65536x2904_S65536x128_0_640) shapeCasts_S65536x128_S65536x2x64) transposes_S65536x2x64_S2x64x65536_1_2_0)⟩, ⟨S2x16x65536, (uitofp (F := Ideal) .f32 (broadcastInDim S2x16x65536 ![0, 1, 2] bcast_S1x16x1_S2x16x65536_0_1_2 (cmpi .eq (broadcastInDim S1x16x1 ![1] bcast_S16_S1x16x1_1 (iotaInDim S16 32 0)) (broadcastInDim S1x16x1 ![] bcast_S_S1x16x1 (constantI S_ 32 0#32)))))⟩] concatenates_S2x64x65536_S2x16x65536_S2x80x65536_d1) bitsLt_bf16_f32

theorem v_at (h : Fin 2) (d : Fin 80) (r : Fin 65536) (hd : d.val < 64) (j : Fin 2904) (hj : j.val = 640 + (h.val * 64 + d.val)) :
    v p (ix3 h d r) = p (ix2 r j) := by
  pointwise [v, hd]
  blk_ext [hj]

theorem v_ones (h : Fin 2) (d : Fin 80) (r : Fin 65536) (hd : ¬ d.val < 64) :
    v p (ix3 h d r) = if d.val = 64 then 1 else 0 := by
  pointwise [v, hd]
  obtain ⟨e, he⟩ : ∃ e : Fin 16, d.val - 64 = e.val := ⟨⟨d.val - 64, by omega⟩, rfl⟩
  rw [he, ones_u e]
  refine if_congr ?_ rfl rfl
  omega

/-- The indexer's head weights. -/
def wh : FVec Ideal S8x65536 .f32 :=
  transpose S8x65536 [1, 0] (mulf (extractStridedSlice S65536x8 ![0, 1344] p slices_S65536x2904_S65536x8_0_1344) (broadcastInDim S65536x8 ![] bcast_S_S65536x8 (constant (F := Ideal) S_ .f32 0x3EB504F3#32))) transposes_S65536x8_S8x65536_1_0

theorem wh_at (h : Fin 8) (r : Fin 65536) (j : Fin 2904) (hj : j.val = 1344 + h.val) : wh p (ix2 h r) = p (ix2 r j) * sh := by
  pointwise [wh, sh]
  refine congrArg (· * _) ?_
  blk_ext [hj]

/-- The keys. -/
def k : FVec Ideal S2x65536x64 .bf16 :=
  truncf (F := Ideal) .bf16 (transpose S2x65536x64 [1, 0, 2] (shapeCast S65536x2x64 (extractStridedSlice S65536x128 ![0, 512] p slices_S65536x2904_S65536x128_0_512) shapeCasts_S65536x128_S65536x2x64) transposes_S65536x2x64_S2x65536x64_1_0_2) bitsLt_bf16_f32

theorem k_at (h : Fin 2) (r : Fin 65536) (d : Fin 64) (j : Fin 2904) (hj : j.val = 512 + (h.val * 64 + d.val)) :
    k p (ix3 h r d) = p (ix2 r j) := by
  pointwise [k]
  blk_ext [hj]

/-- The indexer's key. -/
def ki : FVec Ideal S65536x64 .bf16 :=
  truncf (F := Ideal) .bf16 (extractStridedSlice S65536x64 ![0, 1280] p slices_S65536x2904_S65536x64_0_1280) bitsLt_bf16_f32

theorem ki_at (r : Fin 65536) (d : Fin 64) (j : Fin 2904) (hj : j.val = 1280 + d.val) : ki p (ix2 r d) = p (ix2 r j) := by
  pointwise [ki]
  blk_ext [hj]

/-- Queries (scaled) and keys of the linear attention side by side. -/
def qk : FVec Ideal S65536x512 .f32 :=
  concatenate S65536x512 1 [⟨S65536x256, (mulf (extractStridedSlice S65536x256 ![0, 1352] p slices_S65536x2904_S65536x256_0_1352) (broadcastInDim S65536x256 ![] bcast_S_S65536x256 (constant (F := Ideal) S_ .f32 0x3E000000#32)))⟩, ⟨S65536x256, (extractStridedSlice S65536x256 ![0, 1608] p slices_S65536x2904_S65536x256_0_1608)⟩] concatenates_S65536x256_S65536x256_S65536x512_d1

theorem qk_q (r : Fin 65536) (d : Fin 512) (hd : d.val < 256) (j : Fin 2904) (hj : j.val = 1352 + d.val) :
    qk p (ix2 r d) = p (ix2 r j) * s8 := by
  pointwise [qk, s8, hd]
  refine congrArg (· * _) ?_
  blk_ext [hj]

theorem qk_k (r : Fin 65536) (d : Fin 512) (hd : ¬ d.val < 256) (j : Fin 2904) (hj : j.val = 1608 + (d.val - 256)) :
    qk p (ix2 r d) = p (ix2 r j) := by
  pointwise [qk, hd]
  blk_ext [hj]

/-- The values of the linear attention. -/
def vg : FVec Ideal S65536x512 .bf16 :=
  truncf (F := Ideal) .bf16 (extractStridedSlice S65536x512 ![0, 1864] p slices_S65536x2904_S65536x512_0_1864) bitsLt_bf16_f32

theorem vg_at (r : Fin 65536) (d : Fin 512) (j : Fin 2904) (hj : j.val = 1864 + d.val) : vg p (ix2 r d) = p (ix2 r j) := by
  pointwise [vg]
  blk_ext [hj]

/-- The output gate of the linear attention. -/
def og : FVec Ideal S65536x512 .f32 := extractStridedSlice S65536x512 ![0, 2392] p slices_S65536x2904_S65536x512_0_2392

theorem og_at (r : Fin 65536) (d : Fin 512) (j : Fin 2904) (hj : j.val = 2392 + d.val) : og p (ix2 r d) = p (ix2 r j) := by
  pointwise [og]
  blk_ext [hj]

/-- The gate's argument: sixteen columns times the second matrix, plus the bias. -/
def za (a : FVec Ideal S16x256 .f32) (b : FVec Ideal S256 .f32) : FVec Ideal S65536x256 .f32 :=
  addf (Host.dotGeneral (F := Ideal) dot_S65536x16_S16x256_S65536x256_1_0_0_1_n_n none (extractStridedSlice S65536x16 ![0, 2376] p slices_S65536x2904_S65536x16_0_2376) a) (broadcastInDim S65536x256 ![0, 1] bcast_S1x256_S65536x256_0_1 (broadcastInDim S1x256 ![1] bcast_S256_S1x256_1 b))

theorem za_at (a : FVec Ideal S16x256 .f32) (b : FVec Ideal S256 .f32) (r : Fin 65536) (d : Fin 256) :
    za p a b (ix2 r d) = (∑ i : Fin 16, p (ix2 r ⟨2376 + i.val, by omega⟩) * a (ix2 i d)) + b (ix1 d) := by
  pointwise [za]

/-- The logarithm of the gate from its argument. -/
def la (z : FVec Ideal S65536x256 .f32) : FVec Ideal S65536x256 .f32 :=
  Host.divf (F := Ideal) (Host.negf (F := Ideal) (select (cmpf (F := Ideal) .une (subf (Host.negf (F := Ideal) z) (broadcastInDim S65536x256 ![] bcast_S_S65536x256 (constant (F := Ideal) S_ .f32 0x00000000#32))) (subf (Host.negf (F := Ideal) z) (broadcastInDim S65536x256 ![] bcast_S_S65536x256 (constant (F := Ideal) S_ .f32 0x00000000#32)))) (addf (Host.negf (F := Ideal) z) (broadcastInDim S65536x256 ![] bcast_S_S65536x256 (constant (F := Ideal) S_ .f32 0x00000000#32)))
    (addf (maximumf (Host.negf (F := Ideal) z) (broadcastInDim S65536x256 ![] bcast_S_S65536x256 (constant (F := Ideal) S_ .f32 0x00000000#32)))
      (Host.log1p (F := Ideal) (Host.exp (F := Ideal) (Host.negf (F := Ideal) (absf (subf (Host.negf (F := Ideal) z) (broadcastInDim S65536x256 ![] bcast_S_S65536x256 (constant (F := Ideal) S_ .f32 0x00000000#32))))))))))
    (broadcastInDim S65536x256 ![] bcast_S_S65536x256 (constant (F := Ideal) S_ .f32 0x41800000#32))

theorem la_at (z : FVec Ideal S65536x256 .f32) (r : Fin 65536) (d : Fin 256) : la z (ix2 r d) = gateRef (z (ix2 r d)) := by
  pointwise [la, gateRef]
  rw [if_neg (by simp)]
  rfl

theorem res_eq (m : (ℓ : Loc nD τ sig) → Buf (Elt Ideal) ℓ) (c : Dev nD) : Value.res_main_v53 (F := Ideal) m c
    = la (za (P (m ((c.tc : Thread nD τ).loc main_arg0)) (m ((c.tc : Thread nD τ).loc main_arg1)) (m ((c.tc : Thread nD τ).loc main_arg2)))
        (m ((c.tc : Thread nD τ).loc main_arg3)) (m ((c.tc : Thread nD τ).loc main_arg4))) := by
  unfold Value.res_main_v53
  rfl

end Cert.InprojRefIdeal.Rows

end
-- ==== Proof.InprojBlock.lean ====
/-
  What one block of the input-projection kernel holds, entry by entry, and the host's preparation of the matrices.

  The kernel multiplies the normalised rows with two re-laid copies of the projection matrix: one copy column by
  column, and one transposed copy for the results that are wanted transposed. The scales of the reference are
  multiplied into the columns; over the extended reals a scale of a finite nonnegative number moves out of the sum.
-/
module

public import proofs.«01_k».proof.Proof.InprojRef
public import proofs.«01_k».proof.Proof.Gen.InprojIdeal.Frame
public import proofs.«01_k».proof.Proof.Gen.InprojIdeal.Value
public import Idealize.ShloMosaic.Lib.Routing.OpsSet
public import Idealize.ShloMosaic.Lib.Routing.OpsPair
public import Idealize.ShloMosaic.Lib.StableHlo.RunRead

@[expose] public section

set_option maxRecDepth 16384

noncomputable section

open Idealize.ShloMosaic Idealize.ShloMosaic.TcCoe Idealize.SL.Sem

namespace Cert.Layer

theorem s8_eq : s8 = ((1 / 8 : ℝ) : EReal) := by
  unfold s8
  simp [Ideal.ofBits, Ideal.ieee, -EReal.coe_mul]
  norm_num

/-- A finite nonnegative scale of the matrix's column moves out of the product. -/
theorem prj_scale (x g w : Fin 1024 → EReal) (s : ℝ) (hs : 0 ≤ s) :
    prj x g (fun i => w i * (s : EReal)) = prj x g w * (s : EReal) := by
  unfold prj
  have h : ∀ S : Finset (Fin 1024), ∑ i ∈ S, rms x i * g i * (w i * (s : EReal)) = (∑ i ∈ S, rms x i * g i * w i) * (s : EReal) := by
    intro S
    induction S using Finset.induction_on with
    | empty => simp
    | insert a S ha ih =>
      rw [Finset.sum_insert ha, Finset.sum_insert ha, ih,
        EReal.right_distrib_of_nonneg_of_ne_top (by exact_mod_cast hs) (EReal.coe_ne_top s), mul_assoc (rms x a * g a)]
  exact h _

theorem prj_s8 (x g w : Fin 1024 → EReal) : prj x g (fun i => w i * s8) = prj x g w * s8 := by
  rw [s8_eq]; exact prj_scale x g w _ (by norm_num)

theorem exp_nonneg (x : EReal) : 0 ≤ Ideal.exp x := by
  induction x with
  | bot => exact le_refl (0 : EReal)
  | top => exact le_top
  | coe r =>
    show (0 : EReal) ≤ ((Real.exp r : ℝ) : EReal)
    exact_mod_cast (Real.exp_pos r).le

theorem log1p_ne_bot (x : EReal) : Ideal.log1p (Ideal.exp x) ≠ ⊥ := by
  have h := exp_nonneg x
  unfold Ideal.log1p
  generalize Ideal.exp x = y at h ⊢
  induction y with
  | bot => simp at h
  | top =>
    have e : (1 : EReal) + ⊤ = ⊤ := by rw [← EReal.coe_one, EReal.coe_add_top]
    rw [e]
    show (⊤ : EReal) ≠ ⊥
    exact top_ne_bot
  | coe r =>
    have hr : 0 ≤ r := by exact_mod_cast h
    have e : (1 : EReal) + (r : EReal) = ((1 + r : ℝ) : EReal) := by norm_cast
    rw [e]
    show (if 1 + r ≤ 0 then (⊥ : EReal) else ((Real.log (1 + r) : ℝ) : EReal)) ≠ ⊥
    rw [if_neg (by linarith)]
    exact EReal.coe_ne_bot _

theorem neg_max (z : EReal) : -(max (-z) 0) = min z 0 := by
  rcases le_total z 0 with h | h
  · rw [min_eq_left h, max_eq_left (EReal.le_neg_of_le_neg (by simpa using h)), neg_neg]
  · rw [min_eq_right h, max_eq_right (EReal.neg_le_of_neg_le (by simpa using h)), neg_zero]

theorem gate_eq (z : EReal) : gateKer z = gateRef z := by
  have h16 : Ideal.ofBits .f32 0x41800000#32 = ((16 : ℝ) : EReal) := by
    simp [Ideal.ofBits, Ideal.ieee, -EReal.coe_mul]; norm_num
  have h16' : Ideal.ofBits .f32 0x3D800000#32 = ((1 / 16 : ℝ) : EReal) := by
    simp [Ideal.ofBits, Ideal.ieee, -EReal.coe_mul]; norm_num
  unfold gateKer gateRef
  rw [h16, h16', sub_zero, neg_neg, max_comm (-z) z, zero_sub,
    EReal.neg_add (Or.inl (ne_of_gt (lt_of_lt_of_le EReal.bot_lt_zero (le_max_right _ _)))) (Or.inr (log1p_ne_bot _)),
    Ideal.div_coe (by norm_num), neg_max]

/-- A sum over 128 lanes that vanishes off sixteen of them. -/
theorem lanes (f g : Fin 128 → EReal) (h : Fin 16 → EReal) (h0 : ∀ k : Fin 128, ¬ (72 ≤ k.val ∧ k.val < 88) → g k = 0)
    (h1 : ∀ i : Fin 16, g ⟨72 + i.val, by omega⟩ = h i) :
    ∑ k : Fin 128, f k * g k = ∑ i : Fin 16, f ⟨72 + i.val, by omega⟩ * h i := by
  refine (Fintype.sum_of_injective (fun i : Fin 16 => (⟨72 + i.val, by omega⟩ : Fin 128)) ?_ _ _ ?_ ?_).symm
  · intro a b hab
    have := congrArg Fin.val hab
    exact Fin.ext (by simpa using this)
  · intro k hk
    rw [h0 k, mul_zero]
    intro hk'
    exact hk ⟨⟨k.val - 72, by omega⟩, Fin.ext (by simp; omega)⟩
  · intro i
    rw [h1]

end Cert.Layer

namespace Cert.InprojIdeal.Rows

open Cert.InprojIdeal Cert.InprojIdeal.Gen Cert.Layer

/-! ## The host's matrices -/

/-- The matrix re-laid column by column, from its pieces. -/
def tokOf (p0 : FVec Ideal S1024x128 .f32) (p1 : FVec Ideal S1024x64 .f32) (p2 : FVec Ideal S1024x8 .f32) (p3 : FVec Ideal S1024x16 .f32) (p4 : FVec Ideal S1024x40 .f32) (p5 : FVec Ideal S1024x256 .f32) (p6 : FVec Ideal S1024x256 .f32) (p7 : FVec Ideal S1024x512 .f32) (p8 : FVec Ideal S1024x512 .f32) : FVec Ideal S1024x1792 .bf16 :=
  truncf (F := Ideal) .bf16 (concatenate S1024x1792 1 [⟨S1024x128, p0⟩, ⟨S1024x64, p1⟩, ⟨S1024x8, p2⟩, ⟨S1024x16, p3⟩, ⟨S1024x40, p4⟩, ⟨S1024x256, p5⟩, ⟨S1024x256, p6⟩, ⟨S1024x512, p7⟩, ⟨S1024x512, p8⟩]
    concatenates_S1024x128_S1024x64_S1024x8_S1024x16_S1024x40_S1024x256_S1024x256_S1024x512_S1024x512_S1024x1792_d1) bitsLt_bf16_f32

/-- The matrix re-laid column by column. -/
def tok (w : FVec Ideal S1024x2904 .f32) : FVec Ideal S1024x1792 .bf16 :=
  tokOf (extractStridedSlice S1024x128 ![0, 512] w slices_S1024x2904_S1024x128_0_512)
    (extractStridedSlice S1024x64 ![0, 1280] w slices_S1024x2904_S1024x64_0_1280)
    (broadcastInDim S1024x8 ![] bcast_S_S1024x8 (constant (F := Ideal) S_ .f32 0x00000000#32))
    (extractStridedSlice S1024x16 ![0, 2376] w slices_S1024x2904_S1024x16_0_2376)
    (broadcastInDim S1024x40 ![] bcast_S_S1024x40 (constant (F := Ideal) S_ .f32 0x00000000#32))
    (mulf (F := Ideal) (extractStridedSlice S1024x256 ![0, 1352] w slices_S1024x2904_S1024x256_0_1352)
      (broadcastInDim S1024x256 ![] bcast_S_S1024x256 (constant (F := Ideal) S_ .f32 0x3E000000#32)))
    (extractStridedSlice S1024x256 ![0, 1608] w slices_S1024x2904_S1024x256_0_1608)
    (extractStridedSlice S1024x512 ![0, 1864] w slices_S1024x2904_S1024x512_0_1864)
    (extractStridedSlice S1024x512 ![0, 2392] w slices_S1024x2904_S1024x512_0_2392)

/-- The matrix re-laid and transposed, from its pieces. -/
def trOf (p0 : FVec Ideal S1024x512 .f32) (p1 : FVec Ideal S1024x512 .f32) (p2 : FVec Ideal S1024x128 .f32) (p3 : FVec Ideal S1024x8 .f32) (p4 : FVec Ideal S1024x8 .f32) : FVec Ideal S1168x1024 .bf16 :=
  truncf (F := Ideal) .bf16 (transpose S1168x1024 [1, 0] (concatenate S1024x1168 1 [⟨S1024x512, p0⟩, ⟨S1024x512, p1⟩, ⟨S1024x128, p2⟩, ⟨S1024x8, p3⟩, ⟨S1024x8, p4⟩]
    concatenates_S1024x512_S1024x512_S1024x128_S1024x8_S1024x8_S1024x1168_d1) transposes_S1024x1168_S1168x1024_1_0) bitsLt_bf16_f32

/-- The matrix re-laid and transposed. -/
def tr (w : FVec Ideal S1024x2904 .f32) : FVec Ideal S1168x1024 .bf16 :=
  trOf (mulf (F := Ideal) (extractStridedSlice S1024x512 ![0, 0] w slices_S1024x2904_S1024x512_0_0)
      (broadcastInDim S1024x512 ![] bcast_S_S1024x512 (constant (F := Ideal) S_ .f32 0x3E000000#32)))
    (mulf (F := Ideal) (extractStridedSlice S1024x512 ![0, 768] w slices_S1024x2904_S1024x512_0_768)
      (broadcastInDim S1024x512 ![] bcast_S_S1024x512 (constant (F := Ideal) S_ .f32 0x3E000000#32)))
    (extractStridedSlice S1024x128 ![0, 640] w slices_S1024x2904_S1024x128_0_640)
    (extractStridedSlice S1024x8 ![0, 1344] w slices_S1024x2904_S1024x8_0_1344)
    (broadcastInDim S1024x8 ![] bcast_S_S1024x8 (constant (F := Ideal) S_ .f32 0x00000000#32))

theorem tr_q (w : FVec Ideal S1024x2904 .f32) (r : Fin 1168) (k : Fin 1024) (h0 : 0 ≤ r.val) (h1 : r.val < 512)
    (j : Fin 2904) (hj : j.val = 0 + r.val) : tr w (ix2 r k) = w (ix2 k j) * s8 := by
  pointwise [tr, trOf, s8]
  rw [dif_pos (by omega)]
  refine congrArg (· * _) ?_
  exact congrArg w ((ix2_inj ..).2 ⟨rfl, Fin.ext (by show _ = j.val; simp only []; omega)⟩)

theorem tr_qi (w : FVec Ideal S1024x2904 .f32) (r : Fin 1168) (k : Fin 1024) (h0 : 512 ≤ r.val) (h1 : r.val < 1024)
    (j : Fin 2904) (hj : j.val = 768 + (r.val - 512)) : tr w (ix2 r k) = w (ix2 k j) * s8 := by
  pointwise [tr, trOf, s8]
  rw [dif_neg (by omega), dif_pos (by omega)]
  refine congrArg (· * _) ?_
  exact congrArg w ((ix2_inj ..).2 ⟨rfl, Fin.ext (by show _ = j.val; simp only []; omega)⟩)

theorem tr_v (w : FVec Ideal S1024x2904 .f32) (r : Fin 1168) (k : Fin 1024) (h0 : 1024 ≤ r.val) (h1 : r.val < 1152)
    (j : Fin 2904) (hj : j.val = 640 + (r.val - 1024)) : tr w (ix2 r k) = w (ix2 k j) := by
  pointwise [tr, trOf, s8]
  rw [dif_neg (by omega), dif_neg (by omega), dif_pos (by omega)]
  exact congrArg w ((ix2_inj ..).2 ⟨rfl, Fin.ext (by show _ = j.val; simp only []; omega)⟩)

theorem tr_w (w : FVec Ideal S1024x2904 .f32) (r : Fin 1168) (k : Fin 1024) (h0 : 1152 ≤ r.val) (h1 : r.val < 1160)
    (j : Fin 2904) (hj : j.val = 1344 + (r.val - 1152)) : tr w (ix2 r k) = w (ix2 k j) := by
  pointwise [tr, trOf, s8]
  rw [dif_neg (by omega), dif_neg (by omega), dif_neg (by omega), dif_pos (by omega)]
  exact congrArg w ((ix2_inj ..).2 ⟨rfl, Fin.ext (by show _ = j.val; simp only []; omega)⟩)

theorem tok_k (w : FVec Ideal S1024x2904 .f32) (r : Fin 1024) (k : Fin 1792) (h0 : 0 ≤ k.val) (h1 : k.val < 128)
    (j : Fin 2904) (hj : j.val = 512 + k.val) : tok w (ix2 r k) = w (ix2 r j) := by
  pointwise [tok, tokOf, s8]
  rw [dif_pos (by omega)]
  exact congrArg w ((ix2_inj ..).2 ⟨rfl, Fin.ext (by show _ = j.val; simp only []; omega)⟩)

theorem tok_ki (w : FVec Ideal S1024x2904 .f32) (r : Fin 1024) (k : Fin 1792) (h0 : 128 ≤ k.val) (h1 : k.val < 192)
    (j : Fin 2904) (hj : j.val = 1280 + (k.val - 128)) : tok w (ix2 r k) = w (ix2 r j) := by
  pointwise [tok, tokOf, s8]
  rw [dif_neg (by omega), dif_pos (by omega)]
  exact congrArg w ((ix2_inj ..).2 ⟨rfl, Fin.ext (by show _ = j.val; simp only []; omega)⟩)

theorem tok_z (w : FVec Ideal S1024x2904 .f32) (r : Fin 1024) (k : Fin 1792) (h0 : 200 ≤ k.val) (h1 : k.val < 216)
    (j : Fin 2904) (hj : j.val = 2376 + (k.val - 200)) : tok w (ix2 r k) = w (ix2 r j) := by
  pointwise [tok, tokOf, s8]
  rw [dif_neg (by omega), dif_neg (by omega), dif_neg (by omega), dif_pos (by omega)]
  exact congrArg w ((ix2_inj ..).2 ⟨rfl, Fin.ext (by show _ = j.val; simp only []; omega)⟩)

theorem tok_q (w : FVec Ideal S1024x2904 .f32) (r : Fin 1024) (k : Fin 1792) (h0 : 256 ≤ k.val) (h1 : k.val < 512)
    (j : Fin 2904) (hj : j.val = 1352 + (k.val - 256)) : tok w (ix2 r k) = w (ix2 r j) * s8 := by
  pointwise [tok, tokOf, s8]
  rw [dif_neg (by omega), dif_neg (by omega), dif_neg (by omega), dif_neg (by omega), dif_neg (by omega), dif_pos (by omega)]
  refine congrArg (· * _) ?_
  exact congrArg w ((ix2_inj ..).2 ⟨rfl, Fin.ext (by show _ = j.val; simp only []; omega)⟩)

theorem tok_kg (w : FVec Ideal S1024x2904 .f32) (r : Fin 1024) (k : Fin 1792) (h0 : 512 ≤ k.val) (h1 : k.val < 768)
    (j : Fin 2904) (hj : j.val = 1608 + (k.val - 512)) : tok w (ix2 r k) = w (ix2 r j) := by
  pointwise [tok, tokOf, s8]
  rw [dif_neg (by omega), dif_neg (by omega), dif_neg (by omega), dif_neg (by omega), dif_neg (by omega), dif_neg (by omega), dif_pos (by omega)]
  exact congrArg w ((ix2_inj ..).2 ⟨rfl, Fin.ext (by show _ = j.val; simp only []; omega)⟩)

theorem tok_v (w : FVec Ideal S1024x2904 .f32) (r : Fin 1024) (k : Fin 1792) (h0 : 768 ≤ k.val) (h1 : k.val < 1280)
    (j : Fin 2904) (hj : j.val = 1864 + (k.val - 768)) : tok w (ix2 r k) = w (ix2 r j) := by
  pointwise [tok, tokOf, s8]
  rw [dif_neg (by omega), dif_neg (by omega), dif_neg (by omega), dif_neg (by omega), dif_neg (by omega), dif_neg (by omega), dif_neg (by omega), dif_pos (by omega)]
  exact congrArg w ((ix2_inj ..).2 ⟨rfl, Fin.ext (by show _ = j.val; simp only []; omega)⟩)

theorem tok_o (w : FVec Ideal S1024x2904 .f32) (r : Fin 1024) (k : Fin 1792) (h0 : 1280 ≤ k.val) (h1 : k.val < 1792)
    (j : Fin 2904) (hj : j.val = 2392 + (k.val - 1280)) : tok w (ix2 r k) = w (ix2 r j) := by
  pointwise [tok, tokOf, s8]
  rw [dif_neg (by omega), dif_neg (by omega), dif_neg (by omega), dif_neg (by omega), dif_neg (by omega), dif_neg (by omega), dif_neg (by omega), dif_neg (by omega)]
  exact congrArg w ((ix2_inj ..).2 ⟨rfl, Fin.ext (by show _ = j.val; simp only []; omega)⟩)

/-- The small matrix, padded with zero rows. -/
def wa (a : FVec Ideal S16x256 .f32) : FVec Ideal S128x256 .f32 :=
  Host.scatter scatter_S128x256_S1_S16x256_01_n_0_0 (fun _ b => b)
    (broadcastInDim S128x256 ![] bcast_S_S128x256 (constant (F := Ideal) S_ .f32 0x00000000#32))
    (broadcastInDim S1 ![] bcast_S_S1 (constantI S_ 32 72#32)) a

theorem lands (a : FVec Ideal S16x256 .f32) (p : S16x256.Idx) (r : Fin 128) (l : Fin 256) :
    scatter_S128x256_S1_S16x256_01_n_0_0.resultIdx? p (broadcastInDim S1 ![] bcast_S_S1 (constantI S_ 32 72#32)) = some (ix2 r l)
      ↔ 72 + (p 0).val = r.val ∧ (p 1).val = l.val := by
  have w0 : scatter_S128x256_S1_S16x256_01_n_0_0.window p 0 = (p 0).val := by
    unfold ScatterDims.window
    rw [dif_pos (by decide)]
    rfl
  have w1 : scatter_S128x256_S1_S16x256_01_n_0_0.window p 1 = (p 1).val := by
    unfold ScatterDims.window
    rw [dif_pos (by decide)]
    rfl
  have s0 : scatter_S128x256_S1_S16x256_01_n_0_0.start p (broadcastInDim S1 ![] bcast_S_S1 (constantI S_ 32 72#32)) 0 = 72 := by
    unfold ScatterDims.start
    rw [dif_pos (by decide)]
    rfl
  have s1 : scatter_S128x256_S1_S16x256_01_n_0_0.start p (broadcastInDim S1 ![] bcast_S_S1 (constantI S_ 32 72#32)) 1 = 0 := by
    unfold ScatterDims.start
    rw [dif_neg (by decide)]
  refine (Routing.resultIdx?_ix2 scatter_S128x256_S1_S16x256_01_n_0_0 p _ r l).trans ?_
  rw [w0, w1, s0, s1]
  omega

theorem wa_hit (a : FVec Ideal S16x256 .f32) (r : Fin 16) (l : Fin 256) : wa a (ix2 (⟨72 + r.val, by omega⟩ : Fin 128) l) = a (ix2 r l) := by
  refine Routing.scatter_set_hit _ _ _ _ _ _ (fun p hp => congrArg a ?_) (ix2 r l) ((lands a _ _ _).2 ⟨rfl, rfl⟩)
  have h := (lands a p _ _).1 hp
  have h0 : (p 0).val = r.val := by have := h.1; simp only [] at this; omega
  funext b
  match b with
  | ⟨0, _⟩ => exact Fin.ext h0
  | ⟨1, _⟩ => exact Fin.ext h.2

theorem wa_miss (a : FVec Ideal S16x256 .f32) (r : Fin 128) (l : Fin 256) (h : ¬ (72 ≤ r.val ∧ r.val < 88)) : wa a (ix2 r l) = 0 := by
  refine (Routing.scatter_set_miss _ _ _ _ _ fun p hp => h ?_).trans ?_
  · have h := ((lands a p _ _).1 hp).1
    have : (p 0).val < 16 := (p 0).isLt
    omega
  · pointwise

variable (m : (ℓ : Loc nD τ sig) → Buf (Elt Ideal) ℓ)

theorem V_v23 (c : Dev nD) : V m c main_v23 = tok (m ((c : Thread nD τ).loc main_arg2)) := by
  have h0 : (show FVec Ideal S1024x128 .f32 from StableHlo.upto (hostOps0 (F := Ideal)) (fun b => m (c, b)) 18 (Proc.devRef .tc main_v1))
      = extractStridedSlice S1024x128 ![0, 512] (m ((c : Thread nD τ).loc main_arg2)) slices_S1024x2904_S1024x128_0_512 := by
    after_reads_simp
  have h1 : (show FVec Ideal S1024x64 .f32 from StableHlo.upto (hostOps0 (F := Ideal)) (fun b => m (c, b)) 18 (Proc.devRef .tc main_v4))
      = extractStridedSlice S1024x64 ![0, 1280] (m ((c : Thread nD τ).loc main_arg2)) slices_S1024x2904_S1024x64_0_1280 := by
    after_reads_simp
  have h2 : (show FVec Ideal S1024x8 .f32 from StableHlo.upto (hostOps0 (F := Ideal)) (fun b => m (c, b)) 18 (Proc.devRef .tc main_v11))
      = broadcastInDim S1024x8 ![] bcast_S_S1024x8 (constant (F := Ideal) S_ .f32 0x00000000#32) := by
    after_reads_simp
  have h3 : (show FVec Ideal S1024x16 .f32 from StableHlo.upto (hostOps0 (F := Ideal)) (fun b => m (c, b)) 18 (Proc.devRef .tc main_v9))
      = extractStridedSlice S1024x16 ![0, 2376] (m ((c : Thread nD τ).loc main_arg2)) slices_S1024x2904_S1024x16_0_2376 := by
    after_reads_simp
  have h4 : (show FVec Ideal S1024x40 .f32 from StableHlo.upto (hostOps0 (F := Ideal)) (fun b => m (c, b)) 18 (Proc.devRef .tc main_v12))
      = broadcastInDim S1024x40 ![] bcast_S_S1024x40 (constant (F := Ideal) S_ .f32 0x00000000#32) := by
    after_reads_simp
  have h5 : (show FVec Ideal S1024x256 .f32 from StableHlo.upto (hostOps0 (F := Ideal)) (fun b => m (c, b)) 18 (Proc.devRef .tc main_v14))
      = mulf (F := Ideal) (extractStridedSlice S1024x256 ![0, 1352] (m ((c : Thread nD τ).loc main_arg2)) slices_S1024x2904_S1024x256_0_1352)
      (broadcastInDim S1024x256 ![] bcast_S_S1024x256 (constant (F := Ideal) S_ .f32 0x3E000000#32)) := by
    after_reads_simp
  have h6 : (show FVec Ideal S1024x256 .f32 from StableHlo.upto (hostOps0 (F := Ideal)) (fun b => m (c, b)) 18 (Proc.devRef .tc main_v7))
      = extractStridedSlice S1024x256 ![0, 1608] (m ((c : Thread nD τ).loc main_arg2)) slices_S1024x2904_S1024x256_0_1608 := by
    after_reads_simp
  have h7 : (show FVec Ideal S1024x512 .f32 from StableHlo.upto (hostOps0 (F := Ideal)) (fun b => m (c, b)) 18 (Proc.devRef .tc main_v8))
      = extractStridedSlice S1024x512 ![0, 1864] (m ((c : Thread nD τ).loc main_arg2)) slices_S1024x2904_S1024x512_0_1864 := by
    after_reads_simp
  have h8 : (show FVec Ideal S1024x512 .f32 from StableHlo.upto (hostOps0 (F := Ideal)) (fun b => m (c, b)) 18 (Proc.devRef .tc main_v10))
      = extractStridedSlice S1024x512 ![0, 2392] (m ((c : Thread nD τ).loc main_arg2)) slices_S1024x2904_S1024x512_0_2392 := by
    after_reads_simp
  unfold V
  after_reads_simp
  refine (show _ = tokOf (show FVec Ideal S1024x128 .f32 from StableHlo.upto (hostOps0 (F := Ideal)) (fun b => m (c, b)) 18 (Proc.devRef .tc main_v1))
      (show FVec Ideal S1024x64 .f32 from StableHlo.upto (hostOps0 (F := Ideal)) (fun b => m (c, b)) 18 (Proc.devRef .tc main_v4))
      (show FVec Ideal S1024x8 .f32 from StableHlo.upto (hostOps0 (F := Ideal)) (fun b => m (c, b)) 18 (Proc.devRef .tc main_v11))
      (show FVec Ideal S1024x16 .f32 from StableHlo.upto (hostOps0 (F := Ideal)) (fun b => m (c, b)) 18 (Proc.devRef .tc main_v9))
      (show FVec Ideal S1024x40 .f32 from StableHlo.upto (hostOps0 (F := Ideal)) (fun b => m (c, b)) 18 (Proc.devRef .tc main_v12))
      (show FVec Ideal S1024x256 .f32 from StableHlo.upto (hostOps0 (F := Ideal)) (fun b => m (c, b)) 18 (Proc.devRef .tc main_v14))
      (show FVec Ideal S1024x256 .f32 from StableHlo.upto (hostOps0 (F := Ideal)) (fun b => m (c, b)) 18 (Proc.devRef .tc main_v7))
      (show FVec Ideal S1024x512 .f32 from StableHlo.upto (hostOps0 (F := Ideal)) (fun b => m (c, b)) 18 (Proc.devRef .tc main_v8))
      (show FVec Ideal S1024x512 .f32 from StableHlo.upto (hostOps0 (F := Ideal)) (fun b => m (c, b)) 18 (Proc.devRef .tc main_v10)) from rfl).trans ?_
  rw [h0, h1, h2, h3, h4, h5, h6, h7, h8]
  rfl

theorem V_v24 (c : Dev nD) : V m c main_v24 = tr (m ((c : Thread nD τ).loc main_arg2)) := by
  have h0 : (show FVec Ideal S1024x512 .f32 from StableHlo.upto (hostOps0 (F := Ideal)) (fun b => m (c, b)) 27 (Proc.devRef .tc main_v17))
      = mulf (F := Ideal) (extractStridedSlice S1024x512 ![0, 0] (m ((c : Thread nD τ).loc main_arg2)) slices_S1024x2904_S1024x512_0_0)
      (broadcastInDim S1024x512 ![] bcast_S_S1024x512 (constant (F := Ideal) S_ .f32 0x3E000000#32)) := by
    after_reads_simp
  have h1 : (show FVec Ideal S1024x512 .f32 from StableHlo.upto (hostOps0 (F := Ideal)) (fun b => m (c, b)) 27 (Proc.devRef .tc main_v19))
      = mulf (F := Ideal) (extractStridedSlice S1024x512 ![0, 768] (m ((c : Thread nD τ).loc main_arg2)) slices_S1024x2904_S1024x512_0_768)
      (broadcastInDim S1024x512 ![] bcast_S_S1024x512 (constant (F := Ideal) S_ .f32 0x3E000000#32)) := by
    after_reads_simp
  have h2 : (show FVec Ideal S1024x128 .f32 from StableHlo.upto (hostOps0 (F := Ideal)) (fun b => m (c, b)) 27 (Proc.devRef .tc main_v2))
      = extractStridedSlice S1024x128 ![0, 640] (m ((c : Thread nD τ).loc main_arg2)) slices_S1024x2904_S1024x128_0_640 := by
    after_reads_simp
  have h3 : (show FVec Ideal S1024x8 .f32 from StableHlo.upto (hostOps0 (F := Ideal)) (fun b => m (c, b)) 27 (Proc.devRef .tc main_v5))
      = extractStridedSlice S1024x8 ![0, 1344] (m ((c : Thread nD τ).loc main_arg2)) slices_S1024x2904_S1024x8_0_1344 := by
    after_reads_simp
  have h4 : (show FVec Ideal S1024x8 .f32 from StableHlo.upto (hostOps0 (F := Ideal)) (fun b => m (c, b)) 27 (Proc.devRef .tc main_v20))
      = broadcastInDim S1024x8 ![] bcast_S_S1024x8 (constant (F := Ideal) S_ .f32 0x00000000#32) := by
    after_reads_simp
  unfold V
  after_reads_simp
  refine (show _ = trOf (show FVec Ideal S1024x512 .f32 from StableHlo.upto (hostOps0 (F := Ideal)) (fun b => m (c, b)) 27 (Proc.devRef .tc main_v17))
      (show FVec Ideal S1024x512 .f32 from StableHlo.upto (hostOps0 (F := Ideal)) (fun b => m (c, b)) 27 (Proc.devRef .tc main_v19))
      (show FVec Ideal S1024x128 .f32 from StableHlo.upto (hostOps0 (F := Ideal)) (fun b => m (c, b)) 27 (Proc.devRef .tc main_v2))
      (show FVec Ideal S1024x8 .f32 from StableHlo.upto (hostOps0 (F := Ideal)) (fun b => m (c, b)) 27 (Proc.devRef .tc main_v5))
      (show FVec Ideal S1024x8 .f32 from StableHlo.upto (hostOps0 (F := Ideal)) (fun b => m (c, b)) 27 (Proc.devRef .tc main_v20)) from rfl).trans ?_
  rw [h0, h1, h2, h3, h4]
  rfl

theorem V_v27 (c : Dev nD) : V m c main_v27 = wa (m ((c : Thread nD τ).loc main_arg3)) := by
  unfold V
  after_reads_simp
  rfl
theorem V_v28 (c : Dev nD) : V m c main_v28 = shapeCast S1x1024 (m ((c : Thread nD τ).loc main_arg1)) shapeCasts_S1024_S1x1024 := by
  unfold V
  after_reads_simp
  rfl
theorem V_v29 (c : Dev nD) : V m c main_v29 = shapeCast S1x256 (m ((c : Thread nD τ).loc main_arg4)) shapeCasts_S256_S1x256 := by
  unfold V
  after_reads_simp
  rfl

end Cert.InprojIdeal.Rows

end
-- ==== Proof.InprojOut.lean ====
/-
  What the body of the input-projection kernel leaves in each of its ten output blocks, entry by entry.
-/
module

public import proofs.«01_k».proof.Proof.InprojRef
public import proofs.«01_k».proof.Proof.Gen.InprojIdeal.Frame
public import proofs.«01_k».proof.Proof.Gen.InprojIdeal.Value

@[expose] public section

set_option maxRecDepth 16384

noncomputable section

open Idealize.ShloMosaic Idealize.ShloMosaic.TcCoe Idealize.SL.Sem

open Cert.InprojIdeal Cert.InprojIdeal.Gen Cert.Layer

namespace Cert.InprojIdeal.Block

variable (x0 : FVec Ideal S1024x1024 .f32) (x1 : FVec Ideal S1x1024 .f32) (x2 : FVec Ideal S1024x1792 .bf16)
  (x3 : FVec Ideal S1168x1024 .bf16) (x4 : FVec Ideal S128x256 .f32) (x5 : FVec Ideal S1x256 .f32)

/-- The product with the transposed matrix: its rows are columns of the projection. -/
def pt : FVec Ideal S1168x1024 .f32 :=
  matmul (F := Ideal) (φ₁ := .bf16) (φ₂ := .bf16) dot_S1168x1024_S1024x1024_S1168x1024_1_1_0_0_n_n none
    (shapeCast S1168x1024 x3 shapeCasts_S1168x1024_S1168x1024) (FfnIdeal.Block.norm x0 x1) (constant (F := Ideal) S1168x1024 .f32 0x00000000#32)

theorem pt_at (j : Fin 1168) (r : Fin 1024) :
    pt x0 x1 x3 (ix2 j r) = prj (fun k => x0 (ix2 r k)) (fun k => x1 (ix2 0 k)) (fun k => x3 (ix2 j k)) := by
  pointwise [pt, prj]
  simp only [FfnIdeal.Block.norm_at, mul_comm]

/-- The product with the other matrix. -/
def pk : FVec Ideal S1024x1792 .f32 :=
  matmul (F := Ideal) (φ₁ := .bf16) (φ₂ := .bf16) dot_S1024x1024_S1024x1792_S1024x1792_1_0_0_1_n_n none
    (FfnIdeal.Block.norm x0 x1) (shapeCast S1024x1792 x2 shapeCasts_S1024x1792_S1024x1792) (constant (F := Ideal) S1024x1792 .f32 0x00000000#32)

theorem pk_at (r : Fin 1024) (j : Fin 1792) :
    pk x0 x1 x2 (ix2 r j) = prj (fun k => x0 (ix2 r k)) (fun k => x1 (ix2 0 k)) (fun k => x2 (ix2 k j)) := by
  pointwise [pk, prj]
  simp only [FfnIdeal.Block.norm_at]

theorem pay5 : k0_pay5 (F := Ideal) x0 x1 x3 = pt x0 x1 x3 := rfl
theorem pay27 : k0_pay27 (F := Ideal) (k0_pay4 x0 x1) x2 = pk x0 x1 x2 := rfl

theorem hz : (![0, 0] : Fin 2 → Nat) = fun _ => 0 := funext fun a => by fin_cases a <;> rfl
theorem l0 : View.ld (Val := Elt Ideal) (e' := .f32) x0 r0_0 = x0 := View.ld_unit_zero (S := S1024x1024) hz _ _
theorem l1 : View.ld (Val := Elt Ideal) (e' := .f32) x1 r0_1 = x1 := View.ld_unit_zero (S := S1x1024) hz _ _
theorem l2 : View.ld (Val := Elt Ideal) (e' := .bf16) x2 r0_14 = x2 := View.ld_unit_zero (S := S1024x1792) hz _ _
theorem l3 : View.ld (Val := Elt Ideal) (e' := .bf16) x3 r0_2 = x3 := View.ld_unit_zero (S := S1168x1024) hz _ _
theorem l4 : View.ld (Val := Elt Ideal) (e' := .f32) x4 r0_19 = x4 := View.ld_unit_zero (S := S128x256) hz _ _
theorem l5 : View.ld (Val := Elt Ideal) (e' := .f32) x5 r0_20 = x5 := View.ld_unit_zero (S := S1x256) hz _ _

theorem out6 (h : Fin 8) (d : Fin 64) (r : Fin 1024) : out0_6 (F := Ideal) x0 x1 x2 x3 x4 x5 (ix3 h d r)
    = pt x0 x1 x3 (ix2 (⟨h.val * 64 + d.val, by omega⟩ : Fin 1168) r) := by
  unfold_out out0_6
  rw [l0, l1, l3]
  refine (Value.canon6_eq _ _ _ _).trans ?_
  show pt x0 x1 x3 (Value.ix6_0 (ix3 h d r)) = _
  refine congrArg (pt x0 x1 x3) ?_
  blk_ext [Value.ix6_0]

theorem out7 (h : Fin 8) (d : Fin 64) (r : Fin 1024) : out0_7 (F := Ideal) x0 x1 x2 x3 x4 x5 (ix3 h d r)
    = pt x0 x1 x3 (ix2 (⟨512 + (h.val * 64 + d.val), by omega⟩ : Fin 1168) r) := by
  unfold_out out0_7
  rw [l0, l1, l3]
  refine (Value.canon7_eq _ _ _ _).trans ?_
  show pt x0 x1 x3 (Value.ix7_0 (ix3 h d r)) = _
  refine congrArg (pt x0 x1 x3) ?_
  blk_ext [Value.ix7_0]

theorem out9 (h : Fin 8) (r : Fin 1024) : out0_9 (F := Ideal) x0 x1 x2 x3 x4 x5 (ix2 h r)
    = pt x0 x1 x3 (ix2 (⟨1152 + h.val, by omega⟩ : Fin 1168) r) * sh := by
  unfold_out out0_9
  rw [l0, l1, l3]
  refine (Value.canon9_eq _ _ _ _).trans ?_
  show pt x0 x1 x3 (Value.ix9_0 (ix2 h r)) * sh = _
  refine congrArg (pt x0 x1 x3 · * sh) ?_
  blk_ext [Value.ix9_0]

theorem out10 (h : Fin 2) (r : Fin 1024) (d : Fin 64) : out0_10 (F := Ideal) x0 x1 x2 x3 x4 x5 (ix3 h r d)
    = pk x0 x1 x2 (ix2 r (⟨h.val * 64 + d.val, by omega⟩ : Fin 1792)) := by
  unfold_out out0_10
  rw [l0, l1, l2]
  refine (Value.canon10_eq _ _ _ _).trans ?_
  show pk x0 x1 x2 (Value.ix10_0 (ix3 h r d)) = _
  refine congrArg (pk x0 x1 x2) ?_
  blk_ext [Value.ix10_0]

theorem out11 (r : Fin 1024) (d : Fin 64) : out0_11 (F := Ideal) x0 x1 x2 x3 x4 x5 (ix2 r d)
    = pk x0 x1 x2 (ix2 r (⟨128 + d.val, by omega⟩ : Fin 1792)) := by
  unfold_out out0_11
  rw [l0, l1, l2]
  refine (Value.canon11_eq _ _ _ _).trans ?_
  show pk x0 x1 x2 (Value.ix11_0 (ix2 r d)) = _
  refine congrArg (pk x0 x1 x2) ?_
  blk_ext [Value.ix11_0]

theorem out12 (r : Fin 1024) (d : Fin 512) : out0_12 (F := Ideal) x0 x1 x2 x3 x4 x5 (ix2 r d)
    = pk x0 x1 x2 (ix2 r (⟨256 + d.val, by omega⟩ : Fin 1792)) := by
  unfold_out out0_12
  rw [l0, l1, l2]
  refine (Value.canon12_eq _ _ _ _).trans ?_
  show pk x0 x1 x2 (Value.ix12_0 (ix2 r d)) = _
  refine congrArg (pk x0 x1 x2) ?_
  blk_ext [Value.ix12_0]

theorem out13 (r : Fin 1024) (d : Fin 512) : out0_13 (F := Ideal) x0 x1 x2 x3 x4 x5 (ix2 r d)
    = pk x0 x1 x2 (ix2 r (⟨768 + d.val, by omega⟩ : Fin 1792)) := by
  unfold_out out0_13
  rw [l0, l1, l2]
  refine (Value.canon13_eq _ _ _ _).trans ?_
  show pk x0 x1 x2 (Value.ix13_0 (ix2 r d)) = _
  refine congrArg (pk x0 x1 x2) ?_
  blk_ext [Value.ix13_0]

theorem out14 (r : Fin 1024) (d : Fin 512) : out0_14 (F := Ideal) x0 x1 x2 x3 x4 x5 (ix2 r d)
    = pk x0 x1 x2 (ix2 r (⟨1280 + d.val, by omega⟩ : Fin 1792)) := by
  unfold_out out0_14
  rw [l0, l1, l2]
  refine (Value.canon14_eq _ _ _ _).trans ?_
  show pk x0 x1 x2 (Value.ix14_0 (ix2 r d)) = _
  refine congrArg (pk x0 x1 x2) ?_
  blk_ext [Value.ix14_0]

/-- The values' block with its row of ones: sixty-four rows of the product, then the row of ones, then zeros. -/
def vb (h : Fin 2) (d : Fin 80) (r : Fin 1024) : EReal :=
  if hd : d.val < 64 then pt x0 x1 x3 (ix2 (⟨1024 + (h.val * 64 + d.val), by omega⟩ : Fin 1168) r) else if d.val = 64 then 1 else 0

theorem pay24_at (p : FVec Ideal S1168x1024 .f32) (u : Fin 1) (d : Fin 80) (r : Fin 1024) : k0_pay24 (F := Ideal) p (k0_pay23 (F := Ideal)) (ix3 u d r)
    = if hd : d.val < 64 then p (ix2 (⟨1024 + d.val, by omega⟩ : Fin 1168) r) else if d.val = 64 then 1 else 0 := by
  by_cases hd : d.val < 64
  · rw [dif_pos hd]
    pointwise [k0_pay24, k0_pay23, hd]
  · rw [dif_neg hd]
    pointwise [k0_pay24, k0_pay23, hd]
    obtain ⟨e, he⟩ : ∃ e : Fin 16, d.val - 64 = e.val := ⟨⟨d.val - 64, by omega⟩, rfl⟩
    rw [he, ones_s e]
    refine if_congr ?_ rfl rfl
    omega

theorem pay25_at (p : FVec Ideal S1168x1024 .f32) (u : Fin 1) (d : Fin 80) (r : Fin 1024) : k0_pay25 (F := Ideal) p (k0_pay23 (F := Ideal)) (ix3 u d r)
    = if hd : d.val < 64 then p (ix2 (⟨1088 + d.val, by omega⟩ : Fin 1168) r) else if d.val = 64 then 1 else 0 := by
  by_cases hd : d.val < 64
  · rw [dif_pos hd]
    pointwise [k0_pay25, k0_pay23, hd]
  · rw [dif_neg hd]
    pointwise [k0_pay25, k0_pay23, hd]
    obtain ⟨e, he⟩ : ∃ e : Fin 16, d.val - 64 = e.val := ⟨⟨d.val - 64, by omega⟩, rfl⟩
    rw [he, ones_s e]
    refine if_congr ?_ rfl rfl
    omega

theorem out8 (h : Fin 2) (d : Fin 80) (r : Fin 1024) : out0_8 (F := Ideal) x0 x1 x2 x3 x4 x5 (ix3 h d r) = vb x0 x1 x3 h d r := by
  unfold_out out0_8
  rw [l0, l1, l3]
  refine View.canon_apply_of_pieces (Val := Elt Ideal) (e := .bf16) (fun y : S2x80x1024.Idx => vb x0 x1 x3 (y 0) (y 1) (y 2)) _ ?_ _ (cover0_8 _ _ _)
  intro pc hpc
  rcases List.mem_cons.mp hpc with rfl | hpc
  · intro y
    idx_vars y
    have e : r0_12.emb (ix3 y0 y1 y2) = (ix3 (1 : Fin 2) y1 y2 : S2x80x1024.Idx) := by blk_ext
    rw [e]
    refine (pay25_at _ _ _ _).trans ?_
    show _ = vb x0 x1 x3 1 y1 y2
    unfold vb
    by_cases hd : y1.val < 64
    · rw [dif_pos hd, dif_pos hd, pay5]
      exact congrArg (pt x0 x1 x3) ((ix2_inj ..).2 ⟨Fin.ext (by simp; try omega), rfl⟩)
    · rw [dif_neg hd, dif_neg hd]
  rcases List.mem_cons.mp hpc with rfl | hpc
  · intro y
    idx_vars y
    have e : r0_11.emb (ix3 y0 y1 y2) = (ix3 (0 : Fin 2) y1 y2 : S2x80x1024.Idx) := by blk_ext
    rw [e]
    refine (pay24_at _ _ _ _).trans ?_
    show _ = vb x0 x1 x3 0 y1 y2
    unfold vb
    by_cases hd : y1.val < 64
    · rw [dif_pos hd, dif_pos hd, pay5]
      exact congrArg (pt x0 x1 x3) ((ix2_inj ..).2 ⟨Fin.ext (by simp; try omega), rfl⟩)
    · rw [dif_neg hd, dif_neg hd]
  nomatch hpc

/-- The gate's argument. -/
def zb : FVec Ideal S1024x256 .f32 :=
  addf (matmul (F := Ideal) (φ₁ := .f32) (φ₂ := .f32) dot_S1024x128_S128x256_S1024x256_1_0_0_1_n_n (some .fp32)
    (extractStridedSlice S1024x128 ![0, 128] (pk x0 x1 x2) slices_S1024x1792_o0_128_S1024x128)
    (shapeCast S128x256 x4 shapeCasts_S128x256_S128x256) (constant (F := Ideal) S1024x256 .f32 0x00000000#32))
    (broadcastTo S1024x256 (shapeCast S1x256 x5 shapeCasts_S1x256_S1x256) broadcasts_S1x256_S1024x256)

theorem zb_at (r : Fin 1024) (l : Fin 256) : zb x0 x1 x2 x4 x5 (ix2 r l)
    = (∑ k : Fin 128, pk x0 x1 x2 (ix2 r ⟨128 + k.val, by omega⟩) * x4 (ix2 k l)) + x5 (ix2 0 l) := by
  pointwise [zb]

/-- The gate's logarithm, from its argument. -/
def lab (z : FVec Ideal S1024x256 .f32) : FVec Ideal S1024x256 .f32 :=
  mulf (subf (minimumf z (broadcast S1024x256 (Scalar.ofBits (F := Ideal) .f32 0x00000000#32)))
    (log1p (exp (subf (broadcast S1024x256 (Scalar.ofBits (F := Ideal) .f32 0x00000000#32)) (absf z)))))
    (broadcast S1024x256 (Scalar.ofBits (F := Ideal) .f32 0x3D800000#32))

theorem lab_at (z : FVec Ideal S1024x256 .f32) (r : Fin 1024) (l : Fin 256) : lab z (ix2 r l) = gateKer (z (ix2 r l)) := by
  pointwise [lab, gateKer]
  rfl

theorem out15 : out0_15 (F := Ideal) x0 x1 x2 x3 x4 x5 = lab (zb x0 x1 x2 x4 x5) := by
  unfold_out out0_15
  rw [View.canon_unit_zero hz, l0, l1, l2, l4, l5]
  rfl

end Cert.InprojIdeal.Block

end
-- ==== Proof.InprojValue.lean ====
/-
  The input projections: the kernel's ten results and the reference's are the same functions of the arguments, entry by
  entry. Point `t` of the grid computes rows `1024 t` to `1024 t + 1023` of every result.
-/
module

public import proofs.«01_k».proof.Defs
public import proofs.«01_k».proof.Proof.InprojBlock
public import proofs.«01_k».proof.Proof.InprojOut
public import Idealize.ShloMosaic.Lib.Claim

@[expose] public section

set_option maxRecDepth 16384

noncomputable section

open Idealize.ShloMosaic Idealize.ShloMosaic.TcCoe Idealize.SL.Sem

open Idealize.ShloMosaic.Pipeline (Dat)

namespace Cert.InprojIdeal.Rows

open Cert.InprojIdeal Cert.InprojIdeal.Gen Cert.Layer

theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![0, 0, t.val] ∧ win0_7.index t = ![0, 0, t.val] ∧ win0_8.index t = ![0, 0, t.val] ∧ win0_9.index t = ![0, t.val] ∧ win0_10.index t = ![0, t.val, 0] ∧ win0_11.index t = ![t.val, 0] ∧ win0_12.index t = ![t.val, 0] ∧ win0_13.index t = ![t.val, 0] ∧ win0_14.index t = ![t.val, 0] ∧ win0_15.index t = ![t.val, 0] :=
  (by decide +kernel : ∀ t : Fin grid0.N, win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![0, 0, t.val] ∧ win0_7.index t = ![0, 0, t.val] ∧ win0_8.index t = ![0, 0, t.val] ∧ win0_9.index t = ![0, t.val] ∧ win0_10.index t = ![0, t.val, 0] ∧ win0_11.index t = ![t.val, 0] ∧ win0_12.index t = ![t.val, 0] ∧ win0_13.index t = ![t.val, 0] ∧ win0_14.index t = ![t.val, 0] ∧ win0_15.index t = ![t.val, 0])

variable (m : (ℓ : Loc nD τ sig) → Buf (Elt Ideal) ℓ)

section
variable (c : Dev nD) (t : Fin cfg0.N)

theorem b0 (r : Fin 1024) (R : Fin 65536) (hR : R.val = t.val * 1024 + r.val) (k : Fin 1024) :
    (show FVec Ideal S1024x1024 .f32 from iblk m c 0 t) (ix2 r k)
      = (show FVec Ideal S65536x1024 .f32 from m ((c : Thread nD τ).loc main_arg0)) (ix2 R k) := by blk_ext [iblk, V, idx t, hR]
theorem row1024 (g : FVec Ideal S1024 .f32) (k : Fin 1024) : shapeCast S1x1024 g shapeCasts_S1024_S1x1024 (ix2 0 k) = g (ix1 k) := by pointwise
theorem row256 (g : FVec Ideal S256 .f32) (k : Fin 256) : shapeCast S1x256 g shapeCasts_S256_S1x256 (ix2 0 k) = g (ix1 k) := by pointwise
theorem b1 (k : Fin 1024) : (show FVec Ideal S1x1024 .f32 from iblk m c 1 t) (ix2 0 k)
    = (show FVec Ideal S1024 .f32 from m ((c : Thread nD τ).loc main_arg1)) (ix1 k) := by
  have e : (show FVec Ideal S1x1024 .f32 from iblk m c 1 t) (ix2 0 k) = (show FVec Ideal S1x1024 .f32 from V m c main_v28) (ix2 0 k) := by
    blk_ext [iblk, idx t]
  rw [e, V_v28]
  exact row1024 _ k
theorem b2 (i : Fin 1024) (j : Fin 1792) : (show FVec Ideal S1024x1792 .bf16 from iblk m c 2 t) (ix2 i j)
    = tok (m ((c : Thread nD τ).loc main_arg2)) (ix2 i j) := by
  have e : (show FVec Ideal S1024x1792 .bf16 from iblk m c 2 t) (ix2 i j) = (show FVec Ideal S1024x1792 .bf16 from V m c main_v23) (ix2 i j) := by
    blk_ext [iblk, idx t]
  rw [e, V_v23]
theorem b3 (i : Fin 1168) (j : Fin 1024) : (show FVec Ideal S1168x1024 .bf16 from iblk m c 3 t) (ix2 i j)
    = tr (m ((c : Thread nD τ).loc main_arg2)) (ix2 i j) := by
  have e : (show FVec Ideal S1168x1024 .bf16 from iblk m c 3 t) (ix2 i j) = (show FVec Ideal S1168x1024 .bf16 from V m c main_v24) (ix2 i j) := by
    blk_ext [iblk, idx t]
  rw [e, V_v24]
theorem b4 (i : Fin 128) (j : Fin 256) : (show FVec Ideal S128x256 .f32 from iblk m c 4 t) (ix2 i j)
    = wa (m ((c : Thread nD τ).loc main_arg3)) (ix2 i j) := by
  have e : (show FVec Ideal S128x256 .f32 from iblk m c 4 t) (ix2 i j) = (show FVec Ideal S128x256 .f32 from V m c main_v27) (ix2 i j) := by
    blk_ext [iblk, idx t]
  rw [e, V_v27]
theorem b5 (k : Fin 256) : (show FVec Ideal S1x256 .f32 from iblk m c 5 t) (ix2 0 k)
    = (show FVec Ideal S256 .f32 from m ((c : Thread nD τ).loc main_arg4)) (ix1 k) := by
  have e : (show FVec Ideal S1x256 .f32 from iblk m c 5 t) (ix2 0 k) = (show FVec Ideal S1x256 .f32 from V m c main_v29) (ix2 0 k) := by
    blk_ext [iblk, idx t]
  rw [e, V_v29]
  exact row256 _ k

theorem pt_row (r : Fin 1024) (R : Fin 65536) (hR : R.val = t.val * 1024 + r.val) (j : Fin 1168) : Block.pt (iblk m c 0 t) (iblk m c 1 t) (iblk m c 3 t) (ix2 j r)
    = prj (fun k => (show FVec Ideal S65536x1024 .f32 from m ((c : Thread nD τ).loc main_arg0)) (ix2 R k))
        (fun k => (show FVec Ideal S1024 .f32 from m ((c : Thread nD τ).loc main_arg1)) (ix1 k))
        (fun k => tr (m ((c : Thread nD τ).loc main_arg2)) (ix2 j k)) := by
  rw [← funext (b0 m c t r R hR), ← funext (b1 m c t), ← (funext fun k => b3 m c t j k)]
  exact Block.pt_at _ _ _ _ _

theorem pt_eq (r : Fin 1024) (R : Fin 65536) (hR : R.val = t.val * 1024 + r.val) (j : Fin 1168) (J : Fin 2904)
    (h : ∀ k, tr (m ((c : Thread nD τ).loc main_arg2)) (ix2 j k) = (show FVec Ideal S1024x2904 .f32 from m ((c : Thread nD τ).loc main_arg2)) (ix2 k J)) :
    Block.pt (iblk m c 0 t) (iblk m c 1 t) (iblk m c 3 t) (ix2 j r) = (InprojRefIdeal.Rows.P (m ((c : Thread nD τ).loc main_arg0)) (m ((c : Thread nD τ).loc main_arg1)) (m ((c : Thread nD τ).loc main_arg2))) (ix2 R J) := by
  rw [pt_row m c t r R hR j, funext h]
  exact (InprojRefIdeal.Rows.P_at _ _ _ _ _).symm

theorem pt_scaled (r : Fin 1024) (R : Fin 65536) (hR : R.val = t.val * 1024 + r.val) (j : Fin 1168) (J : Fin 2904)
    (h : ∀ k, tr (m ((c : Thread nD τ).loc main_arg2)) (ix2 j k) = (show FVec Ideal S1024x2904 .f32 from m ((c : Thread nD τ).loc main_arg2)) (ix2 k J) * s8) :
    Block.pt (iblk m c 0 t) (iblk m c 1 t) (iblk m c 3 t) (ix2 j r) = (InprojRefIdeal.Rows.P (m ((c : Thread nD τ).loc main_arg0)) (m ((c : Thread nD τ).loc main_arg1)) (m ((c : Thread nD τ).loc main_arg2))) (ix2 R J) * s8 := by
  rw [pt_row m c t r R hR j, funext h, prj_s8]
  exact congrArg (· * s8) (InprojRefIdeal.Rows.P_at _ _ _ _ _).symm

theorem pk_row (r : Fin 1024) (R : Fin 65536) (hR : R.val = t.val * 1024 + r.val) (j : Fin 1792) : Block.pk (iblk m c 0 t) (iblk m c 1 t) (iblk m c 2 t) (ix2 r j)
    = prj (fun k => (show FVec Ideal S65536x1024 .f32 from m ((c : Thread nD τ).loc main_arg0)) (ix2 R k))
        (fun k => (show FVec Ideal S1024 .f32 from m ((c : Thread nD τ).loc main_arg1)) (ix1 k))
        (fun k => tok (m ((c : Thread nD τ).loc main_arg2)) (ix2 k j)) := by
  rw [← funext (b0 m c t r R hR), ← funext (b1 m c t), ← (funext fun k => b2 m c t k j)]
  exact Block.pk_at _ _ _ _ _

theorem pk_eq (r : Fin 1024) (R : Fin 65536) (hR : R.val = t.val * 1024 + r.val) (j : Fin 1792) (J : Fin 2904)
    (h : ∀ k, tok (m ((c : Thread nD τ).loc main_arg2)) (ix2 k j) = (show FVec Ideal S1024x2904 .f32 from m ((c : Thread nD τ).loc main_arg2)) (ix2 k J)) :
    Block.pk (iblk m c 0 t) (iblk m c 1 t) (iblk m c 2 t) (ix2 r j) = (InprojRefIdeal.Rows.P (m ((c : Thread nD τ).loc main_arg0)) (m ((c : Thread nD τ).loc main_arg1)) (m ((c : Thread nD τ).loc main_arg2))) (ix2 R J) := by
  rw [pk_row m c t r R hR j, funext h]
  exact (InprojRefIdeal.Rows.P_at _ _ _ _ _).symm

theorem pk_scaled (r : Fin 1024) (R : Fin 65536) (hR : R.val = t.val * 1024 + r.val) (j : Fin 1792) (J : Fin 2904)
    (h : ∀ k, tok (m ((c : Thread nD τ).loc main_arg2)) (ix2 k j) = (show FVec Ideal S1024x2904 .f32 from m ((c : Thread nD τ).loc main_arg2)) (ix2 k J) * s8) :
    Block.pk (iblk m c 0 t) (iblk m c 1 t) (iblk m c 2 t) (ix2 r j) = (InprojRefIdeal.Rows.P (m ((c : Thread nD τ).loc main_arg0)) (m ((c : Thread nD τ).loc main_arg1)) (m ((c : Thread nD τ).loc main_arg2))) (ix2 R J) * s8 := by
  rw [pk_row m c t r R hR j, funext h, prj_s8]
  exact congrArg (· * s8) (InprojRefIdeal.Rows.P_at _ _ _ _ _).symm

/-- The gate's argument. -/
theorem z_eq (r : Fin 1024) (R : Fin 65536) (hR : R.val = t.val * 1024 + r.val) (l : Fin 256) :
    Block.zb (iblk m c 0 t) (iblk m c 1 t) (iblk m c 2 t) (iblk m c 4 t) (iblk m c 5 t) (ix2 r l)
      = InprojRefIdeal.Rows.za (InprojRefIdeal.Rows.P (m ((c : Thread nD τ).loc main_arg0)) (m ((c : Thread nD τ).loc main_arg1)) (m ((c : Thread nD τ).loc main_arg2))) (m ((c : Thread nD τ).loc main_arg3)) (m ((c : Thread nD τ).loc main_arg4)) (ix2 R l) := by
  refine (Block.zb_at _ _ _ _ _ _ _).trans ?_
  rw [InprojRefIdeal.Rows.za_at]
  refine congrArg₂ (· + ·) ?_ (b5 m c t l)
  refine (Finset.sum_congr rfl fun k _ => congrArg _ (b4 m c t k l)).trans ?_
  refine (lanes _ _ _ (fun k hk => wa_miss _ k l hk) (fun i => wa_hit _ i l)).trans ?_
  refine Finset.sum_congr rfl fun i _ => congrArg (· * _) ?_
  exact pk_eq m c t r R hR _ _ fun k => tok_z _ _ _ (by show 200 ≤ 128 + (72 + i.val); omega) (by show 128 + (72 + i.val) < 216; omega) _
    (by show 2376 + i.val = 2376 + (128 + (72 + i.val) - 200); omega)

end

theorem final6 (c : Dev nD) : (dats m 0 c).arrAt 6 (cfgs 0).N = InprojRefIdeal.Rows.q (InprojRefIdeal.Rows.P (m ((c : Thread nD τ).loc main_arg0)) (m ((c : Thread nD τ).loc main_arg1)) (m ((c : Thread nD τ).loc main_arg2))) := by
  refine (dats m 0 c).arrAt_eq_of_covers 6 _ (by decide +kernel) fun t _ y => ?_
  blk_simp
  rw [after0_6]
  have ht : t.val < 64 := Nat.lt_of_lt_of_eq t.isLt N_0
  have h0 : (y 0).val < 8 := (y 0).isLt
  have h1 : (y 1).val < 64 := (y 1).isLt
  have h2 : (y 2).val < 1024 := (y 2).isLt
  have ey : y = (ix3 (⟨(y 0).val, h0⟩ : Fin 8) (⟨(y 1).val, h1⟩ : Fin 64) (⟨(y 2).val, h2⟩ : Fin 1024)) := by blk_ext
  have ee : ((cfg0.win 6).blk t).view.emb y = (ix3 (⟨(y 0).val, h0⟩ : Fin 8) (⟨(y 1).val, h1⟩ : Fin 64) (⟨t.val * 1024 + (y 2).val, by omega⟩ : Fin 65536)) := by blk_ext [idx t]
  rw [ee]
  refine (congrArg _ ey).trans ?_
  refine (Block.out6 _ _ _ _ _ _ _ _ _).trans ?_
  refine Eq.trans ?_ (InprojRefIdeal.Rows.q_at _ _ _ _ ⟨(y 0).val * 64 + (y 1).val, by omega⟩ rfl).symm
  exact pt_scaled m c t _ _ rfl _ _ fun k => tr_q _ _ _ (by show _ ≤ (y 0).val * 64 + (y 1).val; omega) (by show (y 0).val * 64 + (y 1).val < _; omega) _ (by show (y 0).val * 64 + (y 1).val = _; simp only []; try omega)

theorem final7 (c : Dev nD) : (dats m 0 c).arrAt 7 (cfgs 0).N = InprojRefIdeal.Rows.qi (InprojRefIdeal.Rows.P (m ((c : Thread nD τ).loc main_arg0)) (m ((c : Thread nD τ).loc main_arg1)) (m ((c : Thread nD τ).loc main_arg2))) := by
  refine (dats m 0 c).arrAt_eq_of_covers 7 _ (by decide +kernel) fun t _ y => ?_
  blk_simp
  rw [after0_7]
  have ht : t.val < 64 := Nat.lt_of_lt_of_eq t.isLt N_0
  have h0 : (y 0).val < 8 := (y 0).isLt
  have h1 : (y 1).val < 64 := (y 1).isLt
  have h2 : (y 2).val < 1024 := (y 2).isLt
  have ey : y = (ix3 (⟨(y 0).val, h0⟩ : Fin 8) (⟨(y 1).val, h1⟩ : Fin 64) (⟨(y 2).val, h2⟩ : Fin 1024)) := by blk_ext
  have ee : ((cfg0.win 7).blk t).view.emb y = (ix3 (⟨(y 0).val, h0⟩ : Fin 8) (⟨(y 1).val, h1⟩ : Fin 64) (⟨t.val * 1024 + (y 2).val, by omega⟩ : Fin 65536)) := by blk_ext [idx t]
  rw [ee]
  refine (congrArg _ ey).trans ?_
  refine (Block.out7 _ _ _ _ _ _ _ _ _).trans ?_
  refine Eq.trans ?_ (InprojRefIdeal.Rows.qi_at _ _ _ _ ⟨768 + ((y 0).val * 64 + (y 1).val), by omega⟩ rfl).symm
  exact pt_scaled m c t _ _ rfl _ _ fun k => tr_qi _ _ _ (by show _ ≤ 512 + ((y 0).val * 64 + (y 1).val); omega) (by show 512 + ((y 0).val * 64 + (y 1).val) < _; omega) _ (by show 768 + ((y 0).val * 64 + (y 1).val) = _; simp only []; try omega)

theorem final8 (c : Dev nD) : (dats m 0 c).arrAt 8 (cfgs 0).N = InprojRefIdeal.Rows.v (InprojRefIdeal.Rows.P (m ((c : Thread nD τ).loc main_arg0)) (m ((c : Thread nD τ).loc main_arg1)) (m ((c : Thread nD τ).loc main_arg2))) := by
  refine (dats m 0 c).arrAt_eq_of_covers 8 _ (by decide +kernel) fun t _ y => ?_
  blk_simp
  rw [after0_8]
  have ht : t.val < 64 := Nat.lt_of_lt_of_eq t.isLt N_0
  have h0 : (y 0).val < 2 := (y 0).isLt
  have h1 : (y 1).val < 80 := (y 1).isLt
  have h2 : (y 2).val < 1024 := (y 2).isLt
  have ey : y = (ix3 (⟨(y 0).val, h0⟩ : Fin 2) (⟨(y 1).val, h1⟩ : Fin 80) (⟨(y 2).val, h2⟩ : Fin 1024)) := by blk_ext
  have ee : ((cfg0.win 8).blk t).view.emb y = (ix3 (⟨(y 0).val, h0⟩ : Fin 2) (⟨(y 1).val, h1⟩ : Fin 80) (⟨t.val * 1024 + (y 2).val, by omega⟩ : Fin 65536)) := by blk_ext [idx t]
  rw [ee]
  refine (congrArg _ ey).trans ?_
  refine (Block.out8 _ _ _ _ _ _ _ _ _).trans ?_
  unfold Block.vb
  by_cases hd : (y 1).val < 64
  · rw [dif_pos hd]
    refine Eq.trans ?_ (InprojRefIdeal.Rows.v_at _ _ _ _ hd ⟨640 + ((y 0).val * 64 + (y 1).val), by omega⟩ rfl).symm
    exact pt_eq m c t _ _ rfl _ _ fun k => tr_v _ _ _ (by show _ ≤ 1024 + ((y 0).val * 64 + (y 1).val); omega)
      (by show 1024 + ((y 0).val * 64 + (y 1).val) < _; omega) _ (by show 640 + ((y 0).val * 64 + (y 1).val) = _; simp only []; try omega)
  · rw [dif_neg hd]
    exact (InprojRefIdeal.Rows.v_ones _ _ _ _ hd).symm

theorem final9 (c : Dev nD) : (dats m 0 c).arrAt 9 (cfgs 0).N = InprojRefIdeal.Rows.wh (InprojRefIdeal.Rows.P (m ((c : Thread nD τ).loc main_arg0)) (m ((c : Thread nD τ).loc main_arg1)) (m ((c : Thread nD τ).loc main_arg2))) := by
  refine (dats m 0 c).arrAt_eq_of_covers 9 _ (by decide +kernel) fun t _ y => ?_
  blk_simp
  rw [after0_9]
  have ht : t.val < 64 := Nat.lt_of_lt_of_eq t.isLt N_0
  have h0 : (y 0).val < 8 := (y 0).isLt
  have h1 : (y 1).val < 1024 := (y 1).isLt
  have ey : y = (ix2 (⟨(y 0).val, h0⟩ : Fin 8) (⟨(y 1).val, h1⟩ : Fin 1024)) := by blk_ext
  have ee : ((cfg0.win 9).blk t).view.emb y = (ix2 (⟨(y 0).val, h0⟩ : Fin 8) (⟨t.val * 1024 + (y 1).val, by omega⟩ : Fin 65536)) := by blk_ext [idx t]
  rw [ee]
  refine (congrArg _ ey).trans ?_
  refine (Block.out9 _ _ _ _ _ _ _ _).trans ?_
  refine Eq.trans ?_ (InprojRefIdeal.Rows.wh_at _ _ _ ⟨1344 + (y 0).val, by omega⟩ rfl).symm
  refine congrArg (· * sh) ?_
  exact pt_eq m c t _ _ rfl _ _ fun k => tr_w _ _ _ (by show _ ≤ 1152 + (y 0).val; omega) (by show 1152 + (y 0).val < _; omega) _ (by show 1344 + (y 0).val = _; simp only []; try omega)

theorem final10 (c : Dev nD) : (dats m 0 c).arrAt 10 (cfgs 0).N = InprojRefIdeal.Rows.k (InprojRefIdeal.Rows.P (m ((c : Thread nD τ).loc main_arg0)) (m ((c : Thread nD τ).loc main_arg1)) (m ((c : Thread nD τ).loc main_arg2))) := by
  refine (dats m 0 c).arrAt_eq_of_covers 10 _ (by decide +kernel) fun t _ y => ?_
  blk_simp
  rw [after0_10]
  have ht : t.val < 64 := Nat.lt_of_lt_of_eq t.isLt N_0
  have h0 : (y 0).val < 2 := (y 0).isLt
  have h1 : (y 1).val < 1024 := (y 1).isLt
  have h2 : (y 2).val < 64 := (y 2).isLt
  have ey : y = (ix3 (⟨(y 0).val, h0⟩ : Fin 2) (⟨(y 1).val, h1⟩ : Fin 1024) (⟨(y 2).val, h2⟩ : Fin 64)) := by blk_ext
  have ee : ((cfg0.win 10).blk t).view.emb y = (ix3 (⟨(y 0).val, h0⟩ : Fin 2) (⟨t.val * 1024 + (y 1).val, by omega⟩ : Fin 65536) (⟨(y 2).val, h2⟩ : Fin 64)) := by blk_ext [idx t]
  rw [ee]
  refine (congrArg _ ey).trans ?_
  refine (Block.out10 _ _ _ _ _ _ _ _ _).trans ?_
  refine Eq.trans ?_ (InprojRefIdeal.Rows.k_at _ _ _ _ ⟨512 + ((y 0).val * 64 + (y 2).val), by omega⟩ rfl).symm
  exact pk_eq m c t _ _ rfl _ _ fun k => tok_k _ _ _ (by show _ ≤ (y 0).val * 64 + (y 2).val; omega) (by show (y 0).val * 64 + (y 2).val < _; omega) _ (by show 512 + ((y 0).val * 64 + (y 2).val) = _; simp only []; try omega)

theorem final11 (c : Dev nD) : (dats m 0 c).arrAt 11 (cfgs 0).N = InprojRefIdeal.Rows.ki (InprojRefIdeal.Rows.P (m ((c : Thread nD τ).loc main_arg0)) (m ((c : Thread nD τ).loc main_arg1)) (m ((c : Thread nD τ).loc main_arg2))) := by
  refine (dats m 0 c).arrAt_eq_of_covers 11 _ (by decide +kernel) fun t _ y => ?_
  blk_simp
  rw [after0_11]
  have ht : t.val < 64 := Nat.lt_of_lt_of_eq t.isLt N_0
  have h0 : (y 0).val < 1024 := (y 0).isLt
  have h1 : (y 1).val < 64 := (y 1).isLt
  have ey : y = (ix2 (⟨(y 0).val, h0⟩ : Fin 1024) (⟨(y 1).val, h1⟩ : Fin 64)) := by blk_ext
  have ee : ((cfg0.win 11).blk t).view.emb y = (ix2 (⟨t.val * 1024 + (y 0).val, by omega⟩ : Fin 65536) (⟨(y 1).val, h1⟩ : Fin 64)) := by blk_ext [idx t]
  rw [ee]
  refine (congrArg _ ey).trans ?_
  refine (Block.out11 _ _ _ _ _ _ _ _).trans ?_
  refine Eq.trans ?_ (InprojRefIdeal.Rows.ki_at _ _ _ ⟨1280 + (y 1).val, by omega⟩ rfl).symm
  exact pk_eq m c t _ _ rfl _ _ fun k => tok_ki _ _ _ (by show _ ≤ 128 + (y 1).val; omega) (by show 128 + (y 1).val < _; omega) _ (by show 1280 + (y 1).val = _; simp only []; try omega)

theorem final12 (c : Dev nD) : (dats m 0 c).arrAt 12 (cfgs 0).N = InprojRefIdeal.Rows.qk (InprojRefIdeal.Rows.P (m ((c : Thread nD τ).loc main_arg0)) (m ((c : Thread nD τ).loc main_arg1)) (m ((c : Thread nD τ).loc main_arg2))) := by
  refine (dats m 0 c).arrAt_eq_of_covers 12 _ (by decide +kernel) fun t _ y => ?_
  blk_simp
  rw [after0_12]
  have ht : t.val < 64 := Nat.lt_of_lt_of_eq t.isLt N_0
  have h0 : (y 0).val < 1024 := (y 0).isLt
  have h1 : (y 1).val < 512 := (y 1).isLt
  have ey : y = (ix2 (⟨(y 0).val, h0⟩ : Fin 1024) (⟨(y 1).val, h1⟩ : Fin 512)) := by blk_ext
  have ee : ((cfg0.win 12).blk t).view.emb y = (ix2 (⟨t.val * 1024 + (y 0).val, by omega⟩ : Fin 65536) (⟨(y 1).val, h1⟩ : Fin 512)) := by blk_ext [idx t]
  rw [ee]
  refine (congrArg _ ey).trans ?_
  refine (Block.out12 _ _ _ _ _ _ _ _).trans ?_
  by_cases hd : (y 1).val < 256
  · refine Eq.trans ?_ (InprojRefIdeal.Rows.qk_q _ _ _ hd ⟨1352 + (y 1).val, by omega⟩ rfl).symm
    exact pk_scaled m c t _ _ rfl _ _ fun k => tok_q _ _ _ (by show _ ≤ 256 + (y 1).val; omega)
      (by show 256 + (y 1).val < _; omega) _ (by show 1352 + (y 1).val = _; simp only []; try omega)
  · refine Eq.trans ?_ (InprojRefIdeal.Rows.qk_k _ _ _ hd ⟨1608 + ((y 1).val - 256), by omega⟩ rfl).symm
    exact pk_eq m c t _ _ rfl _ _ fun k => tok_kg _ _ _ (by show _ ≤ 256 + (y 1).val; omega)
      (by show 256 + (y 1).val < _; omega) _ (by show 1608 + ((y 1).val - 256) = _; simp only []; try omega)

theorem final13 (c : Dev nD) : (dats m 0 c).arrAt 13 (cfgs 0).N = InprojRefIdeal.Rows.vg (InprojRefIdeal.Rows.P (m ((c : Thread nD τ).loc main_arg0)) (m ((c : Thread nD τ).loc main_arg1)) (m ((c : Thread nD τ).loc main_arg2))) := by
  refine (dats m 0 c).arrAt_eq_of_covers 13 _ (by decide +kernel) fun t _ y => ?_
  blk_simp
  rw [after0_13]
  have ht : t.val < 64 := Nat.lt_of_lt_of_eq t.isLt N_0
  have h0 : (y 0).val < 1024 := (y 0).isLt
  have h1 : (y 1).val < 512 := (y 1).isLt
  have ey : y = (ix2 (⟨(y 0).val, h0⟩ : Fin 1024) (⟨(y 1).val, h1⟩ : Fin 512)) := by blk_ext
  have ee : ((cfg0.win 13).blk t).view.emb y = (ix2 (⟨t.val * 1024 + (y 0).val, by omega⟩ : Fin 65536) (⟨(y 1).val, h1⟩ : Fin 512)) := by blk_ext [idx t]
  rw [ee]
  refine (congrArg _ ey).trans ?_
  refine (Block.out13 _ _ _ _ _ _ _ _).trans ?_
  refine Eq.trans ?_ (InprojRefIdeal.Rows.vg_at _ _ _ ⟨1864 + (y 1).val, by omega⟩ rfl).symm
  exact pk_eq m c t _ _ rfl _ _ fun k => tok_v _ _ _ (by show _ ≤ 768 + (y 1).val; omega) (by show 768 + (y 1).val < _; omega) _ (by show 1864 + (y 1).val = _; simp only []; try omega)

theorem final14 (c : Dev nD) : (dats m 0 c).arrAt 14 (cfgs 0).N = InprojRefIdeal.Rows.og (InprojRefIdeal.Rows.P (m ((c : Thread nD τ).loc main_arg0)) (m ((c : Thread nD τ).loc main_arg1)) (m ((c : Thread nD τ).loc main_arg2))) := by
  refine (dats m 0 c).arrAt_eq_of_covers 14 _ (by decide +kernel) fun t _ y => ?_
  blk_simp
  rw [after0_14]
  have ht : t.val < 64 := Nat.lt_of_lt_of_eq t.isLt N_0
  have h0 : (y 0).val < 1024 := (y 0).isLt
  have h1 : (y 1).val < 512 := (y 1).isLt
  have ey : y = (ix2 (⟨(y 0).val, h0⟩ : Fin 1024) (⟨(y 1).val, h1⟩ : Fin 512)) := by blk_ext
  have ee : ((cfg0.win 14).blk t).view.emb y = (ix2 (⟨t.val * 1024 + (y 0).val, by omega⟩ : Fin 65536) (⟨(y 1).val, h1⟩ : Fin 512)) := by blk_ext [idx t]
  rw [ee]
  refine (congrArg _ ey).trans ?_
  refine (Block.out14 _ _ _ _ _ _ _ _).trans ?_
  refine Eq.trans ?_ (InprojRefIdeal.Rows.og_at _ _ _ ⟨2392 + (y 1).val, by omega⟩ rfl).symm
  exact pk_eq m c t _ _ rfl _ _ fun k => tok_o _ _ _ (by show _ ≤ 1280 + (y 1).val; omega) (by show 1280 + (y 1).val < _; omega) _ (by show 2392 + (y 1).val = _; simp only []; try omega)

theorem final15 (c : Dev nD) : (dats m 0 c).arrAt 15 (cfgs 0).N = InprojRefIdeal.Rows.la (InprojRefIdeal.Rows.za (InprojRefIdeal.Rows.P (m ((c : Thread nD τ).loc main_arg0)) (m ((c : Thread nD τ).loc main_arg1)) (m ((c : Thread nD τ).loc main_arg2))) (m ((c : Thread nD τ).loc main_arg3)) (m ((c : Thread nD τ).loc main_arg4))) := by
  refine (dats m 0 c).arrAt_eq_of_covers 15 _ (by decide +kernel) fun t _ y => ?_
  blk_simp
  rw [after0_15]
  have ht : t.val < 64 := Nat.lt_of_lt_of_eq t.isLt N_0
  have h0 : (y 0).val < 1024 := (y 0).isLt
  have h1 : (y 1).val < 256 := (y 1).isLt
  have ey : y = (ix2 (⟨(y 0).val, h0⟩ : Fin 1024) (⟨(y 1).val, h1⟩ : Fin 256)) := by blk_ext
  have ee : ((cfg0.win 15).blk t).view.emb y = (ix2 (⟨t.val * 1024 + (y 0).val, by omega⟩ : Fin 65536) (⟨(y 1).val, h1⟩ : Fin 256)) := by blk_ext [idx t]
  rw [ee]
  refine (congrArg _ ey).trans ?_
  refine (congrFun (Block.out15 _ _ _ _ _ _) _).trans ((Block.lab_at _ _ _).trans ?_)
  rw [gate_eq]
  refine Eq.trans ?_ (InprojRefIdeal.Rows.la_at _ _ _).symm
  exact congrArg gateRef (z_eq m c t _ _ rfl _)

end Cert.InprojIdeal.Rows

/-! ## The claims -/

namespace Cert.Proof.Inproj

theorem frame_r : Cert.quiescent_InprojRefIdeal := fun m ρ _ =>
  (θ_run Cert.InprojRefIdeal.defs _ _).mono (fun r h => ⟨fun c => (h c).2.2.2.2.2.2.2.2.2.2, Idealize.ShloMosaic.sem_eq_zero_of_no_sems (by decide) r.2⟩)
    (Cert.InprojRefIdeal.Value.run (F := Ideal) m ρ)

set_option maxHeartbeats 4000000 in
/-- At the ideal values the call's ten results are the reference's. -/
theorem algebraic : Cert.algebraic_InprojIdeal_InprojRefIdeal := by
  pair_intro
  · run_from Cert.InprojIdeal.Value.run_blocks m g
  · run_from Cert.InprojRefIdeal.Value.run m' g'
    · exact (Cert.InprojIdeal.Rows.final6 m c).symm
    · exact (Cert.InprojIdeal.Rows.final7 m c).symm
    · exact (Cert.InprojIdeal.Rows.final8 m c).symm
    · exact (Cert.InprojIdeal.Rows.final9 m c).symm
    · exact (Cert.InprojIdeal.Rows.final10 m c).symm
    · exact (Cert.InprojIdeal.Rows.final11 m c).symm
    · exact (Cert.InprojIdeal.Rows.final12 m c).symm
    · exact (Cert.InprojIdeal.Rows.final13 m c).symm
    · exact (Cert.InprojIdeal.Rows.final14 m c).symm
    · refine (Cert.InprojRefIdeal.Rows.res_eq m' c).trans ?_
      obtain ⟨h0, h1, h2, h3, h4⟩ := hagree c
      rw [h0, h1, h2, h3, h4]
      exact (Cert.InprojIdeal.Rows.final15 m c).symm

end Cert.Proof.Inproj

end
-- ==== Proof.GlaBlock.lean ====
/-
  Gated linear attention, one chunk of sixty-four rows: what the kernel computes of it, as functions on blocks and entry
  by entry over the extended reals.
-/
module

public import proofs.«01_k».proof.Proof.Gen.GlaIdeal.Frame
public import Idealize.ShloMosaic.Lib.Pipeline.ValueKit
public import Idealize.ShloMosaic.Lib.Pointwise
public import Idealize.ShloMosaic.Lib.KernelVsHost

@[expose] public section

set_option maxRecDepth 16384

noncomputable section

open Idealize.ShloMosaic Idealize.ShloMosaic.TcCoe Idealize.SL.Sem

/-! ## One chunk over the extended reals -/

namespace Cert.Layer.Gla

/-- The sum of a column's first entries, up to and with row `r`. -/
def pre (f : Fin 64 → EReal) (r : ℕ) : EReal := ∑ i : Fin 64, if i.val ≤ r then f i else 0

/-- The sum of the `s` entries that end with row `r`. -/
def win (f : Fin 64 → EReal) (s r : ℕ) : EReal := ∑ i : Fin 64, if i.val ≤ r ∧ r < i.val + s then f i else 0

theorem win_one (f : Fin 64 → EReal) (r : Fin 64) : win f 1 r.val = f r := by
  unfold win
  rw [Finset.sum_eq_single r]
  · rw [if_pos ⟨Nat.le_refl _, by omega⟩]
  · intro i _ hi
    refine if_neg fun h => hi (Fin.ext ?_)
    omega
  · intro h; exact absurd (Finset.mem_univ r) h

theorem win_add (f : Fin 64 → EReal) (s r : ℕ) (h : s ≤ r) : win f s r + win f s (r - s) = win f (2 * s) r := by
  unfold win
  rw [← Finset.sum_add_distrib]
  refine Finset.sum_congr rfl fun i _ => ?_
  by_cases h1 : i.val ≤ r ∧ r < i.val + s
  · rw [if_pos h1, if_neg (by omega), if_pos (by omega), add_zero]
  · by_cases h2 : i.val ≤ r - s ∧ r - s < i.val + s
    · rw [if_neg h1, if_pos h2, if_pos (by omega), zero_add]
    · rw [if_neg h1, if_neg h2, if_neg (by omega), add_zero]

theorem win_low (f : Fin 64 → EReal) (s r : ℕ) (h : r < s) : win f s r = win f (2 * s) r := by
  unfold win
  refine Finset.sum_congr rfl fun i _ => ?_
  by_cases h1 : i.val ≤ r ∧ r < i.val + s
  · rw [if_pos h1, if_pos (by omega)]
  · rw [if_neg h1, if_neg (by omega)]

theorem win_all (f : Fin 64 → EReal) (r : ℕ) (h : r < 64) : win f 64 r = pre f r := by
  unfold win pre
  refine Finset.sum_congr rfl fun i _ => ?_
  by_cases h1 : i.val ≤ r
  · rw [if_pos h1, if_pos (by omega)]
  · rw [if_neg h1, if_neg (by omega)]

end Cert.Layer.Gla

namespace Cert.GlaIdeal.Block

open Cert.GlaIdeal Cert.GlaIdeal.Gen Cert.Layer Cert.Layer.Gla

/-- One doubling step of the running sum: every row from `s` on gets the row `s` above it added. -/
def stp (s : BitVec 32) (b : FVec Ideal S64x256 .f32) : FVec Ideal S64x256 .f32 :=
  addf b (select (broadcastTo S64x256 (shapeCast S64x1 (cmpi .sge (extractStridedSlice S64x1 ![0, 0] (iota .tc S64x64 32 [0] iota_S64x64_d0_w32)
      slices_S64x64_o0_0_S64x1) (broadcast S64x1 s)) shapeCasts_S64x1_S64x1) broadcasts_S64x1_S64x256)
    (dynamicRotate 0 s none b rotates_S64x256_d0) (broadcast S64x256 (Scalar.ofBits (F := Ideal) .f32 0x00000000#32)))

/-- The running sum down the sixty-four rows. -/
def cs (la : FVec Ideal S64x256 .f32) : FVec Ideal S64x256 .f32 :=
  stp 32#32 (stp 16#32 (stp 8#32 (stp 4#32 (stp 2#32 (stp 1#32 la)))))

/-- The last row of the running sum. -/
def bl (la : FVec Ideal S64x256 .f32) : FVec Ideal S1x256 .f32 := extractStridedSlice S1x256 ![63, 0] (cs la) slices_S64x256_o63_0_S1x256

def qd (q la : FVec Ideal S64x256 .f32) : FVec Ideal S64x256 .bf16 := truncf .bf16 (mulf q (exp (cs la))) bitsLt_bf16_f32
def ki (k la : FVec Ideal S64x256 .f32) : FVec Ideal S64x256 .bf16 :=
  truncf .bf16 (mulf k (exp (subf (broadcast S64x256 (Scalar.ofBits (F := Ideal) .f32 0x00000000#32)) (cs la)))) bitsLt_bf16_f32
def ko (k la : FVec Ideal S64x256 .f32) : FVec Ideal S64x256 .bf16 :=
  truncf .bf16 (mulf k (exp (subf (broadcastTo S64x256 (bl la) broadcasts_S1x256_S64x256) (cs la)))) bitsLt_bf16_f32
def dec (la : FVec Ideal S64x256 .f32) : FVec Ideal S1x256 .f32 := exp (bl la)

theorem slH (h : Fin 4) : S64x256.Slices ![0, 64 * h.val] S64x64 := by fin_cases h <;> decide
theorem slD (h : Fin 4) : S1x256.Slices ![0, 64 * h.val] S1x64 := by fin_cases h <;> decide

/-- The rows of one head against one another, the later ones struck out, times the values. -/
def intra (h : Fin 4) (q k la : FVec Ideal S64x256 .f32) (v : FVec Ideal S64x128 .bf16) : FVec Ideal S64x128 .f32 :=
  matmul (F := Ideal) (φ₁ := .bf16) (φ₂ := .bf16) dot_S64x64_S64x128_S64x128_1_0_0_1_n_n none
    (truncf .bf16 (select (k0_pay5) (matmul (F := Ideal) (φ₁ := .bf16) (φ₂ := .bf16) dot_S64x64_S64x64_S64x64_1_1_0_0_n_n none
      (extractStridedSlice S64x64 ![0, 64 * h.val] (qd q la) (slH h)) (extractStridedSlice S64x64 ![0, 64 * h.val] (ki k la) (slH h))
      (constant (F := Ideal) S64x64 .f32 0x00000000#32)) (broadcast S64x64 (Scalar.ofBits (F := Ideal) .f32 0x00000000#32))) bitsLt_bf16_f32)
    v (constant (F := Ideal) S64x128 .f32 0x00000000#32)

/-- What one chunk adds to the state of one head. -/
def upd (h : Fin 4) (k la : FVec Ideal S64x256 .f32) (v : FVec Ideal S64x128 .bf16) : FVec Ideal S128x64 .f32 :=
  matmul (F := Ideal) (φ₁ := .bf16) (φ₂ := .bf16) dot_S64x128_S64x64_S128x64_0_0_1_1_n_n none v
    (extractStridedSlice S64x64 ![0, 64 * h.val] (ko k la) (slH h)) (constant (F := Ideal) S128x64 .f32 0x00000000#32)

/-- The state of one head after a chunk. -/
def nxt (h : Fin 4) (d : FVec Ideal S1x256 .f32) (u s : FVec Ideal S128x64 .f32) : FVec Ideal S128x64 .f32 :=
  addf (mulf s (broadcastTo S128x64 (extractStridedSlice S1x64 ![0, 64 * h.val] d (slD h)) broadcasts_S1x64_S128x64)) u

/-- One head's rows of a chunk, before the norm. -/
def osum (h : Fin 4) (q : FVec Ideal S64x256 .bf16) (i : FVec Ideal S64x128 .f32) (s : FVec Ideal S128x64 .f32) : FVec Ideal S64x128 .f32 :=
  addf i (matmul (F := Ideal) (φ₁ := .bf16) (φ₂ := .bf16) dot_S64x64_S128x64_S64x128_1_1_0_0_n_n none
    (extractStridedSlice S64x64 ![0, 64 * h.val] q (slH h)) (truncf .bf16 s bitsLt_bf16_f32) (constant (F := Ideal) S64x128 .f32 0x00000000#32))

/-- The norm of each row, the gain and the gate. -/
def fin (gn : FVec Ideal S1x128 .f32) (o g : FVec Ideal S64x128 .f32) : FVec Ideal S64x128 .bf16 :=
  truncf .bf16 (mulf (mulf (mulf o (broadcastTo S64x128 (rsqrt (addf (divf (shapeCast S64x1
    (multiReduction .add [1] S64 (mulf o o) 0x00000000#32 reduces_S64x128_S64 (.inl rfl) rfl) shapeCasts_S64_S64x1)
    (broadcast S64x1 (Scalar.ofBits (F := Ideal) .f32 0x43000000#32))) (broadcast S64x1 (Scalar.ofBits (F := Ideal) .f32 0x358637BD#32)))) broadcasts_S64x1_S64x128))
    (broadcastTo S64x128 gn broadcasts_S1x128_S64x128)) (mulf g (logistic g))) bitsLt_bf16_f32

theorem stp_at (s : BitVec 32) (b : FVec Ideal S64x256 .f32) (r : Fin 64) (j : Fin 256) (f : Fin 64 → EReal) (n : ℕ) (hn : n < 64)
    (hs : s.toNat = n) (hc : ∀ x : Fin 64, IntOp.cmpi CmpIPredicate.sge (BitVec.ofNat 32 x.val) s = if n ≤ x.val then 1#1 else 0#1)
    (hb : ∀ x : Fin 64, b (ix2 x j) = win f n x.val) : stp s b (ix2 r j) = win f (2 * n) r.val := by
  pointwise [stp]
  rw [hc r, hb]
  by_cases h : n ≤ r.val
  · rw [if_pos h]
    refine Eq.trans ?_ (win_add f n r.val h)
    refine congrArg (win f n r.val + ·) ?_
    show b (ix2 (⟨(r.val + 64 - s.toNat % 64) % 64, _⟩ : Fin 64) j) = _
    rw [hb]
    refine congrArg (win f n) ?_
    show (r.val + 64 - s.toNat % 64) % 64 = _
    have := r.isLt
    rw [hs]; omega
  · rw [if_neg h]
    refine Eq.trans ?_ (win_low f n r.val (by omega))
    exact add_zero _

/-- Six doubling steps make the running sum. -/
theorem cs_at (la : FVec Ideal S64x256 .f32) (r : Fin 64) (j : Fin 256) : cs la (ix2 r j) = pre (fun i => la (ix2 i j)) r.val := by
  have h1 := fun x : Fin 64 => stp_at 1#32 la x j (fun i => la (ix2 i j)) 1 (by omega) rfl (by decide +kernel) (fun x => (win_one (fun i => la (ix2 i j)) x).symm)
  have h2 := fun x : Fin 64 => stp_at 2#32 _ x j _ 2 (by omega) rfl (by decide +kernel) h1
  have h3 := fun x : Fin 64 => stp_at 4#32 _ x j _ 4 (by omega) rfl (by decide +kernel) h2
  have h4 := fun x : Fin 64 => stp_at 8#32 _ x j _ 8 (by omega) rfl (by decide +kernel) h3
  have h5 := fun x : Fin 64 => stp_at 16#32 _ x j _ 16 (by omega) rfl (by decide +kernel) h4
  have h6 := fun x : Fin 64 => stp_at 32#32 _ x j _ 32 (by omega) rfl (by decide +kernel) h5
  exact (h6 r).trans (win_all _ _ r.isLt)

theorem tri_at : ∀ r x : Fin 64, IntOp.cmpi CmpIPredicate.sge (BitVec.ofNat 32 r.val) (BitVec.ofNat 32 x.val) = if x.val ≤ r.val then 1#1 else 0#1 := by
  decide +kernel

theorem qd_at (q la : FVec Ideal S64x256 .f32) (r : Fin 64) (j : Fin 256) :
    qd q la (ix2 r j) = q (ix2 r j) * Ideal.exp (pre (fun i => la (ix2 i j)) r.val) := by
  pointwise [qd]
  rw [cs_at]

theorem ki_at (k la : FVec Ideal S64x256 .f32) (r : Fin 64) (j : Fin 256) :
    ki k la (ix2 r j) = k (ix2 r j) * Ideal.exp (-pre (fun i => la (ix2 i j)) r.val) := by
  pointwise [ki]
  rw [cs_at, zero_sub]

theorem ko_at (k la : FVec Ideal S64x256 .f32) (r : Fin 64) (j : Fin 256) :
    ko k la (ix2 r j) = k (ix2 r j) * Ideal.exp (pre (fun i => la (ix2 i j)) 63 - pre (fun i => la (ix2 i j)) r.val) := by
  pointwise [ko, bl]
  rw [cs_at, cs_at]
  rfl

theorem dec_at (la : FVec Ideal S64x256 .f32) (r : Fin 1) (j : Fin 256) : dec la (ix2 r j) = Ideal.exp (pre (fun i => la (ix2 i j)) 63) := by
  pointwise [dec, bl]
  rw [cs_at]
  rfl

theorem intra_at (h : Fin 4) (q k la : FVec Ideal S64x256 .f32) (v : FVec Ideal S64x128 .bf16) (r : Fin 64) (d : Fin 128) :
    intra h q k la v (ix2 r d) = ∑ x : Fin 64, if x.val ≤ r.val then
      (∑ e : Fin 64, qd q la (ix2 r (⟨64 * h.val + e.val, by omega⟩ : Fin 256)) * ki k la (ix2 x (⟨64 * h.val + e.val, by omega⟩ : Fin 256))) * v (ix2 x d) else 0 := by
  pointwise [intra, k0_pay5]
  refine Finset.sum_congr rfl fun x _ => ?_
  rw [tri_at r x]
  by_cases hx : x.val ≤ r.val
  · rw [if_pos hx, if_pos hx]; rfl
  · rw [if_neg hx, if_neg hx]; rfl

theorem upd_at (h : Fin 4) (k la : FVec Ideal S64x256 .f32) (v : FVec Ideal S64x128 .bf16) (d : Fin 128) (e : Fin 64) :
    upd h k la v (ix2 d e) = ∑ x : Fin 64, v (ix2 x d) * ko k la (ix2 x (⟨64 * h.val + e.val, by omega⟩ : Fin 256)) := by
  pointwise [upd]

theorem nxt_at (h : Fin 4) (d : FVec Ideal S1x256 .f32) (u s : FVec Ideal S128x64 .f32) (i : Fin 128) (e : Fin 64) :
    nxt h d u s (ix2 i e) = s (ix2 i e) * d (ix2 0 (⟨64 * h.val + e.val, by omega⟩ : Fin 256)) + u (ix2 i e) := by
  pointwise [nxt]

theorem osum_at (h : Fin 4) (q : FVec Ideal S64x256 .bf16) (i : FVec Ideal S64x128 .f32) (s : FVec Ideal S128x64 .f32) (r : Fin 64) (d : Fin 128) :
    osum h q i s (ix2 r d) = i (ix2 r d) + ∑ e : Fin 64, q (ix2 r (⟨64 * h.val + e.val, by omega⟩ : Fin 256)) * s (ix2 d e) := by
  pointwise [osum]

/-- One entry of the result: the row's norm, the gain and the gate. -/
def gated (o : Fin 128 → EReal) (gn g : EReal) (d : Fin 128) : EReal :=
  o d * Ideal.rsqrt (Ideal.div (∑ x : Fin 128, o x * o x) (Ideal.ofBits .f32 0x43000000#32) + Ideal.ofBits .f32 0x358637BD#32) * gn * (g * Ideal.logistic g)

theorem fin_at (gn : FVec Ideal S1x128 .f32) (o g : FVec Ideal S64x128 .f32) (r : Fin 64) (d : Fin 128) :
    fin gn o g (ix2 r d) = gated (fun x => o (ix2 r x)) (gn (ix2 0 d)) (g (ix2 r d)) d := by
  pointwise [fin, gated]

end Cert.GlaIdeal.Block

end
-- ==== Proof.GlaChain.lean ====
/-
  Gated linear attention, one block of sixteen chunks: the chunks of the block's arguments, the state that runs through
  them and the block of the result, as functions of the block's arguments and the state it starts from.
-/
module

public import proofs.«01_k».proof.Proof.GlaBlock

@[expose] public section

set_option maxRecDepth 16384

noncomputable section

open Idealize.ShloMosaic Idealize.ShloMosaic.TcCoe Idealize.SL.Sem

namespace Cert.GlaIdeal.Block

open Cert.GlaIdeal Cert.GlaIdeal.Gen Cert.Layer Cert.Layer.Gla

/-! ## The chunks of a block -/

/-- The log decays of chunk `n`. -/
def cutA (x : FVec Ideal S1024x256 .f32) (n : ℕ) : FVec Ideal S64x256 .f32 :=
  fun i => x (ix2 (⟨(64 * n + (i 0).val) % 1024, Nat.mod_lt _ (by omega)⟩ : Fin 1024) (⟨(i 1).val, (i 1).isLt⟩ : Fin 256))
/-- The queries of chunk `n`. -/
def cutQ (x : FVec Ideal S1024x512 .f32) (n : ℕ) : FVec Ideal S64x256 .f32 :=
  fun i => x (ix2 (⟨(64 * n + (i 0).val) % 1024, Nat.mod_lt _ (by omega)⟩ : Fin 1024) (⟨(i 1).val, lt_trans (show (i 1).val < 256 from (i 1).isLt) (by omega)⟩ : Fin 512))
/-- The keys of chunk `n`. -/
def cutK (x : FVec Ideal S1024x512 .f32) (n : ℕ) : FVec Ideal S64x256 .f32 :=
  fun i => x (ix2 (⟨(64 * n + (i 0).val) % 1024, Nat.mod_lt _ (by omega)⟩ : Fin 1024) (⟨256 + (i 1).val, Nat.add_lt_add_left (show (i 1).val < 256 from (i 1).isLt) 256⟩ : Fin 512))
/-- The columns of head `h` in chunk `n`. -/
def cutH {φ : FTy} (x : FVec Ideal S1024x512 φ) (n : ℕ) (h : Fin 4) : FVec Ideal S64x128 φ :=
  fun i => x (ix2 (⟨(64 * n + (i 0).val) % 1024, Nat.mod_lt _ (by omega)⟩ : Fin 1024) (⟨128 * h.val + (i 1).val, by have := h.isLt; have : (i 1).val < 128 := (i 1).isLt; omega⟩ : Fin 512))

theorem readA (a : Memref sig .tc .vmem S1024x256 .f32) (ha : a.IsWhole) (x : Vec Ideal S1024x256 .f32) (n : ℕ) (hn : n < 16)
    (inb : ∀ d, (![64 * n, 0] : Fin 2 → ℕ) d + S64x256.size d ≤ S1024x256.size d) :
    View.readAt (Elt Ideal) a.view (Rect.unit (s := S1024x256) ![64 * n, 0] S64x256.size inb).toLoadRect (ha.unread x) = cutA x n := by
  rw [View.readAt_eq_ld, ha.read_unread]
  funext i
  idx_vars i
  refine congrArg x (funext fun d => Fin.ext ?_)
  fin_cases d
  · show 64 * n + 1 * i0.val = (64 * n + i0.val) % 1024; omega
  · show 0 + 1 * i1.val = i1.val; omega

theorem readQ (a : Memref sig .tc .vmem S1024x512 .f32) (ha : a.IsWhole) (x : Vec Ideal S1024x512 .f32) (n : ℕ) (hn : n < 16)
    (inb : ∀ d, (![64 * n, 0] : Fin 2 → ℕ) d + S64x256.size d ≤ S1024x512.size d) :
    View.readAt (Elt Ideal) a.view (Rect.unit (s := S1024x512) ![64 * n, 0] S64x256.size inb).toLoadRect (ha.unread x) = cutQ x n := by
  rw [View.readAt_eq_ld, ha.read_unread]
  funext i
  idx_vars i
  refine congrArg x (funext fun d => Fin.ext ?_)
  fin_cases d
  · show 64 * n + 1 * i0.val = (64 * n + i0.val) % 1024; omega
  · show 0 + 1 * i1.val = i1.val; omega
theorem readK (a : Memref sig .tc .vmem S1024x512 .f32) (ha : a.IsWhole) (x : Vec Ideal S1024x512 .f32) (n : ℕ) (hn : n < 16)
    (inb : ∀ d, (![64 * n, 256] : Fin 2 → ℕ) d + S64x256.size d ≤ S1024x512.size d) :
    View.readAt (Elt Ideal) a.view (Rect.unit (s := S1024x512) ![64 * n, 256] S64x256.size inb).toLoadRect (ha.unread x) = cutK x n := by
  rw [View.readAt_eq_ld, ha.read_unread]
  funext i
  idx_vars i
  refine congrArg x (funext fun d => Fin.ext ?_)
  fin_cases d
  · show 64 * n + 1 * i0.val = (64 * n + i0.val) % 1024; omega
  · show 256 + 1 * i1.val = 256 + i1.val; omega
theorem readV (a : Memref sig .tc .vmem S1024x512 .bf16) (ha : a.IsWhole) (x : Vec Ideal S1024x512 .bf16) (n : ℕ) (hn : n < 16) (h : Fin 4)
    (inb : ∀ d, (![64 * n, 128 * h.val] : Fin 2 → ℕ) d + S64x128.size d ≤ S1024x512.size d) :
    View.readAt (Elt Ideal) a.view (Rect.unit (s := S1024x512) ![64 * n, 128 * h.val] S64x128.size inb).toLoadRect (ha.unread x) = cutH (φ := .bf16) x n h := by
  rw [View.readAt_eq_ld, ha.read_unread]
  funext i
  idx_vars i
  refine congrArg x (funext fun d => Fin.ext ?_)
  fin_cases d
  · show 64 * n + 1 * i0.val = (64 * n + i0.val) % 1024; omega
  · show 128 * h.val + 1 * i1.val = 128 * h.val + i1.val; omega
theorem readG (a : Memref sig .tc .vmem S1024x512 .f32) (ha : a.IsWhole) (x : Vec Ideal S1024x512 .f32) (n : ℕ) (hn : n < 16) (h : Fin 4)
    (inb : ∀ d, (![64 * n, 128 * h.val] : Fin 2 → ℕ) d + S64x128.size d ≤ S1024x512.size d) :
    View.readAt (Elt Ideal) a.view (Rect.unit (s := S1024x512) ![64 * n, 128 * h.val] S64x128.size inb).toLoadRect (ha.unread x) = cutH (φ := .f32) x n h := by
  rw [View.readAt_eq_ld, ha.read_unread]
  funext i
  idx_vars i
  refine congrArg x (funext fun d => Fin.ext ?_)
  fin_cases d
  · show 64 * n + 1 * i0.val = (64 * n + i0.val) % 1024; omega
  · show 128 * h.val + 1 * i1.val = 128 * h.val + i1.val; omega

/-! ## The state and the result -/

variable (x0 : FVec Ideal S1024x512 .f32) (x1 : FVec Ideal S1024x512 .bf16) (x2 : FVec Ideal S1024x256 .f32) (x3 : FVec Ideal S1024x512 .f32)
  (x4 : FVec Ideal S1x128 .f32) (S0 : Fin 4 → FVec Ideal S128x64 .f32)

/-- The state of each head before chunk `n`, from the state before the block. -/
def ST : ℕ → Fin 4 → FVec Ideal S128x64 .f32
  | 0, h => S0 h
  | n + 1, h => nxt h (dec (cutA x2 n)) (upd h (cutK x0 n) (cutA x2 n) (cutH (φ := .bf16) x1 n h)) (ST n h)

theorem ST_succ (n : ℕ) (h : Fin 4) : ST x0 x1 x2 S0 (n + 1) h
    = nxt h (dec (cutA x2 n)) (upd h (cutK x0 n) (cutA x2 n) (cutH (φ := .bf16) x1 n h)) (ST x0 x1 x2 S0 n h) := rfl

/-- One head of one chunk of the result. -/
def res (n : ℕ) (h : Fin 4) : FVec Ideal S64x128 .bf16 :=
  fin x4 (osum h (qd (cutQ x0 n) (cutA x2 n)) (intra h (cutQ x0 n) (cutK x0 n) (cutA x2 n) (cutH (φ := .bf16) x1 n h)) (ST x0 x1 x2 S0 n h)) (cutH (φ := .f32) x3 n h)

/-- The block of the result. -/
def OUT : FVec Ideal S1024x512 .bf16 := fun y => res x0 x1 x2 x3 x4 S0 ((y 0).val / 64) (⟨(y 1).val / 128, by have : (y 1).val < 512 := (y 1).isLt; omega⟩ : Fin 4)
  (ix2 (⟨(y 0).val % 64, Nat.mod_lt _ (by omega)⟩ : Fin 64) (⟨(y 1).val % 128, Nat.mod_lt _ (by omega)⟩ : Fin 128))

theorem res_out (n : ℕ) (h : Fin 4) (inb : ∀ d, (![64 * n, 128 * h.val] : Fin 2 → ℕ) d + S64x128.size d ≤ S1024x512.size d) (y : S64x128.Idx) :
    res x0 x1 x2 x3 x4 S0 n h y = OUT x0 x1 x2 x3 x4 S0 ((Rect.unit (s := S1024x512) ![64 * n, 128 * h.val] S64x128.size inb).emb y) := by
  have h0 := inb 0
  have hh := h.isLt
  replace h0 : 64 * n + 64 ≤ 1024 := h0
  idx_vars y
  have a0 := y0.isLt
  have a1 := y1.isLt
  unfold OUT
  refine congr (congr (congrArg (res x0 x1 x2 x3 x4 S0) ?_) (Fin.ext ?_)) ((ix2_inj ..).2 ⟨Fin.ext ?_, Fin.ext ?_⟩)
  · show n = (64 * n + 1 * y0.val) / 64; omega
  · show h.val = (128 * h.val + 1 * y1.val) / 128; omega
  · show y0.val = (64 * n + 1 * y0.val) % 64; omega
  · show y1.val = (128 * h.val + 1 * y1.val) % 128; omega

/-- The state of head `h` in the carried array. -/
def slc (s : FVec Ideal S4x128x64 .f32) (h : Fin 4) : FVec Ideal S128x64 .f32 :=
  fun i => s (ix3 h (⟨(i 0).val, (i 0).isLt⟩ : Fin 128) (⟨(i 1).val, (i 1).isLt⟩ : Fin 64))

/-- The state a batch starts from. -/
def zer : FVec Ideal S128x64 .f32 := fun _ => (0 : EReal)

theorem sc_at (w : FVec Ideal S1x128x64 .f32) (i : Fin 128) (e : Fin 64) :
    shapeCast S128x64 w shapeCasts_S1x128x64_S128x64 (ix2 i e) = w (ix3 0 i e) := by pointwise

theorem readS (a : Memref sig .tc .vmem S4x128x64 .f32) (ha : a.IsWhole) (x : Vec Ideal S4x128x64 .f32) (h : Fin 4)
    (inb : ∀ d, (![h.val, 0, 0] : Fin 3 → ℕ) d + S1x128x64.size d ≤ S4x128x64.size d) :
    shapeCast S128x64 (View.readAt (Elt Ideal) a.view (Rect.unit (s := S4x128x64) ![h.val, 0, 0] S1x128x64.size inb).toLoadRect (ha.unread x)) shapeCasts_S1x128x64_S128x64
      = slc x h := by
  rw [View.readAt_eq_ld, ha.read_unread]
  funext i
  idx_vars i
  refine (sc_at _ i0 i1).trans ?_
  refine congrArg x (funext fun d => Fin.ext ?_)
  fin_cases d
  · show h.val + 1 * 0 = h.val; omega
  · show 0 + 1 * i0.val = i0.val; omega
  · show 0 + 1 * i1.val = i1.val; omega

theorem readZ (a : Memref sig .tc .vmem S4x128x64 .f32) (h : Fin 4) (inb0 : ∀ d, (![0, 0, 0] : Fin 3 → ℕ) d + S4x128x64.size d ≤ S4x128x64.size d)
    (inb : ∀ d, (![h.val, 0, 0] : Fin 3 → ℕ) d + S1x128x64.size d ≤ S4x128x64.size d) :
    shapeCast S128x64 (View.readCov (Val := Elt Ideal) a.view [⟨Rect.unit (s := S4x128x64) ![0, 0, 0] S4x128x64.size inb0, k0_pay4 (F := Ideal)⟩] (Rect.unit (s := S4x128x64) ![h.val, 0, 0] S1x128x64.size inb).toLoadRect)
      shapeCasts_S1x128x64_S128x64 = zer := by
  rw [View.readCov_eq_canon']
  funext i
  idx_vars i
  refine (sc_at _ i0 i1).trans ?_
  refine View.canon_apply_of_pieces (Val := Elt Ideal) (e := .f32) (fun _ => (0 : EReal)) _ ?_ _ ?_
  · intro pc hpc
    rcases List.mem_singleton.mp hpc with rfl
    intro y
    idx_vars y
    pointwise [k0_pay4]
  · refine ⟨_, List.mem_singleton.mpr rfl, ?_⟩
    refine (Rect.mem_set_unit (inb := inb0)).mpr fun d => ⟨?_, ?_⟩
    · fin_cases d <;> exact Nat.zero_le _
    · refine (Fin.isLt _).trans_le ?_
      fin_cases d <;> exact Nat.le_refl _

theorem gainR (a : Memref sig .tc .vmem S1x128 .f32) (ha : a.IsWhole) (x : Vec Ideal S1x128 .f32) :
    k0_pay6 (View.readAt (Elt Ideal) a.view (Rect.unit (s := S1x128) ![0, 0] S1x128.size inb_S1x128_S1x128_0_0).toLoadRect (ha.unread x)) = x := by
  rw [View.readAt_eq_ld, ha.read_unread]
  funext i
  idx_vars i
  pointwise [k0_pay6]
  refine congrArg x (funext fun d => Fin.ext ?_)
  fin_cases d
  · show 0 = i0.val; omega
  · rfl

end Cert.GlaIdeal.Block

end
-- ==== Proof.GlaChainA.lean ====
/-
  Gated linear attention, the block a batch starts with: the state starts from zero. What the run stores, chunk by chunk.
-/
module

public import proofs.«01_k».proof.Proof.GlaChain

@[expose] public section

set_option maxRecDepth 16384

noncomputable section

open Idealize.ShloMosaic Idealize.ShloMosaic.TcCoe Idealize.SL.Sem

namespace Cert.GlaIdeal.Block.CaseA

open Cert.GlaIdeal Cert.GlaIdeal.Gen Cert.Layer Cert.Layer.Gla

variable (c : Dev nD)
  (arg2 : Memref sig .tc .vmem S1024x512 .f32) (harg2 : arg2.IsWhole)
  (arg3 : Memref sig .tc .vmem S1024x512 .bf16) (harg3 : arg3.IsWhole)
  (arg4 : Memref sig .tc .vmem S1024x256 .f32) (harg4 : arg4.IsWhole)
  (arg5 : Memref sig .tc .vmem S1024x512 .f32) (harg5 : arg5.IsWhole)
  (arg6 : Memref sig .tc .vmem S1x128 .f32) (harg6 : arg6.IsWhole)
  (arg8 : Memref sig .tc .vmem S4x128x64 .f32) (harg8 : arg8.IsWhole)
  (x0 : Vec Ideal S1024x512 .f32) (x1 : Vec Ideal S1024x512 .bf16) (x2 : Vec Ideal S1024x256 .f32) (x3 : Vec Ideal S1024x512 .f32) (x4 : Vec Ideal S1x128 .f32)
theorem gain : (@kernelRun0_A.sl.r Ideal c arg6 harg6 x4) = x4 :=
  (gainR arg6 harg6 x4 :)
theorem st_0_0 : shapeCast S128x64 (@kernelRun0_A.sl.v1800 Ideal _ c arg8) shapeCasts_S1x128x64_S128x64 = zer :=
  (readZ arg8 0 inb_S4x128x64_S4x128x64_0_0_0 inb_S4x128x64_S1x128x64_0_0_0 :)
theorem st_0_1 : (@kernelRun0_A.sl.r_271 Ideal _ c arg8) = zer :=
  (readZ arg8 1 inb_S4x128x64_S4x128x64_0_0_0 inb_S4x128x64_S1x128x64_1_0_0 :)
theorem st_0_2 : (@kernelRun0_A.sl.r_272 Ideal _ c arg8) = zer :=
  (readZ arg8 2 inb_S4x128x64_S4x128x64_0_0_0 inb_S4x128x64_S1x128x64_2_0_0 :)
theorem st_0_3 : (@kernelRun0_A.sl.r_273 Ideal _ c arg8) = zer :=
  (readZ arg8 3 inb_S4x128x64_S4x128x64_0_0_0 inb_S4x128x64_S1x128x64_3_0_0 :)
theorem qd_0 : (@kernelRun0_A.sl.r_3 Ideal _ c arg2 harg2 arg4 harg4 x0 x2) = qd (cutQ x0 0) (cutA x2 0) :=
  (congr (congrArg qd (readQ arg2 harg2 x0 0 (by decide) inb_S1024x512_S64x256_0_0)) (readA arg4 harg4 x2 0 (by decide) inb_S1024x256_S64x256_0_0) :)
theorem dec_0 : (@kernelRun0_A.sl.r_6 Ideal _ c arg4 harg4 x2) = dec (cutA x2 0) :=
  (congrArg dec (readA arg4 harg4 x2 0 (by decide) inb_S1024x256_S64x256_0_0) :)
theorem intra_0_0 : (@kernelRun0_A.sl.r_9 Ideal _ c arg2 harg2 arg3 harg3 arg4 harg4 x0 x1 x2) = intra 0 (cutQ x0 0) (cutK x0 0) (cutA x2 0) (cutH (φ := .bf16) x1 0 0) :=
  (congr (congr (congr (congrArg (intra 0) (readQ arg2 harg2 x0 0 (by decide) inb_S1024x512_S64x256_0_0)) (readK arg2 harg2 x0 0 (by decide) inb_S1024x512_S64x256_0_256)) (readA arg4 harg4 x2 0 (by decide) inb_S1024x256_S64x256_0_0)) (readV arg3 harg3 x1 0 (by decide) 0 inb_S1024x512_S64x128_0_0) :)
theorem upd_0_0 : (@kernelRun0_A.sl.r_10 Ideal _ c arg2 harg2 arg3 harg3 arg4 harg4 x0 x1 x2) = upd 0 (cutK x0 0) (cutA x2 0) (cutH (φ := .bf16) x1 0 0) :=
  (congr (congr (congrArg (upd 0) (readK arg2 harg2 x0 0 (by decide) inb_S1024x512_S64x256_0_256)) (readA arg4 harg4 x2 0 (by decide) inb_S1024x256_S64x256_0_0)) (readV arg3 harg3 x1 0 (by decide) 0 inb_S1024x512_S64x128_0_0) :)
theorem st_1_0 : (@kernelRun0_A.sl.r_274 Ideal _ c arg2 harg2 arg3 harg3 arg4 harg4 arg8 x0 x1 x2) = ST x0 x1 x2 (fun _ => zer) 1 0 :=
  (congr (congr (congrArg (nxt 0) (dec_0 c arg4 harg4 x2)) (upd_0_0 c arg2 harg2 arg3 harg3 arg4 harg4 x0 x1 x2)) (st_0_0 c arg8) :)
theorem intra_0_1 : (@kernelRun0_A.sl.r_11 Ideal _ c arg2 harg2 arg3 harg3 arg4 harg4 x0 x1 x2) = intra 1 (cutQ x0 0) (cutK x0 0) (cutA x2 0) (cutH (φ := .bf16) x1 0 1) :=
  (congr (congr (congr (congrArg (intra 1) (readQ arg2 harg2 x0 0 (by decide) inb_S1024x512_S64x256_0_0)) (readK arg2 harg2 x0 0 (by decide) inb_S1024x512_S64x256_0_256)) (readA arg4 harg4 x2 0 (by decide) inb_S1024x256_S64x256_0_0)) (readV arg3 harg3 x1 0 (by decide) 1 inb_S1024x512_S64x128_0_128) :)
theorem upd_0_1 : (@kernelRun0_A.sl.r_12 Ideal _ c arg2 harg2 arg3 harg3 arg4 harg4 x0 x1 x2) = upd 1 (cutK x0 0) (cutA x2 0) (cutH (φ := .bf16) x1 0 1) :=
  (congr (congr (congrArg (upd 1) (readK arg2 harg2 x0 0 (by decide) inb_S1024x512_S64x256_0_256)) (readA arg4 harg4 x2 0 (by decide) inb_S1024x256_S64x256_0_0)) (readV arg3 harg3 x1 0 (by decide) 1 inb_S1024x512_S64x128_0_128) :)
theorem st_1_1 : (@kernelRun0_A.sl.r_277 Ideal _ c arg2 harg2 arg3 harg3 arg4 harg4 arg8 x0 x1 x2) = ST x0 x1 x2 (fun _ => zer) 1 1 :=
  (congr (congr (congrArg (nxt 1) (dec_0 c arg4 harg4 x2)) (upd_0_1 c arg2 harg2 arg3 harg3 arg4 harg4 x0 x1 x2)) (st_0_1 c arg8) :)
theorem intra_0_2 : (@kernelRun0_A.sl.r_13 Ideal _ c arg2 harg2 arg3 harg3 arg4 harg4 x0 x1 x2) = intra 2 (cutQ x0 0) (cutK x0 0) (cutA x2 0) (cutH (φ := .bf16) x1 0 2) :=
  (congr (congr (congr (congrArg (intra 2) (readQ arg2 harg2 x0 0 (by decide) inb_S1024x512_S64x256_0_0)) (readK arg2 harg2 x0 0 (by decide) inb_S1024x512_S64x256_0_256)) (readA arg4 harg4 x2 0 (by decide) inb_S1024x256_S64x256_0_0)) (readV arg3 harg3 x1 0 (by decide) 2 inb_S1024x512_S64x128_0_256) :)
theorem upd_0_2 : (@kernelRun0_A.sl.r_14 Ideal _ c arg2 harg2 arg3 harg3 arg4 harg4 x0 x1 x2) = upd 2 (cutK x0 0) (cutA x2 0) (cutH (φ := .bf16) x1 0 2) :=
  (congr (congr (congrArg (upd 2) (readK arg2 harg2 x0 0 (by decide) inb_S1024x512_S64x256_0_256)) (readA arg4 harg4 x2 0 (by decide) inb_S1024x256_S64x256_0_0)) (readV arg3 harg3 x1 0 (by decide) 2 inb_S1024x512_S64x128_0_256) :)
theorem st_1_2 : (@kernelRun0_A.sl.r_279 Ideal _ c arg2 harg2 arg3 harg3 arg4 harg4 arg8 x0 x1 x2) = ST x0 x1 x2 (fun _ => zer) 1 2 :=
  (congr (congr (congrArg (nxt 2) (dec_0 c arg4 harg4 x2)) (upd_0_2 c arg2 harg2 arg3 harg3 arg4 harg4 x0 x1 x2)) (st_0_2 c arg8) :)
theorem intra_0_3 : (@kernelRun0_A.sl.r_15 Ideal _ c arg2 harg2 arg3 harg3 arg4 harg4 x0 x1 x2) = intra 3 (cutQ x0 0) (cutK x0 0) (cutA x2 0) (cutH (φ := .bf16) x1 0 3) :=
  (congr (congr (congr (congrArg (intra 3) (readQ arg2 harg2 x0 0 (by decide) inb_S1024x512_S64x256_0_0)) (readK arg2 harg2 x0 0 (by decide) inb_S1024x512_S64x256_0_256)) (readA arg4 harg4 x2 0 (by decide) inb_S1024x256_S64x256_0_0)) (readV arg3 harg3 x1 0 (by decide) 3 inb_S1024x512_S64x128_0_384) :)
theorem upd_0_3 : (@kernelRun0_A.sl.r_16 Ideal _ c arg2 harg2 arg3 harg3 arg4 harg4 x0 x1 x2) = upd 3 (cutK x0 0) (cutA x2 0) (cutH (φ := .bf16) x1 0 3) :=
  (congr (congr (congrArg (upd 3) (readK arg2 harg2 x0 0 (by decide) inb_S1024x512_S64x256_0_256)) (readA arg4 harg4 x2 0 (by decide) inb_S1024x256_S64x256_0_0)) (readV arg3 harg3 x1 0 (by decide) 3 inb_S1024x512_S64x128_0_384) :)
theorem st_1_3 : (@kernelRun0_A.sl.r_282 Ideal _ c arg2 harg2 arg3 harg3 arg4 harg4 arg8 x0 x1 x2) = ST x0 x1 x2 (fun _ => zer) 1 3 :=
  (congr (congr (congrArg (nxt 3) (dec_0 c arg4 harg4 x2)) (upd_0_3 c arg2 harg2 arg3 harg3 arg4 harg4 x0 x1 x2)) (st_0_3 c arg8) :)
theorem qd_1 : (@kernelRun0_A.sl.r_19 Ideal _ c arg2 harg2 arg4 harg4 x0 x2) = qd (cutQ x0 1) (cutA x2 1) :=
  (congr (congrArg qd (readQ arg2 harg2 x0 1 (by decide) inb_S1024x512_S64x256_64_0)) (readA arg4 harg4 x2 1 (by decide) inb_S1024x256_S64x256_64_0) :)
theorem dec_1 : (@kernelRun0_A.sl.r_22 Ideal _ c arg4 harg4 x2) = dec (cutA x2 1) :=
  (congrArg dec (readA arg4 harg4 x2 1 (by decide) inb_S1024x256_S64x256_64_0) :)
theorem intra_1_0 : (@kernelRun0_A.sl.r_23 Ideal _ c arg2 harg2 arg3 harg3 arg4 harg4 x0 x1 x2) = intra 0 (cutQ x0 1) (cutK x0 1) (cutA x2 1) (cutH (φ := .bf16) x1 1 0) :=
  (congr (congr (congr (congrArg (intra 0) (readQ arg2 harg2 x0 1 (by decide) inb_S1024x512_S64x256_64_0)) (readK arg2 harg2 x0 1 (by decide) inb_S1024x512_S64x256_64_256)) (readA arg4 harg4 x2 1 (by decide) inb_S1024x256_S64x256_64_0)) (readV arg3 harg3 x1 1 (by decide) 0 inb_S1024x512_S64x128_64_0) :)
theorem upd_1_0 : (@kernelRun0_A.sl.r_24 Ideal _ c arg2 harg2 arg3 harg3 arg4 harg4 x0 x1 x2) = upd 0 (cutK x0 1) (cutA x2 1) (cutH (φ := .bf16) x1 1 0) :=
  (congr (congr (congrArg (upd 0) (readK arg2 harg2 x0 1 (by decide) inb_S1024x512_S64x256_64_256)) (readA arg4 harg4 x2 1 (by decide) inb_S1024x256_S64x256_64_0)) (readV arg3 harg3 x1 1 (by decide) 0 inb_S1024x512_S64x128_64_0) :)
theorem st_2_0 : (@kernelRun0_A.sl.r_284 Ideal _ c arg2 harg2 arg3 harg3 arg4 harg4 arg8 x0 x1 x2) = ST x0 x1 x2 (fun _ => zer) 2 0 :=
  (congr (congr (congrArg (nxt 0) (dec_1 c arg4 harg4 x2)) (upd_1_0 c arg2 harg2 arg3 harg3 arg4 harg4 x0 x1 x2)) (st_1_0 c arg2 harg2 arg3 harg3 arg4 harg4 arg8 x0 x1 x2) :)
theorem intra_1_1 : (@kernelRun0_A.sl.r_27 Ideal _ c arg2 harg2 arg3 harg3 arg4 harg4 x0 x1 x2) = intra 1 (cutQ x0 1) (cutK x0 1) (cutA x2 1) (cutH (φ := .bf16) x1 1 1) :=
  (congr (congr (congr (congrArg (intra 1) (readQ arg2 harg2 x0 1 (by decide) inb_S1024x512_S64x256_64_0)) (readK arg2 harg2 x0 1 (by decide) inb_S1024x512_S64x256_64_256)) (readA arg4 harg4 x2 1 (by decide) inb_S1024x256_S64x256_64_0)) (readV arg3 harg3 x1 1 (by decide) 1 inb_S1024x512_S64x128_64_128) :)
theorem upd_1_1 : (@kernelRun0_A.sl.r_28 Ideal _ c arg2 harg2 arg3 harg3 arg4 harg4 x0 x1 x2) = upd 1 (cutK x0 1) (cutA x2 1) (cutH (φ := .bf16) x1 1 1) :=
  (congr (congr (congrArg (upd 1) (readK arg2 harg2 x0 1 (by decide) inb_S1024x512_S64x256_64_256)) (readA arg4 harg4 x2 1 (by decide) inb_S1024x256_S64x256_64_0)) (readV arg3 harg3 x1 1 (by decide) 1 inb_S1024x512_S64x128_64_128) :)
theorem st_2_1 : (@kernelRun0_A.sl.r_285 Ideal _ c arg2 harg2 arg3 harg3 arg4 harg4 arg8 x0 x1 x2) = ST x0 x1 x2 (fun _ => zer) 2 1 :=
  (congr (congr (congrArg (nxt 1) (dec_1 c arg4 harg4 x2)) (upd_1_1 c arg2 harg2 arg3 harg3 arg4 harg4 x0 x1 x2)) (st_1_1 c arg2 harg2 arg3 harg3 arg4 harg4 arg8 x0 x1 x2) :)
theorem intra_1_2 : (@kernelRun0_A.sl.r_29 Ideal _ c arg2 harg2 arg3 harg3 arg4 harg4 x0 x1 x2) = intra 2 (cutQ x0 1) (cutK x0 1) (cutA x2 1) (cutH (φ := .bf16) x1 1 2) :=
  (congr (congr (congr (congrArg (intra 2) (readQ arg2 harg2 x0 1 (by decide) inb_S1024x512_S64x256_64_0)) (readK arg2 harg2 x0 1 (by decide) inb_S1024x512_S64x256_64_256)) (readA arg4 harg4 x2 1 (by decide) inb_S1024x256_S64x256_64_0)) (readV arg3 harg3 x1 1 (by decide) 2 inb_S1024x512_S64x128_64_256) :)
theorem upd_1_2 : (@kernelRun0_A.sl.r_30 Ideal _ c arg2 harg2 arg3 harg3 arg4 harg4 x0 x1 x2) = upd 2 (cutK x0 1) (cutA x2 1) (cutH (φ := .bf16) x1 1 2) :=
  (congr (congr (congrArg (upd 2) (readK arg2 harg2 x0 1 (by decide) inb_S1024x512_S64x256_64_256)) (readA arg4 harg4 x2 1 (by decide) inb_S1024x256_S64x256_64_0)) (readV arg3 harg3 x1 1 (by decide) 2 inb_S1024x512_S64x128_64_256) :)
theorem st_2_2 : (@kernelRun0_A.sl.r_287 Ideal _ c arg2 harg2 arg3 harg3 arg4 harg4 arg8 x0 x1 x2) = ST x0 x1 x2 (fun _ => zer) 2 2 :=
  (congr (congr (congrArg (nxt 2) (dec_1 c arg4 harg4 x2)) (upd_1_2 c arg2 harg2 arg3 harg3 arg4 harg4 x0 x1 x2)) (st_1_2 c arg2 harg2 arg3 harg3 arg4 harg4 arg8 x0 x1 x2) :)
theorem intra_1_3 : (@kernelRun0_A.sl.r_31 Ideal _ c arg2 harg2 arg3 harg3 arg4 harg4 x0 x1 x2) = intra 3 (cutQ x0 1) (cutK x0 1) (cutA x2 1) (cutH (φ := .bf16) x1 1 3) :=
  (congr (congr (congr (congrArg (intra 3) (readQ arg2 harg2 x0 1 (by decide) inb_S1024x512_S64x256_64_0)) (readK arg2 harg2 x0 1 (by decide) inb_S1024x512_S64x256_64_256)) (readA arg4 harg4 x2 1 (by decide) inb_S1024x256_S64x256_64_0)) (readV arg3 harg3 x1 1 (by decide) 3 inb_S1024x512_S64x128_64_384) :)
theorem upd_1_3 : (@kernelRun0_A.sl.r_32 Ideal _ c arg2 harg2 arg3 harg3 arg4 harg4 x0 x1 x2) = upd 3 (cutK x0 1) (cutA x2 1) (cutH (φ := .bf16) x1 1 3) :=
  (congr (congr (congrArg (upd 3) (readK arg2 harg2 x0 1 (by decide) inb_S1024x512_S64x256_64_256)) (readA arg4 harg4 x2 1 (by decide) inb_S1024x256_S64x256_64_0)) (readV arg3 harg3 x1 1 (by decide) 3 inb_S1024x512_S64x128_64_384) :)
theorem st_2_3 : (@kernelRun0_A.sl.r_289 Ideal _ c arg2 harg2 arg3 harg3 arg4 harg4 arg8 x0 x1 x2) = ST x0 x1 x2 (fun _ => zer) 2 3 :=
  (congr (congr (congrArg (nxt 3) (dec_1 c arg4 harg4 x2)) (upd_1_3 c arg2 harg2 arg3 harg3 arg4 harg4 x0 x1 x2)) (st_1_3 c arg2 harg2 arg3 harg3 arg4 harg4 arg8 x0 x1 x2) :)
theorem qd_2 : (@kernelRun0_A.sl.r_40 Ideal _ c arg2 harg2 arg4 harg4 x0 x2) = qd (cutQ x0 2) (cutA x2 2) :=
  (congr (congrArg qd (readQ arg2 harg2 x0 2 (by decide) inb_S1024x512_S64x256_128_0)) (readA arg4 harg4 x2 2 (by decide) inb_S1024x256_S64x256_128_0) :)
theorem dec_2 : (@kernelRun0_A.sl.r_43 Ideal _ c arg4 harg4 x2) = dec (cutA x2 2) :=
  (congrArg dec (readA arg4 harg4 x2 2 (by decide) inb_S1024x256_S64x256_128_0) :)
theorem intra_2_0 : (@kernelRun0_A.sl.r_44 Ideal _ c arg2 harg2 arg3 harg3 arg4 harg4 x0 x1 x2) = intra 0 (cutQ x0 2) (cutK x0 2) (cutA x2 2) (cutH (φ := .bf16) x1 2 0) :=
  (congr (congr (congr (congrArg (intra 0) (readQ arg2 harg2 x0 2 (by decide) inb_S1024x512_S64x256_128_0)) (readK arg2 harg2 x0 2 (by decide) inb_S1024x512_S64x256_128_256)) (readA arg4 harg4 x2 2 (by decide) inb_S1024x256_S64x256_128_0)) (readV arg3 harg3 x1 2 (by decide) 0 inb_S1024x512_S64x128_128_0) :)
theorem upd_2_0 : (@kernelRun0_A.sl.r_45 Ideal _ c arg2 harg2 arg3 harg3 arg4 harg4 x0 x1 x2) = upd 0 (cutK x0 2) (cutA x2 2) (cutH (φ := .bf16) x1 2 0) :=
  (congr (congr (congrArg (upd 0) (readK arg2 harg2 x0 2 (by decide) inb_S1024x512_S64x256_128_256)) (readA arg4 harg4 x2 2 (by decide) inb_S1024x256_S64x256_128_0)) (readV arg3 harg3 x1 2 (by decide) 0 inb_S1024x512_S64x128_128_0) :)
theorem st_3_0 : (@kernelRun0_A.sl.r_292 Ideal _ c arg2 harg2 arg3 harg3 arg4 harg4 arg8 x0 x1 x2) = ST x0 x1 x2 (fun _ => zer) 3 0 :=
  (congr (congr (congrArg (nxt 0) (dec_2 c arg4 harg4 x2)) (upd_2_0 c arg2 harg2 arg3 harg3 arg4 harg4 x0 x1 x2)) (st_2_0 c arg2 harg2 arg3 harg3 arg4 harg4 arg8 x0 x1 x2) :)
theorem intra_2_1 : (@kernelRun0_A.sl.r_46 Ideal _ c arg2 harg2 arg3 harg3 arg4 harg4 x0 x1 x2) = intra 1 (cutQ x0 2) (cutK x0 2) (cutA x2 2) (cutH (φ := .bf16) x1 2 1) :=
  (congr (congr (congr (congrArg (intra 1) (readQ arg2 harg2 x0 2 (by decide) inb_S1024x512_S64x256_128_0)) (readK arg2 harg2 x0 2 (by decide) inb_S1024x512_S64x256_128_256)) (readA arg4 harg4 x2 2 (by decide) inb_S1024x256_S64x256_128_0)) (readV arg3 harg3 x1 2 (by decide) 1 inb_S1024x512_S64x128_128_128) :)
theorem upd_2_1 : (@kernelRun0_A.sl.r_47 Ideal _ c arg2 harg2 arg3 harg3 arg4 harg4 x0 x1 x2) = upd 1 (cutK x0 2) (cutA x2 2) (cutH (φ := .bf16) x1 2 1) :=
  (congr (congr (congrArg (upd 1) (readK arg2 harg2 x0 2 (by decide) inb_S1024x512_S64x256_128_256)) (readA arg4 harg4 x2 2 (by decide) inb_S1024x256_S64x256_128_0)) (readV arg3 harg3 x1 2 (by decide) 1 inb_S1024x512_S64x128_128_128) :)
theorem st_3_1 : (@kernelRun0_A.sl.r_294 Ideal _ c arg2 harg2 arg3 harg3 arg4 harg4 arg8 x0 x1 x2) = ST x0 x1 x2 (fun _ => zer) 3 1 :=
  (congr (congr (congrArg (nxt 1) (dec_2 c arg4 harg4 x2)) (upd_2_1 c arg2 harg2 arg3 harg3 arg4 harg4 x0 x1 x2)) (st_2_1 c arg2 harg2 arg3 harg3 arg4 harg4 arg8 x0 x1 x2) :)
theorem intra_2_2 : (@kernelRun0_A.sl.r_49 Ideal _ c arg2 harg2 arg3 harg3 arg4 harg4 x0 x1 x2) = intra 2 (cutQ x0 2) (cutK x0 2) (cutA x2 2) (cutH (φ := .bf16) x1 2 2) :=
  (congr (congr (congr (congrArg (intra 2) (readQ arg2 harg2 x0 2 (by decide) inb_S1024x512_S64x256_128_0)) (readK arg2 harg2 x0 2 (by decide) inb_S1024x512_S64x256_128_256)) (readA arg4 harg4 x2 2 (by decide) inb_S1024x256_S64x256_128_0)) (readV arg3 harg3 x1 2 (by decide) 2 inb_S1024x512_S64x128_128_256) :)
theorem upd_2_2 : (@kernelRun0_A.sl.r_51 Ideal _ c arg2 harg2 arg3 harg3 arg4 harg4 x0 x1 x2) = upd 2 (cutK x0 2) (cutA x2 2) (cutH (φ := .bf16) x1 2 2) :=
  (congr (congr (congrArg (upd 2) (readK arg2 harg2 x0 2 (by decide) inb_S1024x512_S64x256_128_256)) (readA arg4 harg4 x2 2 (by decide) inb_S1024x256_S64x256_128_0)) (readV arg3 harg3 x1 2 (by decide) 2 inb_S1024x512_S64x128_128_256) :)
theorem st_3_2 : (@kernelRun0_A.sl.r_297 Ideal _ c arg2 harg2 arg3 harg3 arg4 harg4 arg8 x0 x1 x2) = ST x0 x1 x2 (fun _ => zer) 3 2 :=
  (congr (congr (congrArg (nxt 2) (dec_2 c arg4 harg4 x2)) (upd_2_2 c arg2 harg2 arg3 harg3 arg4 harg4 x0 x1 x2)) (st_2_2 c arg2 harg2 arg3 harg3 arg4 harg4 arg8 x0 x1 x2) :)
theorem intra_2_3 : (@kernelRun0_A.sl.r_52 Ideal _ c arg2 harg2 arg3 harg3 arg4 harg4 x0 x1 x2) = intra 3 (cutQ x0 2) (cutK x0 2) (cutA x2 2) (cutH (φ := .bf16) x1 2 3) :=
  (congr (congr (congr (congrArg (intra 3) (readQ arg2 harg2 x0 2 (by decide) inb_S1024x512_S64x256_128_0)) (readK arg2 harg2 x0 2 (by decide) inb_S1024x512_S64x256_128_256)) (readA arg4 harg4 x2 2 (by decide) inb_S1024x256_S64x256_128_0)) (readV arg3 harg3 x1 2 (by decide) 3 inb_S1024x512_S64x128_128_384) :)
theorem upd_2_3 : (@kernelRun0_A.sl.r_53 Ideal _ c arg2 harg2 arg3 harg3 arg4 harg4 x0 x1 x2) = upd 3 (cutK x0 2) (cutA x2 2) (cutH (φ := .bf16) x1 2 3) :=
  (congr (congr (congrArg (upd 3) (readK arg2 harg2 x0 2 (by decide) inb_S1024x512_S64x256_128_256)) (readA arg4 harg4 x2 2 (by decide) inb_S1024x256_S64x256_128_0)) (readV arg3 harg3 x1 2 (by decide) 3 inb_S1024x512_S64x128_128_384) :)
theorem st_3_3 : (@kernelRun0_A.sl.r_299 Ideal _ c arg2 harg2 arg3 harg3 arg4 harg4 arg8 x0 x1 x2) = ST x0 x1 x2 (fun _ => zer) 3 3 :=
  (congr (congr (congrArg (nxt 3) (dec_2 c arg4 harg4 x2)) (upd_2_3 c arg2 harg2 arg3 harg3 arg4 harg4 x0 x1 x2)) (st_2_3 c arg2 harg2 arg3 harg3 arg4 harg4 arg8 x0 x1 x2) :)
theorem qd_3 : (@kernelRun0_A.sl.r_55 Ideal _ c arg2 harg2 arg4 harg4 x0 x2) = qd (cutQ x0 3) (cutA x2 3) :=
  (congr (congrArg qd (readQ arg2 harg2 x0 3 (by decide) inb_S1024x512_S64x256_192_0)) (readA arg4 harg4 x2 3 (by decide) inb_S1024x256_S64x256_192_0) :)
theorem dec_3 : (@kernelRun0_A.sl.r_58 Ideal _ c arg4 harg4 x2) = dec (cutA x2 3) :=
  (congrArg dec (readA arg4 harg4 x2 3 (by decide) inb_S1024x256_S64x256_192_0) :)
theorem intra_3_0 : (@kernelRun0_A.sl.r_62 Ideal _ c arg2 harg2 arg3 harg3 arg4 harg4 x0 x1 x2) = intra 0 (cutQ x0 3) (cutK x0 3) (cutA x2 3) (cutH (φ := .bf16) x1 3 0) :=
  (congr (congr (congr (congrArg (intra 0) (readQ arg2 harg2 x0 3 (by decide) inb_S1024x512_S64x256_192_0)) (readK arg2 harg2 x0 3 (by decide) inb_S1024x512_S64x256_192_256)) (readA arg4 harg4 x2 3 (by decide) inb_S1024x256_S64x256_192_0)) (readV arg3 harg3 x1 3 (by decide) 0 inb_S1024x512_S64x128_192_0) :)
theorem upd_3_0 : (@kernelRun0_A.sl.r_63 Ideal _ c arg2 harg2 arg3 harg3 arg4 harg4 x0 x1 x2) = upd 0 (cutK x0 3) (cutA x2 3) (cutH (φ := .bf16) x1 3 0) :=
  (congr (congr (congrArg (upd 0) (readK arg2 harg2 x0 3 (by decide) inb_S1024x512_S64x256_192_256)) (readA arg4 harg4 x2 3 (by decide) inb_S1024x256_S64x256_192_0)) (readV arg3 harg3 x1 3 (by decide) 0 inb_S1024x512_S64x128_192_0) :)
theorem st_4_0 : (@kernelRun0_A.sl.r_300 Ideal _ c arg2 harg2 arg3 harg3 arg4 harg4 arg8 x0 x1 x2) = ST x0 x1 x2 (fun _ => zer) 4 0 :=
  (congr (congr (congrArg (nxt 0) (dec_3 c arg4 harg4 x2)) (upd_3_0 c arg2 harg2 arg3 harg3 arg4 harg4 x0 x1 x2)) (st_3_0 c arg2 harg2 arg3 harg3 arg4 harg4 arg8 x0 x1 x2) :)
theorem intra_3_1 : (@kernelRun0_A.sl.r_64 Ideal _ c arg2 harg2 arg3 harg3 arg4 harg4 x0 x1 x2) = intra 1 (cutQ x0 3) (cutK x0 3) (cutA x2 3) (cutH (φ := .bf16) x1 3 1) :=
  (congr (congr (congr (congrArg (intra 1) (readQ arg2 harg2 x0 3 (by decide) inb_S1024x512_S64x256_192_0)) (readK arg2 harg2 x0 3 (by decide) inb_S1024x512_S64x256_192_256)) (readA arg4 harg4 x2 3 (by decide) inb_S1024x256_S64x256_192_0)) (readV arg3 harg3 x1 3 (by decide) 1 inb_S1024x512_S64x128_192_128) :)
theorem upd_3_1 : (@kernelRun0_A.sl.r_65 Ideal _ c arg2 harg2 arg3 harg3 arg4 harg4 x0 x1 x2) = upd 1 (cutK x0 3) (cutA x2 3) (cutH (φ := .bf16) x1 3 1) :=
  (congr (congr (congrArg (upd 1) (readK arg2 harg2 x0 3 (by decide) inb_S1024x512_S64x256_192_256)) (readA arg4 harg4 x2 3 (by decide) inb_S1024x256_S64x256_192_0)) (readV arg3 harg3 x1 3 (by decide) 1 inb_S1024x512_S64x128_192_128) :)
theorem st_4_1 : (@kernelRun0_A.sl.r_303 Ideal _ c arg2 harg2 arg3 harg3 arg4 harg4 arg8 x0 x1 x2) = ST x0 x1 x2 (fun _ => zer) 4 1 :=
  (congr (congr (congrArg (nxt 1) (dec_3 c arg4 harg4 x2)) (upd_3_1 c arg2 harg2 arg3 harg3 arg4 harg4 x0 x1 x2)) (st_3_1 c arg2 harg2 arg3 harg3 arg4 harg4 arg8 x0 x1 x2) :)
theorem intra_3_2 : (@kernelRun0_A.sl.r_66 Ideal _ c arg2 harg2 arg3 harg3 arg4 harg4 x0 x1 x2) = intra 2 (cutQ x0 3) (cutK x0 3) (cutA x2 3) (cutH (φ := .bf16) x1 3 2) :=
  (congr (congr (congr (congrArg (intra 2) (readQ arg2 harg2 x0 3 (by decide) inb_S1024x512_S64x256_192_0)) (readK arg2 harg2 x0 3 (by decide) inb_S1024x512_S64x256_192_256)) (readA arg4 harg4 x2 3 (by decide) inb_S1024x256_S64x256_192_0)) (readV arg3 harg3 x1 3 (by decide) 2 inb_S1024x512_S64x128_192_256) :)
theorem upd_3_2 : (@kernelRun0_A.sl.r_67 Ideal _ c arg2 harg2 arg3 harg3 arg4 harg4 x0 x1 x2) = upd 2 (cutK x0 3) (cutA x2 3) (cutH (φ := .bf16) x1 3 2) :=
  (congr (congr (congrArg (upd 2) (readK arg2 harg2 x0 3 (by decide) inb_S1024x512_S64x256_192_256)) (readA arg4 harg4 x2 3 (by decide) inb_S1024x256_S64x256_192_0)) (readV arg3 harg3 x1 3 (by decide) 2 inb_S1024x512_S64x128_192_256) :)
theorem st_4_2 : (@kernelRun0_A.sl.r_305 Ideal _ c arg2 harg2 arg3 harg3 arg4 harg4 arg8 x0 x1 x2) = ST x0 x1 x2 (fun _ => zer) 4 2 :=
  (congr (congr (congrArg (nxt 2) (dec_3 c arg4 harg4 x2)) (upd_3_2 c arg2 harg2 arg3 harg3 arg4 harg4 x0 x1 x2)) (st_3_2 c arg2 harg2 arg3 harg3 arg4 harg4 arg8 x0 x1 x2) :)
theorem intra_3_3 : (@kernelRun0_A.sl.r_68 Ideal _ c arg2 harg2 arg3 harg3 arg4 harg4 x0 x1 x2) = intra 3 (cutQ x0 3) (cutK x0 3) (cutA x2 3) (cutH (φ := .bf16) x1 3 3) :=
  (congr (congr (congr (congrArg (intra 3) (readQ arg2 harg2 x0 3 (by decide) inb_S1024x512_S64x256_192_0)) (readK arg2 harg2 x0 3 (by decide) inb_S1024x512_S64x256_192_256)) (readA arg4 harg4 x2 3 (by decide) inb_S1024x256_S64x256_192_0)) (readV arg3 harg3 x1 3 (by decide) 3 inb_S1024x512_S64x128_192_384) :)
theorem upd_3_3 : (@kernelRun0_A.sl.r_69 Ideal _ c arg2 harg2 arg3 harg3 arg4 harg4 x0 x1 x2) = upd 3 (cutK x0 3) (cutA x2 3) (cutH (φ := .bf16) x1 3 3) :=
  (congr (congr (congrArg (upd 3) (readK arg2 harg2 x0 3 (by decide) inb_S1024x512_S64x256_192_256)) (readA arg4 harg4 x2 3 (by decide) inb_S1024x256_S64x256_192_0)) (readV arg3 harg3 x1 3 (by decide) 3 inb_S1024x512_S64x128_192_384) :)
theorem st_4_3 : (@kernelRun0_A.sl.r_308 Ideal _ c arg2 harg2 arg3 harg3 arg4 harg4 arg8 x0 x1 x2) = ST x0 x1 x2 (fun _ => zer) 4 3 :=
  (congr (congr (congrArg (nxt 3) (dec_3 c arg4 harg4 x2)) (upd_3_3 c arg2 harg2 arg3 harg3 arg4 harg4 x0 x1 x2)) (st_3_3 c arg2 harg2 arg3 harg3 arg4 harg4 arg8 x0 x1 x2) :)
theorem qd_4 : (@kernelRun0_A.sl.r_72 Ideal _ c arg2 harg2 arg4 harg4 x0 x2) = qd (cutQ x0 4) (cutA x2 4) :=
  (congr (congrArg qd (readQ arg2 harg2 x0 4 (by decide) inb_S1024x512_S64x256_256_0)) (readA arg4 harg4 x2 4 (by decide) inb_S1024x256_S64x256_256_0) :)
theorem dec_4 : (@kernelRun0_A.sl.r_75 Ideal _ c arg4 harg4 x2) = dec (cutA x2 4) :=
  (congrArg dec (readA arg4 harg4 x2 4 (by decide) inb_S1024x256_S64x256_256_0) :)
theorem intra_4_0 : (@kernelRun0_A.sl.r_76 Ideal _ c arg2 harg2 arg3 harg3 arg4 harg4 x0 x1 x2) = intra 0 (cutQ x0 4) (cutK x0 4) (cutA x2 4) (cutH (φ := .bf16) x1 4 0) :=
  (congr (congr (congr (congrArg (intra 0) (readQ arg2 harg2 x0 4 (by decide) inb_S1024x512_S64x256_256_0)) (readK arg2 harg2 x0 4 (by decide) inb_S1024x512_S64x256_256_256)) (readA arg4 harg4 x2 4 (by decide) inb_S1024x256_S64x256_256_0)) (readV arg3 harg3 x1 4 (by decide) 0 inb_S1024x512_S64x128_256_0) :)
theorem upd_4_0 : (@kernelRun0_A.sl.r_77 Ideal _ c arg2 harg2 arg3 harg3 arg4 harg4 x0 x1 x2) = upd 0 (cutK x0 4) (cutA x2 4) (cutH (φ := .bf16) x1 4 0) :=
  (congr (congr (congrArg (upd 0) (readK arg2 harg2 x0 4 (by decide) inb_S1024x512_S64x256_256_256)) (readA arg4 harg4 x2 4 (by decide) inb_S1024x256_S64x256_256_0)) (readV arg3 harg3 x1 4 (by decide) 0 inb_S1024x512_S64x128_256_0) :)
theorem st_5_0 : (@kernelRun0_A.sl.r_310 Ideal _ c arg2 harg2 arg3 harg3 arg4 harg4 arg8 x0 x1 x2) = ST x0 x1 x2 (fun _ => zer) 5 0 :=
  (congr (congr (congrArg (nxt 0) (dec_4 c arg4 harg4 x2)) (upd_4_0 c arg2 harg2 arg3 harg3 arg4 harg4 x0 x1 x2)) (st_4_0 c arg2 harg2 arg3 harg3 arg4 harg4 arg8 x0 x1 x2) :)
theorem intra_4_1 : (@kernelRun0_A.sl.r_80 Ideal _ c arg2 harg2 arg3 harg3 arg4 harg4 x0 x1 x2) = intra 1 (cutQ x0 4) (cutK x0 4) (cutA x2 4) (cutH (φ := .bf16) x1 4 1) :=
  (congr (congr (congr (congrArg (intra 1) (readQ arg2 harg2 x0 4 (by decide) inb_S1024x512_S64x256_256_0)) (readK arg2 harg2 x0 4 (by decide) inb_S1024x512_S64x256_256_256)) (readA arg4 harg4 x2 4 (by decide) inb_S1024x256_S64x256_256_0)) (readV arg3 harg3 x1 4 (by decide) 1 inb_S1024x512_S64x128_256_128) :)
theorem upd_4_1 : (@kernelRun0_A.sl.r_81 Ideal _ c arg2 harg2 arg3 harg3 arg4 harg4 x0 x1 x2) = upd 1 (cutK x0 4) (cutA x2 4) (cutH (φ := .bf16) x1 4 1) :=
  (congr (congr (congrArg (upd 1) (readK arg2 harg2 x0 4 (by decide) inb_S1024x512_S64x256_256_256)) (readA arg4 harg4 x2 4 (by decide) inb_S1024x256_S64x256_256_0)) (readV arg3 harg3 x1 4 (by decide) 1 inb_S1024x512_S64x128_256_128) :)
theorem st_5_1 : (@kernelRun0_A.sl.r_311 Ideal _ c arg2 harg2 arg3 harg3 arg4 harg4 arg8 x0 x1 x2) = ST x0 x1 x2 (fun _ => zer) 5 1 :=
  (congr (congr (congrArg (nxt 1) (dec_4 c arg4 harg4 x2)) (upd_4_1 c arg2 harg2 arg3 harg3 arg4 harg4 x0 x1 x2)) (st_4_1 c arg2 harg2 arg3 harg3 arg4 harg4 arg8 x0 x1 x2) :)
theorem intra_4_2 : (@kernelRun0_A.sl.r_82 Ideal _ c arg2 harg2 arg3 harg3 arg4 harg4 x0 x1 x2) = intra 2 (cutQ x0 4) (cutK x0 4) (cutA x2 4) (cutH (φ := .bf16) x1 4 2) :=
  (congr (congr (congr (congrArg (intra 2) (readQ arg2 harg2 x0 4 (by decide) inb_S1024x512_S64x256_256_0)) (readK arg2 harg2 x0 4 (by decide) inb_S1024x512_S64x256_256_256)) (readA arg4 harg4 x2 4 (by decide) inb_S1024x256_S64x256_256_0)) (readV arg3 harg3 x1 4 (by decide) 2 inb_S1024x512_S64x128_256_256) :)
theorem upd_4_2 : (@kernelRun0_A.sl.r_83 Ideal _ c arg2 harg2 arg3 harg3 arg4 harg4 x0 x1 x2) = upd 2 (cutK x0 4) (cutA x2 4) (cutH (φ := .bf16) x1 4 2) :=
  (congr (congr (congrArg (upd 2) (readK arg2 harg2 x0 4 (by decide) inb_S1024x512_S64x256_256_256)) (readA arg4 harg4 x2 4 (by decide) inb_S1024x256_S64x256_256_0)) (readV arg3 harg3 x1 4 (by decide) 2 inb_S1024x512_S64x128_256_256) :)
theorem st_5_2 : (@kernelRun0_A.sl.r_313 Ideal _ c arg2 harg2 arg3 harg3 arg4 harg4 arg8 x0 x1 x2) = ST x0 x1 x2 (fun _ => zer) 5 2 :=
  (congr (congr (congrArg (nxt 2) (dec_4 c arg4 harg4 x2)) (upd_4_2 c arg2 harg2 arg3 harg3 arg4 harg4 x0 x1 x2)) (st_4_2 c arg2 harg2 arg3 harg3 arg4 harg4 arg8 x0 x1 x2) :)
theorem intra_4_3 : (@kernelRun0_A.sl.r_84 Ideal _ c arg2 harg2 arg3 harg3 arg4 harg4 x0 x1 x2) = intra 3 (cutQ x0 4) (cutK x0 4) (cutA x2 4) (cutH (φ := .bf16) x1 4 3) :=
  (congr (congr (congr (congrArg (intra 3) (readQ arg2 harg2 x0 4 (by decide) inb_S1024x512_S64x256_256_0)) (readK arg2 harg2 x0 4 (by decide) inb_S1024x512_S64x256_256_256)) (readA arg4 harg4 x2 4 (by decide) inb_S1024x256_S64x256_256_0)) (readV arg3 harg3 x1 4 (by decide) 3 inb_S1024x512_S64x128_256_384) :)
theorem upd_4_3 : (@kernelRun0_A.sl.r_85 Ideal _ c arg2 harg2 arg3 harg3 arg4 harg4 x0 x1 x2) = upd 3 (cutK x0 4) (cutA x2 4) (cutH (φ := .bf16) x1 4 3) :=
  (congr (congr (congrArg (upd 3) (readK arg2 harg2 x0 4 (by decide) inb_S1024x512_S64x256_256_256)) (readA arg4 harg4 x2 4 (by decide) inb_S1024x256_S64x256_256_0)) (readV arg3 harg3 x1 4 (by decide) 3 inb_S1024x512_S64x128_256_384) :)
theorem st_5_3 : (@kernelRun0_A.sl.r_315 Ideal _ c arg2 harg2 arg3 harg3 arg4 harg4 arg8 x0 x1 x2) = ST x0 x1 x2 (fun _ => zer) 5 3 :=
  (congr (congr (congrArg (nxt 3) (dec_4 c arg4 harg4 x2)) (upd_4_3 c arg2 harg2 arg3 harg3 arg4 harg4 x0 x1 x2)) (st_4_3 c arg2 harg2 arg3 harg3 arg4 harg4 arg8 x0 x1 x2) :)
theorem qd_5 : (@kernelRun0_A.sl.r_90 Ideal _ c arg2 harg2 arg4 harg4 x0 x2) = qd (cutQ x0 5) (cutA x2 5) :=
  (congr (congrArg qd (readQ arg2 harg2 x0 5 (by decide) inb_S1024x512_S64x256_320_0)) (readA arg4 harg4 x2 5 (by decide) inb_S1024x256_S64x256_320_0) :)
theorem dec_5 : (@kernelRun0_A.sl.r_93 Ideal _ c arg4 harg4 x2) = dec (cutA x2 5) :=
  (congrArg dec (readA arg4 harg4 x2 5 (by decide) inb_S1024x256_S64x256_320_0) :)
theorem intra_5_0 : (@kernelRun0_A.sl.r_94 Ideal _ c arg2 harg2 arg3 harg3 arg4 harg4 x0 x1 x2) = intra 0 (cutQ x0 5) (cutK x0 5) (cutA x2 5) (cutH (φ := .bf16) x1 5 0) :=
  (congr (congr (congr (congrArg (intra 0) (readQ arg2 harg2 x0 5 (by decide) inb_S1024x512_S64x256_320_0)) (readK arg2 harg2 x0 5 (by decide) inb_S1024x512_S64x256_320_256)) (readA arg4 harg4 x2 5 (by decide) inb_S1024x256_S64x256_320_0)) (readV arg3 harg3 x1 5 (by decide) 0 inb_S1024x512_S64x128_320_0) :)
theorem upd_5_0 : (@kernelRun0_A.sl.r_95 Ideal _ c arg2 harg2 arg3 harg3 arg4 harg4 x0 x1 x2) = upd 0 (cutK x0 5) (cutA x2 5) (cutH (φ := .bf16) x1 5 0) :=
  (congr (congr (congrArg (upd 0) (readK arg2 harg2 x0 5 (by decide) inb_S1024x512_S64x256_320_256)) (readA arg4 harg4 x2 5 (by decide) inb_S1024x256_S64x256_320_0)) (readV arg3 harg3 x1 5 (by decide) 0 inb_S1024x512_S64x128_320_0) :)
theorem st_6_0 : (@kernelRun0_A.sl.r_318 Ideal _ c arg2 harg2 arg3 harg3 arg4 harg4 arg8 x0 x1 x2) = ST x0 x1 x2 (fun _ => zer) 6 0 :=
  (congr (congr (congrArg (nxt 0) (dec_5 c arg4 harg4 x2)) (upd_5_0 c arg2 harg2 arg3 harg3 arg4 harg4 x0 x1 x2)) (st_5_0 c arg2 harg2 arg3 harg3 arg4 harg4 arg8 x0 x1 x2) :)
theorem intra_5_1 : (@kernelRun0_A.sl.r_96 Ideal _ c arg2 harg2 arg3 harg3 arg4 harg4 x0 x1 x2) = intra 1 (cutQ x0 5) (cutK x0 5) (cutA x2 5) (cutH (φ := .bf16) x1 5 1) :=
  (congr (congr (congr (congrArg (intra 1) (readQ arg2 harg2 x0 5 (by decide) inb_S1024x512_S64x256_320_0)) (readK arg2 harg2 x0 5 (by decide) inb_S1024x512_S64x256_320_256)) (readA arg4 harg4 x2 5 (by decide) inb_S1024x256_S64x256_320_0)) (readV arg3 harg3 x1 5 (by decide) 1 inb_S1024x512_S64x128_320_128) :)
theorem upd_5_1 : (@kernelRun0_A.sl.r_97 Ideal _ c arg2 harg2 arg3 harg3 arg4 harg4 x0 x1 x2) = upd 1 (cutK x0 5) (cutA x2 5) (cutH (φ := .bf16) x1 5 1) :=
  (congr (congr (congrArg (upd 1) (readK arg2 harg2 x0 5 (by decide) inb_S1024x512_S64x256_320_256)) (readA arg4 harg4 x2 5 (by decide) inb_S1024x256_S64x256_320_0)) (readV arg3 harg3 x1 5 (by decide) 1 inb_S1024x512_S64x128_320_128) :)
theorem st_6_1 : (@kernelRun0_A.sl.r_320 Ideal _ c arg2 harg2 arg3 harg3 arg4 harg4 arg8 x0 x1 x2) = ST x0 x1 x2 (fun _ => zer) 6 1 :=
  (congr (congr (congrArg (nxt 1) (dec_5 c arg4 harg4 x2)) (upd_5_1 c arg2 harg2 arg3 harg3 arg4 harg4 x0 x1 x2)) (st_5_1 c arg2 harg2 arg3 harg3 arg4 harg4 arg8 x0 x1 x2) :)
theorem intra_5_2 : (@kernelRun0_A.sl.r_100 Ideal _ c arg2 harg2 arg3 harg3 arg4 harg4 x0 x1 x2) = intra 2 (cutQ x0 5) (cutK x0 5) (cutA x2 5) (cutH (φ := .bf16) x1 5 2) :=
  (congr (congr (congr (congrArg (intra 2) (readQ arg2 harg2 x0 5 (by decide) inb_S1024x512_S64x256_320_0)) (readK arg2 harg2 x0 5 (by decide) inb_S1024x512_S64x256_320_256)) (readA arg4 harg4 x2 5 (by decide) inb_S1024x256_S64x256_320_0)) (readV arg3 harg3 x1 5 (by decide) 2 inb_S1024x512_S64x128_320_256) :)
theorem upd_5_2 : (@kernelRun0_A.sl.r_101 Ideal _ c arg2 harg2 arg3 harg3 arg4 harg4 x0 x1 x2) = upd 2 (cutK x0 5) (cutA x2 5) (cutH (φ := .bf16) x1 5 2) :=
  (congr (congr (congrArg (upd 2) (readK arg2 harg2 x0 5 (by decide) inb_S1024x512_S64x256_320_256)) (readA arg4 harg4 x2 5 (by decide) inb_S1024x256_S64x256_320_0)) (readV arg3 harg3 x1 5 (by decide) 2 inb_S1024x512_S64x128_320_256) :)
theorem st_6_2 : (@kernelRun0_A.sl.r_323 Ideal _ c arg2 harg2 arg3 harg3 arg4 harg4 arg8 x0 x1 x2) = ST x0 x1 x2 (fun _ => zer) 6 2 :=
  (congr (congr (congrArg (nxt 2) (dec_5 c arg4 harg4 x2)) (upd_5_2 c arg2 harg2 arg3 harg3 arg4 harg4 x0 x1 x2)) (st_5_2 c arg2 harg2 arg3 harg3 arg4 harg4 arg8 x0 x1 x2) :)
theorem intra_5_3 : (@kernelRun0_A.sl.r_102 Ideal _ c arg2 harg2 arg3 harg3 arg4 harg4 x0 x1 x2) = intra 3 (cutQ x0 5) (cutK x0 5) (cutA x2 5) (cutH (φ := .bf16) x1 5 3) :=
  (congr (congr (congr (congrArg (intra 3) (readQ arg2 harg2 x0 5 (by decide) inb_S1024x512_S64x256_320_0)) (readK arg2 harg2 x0 5 (by decide) inb_S1024x512_S64x256_320_256)) (readA arg4 harg4 x2 5 (by decide) inb_S1024x256_S64x256_320_0)) (readV arg3 harg3 x1 5 (by decide) 3 inb_S1024x512_S64x128_320_384) :)
theorem upd_5_3 : (@kernelRun0_A.sl.r_103 Ideal _ c arg2 harg2 arg3 harg3 arg4 harg4 x0 x1 x2) = upd 3 (cutK x0 5) (cutA x2 5) (cutH (φ := .bf16) x1 5 3) :=
  (congr (congr (congrArg (upd 3) (readK arg2 harg2 x0 5 (by decide) inb_S1024x512_S64x256_320_256)) (readA arg4 harg4 x2 5 (by decide) inb_S1024x256_S64x256_320_0)) (readV arg3 harg3 x1 5 (by decide) 3 inb_S1024x512_S64x128_320_384) :)
theorem st_6_3 : (@kernelRun0_A.sl.r_325 Ideal _ c arg2 harg2 arg3 harg3 arg4 harg4 arg8 x0 x1 x2) = ST x0 x1 x2 (fun _ => zer) 6 3 :=
  (congr (congr (congrArg (nxt 3) (dec_5 c arg4 harg4 x2)) (upd_5_3 c arg2 harg2 arg3 harg3 arg4 harg4 x0 x1 x2)) (st_5_3 c arg2 harg2 arg3 harg3 arg4 harg4 arg8 x0 x1 x2) :)
theorem qd_6 : (@kernelRun0_A.sl.r_105 Ideal _ c arg2 harg2 arg4 harg4 x0 x2) = qd (cutQ x0 6) (cutA x2 6) :=
  (congr (congrArg qd (readQ arg2 harg2 x0 6 (by decide) inb_S1024x512_S64x256_384_0)) (readA arg4 harg4 x2 6 (by decide) inb_S1024x256_S64x256_384_0) :)
theorem dec_6 : (@kernelRun0_A.sl.r_108 Ideal _ c arg4 harg4 x2) = dec (cutA x2 6) :=
  (congrArg dec (readA arg4 harg4 x2 6 (by decide) inb_S1024x256_S64x256_384_0) :)
theorem intra_6_0 : (@kernelRun0_A.sl.r_109 Ideal _ c arg2 harg2 arg3 harg3 arg4 harg4 x0 x1 x2) = intra 0 (cutQ x0 6) (cutK x0 6) (cutA x2 6) (cutH (φ := .bf16) x1 6 0) :=
  (congr (congr (congr (congrArg (intra 0) (readQ arg2 harg2 x0 6 (by decide) inb_S1024x512_S64x256_384_0)) (readK arg2 harg2 x0 6 (by decide) inb_S1024x512_S64x256_384_256)) (readA arg4 harg4 x2 6 (by decide) inb_S1024x256_S64x256_384_0)) (readV arg3 harg3 x1 6 (by decide) 0 inb_S1024x512_S64x128_384_0) :)
theorem upd_6_0 : (@kernelRun0_A.sl.r_110 Ideal _ c arg2 harg2 arg3 harg3 arg4 harg4 x0 x1 x2) = upd 0 (cutK x0 6) (cutA x2 6) (cutH (φ := .bf16) x1 6 0) :=
  (congr (congr (congrArg (upd 0) (readK arg2 harg2 x0 6 (by decide) inb_S1024x512_S64x256_384_256)) (readA arg4 harg4 x2 6 (by decide) inb_S1024x256_S64x256_384_0)) (readV arg3 harg3 x1 6 (by decide) 0 inb_S1024x512_S64x128_384_0) :)
theorem st_7_0 : (@kernelRun0_A.sl.r_326 Ideal _ c arg2 harg2 arg3 harg3 arg4 harg4 arg8 x0 x1 x2) = ST x0 x1 x2 (fun _ => zer) 7 0 :=
  (congr (congr (congrArg (nxt 0) (dec_6 c arg4 harg4 x2)) (upd_6_0 c arg2 harg2 arg3 harg3 arg4 harg4 x0 x1 x2)) (st_6_0 c arg2 harg2 arg3 harg3 arg4 harg4 arg8 x0 x1 x2) :)
theorem intra_6_1 : (@kernelRun0_A.sl.r_111 Ideal _ c arg2 harg2 arg3 harg3 arg4 harg4 x0 x1 x2) = intra 1 (cutQ x0 6) (cutK x0 6) (cutA x2 6) (cutH (φ := .bf16) x1 6 1) :=
  (congr (congr (congr (congrArg (intra 1) (readQ arg2 harg2 x0 6 (by decide) inb_S1024x512_S64x256_384_0)) (readK arg2 harg2 x0 6 (by decide) inb_S1024x512_S64x256_384_256)) (readA arg4 harg4 x2 6 (by decide) inb_S1024x256_S64x256_384_0)) (readV arg3 harg3 x1 6 (by decide) 1 inb_S1024x512_S64x128_384_128) :)
theorem upd_6_1 : (@kernelRun0_A.sl.r_112 Ideal _ c arg2 harg2 arg3 harg3 arg4 harg4 x0 x1 x2) = upd 1 (cutK x0 6) (cutA x2 6) (cutH (φ := .bf16) x1 6 1) :=
  (congr (congr (congrArg (upd 1) (readK arg2 harg2 x0 6 (by decide) inb_S1024x512_S64x256_384_256)) (readA arg4 harg4 x2 6 (by decide) inb_S1024x256_S64x256_384_0)) (readV arg3 harg3 x1 6 (by decide) 1 inb_S1024x512_S64x128_384_128) :)
theorem st_7_1 : (@kernelRun0_A.sl.r_329 Ideal _ c arg2 harg2 arg3 harg3 arg4 harg4 arg8 x0 x1 x2) = ST x0 x1 x2 (fun _ => zer) 7 1 :=
  (congr (congr (congrArg (nxt 1) (dec_6 c arg4 harg4 x2)) (upd_6_1 c arg2 harg2 arg3 harg3 arg4 harg4 x0 x1 x2)) (st_6_1 c arg2 harg2 arg3 harg3 arg4 harg4 arg8 x0 x1 x2) :)
theorem intra_6_2 : (@kernelRun0_A.sl.r_113 Ideal _ c arg2 harg2 arg3 harg3 arg4 harg4 x0 x1 x2) = intra 2 (cutQ x0 6) (cutK x0 6) (cutA x2 6) (cutH (φ := .bf16) x1 6 2) :=
  (congr (congr (congr (congrArg (intra 2) (readQ arg2 harg2 x0 6 (by decide) inb_S1024x512_S64x256_384_0)) (readK arg2 harg2 x0 6 (by decide) inb_S1024x512_S64x256_384_256)) (readA arg4 harg4 x2 6 (by decide) inb_S1024x256_S64x256_384_0)) (readV arg3 harg3 x1 6 (by decide) 2 inb_S1024x512_S64x128_384_256) :)
theorem upd_6_2 : (@kernelRun0_A.sl.r_114 Ideal _ c arg2 harg2 arg3 harg3 arg4 harg4 x0 x1 x2) = upd 2 (cutK x0 6) (cutA x2 6) (cutH (φ := .bf16) x1 6 2) :=
  (congr (congr (congrArg (upd 2) (readK arg2 harg2 x0 6 (by decide) inb_S1024x512_S64x256_384_256)) (readA arg4 harg4 x2 6 (by decide) inb_S1024x256_S64x256_384_0)) (readV arg3 harg3 x1 6 (by decide) 2 inb_S1024x512_S64x128_384_256) :)
theorem st_7_2 : (@kernelRun0_A.sl.r_331 Ideal _ c arg2 harg2 arg3 harg3 arg4 harg4 arg8 x0 x1 x2) = ST x0 x1 x2 (fun _ => zer) 7 2 :=
  (congr (congr (congrArg (nxt 2) (dec_6 c arg4 harg4 x2)) (upd_6_2 c arg2 harg2 arg3 harg3 arg4 harg4 x0 x1 x2)) (st_6_2 c arg2 harg2 arg3 harg3 arg4 harg4 arg8 x0 x1 x2) :)
theorem intra_6_3 : (@kernelRun0_A.sl.r_116 Ideal _ c arg2 harg2 arg3 harg3 arg4 harg4 x0 x1 x2) = intra 3 (cutQ x0 6) (cutK x0 6) (cutA x2 6) (cutH (φ := .bf16) x1 6 3) :=
  (congr (congr (congr (congrArg (intra 3) (readQ arg2 harg2 x0 6 (by decide) inb_S1024x512_S64x256_384_0)) (readK arg2 harg2 x0 6 (by decide) inb_S1024x512_S64x256_384_256)) (readA arg4 harg4 x2 6 (by decide) inb_S1024x256_S64x256_384_0)) (readV arg3 harg3 x1 6 (by decide) 3 inb_S1024x512_S64x128_384_384) :)
theorem upd_6_3 : (@kernelRun0_A.sl.r_118 Ideal _ c arg2 harg2 arg3 harg3 arg4 harg4 x0 x1 x2) = upd 3 (cutK x0 6) (cutA x2 6) (cutH (φ := .bf16) x1 6 3) :=
  (congr (congr (congrArg (upd 3) (readK arg2 harg2 x0 6 (by decide) inb_S1024x512_S64x256_384_256)) (readA arg4 harg4 x2 6 (by decide) inb_S1024x256_S64x256_384_0)) (readV arg3 harg3 x1 6 (by decide) 3 inb_S1024x512_S64x128_384_384) :)
theorem st_7_3 : (@kernelRun0_A.sl.r_334 Ideal _ c arg2 harg2 arg3 harg3 arg4 harg4 arg8 x0 x1 x2) = ST x0 x1 x2 (fun _ => zer) 7 3 :=
  (congr (congr (congrArg (nxt 3) (dec_6 c arg4 harg4 x2)) (upd_6_3 c arg2 harg2 arg3 harg3 arg4 harg4 x0 x1 x2)) (st_6_3 c arg2 harg2 arg3 harg3 arg4 harg4 arg8 x0 x1 x2) :)
theorem qd_7 : (@kernelRun0_A.sl.r_121 Ideal _ c arg2 harg2 arg4 harg4 x0 x2) = qd (cutQ x0 7) (cutA x2 7) :=
  (congr (congrArg qd (readQ arg2 harg2 x0 7 (by decide) inb_S1024x512_S64x256_448_0)) (readA arg4 harg4 x2 7 (by decide) inb_S1024x256_S64x256_448_0) :)
theorem dec_7 : (@kernelRun0_A.sl.r_124 Ideal _ c arg4 harg4 x2) = dec (cutA x2 7) :=
  (congrArg dec (readA arg4 harg4 x2 7 (by decide) inb_S1024x256_S64x256_448_0) :)
theorem intra_7_0 : (@kernelRun0_A.sl.r_125 Ideal _ c arg2 harg2 arg3 harg3 arg4 harg4 x0 x1 x2) = intra 0 (cutQ x0 7) (cutK x0 7) (cutA x2 7) (cutH (φ := .bf16) x1 7 0) :=
  (congr (congr (congr (congrArg (intra 0) (readQ arg2 harg2 x0 7 (by decide) inb_S1024x512_S64x256_448_0)) (readK arg2 harg2 x0 7 (by decide) inb_S1024x512_S64x256_448_256)) (readA arg4 harg4 x2 7 (by decide) inb_S1024x256_S64x256_448_0)) (readV arg3 harg3 x1 7 (by decide) 0 inb_S1024x512_S64x128_448_0) :)
theorem upd_7_0 : (@kernelRun0_A.sl.r_126 Ideal _ c arg2 harg2 arg3 harg3 arg4 harg4 x0 x1 x2) = upd 0 (cutK x0 7) (cutA x2 7) (cutH (φ := .bf16) x1 7 0) :=
  (congr (congr (congrArg (upd 0) (readK arg2 harg2 x0 7 (by decide) inb_S1024x512_S64x256_448_256)) (readA arg4 harg4 x2 7 (by decide) inb_S1024x256_S64x256_448_0)) (readV arg3 harg3 x1 7 (by decide) 0 inb_S1024x512_S64x128_448_0) :)
theorem st_8_0 : (@kernelRun0_A.sl.r_336 Ideal _ c arg2 harg2 arg3 harg3 arg4 harg4 arg8 x0 x1 x2) = ST x0 x1 x2 (fun _ => zer) 8 0 :=
  (congr (congr (congrArg (nxt 0) (dec_7 c arg4 harg4 x2)) (upd_7_0 c arg2 harg2 arg3 harg3 arg4 harg4 x0 x1 x2)) (st_7_0 c arg2 harg2 arg3 harg3 arg4 harg4 arg8 x0 x1 x2) :)
theorem intra_7_1 : (@kernelRun0_A.sl.r_130 Ideal _ c arg2 harg2 arg3 harg3 arg4 harg4 x0 x1 x2) = intra 1 (cutQ x0 7) (cutK x0 7) (cutA x2 7) (cutH (φ := .bf16) x1 7 1) :=
  (congr (congr (congr (congrArg (intra 1) (readQ arg2 harg2 x0 7 (by decide) inb_S1024x512_S64x256_448_0)) (readK arg2 harg2 x0 7 (by decide) inb_S1024x512_S64x256_448_256)) (readA arg4 harg4 x2 7 (by decide) inb_S1024x256_S64x256_448_0)) (readV arg3 harg3 x1 7 (by decide) 1 inb_S1024x512_S64x128_448_128) :)
theorem upd_7_1 : (@kernelRun0_A.sl.r_131 Ideal _ c arg2 harg2 arg3 harg3 arg4 harg4 x0 x1 x2) = upd 1 (cutK x0 7) (cutA x2 7) (cutH (φ := .bf16) x1 7 1) :=
  (congr (congr (congrArg (upd 1) (readK arg2 harg2 x0 7 (by decide) inb_S1024x512_S64x256_448_256)) (readA arg4 harg4 x2 7 (by decide) inb_S1024x256_S64x256_448_0)) (readV arg3 harg3 x1 7 (by decide) 1 inb_S1024x512_S64x128_448_128) :)
theorem st_8_1 : (@kernelRun0_A.sl.r_337 Ideal _ c arg2 harg2 arg3 harg3 arg4 harg4 arg8 x0 x1 x2) = ST x0 x1 x2 (fun _ => zer) 8 1 :=
  (congr (congr (congrArg (nxt 1) (dec_7 c arg4 harg4 x2)) (upd_7_1 c arg2 harg2 arg3 harg3 arg4 harg4 x0 x1 x2)) (st_7_1 c arg2 harg2 arg3 harg3 arg4 harg4 arg8 x0 x1 x2) :)
theorem intra_7_2 : (@kernelRun0_A.sl.r_132 Ideal _ c arg2 harg2 arg3 harg3 arg4 harg4 x0 x1 x2) = intra 2 (cutQ x0 7) (cutK x0 7) (cutA x2 7) (cutH (φ := .bf16) x1 7 2) :=
  (congr (congr (congr (congrArg (intra 2) (readQ arg2 harg2 x0 7 (by decide) inb_S1024x512_S64x256_448_0)) (readK arg2 harg2 x0 7 (by decide) inb_S1024x512_S64x256_448_256)) (readA arg4 harg4 x2 7 (by decide) inb_S1024x256_S64x256_448_0)) (readV arg3 harg3 x1 7 (by decide) 2 inb_S1024x512_S64x128_448_256) :)
theorem upd_7_2 : (@kernelRun0_A.sl.r_133 Ideal _ c arg2 harg2 arg3 harg3 arg4 harg4 x0 x1 x2) = upd 2 (cutK x0 7) (cutA x2 7) (cutH (φ := .bf16) x1 7 2) :=
  (congr (congr (congrArg (upd 2) (readK arg2 harg2 x0 7 (by decide) inb_S1024x512_S64x256_448_256)) (readA arg4 harg4 x2 7 (by decide) inb_S1024x256_S64x256_448_0)) (readV arg3 harg3 x1 7 (by decide) 2 inb_S1024x512_S64x128_448_256) :)
theorem st_8_2 : (@kernelRun0_A.sl.r_339 Ideal _ c arg2 harg2 arg3 harg3 arg4 harg4 arg8 x0 x1 x2) = ST x0 x1 x2 (fun _ => zer) 8 2 :=
  (congr (congr (congrArg (nxt 2) (dec_7 c arg4 harg4 x2)) (upd_7_2 c arg2 harg2 arg3 harg3 arg4 harg4 x0 x1 x2)) (st_7_2 c arg2 harg2 arg3 harg3 arg4 harg4 arg8 x0 x1 x2) :)
theorem intra_7_3 : (@kernelRun0_A.sl.r_134 Ideal _ c arg2 harg2 arg3 harg3 arg4 harg4 x0 x1 x2) = intra 3 (cutQ x0 7) (cutK x0 7) (cutA x2 7) (cutH (φ := .bf16) x1 7 3) :=
  (congr (congr (congr (congrArg (intra 3) (readQ arg2 harg2 x0 7 (by decide) inb_S1024x512_S64x256_448_0)) (readK arg2 harg2 x0 7 (by decide) inb_S1024x512_S64x256_448_256)) (readA arg4 harg4 x2 7 (by decide) inb_S1024x256_S64x256_448_0)) (readV arg3 harg3 x1 7 (by decide) 3 inb_S1024x512_S64x128_448_384) :)
theorem upd_7_3 : (@kernelRun0_A.sl.r_135 Ideal _ c arg2 harg2 arg3 harg3 arg4 harg4 x0 x1 x2) = upd 3 (cutK x0 7) (cutA x2 7) (cutH (φ := .bf16) x1 7 3) :=
  (congr (congr (congrArg (upd 3) (readK arg2 harg2 x0 7 (by decide) inb_S1024x512_S64x256_448_256)) (readA arg4 harg4 x2 7 (by decide) inb_S1024x256_S64x256_448_0)) (readV arg3 harg3 x1 7 (by decide) 3 inb_S1024x512_S64x128_448_384) :)
theorem st_8_3 : (@kernelRun0_A.sl.r_341 Ideal _ c arg2 harg2 arg3 harg3 arg4 harg4 arg8 x0 x1 x2) = ST x0 x1 x2 (fun _ => zer) 8 3 :=
  (congr (congr (congrArg (nxt 3) (dec_7 c arg4 harg4 x2)) (upd_7_3 c arg2 harg2 arg3 harg3 arg4 harg4 x0 x1 x2)) (st_7_3 c arg2 harg2 arg3 harg3 arg4 harg4 arg8 x0 x1 x2) :)
theorem qd_8 : (@kernelRun0_A.sl.r_139 Ideal _ c arg2 harg2 arg4 harg4 x0 x2) = qd (cutQ x0 8) (cutA x2 8) :=
  (congr (congrArg qd (readQ arg2 harg2 x0 8 (by decide) inb_S1024x512_S64x256_512_0)) (readA arg4 harg4 x2 8 (by decide) inb_S1024x256_S64x256_512_0) :)
theorem dec_8 : (@kernelRun0_A.sl.r_142 Ideal _ c arg4 harg4 x2) = dec (cutA x2 8) :=
  (congrArg dec (readA arg4 harg4 x2 8 (by decide) inb_S1024x256_S64x256_512_0) :)
theorem intra_8_0 : (@kernelRun0_A.sl.r_143 Ideal _ c arg2 harg2 arg3 harg3 arg4 harg4 x0 x1 x2) = intra 0 (cutQ x0 8) (cutK x0 8) (cutA x2 8) (cutH (φ := .bf16) x1 8 0) :=
  (congr (congr (congr (congrArg (intra 0) (readQ arg2 harg2 x0 8 (by decide) inb_S1024x512_S64x256_512_0)) (readK arg2 harg2 x0 8 (by decide) inb_S1024x512_S64x256_512_256)) (readA arg4 harg4 x2 8 (by decide) inb_S1024x256_S64x256_512_0)) (readV arg3 harg3 x1 8 (by decide) 0 inb_S1024x512_S64x128_512_0) :)
theorem upd_8_0 : (@kernelRun0_A.sl.r_144 Ideal _ c arg2 harg2 arg3 harg3 arg4 harg4 x0 x1 x2) = upd 0 (cutK x0 8) (cutA x2 8) (cutH (φ := .bf16) x1 8 0) :=
  (congr (congr (congrArg (upd 0) (readK arg2 harg2 x0 8 (by decide) inb_S1024x512_S64x256_512_256)) (readA arg4 harg4 x2 8 (by decide) inb_S1024x256_S64x256_512_0)) (readV arg3 harg3 x1 8 (by decide) 0 inb_S1024x512_S64x128_512_0) :)
theorem st_9_0 : (@kernelRun0_A.sl.r_344 Ideal _ c arg2 harg2 arg3 harg3 arg4 harg4 arg8 x0 x1 x2) = ST x0 x1 x2 (fun _ => zer) 9 0 :=
  (congr (congr (congrArg (nxt 0) (dec_8 c arg4 harg4 x2)) (upd_8_0 c arg2 harg2 arg3 harg3 arg4 harg4 x0 x1 x2)) (st_8_0 c arg2 harg2 arg3 harg3 arg4 harg4 arg8 x0 x1 x2) :)
theorem intra_8_1 : (@kernelRun0_A.sl.r_145 Ideal _ c arg2 harg2 arg3 harg3 arg4 harg4 x0 x1 x2) = intra 1 (cutQ x0 8) (cutK x0 8) (cutA x2 8) (cutH (φ := .bf16) x1 8 1) :=
  (congr (congr (congr (congrArg (intra 1) (readQ arg2 harg2 x0 8 (by decide) inb_S1024x512_S64x256_512_0)) (readK arg2 harg2 x0 8 (by decide) inb_S1024x512_S64x256_512_256)) (readA arg4 harg4 x2 8 (by decide) inb_S1024x256_S64x256_512_0)) (readV arg3 harg3 x1 8 (by decide) 1 inb_S1024x512_S64x128_512_128) :)
theorem upd_8_1 : (@kernelRun0_A.sl.r_146 Ideal _ c arg2 harg2 arg3 harg3 arg4 harg4 x0 x1 x2) = upd 1 (cutK x0 8) (cutA x2 8) (cutH (φ := .bf16) x1 8 1) :=
  (congr (congr (congrArg (upd 1) (readK arg2 harg2 x0 8 (by decide) inb_S1024x512_S64x256_512_256)) (readA arg4 harg4 x2 8 (by decide) inb_S1024x256_S64x256_512_0)) (readV arg3 harg3 x1 8 (by decide) 1 inb_S1024x512_S64x128_512_128) :)
theorem st_9_1 : (@kernelRun0_A.sl.r_346 Ideal _ c arg2 harg2 arg3 harg3 arg4 harg4 arg8 x0 x1 x2) = ST x0 x1 x2 (fun _ => zer) 9 1 :=
  (congr (congr (congrArg (nxt 1) (dec_8 c arg4 harg4 x2)) (upd_8_1 c arg2 harg2 arg3 harg3 arg4 harg4 x0 x1 x2)) (st_8_1 c arg2 harg2 arg3 harg3 arg4 harg4 arg8 x0 x1 x2) :)
theorem intra_8_2 : (@kernelRun0_A.sl.r_149 Ideal _ c arg2 harg2 arg3 harg3 arg4 harg4 x0 x1 x2) = intra 2 (cutQ x0 8) (cutK x0 8) (cutA x2 8) (cutH (φ := .bf16) x1 8 2) :=
  (congr (congr (congr (congrArg (intra 2) (readQ arg2 harg2 x0 8 (by decide) inb_S1024x512_S64x256_512_0)) (readK arg2 harg2 x0 8 (by decide) inb_S1024x512_S64x256_512_256)) (readA arg4 harg4 x2 8 (by decide) inb_S1024x256_S64x256_512_0)) (readV arg3 harg3 x1 8 (by decide) 2 inb_S1024x512_S64x128_512_256) :)
theorem upd_8_2 : (@kernelRun0_A.sl.r_150 Ideal _ c arg2 harg2 arg3 harg3 arg4 harg4 x0 x1 x2) = upd 2 (cutK x0 8) (cutA x2 8) (cutH (φ := .bf16) x1 8 2) :=
  (congr (congr (congrArg (upd 2) (readK arg2 harg2 x0 8 (by decide) inb_S1024x512_S64x256_512_256)) (readA arg4 harg4 x2 8 (by decide) inb_S1024x256_S64x256_512_0)) (readV arg3 harg3 x1 8 (by decide) 2 inb_S1024x512_S64x128_512_256) :)
theorem st_9_2 : (@kernelRun0_A.sl.r_349 Ideal _ c arg2 harg2 arg3 harg3 arg4 harg4 arg8 x0 x1 x2) = ST x0 x1 x2 (fun _ => zer) 9 2 :=
  (congr (congr (congrArg (nxt 2) (dec_8 c arg4 harg4 x2)) (upd_8_2 c arg2 harg2 arg3 harg3 arg4 harg4 x0 x1 x2)) (st_8_2 c arg2 harg2 arg3 harg3 arg4 harg4 arg8 x0 x1 x2) :)
theorem intra_8_3 : (@kernelRun0_A.sl.r_151 Ideal _ c arg2 harg2 arg3 harg3 arg4 harg4 x0 x1 x2) = intra 3 (cutQ x0 8) (cutK x0 8) (cutA x2 8) (cutH (φ := .bf16) x1 8 3) :=
  (congr (congr (congr (congrArg (intra 3) (readQ arg2 harg2 x0 8 (by decide) inb_S1024x512_S64x256_512_0)) (readK arg2 harg2 x0 8 (by decide) inb_S1024x512_S64x256_512_256)) (readA arg4 harg4 x2 8 (by decide) inb_S1024x256_S64x256_512_0)) (readV arg3 harg3 x1 8 (by decide) 3 inb_S1024x512_S64x128_512_384) :)
theorem upd_8_3 : (@kernelRun0_A.sl.r_152 Ideal _ c arg2 harg2 arg3 harg3 arg4 harg4 x0 x1 x2) = upd 3 (cutK x0 8) (cutA x2 8) (cutH (φ := .bf16) x1 8 3) :=
  (congr (congr (congrArg (upd 3) (readK arg2 harg2 x0 8 (by decide) inb_S1024x512_S64x256_512_256)) (readA arg4 harg4 x2 8 (by decide) inb_S1024x256_S64x256_512_0)) (readV arg3 harg3 x1 8 (by decide) 3 inb_S1024x512_S64x128_512_384) :)
theorem st_9_3 : (@kernelRun0_A.sl.r_351 Ideal _ c arg2 harg2 arg3 harg3 arg4 harg4 arg8 x0 x1 x2) = ST x0 x1 x2 (fun _ => zer) 9 3 :=
  (congr (congr (congrArg (nxt 3) (dec_8 c arg4 harg4 x2)) (upd_8_3 c arg2 harg2 arg3 harg3 arg4 harg4 x0 x1 x2)) (st_8_3 c arg2 harg2 arg3 harg3 arg4 harg4 arg8 x0 x1 x2) :)
theorem qd_9 : (@kernelRun0_A.sl.r_156 Ideal _ c arg2 harg2 arg4 harg4 x0 x2) = qd (cutQ x0 9) (cutA x2 9) :=
  (congr (congrArg qd (readQ arg2 harg2 x0 9 (by decide) inb_S1024x512_S64x256_576_0)) (readA arg4 harg4 x2 9 (by decide) inb_S1024x256_S64x256_576_0) :)
theorem dec_9 : (@kernelRun0_A.sl.r_159 Ideal _ c arg4 harg4 x2) = dec (cutA x2 9) :=
  (congrArg dec (readA arg4 harg4 x2 9 (by decide) inb_S1024x256_S64x256_576_0) :)
theorem intra_9_0 : (@kernelRun0_A.sl.r_160 Ideal _ c arg2 harg2 arg3 harg3 arg4 harg4 x0 x1 x2) = intra 0 (cutQ x0 9) (cutK x0 9) (cutA x2 9) (cutH (φ := .bf16) x1 9 0) :=
  (congr (congr (congr (congrArg (intra 0) (readQ arg2 harg2 x0 9 (by decide) inb_S1024x512_S64x256_576_0)) (readK arg2 harg2 x0 9 (by decide) inb_S1024x512_S64x256_576_256)) (readA arg4 harg4 x2 9 (by decide) inb_S1024x256_S64x256_576_0)) (readV arg3 harg3 x1 9 (by decide) 0 inb_S1024x512_S64x128_576_0) :)
theorem upd_9_0 : (@kernelRun0_A.sl.r_161 Ideal _ c arg2 harg2 arg3 harg3 arg4 harg4 x0 x1 x2) = upd 0 (cutK x0 9) (cutA x2 9) (cutH (φ := .bf16) x1 9 0) :=
  (congr (congr (congrArg (upd 0) (readK arg2 harg2 x0 9 (by decide) inb_S1024x512_S64x256_576_256)) (readA arg4 harg4 x2 9 (by decide) inb_S1024x256_S64x256_576_0)) (readV arg3 harg3 x1 9 (by decide) 0 inb_S1024x512_S64x128_576_0) :)
theorem st_10_0 : (@kernelRun0_A.sl.r_352 Ideal _ c arg2 harg2 arg3 harg3 arg4 harg4 arg8 x0 x1 x2) = ST x0 x1 x2 (fun _ => zer) 10 0 :=
  (congr (congr (congrArg (nxt 0) (dec_9 c arg4 harg4 x2)) (upd_9_0 c arg2 harg2 arg3 harg3 arg4 harg4 x0 x1 x2)) (st_9_0 c arg2 harg2 arg3 harg3 arg4 harg4 arg8 x0 x1 x2) :)
theorem intra_9_1 : (@kernelRun0_A.sl.r_162 Ideal _ c arg2 harg2 arg3 harg3 arg4 harg4 x0 x1 x2) = intra 1 (cutQ x0 9) (cutK x0 9) (cutA x2 9) (cutH (φ := .bf16) x1 9 1) :=
  (congr (congr (congr (congrArg (intra 1) (readQ arg2 harg2 x0 9 (by decide) inb_S1024x512_S64x256_576_0)) (readK arg2 harg2 x0 9 (by decide) inb_S1024x512_S64x256_576_256)) (readA arg4 harg4 x2 9 (by decide) inb_S1024x256_S64x256_576_0)) (readV arg3 harg3 x1 9 (by decide) 1 inb_S1024x512_S64x128_576_128) :)
theorem upd_9_1 : (@kernelRun0_A.sl.r_163 Ideal _ c arg2 harg2 arg3 harg3 arg4 harg4 x0 x1 x2) = upd 1 (cutK x0 9) (cutA x2 9) (cutH (φ := .bf16) x1 9 1) :=
  (congr (congr (congrArg (upd 1) (readK arg2 harg2 x0 9 (by decide) inb_S1024x512_S64x256_576_256)) (readA arg4 harg4 x2 9 (by decide) inb_S1024x256_S64x256_576_0)) (readV arg3 harg3 x1 9 (by decide) 1 inb_S1024x512_S64x128_576_128) :)
theorem st_10_1 : (@kernelRun0_A.sl.r_355 Ideal _ c arg2 harg2 arg3 harg3 arg4 harg4 arg8 x0 x1 x2) = ST x0 x1 x2 (fun _ => zer) 10 1 :=
  (congr (congr (congrArg (nxt 1) (dec_9 c arg4 harg4 x2)) (upd_9_1 c arg2 harg2 arg3 harg3 arg4 harg4 x0 x1 x2)) (st_9_1 c arg2 harg2 arg3 harg3 arg4 harg4 arg8 x0 x1 x2) :)
theorem intra_9_2 : (@kernelRun0_A.sl.r_164 Ideal _ c arg2 harg2 arg3 harg3 arg4 harg4 x0 x1 x2) = intra 2 (cutQ x0 9) (cutK x0 9) (cutA x2 9) (cutH (φ := .bf16) x1 9 2) :=
  (congr (congr (congr (congrArg (intra 2) (readQ arg2 harg2 x0 9 (by decide) inb_S1024x512_S64x256_576_0)) (readK arg2 harg2 x0 9 (by decide) inb_S1024x512_S64x256_576_256)) (readA arg4 harg4 x2 9 (by decide) inb_S1024x256_S64x256_576_0)) (readV arg3 harg3 x1 9 (by decide) 2 inb_S1024x512_S64x128_576_256) :)
theorem upd_9_2 : (@kernelRun0_A.sl.r_165 Ideal _ c arg2 harg2 arg3 harg3 arg4 harg4 x0 x1 x2) = upd 2 (cutK x0 9) (cutA x2 9) (cutH (φ := .bf16) x1 9 2) :=
  (congr (congr (congrArg (upd 2) (readK arg2 harg2 x0 9 (by decide) inb_S1024x512_S64x256_576_256)) (readA arg4 harg4 x2 9 (by decide) inb_S1024x256_S64x256_576_0)) (readV arg3 harg3 x1 9 (by decide) 2 inb_S1024x512_S64x128_576_256) :)
theorem st_10_2 : (@kernelRun0_A.sl.r_357 Ideal _ c arg2 harg2 arg3 harg3 arg4 harg4 arg8 x0 x1 x2) = ST x0 x1 x2 (fun _ => zer) 10 2 :=
  (congr (congr (congrArg (nxt 2) (dec_9 c arg4 harg4 x2)) (upd_9_2 c arg2 harg2 arg3 harg3 arg4 harg4 x0 x1 x2)) (st_9_2 c arg2 harg2 arg3 harg3 arg4 harg4 arg8 x0 x1 x2) :)
theorem intra_9_3 : (@kernelRun0_A.sl.r_168 Ideal _ c arg2 harg2 arg3 harg3 arg4 harg4 x0 x1 x2) = intra 3 (cutQ x0 9) (cutK x0 9) (cutA x2 9) (cutH (φ := .bf16) x1 9 3) :=
  (congr (congr (congr (congrArg (intra 3) (readQ arg2 harg2 x0 9 (by decide) inb_S1024x512_S64x256_576_0)) (readK arg2 harg2 x0 9 (by decide) inb_S1024x512_S64x256_576_256)) (readA arg4 harg4 x2 9 (by decide) inb_S1024x256_S64x256_576_0)) (readV arg3 harg3 x1 9 (by decide) 3 inb_S1024x512_S64x128_576_384) :)
theorem upd_9_3 : (@kernelRun0_A.sl.r_169 Ideal _ c arg2 harg2 arg3 harg3 arg4 harg4 x0 x1 x2) = upd 3 (cutK x0 9) (cutA x2 9) (cutH (φ := .bf16) x1 9 3) :=
  (congr (congr (congrArg (upd 3) (readK arg2 harg2 x0 9 (by decide) inb_S1024x512_S64x256_576_256)) (readA arg4 harg4 x2 9 (by decide) inb_S1024x256_S64x256_576_0)) (readV arg3 harg3 x1 9 (by decide) 3 inb_S1024x512_S64x128_576_384) :)
theorem st_10_3 : (@kernelRun0_A.sl.r_360 Ideal _ c arg2 harg2 arg3 harg3 arg4 harg4 arg8 x0 x1 x2) = ST x0 x1 x2 (fun _ => zer) 10 3 :=
  (congr (congr (congrArg (nxt 3) (dec_9 c arg4 harg4 x2)) (upd_9_3 c arg2 harg2 arg3 harg3 arg4 harg4 x0 x1 x2)) (st_9_3 c arg2 harg2 arg3 harg3 arg4 harg4 arg8 x0 x1 x2) :)
theorem qd_10 : (@kernelRun0_A.sl.r_171 Ideal _ c arg2 harg2 arg4 harg4 x0 x2) = qd (cutQ x0 10) (cutA x2 10) :=
  (congr (congrArg qd (readQ arg2 harg2 x0 10 (by decide) inb_S1024x512_S64x256_640_0)) (readA arg4 harg4 x2 10 (by decide) inb_S1024x256_S64x256_640_0) :)
theorem dec_10 : (@kernelRun0_A.sl.r_174 Ideal _ c arg4 harg4 x2) = dec (cutA x2 10) :=
  (congrArg dec (readA arg4 harg4 x2 10 (by decide) inb_S1024x256_S64x256_640_0) :)
theorem intra_10_0 : (@kernelRun0_A.sl.r_175 Ideal _ c arg2 harg2 arg3 harg3 arg4 harg4 x0 x1 x2) = intra 0 (cutQ x0 10) (cutK x0 10) (cutA x2 10) (cutH (φ := .bf16) x1 10 0) :=
  (congr (congr (congr (congrArg (intra 0) (readQ arg2 harg2 x0 10 (by decide) inb_S1024x512_S64x256_640_0)) (readK arg2 harg2 x0 10 (by decide) inb_S1024x512_S64x256_640_256)) (readA arg4 harg4 x2 10 (by decide) inb_S1024x256_S64x256_640_0)) (readV arg3 harg3 x1 10 (by decide) 0 inb_S1024x512_S64x128_640_0) :)
theorem upd_10_0 : (@kernelRun0_A.sl.r_176 Ideal _ c arg2 harg2 arg3 harg3 arg4 harg4 x0 x1 x2) = upd 0 (cutK x0 10) (cutA x2 10) (cutH (φ := .bf16) x1 10 0) :=
  (congr (congr (congrArg (upd 0) (readK arg2 harg2 x0 10 (by decide) inb_S1024x512_S64x256_640_256)) (readA arg4 harg4 x2 10 (by decide) inb_S1024x256_S64x256_640_0)) (readV arg3 harg3 x1 10 (by decide) 0 inb_S1024x512_S64x128_640_0) :)
theorem st_11_0 : (@kernelRun0_A.sl.r_362 Ideal _ c arg2 harg2 arg3 harg3 arg4 harg4 arg8 x0 x1 x2) = ST x0 x1 x2 (fun _ => zer) 11 0 :=
  (congr (congr (congrArg (nxt 0) (dec_10 c arg4 harg4 x2)) (upd_10_0 c arg2 harg2 arg3 harg3 arg4 harg4 x0 x1 x2)) (st_10_0 c arg2 harg2 arg3 harg3 arg4 harg4 arg8 x0 x1 x2) :)
theorem intra_10_1 : (@kernelRun0_A.sl.r_177 Ideal _ c arg2 harg2 arg3 harg3 arg4 harg4 x0 x1 x2) = intra 1 (cutQ x0 10) (cutK x0 10) (cutA x2 10) (cutH (φ := .bf16) x1 10 1) :=
  (congr (congr (congr (congrArg (intra 1) (readQ arg2 harg2 x0 10 (by decide) inb_S1024x512_S64x256_640_0)) (readK arg2 harg2 x0 10 (by decide) inb_S1024x512_S64x256_640_256)) (readA arg4 harg4 x2 10 (by decide) inb_S1024x256_S64x256_640_0)) (readV arg3 harg3 x1 10 (by decide) 1 inb_S1024x512_S64x128_640_128) :)
theorem upd_10_1 : (@kernelRun0_A.sl.r_178 Ideal _ c arg2 harg2 arg3 harg3 arg4 harg4 x0 x1 x2) = upd 1 (cutK x0 10) (cutA x2 10) (cutH (φ := .bf16) x1 10 1) :=
  (congr (congr (congrArg (upd 1) (readK arg2 harg2 x0 10 (by decide) inb_S1024x512_S64x256_640_256)) (readA arg4 harg4 x2 10 (by decide) inb_S1024x256_S64x256_640_0)) (readV arg3 harg3 x1 10 (by decide) 1 inb_S1024x512_S64x128_640_128) :)
theorem st_11_1 : (@kernelRun0_A.sl.r_363 Ideal _ c arg2 harg2 arg3 harg3 arg4 harg4 arg8 x0 x1 x2) = ST x0 x1 x2 (fun _ => zer) 11 1 :=
  (congr (congr (congrArg (nxt 1) (dec_10 c arg4 harg4 x2)) (upd_10_1 c arg2 harg2 arg3 harg3 arg4 harg4 x0 x1 x2)) (st_10_1 c arg2 harg2 arg3 harg3 arg4 harg4 arg8 x0 x1 x2) :)
theorem intra_10_2 : (@kernelRun0_A.sl.r_179 Ideal _ c arg2 harg2 arg3 harg3 arg4 harg4 x0 x1 x2) = intra 2 (cutQ x0 10) (cutK x0 10) (cutA x2 10) (cutH (φ := .bf16) x1 10 2) :=
  (congr (congr (congr (congrArg (intra 2) (readQ arg2 harg2 x0 10 (by decide) inb_S1024x512_S64x256_640_0)) (readK arg2 harg2 x0 10 (by decide) inb_S1024x512_S64x256_640_256)) (readA arg4 harg4 x2 10 (by decide) inb_S1024x256_S64x256_640_0)) (readV arg3 harg3 x1 10 (by decide) 2 inb_S1024x512_S64x128_640_256) :)
theorem upd_10_2 : (@kernelRun0_A.sl.r_180 Ideal _ c arg2 harg2 arg3 harg3 arg4 harg4 x0 x1 x2) = upd 2 (cutK x0 10) (cutA x2 10) (cutH (φ := .bf16) x1 10 2) :=
  (congr (congr (congrArg (upd 2) (readK arg2 harg2 x0 10 (by decide) inb_S1024x512_S64x256_640_256)) (readA arg4 harg4 x2 10 (by decide) inb_S1024x256_S64x256_640_0)) (readV arg3 harg3 x1 10 (by decide) 2 inb_S1024x512_S64x128_640_256) :)
theorem st_11_2 : (@kernelRun0_A.sl.r_365 Ideal _ c arg2 harg2 arg3 harg3 arg4 harg4 arg8 x0 x1 x2) = ST x0 x1 x2 (fun _ => zer) 11 2 :=
  (congr (congr (congrArg (nxt 2) (dec_10 c arg4 harg4 x2)) (upd_10_2 c arg2 harg2 arg3 harg3 arg4 harg4 x0 x1 x2)) (st_10_2 c arg2 harg2 arg3 harg3 arg4 harg4 arg8 x0 x1 x2) :)
theorem intra_10_3 : (@kernelRun0_A.sl.r_181 Ideal _ c arg2 harg2 arg3 harg3 arg4 harg4 x0 x1 x2) = intra 3 (cutQ x0 10) (cutK x0 10) (cutA x2 10) (cutH (φ := .bf16) x1 10 3) :=
  (congr (congr (congr (congrArg (intra 3) (readQ arg2 harg2 x0 10 (by decide) inb_S1024x512_S64x256_640_0)) (readK arg2 harg2 x0 10 (by decide) inb_S1024x512_S64x256_640_256)) (readA arg4 harg4 x2 10 (by decide) inb_S1024x256_S64x256_640_0)) (readV arg3 harg3 x1 10 (by decide) 3 inb_S1024x512_S64x128_640_384) :)
theorem upd_10_3 : (@kernelRun0_A.sl.r_182 Ideal _ c arg2 harg2 arg3 harg3 arg4 harg4 x0 x1 x2) = upd 3 (cutK x0 10) (cutA x2 10) (cutH (φ := .bf16) x1 10 3) :=
  (congr (congr (congrArg (upd 3) (readK arg2 harg2 x0 10 (by decide) inb_S1024x512_S64x256_640_256)) (readA arg4 harg4 x2 10 (by decide) inb_S1024x256_S64x256_640_0)) (readV arg3 harg3 x1 10 (by decide) 3 inb_S1024x512_S64x128_640_384) :)
theorem st_11_3 : (@kernelRun0_A.sl.r_367 Ideal _ c arg2 harg2 arg3 harg3 arg4 harg4 arg8 x0 x1 x2) = ST x0 x1 x2 (fun _ => zer) 11 3 :=
  (congr (congr (congrArg (nxt 3) (dec_10 c arg4 harg4 x2)) (upd_10_3 c arg2 harg2 arg3 harg3 arg4 harg4 x0 x1 x2)) (st_10_3 c arg2 harg2 arg3 harg3 arg4 harg4 arg8 x0 x1 x2) :)
theorem qd_11 : (@kernelRun0_A.sl.r_187 Ideal _ c arg2 harg2 arg4 harg4 x0 x2) = qd (cutQ x0 11) (cutA x2 11) :=
  (congr (congrArg qd (readQ arg2 harg2 x0 11 (by decide) inb_S1024x512_S64x256_704_0)) (readA arg4 harg4 x2 11 (by decide) inb_S1024x256_S64x256_704_0) :)
theorem dec_11 : (@kernelRun0_A.sl.r_190 Ideal _ c arg4 harg4 x2) = dec (cutA x2 11) :=
  (congrArg dec (readA arg4 harg4 x2 11 (by decide) inb_S1024x256_S64x256_704_0) :)
theorem intra_11_0 : (@kernelRun0_A.sl.r_191 Ideal _ c arg2 harg2 arg3 harg3 arg4 harg4 x0 x1 x2) = intra 0 (cutQ x0 11) (cutK x0 11) (cutA x2 11) (cutH (φ := .bf16) x1 11 0) :=
  (congr (congr (congr (congrArg (intra 0) (readQ arg2 harg2 x0 11 (by decide) inb_S1024x512_S64x256_704_0)) (readK arg2 harg2 x0 11 (by decide) inb_S1024x512_S64x256_704_256)) (readA arg4 harg4 x2 11 (by decide) inb_S1024x256_S64x256_704_0)) (readV arg3 harg3 x1 11 (by decide) 0 inb_S1024x512_S64x128_704_0) :)
theorem upd_11_0 : (@kernelRun0_A.sl.r_192 Ideal _ c arg2 harg2 arg3 harg3 arg4 harg4 x0 x1 x2) = upd 0 (cutK x0 11) (cutA x2 11) (cutH (φ := .bf16) x1 11 0) :=
  (congr (congr (congrArg (upd 0) (readK arg2 harg2 x0 11 (by decide) inb_S1024x512_S64x256_704_256)) (readA arg4 harg4 x2 11 (by decide) inb_S1024x256_S64x256_704_0)) (readV arg3 harg3 x1 11 (by decide) 0 inb_S1024x512_S64x128_704_0) :)
theorem st_12_0 : (@kernelRun0_A.sl.r_370 Ideal _ c arg2 harg2 arg3 harg3 arg4 harg4 arg8 x0 x1 x2) = ST x0 x1 x2 (fun _ => zer) 12 0 :=
  (congr (congr (congrArg (nxt 0) (dec_11 c arg4 harg4 x2)) (upd_11_0 c arg2 harg2 arg3 harg3 arg4 harg4 x0 x1 x2)) (st_11_0 c arg2 harg2 arg3 harg3 arg4 harg4 arg8 x0 x1 x2) :)
theorem intra_11_1 : (@kernelRun0_A.sl.r_193 Ideal _ c arg2 harg2 arg3 harg3 arg4 harg4 x0 x1 x2) = intra 1 (cutQ x0 11) (cutK x0 11) (cutA x2 11) (cutH (φ := .bf16) x1 11 1) :=
  (congr (congr (congr (congrArg (intra 1) (readQ arg2 harg2 x0 11 (by decide) inb_S1024x512_S64x256_704_0)) (readK arg2 harg2 x0 11 (by decide) inb_S1024x512_S64x256_704_256)) (readA arg4 harg4 x2 11 (by decide) inb_S1024x256_S64x256_704_0)) (readV arg3 harg3 x1 11 (by decide) 1 inb_S1024x512_S64x128_704_128) :)
theorem upd_11_1 : (@kernelRun0_A.sl.r_194 Ideal _ c arg2 harg2 arg3 harg3 arg4 harg4 x0 x1 x2) = upd 1 (cutK x0 11) (cutA x2 11) (cutH (φ := .bf16) x1 11 1) :=
  (congr (congr (congrArg (upd 1) (readK arg2 harg2 x0 11 (by decide) inb_S1024x512_S64x256_704_256)) (readA arg4 harg4 x2 11 (by decide) inb_S1024x256_S64x256_704_0)) (readV arg3 harg3 x1 11 (by decide) 1 inb_S1024x512_S64x128_704_128) :)
theorem st_12_1 : (@kernelRun0_A.sl.r_372 Ideal _ c arg2 harg2 arg3 harg3 arg4 harg4 arg8 x0 x1 x2) = ST x0 x1 x2 (fun _ => zer) 12 1 :=
  (congr (congr (congrArg (nxt 1) (dec_11 c arg4 harg4 x2)) (upd_11_1 c arg2 harg2 arg3 harg3 arg4 harg4 x0 x1 x2)) (st_11_1 c arg2 harg2 arg3 harg3 arg4 harg4 arg8 x0 x1 x2) :)
theorem intra_11_2 : (@kernelRun0_A.sl.r_198 Ideal _ c arg2 harg2 arg3 harg3 arg4 harg4 x0 x1 x2) = intra 2 (cutQ x0 11) (cutK x0 11) (cutA x2 11) (cutH (φ := .bf16) x1 11 2) :=
  (congr (congr (congr (congrArg (intra 2) (readQ arg2 harg2 x0 11 (by decide) inb_S1024x512_S64x256_704_0)) (readK arg2 harg2 x0 11 (by decide) inb_S1024x512_S64x256_704_256)) (readA arg4 harg4 x2 11 (by decide) inb_S1024x256_S64x256_704_0)) (readV arg3 harg3 x1 11 (by decide) 2 inb_S1024x512_S64x128_704_256) :)
theorem upd_11_2 : (@kernelRun0_A.sl.r_199 Ideal _ c arg2 harg2 arg3 harg3 arg4 harg4 x0 x1 x2) = upd 2 (cutK x0 11) (cutA x2 11) (cutH (φ := .bf16) x1 11 2) :=
  (congr (congr (congrArg (upd 2) (readK arg2 harg2 x0 11 (by decide) inb_S1024x512_S64x256_704_256)) (readA arg4 harg4 x2 11 (by decide) inb_S1024x256_S64x256_704_0)) (readV arg3 harg3 x1 11 (by decide) 2 inb_S1024x512_S64x128_704_256) :)
theorem st_12_2 : (@kernelRun0_A.sl.r_375 Ideal _ c arg2 harg2 arg3 harg3 arg4 harg4 arg8 x0 x1 x2) = ST x0 x1 x2 (fun _ => zer) 12 2 :=
  (congr (congr (congrArg (nxt 2) (dec_11 c arg4 harg4 x2)) (upd_11_2 c arg2 harg2 arg3 harg3 arg4 harg4 x0 x1 x2)) (st_11_2 c arg2 harg2 arg3 harg3 arg4 harg4 arg8 x0 x1 x2) :)
theorem intra_11_3 : (@kernelRun0_A.sl.r_200 Ideal _ c arg2 harg2 arg3 harg3 arg4 harg4 x0 x1 x2) = intra 3 (cutQ x0 11) (cutK x0 11) (cutA x2 11) (cutH (φ := .bf16) x1 11 3) :=
  (congr (congr (congr (congrArg (intra 3) (readQ arg2 harg2 x0 11 (by decide) inb_S1024x512_S64x256_704_0)) (readK arg2 harg2 x0 11 (by decide) inb_S1024x512_S64x256_704_256)) (readA arg4 harg4 x2 11 (by decide) inb_S1024x256_S64x256_704_0)) (readV arg3 harg3 x1 11 (by decide) 3 inb_S1024x512_S64x128_704_384) :)
theorem upd_11_3 : (@kernelRun0_A.sl.r_201 Ideal _ c arg2 harg2 arg3 harg3 arg4 harg4 x0 x1 x2) = upd 3 (cutK x0 11) (cutA x2 11) (cutH (φ := .bf16) x1 11 3) :=
  (congr (congr (congrArg (upd 3) (readK arg2 harg2 x0 11 (by decide) inb_S1024x512_S64x256_704_256)) (readA arg4 harg4 x2 11 (by decide) inb_S1024x256_S64x256_704_0)) (readV arg3 harg3 x1 11 (by decide) 3 inb_S1024x512_S64x128_704_384) :)
theorem st_12_3 : (@kernelRun0_A.sl.r_377 Ideal _ c arg2 harg2 arg3 harg3 arg4 harg4 arg8 x0 x1 x2) = ST x0 x1 x2 (fun _ => zer) 12 3 :=
  (congr (congr (congrArg (nxt 3) (dec_11 c arg4 harg4 x2)) (upd_11_3 c arg2 harg2 arg3 harg3 arg4 harg4 x0 x1 x2)) (st_11_3 c arg2 harg2 arg3 harg3 arg4 harg4 arg8 x0 x1 x2) :)
theorem qd_12 : (@kernelRun0_A.sl.r_206 Ideal _ c arg2 harg2 arg4 harg4 x0 x2) = qd (cutQ x0 12) (cutA x2 12) :=
  (congr (congrArg qd (readQ arg2 harg2 x0 12 (by decide) inb_S1024x512_S64x256_768_0)) (readA arg4 harg4 x2 12 (by decide) inb_S1024x256_S64x256_768_0) :)
theorem dec_12 : (@kernelRun0_A.sl.r_210 Ideal _ c arg4 harg4 x2) = dec (cutA x2 12) :=
  (congrArg dec (readA arg4 harg4 x2 12 (by decide) inb_S1024x256_S64x256_768_0) :)
theorem intra_12_0 : (@kernelRun0_A.sl.r_211 Ideal _ c arg2 harg2 arg3 harg3 arg4 harg4 x0 x1 x2) = intra 0 (cutQ x0 12) (cutK x0 12) (cutA x2 12) (cutH (φ := .bf16) x1 12 0) :=
  (congr (congr (congr (congrArg (intra 0) (readQ arg2 harg2 x0 12 (by decide) inb_S1024x512_S64x256_768_0)) (readK arg2 harg2 x0 12 (by decide) inb_S1024x512_S64x256_768_256)) (readA arg4 harg4 x2 12 (by decide) inb_S1024x256_S64x256_768_0)) (readV arg3 harg3 x1 12 (by decide) 0 inb_S1024x512_S64x128_768_0) :)
theorem upd_12_0 : (@kernelRun0_A.sl.r_212 Ideal _ c arg2 harg2 arg3 harg3 arg4 harg4 x0 x1 x2) = upd 0 (cutK x0 12) (cutA x2 12) (cutH (φ := .bf16) x1 12 0) :=
  (congr (congr (congrArg (upd 0) (readK arg2 harg2 x0 12 (by decide) inb_S1024x512_S64x256_768_256)) (readA arg4 harg4 x2 12 (by decide) inb_S1024x256_S64x256_768_0)) (readV arg3 harg3 x1 12 (by decide) 0 inb_S1024x512_S64x128_768_0) :)
theorem st_13_0 : (@kernelRun0_A.sl.r_378 Ideal _ c arg2 harg2 arg3 harg3 arg4 harg4 arg8 x0 x1 x2) = ST x0 x1 x2 (fun _ => zer) 13 0 :=
  (congr (congr (congrArg (nxt 0) (dec_12 c arg4 harg4 x2)) (upd_12_0 c arg2 harg2 arg3 harg3 arg4 harg4 x0 x1 x2)) (st_12_0 c arg2 harg2 arg3 harg3 arg4 harg4 arg8 x0 x1 x2) :)
theorem intra_12_1 : (@kernelRun0_A.sl.r_213 Ideal _ c arg2 harg2 arg3 harg3 arg4 harg4 x0 x1 x2) = intra 1 (cutQ x0 12) (cutK x0 12) (cutA x2 12) (cutH (φ := .bf16) x1 12 1) :=
  (congr (congr (congr (congrArg (intra 1) (readQ arg2 harg2 x0 12 (by decide) inb_S1024x512_S64x256_768_0)) (readK arg2 harg2 x0 12 (by decide) inb_S1024x512_S64x256_768_256)) (readA arg4 harg4 x2 12 (by decide) inb_S1024x256_S64x256_768_0)) (readV arg3 harg3 x1 12 (by decide) 1 inb_S1024x512_S64x128_768_128) :)
theorem upd_12_1 : (@kernelRun0_A.sl.r_214 Ideal _ c arg2 harg2 arg3 harg3 arg4 harg4 x0 x1 x2) = upd 1 (cutK x0 12) (cutA x2 12) (cutH (φ := .bf16) x1 12 1) :=
  (congr (congr (congrArg (upd 1) (readK arg2 harg2 x0 12 (by decide) inb_S1024x512_S64x256_768_256)) (readA arg4 harg4 x2 12 (by decide) inb_S1024x256_S64x256_768_0)) (readV arg3 harg3 x1 12 (by decide) 1 inb_S1024x512_S64x128_768_128) :)
theorem st_13_1 : (@kernelRun0_A.sl.r_381 Ideal _ c arg2 harg2 arg3 harg3 arg4 harg4 arg8 x0 x1 x2) = ST x0 x1 x2 (fun _ => zer) 13 1 :=
  (congr (congr (congrArg (nxt 1) (dec_12 c arg4 harg4 x2)) (upd_12_1 c arg2 harg2 arg3 harg3 arg4 harg4 x0 x1 x2)) (st_12_1 c arg2 harg2 arg3 harg3 arg4 harg4 arg8 x0 x1 x2) :)
theorem intra_12_2 : (@kernelRun0_A.sl.r_215 Ideal _ c arg2 harg2 arg3 harg3 arg4 harg4 x0 x1 x2) = intra 2 (cutQ x0 12) (cutK x0 12) (cutA x2 12) (cutH (φ := .bf16) x1 12 2) :=
  (congr (congr (congr (congrArg (intra 2) (readQ arg2 harg2 x0 12 (by decide) inb_S1024x512_S64x256_768_0)) (readK arg2 harg2 x0 12 (by decide) inb_S1024x512_S64x256_768_256)) (readA arg4 harg4 x2 12 (by decide) inb_S1024x256_S64x256_768_0)) (readV arg3 harg3 x1 12 (by decide) 2 inb_S1024x512_S64x128_768_256) :)
theorem upd_12_2 : (@kernelRun0_A.sl.r_216 Ideal _ c arg2 harg2 arg3 harg3 arg4 harg4 x0 x1 x2) = upd 2 (cutK x0 12) (cutA x2 12) (cutH (φ := .bf16) x1 12 2) :=
  (congr (congr (congrArg (upd 2) (readK arg2 harg2 x0 12 (by decide) inb_S1024x512_S64x256_768_256)) (readA arg4 harg4 x2 12 (by decide) inb_S1024x256_S64x256_768_0)) (readV arg3 harg3 x1 12 (by decide) 2 inb_S1024x512_S64x128_768_256) :)
theorem st_13_2 : (@kernelRun0_A.sl.r_383 Ideal _ c arg2 harg2 arg3 harg3 arg4 harg4 arg8 x0 x1 x2) = ST x0 x1 x2 (fun _ => zer) 13 2 :=
  (congr (congr (congrArg (nxt 2) (dec_12 c arg4 harg4 x2)) (upd_12_2 c arg2 harg2 arg3 harg3 arg4 harg4 x0 x1 x2)) (st_12_2 c arg2 harg2 arg3 harg3 arg4 harg4 arg8 x0 x1 x2) :)
theorem intra_12_3 : (@kernelRun0_A.sl.r_219 Ideal _ c arg2 harg2 arg3 harg3 arg4 harg4 x0 x1 x2) = intra 3 (cutQ x0 12) (cutK x0 12) (cutA x2 12) (cutH (φ := .bf16) x1 12 3) :=
  (congr (congr (congr (congrArg (intra 3) (readQ arg2 harg2 x0 12 (by decide) inb_S1024x512_S64x256_768_0)) (readK arg2 harg2 x0 12 (by decide) inb_S1024x512_S64x256_768_256)) (readA arg4 harg4 x2 12 (by decide) inb_S1024x256_S64x256_768_0)) (readV arg3 harg3 x1 12 (by decide) 3 inb_S1024x512_S64x128_768_384) :)
theorem upd_12_3 : (@kernelRun0_A.sl.r_220 Ideal _ c arg2 harg2 arg3 harg3 arg4 harg4 x0 x1 x2) = upd 3 (cutK x0 12) (cutA x2 12) (cutH (φ := .bf16) x1 12 3) :=
  (congr (congr (congrArg (upd 3) (readK arg2 harg2 x0 12 (by decide) inb_S1024x512_S64x256_768_256)) (readA arg4 harg4 x2 12 (by decide) inb_S1024x256_S64x256_768_0)) (readV arg3 harg3 x1 12 (by decide) 3 inb_S1024x512_S64x128_768_384) :)
theorem st_13_3 : (@kernelRun0_A.sl.r_386 Ideal _ c arg2 harg2 arg3 harg3 arg4 harg4 arg8 x0 x1 x2) = ST x0 x1 x2 (fun _ => zer) 13 3 :=
  (congr (congr (congrArg (nxt 3) (dec_12 c arg4 harg4 x2)) (upd_12_3 c arg2 harg2 arg3 harg3 arg4 harg4 x0 x1 x2)) (st_12_3 c arg2 harg2 arg3 harg3 arg4 harg4 arg8 x0 x1 x2) :)
theorem qd_13 : (@kernelRun0_A.sl.r_222 Ideal _ c arg2 harg2 arg4 harg4 x0 x2) = qd (cutQ x0 13) (cutA x2 13) :=
  (congr (congrArg qd (readQ arg2 harg2 x0 13 (by decide) inb_S1024x512_S64x256_832_0)) (readA arg4 harg4 x2 13 (by decide) inb_S1024x256_S64x256_832_0) :)
theorem dec_13 : (@kernelRun0_A.sl.r_225 Ideal _ c arg4 harg4 x2) = dec (cutA x2 13) :=
  (congrArg dec (readA arg4 harg4 x2 13 (by decide) inb_S1024x256_S64x256_832_0) :)
theorem intra_13_0 : (@kernelRun0_A.sl.r_227 Ideal _ c arg2 harg2 arg3 harg3 arg4 harg4 x0 x1 x2) = intra 0 (cutQ x0 13) (cutK x0 13) (cutA x2 13) (cutH (φ := .bf16) x1 13 0) :=
  (congr (congr (congr (congrArg (intra 0) (readQ arg2 harg2 x0 13 (by decide) inb_S1024x512_S64x256_832_0)) (readK arg2 harg2 x0 13 (by decide) inb_S1024x512_S64x256_832_256)) (readA arg4 harg4 x2 13 (by decide) inb_S1024x256_S64x256_832_0)) (readV arg3 harg3 x1 13 (by decide) 0 inb_S1024x512_S64x128_832_0) :)
theorem upd_13_0 : (@kernelRun0_A.sl.r_229 Ideal _ c arg2 harg2 arg3 harg3 arg4 harg4 x0 x1 x2) = upd 0 (cutK x0 13) (cutA x2 13) (cutH (φ := .bf16) x1 13 0) :=
  (congr (congr (congrArg (upd 0) (readK arg2 harg2 x0 13 (by decide) inb_S1024x512_S64x256_832_256)) (readA arg4 harg4 x2 13 (by decide) inb_S1024x256_S64x256_832_0)) (readV arg3 harg3 x1 13 (by decide) 0 inb_S1024x512_S64x128_832_0) :)
theorem st_14_0 : (@kernelRun0_A.sl.r_388 Ideal _ c arg2 harg2 arg3 harg3 arg4 harg4 arg8 x0 x1 x2) = ST x0 x1 x2 (fun _ => zer) 14 0 :=
  (congr (congr (congrArg (nxt 0) (dec_13 c arg4 harg4 x2)) (upd_13_0 c arg2 harg2 arg3 harg3 arg4 harg4 x0 x1 x2)) (st_13_0 c arg2 harg2 arg3 harg3 arg4 harg4 arg8 x0 x1 x2) :)
theorem intra_13_1 : (@kernelRun0_A.sl.r_230 Ideal _ c arg2 harg2 arg3 harg3 arg4 harg4 x0 x1 x2) = intra 1 (cutQ x0 13) (cutK x0 13) (cutA x2 13) (cutH (φ := .bf16) x1 13 1) :=
  (congr (congr (congr (congrArg (intra 1) (readQ arg2 harg2 x0 13 (by decide) inb_S1024x512_S64x256_832_0)) (readK arg2 harg2 x0 13 (by decide) inb_S1024x512_S64x256_832_256)) (readA arg4 harg4 x2 13 (by decide) inb_S1024x256_S64x256_832_0)) (readV arg3 harg3 x1 13 (by decide) 1 inb_S1024x512_S64x128_832_128) :)
theorem upd_13_1 : (@kernelRun0_A.sl.r_231 Ideal _ c arg2 harg2 arg3 harg3 arg4 harg4 x0 x1 x2) = upd 1 (cutK x0 13) (cutA x2 13) (cutH (φ := .bf16) x1 13 1) :=
  (congr (congr (congrArg (upd 1) (readK arg2 harg2 x0 13 (by decide) inb_S1024x512_S64x256_832_256)) (readA arg4 harg4 x2 13 (by decide) inb_S1024x256_S64x256_832_0)) (readV arg3 harg3 x1 13 (by decide) 1 inb_S1024x512_S64x128_832_128) :)
theorem st_14_1 : (@kernelRun0_A.sl.r_389 Ideal _ c arg2 harg2 arg3 harg3 arg4 harg4 arg8 x0 x1 x2) = ST x0 x1 x2 (fun _ => zer) 14 1 :=
  (congr (congr (congrArg (nxt 1) (dec_13 c arg4 harg4 x2)) (upd_13_1 c arg2 harg2 arg3 harg3 arg4 harg4 x0 x1 x2)) (st_13_1 c arg2 harg2 arg3 harg3 arg4 harg4 arg8 x0 x1 x2) :)
theorem intra_13_2 : (@kernelRun0_A.sl.r_232 Ideal _ c arg2 harg2 arg3 harg3 arg4 harg4 x0 x1 x2) = intra 2 (cutQ x0 13) (cutK x0 13) (cutA x2 13) (cutH (φ := .bf16) x1 13 2) :=
  (congr (congr (congr (congrArg (intra 2) (readQ arg2 harg2 x0 13 (by decide) inb_S1024x512_S64x256_832_0)) (readK arg2 harg2 x0 13 (by decide) inb_S1024x512_S64x256_832_256)) (readA arg4 harg4 x2 13 (by decide) inb_S1024x256_S64x256_832_0)) (readV arg3 harg3 x1 13 (by decide) 2 inb_S1024x512_S64x128_832_256) :)
theorem upd_13_2 : (@kernelRun0_A.sl.r_233 Ideal _ c arg2 harg2 arg3 harg3 arg4 harg4 x0 x1 x2) = upd 2 (cutK x0 13) (cutA x2 13) (cutH (φ := .bf16) x1 13 2) :=
  (congr (congr (congrArg (upd 2) (readK arg2 harg2 x0 13 (by decide) inb_S1024x512_S64x256_832_256)) (readA arg4 harg4 x2 13 (by decide) inb_S1024x256_S64x256_832_0)) (readV arg3 harg3 x1 13 (by decide) 2 inb_S1024x512_S64x128_832_256) :)
theorem st_14_2 : (@kernelRun0_A.sl.r_391 Ideal _ c arg2 harg2 arg3 harg3 arg4 harg4 arg8 x0 x1 x2) = ST x0 x1 x2 (fun _ => zer) 14 2 :=
  (congr (congr (congrArg (nxt 2) (dec_13 c arg4 harg4 x2)) (upd_13_2 c arg2 harg2 arg3 harg3 arg4 harg4 x0 x1 x2)) (st_13_2 c arg2 harg2 arg3 harg3 arg4 harg4 arg8 x0 x1 x2) :)
theorem intra_13_3 : (@kernelRun0_A.sl.r_234 Ideal _ c arg2 harg2 arg3 harg3 arg4 harg4 x0 x1 x2) = intra 3 (cutQ x0 13) (cutK x0 13) (cutA x2 13) (cutH (φ := .bf16) x1 13 3) :=
  (congr (congr (congr (congrArg (intra 3) (readQ arg2 harg2 x0 13 (by decide) inb_S1024x512_S64x256_832_0)) (readK arg2 harg2 x0 13 (by decide) inb_S1024x512_S64x256_832_256)) (readA arg4 harg4 x2 13 (by decide) inb_S1024x256_S64x256_832_0)) (readV arg3 harg3 x1 13 (by decide) 3 inb_S1024x512_S64x128_832_384) :)
theorem upd_13_3 : (@kernelRun0_A.sl.r_235 Ideal _ c arg2 harg2 arg3 harg3 arg4 harg4 x0 x1 x2) = upd 3 (cutK x0 13) (cutA x2 13) (cutH (φ := .bf16) x1 13 3) :=
  (congr (congr (congrArg (upd 3) (readK arg2 harg2 x0 13 (by decide) inb_S1024x512_S64x256_832_256)) (readA arg4 harg4 x2 13 (by decide) inb_S1024x256_S64x256_832_0)) (readV arg3 harg3 x1 13 (by decide) 3 inb_S1024x512_S64x128_832_384) :)
theorem st_14_3 : (@kernelRun0_A.sl.r_393 Ideal _ c arg2 harg2 arg3 harg3 arg4 harg4 arg8 x0 x1 x2) = ST x0 x1 x2 (fun _ => zer) 14 3 :=
  (congr (congr (congrArg (nxt 3) (dec_13 c arg4 harg4 x2)) (upd_13_3 c arg2 harg2 arg3 harg3 arg4 harg4 x0 x1 x2)) (st_13_3 c arg2 harg2 arg3 harg3 arg4 harg4 arg8 x0 x1 x2) :)
theorem qd_14 : (@kernelRun0_A.sl.r_240 Ideal _ c arg2 harg2 arg4 harg4 x0 x2) = qd (cutQ x0 14) (cutA x2 14) :=
  (congr (congrArg qd (readQ arg2 harg2 x0 14 (by decide) inb_S1024x512_S64x256_896_0)) (readA arg4 harg4 x2 14 (by decide) inb_S1024x256_S64x256_896_0) :)
theorem dec_14 : (@kernelRun0_A.sl.r_243 Ideal _ c arg4 harg4 x2) = dec (cutA x2 14) :=
  (congrArg dec (readA arg4 harg4 x2 14 (by decide) inb_S1024x256_S64x256_896_0) :)
theorem intra_14_0 : (@kernelRun0_A.sl.r_244 Ideal _ c arg2 harg2 arg3 harg3 arg4 harg4 x0 x1 x2) = intra 0 (cutQ x0 14) (cutK x0 14) (cutA x2 14) (cutH (φ := .bf16) x1 14 0) :=
  (congr (congr (congr (congrArg (intra 0) (readQ arg2 harg2 x0 14 (by decide) inb_S1024x512_S64x256_896_0)) (readK arg2 harg2 x0 14 (by decide) inb_S1024x512_S64x256_896_256)) (readA arg4 harg4 x2 14 (by decide) inb_S1024x256_S64x256_896_0)) (readV arg3 harg3 x1 14 (by decide) 0 inb_S1024x512_S64x128_896_0) :)
theorem upd_14_0 : (@kernelRun0_A.sl.r_245 Ideal _ c arg2 harg2 arg3 harg3 arg4 harg4 x0 x1 x2) = upd 0 (cutK x0 14) (cutA x2 14) (cutH (φ := .bf16) x1 14 0) :=
  (congr (congr (congrArg (upd 0) (readK arg2 harg2 x0 14 (by decide) inb_S1024x512_S64x256_896_256)) (readA arg4 harg4 x2 14 (by decide) inb_S1024x256_S64x256_896_0)) (readV arg3 harg3 x1 14 (by decide) 0 inb_S1024x512_S64x128_896_0) :)
theorem st_15_0 : (@kernelRun0_A.sl.r_396 Ideal _ c arg2 harg2 arg3 harg3 arg4 harg4 arg8 x0 x1 x2) = ST x0 x1 x2 (fun _ => zer) 15 0 :=
  (congr (congr (congrArg (nxt 0) (dec_14 c arg4 harg4 x2)) (upd_14_0 c arg2 harg2 arg3 harg3 arg4 harg4 x0 x1 x2)) (st_14_0 c arg2 harg2 arg3 harg3 arg4 harg4 arg8 x0 x1 x2) :)
theorem intra_14_1 : (@kernelRun0_A.sl.r_246 Ideal _ c arg2 harg2 arg3 harg3 arg4 harg4 x0 x1 x2) = intra 1 (cutQ x0 14) (cutK x0 14) (cutA x2 14) (cutH (φ := .bf16) x1 14 1) :=
  (congr (congr (congr (congrArg (intra 1) (readQ arg2 harg2 x0 14 (by decide) inb_S1024x512_S64x256_896_0)) (readK arg2 harg2 x0 14 (by decide) inb_S1024x512_S64x256_896_256)) (readA arg4 harg4 x2 14 (by decide) inb_S1024x256_S64x256_896_0)) (readV arg3 harg3 x1 14 (by decide) 1 inb_S1024x512_S64x128_896_128) :)
theorem upd_14_1 : (@kernelRun0_A.sl.r_247 Ideal _ c arg2 harg2 arg3 harg3 arg4 harg4 x0 x1 x2) = upd 1 (cutK x0 14) (cutA x2 14) (cutH (φ := .bf16) x1 14 1) :=
  (congr (congr (congrArg (upd 1) (readK arg2 harg2 x0 14 (by decide) inb_S1024x512_S64x256_896_256)) (readA arg4 harg4 x2 14 (by decide) inb_S1024x256_S64x256_896_0)) (readV arg3 harg3 x1 14 (by decide) 1 inb_S1024x512_S64x128_896_128) :)
theorem st_15_1 : (@kernelRun0_A.sl.r_398 Ideal _ c arg2 harg2 arg3 harg3 arg4 harg4 arg8 x0 x1 x2) = ST x0 x1 x2 (fun _ => zer) 15 1 :=
  (congr (congr (congrArg (nxt 1) (dec_14 c arg4 harg4 x2)) (upd_14_1 c arg2 harg2 arg3 harg3 arg4 harg4 x0 x1 x2)) (st_14_1 c arg2 harg2 arg3 harg3 arg4 harg4 arg8 x0 x1 x2) :)
theorem intra_14_2 : (@kernelRun0_A.sl.r_248 Ideal _ c arg2 harg2 arg3 harg3 arg4 harg4 x0 x1 x2) = intra 2 (cutQ x0 14) (cutK x0 14) (cutA x2 14) (cutH (φ := .bf16) x1 14 2) :=
  (congr (congr (congr (congrArg (intra 2) (readQ arg2 harg2 x0 14 (by decide) inb_S1024x512_S64x256_896_0)) (readK arg2 harg2 x0 14 (by decide) inb_S1024x512_S64x256_896_256)) (readA arg4 harg4 x2 14 (by decide) inb_S1024x256_S64x256_896_0)) (readV arg3 harg3 x1 14 (by decide) 2 inb_S1024x512_S64x128_896_256) :)
theorem upd_14_2 : (@kernelRun0_A.sl.r_249 Ideal _ c arg2 harg2 arg3 harg3 arg4 harg4 x0 x1 x2) = upd 2 (cutK x0 14) (cutA x2 14) (cutH (φ := .bf16) x1 14 2) :=
  (congr (congr (congrArg (upd 2) (readK arg2 harg2 x0 14 (by decide) inb_S1024x512_S64x256_896_256)) (readA arg4 harg4 x2 14 (by decide) inb_S1024x256_S64x256_896_0)) (readV arg3 harg3 x1 14 (by decide) 2 inb_S1024x512_S64x128_896_256) :)
theorem st_15_2 : (@kernelRun0_A.sl.r_401 Ideal _ c arg2 harg2 arg3 harg3 arg4 harg4 arg8 x0 x1 x2) = ST x0 x1 x2 (fun _ => zer) 15 2 :=
  (congr (congr (congrArg (nxt 2) (dec_14 c arg4 harg4 x2)) (upd_14_2 c arg2 harg2 arg3 harg3 arg4 harg4 x0 x1 x2)) (st_14_2 c arg2 harg2 arg3 harg3 arg4 harg4 arg8 x0 x1 x2) :)
theorem intra_14_3 : (@kernelRun0_A.sl.r_250 Ideal _ c arg2 harg2 arg3 harg3 arg4 harg4 x0 x1 x2) = intra 3 (cutQ x0 14) (cutK x0 14) (cutA x2 14) (cutH (φ := .bf16) x1 14 3) :=
  (congr (congr (congr (congrArg (intra 3) (readQ arg2 harg2 x0 14 (by decide) inb_S1024x512_S64x256_896_0)) (readK arg2 harg2 x0 14 (by decide) inb_S1024x512_S64x256_896_256)) (readA arg4 harg4 x2 14 (by decide) inb_S1024x256_S64x256_896_0)) (readV arg3 harg3 x1 14 (by decide) 3 inb_S1024x512_S64x128_896_384) :)
theorem upd_14_3 : (@kernelRun0_A.sl.r_251 Ideal _ c arg2 harg2 arg3 harg3 arg4 harg4 x0 x1 x2) = upd 3 (cutK x0 14) (cutA x2 14) (cutH (φ := .bf16) x1 14 3) :=
  (congr (congr (congrArg (upd 3) (readK arg2 harg2 x0 14 (by decide) inb_S1024x512_S64x256_896_256)) (readA arg4 harg4 x2 14 (by decide) inb_S1024x256_S64x256_896_0)) (readV arg3 harg3 x1 14 (by decide) 3 inb_S1024x512_S64x128_896_384) :)
theorem st_15_3 : (@kernelRun0_A.sl.r_403 Ideal _ c arg2 harg2 arg3 harg3 arg4 harg4 arg8 x0 x1 x2) = ST x0 x1 x2 (fun _ => zer) 15 3 :=
  (congr (congr (congrArg (nxt 3) (dec_14 c arg4 harg4 x2)) (upd_14_3 c arg2 harg2 arg3 harg3 arg4 harg4 x0 x1 x2)) (st_14_3 c arg2 harg2 arg3 harg3 arg4 harg4 arg8 x0 x1 x2) :)
theorem qd_15 : (@kernelRun0_A.sl.r_256 Ideal _ c arg2 harg2 arg4 harg4 x0 x2) = qd (cutQ x0 15) (cutA x2 15) :=
  (congr (congrArg qd (readQ arg2 harg2 x0 15 (by decide) inb_S1024x512_S64x256_960_0)) (readA arg4 harg4 x2 15 (by decide) inb_S1024x256_S64x256_960_0) :)
theorem dec_15 : (@kernelRun0_A.sl.r_259 Ideal _ c arg4 harg4 x2) = dec (cutA x2 15) :=
  (congrArg dec (readA arg4 harg4 x2 15 (by decide) inb_S1024x256_S64x256_960_0) :)
theorem intra_15_0 : (@kernelRun0_A.sl.r_260 Ideal _ c arg2 harg2 arg3 harg3 arg4 harg4 x0 x1 x2) = intra 0 (cutQ x0 15) (cutK x0 15) (cutA x2 15) (cutH (φ := .bf16) x1 15 0) :=
  (congr (congr (congr (congrArg (intra 0) (readQ arg2 harg2 x0 15 (by decide) inb_S1024x512_S64x256_960_0)) (readK arg2 harg2 x0 15 (by decide) inb_S1024x512_S64x256_960_256)) (readA arg4 harg4 x2 15 (by decide) inb_S1024x256_S64x256_960_0)) (readV arg3 harg3 x1 15 (by decide) 0 inb_S1024x512_S64x128_960_0) :)
theorem upd_15_0 : (@kernelRun0_A.sl.r_261 Ideal _ c arg2 harg2 arg3 harg3 arg4 harg4 x0 x1 x2) = upd 0 (cutK x0 15) (cutA x2 15) (cutH (φ := .bf16) x1 15 0) :=
  (congr (congr (congrArg (upd 0) (readK arg2 harg2 x0 15 (by decide) inb_S1024x512_S64x256_960_256)) (readA arg4 harg4 x2 15 (by decide) inb_S1024x256_S64x256_960_0)) (readV arg3 harg3 x1 15 (by decide) 0 inb_S1024x512_S64x128_960_0) :)
theorem st_16_0 : (@kernelRun0_A.sl.r_404 Ideal _ c arg2 harg2 arg3 harg3 arg4 harg4 arg8 x0 x1 x2) = ST x0 x1 x2 (fun _ => zer) 16 0 :=
  (congr (congr (congrArg (nxt 0) (dec_15 c arg4 harg4 x2)) (upd_15_0 c arg2 harg2 arg3 harg3 arg4 harg4 x0 x1 x2)) (st_15_0 c arg2 harg2 arg3 harg3 arg4 harg4 arg8 x0 x1 x2) :)
theorem intra_15_1 : (@kernelRun0_A.sl.r_262 Ideal _ c arg2 harg2 arg3 harg3 arg4 harg4 x0 x1 x2) = intra 1 (cutQ x0 15) (cutK x0 15) (cutA x2 15) (cutH (φ := .bf16) x1 15 1) :=
  (congr (congr (congr (congrArg (intra 1) (readQ arg2 harg2 x0 15 (by decide) inb_S1024x512_S64x256_960_0)) (readK arg2 harg2 x0 15 (by decide) inb_S1024x512_S64x256_960_256)) (readA arg4 harg4 x2 15 (by decide) inb_S1024x256_S64x256_960_0)) (readV arg3 harg3 x1 15 (by decide) 1 inb_S1024x512_S64x128_960_128) :)
theorem upd_15_1 : (@kernelRun0_A.sl.r_263 Ideal _ c arg2 harg2 arg3 harg3 arg4 harg4 x0 x1 x2) = upd 1 (cutK x0 15) (cutA x2 15) (cutH (φ := .bf16) x1 15 1) :=
  (congr (congr (congrArg (upd 1) (readK arg2 harg2 x0 15 (by decide) inb_S1024x512_S64x256_960_256)) (readA arg4 harg4 x2 15 (by decide) inb_S1024x256_S64x256_960_0)) (readV arg3 harg3 x1 15 (by decide) 1 inb_S1024x512_S64x128_960_128) :)
theorem st_16_1 : (@kernelRun0_A.sl.r_407 Ideal _ c arg2 harg2 arg3 harg3 arg4 harg4 arg8 x0 x1 x2) = ST x0 x1 x2 (fun _ => zer) 16 1 :=
  (congr (congr (congrArg (nxt 1) (dec_15 c arg4 harg4 x2)) (upd_15_1 c arg2 harg2 arg3 harg3 arg4 harg4 x0 x1 x2)) (st_15_1 c arg2 harg2 arg3 harg3 arg4 harg4 arg8 x0 x1 x2) :)
theorem intra_15_2 : (@kernelRun0_A.sl.r_264 Ideal _ c arg2 harg2 arg3 harg3 arg4 harg4 x0 x1 x2) = intra 2 (cutQ x0 15) (cutK x0 15) (cutA x2 15) (cutH (φ := .bf16) x1 15 2) :=
  (congr (congr (congr (congrArg (intra 2) (readQ arg2 harg2 x0 15 (by decide) inb_S1024x512_S64x256_960_0)) (readK arg2 harg2 x0 15 (by decide) inb_S1024x512_S64x256_960_256)) (readA arg4 harg4 x2 15 (by decide) inb_S1024x256_S64x256_960_0)) (readV arg3 harg3 x1 15 (by decide) 2 inb_S1024x512_S64x128_960_256) :)
theorem upd_15_2 : (@kernelRun0_A.sl.r_265 Ideal _ c arg2 harg2 arg3 harg3 arg4 harg4 x0 x1 x2) = upd 2 (cutK x0 15) (cutA x2 15) (cutH (φ := .bf16) x1 15 2) :=
  (congr (congr (congrArg (upd 2) (readK arg2 harg2 x0 15 (by decide) inb_S1024x512_S64x256_960_256)) (readA arg4 harg4 x2 15 (by decide) inb_S1024x256_S64x256_960_0)) (readV arg3 harg3 x1 15 (by decide) 2 inb_S1024x512_S64x128_960_256) :)
theorem st_16_2 : (@kernelRun0_A.sl.r_409 Ideal _ c arg2 harg2 arg3 harg3 arg4 harg4 arg8 x0 x1 x2) = ST x0 x1 x2 (fun _ => zer) 16 2 :=
  (congr (congr (congrArg (nxt 2) (dec_15 c arg4 harg4 x2)) (upd_15_2 c arg2 harg2 arg3 harg3 arg4 harg4 x0 x1 x2)) (st_15_2 c arg2 harg2 arg3 harg3 arg4 harg4 arg8 x0 x1 x2) :)
theorem intra_15_3 : (@kernelRun0_A.sl.r_269 Ideal _ c arg2 harg2 arg3 harg3 arg4 harg4 x0 x1 x2) = intra 3 (cutQ x0 15) (cutK x0 15) (cutA x2 15) (cutH (φ := .bf16) x1 15 3) :=
  (congr (congr (congr (congrArg (intra 3) (readQ arg2 harg2 x0 15 (by decide) inb_S1024x512_S64x256_960_0)) (readK arg2 harg2 x0 15 (by decide) inb_S1024x512_S64x256_960_256)) (readA arg4 harg4 x2 15 (by decide) inb_S1024x256_S64x256_960_0)) (readV arg3 harg3 x1 15 (by decide) 3 inb_S1024x512_S64x128_960_384) :)
theorem upd_15_3 : (@kernelRun0_A.sl.r_270 Ideal _ c arg2 harg2 arg3 harg3 arg4 harg4 x0 x1 x2) = upd 3 (cutK x0 15) (cutA x2 15) (cutH (φ := .bf16) x1 15 3) :=
  (congr (congr (congrArg (upd 3) (readK arg2 harg2 x0 15 (by decide) inb_S1024x512_S64x256_960_256)) (readA arg4 harg4 x2 15 (by decide) inb_S1024x256_S64x256_960_0)) (readV arg3 harg3 x1 15 (by decide) 3 inb_S1024x512_S64x128_960_384) :)
theorem st_16_3 : (@kernelRun0_A.sl.r_412 Ideal _ c arg2 harg2 arg3 harg3 arg4 harg4 arg8 x0 x1 x2) = ST x0 x1 x2 (fun _ => zer) 16 3 :=
  (congr (congr (congrArg (nxt 3) (dec_15 c arg4 harg4 x2)) (upd_15_3 c arg2 harg2 arg3 harg3 arg4 harg4 x0 x1 x2)) (st_15_3 c arg2 harg2 arg3 harg3 arg4 harg4 arg8 x0 x1 x2) :)
theorem pc_15_3 : (@k0_pay482 Ideal _ (@kernelRun0_A.sl.r Ideal c arg6 harg6 x4) (@kernelRun0_A.sl.r_256 Ideal _ c arg2 harg2 arg4 harg4 x0 x2) (@kernelRun0_A.sl.r_269 Ideal _ c arg2 harg2 arg3 harg3 arg4 harg4 x0 x1 x2) (@kernelRun0_A.sl.r_403 Ideal _ c arg2 harg2 arg3 harg3 arg4 harg4 arg8 x0 x1 x2) (View.readAt (Elt Ideal) arg5.view (Rect.unit (s := S1024x512) ![960, 384] S64x128.size inb_S1024x512_S64x128_960_384).toLoadRect (harg5.unread x3))) = res x0 x1 x2 x3 x4 (fun _ => zer) 15 3 :=
  (congr (congr (congrArg fin (gain c arg6 harg6 x4)) (congr (congr (congrArg (osum 3) (qd_15 c arg2 harg2 arg4 harg4 x0 x2)) (intra_15_3 c arg2 harg2 arg3 harg3 arg4 harg4 x0 x1 x2)) (st_15_3 c arg2 harg2 arg3 harg3 arg4 harg4 arg8 x0 x1 x2))) (readG arg5 harg5 x3 15 (by decide) 3 inb_S1024x512_S64x128_960_384) :)
theorem pc_15_2 : (@k0_pay480 Ideal _ (@kernelRun0_A.sl.r Ideal c arg6 harg6 x4) (@kernelRun0_A.sl.r_408 Ideal _ c arg2 harg2 arg3 harg3 arg4 harg4 arg8 x0 x1 x2) (@kernelRun0_A.sl.r_410 Ideal c arg5 harg5 x3) (@kernelRun0_A.sl.r_411 Ideal _ c arg2 harg2 arg3 harg3 arg4 harg4 arg8 x0 x1 x2)) = res x0 x1 x2 x3 x4 (fun _ => zer) 15 2 :=
  (congr (congr (congrArg fin (gain c arg6 harg6 x4)) (congr (congr (congrArg (osum 2) (qd_15 c arg2 harg2 arg4 harg4 x0 x2)) (intra_15_2 c arg2 harg2 arg3 harg3 arg4 harg4 x0 x1 x2)) (st_15_2 c arg2 harg2 arg3 harg3 arg4 harg4 arg8 x0 x1 x2))) (readG arg5 harg5 x3 15 (by decide) 2 inb_S1024x512_S64x128_960_256) :)
theorem pc_15_1 : (@k0_pay476 Ideal _ (@kernelRun0_A.sl.r Ideal c arg6 harg6 x4) (@kernelRun0_A.sl.r_256 Ideal _ c arg2 harg2 arg4 harg4 x0 x2) (@kernelRun0_A.sl.r_262 Ideal _ c arg2 harg2 arg3 harg3 arg4 harg4 x0 x1 x2) (@kernelRun0_A.sl.r_398 Ideal _ c arg2 harg2 arg3 harg3 arg4 harg4 arg8 x0 x1 x2) (View.readAt (Elt Ideal) arg5.view (Rect.unit (s := S1024x512) ![960, 128] S64x128.size inb_S1024x512_S64x128_960_128).toLoadRect (harg5.unread x3))) = res x0 x1 x2 x3 x4 (fun _ => zer) 15 1 :=
  (congr (congr (congrArg fin (gain c arg6 harg6 x4)) (congr (congr (congrArg (osum 1) (qd_15 c arg2 harg2 arg4 harg4 x0 x2)) (intra_15_1 c arg2 harg2 arg3 harg3 arg4 harg4 x0 x1 x2)) (st_15_1 c arg2 harg2 arg3 harg3 arg4 harg4 arg8 x0 x1 x2))) (readG arg5 harg5 x3 15 (by decide) 1 inb_S1024x512_S64x128_960_128) :)
theorem pc_15_0 : (@k0_pay474 Ideal _ (@kernelRun0_A.sl.r_405 Ideal _ c arg2 harg2 arg3 harg3 arg4 harg4 arg6 harg6 arg8 x0 x1 x2 x4) (@kernelRun0_A.sl.r_406 Ideal _ c arg5 harg5 x3)) = res x0 x1 x2 x3 x4 (fun _ => zer) 15 0 :=
  (congr (congr (congrArg fin (gain c arg6 harg6 x4)) (congr (congr (congrArg (osum 0) (qd_15 c arg2 harg2 arg4 harg4 x0 x2)) (intra_15_0 c arg2 harg2 arg3 harg3 arg4 harg4 x0 x1 x2)) (st_15_0 c arg2 harg2 arg3 harg3 arg4 harg4 arg8 x0 x1 x2))) (readG arg5 harg5 x3 15 (by decide) 0 inb_S1024x512_S64x128_960_0) :)
theorem pc_14_3 : (@k0_pay470 Ideal _ (@kernelRun0_A.sl.r Ideal c arg6 harg6 x4) (@kernelRun0_A.sl.r_250 Ideal _ c arg2 harg2 arg3 harg3 arg4 harg4 x0 x1 x2) (@kernelRun0_A.sl.r_402 Ideal _ c arg2 harg2 arg3 harg3 arg4 harg4 arg8 x0 x1 x2) (View.readAt (Elt Ideal) arg5.view (Rect.unit (s := S1024x512) ![896, 384] S64x128.size inb_S1024x512_S64x128_896_384).toLoadRect (harg5.unread x3))) = res x0 x1 x2 x3 x4 (fun _ => zer) 14 3 :=
  (congr (congr (congrArg fin (gain c arg6 harg6 x4)) (congr (congr (congrArg (osum 3) (qd_14 c arg2 harg2 arg4 harg4 x0 x2)) (intra_14_3 c arg2 harg2 arg3 harg3 arg4 harg4 x0 x1 x2)) (st_14_3 c arg2 harg2 arg3 harg3 arg4 harg4 arg8 x0 x1 x2))) (readG arg5 harg5 x3 14 (by decide) 3 inb_S1024x512_S64x128_896_384) :)
theorem pc_14_2 : (@k0_pay467 Ideal _ (@kernelRun0_A.sl.r Ideal c arg6 harg6 x4) (@kernelRun0_A.sl.r_240 Ideal _ c arg2 harg2 arg4 harg4 x0 x2) (@kernelRun0_A.sl.r_248 Ideal _ c arg2 harg2 arg3 harg3 arg4 harg4 x0 x1 x2) (@kernelRun0_A.sl.r_391 Ideal _ c arg2 harg2 arg3 harg3 arg4 harg4 arg8 x0 x1 x2) (View.readAt (Elt Ideal) arg5.view (Rect.unit (s := S1024x512) ![896, 256] S64x128.size inb_S1024x512_S64x128_896_256).toLoadRect (harg5.unread x3))) = res x0 x1 x2 x3 x4 (fun _ => zer) 14 2 :=
  (congr (congr (congrArg fin (gain c arg6 harg6 x4)) (congr (congr (congrArg (osum 2) (qd_14 c arg2 harg2 arg4 harg4 x0 x2)) (intra_14_2 c arg2 harg2 arg3 harg3 arg4 harg4 x0 x1 x2)) (st_14_2 c arg2 harg2 arg3 harg3 arg4 harg4 arg8 x0 x1 x2))) (readG arg5 harg5 x3 14 (by decide) 2 inb_S1024x512_S64x128_896_256) :)
theorem pc_14_1 : (@k0_pay465 Ideal _ (@kernelRun0_A.sl.r Ideal c arg6 harg6 x4) (@kernelRun0_A.sl.r_397 Ideal _ c arg2 harg2 arg3 harg3 arg4 harg4 arg8 x0 x1 x2) (@kernelRun0_A.sl.r_399 Ideal c arg5 harg5 x3) (@kernelRun0_A.sl.r_400 Ideal _ c arg2 harg2 arg3 harg3 arg4 harg4 arg8 x0 x1 x2)) = res x0 x1 x2 x3 x4 (fun _ => zer) 14 1 :=
  (congr (congr (congrArg fin (gain c arg6 harg6 x4)) (congr (congr (congrArg (osum 1) (qd_14 c arg2 harg2 arg4 harg4 x0 x2)) (intra_14_1 c arg2 harg2 arg3 harg3 arg4 harg4 x0 x1 x2)) (st_14_1 c arg2 harg2 arg3 harg3 arg4 harg4 arg8 x0 x1 x2))) (readG arg5 harg5 x3 14 (by decide) 1 inb_S1024x512_S64x128_896_128) :)
theorem pc_14_0 : (@k0_pay461 Ideal _ (@kernelRun0_A.sl.r Ideal c arg6 harg6 x4) (@kernelRun0_A.sl.r_240 Ideal _ c arg2 harg2 arg4 harg4 x0 x2) (@kernelRun0_A.sl.r_244 Ideal _ c arg2 harg2 arg3 harg3 arg4 harg4 x0 x1 x2) (@kernelRun0_A.sl.r_388 Ideal _ c arg2 harg2 arg3 harg3 arg4 harg4 arg8 x0 x1 x2) (View.readAt (Elt Ideal) arg5.view (Rect.unit (s := S1024x512) ![896, 0] S64x128.size inb_S1024x512_S64x128_896_0).toLoadRect (harg5.unread x3))) = res x0 x1 x2 x3 x4 (fun _ => zer) 14 0 :=
  (congr (congr (congrArg fin (gain c arg6 harg6 x4)) (congr (congr (congrArg (osum 0) (qd_14 c arg2 harg2 arg4 harg4 x0 x2)) (intra_14_0 c arg2 harg2 arg3 harg3 arg4 harg4 x0 x1 x2)) (st_14_0 c arg2 harg2 arg3 harg3 arg4 harg4 arg8 x0 x1 x2))) (readG arg5 harg5 x3 14 (by decide) 0 inb_S1024x512_S64x128_896_0) :)
theorem pc_13_3 : (@k0_pay459 Ideal _ (@kernelRun0_A.sl.r Ideal c arg6 harg6 x4) (@kernelRun0_A.sl.r_392 Ideal _ c arg2 harg2 arg3 harg3 arg4 harg4 arg8 x0 x1 x2) (@kernelRun0_A.sl.r_394 Ideal c arg5 harg5 x3) (@kernelRun0_A.sl.r_395 Ideal _ c arg2 harg2 arg3 harg3 arg4 harg4 arg8 x0 x1 x2)) = res x0 x1 x2 x3 x4 (fun _ => zer) 13 3 :=
  (congr (congr (congrArg fin (gain c arg6 harg6 x4)) (congr (congr (congrArg (osum 3) (qd_13 c arg2 harg2 arg4 harg4 x0 x2)) (intra_13_3 c arg2 harg2 arg3 harg3 arg4 harg4 x0 x1 x2)) (st_13_3 c arg2 harg2 arg3 harg3 arg4 harg4 arg8 x0 x1 x2))) (readG arg5 harg5 x3 13 (by decide) 3 inb_S1024x512_S64x128_832_384) :)
theorem pc_13_2 : (@k0_pay455 Ideal _ (@kernelRun0_A.sl.r Ideal c arg6 harg6 x4) (@kernelRun0_A.sl.r_222 Ideal _ c arg2 harg2 arg4 harg4 x0 x2) (@kernelRun0_A.sl.r_232 Ideal _ c arg2 harg2 arg3 harg3 arg4 harg4 x0 x1 x2) (@kernelRun0_A.sl.r_383 Ideal _ c arg2 harg2 arg3 harg3 arg4 harg4 arg8 x0 x1 x2) (View.readAt (Elt Ideal) arg5.view (Rect.unit (s := S1024x512) ![832, 256] S64x128.size inb_S1024x512_S64x128_832_256).toLoadRect (harg5.unread x3))) = res x0 x1 x2 x3 x4 (fun _ => zer) 13 2 :=
  (congr (congr (congrArg fin (gain c arg6 harg6 x4)) (congr (congr (congrArg (osum 2) (qd_13 c arg2 harg2 arg4 harg4 x0 x2)) (intra_13_2 c arg2 harg2 arg3 harg3 arg4 harg4 x0 x1 x2)) (st_13_2 c arg2 harg2 arg3 harg3 arg4 harg4 arg8 x0 x1 x2))) (readG arg5 harg5 x3 13 (by decide) 2 inb_S1024x512_S64x128_832_256) :)
theorem pc_13_1 : (@kernelRun0_A.sl.r_390 Ideal _ c arg2 harg2 arg3 harg3 arg4 harg4 arg5 harg5 arg6 harg6 arg8 x0 x1 x2 x3 x4) = res x0 x1 x2 x3 x4 (fun _ => zer) 13 1 :=
  (congr (congr (congrArg fin (gain c arg6 harg6 x4)) (congr (congr (congrArg (osum 1) (qd_13 c arg2 harg2 arg4 harg4 x0 x2)) (intra_13_1 c arg2 harg2 arg3 harg3 arg4 harg4 x0 x1 x2)) (st_13_1 c arg2 harg2 arg3 harg3 arg4 harg4 arg8 x0 x1 x2))) (readG arg5 harg5 x3 13 (by decide) 1 inb_S1024x512_S64x128_832_128) :)
theorem pc_13_0 : (@k0_pay451 Ideal _ (@kernelRun0_A.sl.r Ideal c arg6 harg6 x4) (@kernelRun0_A.sl.r_387 Ideal _ c arg2 harg2 arg3 harg3 arg4 harg4 arg8 x0 x1 x2) (View.readAt (Elt Ideal) arg5.view (Rect.unit (s := S1024x512) ![832, 0] S64x128.size inb_S1024x512_S64x128_832_0).toLoadRect (harg5.unread x3))) = res x0 x1 x2 x3 x4 (fun _ => zer) 13 0 :=
  (congr (congr (congrArg fin (gain c arg6 harg6 x4)) (congr (congr (congrArg (osum 0) (qd_13 c arg2 harg2 arg4 harg4 x0 x2)) (intra_13_0 c arg2 harg2 arg3 harg3 arg4 harg4 x0 x1 x2)) (st_13_0 c arg2 harg2 arg3 harg3 arg4 harg4 arg8 x0 x1 x2))) (readG arg5 harg5 x3 13 (by decide) 0 inb_S1024x512_S64x128_832_0) :)
theorem pc_12_3 : (@k0_pay448 Ideal _ (@kernelRun0_A.sl.r Ideal c arg6 harg6 x4) (@kernelRun0_A.sl.r_206 Ideal _ c arg2 harg2 arg4 harg4 x0 x2) (@kernelRun0_A.sl.r_219 Ideal _ c arg2 harg2 arg3 harg3 arg4 harg4 x0 x1 x2) (@kernelRun0_A.sl.r_377 Ideal _ c arg2 harg2 arg3 harg3 arg4 harg4 arg8 x0 x1 x2) (View.readAt (Elt Ideal) arg5.view (Rect.unit (s := S1024x512) ![768, 384] S64x128.size inb_S1024x512_S64x128_768_384).toLoadRect (harg5.unread x3))) = res x0 x1 x2 x3 x4 (fun _ => zer) 12 3 :=
  (congr (congr (congrArg fin (gain c arg6 harg6 x4)) (congr (congr (congrArg (osum 3) (qd_12 c arg2 harg2 arg4 harg4 x0 x2)) (intra_12_3 c arg2 harg2 arg3 harg3 arg4 harg4 x0 x1 x2)) (st_12_3 c arg2 harg2 arg3 harg3 arg4 harg4 arg8 x0 x1 x2))) (readG arg5 harg5 x3 12 (by decide) 3 inb_S1024x512_S64x128_768_384) :)
theorem pc_12_2 : (@k0_pay446 Ideal _ (@kernelRun0_A.sl.r Ideal c arg6 harg6 x4) (@kernelRun0_A.sl.r_382 Ideal _ c arg2 harg2 arg3 harg3 arg4 harg4 arg8 x0 x1 x2) (@kernelRun0_A.sl.r_384 Ideal c arg5 harg5 x3) (@kernelRun0_A.sl.r_385 Ideal _ c arg2 harg2 arg3 harg3 arg4 harg4 arg8 x0 x1 x2)) = res x0 x1 x2 x3 x4 (fun _ => zer) 12 2 :=
  (congr (congr (congrArg fin (gain c arg6 harg6 x4)) (congr (congr (congrArg (osum 2) (qd_12 c arg2 harg2 arg4 harg4 x0 x2)) (intra_12_2 c arg2 harg2 arg3 harg3 arg4 harg4 x0 x1 x2)) (st_12_2 c arg2 harg2 arg3 harg3 arg4 harg4 arg8 x0 x1 x2))) (readG arg5 harg5 x3 12 (by decide) 2 inb_S1024x512_S64x128_768_256) :)
theorem pc_12_1 : (@k0_pay442 Ideal _ (@kernelRun0_A.sl.r Ideal c arg6 harg6 x4) (@kernelRun0_A.sl.r_206 Ideal _ c arg2 harg2 arg4 harg4 x0 x2) (@kernelRun0_A.sl.r_213 Ideal _ c arg2 harg2 arg3 harg3 arg4 harg4 x0 x1 x2) (@kernelRun0_A.sl.r_372 Ideal _ c arg2 harg2 arg3 harg3 arg4 harg4 arg8 x0 x1 x2) (View.readAt (Elt Ideal) arg5.view (Rect.unit (s := S1024x512) ![768, 128] S64x128.size inb_S1024x512_S64x128_768_128).toLoadRect (harg5.unread x3))) = res x0 x1 x2 x3 x4 (fun _ => zer) 12 1 :=
  (congr (congr (congrArg fin (gain c arg6 harg6 x4)) (congr (congr (congrArg (osum 1) (qd_12 c arg2 harg2 arg4 harg4 x0 x2)) (intra_12_1 c arg2 harg2 arg3 harg3 arg4 harg4 x0 x1 x2)) (st_12_1 c arg2 harg2 arg3 harg3 arg4 harg4 arg8 x0 x1 x2))) (readG arg5 harg5 x3 12 (by decide) 1 inb_S1024x512_S64x128_768_128) :)
theorem pc_12_0 : (@k0_pay440 Ideal _ (@kernelRun0_A.sl.r_379 Ideal _ c arg2 harg2 arg3 harg3 arg4 harg4 arg6 harg6 arg8 x0 x1 x2 x4) (@kernelRun0_A.sl.r_380 Ideal _ c arg5 harg5 x3)) = res x0 x1 x2 x3 x4 (fun _ => zer) 12 0 :=
  (congr (congr (congrArg fin (gain c arg6 harg6 x4)) (congr (congr (congrArg (osum 0) (qd_12 c arg2 harg2 arg4 harg4 x0 x2)) (intra_12_0 c arg2 harg2 arg3 harg3 arg4 harg4 x0 x1 x2)) (st_12_0 c arg2 harg2 arg3 harg3 arg4 harg4 arg8 x0 x1 x2))) (readG arg5 harg5 x3 12 (by decide) 0 inb_S1024x512_S64x128_768_0) :)
theorem pc_11_3 : (@k0_pay436 Ideal _ (@kernelRun0_A.sl.r Ideal c arg6 harg6 x4) (@kernelRun0_A.sl.r_200 Ideal _ c arg2 harg2 arg3 harg3 arg4 harg4 x0 x1 x2) (@kernelRun0_A.sl.r_376 Ideal _ c arg2 harg2 arg3 harg3 arg4 harg4 arg8 x0 x1 x2) (View.readAt (Elt Ideal) arg5.view (Rect.unit (s := S1024x512) ![704, 384] S64x128.size inb_S1024x512_S64x128_704_384).toLoadRect (harg5.unread x3))) = res x0 x1 x2 x3 x4 (fun _ => zer) 11 3 :=
  (congr (congr (congrArg fin (gain c arg6 harg6 x4)) (congr (congr (congrArg (osum 3) (qd_11 c arg2 harg2 arg4 harg4 x0 x2)) (intra_11_3 c arg2 harg2 arg3 harg3 arg4 harg4 x0 x1 x2)) (st_11_3 c arg2 harg2 arg3 harg3 arg4 harg4 arg8 x0 x1 x2))) (readG arg5 harg5 x3 11 (by decide) 3 inb_S1024x512_S64x128_704_384) :)
theorem pc_11_2 : (@k0_pay433 Ideal _ (@kernelRun0_A.sl.r Ideal c arg6 harg6 x4) (@kernelRun0_A.sl.r_187 Ideal _ c arg2 harg2 arg4 harg4 x0 x2) (@kernelRun0_A.sl.r_198 Ideal _ c arg2 harg2 arg3 harg3 arg4 harg4 x0 x1 x2) (@kernelRun0_A.sl.r_365 Ideal _ c arg2 harg2 arg3 harg3 arg4 harg4 arg8 x0 x1 x2) (View.readAt (Elt Ideal) arg5.view (Rect.unit (s := S1024x512) ![704, 256] S64x128.size inb_S1024x512_S64x128_704_256).toLoadRect (harg5.unread x3))) = res x0 x1 x2 x3 x4 (fun _ => zer) 11 2 :=
  (congr (congr (congrArg fin (gain c arg6 harg6 x4)) (congr (congr (congrArg (osum 2) (qd_11 c arg2 harg2 arg4 harg4 x0 x2)) (intra_11_2 c arg2 harg2 arg3 harg3 arg4 harg4 x0 x1 x2)) (st_11_2 c arg2 harg2 arg3 harg3 arg4 harg4 arg8 x0 x1 x2))) (readG arg5 harg5 x3 11 (by decide) 2 inb_S1024x512_S64x128_704_256) :)
theorem pc_11_1 : (@k0_pay431 Ideal _ (@kernelRun0_A.sl.r Ideal c arg6 harg6 x4) (@kernelRun0_A.sl.r_371 Ideal _ c arg2 harg2 arg3 harg3 arg4 harg4 arg8 x0 x1 x2) (@kernelRun0_A.sl.r_373 Ideal c arg5 harg5 x3) (@kernelRun0_A.sl.r_374 Ideal _ c arg2 harg2 arg3 harg3 arg4 harg4 arg8 x0 x1 x2)) = res x0 x1 x2 x3 x4 (fun _ => zer) 11 1 :=
  (congr (congr (congrArg fin (gain c arg6 harg6 x4)) (congr (congr (congrArg (osum 1) (qd_11 c arg2 harg2 arg4 harg4 x0 x2)) (intra_11_1 c arg2 harg2 arg3 harg3 arg4 harg4 x0 x1 x2)) (st_11_1 c arg2 harg2 arg3 harg3 arg4 harg4 arg8 x0 x1 x2))) (readG arg5 harg5 x3 11 (by decide) 1 inb_S1024x512_S64x128_704_128) :)
theorem pc_11_0 : (@k0_pay427 Ideal _ (@kernelRun0_A.sl.r Ideal c arg6 harg6 x4) (@kernelRun0_A.sl.r_187 Ideal _ c arg2 harg2 arg4 harg4 x0 x2) (@kernelRun0_A.sl.r_191 Ideal _ c arg2 harg2 arg3 harg3 arg4 harg4 x0 x1 x2) (@kernelRun0_A.sl.r_362 Ideal _ c arg2 harg2 arg3 harg3 arg4 harg4 arg8 x0 x1 x2) (View.readAt (Elt Ideal) arg5.view (Rect.unit (s := S1024x512) ![704, 0] S64x128.size inb_S1024x512_S64x128_704_0).toLoadRect (harg5.unread x3))) = res x0 x1 x2 x3 x4 (fun _ => zer) 11 0 :=
  (congr (congr (congrArg fin (gain c arg6 harg6 x4)) (congr (congr (congrArg (osum 0) (qd_11 c arg2 harg2 arg4 harg4 x0 x2)) (intra_11_0 c arg2 harg2 arg3 harg3 arg4 harg4 x0 x1 x2)) (st_11_0 c arg2 harg2 arg3 harg3 arg4 harg4 arg8 x0 x1 x2))) (readG arg5 harg5 x3 11 (by decide) 0 inb_S1024x512_S64x128_704_0) :)
theorem pc_10_3 : (@k0_pay425 Ideal _ (@kernelRun0_A.sl.r Ideal c arg6 harg6 x4) (@kernelRun0_A.sl.r_366 Ideal _ c arg2 harg2 arg3 harg3 arg4 harg4 arg8 x0 x1 x2) (@kernelRun0_A.sl.r_368 Ideal c arg5 harg5 x3) (@kernelRun0_A.sl.r_369 Ideal _ c arg2 harg2 arg3 harg3 arg4 harg4 arg8 x0 x1 x2)) = res x0 x1 x2 x3 x4 (fun _ => zer) 10 3 :=
  (congr (congr (congrArg fin (gain c arg6 harg6 x4)) (congr (congr (congrArg (osum 3) (qd_10 c arg2 harg2 arg4 harg4 x0 x2)) (intra_10_3 c arg2 harg2 arg3 harg3 arg4 harg4 x0 x1 x2)) (st_10_3 c arg2 harg2 arg3 harg3 arg4 harg4 arg8 x0 x1 x2))) (readG arg5 harg5 x3 10 (by decide) 3 inb_S1024x512_S64x128_640_384) :)
theorem pc_10_2 : (@k0_pay421 Ideal _ (@kernelRun0_A.sl.r Ideal c arg6 harg6 x4) (@kernelRun0_A.sl.r_171 Ideal _ c arg2 harg2 arg4 harg4 x0 x2) (@kernelRun0_A.sl.r_179 Ideal _ c arg2 harg2 arg3 harg3 arg4 harg4 x0 x1 x2) (@kernelRun0_A.sl.r_357 Ideal _ c arg2 harg2 arg3 harg3 arg4 harg4 arg8 x0 x1 x2) (View.readAt (Elt Ideal) arg5.view (Rect.unit (s := S1024x512) ![640, 256] S64x128.size inb_S1024x512_S64x128_640_256).toLoadRect (harg5.unread x3))) = res x0 x1 x2 x3 x4 (fun _ => zer) 10 2 :=
  (congr (congr (congrArg fin (gain c arg6 harg6 x4)) (congr (congr (congrArg (osum 2) (qd_10 c arg2 harg2 arg4 harg4 x0 x2)) (intra_10_2 c arg2 harg2 arg3 harg3 arg4 harg4 x0 x1 x2)) (st_10_2 c arg2 harg2 arg3 harg3 arg4 harg4 arg8 x0 x1 x2))) (readG arg5 harg5 x3 10 (by decide) 2 inb_S1024x512_S64x128_640_256) :)
theorem pc_10_1 : (@kernelRun0_A.sl.r_364 Ideal _ c arg2 harg2 arg3 harg3 arg4 harg4 arg5 harg5 arg6 harg6 arg8 x0 x1 x2 x3 x4) = res x0 x1 x2 x3 x4 (fun _ => zer) 10 1 :=
  (congr (congr (congrArg fin (gain c arg6 harg6 x4)) (congr (congr (congrArg (osum 1) (qd_10 c arg2 harg2 arg4 harg4 x0 x2)) (intra_10_1 c arg2 harg2 arg3 harg3 arg4 harg4 x0 x1 x2)) (st_10_1 c arg2 harg2 arg3 harg3 arg4 harg4 arg8 x0 x1 x2))) (readG arg5 harg5 x3 10 (by decide) 1 inb_S1024x512_S64x128_640_128) :)
theorem pc_10_0 : (@k0_pay417 Ideal _ (@kernelRun0_A.sl.r Ideal c arg6 harg6 x4) (@kernelRun0_A.sl.r_361 Ideal _ c arg2 harg2 arg3 harg3 arg4 harg4 arg8 x0 x1 x2) (View.readAt (Elt Ideal) arg5.view (Rect.unit (s := S1024x512) ![640, 0] S64x128.size inb_S1024x512_S64x128_640_0).toLoadRect (harg5.unread x3))) = res x0 x1 x2 x3 x4 (fun _ => zer) 10 0 :=
  (congr (congr (congrArg fin (gain c arg6 harg6 x4)) (congr (congr (congrArg (osum 0) (qd_10 c arg2 harg2 arg4 harg4 x0 x2)) (intra_10_0 c arg2 harg2 arg3 harg3 arg4 harg4 x0 x1 x2)) (st_10_0 c arg2 harg2 arg3 harg3 arg4 harg4 arg8 x0 x1 x2))) (readG arg5 harg5 x3 10 (by decide) 0 inb_S1024x512_S64x128_640_0) :)
theorem pc_9_3 : (@k0_pay414 Ideal _ (@kernelRun0_A.sl.r Ideal c arg6 harg6 x4) (@kernelRun0_A.sl.r_156 Ideal _ c arg2 harg2 arg4 harg4 x0 x2) (@kernelRun0_A.sl.r_168 Ideal _ c arg2 harg2 arg3 harg3 arg4 harg4 x0 x1 x2) (@kernelRun0_A.sl.r_351 Ideal _ c arg2 harg2 arg3 harg3 arg4 harg4 arg8 x0 x1 x2) (View.readAt (Elt Ideal) arg5.view (Rect.unit (s := S1024x512) ![576, 384] S64x128.size inb_S1024x512_S64x128_576_384).toLoadRect (harg5.unread x3))) = res x0 x1 x2 x3 x4 (fun _ => zer) 9 3 :=
  (congr (congr (congrArg fin (gain c arg6 harg6 x4)) (congr (congr (congrArg (osum 3) (qd_9 c arg2 harg2 arg4 harg4 x0 x2)) (intra_9_3 c arg2 harg2 arg3 harg3 arg4 harg4 x0 x1 x2)) (st_9_3 c arg2 harg2 arg3 harg3 arg4 harg4 arg8 x0 x1 x2))) (readG arg5 harg5 x3 9 (by decide) 3 inb_S1024x512_S64x128_576_384) :)
theorem pc_9_2 : (@k0_pay412 Ideal _ (@kernelRun0_A.sl.r Ideal c arg6 harg6 x4) (@kernelRun0_A.sl.r_356 Ideal _ c arg2 harg2 arg3 harg3 arg4 harg4 arg8 x0 x1 x2) (@kernelRun0_A.sl.r_358 Ideal c arg5 harg5 x3) (@kernelRun0_A.sl.r_359 Ideal _ c arg2 harg2 arg3 harg3 arg4 harg4 arg8 x0 x1 x2)) = res x0 x1 x2 x3 x4 (fun _ => zer) 9 2 :=
  (congr (congr (congrArg fin (gain c arg6 harg6 x4)) (congr (congr (congrArg (osum 2) (qd_9 c arg2 harg2 arg4 harg4 x0 x2)) (intra_9_2 c arg2 harg2 arg3 harg3 arg4 harg4 x0 x1 x2)) (st_9_2 c arg2 harg2 arg3 harg3 arg4 harg4 arg8 x0 x1 x2))) (readG arg5 harg5 x3 9 (by decide) 2 inb_S1024x512_S64x128_576_256) :)
theorem pc_9_1 : (@k0_pay408 Ideal _ (@kernelRun0_A.sl.r Ideal c arg6 harg6 x4) (@kernelRun0_A.sl.r_156 Ideal _ c arg2 harg2 arg4 harg4 x0 x2) (@kernelRun0_A.sl.r_162 Ideal _ c arg2 harg2 arg3 harg3 arg4 harg4 x0 x1 x2) (@kernelRun0_A.sl.r_346 Ideal _ c arg2 harg2 arg3 harg3 arg4 harg4 arg8 x0 x1 x2) (View.readAt (Elt Ideal) arg5.view (Rect.unit (s := S1024x512) ![576, 128] S64x128.size inb_S1024x512_S64x128_576_128).toLoadRect (harg5.unread x3))) = res x0 x1 x2 x3 x4 (fun _ => zer) 9 1 :=
  (congr (congr (congrArg fin (gain c arg6 harg6 x4)) (congr (congr (congrArg (osum 1) (qd_9 c arg2 harg2 arg4 harg4 x0 x2)) (intra_9_1 c arg2 harg2 arg3 harg3 arg4 harg4 x0 x1 x2)) (st_9_1 c arg2 harg2 arg3 harg3 arg4 harg4 arg8 x0 x1 x2))) (readG arg5 harg5 x3 9 (by decide) 1 inb_S1024x512_S64x128_576_128) :)
theorem pc_9_0 : (@k0_pay406 Ideal _ (@kernelRun0_A.sl.r_353 Ideal _ c arg2 harg2 arg3 harg3 arg4 harg4 arg6 harg6 arg8 x0 x1 x2 x4) (@kernelRun0_A.sl.r_354 Ideal _ c arg5 harg5 x3)) = res x0 x1 x2 x3 x4 (fun _ => zer) 9 0 :=
  (congr (congr (congrArg fin (gain c arg6 harg6 x4)) (congr (congr (congrArg (osum 0) (qd_9 c arg2 harg2 arg4 harg4 x0 x2)) (intra_9_0 c arg2 harg2 arg3 harg3 arg4 harg4 x0 x1 x2)) (st_9_0 c arg2 harg2 arg3 harg3 arg4 harg4 arg8 x0 x1 x2))) (readG arg5 harg5 x3 9 (by decide) 0 inb_S1024x512_S64x128_576_0) :)
theorem pc_8_3 : (@k0_pay402 Ideal _ (@kernelRun0_A.sl.r Ideal c arg6 harg6 x4) (@kernelRun0_A.sl.r_151 Ideal _ c arg2 harg2 arg3 harg3 arg4 harg4 x0 x1 x2) (@kernelRun0_A.sl.r_350 Ideal _ c arg2 harg2 arg3 harg3 arg4 harg4 arg8 x0 x1 x2) (View.readAt (Elt Ideal) arg5.view (Rect.unit (s := S1024x512) ![512, 384] S64x128.size inb_S1024x512_S64x128_512_384).toLoadRect (harg5.unread x3))) = res x0 x1 x2 x3 x4 (fun _ => zer) 8 3 :=
  (congr (congr (congrArg fin (gain c arg6 harg6 x4)) (congr (congr (congrArg (osum 3) (qd_8 c arg2 harg2 arg4 harg4 x0 x2)) (intra_8_3 c arg2 harg2 arg3 harg3 arg4 harg4 x0 x1 x2)) (st_8_3 c arg2 harg2 arg3 harg3 arg4 harg4 arg8 x0 x1 x2))) (readG arg5 harg5 x3 8 (by decide) 3 inb_S1024x512_S64x128_512_384) :)
theorem pc_8_2 : (@k0_pay399 Ideal _ (@kernelRun0_A.sl.r Ideal c arg6 harg6 x4) (@kernelRun0_A.sl.r_139 Ideal _ c arg2 harg2 arg4 harg4 x0 x2) (@kernelRun0_A.sl.r_149 Ideal _ c arg2 harg2 arg3 harg3 arg4 harg4 x0 x1 x2) (@kernelRun0_A.sl.r_339 Ideal _ c arg2 harg2 arg3 harg3 arg4 harg4 arg8 x0 x1 x2) (View.readAt (Elt Ideal) arg5.view (Rect.unit (s := S1024x512) ![512, 256] S64x128.size inb_S1024x512_S64x128_512_256).toLoadRect (harg5.unread x3))) = res x0 x1 x2 x3 x4 (fun _ => zer) 8 2 :=
  (congr (congr (congrArg fin (gain c arg6 harg6 x4)) (congr (congr (congrArg (osum 2) (qd_8 c arg2 harg2 arg4 harg4 x0 x2)) (intra_8_2 c arg2 harg2 arg3 harg3 arg4 harg4 x0 x1 x2)) (st_8_2 c arg2 harg2 arg3 harg3 arg4 harg4 arg8 x0 x1 x2))) (readG arg5 harg5 x3 8 (by decide) 2 inb_S1024x512_S64x128_512_256) :)
theorem pc_8_1 : (@k0_pay397 Ideal _ (@kernelRun0_A.sl.r Ideal c arg6 harg6 x4) (@kernelRun0_A.sl.r_345 Ideal _ c arg2 harg2 arg3 harg3 arg4 harg4 arg8 x0 x1 x2) (@kernelRun0_A.sl.r_347 Ideal c arg5 harg5 x3) (@kernelRun0_A.sl.r_348 Ideal _ c arg2 harg2 arg3 harg3 arg4 harg4 arg8 x0 x1 x2)) = res x0 x1 x2 x3 x4 (fun _ => zer) 8 1 :=
  (congr (congr (congrArg fin (gain c arg6 harg6 x4)) (congr (congr (congrArg (osum 1) (qd_8 c arg2 harg2 arg4 harg4 x0 x2)) (intra_8_1 c arg2 harg2 arg3 harg3 arg4 harg4 x0 x1 x2)) (st_8_1 c arg2 harg2 arg3 harg3 arg4 harg4 arg8 x0 x1 x2))) (readG arg5 harg5 x3 8 (by decide) 1 inb_S1024x512_S64x128_512_128) :)
theorem pc_8_0 : (@k0_pay393 Ideal _ (@kernelRun0_A.sl.r Ideal c arg6 harg6 x4) (@kernelRun0_A.sl.r_139 Ideal _ c arg2 harg2 arg4 harg4 x0 x2) (@kernelRun0_A.sl.r_143 Ideal _ c arg2 harg2 arg3 harg3 arg4 harg4 x0 x1 x2) (@kernelRun0_A.sl.r_336 Ideal _ c arg2 harg2 arg3 harg3 arg4 harg4 arg8 x0 x1 x2) (View.readAt (Elt Ideal) arg5.view (Rect.unit (s := S1024x512) ![512, 0] S64x128.size inb_S1024x512_S64x128_512_0).toLoadRect (harg5.unread x3))) = res x0 x1 x2 x3 x4 (fun _ => zer) 8 0 :=
  (congr (congr (congrArg fin (gain c arg6 harg6 x4)) (congr (congr (congrArg (osum 0) (qd_8 c arg2 harg2 arg4 harg4 x0 x2)) (intra_8_0 c arg2 harg2 arg3 harg3 arg4 harg4 x0 x1 x2)) (st_8_0 c arg2 harg2 arg3 harg3 arg4 harg4 arg8 x0 x1 x2))) (readG arg5 harg5 x3 8 (by decide) 0 inb_S1024x512_S64x128_512_0) :)
theorem pc_7_3 : (@k0_pay391 Ideal _ (@kernelRun0_A.sl.r Ideal c arg6 harg6 x4) (@kernelRun0_A.sl.r_340 Ideal _ c arg2 harg2 arg3 harg3 arg4 harg4 arg8 x0 x1 x2) (@kernelRun0_A.sl.r_342 Ideal c arg5 harg5 x3) (@kernelRun0_A.sl.r_343 Ideal _ c arg2 harg2 arg3 harg3 arg4 harg4 arg8 x0 x1 x2)) = res x0 x1 x2 x3 x4 (fun _ => zer) 7 3 :=
  (congr (congr (congrArg fin (gain c arg6 harg6 x4)) (congr (congr (congrArg (osum 3) (qd_7 c arg2 harg2 arg4 harg4 x0 x2)) (intra_7_3 c arg2 harg2 arg3 harg3 arg4 harg4 x0 x1 x2)) (st_7_3 c arg2 harg2 arg3 harg3 arg4 harg4 arg8 x0 x1 x2))) (readG arg5 harg5 x3 7 (by decide) 3 inb_S1024x512_S64x128_448_384) :)
theorem pc_7_2 : (@k0_pay387 Ideal _ (@kernelRun0_A.sl.r Ideal c arg6 harg6 x4) (@kernelRun0_A.sl.r_121 Ideal _ c arg2 harg2 arg4 harg4 x0 x2) (@kernelRun0_A.sl.r_132 Ideal _ c arg2 harg2 arg3 harg3 arg4 harg4 x0 x1 x2) (@kernelRun0_A.sl.r_331 Ideal _ c arg2 harg2 arg3 harg3 arg4 harg4 arg8 x0 x1 x2) (View.readAt (Elt Ideal) arg5.view (Rect.unit (s := S1024x512) ![448, 256] S64x128.size inb_S1024x512_S64x128_448_256).toLoadRect (harg5.unread x3))) = res x0 x1 x2 x3 x4 (fun _ => zer) 7 2 :=
  (congr (congr (congrArg fin (gain c arg6 harg6 x4)) (congr (congr (congrArg (osum 2) (qd_7 c arg2 harg2 arg4 harg4 x0 x2)) (intra_7_2 c arg2 harg2 arg3 harg3 arg4 harg4 x0 x1 x2)) (st_7_2 c arg2 harg2 arg3 harg3 arg4 harg4 arg8 x0 x1 x2))) (readG arg5 harg5 x3 7 (by decide) 2 inb_S1024x512_S64x128_448_256) :)
theorem pc_7_1 : (@kernelRun0_A.sl.r_338 Ideal _ c arg2 harg2 arg3 harg3 arg4 harg4 arg5 harg5 arg6 harg6 arg8 x0 x1 x2 x3 x4) = res x0 x1 x2 x3 x4 (fun _ => zer) 7 1 :=
  (congr (congr (congrArg fin (gain c arg6 harg6 x4)) (congr (congr (congrArg (osum 1) (qd_7 c arg2 harg2 arg4 harg4 x0 x2)) (intra_7_1 c arg2 harg2 arg3 harg3 arg4 harg4 x0 x1 x2)) (st_7_1 c arg2 harg2 arg3 harg3 arg4 harg4 arg8 x0 x1 x2))) (readG arg5 harg5 x3 7 (by decide) 1 inb_S1024x512_S64x128_448_128) :)
theorem pc_7_0 : (@k0_pay383 Ideal _ (@kernelRun0_A.sl.r Ideal c arg6 harg6 x4) (@kernelRun0_A.sl.r_335 Ideal _ c arg2 harg2 arg3 harg3 arg4 harg4 arg8 x0 x1 x2) (View.readAt (Elt Ideal) arg5.view (Rect.unit (s := S1024x512) ![448, 0] S64x128.size inb_S1024x512_S64x128_448_0).toLoadRect (harg5.unread x3))) = res x0 x1 x2 x3 x4 (fun _ => zer) 7 0 :=
  (congr (congr (congrArg fin (gain c arg6 harg6 x4)) (congr (congr (congrArg (osum 0) (qd_7 c arg2 harg2 arg4 harg4 x0 x2)) (intra_7_0 c arg2 harg2 arg3 harg3 arg4 harg4 x0 x1 x2)) (st_7_0 c arg2 harg2 arg3 harg3 arg4 harg4 arg8 x0 x1 x2))) (readG arg5 harg5 x3 7 (by decide) 0 inb_S1024x512_S64x128_448_0) :)
theorem pc_6_3 : (@k0_pay380 Ideal _ (@kernelRun0_A.sl.r Ideal c arg6 harg6 x4) (@kernelRun0_A.sl.r_105 Ideal _ c arg2 harg2 arg4 harg4 x0 x2) (@kernelRun0_A.sl.r_116 Ideal _ c arg2 harg2 arg3 harg3 arg4 harg4 x0 x1 x2) (@kernelRun0_A.sl.r_325 Ideal _ c arg2 harg2 arg3 harg3 arg4 harg4 arg8 x0 x1 x2) (View.readAt (Elt Ideal) arg5.view (Rect.unit (s := S1024x512) ![384, 384] S64x128.size inb_S1024x512_S64x128_384_384).toLoadRect (harg5.unread x3))) = res x0 x1 x2 x3 x4 (fun _ => zer) 6 3 :=
  (congr (congr (congrArg fin (gain c arg6 harg6 x4)) (congr (congr (congrArg (osum 3) (qd_6 c arg2 harg2 arg4 harg4 x0 x2)) (intra_6_3 c arg2 harg2 arg3 harg3 arg4 harg4 x0 x1 x2)) (st_6_3 c arg2 harg2 arg3 harg3 arg4 harg4 arg8 x0 x1 x2))) (readG arg5 harg5 x3 6 (by decide) 3 inb_S1024x512_S64x128_384_384) :)
theorem pc_6_2 : (@k0_pay378 Ideal _ (@kernelRun0_A.sl.r Ideal c arg6 harg6 x4) (@kernelRun0_A.sl.r_330 Ideal _ c arg2 harg2 arg3 harg3 arg4 harg4 arg8 x0 x1 x2) (@kernelRun0_A.sl.r_332 Ideal c arg5 harg5 x3) (@kernelRun0_A.sl.r_333 Ideal _ c arg2 harg2 arg3 harg3 arg4 harg4 arg8 x0 x1 x2)) = res x0 x1 x2 x3 x4 (fun _ => zer) 6 2 :=
  (congr (congr (congrArg fin (gain c arg6 harg6 x4)) (congr (congr (congrArg (osum 2) (qd_6 c arg2 harg2 arg4 harg4 x0 x2)) (intra_6_2 c arg2 harg2 arg3 harg3 arg4 harg4 x0 x1 x2)) (st_6_2 c arg2 harg2 arg3 harg3 arg4 harg4 arg8 x0 x1 x2))) (readG arg5 harg5 x3 6 (by decide) 2 inb_S1024x512_S64x128_384_256) :)
theorem pc_6_1 : (@k0_pay374 Ideal _ (@kernelRun0_A.sl.r Ideal c arg6 harg6 x4) (@kernelRun0_A.sl.r_105 Ideal _ c arg2 harg2 arg4 harg4 x0 x2) (@kernelRun0_A.sl.r_111 Ideal _ c arg2 harg2 arg3 harg3 arg4 harg4 x0 x1 x2) (@kernelRun0_A.sl.r_320 Ideal _ c arg2 harg2 arg3 harg3 arg4 harg4 arg8 x0 x1 x2) (View.readAt (Elt Ideal) arg5.view (Rect.unit (s := S1024x512) ![384, 128] S64x128.size inb_S1024x512_S64x128_384_128).toLoadRect (harg5.unread x3))) = res x0 x1 x2 x3 x4 (fun _ => zer) 6 1 :=
  (congr (congr (congrArg fin (gain c arg6 harg6 x4)) (congr (congr (congrArg (osum 1) (qd_6 c arg2 harg2 arg4 harg4 x0 x2)) (intra_6_1 c arg2 harg2 arg3 harg3 arg4 harg4 x0 x1 x2)) (st_6_1 c arg2 harg2 arg3 harg3 arg4 harg4 arg8 x0 x1 x2))) (readG arg5 harg5 x3 6 (by decide) 1 inb_S1024x512_S64x128_384_128) :)
theorem pc_6_0 : (@k0_pay372 Ideal _ (@kernelRun0_A.sl.r_327 Ideal _ c arg2 harg2 arg3 harg3 arg4 harg4 arg6 harg6 arg8 x0 x1 x2 x4) (@kernelRun0_A.sl.r_328 Ideal _ c arg5 harg5 x3)) = res x0 x1 x2 x3 x4 (fun _ => zer) 6 0 :=
  (congr (congr (congrArg fin (gain c arg6 harg6 x4)) (congr (congr (congrArg (osum 0) (qd_6 c arg2 harg2 arg4 harg4 x0 x2)) (intra_6_0 c arg2 harg2 arg3 harg3 arg4 harg4 x0 x1 x2)) (st_6_0 c arg2 harg2 arg3 harg3 arg4 harg4 arg8 x0 x1 x2))) (readG arg5 harg5 x3 6 (by decide) 0 inb_S1024x512_S64x128_384_0) :)
theorem pc_5_3 : (@k0_pay368 Ideal _ (@kernelRun0_A.sl.r Ideal c arg6 harg6 x4) (@kernelRun0_A.sl.r_102 Ideal _ c arg2 harg2 arg3 harg3 arg4 harg4 x0 x1 x2) (@kernelRun0_A.sl.r_324 Ideal _ c arg2 harg2 arg3 harg3 arg4 harg4 arg8 x0 x1 x2) (View.readAt (Elt Ideal) arg5.view (Rect.unit (s := S1024x512) ![320, 384] S64x128.size inb_S1024x512_S64x128_320_384).toLoadRect (harg5.unread x3))) = res x0 x1 x2 x3 x4 (fun _ => zer) 5 3 :=
  (congr (congr (congrArg fin (gain c arg6 harg6 x4)) (congr (congr (congrArg (osum 3) (qd_5 c arg2 harg2 arg4 harg4 x0 x2)) (intra_5_3 c arg2 harg2 arg3 harg3 arg4 harg4 x0 x1 x2)) (st_5_3 c arg2 harg2 arg3 harg3 arg4 harg4 arg8 x0 x1 x2))) (readG arg5 harg5 x3 5 (by decide) 3 inb_S1024x512_S64x128_320_384) :)
theorem pc_5_2 : (@k0_pay365 Ideal _ (@kernelRun0_A.sl.r Ideal c arg6 harg6 x4) (@kernelRun0_A.sl.r_90 Ideal _ c arg2 harg2 arg4 harg4 x0 x2) (@kernelRun0_A.sl.r_100 Ideal _ c arg2 harg2 arg3 harg3 arg4 harg4 x0 x1 x2) (@kernelRun0_A.sl.r_313 Ideal _ c arg2 harg2 arg3 harg3 arg4 harg4 arg8 x0 x1 x2) (View.readAt (Elt Ideal) arg5.view (Rect.unit (s := S1024x512) ![320, 256] S64x128.size inb_S1024x512_S64x128_320_256).toLoadRect (harg5.unread x3))) = res x0 x1 x2 x3 x4 (fun _ => zer) 5 2 :=
  (congr (congr (congrArg fin (gain c arg6 harg6 x4)) (congr (congr (congrArg (osum 2) (qd_5 c arg2 harg2 arg4 harg4 x0 x2)) (intra_5_2 c arg2 harg2 arg3 harg3 arg4 harg4 x0 x1 x2)) (st_5_2 c arg2 harg2 arg3 harg3 arg4 harg4 arg8 x0 x1 x2))) (readG arg5 harg5 x3 5 (by decide) 2 inb_S1024x512_S64x128_320_256) :)
theorem pc_5_1 : (@k0_pay363 Ideal _ (@kernelRun0_A.sl.r Ideal c arg6 harg6 x4) (@kernelRun0_A.sl.r_319 Ideal _ c arg2 harg2 arg3 harg3 arg4 harg4 arg8 x0 x1 x2) (@kernelRun0_A.sl.r_321 Ideal c arg5 harg5 x3) (@kernelRun0_A.sl.r_322 Ideal _ c arg2 harg2 arg3 harg3 arg4 harg4 arg8 x0 x1 x2)) = res x0 x1 x2 x3 x4 (fun _ => zer) 5 1 :=
  (congr (congr (congrArg fin (gain c arg6 harg6 x4)) (congr (congr (congrArg (osum 1) (qd_5 c arg2 harg2 arg4 harg4 x0 x2)) (intra_5_1 c arg2 harg2 arg3 harg3 arg4 harg4 x0 x1 x2)) (st_5_1 c arg2 harg2 arg3 harg3 arg4 harg4 arg8 x0 x1 x2))) (readG arg5 harg5 x3 5 (by decide) 1 inb_S1024x512_S64x128_320_128) :)
theorem pc_5_0 : (@k0_pay359 Ideal _ (@kernelRun0_A.sl.r Ideal c arg6 harg6 x4) (@kernelRun0_A.sl.r_90 Ideal _ c arg2 harg2 arg4 harg4 x0 x2) (@kernelRun0_A.sl.r_94 Ideal _ c arg2 harg2 arg3 harg3 arg4 harg4 x0 x1 x2) (@kernelRun0_A.sl.r_310 Ideal _ c arg2 harg2 arg3 harg3 arg4 harg4 arg8 x0 x1 x2) (View.readAt (Elt Ideal) arg5.view (Rect.unit (s := S1024x512) ![320, 0] S64x128.size inb_S1024x512_S64x128_320_0).toLoadRect (harg5.unread x3))) = res x0 x1 x2 x3 x4 (fun _ => zer) 5 0 :=
  (congr (congr (congrArg fin (gain c arg6 harg6 x4)) (congr (congr (congrArg (osum 0) (qd_5 c arg2 harg2 arg4 harg4 x0 x2)) (intra_5_0 c arg2 harg2 arg3 harg3 arg4 harg4 x0 x1 x2)) (st_5_0 c arg2 harg2 arg3 harg3 arg4 harg4 arg8 x0 x1 x2))) (readG arg5 harg5 x3 5 (by decide) 0 inb_S1024x512_S64x128_320_0) :)
theorem pc_4_3 : (@k0_pay357 Ideal _ (@kernelRun0_A.sl.r Ideal c arg6 harg6 x4) (@kernelRun0_A.sl.r_314 Ideal _ c arg2 harg2 arg3 harg3 arg4 harg4 arg8 x0 x1 x2) (@kernelRun0_A.sl.r_316 Ideal c arg5 harg5 x3) (@kernelRun0_A.sl.r_317 Ideal _ c arg2 harg2 arg3 harg3 arg4 harg4 arg8 x0 x1 x2)) = res x0 x1 x2 x3 x4 (fun _ => zer) 4 3 :=
  (congr (congr (congrArg fin (gain c arg6 harg6 x4)) (congr (congr (congrArg (osum 3) (qd_4 c arg2 harg2 arg4 harg4 x0 x2)) (intra_4_3 c arg2 harg2 arg3 harg3 arg4 harg4 x0 x1 x2)) (st_4_3 c arg2 harg2 arg3 harg3 arg4 harg4 arg8 x0 x1 x2))) (readG arg5 harg5 x3 4 (by decide) 3 inb_S1024x512_S64x128_256_384) :)
theorem pc_4_2 : (@k0_pay353 Ideal _ (@kernelRun0_A.sl.r Ideal c arg6 harg6 x4) (@kernelRun0_A.sl.r_72 Ideal _ c arg2 harg2 arg4 harg4 x0 x2) (@kernelRun0_A.sl.r_82 Ideal _ c arg2 harg2 arg3 harg3 arg4 harg4 x0 x1 x2) (@kernelRun0_A.sl.r_305 Ideal _ c arg2 harg2 arg3 harg3 arg4 harg4 arg8 x0 x1 x2) (View.readAt (Elt Ideal) arg5.view (Rect.unit (s := S1024x512) ![256, 256] S64x128.size inb_S1024x512_S64x128_256_256).toLoadRect (harg5.unread x3))) = res x0 x1 x2 x3 x4 (fun _ => zer) 4 2 :=
  (congr (congr (congrArg fin (gain c arg6 harg6 x4)) (congr (congr (congrArg (osum 2) (qd_4 c arg2 harg2 arg4 harg4 x0 x2)) (intra_4_2 c arg2 harg2 arg3 harg3 arg4 harg4 x0 x1 x2)) (st_4_2 c arg2 harg2 arg3 harg3 arg4 harg4 arg8 x0 x1 x2))) (readG arg5 harg5 x3 4 (by decide) 2 inb_S1024x512_S64x128_256_256) :)
theorem pc_4_1 : (@kernelRun0_A.sl.r_312 Ideal _ c arg2 harg2 arg3 harg3 arg4 harg4 arg5 harg5 arg6 harg6 arg8 x0 x1 x2 x3 x4) = res x0 x1 x2 x3 x4 (fun _ => zer) 4 1 :=
  (congr (congr (congrArg fin (gain c arg6 harg6 x4)) (congr (congr (congrArg (osum 1) (qd_4 c arg2 harg2 arg4 harg4 x0 x2)) (intra_4_1 c arg2 harg2 arg3 harg3 arg4 harg4 x0 x1 x2)) (st_4_1 c arg2 harg2 arg3 harg3 arg4 harg4 arg8 x0 x1 x2))) (readG arg5 harg5 x3 4 (by decide) 1 inb_S1024x512_S64x128_256_128) :)
theorem pc_4_0 : (@k0_pay349 Ideal _ (@kernelRun0_A.sl.r Ideal c arg6 harg6 x4) (@kernelRun0_A.sl.r_309 Ideal _ c arg2 harg2 arg3 harg3 arg4 harg4 arg8 x0 x1 x2) (View.readAt (Elt Ideal) arg5.view (Rect.unit (s := S1024x512) ![256, 0] S64x128.size inb_S1024x512_S64x128_256_0).toLoadRect (harg5.unread x3))) = res x0 x1 x2 x3 x4 (fun _ => zer) 4 0 :=
  (congr (congr (congrArg fin (gain c arg6 harg6 x4)) (congr (congr (congrArg (osum 0) (qd_4 c arg2 harg2 arg4 harg4 x0 x2)) (intra_4_0 c arg2 harg2 arg3 harg3 arg4 harg4 x0 x1 x2)) (st_4_0 c arg2 harg2 arg3 harg3 arg4 harg4 arg8 x0 x1 x2))) (readG arg5 harg5 x3 4 (by decide) 0 inb_S1024x512_S64x128_256_0) :)
theorem pc_3_3 : (@k0_pay346 Ideal _ (@kernelRun0_A.sl.r Ideal c arg6 harg6 x4) (@kernelRun0_A.sl.r_55 Ideal _ c arg2 harg2 arg4 harg4 x0 x2) (@kernelRun0_A.sl.r_68 Ideal _ c arg2 harg2 arg3 harg3 arg4 harg4 x0 x1 x2) (@kernelRun0_A.sl.r_299 Ideal _ c arg2 harg2 arg3 harg3 arg4 harg4 arg8 x0 x1 x2) (View.readAt (Elt Ideal) arg5.view (Rect.unit (s := S1024x512) ![192, 384] S64x128.size inb_S1024x512_S64x128_192_384).toLoadRect (harg5.unread x3))) = res x0 x1 x2 x3 x4 (fun _ => zer) 3 3 :=
  (congr (congr (congrArg fin (gain c arg6 harg6 x4)) (congr (congr (congrArg (osum 3) (qd_3 c arg2 harg2 arg4 harg4 x0 x2)) (intra_3_3 c arg2 harg2 arg3 harg3 arg4 harg4 x0 x1 x2)) (st_3_3 c arg2 harg2 arg3 harg3 arg4 harg4 arg8 x0 x1 x2))) (readG arg5 harg5 x3 3 (by decide) 3 inb_S1024x512_S64x128_192_384) :)
theorem pc_3_2 : (@k0_pay344 Ideal _ (@kernelRun0_A.sl.r Ideal c arg6 harg6 x4) (@kernelRun0_A.sl.r_304 Ideal _ c arg2 harg2 arg3 harg3 arg4 harg4 arg8 x0 x1 x2) (@kernelRun0_A.sl.r_306 Ideal c arg5 harg5 x3) (@kernelRun0_A.sl.r_307 Ideal _ c arg2 harg2 arg3 harg3 arg4 harg4 arg8 x0 x1 x2)) = res x0 x1 x2 x3 x4 (fun _ => zer) 3 2 :=
  (congr (congr (congrArg fin (gain c arg6 harg6 x4)) (congr (congr (congrArg (osum 2) (qd_3 c arg2 harg2 arg4 harg4 x0 x2)) (intra_3_2 c arg2 harg2 arg3 harg3 arg4 harg4 x0 x1 x2)) (st_3_2 c arg2 harg2 arg3 harg3 arg4 harg4 arg8 x0 x1 x2))) (readG arg5 harg5 x3 3 (by decide) 2 inb_S1024x512_S64x128_192_256) :)
theorem pc_3_1 : (@k0_pay340 Ideal _ (@kernelRun0_A.sl.r Ideal c arg6 harg6 x4) (@kernelRun0_A.sl.r_55 Ideal _ c arg2 harg2 arg4 harg4 x0 x2) (@kernelRun0_A.sl.r_64 Ideal _ c arg2 harg2 arg3 harg3 arg4 harg4 x0 x1 x2) (@kernelRun0_A.sl.r_294 Ideal _ c arg2 harg2 arg3 harg3 arg4 harg4 arg8 x0 x1 x2) (View.readAt (Elt Ideal) arg5.view (Rect.unit (s := S1024x512) ![192, 128] S64x128.size inb_S1024x512_S64x128_192_128).toLoadRect (harg5.unread x3))) = res x0 x1 x2 x3 x4 (fun _ => zer) 3 1 :=
  (congr (congr (congrArg fin (gain c arg6 harg6 x4)) (congr (congr (congrArg (osum 1) (qd_3 c arg2 harg2 arg4 harg4 x0 x2)) (intra_3_1 c arg2 harg2 arg3 harg3 arg4 harg4 x0 x1 x2)) (st_3_1 c arg2 harg2 arg3 harg3 arg4 harg4 arg8 x0 x1 x2))) (readG arg5 harg5 x3 3 (by decide) 1 inb_S1024x512_S64x128_192_128) :)
theorem pc_3_0 : (@k0_pay338 Ideal _ (@kernelRun0_A.sl.r_301 Ideal _ c arg2 harg2 arg3 harg3 arg4 harg4 arg6 harg6 arg8 x0 x1 x2 x4) (@kernelRun0_A.sl.r_302 Ideal _ c arg5 harg5 x3)) = res x0 x1 x2 x3 x4 (fun _ => zer) 3 0 :=
  (congr (congr (congrArg fin (gain c arg6 harg6 x4)) (congr (congr (congrArg (osum 0) (qd_3 c arg2 harg2 arg4 harg4 x0 x2)) (intra_3_0 c arg2 harg2 arg3 harg3 arg4 harg4 x0 x1 x2)) (st_3_0 c arg2 harg2 arg3 harg3 arg4 harg4 arg8 x0 x1 x2))) (readG arg5 harg5 x3 3 (by decide) 0 inb_S1024x512_S64x128_192_0) :)
theorem pc_2_3 : (@k0_pay334 Ideal _ (@kernelRun0_A.sl.r Ideal c arg6 harg6 x4) (@kernelRun0_A.sl.r_52 Ideal _ c arg2 harg2 arg3 harg3 arg4 harg4 x0 x1 x2) (@kernelRun0_A.sl.r_298 Ideal _ c arg2 harg2 arg3 harg3 arg4 harg4 arg8 x0 x1 x2) (View.readAt (Elt Ideal) arg5.view (Rect.unit (s := S1024x512) ![128, 384] S64x128.size inb_S1024x512_S64x128_128_384).toLoadRect (harg5.unread x3))) = res x0 x1 x2 x3 x4 (fun _ => zer) 2 3 :=
  (congr (congr (congrArg fin (gain c arg6 harg6 x4)) (congr (congr (congrArg (osum 3) (qd_2 c arg2 harg2 arg4 harg4 x0 x2)) (intra_2_3 c arg2 harg2 arg3 harg3 arg4 harg4 x0 x1 x2)) (st_2_3 c arg2 harg2 arg3 harg3 arg4 harg4 arg8 x0 x1 x2))) (readG arg5 harg5 x3 2 (by decide) 3 inb_S1024x512_S64x128_128_384) :)
theorem pc_2_2 : (@k0_pay331 Ideal _ (@kernelRun0_A.sl.r Ideal c arg6 harg6 x4) (@kernelRun0_A.sl.r_40 Ideal _ c arg2 harg2 arg4 harg4 x0 x2) (@kernelRun0_A.sl.r_49 Ideal _ c arg2 harg2 arg3 harg3 arg4 harg4 x0 x1 x2) (@kernelRun0_A.sl.r_287 Ideal _ c arg2 harg2 arg3 harg3 arg4 harg4 arg8 x0 x1 x2) (View.readAt (Elt Ideal) arg5.view (Rect.unit (s := S1024x512) ![128, 256] S64x128.size inb_S1024x512_S64x128_128_256).toLoadRect (harg5.unread x3))) = res x0 x1 x2 x3 x4 (fun _ => zer) 2 2 :=
  (congr (congr (congrArg fin (gain c arg6 harg6 x4)) (congr (congr (congrArg (osum 2) (qd_2 c arg2 harg2 arg4 harg4 x0 x2)) (intra_2_2 c arg2 harg2 arg3 harg3 arg4 harg4 x0 x1 x2)) (st_2_2 c arg2 harg2 arg3 harg3 arg4 harg4 arg8 x0 x1 x2))) (readG arg5 harg5 x3 2 (by decide) 2 inb_S1024x512_S64x128_128_256) :)
theorem pc_2_1 : (@k0_pay329 Ideal _ (@kernelRun0_A.sl.r Ideal c arg6 harg6 x4) (@kernelRun0_A.sl.r_293 Ideal _ c arg2 harg2 arg3 harg3 arg4 harg4 arg8 x0 x1 x2) (@kernelRun0_A.sl.r_295 Ideal c arg5 harg5 x3) (@kernelRun0_A.sl.r_296 Ideal _ c arg2 harg2 arg3 harg3 arg4 harg4 arg8 x0 x1 x2)) = res x0 x1 x2 x3 x4 (fun _ => zer) 2 1 :=
  (congr (congr (congrArg fin (gain c arg6 harg6 x4)) (congr (congr (congrArg (osum 1) (qd_2 c arg2 harg2 arg4 harg4 x0 x2)) (intra_2_1 c arg2 harg2 arg3 harg3 arg4 harg4 x0 x1 x2)) (st_2_1 c arg2 harg2 arg3 harg3 arg4 harg4 arg8 x0 x1 x2))) (readG arg5 harg5 x3 2 (by decide) 1 inb_S1024x512_S64x128_128_128) :)
theorem pc_2_0 : (@k0_pay325 Ideal _ (@kernelRun0_A.sl.r Ideal c arg6 harg6 x4) (@kernelRun0_A.sl.r_40 Ideal _ c arg2 harg2 arg4 harg4 x0 x2) (@kernelRun0_A.sl.r_44 Ideal _ c arg2 harg2 arg3 harg3 arg4 harg4 x0 x1 x2) (@kernelRun0_A.sl.r_284 Ideal _ c arg2 harg2 arg3 harg3 arg4 harg4 arg8 x0 x1 x2) (View.readAt (Elt Ideal) arg5.view (Rect.unit (s := S1024x512) ![128, 0] S64x128.size inb_S1024x512_S64x128_128_0).toLoadRect (harg5.unread x3))) = res x0 x1 x2 x3 x4 (fun _ => zer) 2 0 :=
  (congr (congr (congrArg fin (gain c arg6 harg6 x4)) (congr (congr (congrArg (osum 0) (qd_2 c arg2 harg2 arg4 harg4 x0 x2)) (intra_2_0 c arg2 harg2 arg3 harg3 arg4 harg4 x0 x1 x2)) (st_2_0 c arg2 harg2 arg3 harg3 arg4 harg4 arg8 x0 x1 x2))) (readG arg5 harg5 x3 2 (by decide) 0 inb_S1024x512_S64x128_128_0) :)
theorem pc_1_3 : (@k0_pay323 Ideal _ (@kernelRun0_A.sl.r Ideal c arg6 harg6 x4) (@kernelRun0_A.sl.r_288 Ideal _ c arg2 harg2 arg3 harg3 arg4 harg4 arg8 x0 x1 x2) (@kernelRun0_A.sl.r_290 Ideal c arg5 harg5 x3) (@kernelRun0_A.sl.r_291 Ideal _ c arg2 harg2 arg3 harg3 arg4 harg4 arg8 x0 x1 x2)) = res x0 x1 x2 x3 x4 (fun _ => zer) 1 3 :=
  (congr (congr (congrArg fin (gain c arg6 harg6 x4)) (congr (congr (congrArg (osum 3) (qd_1 c arg2 harg2 arg4 harg4 x0 x2)) (intra_1_3 c arg2 harg2 arg3 harg3 arg4 harg4 x0 x1 x2)) (st_1_3 c arg2 harg2 arg3 harg3 arg4 harg4 arg8 x0 x1 x2))) (readG arg5 harg5 x3 1 (by decide) 3 inb_S1024x512_S64x128_64_384) :)
theorem pc_1_2 : (@k0_pay319 Ideal _ (@kernelRun0_A.sl.r Ideal c arg6 harg6 x4) (@kernelRun0_A.sl.r_19 Ideal _ c arg2 harg2 arg4 harg4 x0 x2) (@kernelRun0_A.sl.r_29 Ideal _ c arg2 harg2 arg3 harg3 arg4 harg4 x0 x1 x2) (@kernelRun0_A.sl.r_279 Ideal _ c arg2 harg2 arg3 harg3 arg4 harg4 arg8 x0 x1 x2) (View.readAt (Elt Ideal) arg5.view (Rect.unit (s := S1024x512) ![64, 256] S64x128.size inb_S1024x512_S64x128_64_256).toLoadRect (harg5.unread x3))) = res x0 x1 x2 x3 x4 (fun _ => zer) 1 2 :=
  (congr (congr (congrArg fin (gain c arg6 harg6 x4)) (congr (congr (congrArg (osum 2) (qd_1 c arg2 harg2 arg4 harg4 x0 x2)) (intra_1_2 c arg2 harg2 arg3 harg3 arg4 harg4 x0 x1 x2)) (st_1_2 c arg2 harg2 arg3 harg3 arg4 harg4 arg8 x0 x1 x2))) (readG arg5 harg5 x3 1 (by decide) 2 inb_S1024x512_S64x128_64_256) :)
theorem pc_1_1 : (@kernelRun0_A.sl.r_286 Ideal _ c arg2 harg2 arg3 harg3 arg4 harg4 arg5 harg5 arg6 harg6 arg8 x0 x1 x2 x3 x4) = res x0 x1 x2 x3 x4 (fun _ => zer) 1 1 :=
  (congr (congr (congrArg fin (gain c arg6 harg6 x4)) (congr (congr (congrArg (osum 1) (qd_1 c arg2 harg2 arg4 harg4 x0 x2)) (intra_1_1 c arg2 harg2 arg3 harg3 arg4 harg4 x0 x1 x2)) (st_1_1 c arg2 harg2 arg3 harg3 arg4 harg4 arg8 x0 x1 x2))) (readG arg5 harg5 x3 1 (by decide) 1 inb_S1024x512_S64x128_64_128) :)
theorem pc_1_0 : (@k0_pay315 Ideal _ (@kernelRun0_A.sl.r Ideal c arg6 harg6 x4) (@kernelRun0_A.sl.r_283 Ideal _ c arg2 harg2 arg3 harg3 arg4 harg4 arg8 x0 x1 x2) (View.readAt (Elt Ideal) arg5.view (Rect.unit (s := S1024x512) ![64, 0] S64x128.size inb_S1024x512_S64x128_64_0).toLoadRect (harg5.unread x3))) = res x0 x1 x2 x3 x4 (fun _ => zer) 1 0 :=
  (congr (congr (congrArg fin (gain c arg6 harg6 x4)) (congr (congr (congrArg (osum 0) (qd_1 c arg2 harg2 arg4 harg4 x0 x2)) (intra_1_0 c arg2 harg2 arg3 harg3 arg4 harg4 x0 x1 x2)) (st_1_0 c arg2 harg2 arg3 harg3 arg4 harg4 arg8 x0 x1 x2))) (readG arg5 harg5 x3 1 (by decide) 0 inb_S1024x512_S64x128_64_0) :)
theorem pc_0_3 : (@k0_pay312 Ideal _ (@kernelRun0_A.sl.r Ideal c arg6 harg6 x4) (@kernelRun0_A.sl.r_3 Ideal _ c arg2 harg2 arg4 harg4 x0 x2) (@kernelRun0_A.sl.r_15 Ideal _ c arg2 harg2 arg3 harg3 arg4 harg4 x0 x1 x2) (@kernelRun0_A.sl.r_273 Ideal _ c arg8) (View.readAt (Elt Ideal) arg5.view (Rect.unit (s := S1024x512) ![0, 384] S64x128.size inb_S1024x512_S64x128_0_384).toLoadRect (harg5.unread x3))) = res x0 x1 x2 x3 x4 (fun _ => zer) 0 3 :=
  (congr (congr (congrArg fin (gain c arg6 harg6 x4)) (congr (congr (congrArg (osum 3) (qd_0 c arg2 harg2 arg4 harg4 x0 x2)) (intra_0_3 c arg2 harg2 arg3 harg3 arg4 harg4 x0 x1 x2)) (st_0_3 c arg8))) (readG arg5 harg5 x3 0 (by decide) 3 inb_S1024x512_S64x128_0_384) :)
theorem pc_0_2 : (@k0_pay310 Ideal _ (@kernelRun0_A.sl.r Ideal c arg6 harg6 x4) (@kernelRun0_A.sl.r_278 Ideal _ c arg2 harg2 arg3 harg3 arg4 harg4 arg8 x0 x1 x2) (@kernelRun0_A.sl.r_280 Ideal c arg5 harg5 x3) (@kernelRun0_A.sl.r_281 Ideal _ c arg2 harg2 arg3 harg3 arg4 harg4 arg8 x0 x1 x2)) = res x0 x1 x2 x3 x4 (fun _ => zer) 0 2 :=
  (congr (congr (congrArg fin (gain c arg6 harg6 x4)) (congr (congr (congrArg (osum 2) (qd_0 c arg2 harg2 arg4 harg4 x0 x2)) (intra_0_2 c arg2 harg2 arg3 harg3 arg4 harg4 x0 x1 x2)) (st_0_2 c arg8))) (readG arg5 harg5 x3 0 (by decide) 2 inb_S1024x512_S64x128_0_256) :)
theorem pc_0_1 : (@k0_pay306 Ideal _ (@kernelRun0_A.sl.r Ideal c arg6 harg6 x4) (@kernelRun0_A.sl.r_3 Ideal _ c arg2 harg2 arg4 harg4 x0 x2) (@kernelRun0_A.sl.r_11 Ideal _ c arg2 harg2 arg3 harg3 arg4 harg4 x0 x1 x2) (@kernelRun0_A.sl.r_271 Ideal _ c arg8) (View.readAt (Elt Ideal) arg5.view (Rect.unit (s := S1024x512) ![0, 128] S64x128.size inb_S1024x512_S64x128_0_128).toLoadRect (harg5.unread x3))) = res x0 x1 x2 x3 x4 (fun _ => zer) 0 1 :=
  (congr (congr (congrArg fin (gain c arg6 harg6 x4)) (congr (congr (congrArg (osum 1) (qd_0 c arg2 harg2 arg4 harg4 x0 x2)) (intra_0_1 c arg2 harg2 arg3 harg3 arg4 harg4 x0 x1 x2)) (st_0_1 c arg8))) (readG arg5 harg5 x3 0 (by decide) 1 inb_S1024x512_S64x128_0_128) :)
theorem pc_0_0 : (@k0_pay304 Ideal _ (@kernelRun0_A.sl.r_275 Ideal _ c arg2 harg2 arg3 harg3 arg4 harg4 arg6 harg6 arg8 x0 x1 x2 x4) (@kernelRun0_A.sl.r_276 Ideal _ c arg5 harg5 x3)) = res x0 x1 x2 x3 x4 (fun _ => zer) 0 0 :=
  (congr (congr (congrArg fin (gain c arg6 harg6 x4)) (congr (congr (congrArg (osum 0) (qd_0 c arg2 harg2 arg4 harg4 x0 x2)) (intra_0_0 c arg2 harg2 arg3 harg3 arg4 harg4 x0 x1 x2)) (st_0_0 c arg8))) (readG arg5 harg5 x3 0 (by decide) 0 inb_S1024x512_S64x128_0_0) :)

end Cert.GlaIdeal.Block.CaseA

end
-- ==== Proof.GlaChainB.lean ====
/-
  Gated linear attention, a later block of a batch: the state starts from what the block before left. What the run stores, chunk by chunk.
-/
module

public import proofs.«01_k».proof.Proof.GlaChain

@[expose] public section

set_option maxRecDepth 16384

noncomputable section

open Idealize.ShloMosaic Idealize.ShloMosaic.TcCoe Idealize.SL.Sem

namespace Cert.GlaIdeal.Block.CaseB

open Cert.GlaIdeal Cert.GlaIdeal.Gen Cert.Layer Cert.Layer.Gla

variable (c : Dev nD)
  (arg2 : Memref sig .tc .vmem S1024x512 .f32) (harg2 : arg2.IsWhole)
  (arg3 : Memref sig .tc .vmem S1024x512 .bf16) (harg3 : arg3.IsWhole)
  (arg4 : Memref sig .tc .vmem S1024x256 .f32) (harg4 : arg4.IsWhole)
  (arg5 : Memref sig .tc .vmem S1024x512 .f32) (harg5 : arg5.IsWhole)
  (arg6 : Memref sig .tc .vmem S1x128 .f32) (harg6 : arg6.IsWhole)
  (arg8 : Memref sig .tc .vmem S4x128x64 .f32) (harg8 : arg8.IsWhole)
  (x0 : Vec Ideal S1024x512 .f32) (x1 : Vec Ideal S1024x512 .bf16) (x2 : Vec Ideal S1024x256 .f32) (x3 : Vec Ideal S1024x512 .f32) (x4 : Vec Ideal S1x128 .f32) (xs0 : Vec Ideal S4x128x64 .f32)
theorem gain : (@kernelRun0_B.sl.r Ideal c arg6 harg6 x4) = x4 :=
  (gainR arg6 harg6 x4 :)
theorem st_0_0 : shapeCast S128x64 (View.readAt (Elt Ideal) arg8.view (Rect.unit (s := S4x128x64) ![0, 0, 0] S1x128x64.size inb_S4x128x64_S1x128x64_0_0_0).toLoadRect (harg8.unread xs0)) shapeCasts_S1x128x64_S128x64 = slc xs0 0 :=
  (readS arg8 harg8 xs0 0 inb_S4x128x64_S1x128x64_0_0_0 :)
theorem st_0_1 : (@kernelRun0_B.sl.r_271 Ideal c arg8 harg8 xs0) = slc xs0 1 :=
  (readS arg8 harg8 xs0 1 inb_S4x128x64_S1x128x64_1_0_0 :)
theorem st_0_2 : (@kernelRun0_B.sl.r_272 Ideal c arg8 harg8 xs0) = slc xs0 2 :=
  (readS arg8 harg8 xs0 2 inb_S4x128x64_S1x128x64_2_0_0 :)
theorem st_0_3 : (@kernelRun0_B.sl.r_273 Ideal c arg8 harg8 xs0) = slc xs0 3 :=
  (readS arg8 harg8 xs0 3 inb_S4x128x64_S1x128x64_3_0_0 :)
theorem qd_0 : (@kernelRun0_B.sl.r_3 Ideal _ c arg2 harg2 arg4 harg4 x0 x2) = qd (cutQ x0 0) (cutA x2 0) :=
  (congr (congrArg qd (readQ arg2 harg2 x0 0 (by decide) inb_S1024x512_S64x256_0_0)) (readA arg4 harg4 x2 0 (by decide) inb_S1024x256_S64x256_0_0) :)
theorem dec_0 : (@kernelRun0_B.sl.r_6 Ideal _ c arg4 harg4 x2) = dec (cutA x2 0) :=
  (congrArg dec (readA arg4 harg4 x2 0 (by decide) inb_S1024x256_S64x256_0_0) :)
theorem intra_0_0 : (@kernelRun0_B.sl.r_9 Ideal _ c arg2 harg2 arg3 harg3 arg4 harg4 x0 x1 x2) = intra 0 (cutQ x0 0) (cutK x0 0) (cutA x2 0) (cutH (φ := .bf16) x1 0 0) :=
  (congr (congr (congr (congrArg (intra 0) (readQ arg2 harg2 x0 0 (by decide) inb_S1024x512_S64x256_0_0)) (readK arg2 harg2 x0 0 (by decide) inb_S1024x512_S64x256_0_256)) (readA arg4 harg4 x2 0 (by decide) inb_S1024x256_S64x256_0_0)) (readV arg3 harg3 x1 0 (by decide) 0 inb_S1024x512_S64x128_0_0) :)
theorem upd_0_0 : (@kernelRun0_B.sl.r_10 Ideal _ c arg2 harg2 arg3 harg3 arg4 harg4 x0 x1 x2) = upd 0 (cutK x0 0) (cutA x2 0) (cutH (φ := .bf16) x1 0 0) :=
  (congr (congr (congrArg (upd 0) (readK arg2 harg2 x0 0 (by decide) inb_S1024x512_S64x256_0_256)) (readA arg4 harg4 x2 0 (by decide) inb_S1024x256_S64x256_0_0)) (readV arg3 harg3 x1 0 (by decide) 0 inb_S1024x512_S64x128_0_0) :)
theorem st_1_0 : (@kernelRun0_B.sl.r_274 Ideal _ c arg2 harg2 arg3 harg3 arg4 harg4 arg8 harg8 x0 x1 x2 xs0) = ST x0 x1 x2 (slc xs0) 1 0 :=
  (congr (congr (congrArg (nxt 0) (dec_0 c arg4 harg4 x2)) (upd_0_0 c arg2 harg2 arg3 harg3 arg4 harg4 x0 x1 x2)) (st_0_0 arg8 harg8 xs0) :)
theorem intra_0_1 : (@kernelRun0_B.sl.r_11 Ideal _ c arg2 harg2 arg3 harg3 arg4 harg4 x0 x1 x2) = intra 1 (cutQ x0 0) (cutK x0 0) (cutA x2 0) (cutH (φ := .bf16) x1 0 1) :=
  (congr (congr (congr (congrArg (intra 1) (readQ arg2 harg2 x0 0 (by decide) inb_S1024x512_S64x256_0_0)) (readK arg2 harg2 x0 0 (by decide) inb_S1024x512_S64x256_0_256)) (readA arg4 harg4 x2 0 (by decide) inb_S1024x256_S64x256_0_0)) (readV arg3 harg3 x1 0 (by decide) 1 inb_S1024x512_S64x128_0_128) :)
theorem upd_0_1 : (@kernelRun0_B.sl.r_12 Ideal _ c arg2 harg2 arg3 harg3 arg4 harg4 x0 x1 x2) = upd 1 (cutK x0 0) (cutA x2 0) (cutH (φ := .bf16) x1 0 1) :=
  (congr (congr (congrArg (upd 1) (readK arg2 harg2 x0 0 (by decide) inb_S1024x512_S64x256_0_256)) (readA arg4 harg4 x2 0 (by decide) inb_S1024x256_S64x256_0_0)) (readV arg3 harg3 x1 0 (by decide) 1 inb_S1024x512_S64x128_0_128) :)
theorem st_1_1 : (@kernelRun0_B.sl.r_277 Ideal _ c arg2 harg2 arg3 harg3 arg4 harg4 arg8 harg8 x0 x1 x2 xs0) = ST x0 x1 x2 (slc xs0) 1 1 :=
  (congr (congr (congrArg (nxt 1) (dec_0 c arg4 harg4 x2)) (upd_0_1 c arg2 harg2 arg3 harg3 arg4 harg4 x0 x1 x2)) (st_0_1 c arg8 harg8 xs0) :)
theorem intra_0_2 : (@kernelRun0_B.sl.r_13 Ideal _ c arg2 harg2 arg3 harg3 arg4 harg4 x0 x1 x2) = intra 2 (cutQ x0 0) (cutK x0 0) (cutA x2 0) (cutH (φ := .bf16) x1 0 2) :=
  (congr (congr (congr (congrArg (intra 2) (readQ arg2 harg2 x0 0 (by decide) inb_S1024x512_S64x256_0_0)) (readK arg2 harg2 x0 0 (by decide) inb_S1024x512_S64x256_0_256)) (readA arg4 harg4 x2 0 (by decide) inb_S1024x256_S64x256_0_0)) (readV arg3 harg3 x1 0 (by decide) 2 inb_S1024x512_S64x128_0_256) :)
theorem upd_0_2 : (@kernelRun0_B.sl.r_14 Ideal _ c arg2 harg2 arg3 harg3 arg4 harg4 x0 x1 x2) = upd 2 (cutK x0 0) (cutA x2 0) (cutH (φ := .bf16) x1 0 2) :=
  (congr (congr (congrArg (upd 2) (readK arg2 harg2 x0 0 (by decide) inb_S1024x512_S64x256_0_256)) (readA arg4 harg4 x2 0 (by decide) inb_S1024x256_S64x256_0_0)) (readV arg3 harg3 x1 0 (by decide) 2 inb_S1024x512_S64x128_0_256) :)
theorem st_1_2 : (@kernelRun0_B.sl.r_279 Ideal _ c arg2 harg2 arg3 harg3 arg4 harg4 arg8 harg8 x0 x1 x2 xs0) = ST x0 x1 x2 (slc xs0) 1 2 :=
  (congr (congr (congrArg (nxt 2) (dec_0 c arg4 harg4 x2)) (upd_0_2 c arg2 harg2 arg3 harg3 arg4 harg4 x0 x1 x2)) (st_0_2 c arg8 harg8 xs0) :)
theorem intra_0_3 : (@kernelRun0_B.sl.r_15 Ideal _ c arg2 harg2 arg3 harg3 arg4 harg4 x0 x1 x2) = intra 3 (cutQ x0 0) (cutK x0 0) (cutA x2 0) (cutH (φ := .bf16) x1 0 3) :=
  (congr (congr (congr (congrArg (intra 3) (readQ arg2 harg2 x0 0 (by decide) inb_S1024x512_S64x256_0_0)) (readK arg2 harg2 x0 0 (by decide) inb_S1024x512_S64x256_0_256)) (readA arg4 harg4 x2 0 (by decide) inb_S1024x256_S64x256_0_0)) (readV arg3 harg3 x1 0 (by decide) 3 inb_S1024x512_S64x128_0_384) :)
theorem upd_0_3 : (@kernelRun0_B.sl.r_16 Ideal _ c arg2 harg2 arg3 harg3 arg4 harg4 x0 x1 x2) = upd 3 (cutK x0 0) (cutA x2 0) (cutH (φ := .bf16) x1 0 3) :=
  (congr (congr (congrArg (upd 3) (readK arg2 harg2 x0 0 (by decide) inb_S1024x512_S64x256_0_256)) (readA arg4 harg4 x2 0 (by decide) inb_S1024x256_S64x256_0_0)) (readV arg3 harg3 x1 0 (by decide) 3 inb_S1024x512_S64x128_0_384) :)
theorem st_1_3 : (@kernelRun0_B.sl.r_282 Ideal _ c arg2 harg2 arg3 harg3 arg4 harg4 arg8 harg8 x0 x1 x2 xs0) = ST x0 x1 x2 (slc xs0) 1 3 :=
  (congr (congr (congrArg (nxt 3) (dec_0 c arg4 harg4 x2)) (upd_0_3 c arg2 harg2 arg3 harg3 arg4 harg4 x0 x1 x2)) (st_0_3 c arg8 harg8 xs0) :)
theorem qd_1 : (@kernelRun0_B.sl.r_19 Ideal _ c arg2 harg2 arg4 harg4 x0 x2) = qd (cutQ x0 1) (cutA x2 1) :=
  (congr (congrArg qd (readQ arg2 harg2 x0 1 (by decide) inb_S1024x512_S64x256_64_0)) (readA arg4 harg4 x2 1 (by decide) inb_S1024x256_S64x256_64_0) :)
theorem dec_1 : (@kernelRun0_B.sl.r_22 Ideal _ c arg4 harg4 x2) = dec (cutA x2 1) :=
  (congrArg dec (readA arg4 harg4 x2 1 (by decide) inb_S1024x256_S64x256_64_0) :)
theorem intra_1_0 : (@kernelRun0_B.sl.r_23 Ideal _ c arg2 harg2 arg3 harg3 arg4 harg4 x0 x1 x2) = intra 0 (cutQ x0 1) (cutK x0 1) (cutA x2 1) (cutH (φ := .bf16) x1 1 0) :=
  (congr (congr (congr (congrArg (intra 0) (readQ arg2 harg2 x0 1 (by decide) inb_S1024x512_S64x256_64_0)) (readK arg2 harg2 x0 1 (by decide) inb_S1024x512_S64x256_64_256)) (readA arg4 harg4 x2 1 (by decide) inb_S1024x256_S64x256_64_0)) (readV arg3 harg3 x1 1 (by decide) 0 inb_S1024x512_S64x128_64_0) :)
theorem upd_1_0 : (@kernelRun0_B.sl.r_24 Ideal _ c arg2 harg2 arg3 harg3 arg4 harg4 x0 x1 x2) = upd 0 (cutK x0 1) (cutA x2 1) (cutH (φ := .bf16) x1 1 0) :=
  (congr (congr (congrArg (upd 0) (readK arg2 harg2 x0 1 (by decide) inb_S1024x512_S64x256_64_256)) (readA arg4 harg4 x2 1 (by decide) inb_S1024x256_S64x256_64_0)) (readV arg3 harg3 x1 1 (by decide) 0 inb_S1024x512_S64x128_64_0) :)
theorem st_2_0 : (@kernelRun0_B.sl.r_284 Ideal _ c arg2 harg2 arg3 harg3 arg4 harg4 arg8 harg8 x0 x1 x2 xs0) = ST x0 x1 x2 (slc xs0) 2 0 :=
  (congr (congr (congrArg (nxt 0) (dec_1 c arg4 harg4 x2)) (upd_1_0 c arg2 harg2 arg3 harg3 arg4 harg4 x0 x1 x2)) (st_1_0 c arg2 harg2 arg3 harg3 arg4 harg4 arg8 harg8 x0 x1 x2 xs0) :)
theorem intra_1_1 : (@kernelRun0_B.sl.r_27 Ideal _ c arg2 harg2 arg3 harg3 arg4 harg4 x0 x1 x2) = intra 1 (cutQ x0 1) (cutK x0 1) (cutA x2 1) (cutH (φ := .bf16) x1 1 1) :=
  (congr (congr (congr (congrArg (intra 1) (readQ arg2 harg2 x0 1 (by decide) inb_S1024x512_S64x256_64_0)) (readK arg2 harg2 x0 1 (by decide) inb_S1024x512_S64x256_64_256)) (readA arg4 harg4 x2 1 (by decide) inb_S1024x256_S64x256_64_0)) (readV arg3 harg3 x1 1 (by decide) 1 inb_S1024x512_S64x128_64_128) :)
theorem upd_1_1 : (@kernelRun0_B.sl.r_28 Ideal _ c arg2 harg2 arg3 harg3 arg4 harg4 x0 x1 x2) = upd 1 (cutK x0 1) (cutA x2 1) (cutH (φ := .bf16) x1 1 1) :=
  (congr (congr (congrArg (upd 1) (readK arg2 harg2 x0 1 (by decide) inb_S1024x512_S64x256_64_256)) (readA arg4 harg4 x2 1 (by decide) inb_S1024x256_S64x256_64_0)) (readV arg3 harg3 x1 1 (by decide) 1 inb_S1024x512_S64x128_64_128) :)
theorem st_2_1 : (@kernelRun0_B.sl.r_285 Ideal _ c arg2 harg2 arg3 harg3 arg4 harg4 arg8 harg8 x0 x1 x2 xs0) = ST x0 x1 x2 (slc xs0) 2 1 :=
  (congr (congr (congrArg (nxt 1) (dec_1 c arg4 harg4 x2)) (upd_1_1 c arg2 harg2 arg3 harg3 arg4 harg4 x0 x1 x2)) (st_1_1 c arg2 harg2 arg3 harg3 arg4 harg4 arg8 harg8 x0 x1 x2 xs0) :)
theorem intra_1_2 : (@kernelRun0_B.sl.r_29 Ideal _ c arg2 harg2 arg3 harg3 arg4 harg4 x0 x1 x2) = intra 2 (cutQ x0 1) (cutK x0 1) (cutA x2 1) (cutH (φ := .bf16) x1 1 2) :=
  (congr (congr (congr (congrArg (intra 2) (readQ arg2 harg2 x0 1 (by decide) inb_S1024x512_S64x256_64_0)) (readK arg2 harg2 x0 1 (by decide) inb_S1024x512_S64x256_64_256)) (readA arg4 harg4 x2 1 (by decide) inb_S1024x256_S64x256_64_0)) (readV arg3 harg3 x1 1 (by decide) 2 inb_S1024x512_S64x128_64_256) :)
theorem upd_1_2 : (@kernelRun0_B.sl.r_30 Ideal _ c arg2 harg2 arg3 harg3 arg4 harg4 x0 x1 x2) = upd 2 (cutK x0 1) (cutA x2 1) (cutH (φ := .bf16) x1 1 2) :=
  (congr (congr (congrArg (upd 2) (readK arg2 harg2 x0 1 (by decide) inb_S1024x512_S64x256_64_256)) (readA arg4 harg4 x2 1 (by decide) inb_S1024x256_S64x256_64_0)) (readV arg3 harg3 x1 1 (by decide) 2 inb_S1024x512_S64x128_64_256) :)
theorem st_2_2 : (@kernelRun0_B.sl.r_287 Ideal _ c arg2 harg2 arg3 harg3 arg4 harg4 arg8 harg8 x0 x1 x2 xs0) = ST x0 x1 x2 (slc xs0) 2 2 :=
  (congr (congr (congrArg (nxt 2) (dec_1 c arg4 harg4 x2)) (upd_1_2 c arg2 harg2 arg3 harg3 arg4 harg4 x0 x1 x2)) (st_1_2 c arg2 harg2 arg3 harg3 arg4 harg4 arg8 harg8 x0 x1 x2 xs0) :)
theorem intra_1_3 : (@kernelRun0_B.sl.r_31 Ideal _ c arg2 harg2 arg3 harg3 arg4 harg4 x0 x1 x2) = intra 3 (cutQ x0 1) (cutK x0 1) (cutA x2 1) (cutH (φ := .bf16) x1 1 3) :=
  (congr (congr (congr (congrArg (intra 3) (readQ arg2 harg2 x0 1 (by decide) inb_S1024x512_S64x256_64_0)) (readK arg2 harg2 x0 1 (by decide) inb_S1024x512_S64x256_64_256)) (readA arg4 harg4 x2 1 (by decide) inb_S1024x256_S64x256_64_0)) (readV arg3 harg3 x1 1 (by decide) 3 inb_S1024x512_S64x128_64_384) :)
theorem upd_1_3 : (@kernelRun0_B.sl.r_32 Ideal _ c arg2 harg2 arg3 harg3 arg4 harg4 x0 x1 x2) = upd 3 (cutK x0 1) (cutA x2 1) (cutH (φ := .bf16) x1 1 3) :=
  (congr (congr (congrArg (upd 3) (readK arg2 harg2 x0 1 (by decide) inb_S1024x512_S64x256_64_256)) (readA arg4 harg4 x2 1 (by decide) inb_S1024x256_S64x256_64_0)) (readV arg3 harg3 x1 1 (by decide) 3 inb_S1024x512_S64x128_64_384) :)
theorem st_2_3 : (@kernelRun0_B.sl.r_289 Ideal _ c arg2 harg2 arg3 harg3 arg4 harg4 arg8 harg8 x0 x1 x2 xs0) = ST x0 x1 x2 (slc xs0) 2 3 :=
  (congr (congr (congrArg (nxt 3) (dec_1 c arg4 harg4 x2)) (upd_1_3 c arg2 harg2 arg3 harg3 arg4 harg4 x0 x1 x2)) (st_1_3 c arg2 harg2 arg3 harg3 arg4 harg4 arg8 harg8 x0 x1 x2 xs0) :)
theorem qd_2 : (@kernelRun0_B.sl.r_40 Ideal _ c arg2 harg2 arg4 harg4 x0 x2) = qd (cutQ x0 2) (cutA x2 2) :=
  (congr (congrArg qd (readQ arg2 harg2 x0 2 (by decide) inb_S1024x512_S64x256_128_0)) (readA arg4 harg4 x2 2 (by decide) inb_S1024x256_S64x256_128_0) :)
theorem dec_2 : (@kernelRun0_B.sl.r_43 Ideal _ c arg4 harg4 x2) = dec (cutA x2 2) :=
  (congrArg dec (readA arg4 harg4 x2 2 (by decide) inb_S1024x256_S64x256_128_0) :)
theorem intra_2_0 : (@kernelRun0_B.sl.r_44 Ideal _ c arg2 harg2 arg3 harg3 arg4 harg4 x0 x1 x2) = intra 0 (cutQ x0 2) (cutK x0 2) (cutA x2 2) (cutH (φ := .bf16) x1 2 0) :=
  (congr (congr (congr (congrArg (intra 0) (readQ arg2 harg2 x0 2 (by decide) inb_S1024x512_S64x256_128_0)) (readK arg2 harg2 x0 2 (by decide) inb_S1024x512_S64x256_128_256)) (readA arg4 harg4 x2 2 (by decide) inb_S1024x256_S64x256_128_0)) (readV arg3 harg3 x1 2 (by decide) 0 inb_S1024x512_S64x128_128_0) :)
theorem upd_2_0 : (@kernelRun0_B.sl.r_45 Ideal _ c arg2 harg2 arg3 harg3 arg4 harg4 x0 x1 x2) = upd 0 (cutK x0 2) (cutA x2 2) (cutH (φ := .bf16) x1 2 0) :=
  (congr (congr (congrArg (upd 0) (readK arg2 harg2 x0 2 (by decide) inb_S1024x512_S64x256_128_256)) (readA arg4 harg4 x2 2 (by decide) inb_S1024x256_S64x256_128_0)) (readV arg3 harg3 x1 2 (by decide) 0 inb_S1024x512_S64x128_128_0) :)
theorem st_3_0 : (@kernelRun0_B.sl.r_292 Ideal _ c arg2 harg2 arg3 harg3 arg4 harg4 arg8 harg8 x0 x1 x2 xs0) = ST x0 x1 x2 (slc xs0) 3 0 :=
  (congr (congr (congrArg (nxt 0) (dec_2 c arg4 harg4 x2)) (upd_2_0 c arg2 harg2 arg3 harg3 arg4 harg4 x0 x1 x2)) (st_2_0 c arg2 harg2 arg3 harg3 arg4 harg4 arg8 harg8 x0 x1 x2 xs0) :)
theorem intra_2_1 : (@kernelRun0_B.sl.r_46 Ideal _ c arg2 harg2 arg3 harg3 arg4 harg4 x0 x1 x2) = intra 1 (cutQ x0 2) (cutK x0 2) (cutA x2 2) (cutH (φ := .bf16) x1 2 1) :=
  (congr (congr (congr (congrArg (intra 1) (readQ arg2 harg2 x0 2 (by decide) inb_S1024x512_S64x256_128_0)) (readK arg2 harg2 x0 2 (by decide) inb_S1024x512_S64x256_128_256)) (readA arg4 harg4 x2 2 (by decide) inb_S1024x256_S64x256_128_0)) (readV arg3 harg3 x1 2 (by decide) 1 inb_S1024x512_S64x128_128_128) :)
theorem upd_2_1 : (@kernelRun0_B.sl.r_47 Ideal _ c arg2 harg2 arg3 harg3 arg4 harg4 x0 x1 x2) = upd 1 (cutK x0 2) (cutA x2 2) (cutH (φ := .bf16) x1 2 1) :=
  (congr (congr (congrArg (upd 1) (readK arg2 harg2 x0 2 (by decide) inb_S1024x512_S64x256_128_256)) (readA arg4 harg4 x2 2 (by decide) inb_S1024x256_S64x256_128_0)) (readV arg3 harg3 x1 2 (by decide) 1 inb_S1024x512_S64x128_128_128) :)
theorem st_3_1 : (@kernelRun0_B.sl.r_294 Ideal _ c arg2 harg2 arg3 harg3 arg4 harg4 arg8 harg8 x0 x1 x2 xs0) = ST x0 x1 x2 (slc xs0) 3 1 :=
  (congr (congr (congrArg (nxt 1) (dec_2 c arg4 harg4 x2)) (upd_2_1 c arg2 harg2 arg3 harg3 arg4 harg4 x0 x1 x2)) (st_2_1 c arg2 harg2 arg3 harg3 arg4 harg4 arg8 harg8 x0 x1 x2 xs0) :)
theorem intra_2_2 : (@kernelRun0_B.sl.r_49 Ideal _ c arg2 harg2 arg3 harg3 arg4 harg4 x0 x1 x2) = intra 2 (cutQ x0 2) (cutK x0 2) (cutA x2 2) (cutH (φ := .bf16) x1 2 2) :=
  (congr (congr (congr (congrArg (intra 2) (readQ arg2 harg2 x0 2 (by decide) inb_S1024x512_S64x256_128_0)) (readK arg2 harg2 x0 2 (by decide) inb_S1024x512_S64x256_128_256)) (readA arg4 harg4 x2 2 (by decide) inb_S1024x256_S64x256_128_0)) (readV arg3 harg3 x1 2 (by decide) 2 inb_S1024x512_S64x128_128_256) :)
theorem upd_2_2 : (@kernelRun0_B.sl.r_51 Ideal _ c arg2 harg2 arg3 harg3 arg4 harg4 x0 x1 x2) = upd 2 (cutK x0 2) (cutA x2 2) (cutH (φ := .bf16) x1 2 2) :=
  (congr (congr (congrArg (upd 2) (readK arg2 harg2 x0 2 (by decide) inb_S1024x512_S64x256_128_256)) (readA arg4 harg4 x2 2 (by decide) inb_S1024x256_S64x256_128_0)) (readV arg3 harg3 x1 2 (by decide) 2 inb_S1024x512_S64x128_128_256) :)
theorem st_3_2 : (@kernelRun0_B.sl.r_297 Ideal _ c arg2 harg2 arg3 harg3 arg4 harg4 arg8 harg8 x0 x1 x2 xs0) = ST x0 x1 x2 (slc xs0) 3 2 :=
  (congr (congr (congrArg (nxt 2) (dec_2 c arg4 harg4 x2)) (upd_2_2 c arg2 harg2 arg3 harg3 arg4 harg4 x0 x1 x2)) (st_2_2 c arg2 harg2 arg3 harg3 arg4 harg4 arg8 harg8 x0 x1 x2 xs0) :)
theorem intra_2_3 : (@kernelRun0_B.sl.r_52 Ideal _ c arg2 harg2 arg3 harg3 arg4 harg4 x0 x1 x2) = intra 3 (cutQ x0 2) (cutK x0 2) (cutA x2 2) (cutH (φ := .bf16) x1 2 3) :=
  (congr (congr (congr (congrArg (intra 3) (readQ arg2 harg2 x0 2 (by decide) inb_S1024x512_S64x256_128_0)) (readK arg2 harg2 x0 2 (by decide) inb_S1024x512_S64x256_128_256)) (readA arg4 harg4 x2 2 (by decide) inb_S1024x256_S64x256_128_0)) (readV arg3 harg3 x1 2 (by decide) 3 inb_S1024x512_S64x128_128_384) :)
theorem upd_2_3 : (@kernelRun0_B.sl.r_53 Ideal _ c arg2 harg2 arg3 harg3 arg4 harg4 x0 x1 x2) = upd 3 (cutK x0 2) (cutA x2 2) (cutH (φ := .bf16) x1 2 3) :=
  (congr (congr (congrArg (upd 3) (readK arg2 harg2 x0 2 (by decide) inb_S1024x512_S64x256_128_256)) (readA arg4 harg4 x2 2 (by decide) inb_S1024x256_S64x256_128_0)) (readV arg3 harg3 x1 2 (by decide) 3 inb_S1024x512_S64x128_128_384) :)
theorem st_3_3 : (@kernelRun0_B.sl.r_299 Ideal _ c arg2 harg2 arg3 harg3 arg4 harg4 arg8 harg8 x0 x1 x2 xs0) = ST x0 x1 x2 (slc xs0) 3 3 :=
  (congr (congr (congrArg (nxt 3) (dec_2 c arg4 harg4 x2)) (upd_2_3 c arg2 harg2 arg3 harg3 arg4 harg4 x0 x1 x2)) (st_2_3 c arg2 harg2 arg3 harg3 arg4 harg4 arg8 harg8 x0 x1 x2 xs0) :)
theorem qd_3 : (@kernelRun0_B.sl.r_55 Ideal _ c arg2 harg2 arg4 harg4 x0 x2) = qd (cutQ x0 3) (cutA x2 3) :=
  (congr (congrArg qd (readQ arg2 harg2 x0 3 (by decide) inb_S1024x512_S64x256_192_0)) (readA arg4 harg4 x2 3 (by decide) inb_S1024x256_S64x256_192_0) :)
theorem dec_3 : (@kernelRun0_B.sl.r_58 Ideal _ c arg4 harg4 x2) = dec (cutA x2 3) :=
  (congrArg dec (readA arg4 harg4 x2 3 (by decide) inb_S1024x256_S64x256_192_0) :)
theorem intra_3_0 : (@kernelRun0_B.sl.r_62 Ideal _ c arg2 harg2 arg3 harg3 arg4 harg4 x0 x1 x2) = intra 0 (cutQ x0 3) (cutK x0 3) (cutA x2 3) (cutH (φ := .bf16) x1 3 0) :=
  (congr (congr (congr (congrArg (intra 0) (readQ arg2 harg2 x0 3 (by decide) inb_S1024x512_S64x256_192_0)) (readK arg2 harg2 x0 3 (by decide) inb_S1024x512_S64x256_192_256)) (readA arg4 harg4 x2 3 (by decide) inb_S1024x256_S64x256_192_0)) (readV arg3 harg3 x1 3 (by decide) 0 inb_S1024x512_S64x128_192_0) :)
theorem upd_3_0 : (@kernelRun0_B.sl.r_63 Ideal _ c arg2 harg2 arg3 harg3 arg4 harg4 x0 x1 x2) = upd 0 (cutK x0 3) (cutA x2 3) (cutH (φ := .bf16) x1 3 0) :=
  (congr (congr (congrArg (upd 0) (readK arg2 harg2 x0 3 (by decide) inb_S1024x512_S64x256_192_256)) (readA arg4 harg4 x2 3 (by decide) inb_S1024x256_S64x256_192_0)) (readV arg3 harg3 x1 3 (by decide) 0 inb_S1024x512_S64x128_192_0) :)
theorem st_4_0 : (@kernelRun0_B.sl.r_300 Ideal _ c arg2 harg2 arg3 harg3 arg4 harg4 arg8 harg8 x0 x1 x2 xs0) = ST x0 x1 x2 (slc xs0) 4 0 :=
  (congr (congr (congrArg (nxt 0) (dec_3 c arg4 harg4 x2)) (upd_3_0 c arg2 harg2 arg3 harg3 arg4 harg4 x0 x1 x2)) (st_3_0 c arg2 harg2 arg3 harg3 arg4 harg4 arg8 harg8 x0 x1 x2 xs0) :)
theorem intra_3_1 : (@kernelRun0_B.sl.r_64 Ideal _ c arg2 harg2 arg3 harg3 arg4 harg4 x0 x1 x2) = intra 1 (cutQ x0 3) (cutK x0 3) (cutA x2 3) (cutH (φ := .bf16) x1 3 1) :=
  (congr (congr (congr (congrArg (intra 1) (readQ arg2 harg2 x0 3 (by decide) inb_S1024x512_S64x256_192_0)) (readK arg2 harg2 x0 3 (by decide) inb_S1024x512_S64x256_192_256)) (readA arg4 harg4 x2 3 (by decide) inb_S1024x256_S64x256_192_0)) (readV arg3 harg3 x1 3 (by decide) 1 inb_S1024x512_S64x128_192_128) :)
theorem upd_3_1 : (@kernelRun0_B.sl.r_65 Ideal _ c arg2 harg2 arg3 harg3 arg4 harg4 x0 x1 x2) = upd 1 (cutK x0 3) (cutA x2 3) (cutH (φ := .bf16) x1 3 1) :=
  (congr (congr (congrArg (upd 1) (readK arg2 harg2 x0 3 (by decide) inb_S1024x512_S64x256_192_256)) (readA arg4 harg4 x2 3 (by decide) inb_S1024x256_S64x256_192_0)) (readV arg3 harg3 x1 3 (by decide) 1 inb_S1024x512_S64x128_192_128) :)
theorem st_4_1 : (@kernelRun0_B.sl.r_303 Ideal _ c arg2 harg2 arg3 harg3 arg4 harg4 arg8 harg8 x0 x1 x2 xs0) = ST x0 x1 x2 (slc xs0) 4 1 :=
  (congr (congr (congrArg (nxt 1) (dec_3 c arg4 harg4 x2)) (upd_3_1 c arg2 harg2 arg3 harg3 arg4 harg4 x0 x1 x2)) (st_3_1 c arg2 harg2 arg3 harg3 arg4 harg4 arg8 harg8 x0 x1 x2 xs0) :)
theorem intra_3_2 : (@kernelRun0_B.sl.r_66 Ideal _ c arg2 harg2 arg3 harg3 arg4 harg4 x0 x1 x2) = intra 2 (cutQ x0 3) (cutK x0 3) (cutA x2 3) (cutH (φ := .bf16) x1 3 2) :=
  (congr (congr (congr (congrArg (intra 2) (readQ arg2 harg2 x0 3 (by decide) inb_S1024x512_S64x256_192_0)) (readK arg2 harg2 x0 3 (by decide) inb_S1024x512_S64x256_192_256)) (readA arg4 harg4 x2 3 (by decide) inb_S1024x256_S64x256_192_0)) (readV arg3 harg3 x1 3 (by decide) 2 inb_S1024x512_S64x128_192_256) :)
theorem upd_3_2 : (@kernelRun0_B.sl.r_67 Ideal _ c arg2 harg2 arg3 harg3 arg4 harg4 x0 x1 x2) = upd 2 (cutK x0 3) (cutA x2 3) (cutH (φ := .bf16) x1 3 2) :=
  (congr (congr (congrArg (upd 2) (readK arg2 harg2 x0 3 (by decide) inb_S1024x512_S64x256_192_256)) (readA arg4 harg4 x2 3 (by decide) inb_S1024x256_S64x256_192_0)) (readV arg3 harg3 x1 3 (by decide) 2 inb_S1024x512_S64x128_192_256) :)
theorem st_4_2 : (@kernelRun0_B.sl.r_305 Ideal _ c arg2 harg2 arg3 harg3 arg4 harg4 arg8 harg8 x0 x1 x2 xs0) = ST x0 x1 x2 (slc xs0) 4 2 :=
  (congr (congr (congrArg (nxt 2) (dec_3 c arg4 harg4 x2)) (upd_3_2 c arg2 harg2 arg3 harg3 arg4 harg4 x0 x1 x2)) (st_3_2 c arg2 harg2 arg3 harg3 arg4 harg4 arg8 harg8 x0 x1 x2 xs0) :)
theorem intra_3_3 : (@kernelRun0_B.sl.r_68 Ideal _ c arg2 harg2 arg3 harg3 arg4 harg4 x0 x1 x2) = intra 3 (cutQ x0 3) (cutK x0 3) (cutA x2 3) (cutH (φ := .bf16) x1 3 3) :=
  (congr (congr (congr (congrArg (intra 3) (readQ arg2 harg2 x0 3 (by decide) inb_S1024x512_S64x256_192_0)) (readK arg2 harg2 x0 3 (by decide) inb_S1024x512_S64x256_192_256)) (readA arg4 harg4 x2 3 (by decide) inb_S1024x256_S64x256_192_0)) (readV arg3 harg3 x1 3 (by decide) 3 inb_S1024x512_S64x128_192_384) :)
theorem upd_3_3 : (@kernelRun0_B.sl.r_69 Ideal _ c arg2 harg2 arg3 harg3 arg4 harg4 x0 x1 x2) = upd 3 (cutK x0 3) (cutA x2 3) (cutH (φ := .bf16) x1 3 3) :=
  (congr (congr (congrArg (upd 3) (readK arg2 harg2 x0 3 (by decide) inb_S1024x512_S64x256_192_256)) (readA arg4 harg4 x2 3 (by decide) inb_S1024x256_S64x256_192_0)) (readV arg3 harg3 x1 3 (by decide) 3 inb_S1024x512_S64x128_192_384) :)
theorem st_4_3 : (@kernelRun0_B.sl.r_308 Ideal _ c arg2 harg2 arg3 harg3 arg4 harg4 arg8 harg8 x0 x1 x2 xs0) = ST x0 x1 x2 (slc xs0) 4 3 :=
  (congr (congr (congrArg (nxt 3) (dec_3 c arg4 harg4 x2)) (upd_3_3 c arg2 harg2 arg3 harg3 arg4 harg4 x0 x1 x2)) (st_3_3 c arg2 harg2 arg3 harg3 arg4 harg4 arg8 harg8 x0 x1 x2 xs0) :)
theorem qd_4 : (@kernelRun0_B.sl.r_72 Ideal _ c arg2 harg2 arg4 harg4 x0 x2) = qd (cutQ x0 4) (cutA x2 4) :=
  (congr (congrArg qd (readQ arg2 harg2 x0 4 (by decide) inb_S1024x512_S64x256_256_0)) (readA arg4 harg4 x2 4 (by decide) inb_S1024x256_S64x256_256_0) :)
theorem dec_4 : (@kernelRun0_B.sl.r_75 Ideal _ c arg4 harg4 x2) = dec (cutA x2 4) :=
  (congrArg dec (readA arg4 harg4 x2 4 (by decide) inb_S1024x256_S64x256_256_0) :)
theorem intra_4_0 : (@kernelRun0_B.sl.r_76 Ideal _ c arg2 harg2 arg3 harg3 arg4 harg4 x0 x1 x2) = intra 0 (cutQ x0 4) (cutK x0 4) (cutA x2 4) (cutH (φ := .bf16) x1 4 0) :=
  (congr (congr (congr (congrArg (intra 0) (readQ arg2 harg2 x0 4 (by decide) inb_S1024x512_S64x256_256_0)) (readK arg2 harg2 x0 4 (by decide) inb_S1024x512_S64x256_256_256)) (readA arg4 harg4 x2 4 (by decide) inb_S1024x256_S64x256_256_0)) (readV arg3 harg3 x1 4 (by decide) 0 inb_S1024x512_S64x128_256_0) :)
theorem upd_4_0 : (@kernelRun0_B.sl.r_77 Ideal _ c arg2 harg2 arg3 harg3 arg4 harg4 x0 x1 x2) = upd 0 (cutK x0 4) (cutA x2 4) (cutH (φ := .bf16) x1 4 0) :=
  (congr (congr (congrArg (upd 0) (readK arg2 harg2 x0 4 (by decide) inb_S1024x512_S64x256_256_256)) (readA arg4 harg4 x2 4 (by decide) inb_S1024x256_S64x256_256_0)) (readV arg3 harg3 x1 4 (by decide) 0 inb_S1024x512_S64x128_256_0) :)
theorem st_5_0 : (@kernelRun0_B.sl.r_310 Ideal _ c arg2 harg2 arg3 harg3 arg4 harg4 arg8 harg8 x0 x1 x2 xs0) = ST x0 x1 x2 (slc xs0) 5 0 :=
  (congr (congr (congrArg (nxt 0) (dec_4 c arg4 harg4 x2)) (upd_4_0 c arg2 harg2 arg3 harg3 arg4 harg4 x0 x1 x2)) (st_4_0 c arg2 harg2 arg3 harg3 arg4 harg4 arg8 harg8 x0 x1 x2 xs0) :)
theorem intra_4_1 : (@kernelRun0_B.sl.r_80 Ideal _ c arg2 harg2 arg3 harg3 arg4 harg4 x0 x1 x2) = intra 1 (cutQ x0 4) (cutK x0 4) (cutA x2 4) (cutH (φ := .bf16) x1 4 1) :=
  (congr (congr (congr (congrArg (intra 1) (readQ arg2 harg2 x0 4 (by decide) inb_S1024x512_S64x256_256_0)) (readK arg2 harg2 x0 4 (by decide) inb_S1024x512_S64x256_256_256)) (readA arg4 harg4 x2 4 (by decide) inb_S1024x256_S64x256_256_0)) (readV arg3 harg3 x1 4 (by decide) 1 inb_S1024x512_S64x128_256_128) :)
theorem upd_4_1 : (@kernelRun0_B.sl.r_81 Ideal _ c arg2 harg2 arg3 harg3 arg4 harg4 x0 x1 x2) = upd 1 (cutK x0 4) (cutA x2 4) (cutH (φ := .bf16) x1 4 1) :=
  (congr (congr (congrArg (upd 1) (readK arg2 harg2 x0 4 (by decide) inb_S1024x512_S64x256_256_256)) (readA arg4 harg4 x2 4 (by decide) inb_S1024x256_S64x256_256_0)) (readV arg3 harg3 x1 4 (by decide) 1 inb_S1024x512_S64x128_256_128) :)
theorem st_5_1 : (@kernelRun0_B.sl.r_311 Ideal _ c arg2 harg2 arg3 harg3 arg4 harg4 arg8 harg8 x0 x1 x2 xs0) = ST x0 x1 x2 (slc xs0) 5 1 :=
  (congr (congr (congrArg (nxt 1) (dec_4 c arg4 harg4 x2)) (upd_4_1 c arg2 harg2 arg3 harg3 arg4 harg4 x0 x1 x2)) (st_4_1 c arg2 harg2 arg3 harg3 arg4 harg4 arg8 harg8 x0 x1 x2 xs0) :)
theorem intra_4_2 : (@kernelRun0_B.sl.r_82 Ideal _ c arg2 harg2 arg3 harg3 arg4 harg4 x0 x1 x2) = intra 2 (cutQ x0 4) (cutK x0 4) (cutA x2 4) (cutH (φ := .bf16) x1 4 2) :=
  (congr (congr (congr (congrArg (intra 2) (readQ arg2 harg2 x0 4 (by decide) inb_S1024x512_S64x256_256_0)) (readK arg2 harg2 x0 4 (by decide) inb_S1024x512_S64x256_256_256)) (readA arg4 harg4 x2 4 (by decide) inb_S1024x256_S64x256_256_0)) (readV arg3 harg3 x1 4 (by decide) 2 inb_S1024x512_S64x128_256_256) :)
theorem upd_4_2 : (@kernelRun0_B.sl.r_83 Ideal _ c arg2 harg2 arg3 harg3 arg4 harg4 x0 x1 x2) = upd 2 (cutK x0 4) (cutA x2 4) (cutH (φ := .bf16) x1 4 2) :=
  (congr (congr (congrArg (upd 2) (readK arg2 harg2 x0 4 (by decide) inb_S1024x512_S64x256_256_256)) (readA arg4 harg4 x2 4 (by decide) inb_S1024x256_S64x256_256_0)) (readV arg3 harg3 x1 4 (by decide) 2 inb_S1024x512_S64x128_256_256) :)
theorem st_5_2 : (@kernelRun0_B.sl.r_313 Ideal _ c arg2 harg2 arg3 harg3 arg4 harg4 arg8 harg8 x0 x1 x2 xs0) = ST x0 x1 x2 (slc xs0) 5 2 :=
  (congr (congr (congrArg (nxt 2) (dec_4 c arg4 harg4 x2)) (upd_4_2 c arg2 harg2 arg3 harg3 arg4 harg4 x0 x1 x2)) (st_4_2 c arg2 harg2 arg3 harg3 arg4 harg4 arg8 harg8 x0 x1 x2 xs0) :)
theorem intra_4_3 : (@kernelRun0_B.sl.r_84 Ideal _ c arg2 harg2 arg3 harg3 arg4 harg4 x0 x1 x2) = intra 3 (cutQ x0 4) (cutK x0 4) (cutA x2 4) (cutH (φ := .bf16) x1 4 3) :=
  (congr (congr (congr (congrArg (intra 3) (readQ arg2 harg2 x0 4 (by decide) inb_S1024x512_S64x256_256_0)) (readK arg2 harg2 x0 4 (by decide) inb_S1024x512_S64x256_256_256)) (readA arg4 harg4 x2 4 (by decide) inb_S1024x256_S64x256_256_0)) (readV arg3 harg3 x1 4 (by decide) 3 inb_S1024x512_S64x128_256_384) :)
theorem upd_4_3 : (@kernelRun0_B.sl.r_85 Ideal _ c arg2 harg2 arg3 harg3 arg4 harg4 x0 x1 x2) = upd 3 (cutK x0 4) (cutA x2 4) (cutH (φ := .bf16) x1 4 3) :=
  (congr (congr (congrArg (upd 3) (readK arg2 harg2 x0 4 (by decide) inb_S1024x512_S64x256_256_256)) (readA arg4 harg4 x2 4 (by decide) inb_S1024x256_S64x256_256_0)) (readV arg3 harg3 x1 4 (by decide) 3 inb_S1024x512_S64x128_256_384) :)
theorem st_5_3 : (@kernelRun0_B.sl.r_315 Ideal _ c arg2 harg2 arg3 harg3 arg4 harg4 arg8 harg8 x0 x1 x2 xs0) = ST x0 x1 x2 (slc xs0) 5 3 :=
  (congr (congr (congrArg (nxt 3) (dec_4 c arg4 harg4 x2)) (upd_4_3 c arg2 harg2 arg3 harg3 arg4 harg4 x0 x1 x2)) (st_4_3 c arg2 harg2 arg3 harg3 arg4 harg4 arg8 harg8 x0 x1 x2 xs0) :)
theorem qd_5 : (@kernelRun0_B.sl.r_90 Ideal _ c arg2 harg2 arg4 harg4 x0 x2) = qd (cutQ x0 5) (cutA x2 5) :=
  (congr (congrArg qd (readQ arg2 harg2 x0 5 (by decide) inb_S1024x512_S64x256_320_0)) (readA arg4 harg4 x2 5 (by decide) inb_S1024x256_S64x256_320_0) :)
theorem dec_5 : (@kernelRun0_B.sl.r_93 Ideal _ c arg4 harg4 x2) = dec (cutA x2 5) :=
  (congrArg dec (readA arg4 harg4 x2 5 (by decide) inb_S1024x256_S64x256_320_0) :)
theorem intra_5_0 : (@kernelRun0_B.sl.r_94 Ideal _ c arg2 harg2 arg3 harg3 arg4 harg4 x0 x1 x2) = intra 0 (cutQ x0 5) (cutK x0 5) (cutA x2 5) (cutH (φ := .bf16) x1 5 0) :=
  (congr (congr (congr (congrArg (intra 0) (readQ arg2 harg2 x0 5 (by decide) inb_S1024x512_S64x256_320_0)) (readK arg2 harg2 x0 5 (by decide) inb_S1024x512_S64x256_320_256)) (readA arg4 harg4 x2 5 (by decide) inb_S1024x256_S64x256_320_0)) (readV arg3 harg3 x1 5 (by decide) 0 inb_S1024x512_S64x128_320_0) :)
theorem upd_5_0 : (@kernelRun0_B.sl.r_95 Ideal _ c arg2 harg2 arg3 harg3 arg4 harg4 x0 x1 x2) = upd 0 (cutK x0 5) (cutA x2 5) (cutH (φ := .bf16) x1 5 0) :=
  (congr (congr (congrArg (upd 0) (readK arg2 harg2 x0 5 (by decide) inb_S1024x512_S64x256_320_256)) (readA arg4 harg4 x2 5 (by decide) inb_S1024x256_S64x256_320_0)) (readV arg3 harg3 x1 5 (by decide) 0 inb_S1024x512_S64x128_320_0) :)
theorem st_6_0 : (@kernelRun0_B.sl.r_318 Ideal _ c arg2 harg2 arg3 harg3 arg4 harg4 arg8 harg8 x0 x1 x2 xs0) = ST x0 x1 x2 (slc xs0) 6 0 :=
  (congr (congr (congrArg (nxt 0) (dec_5 c arg4 harg4 x2)) (upd_5_0 c arg2 harg2 arg3 harg3 arg4 harg4 x0 x1 x2)) (st_5_0 c arg2 harg2 arg3 harg3 arg4 harg4 arg8 harg8 x0 x1 x2 xs0) :)
theorem intra_5_1 : (@kernelRun0_B.sl.r_96 Ideal _ c arg2 harg2 arg3 harg3 arg4 harg4 x0 x1 x2) = intra 1 (cutQ x0 5) (cutK x0 5) (cutA x2 5) (cutH (φ := .bf16) x1 5 1) :=
  (congr (congr (congr (congrArg (intra 1) (readQ arg2 harg2 x0 5 (by decide) inb_S1024x512_S64x256_320_0)) (readK arg2 harg2 x0 5 (by decide) inb_S1024x512_S64x256_320_256)) (readA arg4 harg4 x2 5 (by decide) inb_S1024x256_S64x256_320_0)) (readV arg3 harg3 x1 5 (by decide) 1 inb_S1024x512_S64x128_320_128) :)
theorem upd_5_1 : (@kernelRun0_B.sl.r_97 Ideal _ c arg2 harg2 arg3 harg3 arg4 harg4 x0 x1 x2) = upd 1 (cutK x0 5) (cutA x2 5) (cutH (φ := .bf16) x1 5 1) :=
  (congr (congr (congrArg (upd 1) (readK arg2 harg2 x0 5 (by decide) inb_S1024x512_S64x256_320_256)) (readA arg4 harg4 x2 5 (by decide) inb_S1024x256_S64x256_320_0)) (readV arg3 harg3 x1 5 (by decide) 1 inb_S1024x512_S64x128_320_128) :)
theorem st_6_1 : (@kernelRun0_B.sl.r_320 Ideal _ c arg2 harg2 arg3 harg3 arg4 harg4 arg8 harg8 x0 x1 x2 xs0) = ST x0 x1 x2 (slc xs0) 6 1 :=
  (congr (congr (congrArg (nxt 1) (dec_5 c arg4 harg4 x2)) (upd_5_1 c arg2 harg2 arg3 harg3 arg4 harg4 x0 x1 x2)) (st_5_1 c arg2 harg2 arg3 harg3 arg4 harg4 arg8 harg8 x0 x1 x2 xs0) :)
theorem intra_5_2 : (@kernelRun0_B.sl.r_100 Ideal _ c arg2 harg2 arg3 harg3 arg4 harg4 x0 x1 x2) = intra 2 (cutQ x0 5) (cutK x0 5) (cutA x2 5) (cutH (φ := .bf16) x1 5 2) :=
  (congr (congr (congr (congrArg (intra 2) (readQ arg2 harg2 x0 5 (by decide) inb_S1024x512_S64x256_320_0)) (readK arg2 harg2 x0 5 (by decide) inb_S1024x512_S64x256_320_256)) (readA arg4 harg4 x2 5 (by decide) inb_S1024x256_S64x256_320_0)) (readV arg3 harg3 x1 5 (by decide) 2 inb_S1024x512_S64x128_320_256) :)
theorem upd_5_2 : (@kernelRun0_B.sl.r_101 Ideal _ c arg2 harg2 arg3 harg3 arg4 harg4 x0 x1 x2) = upd 2 (cutK x0 5) (cutA x2 5) (cutH (φ := .bf16) x1 5 2) :=
  (congr (congr (congrArg (upd 2) (readK arg2 harg2 x0 5 (by decide) inb_S1024x512_S64x256_320_256)) (readA arg4 harg4 x2 5 (by decide) inb_S1024x256_S64x256_320_0)) (readV arg3 harg3 x1 5 (by decide) 2 inb_S1024x512_S64x128_320_256) :)
theorem st_6_2 : (@kernelRun0_B.sl.r_323 Ideal _ c arg2 harg2 arg3 harg3 arg4 harg4 arg8 harg8 x0 x1 x2 xs0) = ST x0 x1 x2 (slc xs0) 6 2 :=
  (congr (congr (congrArg (nxt 2) (dec_5 c arg4 harg4 x2)) (upd_5_2 c arg2 harg2 arg3 harg3 arg4 harg4 x0 x1 x2)) (st_5_2 c arg2 harg2 arg3 harg3 arg4 harg4 arg8 harg8 x0 x1 x2 xs0) :)
theorem intra_5_3 : (@kernelRun0_B.sl.r_102 Ideal _ c arg2 harg2 arg3 harg3 arg4 harg4 x0 x1 x2) = intra 3 (cutQ x0 5) (cutK x0 5) (cutA x2 5) (cutH (φ := .bf16) x1 5 3) :=
  (congr (congr (congr (congrArg (intra 3) (readQ arg2 harg2 x0 5 (by decide) inb_S1024x512_S64x256_320_0)) (readK arg2 harg2 x0 5 (by decide) inb_S1024x512_S64x256_320_256)) (readA arg4 harg4 x2 5 (by decide) inb_S1024x256_S64x256_320_0)) (readV arg3 harg3 x1 5 (by decide) 3 inb_S1024x512_S64x128_320_384) :)
theorem upd_5_3 : (@kernelRun0_B.sl.r_103 Ideal _ c arg2 harg2 arg3 harg3 arg4 harg4 x0 x1 x2) = upd 3 (cutK x0 5) (cutA x2 5) (cutH (φ := .bf16) x1 5 3) :=
  (congr (congr (congrArg (upd 3) (readK arg2 harg2 x0 5 (by decide) inb_S1024x512_S64x256_320_256)) (readA arg4 harg4 x2 5 (by decide) inb_S1024x256_S64x256_320_0)) (readV arg3 harg3 x1 5 (by decide) 3 inb_S1024x512_S64x128_320_384) :)
theorem st_6_3 : (@kernelRun0_B.sl.r_325 Ideal _ c arg2 harg2 arg3 harg3 arg4 harg4 arg8 harg8 x0 x1 x2 xs0) = ST x0 x1 x2 (slc xs0) 6 3 :=
  (congr (congr (congrArg (nxt 3) (dec_5 c arg4 harg4 x2)) (upd_5_3 c arg2 harg2 arg3 harg3 arg4 harg4 x0 x1 x2)) (st_5_3 c arg2 harg2 arg3 harg3 arg4 harg4 arg8 harg8 x0 x1 x2 xs0) :)
theorem qd_6 : (@kernelRun0_B.sl.r_105 Ideal _ c arg2 harg2 arg4 harg4 x0 x2) = qd (cutQ x0 6) (cutA x2 6) :=
  (congr (congrArg qd (readQ arg2 harg2 x0 6 (by decide) inb_S1024x512_S64x256_384_0)) (readA arg4 harg4 x2 6 (by decide) inb_S1024x256_S64x256_384_0) :)
theorem dec_6 : (@kernelRun0_B.sl.r_108 Ideal _ c arg4 harg4 x2) = dec (cutA x2 6) :=
  (congrArg dec (readA arg4 harg4 x2 6 (by decide) inb_S1024x256_S64x256_384_0) :)
theorem intra_6_0 : (@kernelRun0_B.sl.r_109 Ideal _ c arg2 harg2 arg3 harg3 arg4 harg4 x0 x1 x2) = intra 0 (cutQ x0 6) (cutK x0 6) (cutA x2 6) (cutH (φ := .bf16) x1 6 0) :=
  (congr (congr (congr (congrArg (intra 0) (readQ arg2 harg2 x0 6 (by decide) inb_S1024x512_S64x256_384_0)) (readK arg2 harg2 x0 6 (by decide) inb_S1024x512_S64x256_384_256)) (readA arg4 harg4 x2 6 (by decide) inb_S1024x256_S64x256_384_0)) (readV arg3 harg3 x1 6 (by decide) 0 inb_S1024x512_S64x128_384_0) :)
theorem upd_6_0 : (@kernelRun0_B.sl.r_110 Ideal _ c arg2 harg2 arg3 harg3 arg4 harg4 x0 x1 x2) = upd 0 (cutK x0 6) (cutA x2 6) (cutH (φ := .bf16) x1 6 0) :=
  (congr (congr (congrArg (upd 0) (readK arg2 harg2 x0 6 (by decide) inb_S1024x512_S64x256_384_256)) (readA arg4 harg4 x2 6 (by decide) inb_S1024x256_S64x256_384_0)) (readV arg3 harg3 x1 6 (by decide) 0 inb_S1024x512_S64x128_384_0) :)
theorem st_7_0 : (@kernelRun0_B.sl.r_326 Ideal _ c arg2 harg2 arg3 harg3 arg4 harg4 arg8 harg8 x0 x1 x2 xs0) = ST x0 x1 x2 (slc xs0) 7 0 :=
  (congr (congr (congrArg (nxt 0) (dec_6 c arg4 harg4 x2)) (upd_6_0 c arg2 harg2 arg3 harg3 arg4 harg4 x0 x1 x2)) (st_6_0 c arg2 harg2 arg3 harg3 arg4 harg4 arg8 harg8 x0 x1 x2 xs0) :)
theorem intra_6_1 : (@kernelRun0_B.sl.r_111 Ideal _ c arg2 harg2 arg3 harg3 arg4 harg4 x0 x1 x2) = intra 1 (cutQ x0 6) (cutK x0 6) (cutA x2 6) (cutH (φ := .bf16) x1 6 1) :=
  (congr (congr (congr (congrArg (intra 1) (readQ arg2 harg2 x0 6 (by decide) inb_S1024x512_S64x256_384_0)) (readK arg2 harg2 x0 6 (by decide) inb_S1024x512_S64x256_384_256)) (readA arg4 harg4 x2 6 (by decide) inb_S1024x256_S64x256_384_0)) (readV arg3 harg3 x1 6 (by decide) 1 inb_S1024x512_S64x128_384_128) :)
theorem upd_6_1 : (@kernelRun0_B.sl.r_112 Ideal _ c arg2 harg2 arg3 harg3 arg4 harg4 x0 x1 x2) = upd 1 (cutK x0 6) (cutA x2 6) (cutH (φ := .bf16) x1 6 1) :=
  (congr (congr (congrArg (upd 1) (readK arg2 harg2 x0 6 (by decide) inb_S1024x512_S64x256_384_256)) (readA arg4 harg4 x2 6 (by decide) inb_S1024x256_S64x256_384_0)) (readV arg3 harg3 x1 6 (by decide) 1 inb_S1024x512_S64x128_384_128) :)
theorem st_7_1 : (@kernelRun0_B.sl.r_329 Ideal _ c arg2 harg2 arg3 harg3 arg4 harg4 arg8 harg8 x0 x1 x2 xs0) = ST x0 x1 x2 (slc xs0) 7 1 :=
  (congr (congr (congrArg (nxt 1) (dec_6 c arg4 harg4 x2)) (upd_6_1 c arg2 harg2 arg3 harg3 arg4 harg4 x0 x1 x2)) (st_6_1 c arg2 harg2 arg3 harg3 arg4 harg4 arg8 harg8 x0 x1 x2 xs0) :)
theorem intra_6_2 : (@kernelRun0_B.sl.r_113 Ideal _ c arg2 harg2 arg3 harg3 arg4 harg4 x0 x1 x2) = intra 2 (cutQ x0 6) (cutK x0 6) (cutA x2 6) (cutH (φ := .bf16) x1 6 2) :=
  (congr (congr (congr (congrArg (intra 2) (readQ arg2 harg2 x0 6 (by decide) inb_S1024x512_S64x256_384_0)) (readK arg2 harg2 x0 6 (by decide) inb_S1024x512_S64x256_384_256)) (readA arg4 harg4 x2 6 (by decide) inb_S1024x256_S64x256_384_0)) (readV arg3 harg3 x1 6 (by decide) 2 inb_S1024x512_S64x128_384_256) :)
theorem upd_6_2 : (@kernelRun0_B.sl.r_114 Ideal _ c arg2 harg2 arg3 harg3 arg4 harg4 x0 x1 x2) = upd 2 (cutK x0 6) (cutA x2 6) (cutH (φ := .bf16) x1 6 2) :=
  (congr (congr (congrArg (upd 2) (readK arg2 harg2 x0 6 (by decide) inb_S1024x512_S64x256_384_256)) (readA arg4 harg4 x2 6 (by decide) inb_S1024x256_S64x256_384_0)) (readV arg3 harg3 x1 6 (by decide) 2 inb_S1024x512_S64x128_384_256) :)
theorem st_7_2 : (@kernelRun0_B.sl.r_331 Ideal _ c arg2 harg2 arg3 harg3 arg4 harg4 arg8 harg8 x0 x1 x2 xs0) = ST x0 x1 x2 (slc xs0) 7 2 :=
  (congr (congr (congrArg (nxt 2) (dec_6 c arg4 harg4 x2)) (upd_6_2 c arg2 harg2 arg3 harg3 arg4 harg4 x0 x1 x2)) (st_6_2 c arg2 harg2 arg3 harg3 arg4 harg4 arg8 harg8 x0 x1 x2 xs0) :)
theorem intra_6_3 : (@kernelRun0_B.sl.r_116 Ideal _ c arg2 harg2 arg3 harg3 arg4 harg4 x0 x1 x2) = intra 3 (cutQ x0 6) (cutK x0 6) (cutA x2 6) (cutH (φ := .bf16) x1 6 3) :=
  (congr (congr (congr (congrArg (intra 3) (readQ arg2 harg2 x0 6 (by decide) inb_S1024x512_S64x256_384_0)) (readK arg2 harg2 x0 6 (by decide) inb_S1024x512_S64x256_384_256)) (readA arg4 harg4 x2 6 (by decide) inb_S1024x256_S64x256_384_0)) (readV arg3 harg3 x1 6 (by decide) 3 inb_S1024x512_S64x128_384_384) :)
theorem upd_6_3 : (@kernelRun0_B.sl.r_118 Ideal _ c arg2 harg2 arg3 harg3 arg4 harg4 x0 x1 x2) = upd 3 (cutK x0 6) (cutA x2 6) (cutH (φ := .bf16) x1 6 3) :=
  (congr (congr (congrArg (upd 3) (readK arg2 harg2 x0 6 (by decide) inb_S1024x512_S64x256_384_256)) (readA arg4 harg4 x2 6 (by decide) inb_S1024x256_S64x256_384_0)) (readV arg3 harg3 x1 6 (by decide) 3 inb_S1024x512_S64x128_384_384) :)
theorem st_7_3 : (@kernelRun0_B.sl.r_334 Ideal _ c arg2 harg2 arg3 harg3 arg4 harg4 arg8 harg8 x0 x1 x2 xs0) = ST x0 x1 x2 (slc xs0) 7 3 :=
  (congr (congr (congrArg (nxt 3) (dec_6 c arg4 harg4 x2)) (upd_6_3 c arg2 harg2 arg3 harg3 arg4 harg4 x0 x1 x2)) (st_6_3 c arg2 harg2 arg3 harg3 arg4 harg4 arg8 harg8 x0 x1 x2 xs0) :)
theorem qd_7 : (@kernelRun0_B.sl.r_121 Ideal _ c arg2 harg2 arg4 harg4 x0 x2) = qd (cutQ x0 7) (cutA x2 7) :=
  (congr (congrArg qd (readQ arg2 harg2 x0 7 (by decide) inb_S1024x512_S64x256_448_0)) (readA arg4 harg4 x2 7 (by decide) inb_S1024x256_S64x256_448_0) :)
theorem dec_7 : (@kernelRun0_B.sl.r_124 Ideal _ c arg4 harg4 x2) = dec (cutA x2 7) :=
  (congrArg dec (readA arg4 harg4 x2 7 (by decide) inb_S1024x256_S64x256_448_0) :)
theorem intra_7_0 : (@kernelRun0_B.sl.r_125 Ideal _ c arg2 harg2 arg3 harg3 arg4 harg4 x0 x1 x2) = intra 0 (cutQ x0 7) (cutK x0 7) (cutA x2 7) (cutH (φ := .bf16) x1 7 0) :=
  (congr (congr (congr (congrArg (intra 0) (readQ arg2 harg2 x0 7 (by decide) inb_S1024x512_S64x256_448_0)) (readK arg2 harg2 x0 7 (by decide) inb_S1024x512_S64x256_448_256)) (readA arg4 harg4 x2 7 (by decide) inb_S1024x256_S64x256_448_0)) (readV arg3 harg3 x1 7 (by decide) 0 inb_S1024x512_S64x128_448_0) :)
theorem upd_7_0 : (@kernelRun0_B.sl.r_126 Ideal _ c arg2 harg2 arg3 harg3 arg4 harg4 x0 x1 x2) = upd 0 (cutK x0 7) (cutA x2 7) (cutH (φ := .bf16) x1 7 0) :=
  (congr (congr (congrArg (upd 0) (readK arg2 harg2 x0 7 (by decide) inb_S1024x512_S64x256_448_256)) (readA arg4 harg4 x2 7 (by decide) inb_S1024x256_S64x256_448_0)) (readV arg3 harg3 x1 7 (by decide) 0 inb_S1024x512_S64x128_448_0) :)
theorem st_8_0 : (@kernelRun0_B.sl.r_336 Ideal _ c arg2 harg2 arg3 harg3 arg4 harg4 arg8 harg8 x0 x1 x2 xs0) = ST x0 x1 x2 (slc xs0) 8 0 :=
  (congr (congr (congrArg (nxt 0) (dec_7 c arg4 harg4 x2)) (upd_7_0 c arg2 harg2 arg3 harg3 arg4 harg4 x0 x1 x2)) (st_7_0 c arg2 harg2 arg3 harg3 arg4 harg4 arg8 harg8 x0 x1 x2 xs0) :)
theorem intra_7_1 : (@kernelRun0_B.sl.r_130 Ideal _ c arg2 harg2 arg3 harg3 arg4 harg4 x0 x1 x2) = intra 1 (cutQ x0 7) (cutK x0 7) (cutA x2 7) (cutH (φ := .bf16) x1 7 1) :=
  (congr (congr (congr (congrArg (intra 1) (readQ arg2 harg2 x0 7 (by decide) inb_S1024x512_S64x256_448_0)) (readK arg2 harg2 x0 7 (by decide) inb_S1024x512_S64x256_448_256)) (readA arg4 harg4 x2 7 (by decide) inb_S1024x256_S64x256_448_0)) (readV arg3 harg3 x1 7 (by decide) 1 inb_S1024x512_S64x128_448_128) :)
theorem upd_7_1 : (@kernelRun0_B.sl.r_131 Ideal _ c arg2 harg2 arg3 harg3 arg4 harg4 x0 x1 x2) = upd 1 (cutK x0 7) (cutA x2 7) (cutH (φ := .bf16) x1 7 1) :=
  (congr (congr (congrArg (upd 1) (readK arg2 harg2 x0 7 (by decide) inb_S1024x512_S64x256_448_256)) (readA arg4 harg4 x2 7 (by decide) inb_S1024x256_S64x256_448_0)) (readV arg3 harg3 x1 7 (by decide) 1 inb_S1024x512_S64x128_448_128) :)
theorem st_8_1 : (@kernelRun0_B.sl.r_337 Ideal _ c arg2 harg2 arg3 harg3 arg4 harg4 arg8 harg8 x0 x1 x2 xs0) = ST x0 x1 x2 (slc xs0) 8 1 :=
  (congr (congr (congrArg (nxt 1) (dec_7 c arg4 harg4 x2)) (upd_7_1 c arg2 harg2 arg3 harg3 arg4 harg4 x0 x1 x2)) (st_7_1 c arg2 harg2 arg3 harg3 arg4 harg4 arg8 harg8 x0 x1 x2 xs0) :)
theorem intra_7_2 : (@kernelRun0_B.sl.r_132 Ideal _ c arg2 harg2 arg3 harg3 arg4 harg4 x0 x1 x2) = intra 2 (cutQ x0 7) (cutK x0 7) (cutA x2 7) (cutH (φ := .bf16) x1 7 2) :=
  (congr (congr (congr (congrArg (intra 2) (readQ arg2 harg2 x0 7 (by decide) inb_S1024x512_S64x256_448_0)) (readK arg2 harg2 x0 7 (by decide) inb_S1024x512_S64x256_448_256)) (readA arg4 harg4 x2 7 (by decide) inb_S1024x256_S64x256_448_0)) (readV arg3 harg3 x1 7 (by decide) 2 inb_S1024x512_S64x128_448_256) :)
theorem upd_7_2 : (@kernelRun0_B.sl.r_133 Ideal _ c arg2 harg2 arg3 harg3 arg4 harg4 x0 x1 x2) = upd 2 (cutK x0 7) (cutA x2 7) (cutH (φ := .bf16) x1 7 2) :=
  (congr (congr (congrArg (upd 2) (readK arg2 harg2 x0 7 (by decide) inb_S1024x512_S64x256_448_256)) (readA arg4 harg4 x2 7 (by decide) inb_S1024x256_S64x256_448_0)) (readV arg3 harg3 x1 7 (by decide) 2 inb_S1024x512_S64x128_448_256) :)
theorem st_8_2 : (@kernelRun0_B.sl.r_339 Ideal _ c arg2 harg2 arg3 harg3 arg4 harg4 arg8 harg8 x0 x1 x2 xs0) = ST x0 x1 x2 (slc xs0) 8 2 :=
  (congr (congr (congrArg (nxt 2) (dec_7 c arg4 harg4 x2)) (upd_7_2 c arg2 harg2 arg3 harg3 arg4 harg4 x0 x1 x2)) (st_7_2 c arg2 harg2 arg3 harg3 arg4 harg4 arg8 harg8 x0 x1 x2 xs0) :)
theorem intra_7_3 : (@kernelRun0_B.sl.r_134 Ideal _ c arg2 harg2 arg3 harg3 arg4 harg4 x0 x1 x2) = intra 3 (cutQ x0 7) (cutK x0 7) (cutA x2 7) (cutH (φ := .bf16) x1 7 3) :=
  (congr (congr (congr (congrArg (intra 3) (readQ arg2 harg2 x0 7 (by decide) inb_S1024x512_S64x256_448_0)) (readK arg2 harg2 x0 7 (by decide) inb_S1024x512_S64x256_448_256)) (readA arg4 harg4 x2 7 (by decide) inb_S1024x256_S64x256_448_0)) (readV arg3 harg3 x1 7 (by decide) 3 inb_S1024x512_S64x128_448_384) :)
theorem upd_7_3 : (@kernelRun0_B.sl.r_135 Ideal _ c arg2 harg2 arg3 harg3 arg4 harg4 x0 x1 x2) = upd 3 (cutK x0 7) (cutA x2 7) (cutH (φ := .bf16) x1 7 3) :=
  (congr (congr (congrArg (upd 3) (readK arg2 harg2 x0 7 (by decide) inb_S1024x512_S64x256_448_256)) (readA arg4 harg4 x2 7 (by decide) inb_S1024x256_S64x256_448_0)) (readV arg3 harg3 x1 7 (by decide) 3 inb_S1024x512_S64x128_448_384) :)
theorem st_8_3 : (@kernelRun0_B.sl.r_341 Ideal _ c arg2 harg2 arg3 harg3 arg4 harg4 arg8 harg8 x0 x1 x2 xs0) = ST x0 x1 x2 (slc xs0) 8 3 :=
  (congr (congr (congrArg (nxt 3) (dec_7 c arg4 harg4 x2)) (upd_7_3 c arg2 harg2 arg3 harg3 arg4 harg4 x0 x1 x2)) (st_7_3 c arg2 harg2 arg3 harg3 arg4 harg4 arg8 harg8 x0 x1 x2 xs0) :)
theorem qd_8 : (@kernelRun0_B.sl.r_139 Ideal _ c arg2 harg2 arg4 harg4 x0 x2) = qd (cutQ x0 8) (cutA x2 8) :=
  (congr (congrArg qd (readQ arg2 harg2 x0 8 (by decide) inb_S1024x512_S64x256_512_0)) (readA arg4 harg4 x2 8 (by decide) inb_S1024x256_S64x256_512_0) :)
theorem dec_8 : (@kernelRun0_B.sl.r_142 Ideal _ c arg4 harg4 x2) = dec (cutA x2 8) :=
  (congrArg dec (readA arg4 harg4 x2 8 (by decide) inb_S1024x256_S64x256_512_0) :)
theorem intra_8_0 : (@kernelRun0_B.sl.r_143 Ideal _ c arg2 harg2 arg3 harg3 arg4 harg4 x0 x1 x2) = intra 0 (cutQ x0 8) (cutK x0 8) (cutA x2 8) (cutH (φ := .bf16) x1 8 0) :=
  (congr (congr (congr (congrArg (intra 0) (readQ arg2 harg2 x0 8 (by decide) inb_S1024x512_S64x256_512_0)) (readK arg2 harg2 x0 8 (by decide) inb_S1024x512_S64x256_512_256)) (readA arg4 harg4 x2 8 (by decide) inb_S1024x256_S64x256_512_0)) (readV arg3 harg3 x1 8 (by decide) 0 inb_S1024x512_S64x128_512_0) :)
theorem upd_8_0 : (@kernelRun0_B.sl.r_144 Ideal _ c arg2 harg2 arg3 harg3 arg4 harg4 x0 x1 x2) = upd 0 (cutK x0 8) (cutA x2 8) (cutH (φ := .bf16) x1 8 0) :=
  (congr (congr (congrArg (upd 0) (readK arg2 harg2 x0 8 (by decide) inb_S1024x512_S64x256_512_256)) (readA arg4 harg4 x2 8 (by decide) inb_S1024x256_S64x256_512_0)) (readV arg3 harg3 x1 8 (by decide) 0 inb_S1024x512_S64x128_512_0) :)
theorem st_9_0 : (@kernelRun0_B.sl.r_344 Ideal _ c arg2 harg2 arg3 harg3 arg4 harg4 arg8 harg8 x0 x1 x2 xs0) = ST x0 x1 x2 (slc xs0) 9 0 :=
  (congr (congr (congrArg (nxt 0) (dec_8 c arg4 harg4 x2)) (upd_8_0 c arg2 harg2 arg3 harg3 arg4 harg4 x0 x1 x2)) (st_8_0 c arg2 harg2 arg3 harg3 arg4 harg4 arg8 harg8 x0 x1 x2 xs0) :)
theorem intra_8_1 : (@kernelRun0_B.sl.r_145 Ideal _ c arg2 harg2 arg3 harg3 arg4 harg4 x0 x1 x2) = intra 1 (cutQ x0 8) (cutK x0 8) (cutA x2 8) (cutH (φ := .bf16) x1 8 1) :=
  (congr (congr (congr (congrArg (intra 1) (readQ arg2 harg2 x0 8 (by decide) inb_S1024x512_S64x256_512_0)) (readK arg2 harg2 x0 8 (by decide) inb_S1024x512_S64x256_512_256)) (readA arg4 harg4 x2 8 (by decide) inb_S1024x256_S64x256_512_0)) (readV arg3 harg3 x1 8 (by decide) 1 inb_S1024x512_S64x128_512_128) :)
theorem upd_8_1 : (@kernelRun0_B.sl.r_146 Ideal _ c arg2 harg2 arg3 harg3 arg4 harg4 x0 x1 x2) = upd 1 (cutK x0 8) (cutA x2 8) (cutH (φ := .bf16) x1 8 1) :=
  (congr (congr (congrArg (upd 1) (readK arg2 harg2 x0 8 (by decide) inb_S1024x512_S64x256_512_256)) (readA arg4 harg4 x2 8 (by decide) inb_S1024x256_S64x256_512_0)) (readV arg3 harg3 x1 8 (by decide) 1 inb_S1024x512_S64x128_512_128) :)
theorem st_9_1 : (@kernelRun0_B.sl.r_346 Ideal _ c arg2 harg2 arg3 harg3 arg4 harg4 arg8 harg8 x0 x1 x2 xs0) = ST x0 x1 x2 (slc xs0) 9 1 :=
  (congr (congr (congrArg (nxt 1) (dec_8 c arg4 harg4 x2)) (upd_8_1 c arg2 harg2 arg3 harg3 arg4 harg4 x0 x1 x2)) (st_8_1 c arg2 harg2 arg3 harg3 arg4 harg4 arg8 harg8 x0 x1 x2 xs0) :)
theorem intra_8_2 : (@kernelRun0_B.sl.r_149 Ideal _ c arg2 harg2 arg3 harg3 arg4 harg4 x0 x1 x2) = intra 2 (cutQ x0 8) (cutK x0 8) (cutA x2 8) (cutH (φ := .bf16) x1 8 2) :=
  (congr (congr (congr (congrArg (intra 2) (readQ arg2 harg2 x0 8 (by decide) inb_S1024x512_S64x256_512_0)) (readK arg2 harg2 x0 8 (by decide) inb_S1024x512_S64x256_512_256)) (readA arg4 harg4 x2 8 (by decide) inb_S1024x256_S64x256_512_0)) (readV arg3 harg3 x1 8 (by decide) 2 inb_S1024x512_S64x128_512_256) :)
theorem upd_8_2 : (@kernelRun0_B.sl.r_150 Ideal _ c arg2 harg2 arg3 harg3 arg4 harg4 x0 x1 x2) = upd 2 (cutK x0 8) (cutA x2 8) (cutH (φ := .bf16) x1 8 2) :=
  (congr (congr (congrArg (upd 2) (readK arg2 harg2 x0 8 (by decide) inb_S1024x512_S64x256_512_256)) (readA arg4 harg4 x2 8 (by decide) inb_S1024x256_S64x256_512_0)) (readV arg3 harg3 x1 8 (by decide) 2 inb_S1024x512_S64x128_512_256) :)
theorem st_9_2 : (@kernelRun0_B.sl.r_349 Ideal _ c arg2 harg2 arg3 harg3 arg4 harg4 arg8 harg8 x0 x1 x2 xs0) = ST x0 x1 x2 (slc xs0) 9 2 :=
  (congr (congr (congrArg (nxt 2) (dec_8 c arg4 harg4 x2)) (upd_8_2 c arg2 harg2 arg3 harg3 arg4 harg4 x0 x1 x2)) (st_8_2 c arg2 harg2 arg3 harg3 arg4 harg4 arg8 harg8 x0 x1 x2 xs0) :)
theorem intra_8_3 : (@kernelRun0_B.sl.r_151 Ideal _ c arg2 harg2 arg3 harg3 arg4 harg4 x0 x1 x2) = intra 3 (cutQ x0 8) (cutK x0 8) (cutA x2 8) (cutH (φ := .bf16) x1 8 3) :=
  (congr (congr (congr (congrArg (intra 3) (readQ arg2 harg2 x0 8 (by decide) inb_S1024x512_S64x256_512_0)) (readK arg2 harg2 x0 8 (by decide) inb_S1024x512_S64x256_512_256)) (readA arg4 harg4 x2 8 (by decide) inb_S1024x256_S64x256_512_0)) (readV arg3 harg3 x1 8 (by decide) 3 inb_S1024x512_S64x128_512_384) :)
theorem upd_8_3 : (@kernelRun0_B.sl.r_152 Ideal _ c arg2 harg2 arg3 harg3 arg4 harg4 x0 x1 x2) = upd 3 (cutK x0 8) (cutA x2 8) (cutH (φ := .bf16) x1 8 3) :=
  (congr (congr (congrArg (upd 3) (readK arg2 harg2 x0 8 (by decide) inb_S1024x512_S64x256_512_256)) (readA arg4 harg4 x2 8 (by decide) inb_S1024x256_S64x256_512_0)) (readV arg3 harg3 x1 8 (by decide) 3 inb_S1024x512_S64x128_512_384) :)
theorem st_9_3 : (@kernelRun0_B.sl.r_351 Ideal _ c arg2 harg2 arg3 harg3 arg4 harg4 arg8 harg8 x0 x1 x2 xs0) = ST x0 x1 x2 (slc xs0) 9 3 :=
  (congr (congr (congrArg (nxt 3) (dec_8 c arg4 harg4 x2)) (upd_8_3 c arg2 harg2 arg3 harg3 arg4 harg4 x0 x1 x2)) (st_8_3 c arg2 harg2 arg3 harg3 arg4 harg4 arg8 harg8 x0 x1 x2 xs0) :)
theorem qd_9 : (@kernelRun0_B.sl.r_156 Ideal _ c arg2 harg2 arg4 harg4 x0 x2) = qd (cutQ x0 9) (cutA x2 9) :=
  (congr (congrArg qd (readQ arg2 harg2 x0 9 (by decide) inb_S1024x512_S64x256_576_0)) (readA arg4 harg4 x2 9 (by decide) inb_S1024x256_S64x256_576_0) :)
theorem dec_9 : (@kernelRun0_B.sl.r_159 Ideal _ c arg4 harg4 x2) = dec (cutA x2 9) :=
  (congrArg dec (readA arg4 harg4 x2 9 (by decide) inb_S1024x256_S64x256_576_0) :)
theorem intra_9_0 : (@kernelRun0_B.sl.r_160 Ideal _ c arg2 harg2 arg3 harg3 arg4 harg4 x0 x1 x2) = intra 0 (cutQ x0 9) (cutK x0 9) (cutA x2 9) (cutH (φ := .bf16) x1 9 0) :=
  (congr (congr (congr (congrArg (intra 0) (readQ arg2 harg2 x0 9 (by decide) inb_S1024x512_S64x256_576_0)) (readK arg2 harg2 x0 9 (by decide) inb_S1024x512_S64x256_576_256)) (readA arg4 harg4 x2 9 (by decide) inb_S1024x256_S64x256_576_0)) (readV arg3 harg3 x1 9 (by decide) 0 inb_S1024x512_S64x128_576_0) :)
theorem upd_9_0 : (@kernelRun0_B.sl.r_161 Ideal _ c arg2 harg2 arg3 harg3 arg4 harg4 x0 x1 x2) = upd 0 (cutK x0 9) (cutA x2 9) (cutH (φ := .bf16) x1 9 0) :=
  (congr (congr (congrArg (upd 0) (readK arg2 harg2 x0 9 (by decide) inb_S1024x512_S64x256_576_256)) (readA arg4 harg4 x2 9 (by decide) inb_S1024x256_S64x256_576_0)) (readV arg3 harg3 x1 9 (by decide) 0 inb_S1024x512_S64x128_576_0) :)
theorem st_10_0 : (@kernelRun0_B.sl.r_352 Ideal _ c arg2 harg2 arg3 harg3 arg4 harg4 arg8 harg8 x0 x1 x2 xs0) = ST x0 x1 x2 (slc xs0) 10 0 :=
  (congr (congr (congrArg (nxt 0) (dec_9 c arg4 harg4 x2)) (upd_9_0 c arg2 harg2 arg3 harg3 arg4 harg4 x0 x1 x2)) (st_9_0 c arg2 harg2 arg3 harg3 arg4 harg4 arg8 harg8 x0 x1 x2 xs0) :)
theorem intra_9_1 : (@kernelRun0_B.sl.r_162 Ideal _ c arg2 harg2 arg3 harg3 arg4 harg4 x0 x1 x2) = intra 1 (cutQ x0 9) (cutK x0 9) (cutA x2 9) (cutH (φ := .bf16) x1 9 1) :=
  (congr (congr (congr (congrArg (intra 1) (readQ arg2 harg2 x0 9 (by decide) inb_S1024x512_S64x256_576_0)) (readK arg2 harg2 x0 9 (by decide) inb_S1024x512_S64x256_576_256)) (readA arg4 harg4 x2 9 (by decide) inb_S1024x256_S64x256_576_0)) (readV arg3 harg3 x1 9 (by decide) 1 inb_S1024x512_S64x128_576_128) :)
theorem upd_9_1 : (@kernelRun0_B.sl.r_163 Ideal _ c arg2 harg2 arg3 harg3 arg4 harg4 x0 x1 x2) = upd 1 (cutK x0 9) (cutA x2 9) (cutH (φ := .bf16) x1 9 1) :=
  (congr (congr (congrArg (upd 1) (readK arg2 harg2 x0 9 (by decide) inb_S1024x512_S64x256_576_256)) (readA arg4 harg4 x2 9 (by decide) inb_S1024x256_S64x256_576_0)) (readV arg3 harg3 x1 9 (by decide) 1 inb_S1024x512_S64x128_576_128) :)
theorem st_10_1 : (@kernelRun0_B.sl.r_355 Ideal _ c arg2 harg2 arg3 harg3 arg4 harg4 arg8 harg8 x0 x1 x2 xs0) = ST x0 x1 x2 (slc xs0) 10 1 :=
  (congr (congr (congrArg (nxt 1) (dec_9 c arg4 harg4 x2)) (upd_9_1 c arg2 harg2 arg3 harg3 arg4 harg4 x0 x1 x2)) (st_9_1 c arg2 harg2 arg3 harg3 arg4 harg4 arg8 harg8 x0 x1 x2 xs0) :)
theorem intra_9_2 : (@kernelRun0_B.sl.r_164 Ideal _ c arg2 harg2 arg3 harg3 arg4 harg4 x0 x1 x2) = intra 2 (cutQ x0 9) (cutK x0 9) (cutA x2 9) (cutH (φ := .bf16) x1 9 2) :=
  (congr (congr (congr (congrArg (intra 2) (readQ arg2 harg2 x0 9 (by decide) inb_S1024x512_S64x256_576_0)) (readK arg2 harg2 x0 9 (by decide) inb_S1024x512_S64x256_576_256)) (readA arg4 harg4 x2 9 (by decide) inb_S1024x256_S64x256_576_0)) (readV arg3 harg3 x1 9 (by decide) 2 inb_S1024x512_S64x128_576_256) :)
theorem upd_9_2 : (@kernelRun0_B.sl.r_165 Ideal _ c arg2 harg2 arg3 harg3 arg4 harg4 x0 x1 x2) = upd 2 (cutK x0 9) (cutA x2 9) (cutH (φ := .bf16) x1 9 2) :=
  (congr (congr (congrArg (upd 2) (readK arg2 harg2 x0 9 (by decide) inb_S1024x512_S64x256_576_256)) (readA arg4 harg4 x2 9 (by decide) inb_S1024x256_S64x256_576_0)) (readV arg3 harg3 x1 9 (by decide) 2 inb_S1024x512_S64x128_576_256) :)
theorem st_10_2 : (@kernelRun0_B.sl.r_357 Ideal _ c arg2 harg2 arg3 harg3 arg4 harg4 arg8 harg8 x0 x1 x2 xs0) = ST x0 x1 x2 (slc xs0) 10 2 :=
  (congr (congr (congrArg (nxt 2) (dec_9 c arg4 harg4 x2)) (upd_9_2 c arg2 harg2 arg3 harg3 arg4 harg4 x0 x1 x2)) (st_9_2 c arg2 harg2 arg3 harg3 arg4 harg4 arg8 harg8 x0 x1 x2 xs0) :)
theorem intra_9_3 : (@kernelRun0_B.sl.r_168 Ideal _ c arg2 harg2 arg3 harg3 arg4 harg4 x0 x1 x2) = intra 3 (cutQ x0 9) (cutK x0 9) (cutA x2 9) (cutH (φ := .bf16) x1 9 3) :=
  (congr (congr (congr (congrArg (intra 3) (readQ arg2 harg2 x0 9 (by decide) inb_S1024x512_S64x256_576_0)) (readK arg2 harg2 x0 9 (by decide) inb_S1024x512_S64x256_576_256)) (readA arg4 harg4 x2 9 (by decide) inb_S1024x256_S64x256_576_0)) (readV arg3 harg3 x1 9 (by decide) 3 inb_S1024x512_S64x128_576_384) :)
theorem upd_9_3 : (@kernelRun0_B.sl.r_169 Ideal _ c arg2 harg2 arg3 harg3 arg4 harg4 x0 x1 x2) = upd 3 (cutK x0 9) (cutA x2 9) (cutH (φ := .bf16) x1 9 3) :=
  (congr (congr (congrArg (upd 3) (readK arg2 harg2 x0 9 (by decide) inb_S1024x512_S64x256_576_256)) (readA arg4 harg4 x2 9 (by decide) inb_S1024x256_S64x256_576_0)) (readV arg3 harg3 x1 9 (by decide) 3 inb_S1024x512_S64x128_576_384) :)
theorem st_10_3 : (@kernelRun0_B.sl.r_360 Ideal _ c arg2 harg2 arg3 harg3 arg4 harg4 arg8 harg8 x0 x1 x2 xs0) = ST x0 x1 x2 (slc xs0) 10 3 :=
  (congr (congr (congrArg (nxt 3) (dec_9 c arg4 harg4 x2)) (upd_9_3 c arg2 harg2 arg3 harg3 arg4 harg4 x0 x1 x2)) (st_9_3 c arg2 harg2 arg3 harg3 arg4 harg4 arg8 harg8 x0 x1 x2 xs0) :)
theorem qd_10 : (@kernelRun0_B.sl.r_171 Ideal _ c arg2 harg2 arg4 harg4 x0 x2) = qd (cutQ x0 10) (cutA x2 10) :=
  (congr (congrArg qd (readQ arg2 harg2 x0 10 (by decide) inb_S1024x512_S64x256_640_0)) (readA arg4 harg4 x2 10 (by decide) inb_S1024x256_S64x256_640_0) :)
theorem dec_10 : (@kernelRun0_B.sl.r_174 Ideal _ c arg4 harg4 x2) = dec (cutA x2 10) :=
  (congrArg dec (readA arg4 harg4 x2 10 (by decide) inb_S1024x256_S64x256_640_0) :)
theorem intra_10_0 : (@kernelRun0_B.sl.r_175 Ideal _ c arg2 harg2 arg3 harg3 arg4 harg4 x0 x1 x2) = intra 0 (cutQ x0 10) (cutK x0 10) (cutA x2 10) (cutH (φ := .bf16) x1 10 0) :=
  (congr (congr (congr (congrArg (intra 0) (readQ arg2 harg2 x0 10 (by decide) inb_S1024x512_S64x256_640_0)) (readK arg2 harg2 x0 10 (by decide) inb_S1024x512_S64x256_640_256)) (readA arg4 harg4 x2 10 (by decide) inb_S1024x256_S64x256_640_0)) (readV arg3 harg3 x1 10 (by decide) 0 inb_S1024x512_S64x128_640_0) :)
theorem upd_10_0 : (@kernelRun0_B.sl.r_176 Ideal _ c arg2 harg2 arg3 harg3 arg4 harg4 x0 x1 x2) = upd 0 (cutK x0 10) (cutA x2 10) (cutH (φ := .bf16) x1 10 0) :=
  (congr (congr (congrArg (upd 0) (readK arg2 harg2 x0 10 (by decide) inb_S1024x512_S64x256_640_256)) (readA arg4 harg4 x2 10 (by decide) inb_S1024x256_S64x256_640_0)) (readV arg3 harg3 x1 10 (by decide) 0 inb_S1024x512_S64x128_640_0) :)
theorem st_11_0 : (@kernelRun0_B.sl.r_362 Ideal _ c arg2 harg2 arg3 harg3 arg4 harg4 arg8 harg8 x0 x1 x2 xs0) = ST x0 x1 x2 (slc xs0) 11 0 :=
  (congr (congr (congrArg (nxt 0) (dec_10 c arg4 harg4 x2)) (upd_10_0 c arg2 harg2 arg3 harg3 arg4 harg4 x0 x1 x2)) (st_10_0 c arg2 harg2 arg3 harg3 arg4 harg4 arg8 harg8 x0 x1 x2 xs0) :)
theorem intra_10_1 : (@kernelRun0_B.sl.r_177 Ideal _ c arg2 harg2 arg3 harg3 arg4 harg4 x0 x1 x2) = intra 1 (cutQ x0 10) (cutK x0 10) (cutA x2 10) (cutH (φ := .bf16) x1 10 1) :=
  (congr (congr (congr (congrArg (intra 1) (readQ arg2 harg2 x0 10 (by decide) inb_S1024x512_S64x256_640_0)) (readK arg2 harg2 x0 10 (by decide) inb_S1024x512_S64x256_640_256)) (readA arg4 harg4 x2 10 (by decide) inb_S1024x256_S64x256_640_0)) (readV arg3 harg3 x1 10 (by decide) 1 inb_S1024x512_S64x128_640_128) :)
theorem upd_10_1 : (@kernelRun0_B.sl.r_178 Ideal _ c arg2 harg2 arg3 harg3 arg4 harg4 x0 x1 x2) = upd 1 (cutK x0 10) (cutA x2 10) (cutH (φ := .bf16) x1 10 1) :=
  (congr (congr (congrArg (upd 1) (readK arg2 harg2 x0 10 (by decide) inb_S1024x512_S64x256_640_256)) (readA arg4 harg4 x2 10 (by decide) inb_S1024x256_S64x256_640_0)) (readV arg3 harg3 x1 10 (by decide) 1 inb_S1024x512_S64x128_640_128) :)
theorem st_11_1 : (@kernelRun0_B.sl.r_363 Ideal _ c arg2 harg2 arg3 harg3 arg4 harg4 arg8 harg8 x0 x1 x2 xs0) = ST x0 x1 x2 (slc xs0) 11 1 :=
  (congr (congr (congrArg (nxt 1) (dec_10 c arg4 harg4 x2)) (upd_10_1 c arg2 harg2 arg3 harg3 arg4 harg4 x0 x1 x2)) (st_10_1 c arg2 harg2 arg3 harg3 arg4 harg4 arg8 harg8 x0 x1 x2 xs0) :)
theorem intra_10_2 : (@kernelRun0_B.sl.r_179 Ideal _ c arg2 harg2 arg3 harg3 arg4 harg4 x0 x1 x2) = intra 2 (cutQ x0 10) (cutK x0 10) (cutA x2 10) (cutH (φ := .bf16) x1 10 2) :=
  (congr (congr (congr (congrArg (intra 2) (readQ arg2 harg2 x0 10 (by decide) inb_S1024x512_S64x256_640_0)) (readK arg2 harg2 x0 10 (by decide) inb_S1024x512_S64x256_640_256)) (readA arg4 harg4 x2 10 (by decide) inb_S1024x256_S64x256_640_0)) (readV arg3 harg3 x1 10 (by decide) 2 inb_S1024x512_S64x128_640_256) :)
theorem upd_10_2 : (@kernelRun0_B.sl.r_180 Ideal _ c arg2 harg2 arg3 harg3 arg4 harg4 x0 x1 x2) = upd 2 (cutK x0 10) (cutA x2 10) (cutH (φ := .bf16) x1 10 2) :=
  (congr (congr (congrArg (upd 2) (readK arg2 harg2 x0 10 (by decide) inb_S1024x512_S64x256_640_256)) (readA arg4 harg4 x2 10 (by decide) inb_S1024x256_S64x256_640_0)) (readV arg3 harg3 x1 10 (by decide) 2 inb_S1024x512_S64x128_640_256) :)
theorem st_11_2 : (@kernelRun0_B.sl.r_365 Ideal _ c arg2 harg2 arg3 harg3 arg4 harg4 arg8 harg8 x0 x1 x2 xs0) = ST x0 x1 x2 (slc xs0) 11 2 :=
  (congr (congr (congrArg (nxt 2) (dec_10 c arg4 harg4 x2)) (upd_10_2 c arg2 harg2 arg3 harg3 arg4 harg4 x0 x1 x2)) (st_10_2 c arg2 harg2 arg3 harg3 arg4 harg4 arg8 harg8 x0 x1 x2 xs0) :)
theorem intra_10_3 : (@kernelRun0_B.sl.r_181 Ideal _ c arg2 harg2 arg3 harg3 arg4 harg4 x0 x1 x2) = intra 3 (cutQ x0 10) (cutK x0 10) (cutA x2 10) (cutH (φ := .bf16) x1 10 3) :=
  (congr (congr (congr (congrArg (intra 3) (readQ arg2 harg2 x0 10 (by decide) inb_S1024x512_S64x256_640_0)) (readK arg2 harg2 x0 10 (by decide) inb_S1024x512_S64x256_640_256)) (readA arg4 harg4 x2 10 (by decide) inb_S1024x256_S64x256_640_0)) (readV arg3 harg3 x1 10 (by decide) 3 inb_S1024x512_S64x128_640_384) :)
theorem upd_10_3 : (@kernelRun0_B.sl.r_182 Ideal _ c arg2 harg2 arg3 harg3 arg4 harg4 x0 x1 x2) = upd 3 (cutK x0 10) (cutA x2 10) (cutH (φ := .bf16) x1 10 3) :=
  (congr (congr (congrArg (upd 3) (readK arg2 harg2 x0 10 (by decide) inb_S1024x512_S64x256_640_256)) (readA arg4 harg4 x2 10 (by decide) inb_S1024x256_S64x256_640_0)) (readV arg3 harg3 x1 10 (by decide) 3 inb_S1024x512_S64x128_640_384) :)
theorem st_11_3 : (@kernelRun0_B.sl.r_367 Ideal _ c arg2 harg2 arg3 harg3 arg4 harg4 arg8 harg8 x0 x1 x2 xs0) = ST x0 x1 x2 (slc xs0) 11 3 :=
  (congr (congr (congrArg (nxt 3) (dec_10 c arg4 harg4 x2)) (upd_10_3 c arg2 harg2 arg3 harg3 arg4 harg4 x0 x1 x2)) (st_10_3 c arg2 harg2 arg3 harg3 arg4 harg4 arg8 harg8 x0 x1 x2 xs0) :)
theorem qd_11 : (@kernelRun0_B.sl.r_187 Ideal _ c arg2 harg2 arg4 harg4 x0 x2) = qd (cutQ x0 11) (cutA x2 11) :=
  (congr (congrArg qd (readQ arg2 harg2 x0 11 (by decide) inb_S1024x512_S64x256_704_0)) (readA arg4 harg4 x2 11 (by decide) inb_S1024x256_S64x256_704_0) :)
theorem dec_11 : (@kernelRun0_B.sl.r_190 Ideal _ c arg4 harg4 x2) = dec (cutA x2 11) :=
  (congrArg dec (readA arg4 harg4 x2 11 (by decide) inb_S1024x256_S64x256_704_0) :)
theorem intra_11_0 : (@kernelRun0_B.sl.r_191 Ideal _ c arg2 harg2 arg3 harg3 arg4 harg4 x0 x1 x2) = intra 0 (cutQ x0 11) (cutK x0 11) (cutA x2 11) (cutH (φ := .bf16) x1 11 0) :=
  (congr (congr (congr (congrArg (intra 0) (readQ arg2 harg2 x0 11 (by decide) inb_S1024x512_S64x256_704_0)) (readK arg2 harg2 x0 11 (by decide) inb_S1024x512_S64x256_704_256)) (readA arg4 harg4 x2 11 (by decide) inb_S1024x256_S64x256_704_0)) (readV arg3 harg3 x1 11 (by decide) 0 inb_S1024x512_S64x128_704_0) :)
theorem upd_11_0 : (@kernelRun0_B.sl.r_192 Ideal _ c arg2 harg2 arg3 harg3 arg4 harg4 x0 x1 x2) = upd 0 (cutK x0 11) (cutA x2 11) (cutH (φ := .bf16) x1 11 0) :=
  (congr (congr (congrArg (upd 0) (readK arg2 harg2 x0 11 (by decide) inb_S1024x512_S64x256_704_256)) (readA arg4 harg4 x2 11 (by decide) inb_S1024x256_S64x256_704_0)) (readV arg3 harg3 x1 11 (by decide) 0 inb_S1024x512_S64x128_704_0) :)
theorem st_12_0 : (@kernelRun0_B.sl.r_370 Ideal _ c arg2 harg2 arg3 harg3 arg4 harg4 arg8 harg8 x0 x1 x2 xs0) = ST x0 x1 x2 (slc xs0) 12 0 :=
  (congr (congr (congrArg (nxt 0) (dec_11 c arg4 harg4 x2)) (upd_11_0 c arg2 harg2 arg3 harg3 arg4 harg4 x0 x1 x2)) (st_11_0 c arg2 harg2 arg3 harg3 arg4 harg4 arg8 harg8 x0 x1 x2 xs0) :)
theorem intra_11_1 : (@kernelRun0_B.sl.r_193 Ideal _ c arg2 harg2 arg3 harg3 arg4 harg4 x0 x1 x2) = intra 1 (cutQ x0 11) (cutK x0 11) (cutA x2 11) (cutH (φ := .bf16) x1 11 1) :=
  (congr (congr (congr (congrArg (intra 1) (readQ arg2 harg2 x0 11 (by decide) inb_S1024x512_S64x256_704_0)) (readK arg2 harg2 x0 11 (by decide) inb_S1024x512_S64x256_704_256)) (readA arg4 harg4 x2 11 (by decide) inb_S1024x256_S64x256_704_0)) (readV arg3 harg3 x1 11 (by decide) 1 inb_S1024x512_S64x128_704_128) :)
theorem upd_11_1 : (@kernelRun0_B.sl.r_194 Ideal _ c arg2 harg2 arg3 harg3 arg4 harg4 x0 x1 x2) = upd 1 (cutK x0 11) (cutA x2 11) (cutH (φ := .bf16) x1 11 1) :=
  (congr (congr (congrArg (upd 1) (readK arg2 harg2 x0 11 (by decide) inb_S1024x512_S64x256_704_256)) (readA arg4 harg4 x2 11 (by decide) inb_S1024x256_S64x256_704_0)) (readV arg3 harg3 x1 11 (by decide) 1 inb_S1024x512_S64x128_704_128) :)
theorem st_12_1 : (@kernelRun0_B.sl.r_372 Ideal _ c arg2 harg2 arg3 harg3 arg4 harg4 arg8 harg8 x0 x1 x2 xs0) = ST x0 x1 x2 (slc xs0) 12 1 :=
  (congr (congr (congrArg (nxt 1) (dec_11 c arg4 harg4 x2)) (upd_11_1 c arg2 harg2 arg3 harg3 arg4 harg4 x0 x1 x2)) (st_11_1 c arg2 harg2 arg3 harg3 arg4 harg4 arg8 harg8 x0 x1 x2 xs0) :)
theorem intra_11_2 : (@kernelRun0_B.sl.r_198 Ideal _ c arg2 harg2 arg3 harg3 arg4 harg4 x0 x1 x2) = intra 2 (cutQ x0 11) (cutK x0 11) (cutA x2 11) (cutH (φ := .bf16) x1 11 2) :=
  (congr (congr (congr (congrArg (intra 2) (readQ arg2 harg2 x0 11 (by decide) inb_S1024x512_S64x256_704_0)) (readK arg2 harg2 x0 11 (by decide) inb_S1024x512_S64x256_704_256)) (readA arg4 harg4 x2 11 (by decide) inb_S1024x256_S64x256_704_0)) (readV arg3 harg3 x1 11 (by decide) 2 inb_S1024x512_S64x128_704_256) :)
theorem upd_11_2 : (@kernelRun0_B.sl.r_199 Ideal _ c arg2 harg2 arg3 harg3 arg4 harg4 x0 x1 x2) = upd 2 (cutK x0 11) (cutA x2 11) (cutH (φ := .bf16) x1 11 2) :=
  (congr (congr (congrArg (upd 2) (readK arg2 harg2 x0 11 (by decide) inb_S1024x512_S64x256_704_256)) (readA arg4 harg4 x2 11 (by decide) inb_S1024x256_S64x256_704_0)) (readV arg3 harg3 x1 11 (by decide) 2 inb_S1024x512_S64x128_704_256) :)
theorem st_12_2 : (@kernelRun0_B.sl.r_375 Ideal _ c arg2 harg2 arg3 harg3 arg4 harg4 arg8 harg8 x0 x1 x2 xs0) = ST x0 x1 x2 (slc xs0) 12 2 :=
  (congr (congr (congrArg (nxt 2) (dec_11 c arg4 harg4 x2)) (upd_11_2 c arg2 harg2 arg3 harg3 arg4 harg4 x0 x1 x2)) (st_11_2 c arg2 harg2 arg3 harg3 arg4 harg4 arg8 harg8 x0 x1 x2 xs0) :)
theorem intra_11_3 : (@kernelRun0_B.sl.r_200 Ideal _ c arg2 harg2 arg3 harg3 arg4 harg4 x0 x1 x2) = intra 3 (cutQ x0 11) (cutK x0 11) (cutA x2 11) (cutH (φ := .bf16) x1 11 3) :=
  (congr (congr (congr (congrArg (intra 3) (readQ arg2 harg2 x0 11 (by decide) inb_S1024x512_S64x256_704_0)) (readK arg2 harg2 x0 11 (by decide) inb_S1024x512_S64x256_704_256)) (readA arg4 harg4 x2 11 (by decide) inb_S1024x256_S64x256_704_0)) (readV arg3 harg3 x1 11 (by decide) 3 inb_S1024x512_S64x128_704_384) :)
theorem upd_11_3 : (@kernelRun0_B.sl.r_201 Ideal _ c arg2 harg2 arg3 harg3 arg4 harg4 x0 x1 x2) = upd 3 (cutK x0 11) (cutA x2 11) (cutH (φ := .bf16) x1 11 3) :=
  (congr (congr (congrArg (upd 3) (readK arg2 harg2 x0 11 (by decide) inb_S1024x512_S64x256_704_256)) (readA arg4 harg4 x2 11 (by decide) inb_S1024x256_S64x256_704_0)) (readV arg3 harg3 x1 11 (by decide) 3 inb_S1024x512_S64x128_704_384) :)
theorem st_12_3 : (@kernelRun0_B.sl.r_377 Ideal _ c arg2 harg2 arg3 harg3 arg4 harg4 arg8 harg8 x0 x1 x2 xs0) = ST x0 x1 x2 (slc xs0) 12 3 :=
  (congr (congr (congrArg (nxt 3) (dec_11 c arg4 harg4 x2)) (upd_11_3 c arg2 harg2 arg3 harg3 arg4 harg4 x0 x1 x2)) (st_11_3 c arg2 harg2 arg3 harg3 arg4 harg4 arg8 harg8 x0 x1 x2 xs0) :)
theorem qd_12 : (@kernelRun0_B.sl.r_206 Ideal _ c arg2 harg2 arg4 harg4 x0 x2) = qd (cutQ x0 12) (cutA x2 12) :=
  (congr (congrArg qd (readQ arg2 harg2 x0 12 (by decide) inb_S1024x512_S64x256_768_0)) (readA arg4 harg4 x2 12 (by decide) inb_S1024x256_S64x256_768_0) :)
theorem dec_12 : (@kernelRun0_B.sl.r_210 Ideal _ c arg4 harg4 x2) = dec (cutA x2 12) :=
  (congrArg dec (readA arg4 harg4 x2 12 (by decide) inb_S1024x256_S64x256_768_0) :)
theorem intra_12_0 : (@kernelRun0_B.sl.r_211 Ideal _ c arg2 harg2 arg3 harg3 arg4 harg4 x0 x1 x2) = intra 0 (cutQ x0 12) (cutK x0 12) (cutA x2 12) (cutH (φ := .bf16) x1 12 0) :=
  (congr (congr (congr (congrArg (intra 0) (readQ arg2 harg2 x0 12 (by decide) inb_S1024x512_S64x256_768_0)) (readK arg2 harg2 x0 12 (by decide) inb_S1024x512_S64x256_768_256)) (readA arg4 harg4 x2 12 (by decide) inb_S1024x256_S64x256_768_0)) (readV arg3 harg3 x1 12 (by decide) 0 inb_S1024x512_S64x128_768_0) :)
theorem upd_12_0 : (@kernelRun0_B.sl.r_212 Ideal _ c arg2 harg2 arg3 harg3 arg4 harg4 x0 x1 x2) = upd 0 (cutK x0 12) (cutA x2 12) (cutH (φ := .bf16) x1 12 0) :=
  (congr (congr (congrArg (upd 0) (readK arg2 harg2 x0 12 (by decide) inb_S1024x512_S64x256_768_256)) (readA arg4 harg4 x2 12 (by decide) inb_S1024x256_S64x256_768_0)) (readV arg3 harg3 x1 12 (by decide) 0 inb_S1024x512_S64x128_768_0) :)
theorem st_13_0 : (@kernelRun0_B.sl.r_378 Ideal _ c arg2 harg2 arg3 harg3 arg4 harg4 arg8 harg8 x0 x1 x2 xs0) = ST x0 x1 x2 (slc xs0) 13 0 :=
  (congr (congr (congrArg (nxt 0) (dec_12 c arg4 harg4 x2)) (upd_12_0 c arg2 harg2 arg3 harg3 arg4 harg4 x0 x1 x2)) (st_12_0 c arg2 harg2 arg3 harg3 arg4 harg4 arg8 harg8 x0 x1 x2 xs0) :)
theorem intra_12_1 : (@kernelRun0_B.sl.r_213 Ideal _ c arg2 harg2 arg3 harg3 arg4 harg4 x0 x1 x2) = intra 1 (cutQ x0 12) (cutK x0 12) (cutA x2 12) (cutH (φ := .bf16) x1 12 1) :=
  (congr (congr (congr (congrArg (intra 1) (readQ arg2 harg2 x0 12 (by decide) inb_S1024x512_S64x256_768_0)) (readK arg2 harg2 x0 12 (by decide) inb_S1024x512_S64x256_768_256)) (readA arg4 harg4 x2 12 (by decide) inb_S1024x256_S64x256_768_0)) (readV arg3 harg3 x1 12 (by decide) 1 inb_S1024x512_S64x128_768_128) :)
theorem upd_12_1 : (@kernelRun0_B.sl.r_214 Ideal _ c arg2 harg2 arg3 harg3 arg4 harg4 x0 x1 x2) = upd 1 (cutK x0 12) (cutA x2 12) (cutH (φ := .bf16) x1 12 1) :=
  (congr (congr (congrArg (upd 1) (readK arg2 harg2 x0 12 (by decide) inb_S1024x512_S64x256_768_256)) (readA arg4 harg4 x2 12 (by decide) inb_S1024x256_S64x256_768_0)) (readV arg3 harg3 x1 12 (by decide) 1 inb_S1024x512_S64x128_768_128) :)
theorem st_13_1 : (@kernelRun0_B.sl.r_381 Ideal _ c arg2 harg2 arg3 harg3 arg4 harg4 arg8 harg8 x0 x1 x2 xs0) = ST x0 x1 x2 (slc xs0) 13 1 :=
  (congr (congr (congrArg (nxt 1) (dec_12 c arg4 harg4 x2)) (upd_12_1 c arg2 harg2 arg3 harg3 arg4 harg4 x0 x1 x2)) (st_12_1 c arg2 harg2 arg3 harg3 arg4 harg4 arg8 harg8 x0 x1 x2 xs0) :)
theorem intra_12_2 : (@kernelRun0_B.sl.r_215 Ideal _ c arg2 harg2 arg3 harg3 arg4 harg4 x0 x1 x2) = intra 2 (cutQ x0 12) (cutK x0 12) (cutA x2 12) (cutH (φ := .bf16) x1 12 2) :=
  (congr (congr (congr (congrArg (intra 2) (readQ arg2 harg2 x0 12 (by decide) inb_S1024x512_S64x256_768_0)) (readK arg2 harg2 x0 12 (by decide) inb_S1024x512_S64x256_768_256)) (readA arg4 harg4 x2 12 (by decide) inb_S1024x256_S64x256_768_0)) (readV arg3 harg3 x1 12 (by decide) 2 inb_S1024x512_S64x128_768_256) :)
theorem upd_12_2 : (@kernelRun0_B.sl.r_216 Ideal _ c arg2 harg2 arg3 harg3 arg4 harg4 x0 x1 x2) = upd 2 (cutK x0 12) (cutA x2 12) (cutH (φ := .bf16) x1 12 2) :=
  (congr (congr (congrArg (upd 2) (readK arg2 harg2 x0 12 (by decide) inb_S1024x512_S64x256_768_256)) (readA arg4 harg4 x2 12 (by decide) inb_S1024x256_S64x256_768_0)) (readV arg3 harg3 x1 12 (by decide) 2 inb_S1024x512_S64x128_768_256) :)
theorem st_13_2 : (@kernelRun0_B.sl.r_383 Ideal _ c arg2 harg2 arg3 harg3 arg4 harg4 arg8 harg8 x0 x1 x2 xs0) = ST x0 x1 x2 (slc xs0) 13 2 :=
  (congr (congr (congrArg (nxt 2) (dec_12 c arg4 harg4 x2)) (upd_12_2 c arg2 harg2 arg3 harg3 arg4 harg4 x0 x1 x2)) (st_12_2 c arg2 harg2 arg3 harg3 arg4 harg4 arg8 harg8 x0 x1 x2 xs0) :)
theorem intra_12_3 : (@kernelRun0_B.sl.r_219 Ideal _ c arg2 harg2 arg3 harg3 arg4 harg4 x0 x1 x2) = intra 3 (cutQ x0 12) (cutK x0 12) (cutA x2 12) (cutH (φ := .bf16) x1 12 3) :=
  (congr (congr (congr (congrArg (intra 3) (readQ arg2 harg2 x0 12 (by decide) inb_S1024x512_S64x256_768_0)) (readK arg2 harg2 x0 12 (by decide) inb_S1024x512_S64x256_768_256)) (readA arg4 harg4 x2 12 (by decide) inb_S1024x256_S64x256_768_0)) (readV arg3 harg3 x1 12 (by decide) 3 inb_S1024x512_S64x128_768_384) :)
theorem upd_12_3 : (@kernelRun0_B.sl.r_220 Ideal _ c arg2 harg2 arg3 harg3 arg4 harg4 x0 x1 x2) = upd 3 (cutK x0 12) (cutA x2 12) (cutH (φ := .bf16) x1 12 3) :=
  (congr (congr (congrArg (upd 3) (readK arg2 harg2 x0 12 (by decide) inb_S1024x512_S64x256_768_256)) (readA arg4 harg4 x2 12 (by decide) inb_S1024x256_S64x256_768_0)) (readV arg3 harg3 x1 12 (by decide) 3 inb_S1024x512_S64x128_768_384) :)
theorem st_13_3 : (@kernelRun0_B.sl.r_386 Ideal _ c arg2 harg2 arg3 harg3 arg4 harg4 arg8 harg8 x0 x1 x2 xs0) = ST x0 x1 x2 (slc xs0) 13 3 :=
  (congr (congr (congrArg (nxt 3) (dec_12 c arg4 harg4 x2)) (upd_12_3 c arg2 harg2 arg3 harg3 arg4 harg4 x0 x1 x2)) (st_12_3 c arg2 harg2 arg3 harg3 arg4 harg4 arg8 harg8 x0 x1 x2 xs0) :)
theorem qd_13 : (@kernelRun0_B.sl.r_222 Ideal _ c arg2 harg2 arg4 harg4 x0 x2) = qd (cutQ x0 13) (cutA x2 13) :=
  (congr (congrArg qd (readQ arg2 harg2 x0 13 (by decide) inb_S1024x512_S64x256_832_0)) (readA arg4 harg4 x2 13 (by decide) inb_S1024x256_S64x256_832_0) :)
theorem dec_13 : (@kernelRun0_B.sl.r_225 Ideal _ c arg4 harg4 x2) = dec (cutA x2 13) :=
  (congrArg dec (readA arg4 harg4 x2 13 (by decide) inb_S1024x256_S64x256_832_0) :)
theorem intra_13_0 : (@kernelRun0_B.sl.r_227 Ideal _ c arg2 harg2 arg3 harg3 arg4 harg4 x0 x1 x2) = intra 0 (cutQ x0 13) (cutK x0 13) (cutA x2 13) (cutH (φ := .bf16) x1 13 0) :=
  (congr (congr (congr (congrArg (intra 0) (readQ arg2 harg2 x0 13 (by decide) inb_S1024x512_S64x256_832_0)) (readK arg2 harg2 x0 13 (by decide) inb_S1024x512_S64x256_832_256)) (readA arg4 harg4 x2 13 (by decide) inb_S1024x256_S64x256_832_0)) (readV arg3 harg3 x1 13 (by decide) 0 inb_S1024x512_S64x128_832_0) :)
theorem upd_13_0 : (@kernelRun0_B.sl.r_229 Ideal _ c arg2 harg2 arg3 harg3 arg4 harg4 x0 x1 x2) = upd 0 (cutK x0 13) (cutA x2 13) (cutH (φ := .bf16) x1 13 0) :=
  (congr (congr (congrArg (upd 0) (readK arg2 harg2 x0 13 (by decide) inb_S1024x512_S64x256_832_256)) (readA arg4 harg4 x2 13 (by decide) inb_S1024x256_S64x256_832_0)) (readV arg3 harg3 x1 13 (by decide) 0 inb_S1024x512_S64x128_832_0) :)
theorem st_14_0 : (@kernelRun0_B.sl.r_388 Ideal _ c arg2 harg2 arg3 harg3 arg4 harg4 arg8 harg8 x0 x1 x2 xs0) = ST x0 x1 x2 (slc xs0) 14 0 :=
  (congr (congr (congrArg (nxt 0) (dec_13 c arg4 harg4 x2)) (upd_13_0 c arg2 harg2 arg3 harg3 arg4 harg4 x0 x1 x2)) (st_13_0 c arg2 harg2 arg3 harg3 arg4 harg4 arg8 harg8 x0 x1 x2 xs0) :)
theorem intra_13_1 : (@kernelRun0_B.sl.r_230 Ideal _ c arg2 harg2 arg3 harg3 arg4 harg4 x0 x1 x2) = intra 1 (cutQ x0 13) (cutK x0 13) (cutA x2 13) (cutH (φ := .bf16) x1 13 1) :=
  (congr (congr (congr (congrArg (intra 1) (readQ arg2 harg2 x0 13 (by decide) inb_S1024x512_S64x256_832_0)) (readK arg2 harg2 x0 13 (by decide) inb_S1024x512_S64x256_832_256)) (readA arg4 harg4 x2 13 (by decide) inb_S1024x256_S64x256_832_0)) (readV arg3 harg3 x1 13 (by decide) 1 inb_S1024x512_S64x128_832_128) :)
theorem upd_13_1 : (@kernelRun0_B.sl.r_231 Ideal _ c arg2 harg2 arg3 harg3 arg4 harg4 x0 x1 x2) = upd 1 (cutK x0 13) (cutA x2 13) (cutH (φ := .bf16) x1 13 1) :=
  (congr (congr (congrArg (upd 1) (readK arg2 harg2 x0 13 (by decide) inb_S1024x512_S64x256_832_256)) (readA arg4 harg4 x2 13 (by decide) inb_S1024x256_S64x256_832_0)) (readV arg3 harg3 x1 13 (by decide) 1 inb_S1024x512_S64x128_832_128) :)
theorem st_14_1 : (@kernelRun0_B.sl.r_389 Ideal _ c arg2 harg2 arg3 harg3 arg4 harg4 arg8 harg8 x0 x1 x2 xs0) = ST x0 x1 x2 (slc xs0) 14 1 :=
  (congr (congr (congrArg (nxt 1) (dec_13 c arg4 harg4 x2)) (upd_13_1 c arg2 harg2 arg3 harg3 arg4 harg4 x0 x1 x2)) (st_13_1 c arg2 harg2 arg3 harg3 arg4 harg4 arg8 harg8 x0 x1 x2 xs0) :)
theorem intra_13_2 : (@kernelRun0_B.sl.r_232 Ideal _ c arg2 harg2 arg3 harg3 arg4 harg4 x0 x1 x2) = intra 2 (cutQ x0 13) (cutK x0 13) (cutA x2 13) (cutH (φ := .bf16) x1 13 2) :=
  (congr (congr (congr (congrArg (intra 2) (readQ arg2 harg2 x0 13 (by decide) inb_S1024x512_S64x256_832_0)) (readK arg2 harg2 x0 13 (by decide) inb_S1024x512_S64x256_832_256)) (readA arg4 harg4 x2 13 (by decide) inb_S1024x256_S64x256_832_0)) (readV arg3 harg3 x1 13 (by decide) 2 inb_S1024x512_S64x128_832_256) :)
theorem upd_13_2 : (@kernelRun0_B.sl.r_233 Ideal _ c arg2 harg2 arg3 harg3 arg4 harg4 x0 x1 x2) = upd 2 (cutK x0 13) (cutA x2 13) (cutH (φ := .bf16) x1 13 2) :=
  (congr (congr (congrArg (upd 2) (readK arg2 harg2 x0 13 (by decide) inb_S1024x512_S64x256_832_256)) (readA arg4 harg4 x2 13 (by decide) inb_S1024x256_S64x256_832_0)) (readV arg3 harg3 x1 13 (by decide) 2 inb_S1024x512_S64x128_832_256) :)
theorem st_14_2 : (@kernelRun0_B.sl.r_391 Ideal _ c arg2 harg2 arg3 harg3 arg4 harg4 arg8 harg8 x0 x1 x2 xs0) = ST x0 x1 x2 (slc xs0) 14 2 :=
  (congr (congr (congrArg (nxt 2) (dec_13 c arg4 harg4 x2)) (upd_13_2 c arg2 harg2 arg3 harg3 arg4 harg4 x0 x1 x2)) (st_13_2 c arg2 harg2 arg3 harg3 arg4 harg4 arg8 harg8 x0 x1 x2 xs0) :)
theorem intra_13_3 : (@kernelRun0_B.sl.r_234 Ideal _ c arg2 harg2 arg3 harg3 arg4 harg4 x0 x1 x2) = intra 3 (cutQ x0 13) (cutK x0 13) (cutA x2 13) (cutH (φ := .bf16) x1 13 3) :=
  (congr (congr (congr (congrArg (intra 3) (readQ arg2 harg2 x0 13 (by decide) inb_S1024x512_S64x256_832_0)) (readK arg2 harg2 x0 13 (by decide) inb_S1024x512_S64x256_832_256)) (readA arg4 harg4 x2 13 (by decide) inb_S1024x256_S64x256_832_0)) (readV arg3 harg3 x1 13 (by decide) 3 inb_S1024x512_S64x128_832_384) :)
theorem upd_13_3 : (@kernelRun0_B.sl.r_235 Ideal _ c arg2 harg2 arg3 harg3 arg4 harg4 x0 x1 x2) = upd 3 (cutK x0 13) (cutA x2 13) (cutH (φ := .bf16) x1 13 3) :=
  (congr (congr (congrArg (upd 3) (readK arg2 harg2 x0 13 (by decide) inb_S1024x512_S64x256_832_256)) (readA arg4 harg4 x2 13 (by decide) inb_S1024x256_S64x256_832_0)) (readV arg3 harg3 x1 13 (by decide) 3 inb_S1024x512_S64x128_832_384) :)
theorem st_14_3 : (@kernelRun0_B.sl.r_393 Ideal _ c arg2 harg2 arg3 harg3 arg4 harg4 arg8 harg8 x0 x1 x2 xs0) = ST x0 x1 x2 (slc xs0) 14 3 :=
  (congr (congr (congrArg (nxt 3) (dec_13 c arg4 harg4 x2)) (upd_13_3 c arg2 harg2 arg3 harg3 arg4 harg4 x0 x1 x2)) (st_13_3 c arg2 harg2 arg3 harg3 arg4 harg4 arg8 harg8 x0 x1 x2 xs0) :)
theorem qd_14 : (@kernelRun0_B.sl.r_240 Ideal _ c arg2 harg2 arg4 harg4 x0 x2) = qd (cutQ x0 14) (cutA x2 14) :=
  (congr (congrArg qd (readQ arg2 harg2 x0 14 (by decide) inb_S1024x512_S64x256_896_0)) (readA arg4 harg4 x2 14 (by decide) inb_S1024x256_S64x256_896_0) :)
theorem dec_14 : (@kernelRun0_B.sl.r_243 Ideal _ c arg4 harg4 x2) = dec (cutA x2 14) :=
  (congrArg dec (readA arg4 harg4 x2 14 (by decide) inb_S1024x256_S64x256_896_0) :)
theorem intra_14_0 : (@kernelRun0_B.sl.r_244 Ideal _ c arg2 harg2 arg3 harg3 arg4 harg4 x0 x1 x2) = intra 0 (cutQ x0 14) (cutK x0 14) (cutA x2 14) (cutH (φ := .bf16) x1 14 0) :=
  (congr (congr (congr (congrArg (intra 0) (readQ arg2 harg2 x0 14 (by decide) inb_S1024x512_S64x256_896_0)) (readK arg2 harg2 x0 14 (by decide) inb_S1024x512_S64x256_896_256)) (readA arg4 harg4 x2 14 (by decide) inb_S1024x256_S64x256_896_0)) (readV arg3 harg3 x1 14 (by decide) 0 inb_S1024x512_S64x128_896_0) :)
theorem upd_14_0 : (@kernelRun0_B.sl.r_245 Ideal _ c arg2 harg2 arg3 harg3 arg4 harg4 x0 x1 x2) = upd 0 (cutK x0 14) (cutA x2 14) (cutH (φ := .bf16) x1 14 0) :=
  (congr (congr (congrArg (upd 0) (readK arg2 harg2 x0 14 (by decide) inb_S1024x512_S64x256_896_256)) (readA arg4 harg4 x2 14 (by decide) inb_S1024x256_S64x256_896_0)) (readV arg3 harg3 x1 14 (by decide) 0 inb_S1024x512_S64x128_896_0) :)
theorem st_15_0 : (@kernelRun0_B.sl.r_396 Ideal _ c arg2 harg2 arg3 harg3 arg4 harg4 arg8 harg8 x0 x1 x2 xs0) = ST x0 x1 x2 (slc xs0) 15 0 :=
  (congr (congr (congrArg (nxt 0) (dec_14 c arg4 harg4 x2)) (upd_14_0 c arg2 harg2 arg3 harg3 arg4 harg4 x0 x1 x2)) (st_14_0 c arg2 harg2 arg3 harg3 arg4 harg4 arg8 harg8 x0 x1 x2 xs0) :)
theorem intra_14_1 : (@kernelRun0_B.sl.r_246 Ideal _ c arg2 harg2 arg3 harg3 arg4 harg4 x0 x1 x2) = intra 1 (cutQ x0 14) (cutK x0 14) (cutA x2 14) (cutH (φ := .bf16) x1 14 1) :=
  (congr (congr (congr (congrArg (intra 1) (readQ arg2 harg2 x0 14 (by decide) inb_S1024x512_S64x256_896_0)) (readK arg2 harg2 x0 14 (by decide) inb_S1024x512_S64x256_896_256)) (readA arg4 harg4 x2 14 (by decide) inb_S1024x256_S64x256_896_0)) (readV arg3 harg3 x1 14 (by decide) 1 inb_S1024x512_S64x128_896_128) :)
theorem upd_14_1 : (@kernelRun0_B.sl.r_247 Ideal _ c arg2 harg2 arg3 harg3 arg4 harg4 x0 x1 x2) = upd 1 (cutK x0 14) (cutA x2 14) (cutH (φ := .bf16) x1 14 1) :=
  (congr (congr (congrArg (upd 1) (readK arg2 harg2 x0 14 (by decide) inb_S1024x512_S64x256_896_256)) (readA arg4 harg4 x2 14 (by decide) inb_S1024x256_S64x256_896_0)) (readV arg3 harg3 x1 14 (by decide) 1 inb_S1024x512_S64x128_896_128) :)
theorem st_15_1 : (@kernelRun0_B.sl.r_398 Ideal _ c arg2 harg2 arg3 harg3 arg4 harg4 arg8 harg8 x0 x1 x2 xs0) = ST x0 x1 x2 (slc xs0) 15 1 :=
  (congr (congr (congrArg (nxt 1) (dec_14 c arg4 harg4 x2)) (upd_14_1 c arg2 harg2 arg3 harg3 arg4 harg4 x0 x1 x2)) (st_14_1 c arg2 harg2 arg3 harg3 arg4 harg4 arg8 harg8 x0 x1 x2 xs0) :)
theorem intra_14_2 : (@kernelRun0_B.sl.r_248 Ideal _ c arg2 harg2 arg3 harg3 arg4 harg4 x0 x1 x2) = intra 2 (cutQ x0 14) (cutK x0 14) (cutA x2 14) (cutH (φ := .bf16) x1 14 2) :=
  (congr (congr (congr (congrArg (intra 2) (readQ arg2 harg2 x0 14 (by decide) inb_S1024x512_S64x256_896_0)) (readK arg2 harg2 x0 14 (by decide) inb_S1024x512_S64x256_896_256)) (readA arg4 harg4 x2 14 (by decide) inb_S1024x256_S64x256_896_0)) (readV arg3 harg3 x1 14 (by decide) 2 inb_S1024x512_S64x128_896_256) :)
theorem upd_14_2 : (@kernelRun0_B.sl.r_249 Ideal _ c arg2 harg2 arg3 harg3 arg4 harg4 x0 x1 x2) = upd 2 (cutK x0 14) (cutA x2 14) (cutH (φ := .bf16) x1 14 2) :=
  (congr (congr (congrArg (upd 2) (readK arg2 harg2 x0 14 (by decide) inb_S1024x512_S64x256_896_256)) (readA arg4 harg4 x2 14 (by decide) inb_S1024x256_S64x256_896_0)) (readV arg3 harg3 x1 14 (by decide) 2 inb_S1024x512_S64x128_896_256) :)
theorem st_15_2 : (@kernelRun0_B.sl.r_401 Ideal _ c arg2 harg2 arg3 harg3 arg4 harg4 arg8 harg8 x0 x1 x2 xs0) = ST x0 x1 x2 (slc xs0) 15 2 :=
  (congr (congr (congrArg (nxt 2) (dec_14 c arg4 harg4 x2)) (upd_14_2 c arg2 harg2 arg3 harg3 arg4 harg4 x0 x1 x2)) (st_14_2 c arg2 harg2 arg3 harg3 arg4 harg4 arg8 harg8 x0 x1 x2 xs0) :)
theorem intra_14_3 : (@kernelRun0_B.sl.r_250 Ideal _ c arg2 harg2 arg3 harg3 arg4 harg4 x0 x1 x2) = intra 3 (cutQ x0 14) (cutK x0 14) (cutA x2 14) (cutH (φ := .bf16) x1 14 3) :=
  (congr (congr (congr (congrArg (intra 3) (readQ arg2 harg2 x0 14 (by decide) inb_S1024x512_S64x256_896_0)) (readK arg2 harg2 x0 14 (by decide) inb_S1024x512_S64x256_896_256)) (readA arg4 harg4 x2 14 (by decide) inb_S1024x256_S64x256_896_0)) (readV arg3 harg3 x1 14 (by decide) 3 inb_S1024x512_S64x128_896_384) :)
theorem upd_14_3 : (@kernelRun0_B.sl.r_251 Ideal _ c arg2 harg2 arg3 harg3 arg4 harg4 x0 x1 x2) = upd 3 (cutK x0 14) (cutA x2 14) (cutH (φ := .bf16) x1 14 3) :=
  (congr (congr (congrArg (upd 3) (readK arg2 harg2 x0 14 (by decide) inb_S1024x512_S64x256_896_256)) (readA arg4 harg4 x2 14 (by decide) inb_S1024x256_S64x256_896_0)) (readV arg3 harg3 x1 14 (by decide) 3 inb_S1024x512_S64x128_896_384) :)
theorem st_15_3 : (@kernelRun0_B.sl.r_403 Ideal _ c arg2 harg2 arg3 harg3 arg4 harg4 arg8 harg8 x0 x1 x2 xs0) = ST x0 x1 x2 (slc xs0) 15 3 :=
  (congr (congr (congrArg (nxt 3) (dec_14 c arg4 harg4 x2)) (upd_14_3 c arg2 harg2 arg3 harg3 arg4 harg4 x0 x1 x2)) (st_14_3 c arg2 harg2 arg3 harg3 arg4 harg4 arg8 harg8 x0 x1 x2 xs0) :)
theorem qd_15 : (@kernelRun0_B.sl.r_256 Ideal _ c arg2 harg2 arg4 harg4 x0 x2) = qd (cutQ x0 15) (cutA x2 15) :=
  (congr (congrArg qd (readQ arg2 harg2 x0 15 (by decide) inb_S1024x512_S64x256_960_0)) (readA arg4 harg4 x2 15 (by decide) inb_S1024x256_S64x256_960_0) :)
theorem dec_15 : (@kernelRun0_B.sl.r_259 Ideal _ c arg4 harg4 x2) = dec (cutA x2 15) :=
  (congrArg dec (readA arg4 harg4 x2 15 (by decide) inb_S1024x256_S64x256_960_0) :)
theorem intra_15_0 : (@kernelRun0_B.sl.r_260 Ideal _ c arg2 harg2 arg3 harg3 arg4 harg4 x0 x1 x2) = intra 0 (cutQ x0 15) (cutK x0 15) (cutA x2 15) (cutH (φ := .bf16) x1 15 0) :=
  (congr (congr (congr (congrArg (intra 0) (readQ arg2 harg2 x0 15 (by decide) inb_S1024x512_S64x256_960_0)) (readK arg2 harg2 x0 15 (by decide) inb_S1024x512_S64x256_960_256)) (readA arg4 harg4 x2 15 (by decide) inb_S1024x256_S64x256_960_0)) (readV arg3 harg3 x1 15 (by decide) 0 inb_S1024x512_S64x128_960_0) :)
theorem upd_15_0 : (@kernelRun0_B.sl.r_261 Ideal _ c arg2 harg2 arg3 harg3 arg4 harg4 x0 x1 x2) = upd 0 (cutK x0 15) (cutA x2 15) (cutH (φ := .bf16) x1 15 0) :=
  (congr (congr (congrArg (upd 0) (readK arg2 harg2 x0 15 (by decide) inb_S1024x512_S64x256_960_256)) (readA arg4 harg4 x2 15 (by decide) inb_S1024x256_S64x256_960_0)) (readV arg3 harg3 x1 15 (by decide) 0 inb_S1024x512_S64x128_960_0) :)
theorem st_16_0 : (@kernelRun0_B.sl.r_404 Ideal _ c arg2 harg2 arg3 harg3 arg4 harg4 arg8 harg8 x0 x1 x2 xs0) = ST x0 x1 x2 (slc xs0) 16 0 :=
  (congr (congr (congrArg (nxt 0) (dec_15 c arg4 harg4 x2)) (upd_15_0 c arg2 harg2 arg3 harg3 arg4 harg4 x0 x1 x2)) (st_15_0 c arg2 harg2 arg3 harg3 arg4 harg4 arg8 harg8 x0 x1 x2 xs0) :)
theorem intra_15_1 : (@kernelRun0_B.sl.r_262 Ideal _ c arg2 harg2 arg3 harg3 arg4 harg4 x0 x1 x2) = intra 1 (cutQ x0 15) (cutK x0 15) (cutA x2 15) (cutH (φ := .bf16) x1 15 1) :=
  (congr (congr (congr (congrArg (intra 1) (readQ arg2 harg2 x0 15 (by decide) inb_S1024x512_S64x256_960_0)) (readK arg2 harg2 x0 15 (by decide) inb_S1024x512_S64x256_960_256)) (readA arg4 harg4 x2 15 (by decide) inb_S1024x256_S64x256_960_0)) (readV arg3 harg3 x1 15 (by decide) 1 inb_S1024x512_S64x128_960_128) :)
theorem upd_15_1 : (@kernelRun0_B.sl.r_263 Ideal _ c arg2 harg2 arg3 harg3 arg4 harg4 x0 x1 x2) = upd 1 (cutK x0 15) (cutA x2 15) (cutH (φ := .bf16) x1 15 1) :=
  (congr (congr (congrArg (upd 1) (readK arg2 harg2 x0 15 (by decide) inb_S1024x512_S64x256_960_256)) (readA arg4 harg4 x2 15 (by decide) inb_S1024x256_S64x256_960_0)) (readV arg3 harg3 x1 15 (by decide) 1 inb_S1024x512_S64x128_960_128) :)
theorem st_16_1 : (@kernelRun0_B.sl.r_407 Ideal _ c arg2 harg2 arg3 harg3 arg4 harg4 arg8 harg8 x0 x1 x2 xs0) = ST x0 x1 x2 (slc xs0) 16 1 :=
  (congr (congr (congrArg (nxt 1) (dec_15 c arg4 harg4 x2)) (upd_15_1 c arg2 harg2 arg3 harg3 arg4 harg4 x0 x1 x2)) (st_15_1 c arg2 harg2 arg3 harg3 arg4 harg4 arg8 harg8 x0 x1 x2 xs0) :)
theorem intra_15_2 : (@kernelRun0_B.sl.r_264 Ideal _ c arg2 harg2 arg3 harg3 arg4 harg4 x0 x1 x2) = intra 2 (cutQ x0 15) (cutK x0 15) (cutA x2 15) (cutH (φ := .bf16) x1 15 2) :=
  (congr (congr (congr (congrArg (intra 2) (readQ arg2 harg2 x0 15 (by decide) inb_S1024x512_S64x256_960_0)) (readK arg2 harg2 x0 15 (by decide) inb_S1024x512_S64x256_960_256)) (readA arg4 harg4 x2 15 (by decide) inb_S1024x256_S64x256_960_0)) (readV arg3 harg3 x1 15 (by decide) 2 inb_S1024x512_S64x128_960_256) :)
theorem upd_15_2 : (@kernelRun0_B.sl.r_265 Ideal _ c arg2 harg2 arg3 harg3 arg4 harg4 x0 x1 x2) = upd 2 (cutK x0 15) (cutA x2 15) (cutH (φ := .bf16) x1 15 2) :=
  (congr (congr (congrArg (upd 2) (readK arg2 harg2 x0 15 (by decide) inb_S1024x512_S64x256_960_256)) (readA arg4 harg4 x2 15 (by decide) inb_S1024x256_S64x256_960_0)) (readV arg3 harg3 x1 15 (by decide) 2 inb_S1024x512_S64x128_960_256) :)
theorem st_16_2 : (@kernelRun0_B.sl.r_409 Ideal _ c arg2 harg2 arg3 harg3 arg4 harg4 arg8 harg8 x0 x1 x2 xs0) = ST x0 x1 x2 (slc xs0) 16 2 :=
  (congr (congr (congrArg (nxt 2) (dec_15 c arg4 harg4 x2)) (upd_15_2 c arg2 harg2 arg3 harg3 arg4 harg4 x0 x1 x2)) (st_15_2 c arg2 harg2 arg3 harg3 arg4 harg4 arg8 harg8 x0 x1 x2 xs0) :)
theorem intra_15_3 : (@kernelRun0_B.sl.r_269 Ideal _ c arg2 harg2 arg3 harg3 arg4 harg4 x0 x1 x2) = intra 3 (cutQ x0 15) (cutK x0 15) (cutA x2 15) (cutH (φ := .bf16) x1 15 3) :=
  (congr (congr (congr (congrArg (intra 3) (readQ arg2 harg2 x0 15 (by decide) inb_S1024x512_S64x256_960_0)) (readK arg2 harg2 x0 15 (by decide) inb_S1024x512_S64x256_960_256)) (readA arg4 harg4 x2 15 (by decide) inb_S1024x256_S64x256_960_0)) (readV arg3 harg3 x1 15 (by decide) 3 inb_S1024x512_S64x128_960_384) :)
theorem upd_15_3 : (@kernelRun0_B.sl.r_270 Ideal _ c arg2 harg2 arg3 harg3 arg4 harg4 x0 x1 x2) = upd 3 (cutK x0 15) (cutA x2 15) (cutH (φ := .bf16) x1 15 3) :=
  (congr (congr (congrArg (upd 3) (readK arg2 harg2 x0 15 (by decide) inb_S1024x512_S64x256_960_256)) (readA arg4 harg4 x2 15 (by decide) inb_S1024x256_S64x256_960_0)) (readV arg3 harg3 x1 15 (by decide) 3 inb_S1024x512_S64x128_960_384) :)
theorem st_16_3 : (@kernelRun0_B.sl.r_412 Ideal _ c arg2 harg2 arg3 harg3 arg4 harg4 arg8 harg8 x0 x1 x2 xs0) = ST x0 x1 x2 (slc xs0) 16 3 :=
  (congr (congr (congrArg (nxt 3) (dec_15 c arg4 harg4 x2)) (upd_15_3 c arg2 harg2 arg3 harg3 arg4 harg4 x0 x1 x2)) (st_15_3 c arg2 harg2 arg3 harg3 arg4 harg4 arg8 harg8 x0 x1 x2 xs0) :)
theorem pc_15_3 : (@k0_pay482 Ideal _ (@kernelRun0_B.sl.r Ideal c arg6 harg6 x4) (@kernelRun0_B.sl.r_256 Ideal _ c arg2 harg2 arg4 harg4 x0 x2) (@kernelRun0_B.sl.r_269 Ideal _ c arg2 harg2 arg3 harg3 arg4 harg4 x0 x1 x2) (@kernelRun0_B.sl.r_403 Ideal _ c arg2 harg2 arg3 harg3 arg4 harg4 arg8 harg8 x0 x1 x2 xs0) (View.readAt (Elt Ideal) arg5.view (Rect.unit (s := S1024x512) ![960, 384] S64x128.size inb_S1024x512_S64x128_960_384).toLoadRect (harg5.unread x3))) = res x0 x1 x2 x3 x4 (slc xs0) 15 3 :=
  (congr (congr (congrArg fin (gain c arg6 harg6 x4)) (congr (congr (congrArg (osum 3) (qd_15 c arg2 harg2 arg4 harg4 x0 x2)) (intra_15_3 c arg2 harg2 arg3 harg3 arg4 harg4 x0 x1 x2)) (st_15_3 c arg2 harg2 arg3 harg3 arg4 harg4 arg8 harg8 x0 x1 x2 xs0))) (readG arg5 harg5 x3 15 (by decide) 3 inb_S1024x512_S64x128_960_384) :)
theorem pc_15_2 : (@k0_pay480 Ideal _ (@kernelRun0_B.sl.r Ideal c arg6 harg6 x4) (@kernelRun0_B.sl.r_408 Ideal _ c arg2 harg2 arg3 harg3 arg4 harg4 arg8 harg8 x0 x1 x2 xs0) (@kernelRun0_B.sl.r_410 Ideal c arg5 harg5 x3) (@kernelRun0_B.sl.r_411 Ideal _ c arg2 harg2 arg3 harg3 arg4 harg4 arg8 harg8 x0 x1 x2 xs0)) = res x0 x1 x2 x3 x4 (slc xs0) 15 2 :=
  (congr (congr (congrArg fin (gain c arg6 harg6 x4)) (congr (congr (congrArg (osum 2) (qd_15 c arg2 harg2 arg4 harg4 x0 x2)) (intra_15_2 c arg2 harg2 arg3 harg3 arg4 harg4 x0 x1 x2)) (st_15_2 c arg2 harg2 arg3 harg3 arg4 harg4 arg8 harg8 x0 x1 x2 xs0))) (readG arg5 harg5 x3 15 (by decide) 2 inb_S1024x512_S64x128_960_256) :)
theorem pc_15_1 : (@k0_pay476 Ideal _ (@kernelRun0_B.sl.r Ideal c arg6 harg6 x4) (@kernelRun0_B.sl.r_256 Ideal _ c arg2 harg2 arg4 harg4 x0 x2) (@kernelRun0_B.sl.r_262 Ideal _ c arg2 harg2 arg3 harg3 arg4 harg4 x0 x1 x2) (@kernelRun0_B.sl.r_398 Ideal _ c arg2 harg2 arg3 harg3 arg4 harg4 arg8 harg8 x0 x1 x2 xs0) (View.readAt (Elt Ideal) arg5.view (Rect.unit (s := S1024x512) ![960, 128] S64x128.size inb_S1024x512_S64x128_960_128).toLoadRect (harg5.unread x3))) = res x0 x1 x2 x3 x4 (slc xs0) 15 1 :=
  (congr (congr (congrArg fin (gain c arg6 harg6 x4)) (congr (congr (congrArg (osum 1) (qd_15 c arg2 harg2 arg4 harg4 x0 x2)) (intra_15_1 c arg2 harg2 arg3 harg3 arg4 harg4 x0 x1 x2)) (st_15_1 c arg2 harg2 arg3 harg3 arg4 harg4 arg8 harg8 x0 x1 x2 xs0))) (readG arg5 harg5 x3 15 (by decide) 1 inb_S1024x512_S64x128_960_128) :)
theorem pc_15_0 : (@k0_pay474 Ideal _ (@kernelRun0_B.sl.r_405 Ideal _ c arg2 harg2 arg3 harg3 arg4 harg4 arg6 harg6 arg8 harg8 x0 x1 x2 x4 xs0) (@kernelRun0_B.sl.r_406 Ideal _ c arg5 harg5 x3)) = res x0 x1 x2 x3 x4 (slc xs0) 15 0 :=
  (congr (congr (congrArg fin (gain c arg6 harg6 x4)) (congr (congr (congrArg (osum 0) (qd_15 c arg2 harg2 arg4 harg4 x0 x2)) (intra_15_0 c arg2 harg2 arg3 harg3 arg4 harg4 x0 x1 x2)) (st_15_0 c arg2 harg2 arg3 harg3 arg4 harg4 arg8 harg8 x0 x1 x2 xs0))) (readG arg5 harg5 x3 15 (by decide) 0 inb_S1024x512_S64x128_960_0) :)
theorem pc_14_3 : (@k0_pay470 Ideal _ (@kernelRun0_B.sl.r Ideal c arg6 harg6 x4) (@kernelRun0_B.sl.r_250 Ideal _ c arg2 harg2 arg3 harg3 arg4 harg4 x0 x1 x2) (@kernelRun0_B.sl.r_402 Ideal _ c arg2 harg2 arg3 harg3 arg4 harg4 arg8 harg8 x0 x1 x2 xs0) (View.readAt (Elt Ideal) arg5.view (Rect.unit (s := S1024x512) ![896, 384] S64x128.size inb_S1024x512_S64x128_896_384).toLoadRect (harg5.unread x3))) = res x0 x1 x2 x3 x4 (slc xs0) 14 3 :=
  (congr (congr (congrArg fin (gain c arg6 harg6 x4)) (congr (congr (congrArg (osum 3) (qd_14 c arg2 harg2 arg4 harg4 x0 x2)) (intra_14_3 c arg2 harg2 arg3 harg3 arg4 harg4 x0 x1 x2)) (st_14_3 c arg2 harg2 arg3 harg3 arg4 harg4 arg8 harg8 x0 x1 x2 xs0))) (readG arg5 harg5 x3 14 (by decide) 3 inb_S1024x512_S64x128_896_384) :)
theorem pc_14_2 : (@k0_pay467 Ideal _ (@kernelRun0_B.sl.r Ideal c arg6 harg6 x4) (@kernelRun0_B.sl.r_240 Ideal _ c arg2 harg2 arg4 harg4 x0 x2) (@kernelRun0_B.sl.r_248 Ideal _ c arg2 harg2 arg3 harg3 arg4 harg4 x0 x1 x2) (@kernelRun0_B.sl.r_391 Ideal _ c arg2 harg2 arg3 harg3 arg4 harg4 arg8 harg8 x0 x1 x2 xs0) (View.readAt (Elt Ideal) arg5.view (Rect.unit (s := S1024x512) ![896, 256] S64x128.size inb_S1024x512_S64x128_896_256).toLoadRect (harg5.unread x3))) = res x0 x1 x2 x3 x4 (slc xs0) 14 2 :=
  (congr (congr (congrArg fin (gain c arg6 harg6 x4)) (congr (congr (congrArg (osum 2) (qd_14 c arg2 harg2 arg4 harg4 x0 x2)) (intra_14_2 c arg2 harg2 arg3 harg3 arg4 harg4 x0 x1 x2)) (st_14_2 c arg2 harg2 arg3 harg3 arg4 harg4 arg8 harg8 x0 x1 x2 xs0))) (readG arg5 harg5 x3 14 (by decide) 2 inb_S1024x512_S64x128_896_256) :)
theorem pc_14_1 : (@k0_pay465 Ideal _ (@kernelRun0_B.sl.r Ideal c arg6 harg6 x4) (@kernelRun0_B.sl.r_397 Ideal _ c arg2 harg2 arg3 harg3 arg4 harg4 arg8 harg8 x0 x1 x2 xs0) (@kernelRun0_B.sl.r_399 Ideal c arg5 harg5 x3) (@kernelRun0_B.sl.r_400 Ideal _ c arg2 harg2 arg3 harg3 arg4 harg4 arg8 harg8 x0 x1 x2 xs0)) = res x0 x1 x2 x3 x4 (slc xs0) 14 1 :=
  (congr (congr (congrArg fin (gain c arg6 harg6 x4)) (congr (congr (congrArg (osum 1) (qd_14 c arg2 harg2 arg4 harg4 x0 x2)) (intra_14_1 c arg2 harg2 arg3 harg3 arg4 harg4 x0 x1 x2)) (st_14_1 c arg2 harg2 arg3 harg3 arg4 harg4 arg8 harg8 x0 x1 x2 xs0))) (readG arg5 harg5 x3 14 (by decide) 1 inb_S1024x512_S64x128_896_128) :)
theorem pc_14_0 : (@k0_pay461 Ideal _ (@kernelRun0_B.sl.r Ideal c arg6 harg6 x4) (@kernelRun0_B.sl.r_240 Ideal _ c arg2 harg2 arg4 harg4 x0 x2) (@kernelRun0_B.sl.r_244 Ideal _ c arg2 harg2 arg3 harg3 arg4 harg4 x0 x1 x2) (@kernelRun0_B.sl.r_388 Ideal _ c arg2 harg2 arg3 harg3 arg4 harg4 arg8 harg8 x0 x1 x2 xs0) (View.readAt (Elt Ideal) arg5.view (Rect.unit (s := S1024x512) ![896, 0] S64x128.size inb_S1024x512_S64x128_896_0).toLoadRect (harg5.unread x3))) = res x0 x1 x2 x3 x4 (slc xs0) 14 0 :=
  (congr (congr (congrArg fin (gain c arg6 harg6 x4)) (congr (congr (congrArg (osum 0) (qd_14 c arg2 harg2 arg4 harg4 x0 x2)) (intra_14_0 c arg2 harg2 arg3 harg3 arg4 harg4 x0 x1 x2)) (st_14_0 c arg2 harg2 arg3 harg3 arg4 harg4 arg8 harg8 x0 x1 x2 xs0))) (readG arg5 harg5 x3 14 (by decide) 0 inb_S1024x512_S64x128_896_0) :)
theorem pc_13_3 : (@k0_pay459 Ideal _ (@kernelRun0_B.sl.r Ideal c arg6 harg6 x4) (@kernelRun0_B.sl.r_392 Ideal _ c arg2 harg2 arg3 harg3 arg4 harg4 arg8 harg8 x0 x1 x2 xs0) (@kernelRun0_B.sl.r_394 Ideal c arg5 harg5 x3) (@kernelRun0_B.sl.r_395 Ideal _ c arg2 harg2 arg3 harg3 arg4 harg4 arg8 harg8 x0 x1 x2 xs0)) = res x0 x1 x2 x3 x4 (slc xs0) 13 3 :=
  (congr (congr (congrArg fin (gain c arg6 harg6 x4)) (congr (congr (congrArg (osum 3) (qd_13 c arg2 harg2 arg4 harg4 x0 x2)) (intra_13_3 c arg2 harg2 arg3 harg3 arg4 harg4 x0 x1 x2)) (st_13_3 c arg2 harg2 arg3 harg3 arg4 harg4 arg8 harg8 x0 x1 x2 xs0))) (readG arg5 harg5 x3 13 (by decide) 3 inb_S1024x512_S64x128_832_384) :)
theorem pc_13_2 : (@k0_pay455 Ideal _ (@kernelRun0_B.sl.r Ideal c arg6 harg6 x4) (@kernelRun0_B.sl.r_222 Ideal _ c arg2 harg2 arg4 harg4 x0 x2) (@kernelRun0_B.sl.r_232 Ideal _ c arg2 harg2 arg3 harg3 arg4 harg4 x0 x1 x2) (@kernelRun0_B.sl.r_383 Ideal _ c arg2 harg2 arg3 harg3 arg4 harg4 arg8 harg8 x0 x1 x2 xs0) (View.readAt (Elt Ideal) arg5.view (Rect.unit (s := S1024x512) ![832, 256] S64x128.size inb_S1024x512_S64x128_832_256).toLoadRect (harg5.unread x3))) = res x0 x1 x2 x3 x4 (slc xs0) 13 2 :=
  (congr (congr (congrArg fin (gain c arg6 harg6 x4)) (congr (congr (congrArg (osum 2) (qd_13 c arg2 harg2 arg4 harg4 x0 x2)) (intra_13_2 c arg2 harg2 arg3 harg3 arg4 harg4 x0 x1 x2)) (st_13_2 c arg2 harg2 arg3 harg3 arg4 harg4 arg8 harg8 x0 x1 x2 xs0))) (readG arg5 harg5 x3 13 (by decide) 2 inb_S1024x512_S64x128_832_256) :)
theorem pc_13_1 : (@kernelRun0_B.sl.r_390 Ideal _ c arg2 harg2 arg3 harg3 arg4 harg4 arg5 harg5 arg6 harg6 arg8 harg8 x0 x1 x2 x3 x4 xs0) = res x0 x1 x2 x3 x4 (slc xs0) 13 1 :=
  (congr (congr (congrArg fin (gain c arg6 harg6 x4)) (congr (congr (congrArg (osum 1) (qd_13 c arg2 harg2 arg4 harg4 x0 x2)) (intra_13_1 c arg2 harg2 arg3 harg3 arg4 harg4 x0 x1 x2)) (st_13_1 c arg2 harg2 arg3 harg3 arg4 harg4 arg8 harg8 x0 x1 x2 xs0))) (readG arg5 harg5 x3 13 (by decide) 1 inb_S1024x512_S64x128_832_128) :)
theorem pc_13_0 : (@k0_pay451 Ideal _ (@kernelRun0_B.sl.r Ideal c arg6 harg6 x4) (@kernelRun0_B.sl.r_387 Ideal _ c arg2 harg2 arg3 harg3 arg4 harg4 arg8 harg8 x0 x1 x2 xs0) (View.readAt (Elt Ideal) arg5.view (Rect.unit (s := S1024x512) ![832, 0] S64x128.size inb_S1024x512_S64x128_832_0).toLoadRect (harg5.unread x3))) = res x0 x1 x2 x3 x4 (slc xs0) 13 0 :=
  (congr (congr (congrArg fin (gain c arg6 harg6 x4)) (congr (congr (congrArg (osum 0) (qd_13 c arg2 harg2 arg4 harg4 x0 x2)) (intra_13_0 c arg2 harg2 arg3 harg3 arg4 harg4 x0 x1 x2)) (st_13_0 c arg2 harg2 arg3 harg3 arg4 harg4 arg8 harg8 x0 x1 x2 xs0))) (readG arg5 harg5 x3 13 (by decide) 0 inb_S1024x512_S64x128_832_0) :)
theorem pc_12_3 : (@k0_pay448 Ideal _ (@kernelRun0_B.sl.r Ideal c arg6 harg6 x4) (@kernelRun0_B.sl.r_206 Ideal _ c arg2 harg2 arg4 harg4 x0 x2) (@kernelRun0_B.sl.r_219 Ideal _ c arg2 harg2 arg3 harg3 arg4 harg4 x0 x1 x2) (@kernelRun0_B.sl.r_377 Ideal _ c arg2 harg2 arg3 harg3 arg4 harg4 arg8 harg8 x0 x1 x2 xs0) (View.readAt (Elt Ideal) arg5.view (Rect.unit (s := S1024x512) ![768, 384] S64x128.size inb_S1024x512_S64x128_768_384).toLoadRect (harg5.unread x3))) = res x0 x1 x2 x3 x4 (slc xs0) 12 3 :=
  (congr (congr (congrArg fin (gain c arg6 harg6 x4)) (congr (congr (congrArg (osum 3) (qd_12 c arg2 harg2 arg4 harg4 x0 x2)) (intra_12_3 c arg2 harg2 arg3 harg3 arg4 harg4 x0 x1 x2)) (st_12_3 c arg2 harg2 arg3 harg3 arg4 harg4 arg8 harg8 x0 x1 x2 xs0))) (readG arg5 harg5 x3 12 (by decide) 3 inb_S1024x512_S64x128_768_384) :)
theorem pc_12_2 : (@k0_pay446 Ideal _ (@kernelRun0_B.sl.r Ideal c arg6 harg6 x4) (@kernelRun0_B.sl.r_382 Ideal _ c arg2 harg2 arg3 harg3 arg4 harg4 arg8 harg8 x0 x1 x2 xs0) (@kernelRun0_B.sl.r_384 Ideal c arg5 harg5 x3) (@kernelRun0_B.sl.r_385 Ideal _ c arg2 harg2 arg3 harg3 arg4 harg4 arg8 harg8 x0 x1 x2 xs0)) = res x0 x1 x2 x3 x4 (slc xs0) 12 2 :=
  (congr (congr (congrArg fin (gain c arg6 harg6 x4)) (congr (congr (congrArg (osum 2) (qd_12 c arg2 harg2 arg4 harg4 x0 x2)) (intra_12_2 c arg2 harg2 arg3 harg3 arg4 harg4 x0 x1 x2)) (st_12_2 c arg2 harg2 arg3 harg3 arg4 harg4 arg8 harg8 x0 x1 x2 xs0))) (readG arg5 harg5 x3 12 (by decide) 2 inb_S1024x512_S64x128_768_256) :)
theorem pc_12_1 : (@k0_pay442 Ideal _ (@kernelRun0_B.sl.r Ideal c arg6 harg6 x4) (@kernelRun0_B.sl.r_206 Ideal _ c arg2 harg2 arg4 harg4 x0 x2) (@kernelRun0_B.sl.r_213 Ideal _ c arg2 harg2 arg3 harg3 arg4 harg4 x0 x1 x2) (@kernelRun0_B.sl.r_372 Ideal _ c arg2 harg2 arg3 harg3 arg4 harg4 arg8 harg8 x0 x1 x2 xs0) (View.readAt (Elt Ideal) arg5.view (Rect.unit (s := S1024x512) ![768, 128] S64x128.size inb_S1024x512_S64x128_768_128).toLoadRect (harg5.unread x3))) = res x0 x1 x2 x3 x4 (slc xs0) 12 1 :=
  (congr (congr (congrArg fin (gain c arg6 harg6 x4)) (congr (congr (congrArg (osum 1) (qd_12 c arg2 harg2 arg4 harg4 x0 x2)) (intra_12_1 c arg2 harg2 arg3 harg3 arg4 harg4 x0 x1 x2)) (st_12_1 c arg2 harg2 arg3 harg3 arg4 harg4 arg8 harg8 x0 x1 x2 xs0))) (readG arg5 harg5 x3 12 (by decide) 1 inb_S1024x512_S64x128_768_128) :)
theorem pc_12_0 : (@k0_pay440 Ideal _ (@kernelRun0_B.sl.r_379 Ideal _ c arg2 harg2 arg3 harg3 arg4 harg4 arg6 harg6 arg8 harg8 x0 x1 x2 x4 xs0) (@kernelRun0_B.sl.r_380 Ideal _ c arg5 harg5 x3)) = res x0 x1 x2 x3 x4 (slc xs0) 12 0 :=
  (congr (congr (congrArg fin (gain c arg6 harg6 x4)) (congr (congr (congrArg (osum 0) (qd_12 c arg2 harg2 arg4 harg4 x0 x2)) (intra_12_0 c arg2 harg2 arg3 harg3 arg4 harg4 x0 x1 x2)) (st_12_0 c arg2 harg2 arg3 harg3 arg4 harg4 arg8 harg8 x0 x1 x2 xs0))) (readG arg5 harg5 x3 12 (by decide) 0 inb_S1024x512_S64x128_768_0) :)
theorem pc_11_3 : (@k0_pay436 Ideal _ (@kernelRun0_B.sl.r Ideal c arg6 harg6 x4) (@kernelRun0_B.sl.r_200 Ideal _ c arg2 harg2 arg3 harg3 arg4 harg4 x0 x1 x2) (@kernelRun0_B.sl.r_376 Ideal _ c arg2 harg2 arg3 harg3 arg4 harg4 arg8 harg8 x0 x1 x2 xs0) (View.readAt (Elt Ideal) arg5.view (Rect.unit (s := S1024x512) ![704, 384] S64x128.size inb_S1024x512_S64x128_704_384).toLoadRect (harg5.unread x3))) = res x0 x1 x2 x3 x4 (slc xs0) 11 3 :=
  (congr (congr (congrArg fin (gain c arg6 harg6 x4)) (congr (congr (congrArg (osum 3) (qd_11 c arg2 harg2 arg4 harg4 x0 x2)) (intra_11_3 c arg2 harg2 arg3 harg3 arg4 harg4 x0 x1 x2)) (st_11_3 c arg2 harg2 arg3 harg3 arg4 harg4 arg8 harg8 x0 x1 x2 xs0))) (readG arg5 harg5 x3 11 (by decide) 3 inb_S1024x512_S64x128_704_384) :)
theorem pc_11_2 : (@k0_pay433 Ideal _ (@kernelRun0_B.sl.r Ideal c arg6 harg6 x4) (@kernelRun0_B.sl.r_187 Ideal _ c arg2 harg2 arg4 harg4 x0 x2) (@kernelRun0_B.sl.r_198 Ideal _ c arg2 harg2 arg3 harg3 arg4 harg4 x0 x1 x2) (@kernelRun0_B.sl.r_365 Ideal _ c arg2 harg2 arg3 harg3 arg4 harg4 arg8 harg8 x0 x1 x2 xs0) (View.readAt (Elt Ideal) arg5.view (Rect.unit (s := S1024x512) ![704, 256] S64x128.size inb_S1024x512_S64x128_704_256).toLoadRect (harg5.unread x3))) = res x0 x1 x2 x3 x4 (slc xs0) 11 2 :=
  (congr (congr (congrArg fin (gain c arg6 harg6 x4)) (congr (congr (congrArg (osum 2) (qd_11 c arg2 harg2 arg4 harg4 x0 x2)) (intra_11_2 c arg2 harg2 arg3 harg3 arg4 harg4 x0 x1 x2)) (st_11_2 c arg2 harg2 arg3 harg3 arg4 harg4 arg8 harg8 x0 x1 x2 xs0))) (readG arg5 harg5 x3 11 (by decide) 2 inb_S1024x512_S64x128_704_256) :)
theorem pc_11_1 : (@k0_pay431 Ideal _ (@kernelRun0_B.sl.r Ideal c arg6 harg6 x4) (@kernelRun0_B.sl.r_371 Ideal _ c arg2 harg2 arg3 harg3 arg4 harg4 arg8 harg8 x0 x1 x2 xs0) (@kernelRun0_B.sl.r_373 Ideal c arg5 harg5 x3) (@kernelRun0_B.sl.r_374 Ideal _ c arg2 harg2 arg3 harg3 arg4 harg4 arg8 harg8 x0 x1 x2 xs0)) = res x0 x1 x2 x3 x4 (slc xs0) 11 1 :=
  (congr (congr (congrArg fin (gain c arg6 harg6 x4)) (congr (congr (congrArg (osum 1) (qd_11 c arg2 harg2 arg4 harg4 x0 x2)) (intra_11_1 c arg2 harg2 arg3 harg3 arg4 harg4 x0 x1 x2)) (st_11_1 c arg2 harg2 arg3 harg3 arg4 harg4 arg8 harg8 x0 x1 x2 xs0))) (readG arg5 harg5 x3 11 (by decide) 1 inb_S1024x512_S64x128_704_128) :)
theorem pc_11_0 : (@k0_pay427 Ideal _ (@kernelRun0_B.sl.r Ideal c arg6 harg6 x4) (@kernelRun0_B.sl.r_187 Ideal _ c arg2 harg2 arg4 harg4 x0 x2) (@kernelRun0_B.sl.r_191 Ideal _ c arg2 harg2 arg3 harg3 arg4 harg4 x0 x1 x2) (@kernelRun0_B.sl.r_362 Ideal _ c arg2 harg2 arg3 harg3 arg4 harg4 arg8 harg8 x0 x1 x2 xs0) (View.readAt (Elt Ideal) arg5.view (Rect.unit (s := S1024x512) ![704, 0] S64x128.size inb_S1024x512_S64x128_704_0).toLoadRect (harg5.unread x3))) = res x0 x1 x2 x3 x4 (slc xs0) 11 0 :=
  (congr (congr (congrArg fin (gain c arg6 harg6 x4)) (congr (congr (congrArg (osum 0) (qd_11 c arg2 harg2 arg4 harg4 x0 x2)) (intra_11_0 c arg2 harg2 arg3 harg3 arg4 harg4 x0 x1 x2)) (st_11_0 c arg2 harg2 arg3 harg3 arg4 harg4 arg8 harg8 x0 x1 x2 xs0))) (readG arg5 harg5 x3 11 (by decide) 0 inb_S1024x512_S64x128_704_0) :)
theorem pc_10_3 : (@k0_pay425 Ideal _ (@kernelRun0_B.sl.r Ideal c arg6 harg6 x4) (@kernelRun0_B.sl.r_366 Ideal _ c arg2 harg2 arg3 harg3 arg4 harg4 arg8 harg8 x0 x1 x2 xs0) (@kernelRun0_B.sl.r_368 Ideal c arg5 harg5 x3) (@kernelRun0_B.sl.r_369 Ideal _ c arg2 harg2 arg3 harg3 arg4 harg4 arg8 harg8 x0 x1 x2 xs0)) = res x0 x1 x2 x3 x4 (slc xs0) 10 3 :=
  (congr (congr (congrArg fin (gain c arg6 harg6 x4)) (congr (congr (congrArg (osum 3) (qd_10 c arg2 harg2 arg4 harg4 x0 x2)) (intra_10_3 c arg2 harg2 arg3 harg3 arg4 harg4 x0 x1 x2)) (st_10_3 c arg2 harg2 arg3 harg3 arg4 harg4 arg8 harg8 x0 x1 x2 xs0))) (readG arg5 harg5 x3 10 (by decide) 3 inb_S1024x512_S64x128_640_384) :)
theorem pc_10_2 : (@k0_pay421 Ideal _ (@kernelRun0_B.sl.r Ideal c arg6 harg6 x4) (@kernelRun0_B.sl.r_171 Ideal _ c arg2 harg2 arg4 harg4 x0 x2) (@kernelRun0_B.sl.r_179 Ideal _ c arg2 harg2 arg3 harg3 arg4 harg4 x0 x1 x2) (@kernelRun0_B.sl.r_357 Ideal _ c arg2 harg2 arg3 harg3 arg4 harg4 arg8 harg8 x0 x1 x2 xs0) (View.readAt (Elt Ideal) arg5.view (Rect.unit (s := S1024x512) ![640, 256] S64x128.size inb_S1024x512_S64x128_640_256).toLoadRect (harg5.unread x3))) = res x0 x1 x2 x3 x4 (slc xs0) 10 2 :=
  (congr (congr (congrArg fin (gain c arg6 harg6 x4)) (congr (congr (congrArg (osum 2) (qd_10 c arg2 harg2 arg4 harg4 x0 x2)) (intra_10_2 c arg2 harg2 arg3 harg3 arg4 harg4 x0 x1 x2)) (st_10_2 c arg2 harg2 arg3 harg3 arg4 harg4 arg8 harg8 x0 x1 x2 xs0))) (readG arg5 harg5 x3 10 (by decide) 2 inb_S1024x512_S64x128_640_256) :)
theorem pc_10_1 : (@kernelRun0_B.sl.r_364 Ideal _ c arg2 harg2 arg3 harg3 arg4 harg4 arg5 harg5 arg6 harg6 arg8 harg8 x0 x1 x2 x3 x4 xs0) = res x0 x1 x2 x3 x4 (slc xs0) 10 1 :=
  (congr (congr (congrArg fin (gain c arg6 harg6 x4)) (congr (congr (congrArg (osum 1) (qd_10 c arg2 harg2 arg4 harg4 x0 x2)) (intra_10_1 c arg2 harg2 arg3 harg3 arg4 harg4 x0 x1 x2)) (st_10_1 c arg2 harg2 arg3 harg3 arg4 harg4 arg8 harg8 x0 x1 x2 xs0))) (readG arg5 harg5 x3 10 (by decide) 1 inb_S1024x512_S64x128_640_128) :)
theorem pc_10_0 : (@k0_pay417 Ideal _ (@kernelRun0_B.sl.r Ideal c arg6 harg6 x4) (@kernelRun0_B.sl.r_361 Ideal _ c arg2 harg2 arg3 harg3 arg4 harg4 arg8 harg8 x0 x1 x2 xs0) (View.readAt (Elt Ideal) arg5.view (Rect.unit (s := S1024x512) ![640, 0] S64x128.size inb_S1024x512_S64x128_640_0).toLoadRect (harg5.unread x3))) = res x0 x1 x2 x3 x4 (slc xs0) 10 0 :=
  (congr (congr (congrArg fin (gain c arg6 harg6 x4)) (congr (congr (congrArg (osum 0) (qd_10 c arg2 harg2 arg4 harg4 x0 x2)) (intra_10_0 c arg2 harg2 arg3 harg3 arg4 harg4 x0 x1 x2)) (st_10_0 c arg2 harg2 arg3 harg3 arg4 harg4 arg8 harg8 x0 x1 x2 xs0))) (readG arg5 harg5 x3 10 (by decide) 0 inb_S1024x512_S64x128_640_0) :)
theorem pc_9_3 : (@k0_pay414 Ideal _ (@kernelRun0_B.sl.r Ideal c arg6 harg6 x4) (@kernelRun0_B.sl.r_156 Ideal _ c arg2 harg2 arg4 harg4 x0 x2) (@kernelRun0_B.sl.r_168 Ideal _ c arg2 harg2 arg3 harg3 arg4 harg4 x0 x1 x2) (@kernelRun0_B.sl.r_351 Ideal _ c arg2 harg2 arg3 harg3 arg4 harg4 arg8 harg8 x0 x1 x2 xs0) (View.readAt (Elt Ideal) arg5.view (Rect.unit (s := S1024x512) ![576, 384] S64x128.size inb_S1024x512_S64x128_576_384).toLoadRect (harg5.unread x3))) = res x0 x1 x2 x3 x4 (slc xs0) 9 3 :=
  (congr (congr (congrArg fin (gain c arg6 harg6 x4)) (congr (congr (congrArg (osum 3) (qd_9 c arg2 harg2 arg4 harg4 x0 x2)) (intra_9_3 c arg2 harg2 arg3 harg3 arg4 harg4 x0 x1 x2)) (st_9_3 c arg2 harg2 arg3 harg3 arg4 harg4 arg8 harg8 x0 x1 x2 xs0))) (readG arg5 harg5 x3 9 (by decide) 3 inb_S1024x512_S64x128_576_384) :)
theorem pc_9_2 : (@k0_pay412 Ideal _ (@kernelRun0_B.sl.r Ideal c arg6 harg6 x4) (@kernelRun0_B.sl.r_356 Ideal _ c arg2 harg2 arg3 harg3 arg4 harg4 arg8 harg8 x0 x1 x2 xs0) (@kernelRun0_B.sl.r_358 Ideal c arg5 harg5 x3) (@kernelRun0_B.sl.r_359 Ideal _ c arg2 harg2 arg3 harg3 arg4 harg4 arg8 harg8 x0 x1 x2 xs0)) = res x0 x1 x2 x3 x4 (slc xs0) 9 2 :=
  (congr (congr (congrArg fin (gain c arg6 harg6 x4)) (congr (congr (congrArg (osum 2) (qd_9 c arg2 harg2 arg4 harg4 x0 x2)) (intra_9_2 c arg2 harg2 arg3 harg3 arg4 harg4 x0 x1 x2)) (st_9_2 c arg2 harg2 arg3 harg3 arg4 harg4 arg8 harg8 x0 x1 x2 xs0))) (readG arg5 harg5 x3 9 (by decide) 2 inb_S1024x512_S64x128_576_256) :)
theorem pc_9_1 : (@k0_pay408 Ideal _ (@kernelRun0_B.sl.r Ideal c arg6 harg6 x4) (@kernelRun0_B.sl.r_156 Ideal _ c arg2 harg2 arg4 harg4 x0 x2) (@kernelRun0_B.sl.r_162 Ideal _ c arg2 harg2 arg3 harg3 arg4 harg4 x0 x1 x2) (@kernelRun0_B.sl.r_346 Ideal _ c arg2 harg2 arg3 harg3 arg4 harg4 arg8 harg8 x0 x1 x2 xs0) (View.readAt (Elt Ideal) arg5.view (Rect.unit (s := S1024x512) ![576, 128] S64x128.size inb_S1024x512_S64x128_576_128).toLoadRect (harg5.unread x3))) = res x0 x1 x2 x3 x4 (slc xs0) 9 1 :=
  (congr (congr (congrArg fin (gain c arg6 harg6 x4)) (congr (congr (congrArg (osum 1) (qd_9 c arg2 harg2 arg4 harg4 x0 x2)) (intra_9_1 c arg2 harg2 arg3 harg3 arg4 harg4 x0 x1 x2)) (st_9_1 c arg2 harg2 arg3 harg3 arg4 harg4 arg8 harg8 x0 x1 x2 xs0))) (readG arg5 harg5 x3 9 (by decide) 1 inb_S1024x512_S64x128_576_128) :)
theorem pc_9_0 : (@k0_pay406 Ideal _ (@kernelRun0_B.sl.r_353 Ideal _ c arg2 harg2 arg3 harg3 arg4 harg4 arg6 harg6 arg8 harg8 x0 x1 x2 x4 xs0) (@kernelRun0_B.sl.r_354 Ideal _ c arg5 harg5 x3)) = res x0 x1 x2 x3 x4 (slc xs0) 9 0 :=
  (congr (congr (congrArg fin (gain c arg6 harg6 x4)) (congr (congr (congrArg (osum 0) (qd_9 c arg2 harg2 arg4 harg4 x0 x2)) (intra_9_0 c arg2 harg2 arg3 harg3 arg4 harg4 x0 x1 x2)) (st_9_0 c arg2 harg2 arg3 harg3 arg4 harg4 arg8 harg8 x0 x1 x2 xs0))) (readG arg5 harg5 x3 9 (by decide) 0 inb_S1024x512_S64x128_576_0) :)
theorem pc_8_3 : (@k0_pay402 Ideal _ (@kernelRun0_B.sl.r Ideal c arg6 harg6 x4) (@kernelRun0_B.sl.r_151 Ideal _ c arg2 harg2 arg3 harg3 arg4 harg4 x0 x1 x2) (@kernelRun0_B.sl.r_350 Ideal _ c arg2 harg2 arg3 harg3 arg4 harg4 arg8 harg8 x0 x1 x2 xs0) (View.readAt (Elt Ideal) arg5.view (Rect.unit (s := S1024x512) ![512, 384] S64x128.size inb_S1024x512_S64x128_512_384).toLoadRect (harg5.unread x3))) = res x0 x1 x2 x3 x4 (slc xs0) 8 3 :=
  (congr (congr (congrArg fin (gain c arg6 harg6 x4)) (congr (congr (congrArg (osum 3) (qd_8 c arg2 harg2 arg4 harg4 x0 x2)) (intra_8_3 c arg2 harg2 arg3 harg3 arg4 harg4 x0 x1 x2)) (st_8_3 c arg2 harg2 arg3 harg3 arg4 harg4 arg8 harg8 x0 x1 x2 xs0))) (readG arg5 harg5 x3 8 (by decide) 3 inb_S1024x512_S64x128_512_384) :)
theorem pc_8_2 : (@k0_pay399 Ideal _ (@kernelRun0_B.sl.r Ideal c arg6 harg6 x4) (@kernelRun0_B.sl.r_139 Ideal _ c arg2 harg2 arg4 harg4 x0 x2) (@kernelRun0_B.sl.r_149 Ideal _ c arg2 harg2 arg3 harg3 arg4 harg4 x0 x1 x2) (@kernelRun0_B.sl.r_339 Ideal _ c arg2 harg2 arg3 harg3 arg4 harg4 arg8 harg8 x0 x1 x2 xs0) (View.readAt (Elt Ideal) arg5.view (Rect.unit (s := S1024x512) ![512, 256] S64x128.size inb_S1024x512_S64x128_512_256).toLoadRect (harg5.unread x3))) = res x0 x1 x2 x3 x4 (slc xs0) 8 2 :=
  (congr (congr (congrArg fin (gain c arg6 harg6 x4)) (congr (congr (congrArg (osum 2) (qd_8 c arg2 harg2 arg4 harg4 x0 x2)) (intra_8_2 c arg2 harg2 arg3 harg3 arg4 harg4 x0 x1 x2)) (st_8_2 c arg2 harg2 arg3 harg3 arg4 harg4 arg8 harg8 x0 x1 x2 xs0))) (readG arg5 harg5 x3 8 (by decide) 2 inb_S1024x512_S64x128_512_256) :)
theorem pc_8_1 : (@k0_pay397 Ideal _ (@kernelRun0_B.sl.r Ideal c arg6 harg6 x4) (@kernelRun0_B.sl.r_345 Ideal _ c arg2 harg2 arg3 harg3 arg4 harg4 arg8 harg8 x0 x1 x2 xs0) (@kernelRun0_B.sl.r_347 Ideal c arg5 harg5 x3) (@kernelRun0_B.sl.r_348 Ideal _ c arg2 harg2 arg3 harg3 arg4 harg4 arg8 harg8 x0 x1 x2 xs0)) = res x0 x1 x2 x3 x4 (slc xs0) 8 1 :=
  (congr (congr (congrArg fin (gain c arg6 harg6 x4)) (congr (congr (congrArg (osum 1) (qd_8 c arg2 harg2 arg4 harg4 x0 x2)) (intra_8_1 c arg2 harg2 arg3 harg3 arg4 harg4 x0 x1 x2)) (st_8_1 c arg2 harg2 arg3 harg3 arg4 harg4 arg8 harg8 x0 x1 x2 xs0))) (readG arg5 harg5 x3 8 (by decide) 1 inb_S1024x512_S64x128_512_128) :)
theorem pc_8_0 : (@k0_pay393 Ideal _ (@kernelRun0_B.sl.r Ideal c arg6 harg6 x4) (@kernelRun0_B.sl.r_139 Ideal _ c arg2 harg2 arg4 harg4 x0 x2) (@kernelRun0_B.sl.r_143 Ideal _ c arg2 harg2 arg3 harg3 arg4 harg4 x0 x1 x2) (@kernelRun0_B.sl.r_336 Ideal _ c arg2 harg2 arg3 harg3 arg4 harg4 arg8 harg8 x0 x1 x2 xs0) (View.readAt (Elt Ideal) arg5.view (Rect.unit (s := S1024x512) ![512, 0] S64x128.size inb_S1024x512_S64x128_512_0).toLoadRect (harg5.unread x3))) = res x0 x1 x2 x3 x4 (slc xs0) 8 0 :=
  (congr (congr (congrArg fin (gain c arg6 harg6 x4)) (congr (congr (congrArg (osum 0) (qd_8 c arg2 harg2 arg4 harg4 x0 x2)) (intra_8_0 c arg2 harg2 arg3 harg3 arg4 harg4 x0 x1 x2)) (st_8_0 c arg2 harg2 arg3 harg3 arg4 harg4 arg8 harg8 x0 x1 x2 xs0))) (readG arg5 harg5 x3 8 (by decide) 0 inb_S1024x512_S64x128_512_0) :)
theorem pc_7_3 : (@k0_pay391 Ideal _ (@kernelRun0_B.sl.r Ideal c arg6 harg6 x4) (@kernelRun0_B.sl.r_340 Ideal _ c arg2 harg2 arg3 harg3 arg4 harg4 arg8 harg8 x0 x1 x2 xs0) (@kernelRun0_B.sl.r_342 Ideal c arg5 harg5 x3) (@kernelRun0_B.sl.r_343 Ideal _ c arg2 harg2 arg3 harg3 arg4 harg4 arg8 harg8 x0 x1 x2 xs0)) = res x0 x1 x2 x3 x4 (slc xs0) 7 3 :=
  (congr (congr (congrArg fin (gain c arg6 harg6 x4)) (congr (congr (congrArg (osum 3) (qd_7 c arg2 harg2 arg4 harg4 x0 x2)) (intra_7_3 c arg2 harg2 arg3 harg3 arg4 harg4 x0 x1 x2)) (st_7_3 c arg2 harg2 arg3 harg3 arg4 harg4 arg8 harg8 x0 x1 x2 xs0))) (readG arg5 harg5 x3 7 (by decide) 3 inb_S1024x512_S64x128_448_384) :)
theorem pc_7_2 : (@k0_pay387 Ideal _ (@kernelRun0_B.sl.r Ideal c arg6 harg6 x4) (@kernelRun0_B.sl.r_121 Ideal _ c arg2 harg2 arg4 harg4 x0 x2) (@kernelRun0_B.sl.r_132 Ideal _ c arg2 harg2 arg3 harg3 arg4 harg4 x0 x1 x2) (@kernelRun0_B.sl.r_331 Ideal _ c arg2 harg2 arg3 harg3 arg4 harg4 arg8 harg8 x0 x1 x2 xs0) (View.readAt (Elt Ideal) arg5.view (Rect.unit (s := S1024x512) ![448, 256] S64x128.size inb_S1024x512_S64x128_448_256).toLoadRect (harg5.unread x3))) = res x0 x1 x2 x3 x4 (slc xs0) 7 2 :=
  (congr (congr (congrArg fin (gain c arg6 harg6 x4)) (congr (congr (congrArg (osum 2) (qd_7 c arg2 harg2 arg4 harg4 x0 x2)) (intra_7_2 c arg2 harg2 arg3 harg3 arg4 harg4 x0 x1 x2)) (st_7_2 c arg2 harg2 arg3 harg3 arg4 harg4 arg8 harg8 x0 x1 x2 xs0))) (readG arg5 harg5 x3 7 (by decide) 2 inb_S1024x512_S64x128_448_256) :)
theorem pc_7_1 : (@kernelRun0_B.sl.r_338 Ideal _ c arg2 harg2 arg3 harg3 arg4 harg4 arg5 harg5 arg6 harg6 arg8 harg8 x0 x1 x2 x3 x4 xs0) = res x0 x1 x2 x3 x4 (slc xs0) 7 1 :=
  (congr (congr (congrArg fin (gain c arg6 harg6 x4)) (congr (congr (congrArg (osum 1) (qd_7 c arg2 harg2 arg4 harg4 x0 x2)) (intra_7_1 c arg2 harg2 arg3 harg3 arg4 harg4 x0 x1 x2)) (st_7_1 c arg2 harg2 arg3 harg3 arg4 harg4 arg8 harg8 x0 x1 x2 xs0))) (readG arg5 harg5 x3 7 (by decide) 1 inb_S1024x512_S64x128_448_128) :)
theorem pc_7_0 : (@k0_pay383 Ideal _ (@kernelRun0_B.sl.r Ideal c arg6 harg6 x4) (@kernelRun0_B.sl.r_335 Ideal _ c arg2 harg2 arg3 harg3 arg4 harg4 arg8 harg8 x0 x1 x2 xs0) (View.readAt (Elt Ideal) arg5.view (Rect.unit (s := S1024x512) ![448, 0] S64x128.size inb_S1024x512_S64x128_448_0).toLoadRect (harg5.unread x3))) = res x0 x1 x2 x3 x4 (slc xs0) 7 0 :=
  (congr (congr (congrArg fin (gain c arg6 harg6 x4)) (congr (congr (congrArg (osum 0) (qd_7 c arg2 harg2 arg4 harg4 x0 x2)) (intra_7_0 c arg2 harg2 arg3 harg3 arg4 harg4 x0 x1 x2)) (st_7_0 c arg2 harg2 arg3 harg3 arg4 harg4 arg8 harg8 x0 x1 x2 xs0))) (readG arg5 harg5 x3 7 (by decide) 0 inb_S1024x512_S64x128_448_0) :)
theorem pc_6_3 : (@k0_pay380 Ideal _ (@kernelRun0_B.sl.r Ideal c arg6 harg6 x4) (@kernelRun0_B.sl.r_105 Ideal _ c arg2 harg2 arg4 harg4 x0 x2) (@kernelRun0_B.sl.r_116 Ideal _ c arg2 harg2 arg3 harg3 arg4 harg4 x0 x1 x2) (@kernelRun0_B.sl.r_325 Ideal _ c arg2 harg2 arg3 harg3 arg4 harg4 arg8 harg8 x0 x1 x2 xs0) (View.readAt (Elt Ideal) arg5.view (Rect.unit (s := S1024x512) ![384, 384] S64x128.size inb_S1024x512_S64x128_384_384).toLoadRect (harg5.unread x3))) = res x0 x1 x2 x3 x4 (slc xs0) 6 3 :=
  (congr (congr (congrArg fin (gain c arg6 harg6 x4)) (congr (congr (congrArg (osum 3) (qd_6 c arg2 harg2 arg4 harg4 x0 x2)) (intra_6_3 c arg2 harg2 arg3 harg3 arg4 harg4 x0 x1 x2)) (st_6_3 c arg2 harg2 arg3 harg3 arg4 harg4 arg8 harg8 x0 x1 x2 xs0))) (readG arg5 harg5 x3 6 (by decide) 3 inb_S1024x512_S64x128_384_384) :)
theorem pc_6_2 : (@k0_pay378 Ideal _ (@kernelRun0_B.sl.r Ideal c arg6 harg6 x4) (@kernelRun0_B.sl.r_330 Ideal _ c arg2 harg2 arg3 harg3 arg4 harg4 arg8 harg8 x0 x1 x2 xs0) (@kernelRun0_B.sl.r_332 Ideal c arg5 harg5 x3) (@kernelRun0_B.sl.r_333 Ideal _ c arg2 harg2 arg3 harg3 arg4 harg4 arg8 harg8 x0 x1 x2 xs0)) = res x0 x1 x2 x3 x4 (slc xs0) 6 2 :=
  (congr (congr (congrArg fin (gain c arg6 harg6 x4)) (congr (congr (congrArg (osum 2) (qd_6 c arg2 harg2 arg4 harg4 x0 x2)) (intra_6_2 c arg2 harg2 arg3 harg3 arg4 harg4 x0 x1 x2)) (st_6_2 c arg2 harg2 arg3 harg3 arg4 harg4 arg8 harg8 x0 x1 x2 xs0))) (readG arg5 harg5 x3 6 (by decide) 2 inb_S1024x512_S64x128_384_256) :)
theorem pc_6_1 : (@k0_pay374 Ideal _ (@kernelRun0_B.sl.r Ideal c arg6 harg6 x4) (@kernelRun0_B.sl.r_105 Ideal _ c arg2 harg2 arg4 harg4 x0 x2) (@kernelRun0_B.sl.r_111 Ideal _ c arg2 harg2 arg3 harg3 arg4 harg4 x0 x1 x2) (@kernelRun0_B.sl.r_320 Ideal _ c arg2 harg2 arg3 harg3 arg4 harg4 arg8 harg8 x0 x1 x2 xs0) (View.readAt (Elt Ideal) arg5.view (Rect.unit (s := S1024x512) ![384, 128] S64x128.size inb_S1024x512_S64x128_384_128).toLoadRect (harg5.unread x3))) = res x0 x1 x2 x3 x4 (slc xs0) 6 1 :=
  (congr (congr (congrArg fin (gain c arg6 harg6 x4)) (congr (congr (congrArg (osum 1) (qd_6 c arg2 harg2 arg4 harg4 x0 x2)) (intra_6_1 c arg2 harg2 arg3 harg3 arg4 harg4 x0 x1 x2)) (st_6_1 c arg2 harg2 arg3 harg3 arg4 harg4 arg8 harg8 x0 x1 x2 xs0))) (readG arg5 harg5 x3 6 (by decide) 1 inb_S1024x512_S64x128_384_128) :)
theorem pc_6_0 : (@k0_pay372 Ideal _ (@kernelRun0_B.sl.r_327 Ideal _ c arg2 harg2 arg3 harg3 arg4 harg4 arg6 harg6 arg8 harg8 x0 x1 x2 x4 xs0) (@kernelRun0_B.sl.r_328 Ideal _ c arg5 harg5 x3)) = res x0 x1 x2 x3 x4 (slc xs0) 6 0 :=
  (congr (congr (congrArg fin (gain c arg6 harg6 x4)) (congr (congr (congrArg (osum 0) (qd_6 c arg2 harg2 arg4 harg4 x0 x2)) (intra_6_0 c arg2 harg2 arg3 harg3 arg4 harg4 x0 x1 x2)) (st_6_0 c arg2 harg2 arg3 harg3 arg4 harg4 arg8 harg8 x0 x1 x2 xs0))) (readG arg5 harg5 x3 6 (by decide) 0 inb_S1024x512_S64x128_384_0) :)
theorem pc_5_3 : (@k0_pay368 Ideal _ (@kernelRun0_B.sl.r Ideal c arg6 harg6 x4) (@kernelRun0_B.sl.r_102 Ideal _ c arg2 harg2 arg3 harg3 arg4 harg4 x0 x1 x2) (@kernelRun0_B.sl.r_324 Ideal _ c arg2 harg2 arg3 harg3 arg4 harg4 arg8 harg8 x0 x1 x2 xs0) (View.readAt (Elt Ideal) arg5.view (Rect.unit (s := S1024x512) ![320, 384] S64x128.size inb_S1024x512_S64x128_320_384).toLoadRect (harg5.unread x3))) = res x0 x1 x2 x3 x4 (slc xs0) 5 3 :=
  (congr (congr (congrArg fin (gain c arg6 harg6 x4)) (congr (congr (congrArg (osum 3) (qd_5 c arg2 harg2 arg4 harg4 x0 x2)) (intra_5_3 c arg2 harg2 arg3 harg3 arg4 harg4 x0 x1 x2)) (st_5_3 c arg2 harg2 arg3 harg3 arg4 harg4 arg8 harg8 x0 x1 x2 xs0))) (readG arg5 harg5 x3 5 (by decide) 3 inb_S1024x512_S64x128_320_384) :)
theorem pc_5_2 : (@k0_pay365 Ideal _ (@kernelRun0_B.sl.r Ideal c arg6 harg6 x4) (@kernelRun0_B.sl.r_90 Ideal _ c arg2 harg2 arg4 harg4 x0 x2) (@kernelRun0_B.sl.r_100 Ideal _ c arg2 harg2 arg3 harg3 arg4 harg4 x0 x1 x2) (@kernelRun0_B.sl.r_313 Ideal _ c arg2 harg2 arg3 harg3 arg4 harg4 arg8 harg8 x0 x1 x2 xs0) (View.readAt (Elt Ideal) arg5.view (Rect.unit (s := S1024x512) ![320, 256] S64x128.size inb_S1024x512_S64x128_320_256).toLoadRect (harg5.unread x3))) = res x0 x1 x2 x3 x4 (slc xs0) 5 2 :=
  (congr (congr (congrArg fin (gain c arg6 harg6 x4)) (congr (congr (congrArg (osum 2) (qd_5 c arg2 harg2 arg4 harg4 x0 x2)) (intra_5_2 c arg2 harg2 arg3 harg3 arg4 harg4 x0 x1 x2)) (st_5_2 c arg2 harg2 arg3 harg3 arg4 harg4 arg8 harg8 x0 x1 x2 xs0))) (readG arg5 harg5 x3 5 (by decide) 2 inb_S1024x512_S64x128_320_256) :)
theorem pc_5_1 : (@k0_pay363 Ideal _ (@kernelRun0_B.sl.r Ideal c arg6 harg6 x4) (@kernelRun0_B.sl.r_319 Ideal _ c arg2 harg2 arg3 harg3 arg4 harg4 arg8 harg8 x0 x1 x2 xs0) (@kernelRun0_B.sl.r_321 Ideal c arg5 harg5 x3) (@kernelRun0_B.sl.r_322 Ideal _ c arg2 harg2 arg3 harg3 arg4 harg4 arg8 harg8 x0 x1 x2 xs0)) = res x0 x1 x2 x3 x4 (slc xs0) 5 1 :=
  (congr (congr (congrArg fin (gain c arg6 harg6 x4)) (congr (congr (congrArg (osum 1) (qd_5 c arg2 harg2 arg4 harg4 x0 x2)) (intra_5_1 c arg2 harg2 arg3 harg3 arg4 harg4 x0 x1 x2)) (st_5_1 c arg2 harg2 arg3 harg3 arg4 harg4 arg8 harg8 x0 x1 x2 xs0))) (readG arg5 harg5 x3 5 (by decide) 1 inb_S1024x512_S64x128_320_128) :)
theorem pc_5_0 : (@k0_pay359 Ideal _ (@kernelRun0_B.sl.r Ideal c arg6 harg6 x4) (@kernelRun0_B.sl.r_90 Ideal _ c arg2 harg2 arg4 harg4 x0 x2) (@kernelRun0_B.sl.r_94 Ideal _ c arg2 harg2 arg3 harg3 arg4 harg4 x0 x1 x2) (@kernelRun0_B.sl.r_310 Ideal _ c arg2 harg2 arg3 harg3 arg4 harg4 arg8 harg8 x0 x1 x2 xs0) (View.readAt (Elt Ideal) arg5.view (Rect.unit (s := S1024x512) ![320, 0] S64x128.size inb_S1024x512_S64x128_320_0).toLoadRect (harg5.unread x3))) = res x0 x1 x2 x3 x4 (slc xs0) 5 0 :=
  (congr (congr (congrArg fin (gain c arg6 harg6 x4)) (congr (congr (congrArg (osum 0) (qd_5 c arg2 harg2 arg4 harg4 x0 x2)) (intra_5_0 c arg2 harg2 arg3 harg3 arg4 harg4 x0 x1 x2)) (st_5_0 c arg2 harg2 arg3 harg3 arg4 harg4 arg8 harg8 x0 x1 x2 xs0))) (readG arg5 harg5 x3 5 (by decide) 0 inb_S1024x512_S64x128_320_0) :)
theorem pc_4_3 : (@k0_pay357 Ideal _ (@kernelRun0_B.sl.r Ideal c arg6 harg6 x4) (@kernelRun0_B.sl.r_314 Ideal _ c arg2 harg2 arg3 harg3 arg4 harg4 arg8 harg8 x0 x1 x2 xs0) (@kernelRun0_B.sl.r_316 Ideal c arg5 harg5 x3) (@kernelRun0_B.sl.r_317 Ideal _ c arg2 harg2 arg3 harg3 arg4 harg4 arg8 harg8 x0 x1 x2 xs0)) = res x0 x1 x2 x3 x4 (slc xs0) 4 3 :=
  (congr (congr (congrArg fin (gain c arg6 harg6 x4)) (congr (congr (congrArg (osum 3) (qd_4 c arg2 harg2 arg4 harg4 x0 x2)) (intra_4_3 c arg2 harg2 arg3 harg3 arg4 harg4 x0 x1 x2)) (st_4_3 c arg2 harg2 arg3 harg3 arg4 harg4 arg8 harg8 x0 x1 x2 xs0))) (readG arg5 harg5 x3 4 (by decide) 3 inb_S1024x512_S64x128_256_384) :)
theorem pc_4_2 : (@k0_pay353 Ideal _ (@kernelRun0_B.sl.r Ideal c arg6 harg6 x4) (@kernelRun0_B.sl.r_72 Ideal _ c arg2 harg2 arg4 harg4 x0 x2) (@kernelRun0_B.sl.r_82 Ideal _ c arg2 harg2 arg3 harg3 arg4 harg4 x0 x1 x2) (@kernelRun0_B.sl.r_305 Ideal _ c arg2 harg2 arg3 harg3 arg4 harg4 arg8 harg8 x0 x1 x2 xs0) (View.readAt (Elt Ideal) arg5.view (Rect.unit (s := S1024x512) ![256, 256] S64x128.size inb_S1024x512_S64x128_256_256).toLoadRect (harg5.unread x3))) = res x0 x1 x2 x3 x4 (slc xs0) 4 2 :=
  (congr (congr (congrArg fin (gain c arg6 harg6 x4)) (congr (congr (congrArg (osum 2) (qd_4 c arg2 harg2 arg4 harg4 x0 x2)) (intra_4_2 c arg2 harg2 arg3 harg3 arg4 harg4 x0 x1 x2)) (st_4_2 c arg2 harg2 arg3 harg3 arg4 harg4 arg8 harg8 x0 x1 x2 xs0))) (readG arg5 harg5 x3 4 (by decide) 2 inb_S1024x512_S64x128_256_256) :)
theorem pc_4_1 : (@kernelRun0_B.sl.r_312 Ideal _ c arg2 harg2 arg3 harg3 arg4 harg4 arg5 harg5 arg6 harg6 arg8 harg8 x0 x1 x2 x3 x4 xs0) = res x0 x1 x2 x3 x4 (slc xs0) 4 1 :=
  (congr (congr (congrArg fin (gain c arg6 harg6 x4)) (congr (congr (congrArg (osum 1) (qd_4 c arg2 harg2 arg4 harg4 x0 x2)) (intra_4_1 c arg2 harg2 arg3 harg3 arg4 harg4 x0 x1 x2)) (st_4_1 c arg2 harg2 arg3 harg3 arg4 harg4 arg8 harg8 x0 x1 x2 xs0))) (readG arg5 harg5 x3 4 (by decide) 1 inb_S1024x512_S64x128_256_128) :)
theorem pc_4_0 : (@k0_pay349 Ideal _ (@kernelRun0_B.sl.r Ideal c arg6 harg6 x4) (@kernelRun0_B.sl.r_309 Ideal _ c arg2 harg2 arg3 harg3 arg4 harg4 arg8 harg8 x0 x1 x2 xs0) (View.readAt (Elt Ideal) arg5.view (Rect.unit (s := S1024x512) ![256, 0] S64x128.size inb_S1024x512_S64x128_256_0).toLoadRect (harg5.unread x3))) = res x0 x1 x2 x3 x4 (slc xs0) 4 0 :=
  (congr (congr (congrArg fin (gain c arg6 harg6 x4)) (congr (congr (congrArg (osum 0) (qd_4 c arg2 harg2 arg4 harg4 x0 x2)) (intra_4_0 c arg2 harg2 arg3 harg3 arg4 harg4 x0 x1 x2)) (st_4_0 c arg2 harg2 arg3 harg3 arg4 harg4 arg8 harg8 x0 x1 x2 xs0))) (readG arg5 harg5 x3 4 (by decide) 0 inb_S1024x512_S64x128_256_0) :)
theorem pc_3_3 : (@k0_pay346 Ideal _ (@kernelRun0_B.sl.r Ideal c arg6 harg6 x4) (@kernelRun0_B.sl.r_55 Ideal _ c arg2 harg2 arg4 harg4 x0 x2) (@kernelRun0_B.sl.r_68 Ideal _ c arg2 harg2 arg3 harg3 arg4 harg4 x0 x1 x2) (@kernelRun0_B.sl.r_299 Ideal _ c arg2 harg2 arg3 harg3 arg4 harg4 arg8 harg8 x0 x1 x2 xs0) (View.readAt (Elt Ideal) arg5.view (Rect.unit (s := S1024x512) ![192, 384] S64x128.size inb_S1024x512_S64x128_192_384).toLoadRect (harg5.unread x3))) = res x0 x1 x2 x3 x4 (slc xs0) 3 3 :=
  (congr (congr (congrArg fin (gain c arg6 harg6 x4)) (congr (congr (congrArg (osum 3) (qd_3 c arg2 harg2 arg4 harg4 x0 x2)) (intra_3_3 c arg2 harg2 arg3 harg3 arg4 harg4 x0 x1 x2)) (st_3_3 c arg2 harg2 arg3 harg3 arg4 harg4 arg8 harg8 x0 x1 x2 xs0))) (readG arg5 harg5 x3 3 (by decide) 3 inb_S1024x512_S64x128_192_384) :)
theorem pc_3_2 : (@k0_pay344 Ideal _ (@kernelRun0_B.sl.r Ideal c arg6 harg6 x4) (@kernelRun0_B.sl.r_304 Ideal _ c arg2 harg2 arg3 harg3 arg4 harg4 arg8 harg8 x0 x1 x2 xs0) (@kernelRun0_B.sl.r_306 Ideal c arg5 harg5 x3) (@kernelRun0_B.sl.r_307 Ideal _ c arg2 harg2 arg3 harg3 arg4 harg4 arg8 harg8 x0 x1 x2 xs0)) = res x0 x1 x2 x3 x4 (slc xs0) 3 2 :=
  (congr (congr (congrArg fin (gain c arg6 harg6 x4)) (congr (congr (congrArg (osum 2) (qd_3 c arg2 harg2 arg4 harg4 x0 x2)) (intra_3_2 c arg2 harg2 arg3 harg3 arg4 harg4 x0 x1 x2)) (st_3_2 c arg2 harg2 arg3 harg3 arg4 harg4 arg8 harg8 x0 x1 x2 xs0))) (readG arg5 harg5 x3 3 (by decide) 2 inb_S1024x512_S64x128_192_256) :)
theorem pc_3_1 : (@k0_pay340 Ideal _ (@kernelRun0_B.sl.r Ideal c arg6 harg6 x4) (@kernelRun0_B.sl.r_55 Ideal _ c arg2 harg2 arg4 harg4 x0 x2) (@kernelRun0_B.sl.r_64 Ideal _ c arg2 harg2 arg3 harg3 arg4 harg4 x0 x1 x2) (@kernelRun0_B.sl.r_294 Ideal _ c arg2 harg2 arg3 harg3 arg4 harg4 arg8 harg8 x0 x1 x2 xs0) (View.readAt (Elt Ideal) arg5.view (Rect.unit (s := S1024x512) ![192, 128] S64x128.size inb_S1024x512_S64x128_192_128).toLoadRect (harg5.unread x3))) = res x0 x1 x2 x3 x4 (slc xs0) 3 1 :=
  (congr (congr (congrArg fin (gain c arg6 harg6 x4)) (congr (congr (congrArg (osum 1) (qd_3 c arg2 harg2 arg4 harg4 x0 x2)) (intra_3_1 c arg2 harg2 arg3 harg3 arg4 harg4 x0 x1 x2)) (st_3_1 c arg2 harg2 arg3 harg3 arg4 harg4 arg8 harg8 x0 x1 x2 xs0))) (readG arg5 harg5 x3 3 (by decide) 1 inb_S1024x512_S64x128_192_128) :)
theorem pc_3_0 : (@k0_pay338 Ideal _ (@kernelRun0_B.sl.r_301 Ideal _ c arg2 harg2 arg3 harg3 arg4 harg4 arg6 harg6 arg8 harg8 x0 x1 x2 x4 xs0) (@kernelRun0_B.sl.r_302 Ideal _ c arg5 harg5 x3)) = res x0 x1 x2 x3 x4 (slc xs0) 3 0 :=
  (congr (congr (congrArg fin (gain c arg6 harg6 x4)) (congr (congr (congrArg (osum 0) (qd_3 c arg2 harg2 arg4 harg4 x0 x2)) (intra_3_0 c arg2 harg2 arg3 harg3 arg4 harg4 x0 x1 x2)) (st_3_0 c arg2 harg2 arg3 harg3 arg4 harg4 arg8 harg8 x0 x1 x2 xs0))) (readG arg5 harg5 x3 3 (by decide) 0 inb_S1024x512_S64x128_192_0) :)
theorem pc_2_3 : (@k0_pay334 Ideal _ (@kernelRun0_B.sl.r Ideal c arg6 harg6 x4) (@kernelRun0_B.sl.r_52 Ideal _ c arg2 harg2 arg3 harg3 arg4 harg4 x0 x1 x2) (@kernelRun0_B.sl.r_298 Ideal _ c arg2 harg2 arg3 harg3 arg4 harg4 arg8 harg8 x0 x1 x2 xs0) (View.readAt (Elt Ideal) arg5.view (Rect.unit (s := S1024x512) ![128, 384] S64x128.size inb_S1024x512_S64x128_128_384).toLoadRect (harg5.unread x3))) = res x0 x1 x2 x3 x4 (slc xs0) 2 3 :=
  (congr (congr (congrArg fin (gain c arg6 harg6 x4)) (congr (congr (congrArg (osum 3) (qd_2 c arg2 harg2 arg4 harg4 x0 x2)) (intra_2_3 c arg2 harg2 arg3 harg3 arg4 harg4 x0 x1 x2)) (st_2_3 c arg2 harg2 arg3 harg3 arg4 harg4 arg8 harg8 x0 x1 x2 xs0))) (readG arg5 harg5 x3 2 (by decide) 3 inb_S1024x512_S64x128_128_384) :)
theorem pc_2_2 : (@k0_pay331 Ideal _ (@kernelRun0_B.sl.r Ideal c arg6 harg6 x4) (@kernelRun0_B.sl.r_40 Ideal _ c arg2 harg2 arg4 harg4 x0 x2) (@kernelRun0_B.sl.r_49 Ideal _ c arg2 harg2 arg3 harg3 arg4 harg4 x0 x1 x2) (@kernelRun0_B.sl.r_287 Ideal _ c arg2 harg2 arg3 harg3 arg4 harg4 arg8 harg8 x0 x1 x2 xs0) (View.readAt (Elt Ideal) arg5.view (Rect.unit (s := S1024x512) ![128, 256] S64x128.size inb_S1024x512_S64x128_128_256).toLoadRect (harg5.unread x3))) = res x0 x1 x2 x3 x4 (slc xs0) 2 2 :=
  (congr (congr (congrArg fin (gain c arg6 harg6 x4)) (congr (congr (congrArg (osum 2) (qd_2 c arg2 harg2 arg4 harg4 x0 x2)) (intra_2_2 c arg2 harg2 arg3 harg3 arg4 harg4 x0 x1 x2)) (st_2_2 c arg2 harg2 arg3 harg3 arg4 harg4 arg8 harg8 x0 x1 x2 xs0))) (readG arg5 harg5 x3 2 (by decide) 2 inb_S1024x512_S64x128_128_256) :)
theorem pc_2_1 : (@k0_pay329 Ideal _ (@kernelRun0_B.sl.r Ideal c arg6 harg6 x4) (@kernelRun0_B.sl.r_293 Ideal _ c arg2 harg2 arg3 harg3 arg4 harg4 arg8 harg8 x0 x1 x2 xs0) (@kernelRun0_B.sl.r_295 Ideal c arg5 harg5 x3) (@kernelRun0_B.sl.r_296 Ideal _ c arg2 harg2 arg3 harg3 arg4 harg4 arg8 harg8 x0 x1 x2 xs0)) = res x0 x1 x2 x3 x4 (slc xs0) 2 1 :=
  (congr (congr (congrArg fin (gain c arg6 harg6 x4)) (congr (congr (congrArg (osum 1) (qd_2 c arg2 harg2 arg4 harg4 x0 x2)) (intra_2_1 c arg2 harg2 arg3 harg3 arg4 harg4 x0 x1 x2)) (st_2_1 c arg2 harg2 arg3 harg3 arg4 harg4 arg8 harg8 x0 x1 x2 xs0))) (readG arg5 harg5 x3 2 (by decide) 1 inb_S1024x512_S64x128_128_128) :)
theorem pc_2_0 : (@k0_pay325 Ideal _ (@kernelRun0_B.sl.r Ideal c arg6 harg6 x4) (@kernelRun0_B.sl.r_40 Ideal _ c arg2 harg2 arg4 harg4 x0 x2) (@kernelRun0_B.sl.r_44 Ideal _ c arg2 harg2 arg3 harg3 arg4 harg4 x0 x1 x2) (@kernelRun0_B.sl.r_284 Ideal _ c arg2 harg2 arg3 harg3 arg4 harg4 arg8 harg8 x0 x1 x2 xs0) (View.readAt (Elt Ideal) arg5.view (Rect.unit (s := S1024x512) ![128, 0] S64x128.size inb_S1024x512_S64x128_128_0).toLoadRect (harg5.unread x3))) = res x0 x1 x2 x3 x4 (slc xs0) 2 0 :=
  (congr (congr (congrArg fin (gain c arg6 harg6 x4)) (congr (congr (congrArg (osum 0) (qd_2 c arg2 harg2 arg4 harg4 x0 x2)) (intra_2_0 c arg2 harg2 arg3 harg3 arg4 harg4 x0 x1 x2)) (st_2_0 c arg2 harg2 arg3 harg3 arg4 harg4 arg8 harg8 x0 x1 x2 xs0))) (readG arg5 harg5 x3 2 (by decide) 0 inb_S1024x512_S64x128_128_0) :)
theorem pc_1_3 : (@k0_pay323 Ideal _ (@kernelRun0_B.sl.r Ideal c arg6 harg6 x4) (@kernelRun0_B.sl.r_288 Ideal _ c arg2 harg2 arg3 harg3 arg4 harg4 arg8 harg8 x0 x1 x2 xs0) (@kernelRun0_B.sl.r_290 Ideal c arg5 harg5 x3) (@kernelRun0_B.sl.r_291 Ideal _ c arg2 harg2 arg3 harg3 arg4 harg4 arg8 harg8 x0 x1 x2 xs0)) = res x0 x1 x2 x3 x4 (slc xs0) 1 3 :=
  (congr (congr (congrArg fin (gain c arg6 harg6 x4)) (congr (congr (congrArg (osum 3) (qd_1 c arg2 harg2 arg4 harg4 x0 x2)) (intra_1_3 c arg2 harg2 arg3 harg3 arg4 harg4 x0 x1 x2)) (st_1_3 c arg2 harg2 arg3 harg3 arg4 harg4 arg8 harg8 x0 x1 x2 xs0))) (readG arg5 harg5 x3 1 (by decide) 3 inb_S1024x512_S64x128_64_384) :)
theorem pc_1_2 : (@k0_pay319 Ideal _ (@kernelRun0_B.sl.r Ideal c arg6 harg6 x4) (@kernelRun0_B.sl.r_19 Ideal _ c arg2 harg2 arg4 harg4 x0 x2) (@kernelRun0_B.sl.r_29 Ideal _ c arg2 harg2 arg3 harg3 arg4 harg4 x0 x1 x2) (@kernelRun0_B.sl.r_279 Ideal _ c arg2 harg2 arg3 harg3 arg4 harg4 arg8 harg8 x0 x1 x2 xs0) (View.readAt (Elt Ideal) arg5.view (Rect.unit (s := S1024x512) ![64, 256] S64x128.size inb_S1024x512_S64x128_64_256).toLoadRect (harg5.unread x3))) = res x0 x1 x2 x3 x4 (slc xs0) 1 2 :=
  (congr (congr (congrArg fin (gain c arg6 harg6 x4)) (congr (congr (congrArg (osum 2) (qd_1 c arg2 harg2 arg4 harg4 x0 x2)) (intra_1_2 c arg2 harg2 arg3 harg3 arg4 harg4 x0 x1 x2)) (st_1_2 c arg2 harg2 arg3 harg3 arg4 harg4 arg8 harg8 x0 x1 x2 xs0))) (readG arg5 harg5 x3 1 (by decide) 2 inb_S1024x512_S64x128_64_256) :)
theorem pc_1_1 : (@kernelRun0_B.sl.r_286 Ideal _ c arg2 harg2 arg3 harg3 arg4 harg4 arg5 harg5 arg6 harg6 arg8 harg8 x0 x1 x2 x3 x4 xs0) = res x0 x1 x2 x3 x4 (slc xs0) 1 1 :=
  (congr (congr (congrArg fin (gain c arg6 harg6 x4)) (congr (congr (congrArg (osum 1) (qd_1 c arg2 harg2 arg4 harg4 x0 x2)) (intra_1_1 c arg2 harg2 arg3 harg3 arg4 harg4 x0 x1 x2)) (st_1_1 c arg2 harg2 arg3 harg3 arg4 harg4 arg8 harg8 x0 x1 x2 xs0))) (readG arg5 harg5 x3 1 (by decide) 1 inb_S1024x512_S64x128_64_128) :)
theorem pc_1_0 : (@k0_pay315 Ideal _ (@kernelRun0_B.sl.r Ideal c arg6 harg6 x4) (@kernelRun0_B.sl.r_283 Ideal _ c arg2 harg2 arg3 harg3 arg4 harg4 arg8 harg8 x0 x1 x2 xs0) (View.readAt (Elt Ideal) arg5.view (Rect.unit (s := S1024x512) ![64, 0] S64x128.size inb_S1024x512_S64x128_64_0).toLoadRect (harg5.unread x3))) = res x0 x1 x2 x3 x4 (slc xs0) 1 0 :=
  (congr (congr (congrArg fin (gain c arg6 harg6 x4)) (congr (congr (congrArg (osum 0) (qd_1 c arg2 harg2 arg4 harg4 x0 x2)) (intra_1_0 c arg2 harg2 arg3 harg3 arg4 harg4 x0 x1 x2)) (st_1_0 c arg2 harg2 arg3 harg3 arg4 harg4 arg8 harg8 x0 x1 x2 xs0))) (readG arg5 harg5 x3 1 (by decide) 0 inb_S1024x512_S64x128_64_0) :)
theorem pc_0_3 : (@k0_pay312 Ideal _ (@kernelRun0_B.sl.r Ideal c arg6 harg6 x4) (@kernelRun0_B.sl.r_3 Ideal _ c arg2 harg2 arg4 harg4 x0 x2) (@kernelRun0_B.sl.r_15 Ideal _ c arg2 harg2 arg3 harg3 arg4 harg4 x0 x1 x2) (@kernelRun0_B.sl.r_273 Ideal c arg8 harg8 xs0) (View.readAt (Elt Ideal) arg5.view (Rect.unit (s := S1024x512) ![0, 384] S64x128.size inb_S1024x512_S64x128_0_384).toLoadRect (harg5.unread x3))) = res x0 x1 x2 x3 x4 (slc xs0) 0 3 :=
  (congr (congr (congrArg fin (gain c arg6 harg6 x4)) (congr (congr (congrArg (osum 3) (qd_0 c arg2 harg2 arg4 harg4 x0 x2)) (intra_0_3 c arg2 harg2 arg3 harg3 arg4 harg4 x0 x1 x2)) (st_0_3 c arg8 harg8 xs0))) (readG arg5 harg5 x3 0 (by decide) 3 inb_S1024x512_S64x128_0_384) :)
theorem pc_0_2 : (@k0_pay310 Ideal _ (@kernelRun0_B.sl.r Ideal c arg6 harg6 x4) (@kernelRun0_B.sl.r_278 Ideal _ c arg2 harg2 arg3 harg3 arg4 harg4 arg8 harg8 x0 x1 x2 xs0) (@kernelRun0_B.sl.r_280 Ideal c arg5 harg5 x3) (@kernelRun0_B.sl.r_281 Ideal _ c arg2 harg2 arg3 harg3 arg4 harg4 arg8 harg8 x0 x1 x2 xs0)) = res x0 x1 x2 x3 x4 (slc xs0) 0 2 :=
  (congr (congr (congrArg fin (gain c arg6 harg6 x4)) (congr (congr (congrArg (osum 2) (qd_0 c arg2 harg2 arg4 harg4 x0 x2)) (intra_0_2 c arg2 harg2 arg3 harg3 arg4 harg4 x0 x1 x2)) (st_0_2 c arg8 harg8 xs0))) (readG arg5 harg5 x3 0 (by decide) 2 inb_S1024x512_S64x128_0_256) :)
theorem pc_0_1 : (@k0_pay306 Ideal _ (@kernelRun0_B.sl.r Ideal c arg6 harg6 x4) (@kernelRun0_B.sl.r_3 Ideal _ c arg2 harg2 arg4 harg4 x0 x2) (@kernelRun0_B.sl.r_11 Ideal _ c arg2 harg2 arg3 harg3 arg4 harg4 x0 x1 x2) (@kernelRun0_B.sl.r_271 Ideal c arg8 harg8 xs0) (View.readAt (Elt Ideal) arg5.view (Rect.unit (s := S1024x512) ![0, 128] S64x128.size inb_S1024x512_S64x128_0_128).toLoadRect (harg5.unread x3))) = res x0 x1 x2 x3 x4 (slc xs0) 0 1 :=
  (congr (congr (congrArg fin (gain c arg6 harg6 x4)) (congr (congr (congrArg (osum 1) (qd_0 c arg2 harg2 arg4 harg4 x0 x2)) (intra_0_1 c arg2 harg2 arg3 harg3 arg4 harg4 x0 x1 x2)) (st_0_1 c arg8 harg8 xs0))) (readG arg5 harg5 x3 0 (by decide) 1 inb_S1024x512_S64x128_0_128) :)
theorem pc_0_0 : (@k0_pay304 Ideal _ (@kernelRun0_B.sl.r_275 Ideal _ c arg2 harg2 arg3 harg3 arg4 harg4 arg6 harg6 arg8 harg8 x0 x1 x2 x4 xs0) (@kernelRun0_B.sl.r_276 Ideal _ c arg5 harg5 x3)) = res x0 x1 x2 x3 x4 (slc xs0) 0 0 :=
  (congr (congr (congrArg fin (gain c arg6 harg6 x4)) (congr (congr (congrArg (osum 0) (qd_0 c arg2 harg2 arg4 harg4 x0 x2)) (intra_0_0 c arg2 harg2 arg3 harg3 arg4 harg4 x0 x1 x2)) (st_0_0 arg8 harg8 xs0))) (readG arg5 harg5 x3 0 (by decide) 0 inb_S1024x512_S64x128_0_0) :)

end Cert.GlaIdeal.Block.CaseB

end
-- ==== Proof.GlaOut.lean ====
/-
  Gated linear attention, one block: the run's stores read back are the block of the result, and the carried array holds
  the state after the block's sixteen chunks.
-/
module

public import proofs.«01_k».proof.Proof.GlaChainA
public import proofs.«01_k».proof.Proof.GlaChainB

@[expose] public section

set_option maxRecDepth 16384

noncomputable section

open Idealize.ShloMosaic Idealize.ShloMosaic.TcCoe Idealize.SL.Sem

namespace Cert.GlaIdeal.Block

open Cert.GlaIdeal Cert.GlaIdeal.Gen Cert.Layer Cert.Layer.Gla

/-- The carried array after the block. -/
def carried (x0 : FVec Ideal S1024x512 .f32) (x1 : FVec Ideal S1024x512 .bf16) (x2 : FVec Ideal S1024x256 .f32)
    (S0 : Fin 4 → FVec Ideal S128x64 .f32) : FVec Ideal S4x128x64 .f32 :=
  fun y => ST x0 x1 x2 S0 16 (⟨(y 0).val, (y 0).isLt⟩ : Fin 4) (ix2 (⟨(y 1).val, (y 1).isLt⟩ : Fin 128) (⟨(y 2).val, (y 2).isLt⟩ : Fin 64))

theorem slc_carried (x0 : FVec Ideal S1024x512 .f32) (x1 : FVec Ideal S1024x512 .bf16) (x2 : FVec Ideal S1024x256 .f32)
    (S0 : Fin 4 → FVec Ideal S128x64 .f32) (h : Fin 4) : slc (carried x0 x1 x2 S0) h = ST x0 x1 x2 S0 16 h := by
  funext i
  idx_vars i
  rfl

theorem cc_at (w : FVec Ideal S128x64 .f32) (u : Fin 1) (i : Fin 128) (e : Fin 64) :
    shapeCast S1x128x64 w shapeCasts_S128x64_S1x128x64 (ix3 u i e) = w (ix2 i e) := by pointwise

theorem st_put (x0 : FVec Ideal S1024x512 .f32) (x1 : FVec Ideal S1024x512 .bf16) (x2 : FVec Ideal S1024x256 .f32)
    (S0 : Fin 4 → FVec Ideal S128x64 .f32) (h : Fin 4) (w : FVec Ideal S128x64 .f32) (hw : w = ST x0 x1 x2 S0 16 h)
    (inb : ∀ d, (![h.val, 0, 0] : Fin 3 → ℕ) d + S1x128x64.size d ≤ S4x128x64.size d) (y : S1x128x64.Idx) :
    shapeCast S1x128x64 w shapeCasts_S128x64_S1x128x64 y
      = carried x0 x1 x2 S0 ((Rect.unit (s := S4x128x64) ![h.val, 0, 0] S1x128x64.size inb).emb y) := by
  idx_vars y
  refine (cc_at w y0 y1 y2).trans ?_
  subst hw
  unfold carried
  refine congr (congrArg (ST x0 x1 x2 S0 16) (Fin.ext ?_)) ((ix2_inj ..).2 ⟨Fin.ext ?_, Fin.ext ?_⟩)
  · show h.val = h.val + 1 * y0.val; omega
  · show y1.val = 0 + 1 * y1.val; omega
  · show y2.val = 0 + 1 * y2.val; omega

theorem canon_first (f : S4x128x64.Idx → EReal) (L' : List (View.Piece (Elt Ideal) S4x128x64 .f32)) (y : S4x128x64.Idx) :
    ∀ L : List (View.Piece (Elt Ideal) S4x128x64 .f32), (∀ pc ∈ L, ∀ x, pc.2 x = f (pc.1.emb x)) → (∃ pc ∈ L, y ∈ pc.1.set) →
      View.canon (Val := Elt Ideal) (L ++ L') y = f y
  | [], _, h => by obtain ⟨_, h, _⟩ := h; exact absurd h List.not_mem_nil
  | p :: L, hp, hc => by
    rw [List.cons_append]
    by_cases hy : y ∈ p.1.set
    · obtain ⟨x, rfl⟩ := p.1.exists_idx_of_mem hy
      exact (View.canon_cons_emb _ _ _ x).trans (hp p List.mem_cons_self x)
    · rw [View.canon_cons_of_not_mem p _ hy]
      refine canon_first f L' y L (fun pc h => hp pc (List.mem_cons_of_mem _ h)) ?_
      obtain ⟨pc, hm, h⟩ := hc
      rcases List.mem_cons.mp hm with rfl | hm
      · exact absurd h hy
      · exact ⟨pc, hm, h⟩

theorem mem_head (h : Fin 4) (inb : ∀ d, (![h.val, 0, 0] : Fin 3 → ℕ) d + S1x128x64.size d ≤ S4x128x64.size d) (i : Fin 128) (e : Fin 64) :
    (ix3 h i e : S4x128x64.Idx) ∈ (Rect.unit (s := S4x128x64) ![h.val, 0, 0] S1x128x64.size inb).set := by
  refine (Rect.mem_set_unit (inb := inb)).mpr fun d => ?_
  fin_cases d
  · exact ⟨Nat.le_refl _, Nat.lt_succ_self _⟩
  · exact ⟨Nat.zero_le _, lt_of_lt_of_eq i.isLt (Nat.zero_add 128).symm⟩
  · exact ⟨Nat.zero_le _, lt_of_lt_of_eq e.isLt (Nat.zero_add 64).symm⟩

theorem canon_heads (x0 : FVec Ideal S1024x512 .f32) (x1 : FVec Ideal S1024x512 .bf16) (x2 : FVec Ideal S1024x256 .f32)
    (S0 : Fin 4 → FVec Ideal S128x64 .f32) (w0 w1 w2 w3 : FVec Ideal S128x64 .f32) (h0 : w0 = ST x0 x1 x2 S0 16 0) (h1 : w1 = ST x0 x1 x2 S0 16 1)
    (h2 : w2 = ST x0 x1 x2 S0 16 2) (h3 : w3 = ST x0 x1 x2 S0 16 3) (L' : List (View.Piece (Elt Ideal) S4x128x64 .f32)) :
    View.canon (Val := Elt Ideal) (⟨Rect.unit (s := S4x128x64) ![3, 0, 0] S1x128x64.size inb_S4x128x64_S1x128x64_3_0_0, shapeCast S1x128x64 w3 shapeCasts_S128x64_S1x128x64⟩
      :: ⟨Rect.unit (s := S4x128x64) ![2, 0, 0] S1x128x64.size inb_S4x128x64_S1x128x64_2_0_0, shapeCast S1x128x64 w2 shapeCasts_S128x64_S1x128x64⟩
      :: ⟨Rect.unit (s := S4x128x64) ![1, 0, 0] S1x128x64.size inb_S4x128x64_S1x128x64_1_0_0, shapeCast S1x128x64 w1 shapeCasts_S128x64_S1x128x64⟩
      :: ⟨Rect.unit (s := S4x128x64) ![0, 0, 0] S1x128x64.size inb_S4x128x64_S1x128x64_0_0_0, shapeCast S1x128x64 w0 shapeCasts_S128x64_S1x128x64⟩
      :: L') = carried x0 x1 x2 S0 := by
  funext y
  idx_vars y
  refine canon_first (carried x0 x1 x2 S0) L' (ix3 y0 y1 y2) [_, _, _, _] ?_ ?_
  · refine List.forall_mem_cons.2 ⟨fun x => st_put x0 x1 x2 S0 3 w3 h3 inb_S4x128x64_S1x128x64_3_0_0 x, ?_⟩
    refine List.forall_mem_cons.2 ⟨fun x => st_put x0 x1 x2 S0 2 w2 h2 inb_S4x128x64_S1x128x64_2_0_0 x, ?_⟩
    refine List.forall_mem_cons.2 ⟨fun x => st_put x0 x1 x2 S0 1 w1 h1 inb_S4x128x64_S1x128x64_1_0_0 x, ?_⟩
    refine List.forall_mem_cons.2 ⟨fun x => st_put x0 x1 x2 S0 0 w0 h0 inb_S4x128x64_S1x128x64_0_0_0 x, ?_⟩
    exact fun pc hpc => absurd hpc List.not_mem_nil
  · fin_cases y0
    · exact ⟨_, .tail _ (.tail _ (.tail _ (.head _))), mem_head 0 inb_S4x128x64_S1x128x64_0_0_0 y1 y2⟩
    · exact ⟨_, .tail _ (.tail _ (.head _)), mem_head 1 inb_S4x128x64_S1x128x64_1_0_0 y1 y2⟩
    · exact ⟨_, .tail _ (.head _), mem_head 2 inb_S4x128x64_S1x128x64_2_0_0 y1 y2⟩
    · exact ⟨_, .head _, mem_head 3 inb_S4x128x64_S1x128x64_3_0_0 y1 y2⟩

section CaseA

variable (c : Dev nD) (i : grid0.Coords)
  (arg2 : Memref sig .tc .vmem S1024x512 .f32) (harg2 : arg2.IsWhole)
  (arg3 : Memref sig .tc .vmem S1024x512 .bf16) (harg3 : arg3.IsWhole)
  (arg4 : Memref sig .tc .vmem S1024x256 .f32) (harg4 : arg4.IsWhole)
  (arg5 : Memref sig .tc .vmem S1024x512 .f32) (harg5 : arg5.IsWhole)
  (arg6 : Memref sig .tc .vmem S1x128 .f32) (harg6 : arg6.IsWhole)
  (arg7 : Memref sig .tc .vmem S1024x512 .bf16) (harg7 : arg7.IsWhole)
  (arg8 : Memref sig .tc .vmem S4x128x64 .f32) (harg8 : arg8.IsWhole)
  (hc0 : cond0_0 i) (x0 : Vec Ideal S1024x512 .f32) (x1 : Vec Ideal S1024x512 .bf16) (x2 : Vec Ideal S1024x256 .f32) (x3 : Vec Ideal S1024x512 .f32) (x4 : Vec Ideal S1x128 .f32)

theorem outA : out0_A_5 (F := Ideal) c i arg2 harg2 arg3 harg3 arg4 harg4 arg5 harg5 arg6 harg6 arg7 harg7 arg8 harg8 hc0 x0 x1 x2 x3 x4 = OUT x0 x1 x2 x3 x4 (fun _ => zer) := by
  unfold out0_A_5
  rw [View.read_writes_junk_eq_canon]
  funext y
  refine View.canon_apply_of_pieces (Val := Elt Ideal) (e := .bf16) (OUT x0 x1 x2 x3 x4 (fun _ => zer)) _ ?_ _ (cover0_A_5 c i arg2 harg2 arg3 harg3 arg4 harg4 arg5 harg5 arg6 harg6 arg7 harg7 arg8 harg8 hc0 x0 x1 x2 x3 x4 y)
  refine List.forall_mem_cons.2 ⟨fun x => (congrFun (CaseA.pc_15_3 c arg2 harg2 arg3 harg3 arg4 harg4 arg5 harg5 arg6 harg6 arg8 x0 x1 x2 x3 x4) x).trans (res_out x0 x1 x2 x3 x4 (fun _ => zer) 15 3 inb_S1024x512_S64x128_960_384 x), ?_⟩
  refine List.forall_mem_cons.2 ⟨fun x => (congrFun (CaseA.pc_15_2 c arg2 harg2 arg3 harg3 arg4 harg4 arg5 harg5 arg6 harg6 arg8 x0 x1 x2 x3 x4) x).trans (res_out x0 x1 x2 x3 x4 (fun _ => zer) 15 2 inb_S1024x512_S64x128_960_256 x), ?_⟩
  refine List.forall_mem_cons.2 ⟨fun x => (congrFun (CaseA.pc_15_1 c arg2 harg2 arg3 harg3 arg4 harg4 arg5 harg5 arg6 harg6 arg8 x0 x1 x2 x3 x4) x).trans (res_out x0 x1 x2 x3 x4 (fun _ => zer) 15 1 inb_S1024x512_S64x128_960_128 x), ?_⟩
  refine List.forall_mem_cons.2 ⟨fun x => (congrFun (CaseA.pc_15_0 c arg2 harg2 arg3 harg3 arg4 harg4 arg5 harg5 arg6 harg6 arg8 x0 x1 x2 x3 x4) x).trans (res_out x0 x1 x2 x3 x4 (fun _ => zer) 15 0 inb_S1024x512_S64x128_960_0 x), ?_⟩
  refine List.forall_mem_cons.2 ⟨fun x => (congrFun (CaseA.pc_14_3 c arg2 harg2 arg3 harg3 arg4 harg4 arg5 harg5 arg6 harg6 arg8 x0 x1 x2 x3 x4) x).trans (res_out x0 x1 x2 x3 x4 (fun _ => zer) 14 3 inb_S1024x512_S64x128_896_384 x), ?_⟩
  refine List.forall_mem_cons.2 ⟨fun x => (congrFun (CaseA.pc_14_2 c arg2 harg2 arg3 harg3 arg4 harg4 arg5 harg5 arg6 harg6 arg8 x0 x1 x2 x3 x4) x).trans (res_out x0 x1 x2 x3 x4 (fun _ => zer) 14 2 inb_S1024x512_S64x128_896_256 x), ?_⟩
  refine List.forall_mem_cons.2 ⟨fun x => (congrFun (CaseA.pc_14_1 c arg2 harg2 arg3 harg3 arg4 harg4 arg5 harg5 arg6 harg6 arg8 x0 x1 x2 x3 x4) x).trans (res_out x0 x1 x2 x3 x4 (fun _ => zer) 14 1 inb_S1024x512_S64x128_896_128 x), ?_⟩
  refine List.forall_mem_cons.2 ⟨fun x => (congrFun (CaseA.pc_14_0 c arg2 harg2 arg3 harg3 arg4 harg4 arg5 harg5 arg6 harg6 arg8 x0 x1 x2 x3 x4) x).trans (res_out x0 x1 x2 x3 x4 (fun _ => zer) 14 0 inb_S1024x512_S64x128_896_0 x), ?_⟩
  refine List.forall_mem_cons.2 ⟨fun x => (congrFun (CaseA.pc_13_3 c arg2 harg2 arg3 harg3 arg4 harg4 arg5 harg5 arg6 harg6 arg8 x0 x1 x2 x3 x4) x).trans (res_out x0 x1 x2 x3 x4 (fun _ => zer) 13 3 inb_S1024x512_S64x128_832_384 x), ?_⟩
  refine List.forall_mem_cons.2 ⟨fun x => (congrFun (CaseA.pc_13_2 c arg2 harg2 arg3 harg3 arg4 harg4 arg5 harg5 arg6 harg6 arg8 x0 x1 x2 x3 x4) x).trans (res_out x0 x1 x2 x3 x4 (fun _ => zer) 13 2 inb_S1024x512_S64x128_832_256 x), ?_⟩
  refine List.forall_mem_cons.2 ⟨fun x => (congrFun (CaseA.pc_13_1 c arg2 harg2 arg3 harg3 arg4 harg4 arg5 harg5 arg6 harg6 arg8 x0 x1 x2 x3 x4) x).trans (res_out x0 x1 x2 x3 x4 (fun _ => zer) 13 1 inb_S1024x512_S64x128_832_128 x), ?_⟩
  refine List.forall_mem_cons.2 ⟨fun x => (congrFun (CaseA.pc_13_0 c arg2 harg2 arg3 harg3 arg4 harg4 arg5 harg5 arg6 harg6 arg8 x0 x1 x2 x3 x4) x).trans (res_out x0 x1 x2 x3 x4 (fun _ => zer) 13 0 inb_S1024x512_S64x128_832_0 x), ?_⟩
  refine List.forall_mem_cons.2 ⟨fun x => (congrFun (CaseA.pc_12_3 c arg2 harg2 arg3 harg3 arg4 harg4 arg5 harg5 arg6 harg6 arg8 x0 x1 x2 x3 x4) x).trans (res_out x0 x1 x2 x3 x4 (fun _ => zer) 12 3 inb_S1024x512_S64x128_768_384 x), ?_⟩
  refine List.forall_mem_cons.2 ⟨fun x => (congrFun (CaseA.pc_12_2 c arg2 harg2 arg3 harg3 arg4 harg4 arg5 harg5 arg6 harg6 arg8 x0 x1 x2 x3 x4) x).trans (res_out x0 x1 x2 x3 x4 (fun _ => zer) 12 2 inb_S1024x512_S64x128_768_256 x), ?_⟩
  refine List.forall_mem_cons.2 ⟨fun x => (congrFun (CaseA.pc_12_1 c arg2 harg2 arg3 harg3 arg4 harg4 arg5 harg5 arg6 harg6 arg8 x0 x1 x2 x3 x4) x).trans (res_out x0 x1 x2 x3 x4 (fun _ => zer) 12 1 inb_S1024x512_S64x128_768_128 x), ?_⟩
  refine List.forall_mem_cons.2 ⟨fun x => (congrFun (CaseA.pc_12_0 c arg2 harg2 arg3 harg3 arg4 harg4 arg5 harg5 arg6 harg6 arg8 x0 x1 x2 x3 x4) x).trans (res_out x0 x1 x2 x3 x4 (fun _ => zer) 12 0 inb_S1024x512_S64x128_768_0 x), ?_⟩
  refine List.forall_mem_cons.2 ⟨fun x => (congrFun (CaseA.pc_11_3 c arg2 harg2 arg3 harg3 arg4 harg4 arg5 harg5 arg6 harg6 arg8 x0 x1 x2 x3 x4) x).trans (res_out x0 x1 x2 x3 x4 (fun _ => zer) 11 3 inb_S1024x512_S64x128_704_384 x), ?_⟩
  refine List.forall_mem_cons.2 ⟨fun x => (congrFun (CaseA.pc_11_2 c arg2 harg2 arg3 harg3 arg4 harg4 arg5 harg5 arg6 harg6 arg8 x0 x1 x2 x3 x4) x).trans (res_out x0 x1 x2 x3 x4 (fun _ => zer) 11 2 inb_S1024x512_S64x128_704_256 x), ?_⟩
  refine List.forall_mem_cons.2 ⟨fun x => (congrFun (CaseA.pc_11_1 c arg2 harg2 arg3 harg3 arg4 harg4 arg5 harg5 arg6 harg6 arg8 x0 x1 x2 x3 x4) x).trans (res_out x0 x1 x2 x3 x4 (fun _ => zer) 11 1 inb_S1024x512_S64x128_704_128 x), ?_⟩
  refine List.forall_mem_cons.2 ⟨fun x => (congrFun (CaseA.pc_11_0 c arg2 harg2 arg3 harg3 arg4 harg4 arg5 harg5 arg6 harg6 arg8 x0 x1 x2 x3 x4) x).trans (res_out x0 x1 x2 x3 x4 (fun _ => zer) 11 0 inb_S1024x512_S64x128_704_0 x), ?_⟩
  refine List.forall_mem_cons.2 ⟨fun x => (congrFun (CaseA.pc_10_3 c arg2 harg2 arg3 harg3 arg4 harg4 arg5 harg5 arg6 harg6 arg8 x0 x1 x2 x3 x4) x).trans (res_out x0 x1 x2 x3 x4 (fun _ => zer) 10 3 inb_S1024x512_S64x128_640_384 x), ?_⟩
  refine List.forall_mem_cons.2 ⟨fun x => (congrFun (CaseA.pc_10_2 c arg2 harg2 arg3 harg3 arg4 harg4 arg5 harg5 arg6 harg6 arg8 x0 x1 x2 x3 x4) x).trans (res_out x0 x1 x2 x3 x4 (fun _ => zer) 10 2 inb_S1024x512_S64x128_640_256 x), ?_⟩
  refine List.forall_mem_cons.2 ⟨fun x => (congrFun (CaseA.pc_10_1 c arg2 harg2 arg3 harg3 arg4 harg4 arg5 harg5 arg6 harg6 arg8 x0 x1 x2 x3 x4) x).trans (res_out x0 x1 x2 x3 x4 (fun _ => zer) 10 1 inb_S1024x512_S64x128_640_128 x), ?_⟩
  refine List.forall_mem_cons.2 ⟨fun x => (congrFun (CaseA.pc_10_0 c arg2 harg2 arg3 harg3 arg4 harg4 arg5 harg5 arg6 harg6 arg8 x0 x1 x2 x3 x4) x).trans (res_out x0 x1 x2 x3 x4 (fun _ => zer) 10 0 inb_S1024x512_S64x128_640_0 x), ?_⟩
  refine List.forall_mem_cons.2 ⟨fun x => (congrFun (CaseA.pc_9_3 c arg2 harg2 arg3 harg3 arg4 harg4 arg5 harg5 arg6 harg6 arg8 x0 x1 x2 x3 x4) x).trans (res_out x0 x1 x2 x3 x4 (fun _ => zer) 9 3 inb_S1024x512_S64x128_576_384 x), ?_⟩
  refine List.forall_mem_cons.2 ⟨fun x => (congrFun (CaseA.pc_9_2 c arg2 harg2 arg3 harg3 arg4 harg4 arg5 harg5 arg6 harg6 arg8 x0 x1 x2 x3 x4) x).trans (res_out x0 x1 x2 x3 x4 (fun _ => zer) 9 2 inb_S1024x512_S64x128_576_256 x), ?_⟩
  refine List.forall_mem_cons.2 ⟨fun x => (congrFun (CaseA.pc_9_1 c arg2 harg2 arg3 harg3 arg4 harg4 arg5 harg5 arg6 harg6 arg8 x0 x1 x2 x3 x4) x).trans (res_out x0 x1 x2 x3 x4 (fun _ => zer) 9 1 inb_S1024x512_S64x128_576_128 x), ?_⟩
  refine List.forall_mem_cons.2 ⟨fun x => (congrFun (CaseA.pc_9_0 c arg2 harg2 arg3 harg3 arg4 harg4 arg5 harg5 arg6 harg6 arg8 x0 x1 x2 x3 x4) x).trans (res_out x0 x1 x2 x3 x4 (fun _ => zer) 9 0 inb_S1024x512_S64x128_576_0 x), ?_⟩
  refine List.forall_mem_cons.2 ⟨fun x => (congrFun (CaseA.pc_8_3 c arg2 harg2 arg3 harg3 arg4 harg4 arg5 harg5 arg6 harg6 arg8 x0 x1 x2 x3 x4) x).trans (res_out x0 x1 x2 x3 x4 (fun _ => zer) 8 3 inb_S1024x512_S64x128_512_384 x), ?_⟩
  refine List.forall_mem_cons.2 ⟨fun x => (congrFun (CaseA.pc_8_2 c arg2 harg2 arg3 harg3 arg4 harg4 arg5 harg5 arg6 harg6 arg8 x0 x1 x2 x3 x4) x).trans (res_out x0 x1 x2 x3 x4 (fun _ => zer) 8 2 inb_S1024x512_S64x128_512_256 x), ?_⟩
  refine List.forall_mem_cons.2 ⟨fun x => (congrFun (CaseA.pc_8_1 c arg2 harg2 arg3 harg3 arg4 harg4 arg5 harg5 arg6 harg6 arg8 x0 x1 x2 x3 x4) x).trans (res_out x0 x1 x2 x3 x4 (fun _ => zer) 8 1 inb_S1024x512_S64x128_512_128 x), ?_⟩
  refine List.forall_mem_cons.2 ⟨fun x => (congrFun (CaseA.pc_8_0 c arg2 harg2 arg3 harg3 arg4 harg4 arg5 harg5 arg6 harg6 arg8 x0 x1 x2 x3 x4) x).trans (res_out x0 x1 x2 x3 x4 (fun _ => zer) 8 0 inb_S1024x512_S64x128_512_0 x), ?_⟩
  refine List.forall_mem_cons.2 ⟨fun x => (congrFun (CaseA.pc_7_3 c arg2 harg2 arg3 harg3 arg4 harg4 arg5 harg5 arg6 harg6 arg8 x0 x1 x2 x3 x4) x).trans (res_out x0 x1 x2 x3 x4 (fun _ => zer) 7 3 inb_S1024x512_S64x128_448_384 x), ?_⟩
  refine List.forall_mem_cons.2 ⟨fun x => (congrFun (CaseA.pc_7_2 c arg2 harg2 arg3 harg3 arg4 harg4 arg5 harg5 arg6 harg6 arg8 x0 x1 x2 x3 x4) x).trans (res_out x0 x1 x2 x3 x4 (fun _ => zer) 7 2 inb_S1024x512_S64x128_448_256 x), ?_⟩
  refine List.forall_mem_cons.2 ⟨fun x => (congrFun (CaseA.pc_7_1 c arg2 harg2 arg3 harg3 arg4 harg4 arg5 harg5 arg6 harg6 arg8 x0 x1 x2 x3 x4) x).trans (res_out x0 x1 x2 x3 x4 (fun _ => zer) 7 1 inb_S1024x512_S64x128_448_128 x), ?_⟩
  refine List.forall_mem_cons.2 ⟨fun x => (congrFun (CaseA.pc_7_0 c arg2 harg2 arg3 harg3 arg4 harg4 arg5 harg5 arg6 harg6 arg8 x0 x1 x2 x3 x4) x).trans (res_out x0 x1 x2 x3 x4 (fun _ => zer) 7 0 inb_S1024x512_S64x128_448_0 x), ?_⟩
  refine List.forall_mem_cons.2 ⟨fun x => (congrFun (CaseA.pc_6_3 c arg2 harg2 arg3 harg3 arg4 harg4 arg5 harg5 arg6 harg6 arg8 x0 x1 x2 x3 x4) x).trans (res_out x0 x1 x2 x3 x4 (fun _ => zer) 6 3 inb_S1024x512_S64x128_384_384 x), ?_⟩
  refine List.forall_mem_cons.2 ⟨fun x => (congrFun (CaseA.pc_6_2 c arg2 harg2 arg3 harg3 arg4 harg4 arg5 harg5 arg6 harg6 arg8 x0 x1 x2 x3 x4) x).trans (res_out x0 x1 x2 x3 x4 (fun _ => zer) 6 2 inb_S1024x512_S64x128_384_256 x), ?_⟩
  refine List.forall_mem_cons.2 ⟨fun x => (congrFun (CaseA.pc_6_1 c arg2 harg2 arg3 harg3 arg4 harg4 arg5 harg5 arg6 harg6 arg8 x0 x1 x2 x3 x4) x).trans (res_out x0 x1 x2 x3 x4 (fun _ => zer) 6 1 inb_S1024x512_S64x128_384_128 x), ?_⟩
  refine List.forall_mem_cons.2 ⟨fun x => (congrFun (CaseA.pc_6_0 c arg2 harg2 arg3 harg3 arg4 harg4 arg5 harg5 arg6 harg6 arg8 x0 x1 x2 x3 x4) x).trans (res_out x0 x1 x2 x3 x4 (fun _ => zer) 6 0 inb_S1024x512_S64x128_384_0 x), ?_⟩
  refine List.forall_mem_cons.2 ⟨fun x => (congrFun (CaseA.pc_5_3 c arg2 harg2 arg3 harg3 arg4 harg4 arg5 harg5 arg6 harg6 arg8 x0 x1 x2 x3 x4) x).trans (res_out x0 x1 x2 x3 x4 (fun _ => zer) 5 3 inb_S1024x512_S64x128_320_384 x), ?_⟩
  refine List.forall_mem_cons.2 ⟨fun x => (congrFun (CaseA.pc_5_2 c arg2 harg2 arg3 harg3 arg4 harg4 arg5 harg5 arg6 harg6 arg8 x0 x1 x2 x3 x4) x).trans (res_out x0 x1 x2 x3 x4 (fun _ => zer) 5 2 inb_S1024x512_S64x128_320_256 x), ?_⟩
  refine List.forall_mem_cons.2 ⟨fun x => (congrFun (CaseA.pc_5_1 c arg2 harg2 arg3 harg3 arg4 harg4 arg5 harg5 arg6 harg6 arg8 x0 x1 x2 x3 x4) x).trans (res_out x0 x1 x2 x3 x4 (fun _ => zer) 5 1 inb_S1024x512_S64x128_320_128 x), ?_⟩
  refine List.forall_mem_cons.2 ⟨fun x => (congrFun (CaseA.pc_5_0 c arg2 harg2 arg3 harg3 arg4 harg4 arg5 harg5 arg6 harg6 arg8 x0 x1 x2 x3 x4) x).trans (res_out x0 x1 x2 x3 x4 (fun _ => zer) 5 0 inb_S1024x512_S64x128_320_0 x), ?_⟩
  refine List.forall_mem_cons.2 ⟨fun x => (congrFun (CaseA.pc_4_3 c arg2 harg2 arg3 harg3 arg4 harg4 arg5 harg5 arg6 harg6 arg8 x0 x1 x2 x3 x4) x).trans (res_out x0 x1 x2 x3 x4 (fun _ => zer) 4 3 inb_S1024x512_S64x128_256_384 x), ?_⟩
  refine List.forall_mem_cons.2 ⟨fun x => (congrFun (CaseA.pc_4_2 c arg2 harg2 arg3 harg3 arg4 harg4 arg5 harg5 arg6 harg6 arg8 x0 x1 x2 x3 x4) x).trans (res_out x0 x1 x2 x3 x4 (fun _ => zer) 4 2 inb_S1024x512_S64x128_256_256 x), ?_⟩
  refine List.forall_mem_cons.2 ⟨fun x => (congrFun (CaseA.pc_4_1 c arg2 harg2 arg3 harg3 arg4 harg4 arg5 harg5 arg6 harg6 arg8 x0 x1 x2 x3 x4) x).trans (res_out x0 x1 x2 x3 x4 (fun _ => zer) 4 1 inb_S1024x512_S64x128_256_128 x), ?_⟩
  refine List.forall_mem_cons.2 ⟨fun x => (congrFun (CaseA.pc_4_0 c arg2 harg2 arg3 harg3 arg4 harg4 arg5 harg5 arg6 harg6 arg8 x0 x1 x2 x3 x4) x).trans (res_out x0 x1 x2 x3 x4 (fun _ => zer) 4 0 inb_S1024x512_S64x128_256_0 x), ?_⟩
  refine List.forall_mem_cons.2 ⟨fun x => (congrFun (CaseA.pc_3_3 c arg2 harg2 arg3 harg3 arg4 harg4 arg5 harg5 arg6 harg6 arg8 x0 x1 x2 x3 x4) x).trans (res_out x0 x1 x2 x3 x4 (fun _ => zer) 3 3 inb_S1024x512_S64x128_192_384 x), ?_⟩
  refine List.forall_mem_cons.2 ⟨fun x => (congrFun (CaseA.pc_3_2 c arg2 harg2 arg3 harg3 arg4 harg4 arg5 harg5 arg6 harg6 arg8 x0 x1 x2 x3 x4) x).trans (res_out x0 x1 x2 x3 x4 (fun _ => zer) 3 2 inb_S1024x512_S64x128_192_256 x), ?_⟩
  refine List.forall_mem_cons.2 ⟨fun x => (congrFun (CaseA.pc_3_1 c arg2 harg2 arg3 harg3 arg4 harg4 arg5 harg5 arg6 harg6 arg8 x0 x1 x2 x3 x4) x).trans (res_out x0 x1 x2 x3 x4 (fun _ => zer) 3 1 inb_S1024x512_S64x128_192_128 x), ?_⟩
  refine List.forall_mem_cons.2 ⟨fun x => (congrFun (CaseA.pc_3_0 c arg2 harg2 arg3 harg3 arg4 harg4 arg5 harg5 arg6 harg6 arg8 x0 x1 x2 x3 x4) x).trans (res_out x0 x1 x2 x3 x4 (fun _ => zer) 3 0 inb_S1024x512_S64x128_192_0 x), ?_⟩
  refine List.forall_mem_cons.2 ⟨fun x => (congrFun (CaseA.pc_2_3 c arg2 harg2 arg3 harg3 arg4 harg4 arg5 harg5 arg6 harg6 arg8 x0 x1 x2 x3 x4) x).trans (res_out x0 x1 x2 x3 x4 (fun _ => zer) 2 3 inb_S1024x512_S64x128_128_384 x), ?_⟩
  refine List.forall_mem_cons.2 ⟨fun x => (congrFun (CaseA.pc_2_2 c arg2 harg2 arg3 harg3 arg4 harg4 arg5 harg5 arg6 harg6 arg8 x0 x1 x2 x3 x4) x).trans (res_out x0 x1 x2 x3 x4 (fun _ => zer) 2 2 inb_S1024x512_S64x128_128_256 x), ?_⟩
  refine List.forall_mem_cons.2 ⟨fun x => (congrFun (CaseA.pc_2_1 c arg2 harg2 arg3 harg3 arg4 harg4 arg5 harg5 arg6 harg6 arg8 x0 x1 x2 x3 x4) x).trans (res_out x0 x1 x2 x3 x4 (fun _ => zer) 2 1 inb_S1024x512_S64x128_128_128 x), ?_⟩
  refine List.forall_mem_cons.2 ⟨fun x => (congrFun (CaseA.pc_2_0 c arg2 harg2 arg3 harg3 arg4 harg4 arg5 harg5 arg6 harg6 arg8 x0 x1 x2 x3 x4) x).trans (res_out x0 x1 x2 x3 x4 (fun _ => zer) 2 0 inb_S1024x512_S64x128_128_0 x), ?_⟩
  refine List.forall_mem_cons.2 ⟨fun x => (congrFun (CaseA.pc_1_3 c arg2 harg2 arg3 harg3 arg4 harg4 arg5 harg5 arg6 harg6 arg8 x0 x1 x2 x3 x4) x).trans (res_out x0 x1 x2 x3 x4 (fun _ => zer) 1 3 inb_S1024x512_S64x128_64_384 x), ?_⟩
  refine List.forall_mem_cons.2 ⟨fun x => (congrFun (CaseA.pc_1_2 c arg2 harg2 arg3 harg3 arg4 harg4 arg5 harg5 arg6 harg6 arg8 x0 x1 x2 x3 x4) x).trans (res_out x0 x1 x2 x3 x4 (fun _ => zer) 1 2 inb_S1024x512_S64x128_64_256 x), ?_⟩
  refine List.forall_mem_cons.2 ⟨fun x => (congrFun (CaseA.pc_1_1 c arg2 harg2 arg3 harg3 arg4 harg4 arg5 harg5 arg6 harg6 arg8 x0 x1 x2 x3 x4) x).trans (res_out x0 x1 x2 x3 x4 (fun _ => zer) 1 1 inb_S1024x512_S64x128_64_128 x), ?_⟩
  refine List.forall_mem_cons.2 ⟨fun x => (congrFun (CaseA.pc_1_0 c arg2 harg2 arg3 harg3 arg4 harg4 arg5 harg5 arg6 harg6 arg8 x0 x1 x2 x3 x4) x).trans (res_out x0 x1 x2 x3 x4 (fun _ => zer) 1 0 inb_S1024x512_S64x128_64_0 x), ?_⟩
  refine List.forall_mem_cons.2 ⟨fun x => (congrFun (CaseA.pc_0_3 c arg2 harg2 arg3 harg3 arg4 harg4 arg5 harg5 arg6 harg6 arg8 x0 x1 x2 x3 x4) x).trans (res_out x0 x1 x2 x3 x4 (fun _ => zer) 0 3 inb_S1024x512_S64x128_0_384 x), ?_⟩
  refine List.forall_mem_cons.2 ⟨fun x => (congrFun (CaseA.pc_0_2 c arg2 harg2 arg3 harg3 arg4 harg4 arg5 harg5 arg6 harg6 arg8 x0 x1 x2 x3 x4) x).trans (res_out x0 x1 x2 x3 x4 (fun _ => zer) 0 2 inb_S1024x512_S64x128_0_256 x), ?_⟩
  refine List.forall_mem_cons.2 ⟨fun x => (congrFun (CaseA.pc_0_1 c arg2 harg2 arg3 harg3 arg4 harg4 arg5 harg5 arg6 harg6 arg8 x0 x1 x2 x3 x4) x).trans (res_out x0 x1 x2 x3 x4 (fun _ => zer) 0 1 inb_S1024x512_S64x128_0_128 x), ?_⟩
  refine List.forall_mem_cons.2 ⟨fun x => (congrFun (CaseA.pc_0_0 c arg2 harg2 arg3 harg3 arg4 harg4 arg5 harg5 arg6 harg6 arg8 x0 x1 x2 x3 x4) x).trans (res_out x0 x1 x2 x3 x4 (fun _ => zer) 0 0 inb_S1024x512_S64x128_0_0 x), ?_⟩
  exact fun pc hpc => absurd hpc List.not_mem_nil

theorem soutA : sout0_A_0 (F := Ideal) c i arg2 harg2 arg3 harg3 arg4 harg4 arg5 harg5 arg6 harg6 arg7 harg7 arg8 harg8 hc0 x0 x1 x2 x3 x4 = carried x0 x1 x2 (fun _ => zer) := by
  unfold sout0_A_0
  rw [View.read_writes_junk_eq_canon]
  exact canon_heads x0 x1 x2 (fun _ => zer) _ _ _ _ (CaseA.st_16_0 c arg2 harg2 arg3 harg3 arg4 harg4 arg8 x0 x1 x2) (CaseA.st_16_1 c arg2 harg2 arg3 harg3 arg4 harg4 arg8 x0 x1 x2)
    (CaseA.st_16_2 c arg2 harg2 arg3 harg3 arg4 harg4 arg8 x0 x1 x2) (CaseA.st_16_3 c arg2 harg2 arg3 harg3 arg4 harg4 arg8 x0 x1 x2) _

end CaseA

section CaseB

variable (c : Dev nD) (i : grid0.Coords)
  (arg2 : Memref sig .tc .vmem S1024x512 .f32) (harg2 : arg2.IsWhole)
  (arg3 : Memref sig .tc .vmem S1024x512 .bf16) (harg3 : arg3.IsWhole)
  (arg4 : Memref sig .tc .vmem S1024x256 .f32) (harg4 : arg4.IsWhole)
  (arg5 : Memref sig .tc .vmem S1024x512 .f32) (harg5 : arg5.IsWhole)
  (arg6 : Memref sig .tc .vmem S1x128 .f32) (harg6 : arg6.IsWhole)
  (arg7 : Memref sig .tc .vmem S1024x512 .bf16) (harg7 : arg7.IsWhole)
  (arg8 : Memref sig .tc .vmem S4x128x64 .f32) (harg8 : arg8.IsWhole)
  (hc0 : ¬cond0_0 i) (x0 : Vec Ideal S1024x512 .f32) (x1 : Vec Ideal S1024x512 .bf16) (x2 : Vec Ideal S1024x256 .f32) (x3 : Vec Ideal S1024x512 .f32) (x4 : Vec Ideal S1x128 .f32) (xs0 : Vec Ideal S4x128x64 .f32)

theorem outB : out0_B_5 (F := Ideal) c i arg2 harg2 arg3 harg3 arg4 harg4 arg5 harg5 arg6 harg6 arg7 harg7 arg8 harg8 hc0 x0 x1 x2 x3 x4 xs0 = OUT x0 x1 x2 x3 x4 (slc xs0) := by
  unfold out0_B_5
  rw [View.read_writes_junk_eq_canon]
  funext y
  refine View.canon_apply_of_pieces (Val := Elt Ideal) (e := .bf16) (OUT x0 x1 x2 x3 x4 (slc xs0)) _ ?_ _ (cover0_B_5 c i arg2 harg2 arg3 harg3 arg4 harg4 arg5 harg5 arg6 harg6 arg7 harg7 arg8 harg8 hc0 x0 x1 x2 x3 x4 xs0 y)
  refine List.forall_mem_cons.2 ⟨fun x => (congrFun (CaseB.pc_15_3 c arg2 harg2 arg3 harg3 arg4 harg4 arg5 harg5 arg6 harg6 arg8 harg8 x0 x1 x2 x3 x4 xs0) x).trans (res_out x0 x1 x2 x3 x4 (slc xs0) 15 3 inb_S1024x512_S64x128_960_384 x), ?_⟩
  refine List.forall_mem_cons.2 ⟨fun x => (congrFun (CaseB.pc_15_2 c arg2 harg2 arg3 harg3 arg4 harg4 arg5 harg5 arg6 harg6 arg8 harg8 x0 x1 x2 x3 x4 xs0) x).trans (res_out x0 x1 x2 x3 x4 (slc xs0) 15 2 inb_S1024x512_S64x128_960_256 x), ?_⟩
  refine List.forall_mem_cons.2 ⟨fun x => (congrFun (CaseB.pc_15_1 c arg2 harg2 arg3 harg3 arg4 harg4 arg5 harg5 arg6 harg6 arg8 harg8 x0 x1 x2 x3 x4 xs0) x).trans (res_out x0 x1 x2 x3 x4 (slc xs0) 15 1 inb_S1024x512_S64x128_960_128 x), ?_⟩
  refine List.forall_mem_cons.2 ⟨fun x => (congrFun (CaseB.pc_15_0 c arg2 harg2 arg3 harg3 arg4 harg4 arg5 harg5 arg6 harg6 arg8 harg8 x0 x1 x2 x3 x4 xs0) x).trans (res_out x0 x1 x2 x3 x4 (slc xs0) 15 0 inb_S1024x512_S64x128_960_0 x), ?_⟩
  refine List.forall_mem_cons.2 ⟨fun x => (congrFun (CaseB.pc_14_3 c arg2 harg2 arg3 harg3 arg4 harg4 arg5 harg5 arg6 harg6 arg8 harg8 x0 x1 x2 x3 x4 xs0) x).trans (res_out x0 x1 x2 x3 x4 (slc xs0) 14 3 inb_S1024x512_S64x128_896_384 x), ?_⟩
  refine List.forall_mem_cons.2 ⟨fun x => (congrFun (CaseB.pc_14_2 c arg2 harg2 arg3 harg3 arg4 harg4 arg5 harg5 arg6 harg6 arg8 harg8 x0 x1 x2 x3 x4 xs0) x).trans (res_out x0 x1 x2 x3 x4 (slc xs0) 14 2 inb_S1024x512_S64x128_896_256 x), ?_⟩
  refine List.forall_mem_cons.2 ⟨fun x => (congrFun (CaseB.pc_14_1 c arg2 harg2 arg3 harg3 arg4 harg4 arg5 harg5 arg6 harg6 arg8 harg8 x0 x1 x2 x3 x4 xs0) x).trans (res_out x0 x1 x2 x3 x4 (slc xs0) 14 1 inb_S1024x512_S64x128_896_128 x), ?_⟩
  refine List.forall_mem_cons.2 ⟨fun x => (congrFun (CaseB.pc_14_0 c arg2 harg2 arg3 harg3 arg4 harg4 arg5 harg5 arg6 harg6 arg8 harg8 x0 x1 x2 x3 x4 xs0) x).trans (res_out x0 x1 x2 x3 x4 (slc xs0) 14 0 inb_S1024x512_S64x128_896_0 x), ?_⟩
  refine List.forall_mem_cons.2 ⟨fun x => (congrFun (CaseB.pc_13_3 c arg2 harg2 arg3 harg3 arg4 harg4 arg5 harg5 arg6 harg6 arg8 harg8 x0 x1 x2 x3 x4 xs0) x).trans (res_out x0 x1 x2 x3 x4 (slc xs0) 13 3 inb_S1024x512_S64x128_832_384 x), ?_⟩
  refine List.forall_mem_cons.2 ⟨fun x => (congrFun (CaseB.pc_13_2 c arg2 harg2 arg3 harg3 arg4 harg4 arg5 harg5 arg6 harg6 arg8 harg8 x0 x1 x2 x3 x4 xs0) x).trans (res_out x0 x1 x2 x3 x4 (slc xs0) 13 2 inb_S1024x512_S64x128_832_256 x), ?_⟩
  refine List.forall_mem_cons.2 ⟨fun x => (congrFun (CaseB.pc_13_1 c arg2 harg2 arg3 harg3 arg4 harg4 arg5 harg5 arg6 harg6 arg8 harg8 x0 x1 x2 x3 x4 xs0) x).trans (res_out x0 x1 x2 x3 x4 (slc xs0) 13 1 inb_S1024x512_S64x128_832_128 x), ?_⟩
  refine List.forall_mem_cons.2 ⟨fun x => (congrFun (CaseB.pc_13_0 c arg2 harg2 arg3 harg3 arg4 harg4 arg5 harg5 arg6 harg6 arg8 harg8 x0 x1 x2 x3 x4 xs0) x).trans (res_out x0 x1 x2 x3 x4 (slc xs0) 13 0 inb_S1024x512_S64x128_832_0 x), ?_⟩
  refine List.forall_mem_cons.2 ⟨fun x => (congrFun (CaseB.pc_12_3 c arg2 harg2 arg3 harg3 arg4 harg4 arg5 harg5 arg6 harg6 arg8 harg8 x0 x1 x2 x3 x4 xs0) x).trans (res_out x0 x1 x2 x3 x4 (slc xs0) 12 3 inb_S1024x512_S64x128_768_384 x), ?_⟩
  refine List.forall_mem_cons.2 ⟨fun x => (congrFun (CaseB.pc_12_2 c arg2 harg2 arg3 harg3 arg4 harg4 arg5 harg5 arg6 harg6 arg8 harg8 x0 x1 x2 x3 x4 xs0) x).trans (res_out x0 x1 x2 x3 x4 (slc xs0) 12 2 inb_S1024x512_S64x128_768_256 x), ?_⟩
  refine List.forall_mem_cons.2 ⟨fun x => (congrFun (CaseB.pc_12_1 c arg2 harg2 arg3 harg3 arg4 harg4 arg5 harg5 arg6 harg6 arg8 harg8 x0 x1 x2 x3 x4 xs0) x).trans (res_out x0 x1 x2 x3 x4 (slc xs0) 12 1 inb_S1024x512_S64x128_768_128 x), ?_⟩
  refine List.forall_mem_cons.2 ⟨fun x => (congrFun (CaseB.pc_12_0 c arg2 harg2 arg3 harg3 arg4 harg4 arg5 harg5 arg6 harg6 arg8 harg8 x0 x1 x2 x3 x4 xs0) x).trans (res_out x0 x1 x2 x3 x4 (slc xs0) 12 0 inb_S1024x512_S64x128_768_0 x), ?_⟩
  refine List.forall_mem_cons.2 ⟨fun x => (congrFun (CaseB.pc_11_3 c arg2 harg2 arg3 harg3 arg4 harg4 arg5 harg5 arg6 harg6 arg8 harg8 x0 x1 x2 x3 x4 xs0) x).trans (res_out x0 x1 x2 x3 x4 (slc xs0) 11 3 inb_S1024x512_S64x128_704_384 x), ?_⟩
  refine List.forall_mem_cons.2 ⟨fun x => (congrFun (CaseB.pc_11_2 c arg2 harg2 arg3 harg3 arg4 harg4 arg5 harg5 arg6 harg6 arg8 harg8 x0 x1 x2 x3 x4 xs0) x).trans (res_out x0 x1 x2 x3 x4 (slc xs0) 11 2 inb_S1024x512_S64x128_704_256 x), ?_⟩
  refine List.forall_mem_cons.2 ⟨fun x => (congrFun (CaseB.pc_11_1 c arg2 harg2 arg3 harg3 arg4 harg4 arg5 harg5 arg6 harg6 arg8 harg8 x0 x1 x2 x3 x4 xs0) x).trans (res_out x0 x1 x2 x3 x4 (slc xs0) 11 1 inb_S1024x512_S64x128_704_128 x), ?_⟩
  refine List.forall_mem_cons.2 ⟨fun x => (congrFun (CaseB.pc_11_0 c arg2 harg2 arg3 harg3 arg4 harg4 arg5 harg5 arg6 harg6 arg8 harg8 x0 x1 x2 x3 x4 xs0) x).trans (res_out x0 x1 x2 x3 x4 (slc xs0) 11 0 inb_S1024x512_S64x128_704_0 x), ?_⟩
  refine List.forall_mem_cons.2 ⟨fun x => (congrFun (CaseB.pc_10_3 c arg2 harg2 arg3 harg3 arg4 harg4 arg5 harg5 arg6 harg6 arg8 harg8 x0 x1 x2 x3 x4 xs0) x).trans (res_out x0 x1 x2 x3 x4 (slc xs0) 10 3 inb_S1024x512_S64x128_640_384 x), ?_⟩
  refine List.forall_mem_cons.2 ⟨fun x => (congrFun (CaseB.pc_10_2 c arg2 harg2 arg3 harg3 arg4 harg4 arg5 harg5 arg6 harg6 arg8 harg8 x0 x1 x2 x3 x4 xs0) x).trans (res_out x0 x1 x2 x3 x4 (slc xs0) 10 2 inb_S1024x512_S64x128_640_256 x), ?_⟩
  refine List.forall_mem_cons.2 ⟨fun x => (congrFun (CaseB.pc_10_1 c arg2 harg2 arg3 harg3 arg4 harg4 arg5 harg5 arg6 harg6 arg8 harg8 x0 x1 x2 x3 x4 xs0) x).trans (res_out x0 x1 x2 x3 x4 (slc xs0) 10 1 inb_S1024x512_S64x128_640_128 x), ?_⟩
  refine List.forall_mem_cons.2 ⟨fun x => (congrFun (CaseB.pc_10_0 c arg2 harg2 arg3 harg3 arg4 harg4 arg5 harg5 arg6 harg6 arg8 harg8 x0 x1 x2 x3 x4 xs0) x).trans (res_out x0 x1 x2 x3 x4 (slc xs0) 10 0 inb_S1024x512_S64x128_640_0 x), ?_⟩
  refine List.forall_mem_cons.2 ⟨fun x => (congrFun (CaseB.pc_9_3 c arg2 harg2 arg3 harg3 arg4 harg4 arg5 harg5 arg6 harg6 arg8 harg8 x0 x1 x2 x3 x4 xs0) x).trans (res_out x0 x1 x2 x3 x4 (slc xs0) 9 3 inb_S1024x512_S64x128_576_384 x), ?_⟩
  refine List.forall_mem_cons.2 ⟨fun x => (congrFun (CaseB.pc_9_2 c arg2 harg2 arg3 harg3 arg4 harg4 arg5 harg5 arg6 harg6 arg8 harg8 x0 x1 x2 x3 x4 xs0) x).trans (res_out x0 x1 x2 x3 x4 (slc xs0) 9 2 inb_S1024x512_S64x128_576_256 x), ?_⟩
  refine List.forall_mem_cons.2 ⟨fun x => (congrFun (CaseB.pc_9_1 c arg2 harg2 arg3 harg3 arg4 harg4 arg5 harg5 arg6 harg6 arg8 harg8 x0 x1 x2 x3 x4 xs0) x).trans (res_out x0 x1 x2 x3 x4 (slc xs0) 9 1 inb_S1024x512_S64x128_576_128 x), ?_⟩
  refine List.forall_mem_cons.2 ⟨fun x => (congrFun (CaseB.pc_9_0 c arg2 harg2 arg3 harg3 arg4 harg4 arg5 harg5 arg6 harg6 arg8 harg8 x0 x1 x2 x3 x4 xs0) x).trans (res_out x0 x1 x2 x3 x4 (slc xs0) 9 0 inb_S1024x512_S64x128_576_0 x), ?_⟩
  refine List.forall_mem_cons.2 ⟨fun x => (congrFun (CaseB.pc_8_3 c arg2 harg2 arg3 harg3 arg4 harg4 arg5 harg5 arg6 harg6 arg8 harg8 x0 x1 x2 x3 x4 xs0) x).trans (res_out x0 x1 x2 x3 x4 (slc xs0) 8 3 inb_S1024x512_S64x128_512_384 x), ?_⟩
  refine List.forall_mem_cons.2 ⟨fun x => (congrFun (CaseB.pc_8_2 c arg2 harg2 arg3 harg3 arg4 harg4 arg5 harg5 arg6 harg6 arg8 harg8 x0 x1 x2 x3 x4 xs0) x).trans (res_out x0 x1 x2 x3 x4 (slc xs0) 8 2 inb_S1024x512_S64x128_512_256 x), ?_⟩
  refine List.forall_mem_cons.2 ⟨fun x => (congrFun (CaseB.pc_8_1 c arg2 harg2 arg3 harg3 arg4 harg4 arg5 harg5 arg6 harg6 arg8 harg8 x0 x1 x2 x3 x4 xs0) x).trans (res_out x0 x1 x2 x3 x4 (slc xs0) 8 1 inb_S1024x512_S64x128_512_128 x), ?_⟩
  refine List.forall_mem_cons.2 ⟨fun x => (congrFun (CaseB.pc_8_0 c arg2 harg2 arg3 harg3 arg4 harg4 arg5 harg5 arg6 harg6 arg8 harg8 x0 x1 x2 x3 x4 xs0) x).trans (res_out x0 x1 x2 x3 x4 (slc xs0) 8 0 inb_S1024x512_S64x128_512_0 x), ?_⟩
  refine List.forall_mem_cons.2 ⟨fun x => (congrFun (CaseB.pc_7_3 c arg2 harg2 arg3 harg3 arg4 harg4 arg5 harg5 arg6 harg6 arg8 harg8 x0 x1 x2 x3 x4 xs0) x).trans (res_out x0 x1 x2 x3 x4 (slc xs0) 7 3 inb_S1024x512_S64x128_448_384 x), ?_⟩
  refine List.forall_mem_cons.2 ⟨fun x => (congrFun (CaseB.pc_7_2 c arg2 harg2 arg3 harg3 arg4 harg4 arg5 harg5 arg6 harg6 arg8 harg8 x0 x1 x2 x3 x4 xs0) x).trans (res_out x0 x1 x2 x3 x4 (slc xs0) 7 2 inb_S1024x512_S64x128_448_256 x), ?_⟩
  refine List.forall_mem_cons.2 ⟨fun x => (congrFun (CaseB.pc_7_1 c arg2 harg2 arg3 harg3 arg4 harg4 arg5 harg5 arg6 harg6 arg8 harg8 x0 x1 x2 x3 x4 xs0) x).trans (res_out x0 x1 x2 x3 x4 (slc xs0) 7 1 inb_S1024x512_S64x128_448_128 x), ?_⟩
  refine List.forall_mem_cons.2 ⟨fun x => (congrFun (CaseB.pc_7_0 c arg2 harg2 arg3 harg3 arg4 harg4 arg5 harg5 arg6 harg6 arg8 harg8 x0 x1 x2 x3 x4 xs0) x).trans (res_out x0 x1 x2 x3 x4 (slc xs0) 7 0 inb_S1024x512_S64x128_448_0 x), ?_⟩
  refine List.forall_mem_cons.2 ⟨fun x => (congrFun (CaseB.pc_6_3 c arg2 harg2 arg3 harg3 arg4 harg4 arg5 harg5 arg6 harg6 arg8 harg8 x0 x1 x2 x3 x4 xs0) x).trans (res_out x0 x1 x2 x3 x4 (slc xs0) 6 3 inb_S1024x512_S64x128_384_384 x), ?_⟩
  refine List.forall_mem_cons.2 ⟨fun x => (congrFun (CaseB.pc_6_2 c arg2 harg2 arg3 harg3 arg4 harg4 arg5 harg5 arg6 harg6 arg8 harg8 x0 x1 x2 x3 x4 xs0) x).trans (res_out x0 x1 x2 x3 x4 (slc xs0) 6 2 inb_S1024x512_S64x128_384_256 x), ?_⟩
  refine List.forall_mem_cons.2 ⟨fun x => (congrFun (CaseB.pc_6_1 c arg2 harg2 arg3 harg3 arg4 harg4 arg5 harg5 arg6 harg6 arg8 harg8 x0 x1 x2 x3 x4 xs0) x).trans (res_out x0 x1 x2 x3 x4 (slc xs0) 6 1 inb_S1024x512_S64x128_384_128 x), ?_⟩
  refine List.forall_mem_cons.2 ⟨fun x => (congrFun (CaseB.pc_6_0 c arg2 harg2 arg3 harg3 arg4 harg4 arg5 harg5 arg6 harg6 arg8 harg8 x0 x1 x2 x3 x4 xs0) x).trans (res_out x0 x1 x2 x3 x4 (slc xs0) 6 0 inb_S1024x512_S64x128_384_0 x), ?_⟩
  refine List.forall_mem_cons.2 ⟨fun x => (congrFun (CaseB.pc_5_3 c arg2 harg2 arg3 harg3 arg4 harg4 arg5 harg5 arg6 harg6 arg8 harg8 x0 x1 x2 x3 x4 xs0) x).trans (res_out x0 x1 x2 x3 x4 (slc xs0) 5 3 inb_S1024x512_S64x128_320_384 x), ?_⟩
  refine List.forall_mem_cons.2 ⟨fun x => (congrFun (CaseB.pc_5_2 c arg2 harg2 arg3 harg3 arg4 harg4 arg5 harg5 arg6 harg6 arg8 harg8 x0 x1 x2 x3 x4 xs0) x).trans (res_out x0 x1 x2 x3 x4 (slc xs0) 5 2 inb_S1024x512_S64x128_320_256 x), ?_⟩
  refine List.forall_mem_cons.2 ⟨fun x => (congrFun (CaseB.pc_5_1 c arg2 harg2 arg3 harg3 arg4 harg4 arg5 harg5 arg6 harg6 arg8 harg8 x0 x1 x2 x3 x4 xs0) x).trans (res_out x0 x1 x2 x3 x4 (slc xs0) 5 1 inb_S1024x512_S64x128_320_128 x), ?_⟩
  refine List.forall_mem_cons.2 ⟨fun x => (congrFun (CaseB.pc_5_0 c arg2 harg2 arg3 harg3 arg4 harg4 arg5 harg5 arg6 harg6 arg8 harg8 x0 x1 x2 x3 x4 xs0) x).trans (res_out x0 x1 x2 x3 x4 (slc xs0) 5 0 inb_S1024x512_S64x128_320_0 x), ?_⟩
  refine List.forall_mem_cons.2 ⟨fun x => (congrFun (CaseB.pc_4_3 c arg2 harg2 arg3 harg3 arg4 harg4 arg5 harg5 arg6 harg6 arg8 harg8 x0 x1 x2 x3 x4 xs0) x).trans (res_out x0 x1 x2 x3 x4 (slc xs0) 4 3 inb_S1024x512_S64x128_256_384 x), ?_⟩
  refine List.forall_mem_cons.2 ⟨fun x => (congrFun (CaseB.pc_4_2 c arg2 harg2 arg3 harg3 arg4 harg4 arg5 harg5 arg6 harg6 arg8 harg8 x0 x1 x2 x3 x4 xs0) x).trans (res_out x0 x1 x2 x3 x4 (slc xs0) 4 2 inb_S1024x512_S64x128_256_256 x), ?_⟩
  refine List.forall_mem_cons.2 ⟨fun x => (congrFun (CaseB.pc_4_1 c arg2 harg2 arg3 harg3 arg4 harg4 arg5 harg5 arg6 harg6 arg8 harg8 x0 x1 x2 x3 x4 xs0) x).trans (res_out x0 x1 x2 x3 x4 (slc xs0) 4 1 inb_S1024x512_S64x128_256_128 x), ?_⟩
  refine List.forall_mem_cons.2 ⟨fun x => (congrFun (CaseB.pc_4_0 c arg2 harg2 arg3 harg3 arg4 harg4 arg5 harg5 arg6 harg6 arg8 harg8 x0 x1 x2 x3 x4 xs0) x).trans (res_out x0 x1 x2 x3 x4 (slc xs0) 4 0 inb_S1024x512_S64x128_256_0 x), ?_⟩
  refine List.forall_mem_cons.2 ⟨fun x => (congrFun (CaseB.pc_3_3 c arg2 harg2 arg3 harg3 arg4 harg4 arg5 harg5 arg6 harg6 arg8 harg8 x0 x1 x2 x3 x4 xs0) x).trans (res_out x0 x1 x2 x3 x4 (slc xs0) 3 3 inb_S1024x512_S64x128_192_384 x), ?_⟩
  refine List.forall_mem_cons.2 ⟨fun x => (congrFun (CaseB.pc_3_2 c arg2 harg2 arg3 harg3 arg4 harg4 arg5 harg5 arg6 harg6 arg8 harg8 x0 x1 x2 x3 x4 xs0) x).trans (res_out x0 x1 x2 x3 x4 (slc xs0) 3 2 inb_S1024x512_S64x128_192_256 x), ?_⟩
  refine List.forall_mem_cons.2 ⟨fun x => (congrFun (CaseB.pc_3_1 c arg2 harg2 arg3 harg3 arg4 harg4 arg5 harg5 arg6 harg6 arg8 harg8 x0 x1 x2 x3 x4 xs0) x).trans (res_out x0 x1 x2 x3 x4 (slc xs0) 3 1 inb_S1024x512_S64x128_192_128 x), ?_⟩
  refine List.forall_mem_cons.2 ⟨fun x => (congrFun (CaseB.pc_3_0 c arg2 harg2 arg3 harg3 arg4 harg4 arg5 harg5 arg6 harg6 arg8 harg8 x0 x1 x2 x3 x4 xs0) x).trans (res_out x0 x1 x2 x3 x4 (slc xs0) 3 0 inb_S1024x512_S64x128_192_0 x), ?_⟩
  refine List.forall_mem_cons.2 ⟨fun x => (congrFun (CaseB.pc_2_3 c arg2 harg2 arg3 harg3 arg4 harg4 arg5 harg5 arg6 harg6 arg8 harg8 x0 x1 x2 x3 x4 xs0) x).trans (res_out x0 x1 x2 x3 x4 (slc xs0) 2 3 inb_S1024x512_S64x128_128_384 x), ?_⟩
  refine List.forall_mem_cons.2 ⟨fun x => (congrFun (CaseB.pc_2_2 c arg2 harg2 arg3 harg3 arg4 harg4 arg5 harg5 arg6 harg6 arg8 harg8 x0 x1 x2 x3 x4 xs0) x).trans (res_out x0 x1 x2 x3 x4 (slc xs0) 2 2 inb_S1024x512_S64x128_128_256 x), ?_⟩
  refine List.forall_mem_cons.2 ⟨fun x => (congrFun (CaseB.pc_2_1 c arg2 harg2 arg3 harg3 arg4 harg4 arg5 harg5 arg6 harg6 arg8 harg8 x0 x1 x2 x3 x4 xs0) x).trans (res_out x0 x1 x2 x3 x4 (slc xs0) 2 1 inb_S1024x512_S64x128_128_128 x), ?_⟩
  refine List.forall_mem_cons.2 ⟨fun x => (congrFun (CaseB.pc_2_0 c arg2 harg2 arg3 harg3 arg4 harg4 arg5 harg5 arg6 harg6 arg8 harg8 x0 x1 x2 x3 x4 xs0) x).trans (res_out x0 x1 x2 x3 x4 (slc xs0) 2 0 inb_S1024x512_S64x128_128_0 x), ?_⟩
  refine List.forall_mem_cons.2 ⟨fun x => (congrFun (CaseB.pc_1_3 c arg2 harg2 arg3 harg3 arg4 harg4 arg5 harg5 arg6 harg6 arg8 harg8 x0 x1 x2 x3 x4 xs0) x).trans (res_out x0 x1 x2 x3 x4 (slc xs0) 1 3 inb_S1024x512_S64x128_64_384 x), ?_⟩
  refine List.forall_mem_cons.2 ⟨fun x => (congrFun (CaseB.pc_1_2 c arg2 harg2 arg3 harg3 arg4 harg4 arg5 harg5 arg6 harg6 arg8 harg8 x0 x1 x2 x3 x4 xs0) x).trans (res_out x0 x1 x2 x3 x4 (slc xs0) 1 2 inb_S1024x512_S64x128_64_256 x), ?_⟩
  refine List.forall_mem_cons.2 ⟨fun x => (congrFun (CaseB.pc_1_1 c arg2 harg2 arg3 harg3 arg4 harg4 arg5 harg5 arg6 harg6 arg8 harg8 x0 x1 x2 x3 x4 xs0) x).trans (res_out x0 x1 x2 x3 x4 (slc xs0) 1 1 inb_S1024x512_S64x128_64_128 x), ?_⟩
  refine List.forall_mem_cons.2 ⟨fun x => (congrFun (CaseB.pc_1_0 c arg2 harg2 arg3 harg3 arg4 harg4 arg5 harg5 arg6 harg6 arg8 harg8 x0 x1 x2 x3 x4 xs0) x).trans (res_out x0 x1 x2 x3 x4 (slc xs0) 1 0 inb_S1024x512_S64x128_64_0 x), ?_⟩
  refine List.forall_mem_cons.2 ⟨fun x => (congrFun (CaseB.pc_0_3 c arg2 harg2 arg3 harg3 arg4 harg4 arg5 harg5 arg6 harg6 arg8 harg8 x0 x1 x2 x3 x4 xs0) x).trans (res_out x0 x1 x2 x3 x4 (slc xs0) 0 3 inb_S1024x512_S64x128_0_384 x), ?_⟩
  refine List.forall_mem_cons.2 ⟨fun x => (congrFun (CaseB.pc_0_2 c arg2 harg2 arg3 harg3 arg4 harg4 arg5 harg5 arg6 harg6 arg8 harg8 x0 x1 x2 x3 x4 xs0) x).trans (res_out x0 x1 x2 x3 x4 (slc xs0) 0 2 inb_S1024x512_S64x128_0_256 x), ?_⟩
  refine List.forall_mem_cons.2 ⟨fun x => (congrFun (CaseB.pc_0_1 c arg2 harg2 arg3 harg3 arg4 harg4 arg5 harg5 arg6 harg6 arg8 harg8 x0 x1 x2 x3 x4 xs0) x).trans (res_out x0 x1 x2 x3 x4 (slc xs0) 0 1 inb_S1024x512_S64x128_0_128 x), ?_⟩
  refine List.forall_mem_cons.2 ⟨fun x => (congrFun (CaseB.pc_0_0 c arg2 harg2 arg3 harg3 arg4 harg4 arg5 harg5 arg6 harg6 arg8 harg8 x0 x1 x2 x3 x4 xs0) x).trans (res_out x0 x1 x2 x3 x4 (slc xs0) 0 0 inb_S1024x512_S64x128_0_0 x), ?_⟩
  exact fun pc hpc => absurd hpc List.not_mem_nil

theorem soutB : sout0_B_0 (F := Ideal) c i arg2 harg2 arg3 harg3 arg4 harg4 arg5 harg5 arg6 harg6 arg7 harg7 arg8 harg8 hc0 x0 x1 x2 x3 x4 xs0 = carried x0 x1 x2 (slc xs0) := by
  unfold sout0_B_0
  rw [View.read_writes_junk_eq_canon]
  exact canon_heads x0 x1 x2 (slc xs0) _ _ _ _ (CaseB.st_16_0 c arg2 harg2 arg3 harg3 arg4 harg4 arg8 harg8 x0 x1 x2 xs0) (CaseB.st_16_1 c arg2 harg2 arg3 harg3 arg4 harg4 arg8 harg8 x0 x1 x2 xs0)
    (CaseB.st_16_2 c arg2 harg2 arg3 harg3 arg4 harg4 arg8 harg8 x0 x1 x2 xs0) (CaseB.st_16_3 c arg2 harg2 arg3 harg3 arg4 harg4 arg8 harg8 x0 x1 x2 xs0) _

end CaseB

end Cert.GlaIdeal.Block

end
-- ==== Proof.GlaRows.lean ====
/-
  Gated linear attention over whole arrays: the state before every chunk of every batch, a row's result, and that the
  kernel's result array holds it. Point `t` of the grid computes the rows `1024 t` to `1024 t + 1023`; eight points in
  turn are one batch, and the carried array passes the state from each to the next.
-/
module

public import proofs.«01_k».proof.Defs
public import proofs.«01_k».proof.Proof.GlaOut
public import proofs.«01_k».proof.Proof.Gen.GlaIdeal.Value

@[expose] public section

set_option maxRecDepth 16384

noncomputable section

open Idealize.ShloMosaic Idealize.ShloMosaic.TcCoe Idealize.SL.Sem
open Idealize.ShloMosaic.Pipeline (Dat)

/-! ## The mathematics -/

namespace Cert.Layer.Gla

open Cert.GlaIdeal.Block (gated)

/-- Row `x` of chunk `n` of batch `b`. -/
def row (b n x : ℕ) : Fin 65536 := ⟨(8192 * b + 64 * n + x) % 65536, Nat.mod_lt _ (by omega)⟩
/-- Entry `e` of head `h` of a query, a key or a decay. -/
def colK (h : Fin 4) (e : Fin 64) : Fin 256 := ⟨64 * h.val + e.val, by omega⟩
/-- Entry `d` of head `h` of a value, a gate or a result. -/
def colV (h : Fin 4) (d : Fin 128) : Fin 512 := ⟨128 * h.val + d.val, by omega⟩

variable (q k la : Fin 65536 → Fin 256 → EReal) (v g : Fin 65536 → Fin 512 → EReal) (gn : Fin 128 → EReal)

/-- The sum of the log decays of a chunk's rows, up to and with row `r`. -/
def lam (b n : ℕ) (h : Fin 4) (e : Fin 64) (r : ℕ) : EReal := pre (fun i => la (row b n i.val) (colK h e)) r

/-- The state of head `h` of batch `b` before chunk `n`. -/
def state (b : ℕ) (h : Fin 4) (d : Fin 128) (e : Fin 64) : ℕ → EReal
  | 0 => 0
  | n + 1 => state b h d e n * Ideal.exp (lam la b n h e 63)
      + ∑ x : Fin 64, v (row b n x.val) (colV h d) * (k (row b n x.val) (colK h e) * Ideal.exp (lam la b n h e 63 - lam la b n h e x.val))

/-- A row of head `h` before the norm. -/
def score (b n : ℕ) (h : Fin 4) (r : Fin 64) (d : Fin 128) : EReal :=
  (∑ x : Fin 64, if x.val ≤ r.val then
      (∑ e : Fin 64, q (row b n r.val) (colK h e) * Ideal.exp (lam la b n h e r.val) * (k (row b n x.val) (colK h e) * Ideal.exp (-lam la b n h e x.val)))
        * v (row b n x.val) (colV h d) else 0)
    + ∑ e : Fin 64, q (row b n r.val) (colK h e) * Ideal.exp (lam la b n h e r.val) * state k la v b h d e n

/-- An entry of the result. -/
def out (b n : ℕ) (h : Fin 4) (r : Fin 64) (d : Fin 128) : EReal :=
  gated (fun x => score q k la v b n h r x) (gn d) (g (row b n r.val) (colV h d)) d

end Cert.Layer.Gla

/-! ## The kernel's blocks -/

namespace Cert.GlaIdeal.Rows

open Cert.GlaIdeal Cert.GlaIdeal.Gen Cert.Layer Cert.Layer.Gla Cert.GlaIdeal.Block

theorem idx : ∀ t : Fin cfg0.N, win0_0.index t = ![t.val, 0] ∧ win0_1.index t = ![t.val, 0] ∧ win0_2.index t = ![t.val, 0] ∧ win0_3.index t = ![t.val, 0] ∧ win0_4.index t = ![0, 0] ∧ win0_5.index t = ![t.val, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![0, 0] ∧ win0_5.index t = ![t.val, 0])

variable (m : (ℓ : Loc nD τ sig) → Buf (Elt Ideal) ℓ) (c : Dev nD)

/-- The queries. -/
def Q (R : Fin 65536) (j : Fin 256) : EReal := (show FVec Ideal S65536x512 .f32 from m ((c : Thread nD τ).loc main_arg0)) (ix2 R (⟨j.val, by omega⟩ : Fin 512))
/-- The keys. -/
def K (R : Fin 65536) (j : Fin 256) : EReal := (show FVec Ideal S65536x512 .f32 from m ((c : Thread nD τ).loc main_arg0)) (ix2 R (⟨256 + j.val, by omega⟩ : Fin 512))
/-- The values. -/
def Vv (R : Fin 65536) (j : Fin 512) : EReal := (show FVec Ideal S65536x512 .bf16 from m ((c : Thread nD τ).loc main_arg1)) (ix2 R j)
/-- The log decays. -/
def La (R : Fin 65536) (j : Fin 256) : EReal := (show FVec Ideal S65536x256 .f32 from m ((c : Thread nD τ).loc main_arg2)) (ix2 R j)
/-- The gates. -/
def Gg (R : Fin 65536) (j : Fin 512) : EReal := (show FVec Ideal S65536x512 .f32 from m ((c : Thread nD τ).loc main_arg3)) (ix2 R j)
/-- The gain. -/
def Gn (d : Fin 128) : EReal := (show FVec Ideal S128 .f32 from m ((c : Thread nD τ).loc main_arg4)) (ix1 d)

section
variable (t : Fin cfg0.N)

theorem b0 (r : Fin 1024) (R : Fin 65536) (hR : R.val = t.val * 1024 + r.val) (k : Fin 512) :
    (show FVec Ideal S1024x512 .f32 from iblk m c 0 t) (ix2 r k)
      = (show FVec Ideal S65536x512 .f32 from m ((c : Thread nD τ).loc main_arg0)) (ix2 R k) := by blk_ext [iblk, V, idx t, hR]
theorem b1 (r : Fin 1024) (R : Fin 65536) (hR : R.val = t.val * 1024 + r.val) (k : Fin 512) :
    (show FVec Ideal S1024x512 .bf16 from iblk m c 1 t) (ix2 r k)
      = (show FVec Ideal S65536x512 .bf16 from m ((c : Thread nD τ).loc main_arg1)) (ix2 R k) := by blk_ext [iblk, V, idx t, hR]
theorem b2 (r : Fin 1024) (R : Fin 65536) (hR : R.val = t.val * 1024 + r.val) (k : Fin 256) :
    (show FVec Ideal S1024x256 .f32 from iblk m c 2 t) (ix2 r k)
      = (show FVec Ideal S65536x256 .f32 from m ((c : Thread nD τ).loc main_arg2)) (ix2 R k) := by blk_ext [iblk, V, idx t, hR]
theorem b3 (r : Fin 1024) (R : Fin 65536) (hR : R.val = t.val * 1024 + r.val) (k : Fin 512) :
    (show FVec Ideal S1024x512 .f32 from iblk m c 3 t) (ix2 r k)
      = (show FVec Ideal S65536x512 .f32 from m ((c : Thread nD τ).loc main_arg3)) (ix2 R k) := by blk_ext [iblk, V, idx t, hR]
theorem row128 (g : FVec Ideal S128 .f32) (k : Fin 128) : shapeCast S1x128 g shapeCasts_S128_S1x128 (ix2 0 k) = g (ix1 k) := by pointwise
theorem b4 (k : Fin 128) : (show FVec Ideal S1x128 .f32 from iblk m c 4 t) (ix2 0 k) = Gn m c k := by
  have e : (show FVec Ideal S1x128 .f32 from iblk m c 4 t) (ix2 0 k) = (show FVec Ideal S1x128 .f32 from V m c main_v0) (ix2 0 k) := by
    blk_ext [iblk, idx t]
  rw [e]
  exact row128 _ k

end

/-! ## A block's chunks are the batch's -/

section

variable (q k la : Fin 65536 → Fin 256 → EReal) (v g : Fin 65536 → Fin 512 → EReal) (gn : Fin 128 → EReal) (b j : ℕ)
  (x0 : FVec Ideal S1024x512 .f32) (x1 : FVec Ideal S1024x512 .bf16) (x2 : FVec Ideal S1024x256 .f32) (x3 : FVec Ideal S1024x512 .f32)
  (x4 : FVec Ideal S1x128 .f32) (S0 : Fin 4 → FVec Ideal S128x64 .f32)
  (hq : ∀ (r : Fin 1024) (i : Fin 256), x0 (ix2 r (⟨i.val, by omega⟩ : Fin 512)) = q (row b (16 * j) r.val) i)
  (hk : ∀ (r : Fin 1024) (i : Fin 256), x0 (ix2 r (⟨256 + i.val, by omega⟩ : Fin 512)) = k (row b (16 * j) r.val) i)
  (hv : ∀ (r : Fin 1024) (i : Fin 512), x1 (ix2 r i) = v (row b (16 * j) r.val) i)
  (hl : ∀ (r : Fin 1024) (i : Fin 256), x2 (ix2 r i) = la (row b (16 * j) r.val) i)
  (hg : ∀ (r : Fin 1024) (i : Fin 512), x3 (ix2 r i) = g (row b (16 * j) r.val) i)
  (hn : ∀ d : Fin 128, x4 (ix2 0 d) = gn d)

theorem row_cut (n : ℕ) (h : n < 16) (x : Fin 64) : row b (16 * j) ((64 * n + x.val) % 1024) = row b (16 * j + n) x.val := by
  apply Fin.ext
  have := x.isLt
  show (8192 * b + 64 * (16 * j) + (64 * n + x.val) % 1024) % 65536 = (8192 * b + 64 * (16 * j + n) + x.val) % 65536
  rw [Nat.mod_eq_of_lt (by omega : 64 * n + x.val < 1024)]
  congr 1
  omega

include hq in
theorem cutQ_at (n : ℕ) (h : n < 16) (x : Fin 64) (i : Fin 256) : cutQ x0 n (ix2 x i) = q (row b (16 * j + n) x.val) i := by
  rw [← row_cut b j n h x]; exact hq ⟨(64 * n + x.val) % 1024, Nat.mod_lt _ (by omega)⟩ i
include hk in
theorem cutK_at (n : ℕ) (h : n < 16) (x : Fin 64) (i : Fin 256) : cutK x0 n (ix2 x i) = k (row b (16 * j + n) x.val) i := by
  rw [← row_cut b j n h x]; exact hk ⟨(64 * n + x.val) % 1024, Nat.mod_lt _ (by omega)⟩ i
include hl in
theorem cutA_at (n : ℕ) (h : n < 16) (x : Fin 64) (i : Fin 256) : cutA x2 n (ix2 x i) = la (row b (16 * j + n) x.val) i := by
  rw [← row_cut b j n h x]; exact hl ⟨(64 * n + x.val) % 1024, Nat.mod_lt _ (by omega)⟩ i
include hv in
theorem cutV_at (n : ℕ) (h : n < 16) (hd : Fin 4) (x : Fin 64) (d : Fin 128) : cutH (φ := .bf16) x1 n hd (ix2 x d) = v (row b (16 * j + n) x.val) (colV hd d) := by
  rw [← row_cut b j n h x]; exact hv ⟨(64 * n + x.val) % 1024, Nat.mod_lt _ (by omega)⟩ (colV hd d)
include hg in
theorem cutG_at (n : ℕ) (h : n < 16) (hd : Fin 4) (x : Fin 64) (d : Fin 128) : cutH (φ := .f32) x3 n hd (ix2 x d) = g (row b (16 * j + n) x.val) (colV hd d) := by
  rw [← row_cut b j n h x]; exact hg ⟨(64 * n + x.val) % 1024, Nat.mod_lt _ (by omega)⟩ (colV hd d)

include hl in
theorem lam_at (n : ℕ) (h : n < 16) (hd : Fin 4) (e : Fin 64) (r : ℕ) :
    pre (fun i => cutA x2 n (ix2 i (colK hd e))) r = lam la b (16 * j + n) hd e r :=
  congrArg (fun f => pre f r) (funext fun i => cutA_at la b j x2 hl n h i (colK hd e))

include hl hk hv in
/-- The state inside a block is the batch's. -/
theorem ST_at (h0 : ∀ hd d e, S0 hd (ix2 d e) = state k la v b hd d e (16 * j)) (n : ℕ) (h : n ≤ 16) (hd : Fin 4) (d : Fin 128) (e : Fin 64) :
    ST x0 x1 x2 S0 n hd (ix2 d e) = state k la v b hd d e (16 * j + n) := by
  induction n with
  | zero => exact h0 hd d e
  | succ n ih =>
    have hn : n < 16 := h
    rw [ST_succ]
    refine (nxt_at _ _ _ _ _ _).trans ?_
    refine Eq.trans ?_ (show state k la v b hd d e (16 * j + n) * Ideal.exp (lam la b (16 * j + n) hd e 63)
      + ∑ x : Fin 64, v (row b (16 * j + n) x.val) (colV hd d) * (k (row b (16 * j + n) x.val) (colK hd e) * Ideal.exp (lam la b (16 * j + n) hd e 63 - lam la b (16 * j + n) hd e x.val)) = _ from rfl)
    refine congr (congrArg HAdd.hAdd (congr (congrArg HMul.hMul (ih (by omega))) ((dec_at _ _ _).trans (congrArg Ideal.exp (lam_at la b j x2 hl n hn hd e 63))))) ?_
    refine (upd_at _ _ _ _ _ _).trans (Finset.sum_congr rfl fun x _ => ?_)
    refine congr (congrArg HMul.hMul (cutV_at v b j x1 hv n hn hd x d)) ((ko_at _ _ _ _).trans ?_)
    refine congr (congrArg HMul.hMul (cutK_at k b j x0 hk n hn x (colK hd e))) (congrArg Ideal.exp ?_)
    exact congr (congrArg HSub.hSub (lam_at la b j x2 hl n hn hd e 63)) (lam_at la b j x2 hl n hn hd e x.val)

include hq hl hk hv in
theorem score_at (h0 : ∀ hd d e, S0 hd (ix2 d e) = state k la v b hd d e (16 * j)) (n : ℕ) (hn : n < 16) (hd : Fin 4) (r : Fin 64) (d : Fin 128) :
    osum hd (qd (cutQ x0 n) (cutA x2 n)) (intra hd (cutQ x0 n) (cutK x0 n) (cutA x2 n) (cutH (φ := .bf16) x1 n hd)) (ST x0 x1 x2 S0 n hd) (ix2 r d)
      = score q k la v b (16 * j + n) hd r d := by
  have hQ : ∀ e : Fin 64, qd (cutQ x0 n) (cutA x2 n) (ix2 r (colK hd e)) = q (row b (16 * j + n) r.val) (colK hd e) * Ideal.exp (lam la b (16 * j + n) hd e r.val) := fun e =>
    (qd_at _ _ _ _).trans (congr (congrArg HMul.hMul (cutQ_at q b j x0 hq n hn r (colK hd e))) (congrArg Ideal.exp (lam_at la b j x2 hl n hn hd e r.val)))
  refine (osum_at _ _ _ _ _ _).trans ?_
  refine congr (congrArg HAdd.hAdd ?_) ?_
  · refine (intra_at _ _ _ _ _ _ _).trans (Finset.sum_congr rfl fun x _ => ?_)
    refine if_congr Iff.rfl ?_ rfl
    refine congr (congrArg HMul.hMul (Finset.sum_congr rfl fun e _ => ?_)) (cutV_at v b j x1 hv n hn hd x d)
    refine congr (congrArg HMul.hMul (hQ e)) ((ki_at _ _ _ _).trans ?_)
    exact congr (congrArg HMul.hMul (cutK_at k b j x0 hk n hn x (colK hd e))) (congrArg (fun z => Ideal.exp (-z)) (lam_at la b j x2 hl n hn hd e x.val))
  · refine Finset.sum_congr rfl fun e _ => ?_
    exact congr (congrArg HMul.hMul (hQ e)) (ST_at k la v b j x0 x1 x2 S0 hk hv hl h0 n (by omega) hd d e)

include hq hl hk hv hg hn in
theorem res_at (h0 : ∀ hd d e, S0 hd (ix2 d e) = state k la v b hd d e (16 * j)) (n : ℕ) (hn' : n < 16) (hd : Fin 4) (r : Fin 64) (d : Fin 128) :
    res x0 x1 x2 x3 x4 S0 n hd (ix2 r d) = out q k la v g gn b (16 * j + n) hd r d := by
  refine (fin_at _ _ _ _ _).trans ?_
  show gated _ _ _ d = gated _ _ _ d
  rw [show (fun x => osum hd (qd (cutQ x0 n) (cutA x2 n)) (intra hd (cutQ x0 n) (cutK x0 n) (cutA x2 n) (cutH (φ := .bf16) x1 n hd)) (ST x0 x1 x2 S0 n hd) (ix2 r x))
    = fun x => score q k la v b (16 * j + n) hd r x from funext fun x => score_at q k la v b j x0 x1 x2 S0 hq hk hv hl h0 n hn' hd r x,
    hn d, cutG_at g b j x3 hg n hn' hd r d]

end

/-! ## Every point -/

/-- The rows of point `t` are those of its batch and place. -/
theorem row_pt (t : Fin cfg0.N) (r : Fin 1024) : (row (t.val / 8) (16 * (t.val % 8)) r.val).val = t.val * 1024 + r.val := by
  have ht : t.val < 64 := Nat.lt_of_lt_of_eq t.isLt N_0
  have := r.isLt
  show (8192 * (t.val / 8) + 64 * (16 * (t.val % 8)) + r.val) % 65536 = _
  omega

section
variable (t : Fin cfg0.N)

theorem hq (r : Fin 1024) (i : Fin 256) : (show FVec Ideal S1024x512 .f32 from iblk m c 0 t) (ix2 r (⟨i.val, by omega⟩ : Fin 512)) = Q m c (row (t.val / 8) (16 * (t.val % 8)) r.val) i :=
  b0 m c t r _ (row_pt t r) _
theorem hk (r : Fin 1024) (i : Fin 256) : (show FVec Ideal S1024x512 .f32 from iblk m c 0 t) (ix2 r (⟨256 + i.val, by omega⟩ : Fin 512)) = K m c (row (t.val / 8) (16 * (t.val % 8)) r.val) i :=
  b0 m c t r _ (row_pt t r) _
theorem hv (r : Fin 1024) (i : Fin 512) : (show FVec Ideal S1024x512 .bf16 from iblk m c 1 t) (ix2 r i) = Vv m c (row (t.val / 8) (16 * (t.val % 8)) r.val) i :=
  b1 m c t r _ (row_pt t r) _
theorem hl (r : Fin 1024) (i : Fin 256) : (show FVec Ideal S1024x256 .f32 from iblk m c 2 t) (ix2 r i) = La m c (row (t.val / 8) (16 * (t.val % 8)) r.val) i :=
  b2 m c t r _ (row_pt t r) _
theorem hg (r : Fin 1024) (i : Fin 512) : (show FVec Ideal S1024x512 .f32 from iblk m c 3 t) (ix2 r i) = Gg m c (row (t.val / 8) (16 * (t.val % 8)) r.val) i :=
  b3 m c t r _ (row_pt t r) _

theorem snd_A (h0 : t.val % 8 = 0) : (outsAt0 m c t.val t.isLt).2 = carried (iblk m c 0 t) (iblk m c 1 t) (iblk m c 2 t) (fun _ => zer) :=
  (congrArg Prod.snd (outsAt0_A m c t h0)).trans (soutA c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (iblk m c 4 t))
theorem snd_B (h0 : ¬t.val % 8 = 0) : (outsAt0 m c t.val t.isLt).2 = carried (iblk m c 0 t) (iblk m c 1 t) (iblk m c 2 t) (slc (outsAt0 m c (t.val - 1) (Nat.lt_of_le_of_lt (Nat.sub_le _ _) t.isLt)).2) :=
  (congrArg Prod.snd (outsAt0_B m c t h0)).trans (soutB c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (iblk m c 4 t) ((outsAt0 m c (t.val - 1) (Nat.lt_of_le_of_lt (Nat.sub_le _ _) t.isLt)).2))
theorem fst_A (h0 : t.val % 8 = 0) : (outsAt0 m c t.val t.isLt).1 = OUT (iblk m c 0 t) (iblk m c 1 t) (iblk m c 2 t) (iblk m c 3 t) (iblk m c 4 t) (fun _ => zer) :=
  (congrArg Prod.fst (outsAt0_A m c t h0)).trans (outA c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (iblk m c 4 t))
theorem fst_B (h0 : ¬t.val % 8 = 0) : (outsAt0 m c t.val t.isLt).1 = OUT (iblk m c 0 t) (iblk m c 1 t) (iblk m c 2 t) (iblk m c 3 t) (iblk m c 4 t) (slc (outsAt0 m c (t.val - 1) (Nat.lt_of_le_of_lt (Nat.sub_le _ _) t.isLt)).2) :=
  (congrArg Prod.fst (outsAt0_B m c t h0)).trans (outB c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (iblk m c 4 t) ((outsAt0 m c (t.val - 1) (Nat.lt_of_le_of_lt (Nat.sub_le _ _) t.isLt)).2))

/-- The carried array after point `t`: the state before its next chunk. -/
theorem left (n : ℕ) : ∀ (hn : n < cfg0.N) (hd : Fin 4) (d : Fin 128) (e : Fin 64),
    slc (outsAt0 m c n hn).2 hd (ix2 d e) = state (K m c) (La m c) (Vv m c) (n / 8) hd d e (16 * (n % 8) + 16) := by
  induction n with
  | zero =>
    intro hn hd d e
    rw [snd_A m c ⟨0, hn⟩ rfl, slc_carried]
    exact ST_at (K m c) (La m c) (Vv m c) ((⟨0, hn⟩ : Fin cfg0.N).val / 8) ((⟨0, hn⟩ : Fin cfg0.N).val % 8) _ _ _ _ (hk m c ⟨0, hn⟩) (hv m c ⟨0, hn⟩) (hl m c ⟨0, hn⟩) (fun _ _ _ => rfl) 16 (le_refl _) hd d e
  | succ n ih =>
    intro hn hd d e
    by_cases h0 : (n + 1) % 8 = 0
    · rw [snd_A m c ⟨n + 1, hn⟩ h0, slc_carried]
      refine ST_at (K m c) (La m c) (Vv m c) ((n + 1) / 8) ((n + 1) % 8) _ _ _ _ (hk m c ⟨n + 1, hn⟩) (hv m c ⟨n + 1, hn⟩) (hl m c ⟨n + 1, hn⟩) (fun hd d e => ?_) 16 (le_refl _) hd d e
      rw [h0]
      rfl
    · rw [snd_B m c ⟨n + 1, hn⟩ h0, slc_carried]
      refine ST_at (K m c) (La m c) (Vv m c) ((n + 1) / 8) ((n + 1) % 8) _ _ _ _ (hk m c ⟨n + 1, hn⟩) (hv m c ⟨n + 1, hn⟩) (hl m c ⟨n + 1, hn⟩) (fun hd d e => ?_) 16 (le_refl _) hd d e
      refine (ih (by omega) hd d e).trans ?_
      rw [show n / 8 = (n + 1) / 8 by omega, show 16 * (n % 8) + 16 = 16 * ((n + 1) % 8) by omega]

/-- The kernel's result. -/
def whole : FVec Ideal S65536x512 .bf16 := fun y =>
  out (Q m c) (K m c) (La m c) (Vv m c) (Gg m c) (Gn m c) ((y 0).val / 8192) ((y 0).val % 8192 / 64)
    (⟨(y 1).val / 128, by have : (y 1).val < 512 := (y 1).isLt; omega⟩ : Fin 4) (⟨(y 0).val % 64, Nat.mod_lt _ (by omega)⟩ : Fin 64) (⟨(y 1).val % 128, Nat.mod_lt _ (by omega)⟩ : Fin 128)

theorem block_at (S0 : Fin 4 → FVec Ideal S128x64 .f32) (h0 : ∀ hd d e, S0 hd (ix2 d e) = state (K m c) (La m c) (Vv m c) (t.val / 8) hd d e (16 * (t.val % 8)))
    (r : Fin 1024) (i : Fin 512) (R : Fin 65536) (hR : R.val = t.val * 1024 + r.val) :
    OUT (iblk m c 0 t) (iblk m c 1 t) (iblk m c 2 t) (iblk m c 3 t) (iblk m c 4 t) S0 (ix2 r i) = whole m c (ix2 R i) := by
  have ht : t.val < 64 := Nat.lt_of_lt_of_eq t.isLt N_0
  have hr := r.isLt
  refine (res_at (Q m c) (K m c) (La m c) (Vv m c) (Gg m c) (Gn m c) (t.val / 8) (t.val % 8) _ _ _ _ _ S0 (hq m c t) (hk m c t) (hv m c t) (hl m c t) (hg m c t) (b4 m c t) h0
    (r.val / 64) (by omega) _ _ _).trans ?_
  show _ = out _ _ _ _ _ _ (R.val / 8192) (R.val % 8192 / 64) _ (⟨R.val % 64, _⟩ : Fin 64) _
  have e1 : R.val / 8192 = t.val / 8 := by omega
  have e2 : R.val % 8192 / 64 = 16 * (t.val % 8) + r.val / 64 := by omega
  have e3 : R.val % 64 = r.val % 64 := by omega
  simp only [e1, e2, e3]
  rfl

end

/-- The kernel's result array. -/
theorem final5 : (dats m 0 c).arrAt 5 (cfgs 0).N = whole m c := by
  refine (dats m 0 c).arrAt_eq_of_covers 5 _ (by decide +kernel) fun t _ y => ?_
  blk_simp
  have ht : t.val < 64 := Nat.lt_of_lt_of_eq t.isLt N_0
  have h0 : (y 0).val < 1024 := (y 0).isLt
  have h1 : (y 1).val < 512 := (y 1).isLt
  have ey : y = (ix2 (⟨(y 0).val, h0⟩ : Fin 1024) (⟨(y 1).val, h1⟩ : Fin 512)) := by blk_ext
  have ee : ((cfg0.win 5).blk t).view.emb y = (ix2 (⟨t.val * 1024 + (y 0).val, by omega⟩ : Fin 65536) (⟨(y 1).val, h1⟩ : Fin 512)) := by blk_ext [idx t]
  rw [ee]
  refine (congrArg _ ey).trans ?_
  by_cases hc : t.val % 8 = 0
  · rw [after0_5, fst_A m c t hc]
    refine block_at m c t _ (fun hd d e => ?_) _ _ _ rfl
    rw [hc]
    rfl
  · rw [after0_5, fst_B m c t hc]
    refine block_at m c t _ (fun hd d e => ?_) _ _ _ rfl
    refine (left m c (t.val - 1) _ hd d e).trans ?_
    rw [show (t.val - 1) / 8 = t.val / 8 by omega, show 16 * ((t.val - 1) % 8) + 16 = 16 * (t.val % 8) by omega]

end Cert.GlaIdeal.Rows

end
-- ==== Proof.GlaRefOps.lean ====
/-
  The operations of the gated linear attention reference, read at an entry: arrays by batch, head, chunk, row and column.
-/
module

public import proofs.«01_k».proof.Defs
public import proofs.«01_k».proof.Proof.GlaRows
public import proofs.«01_k».proof.Proof.GlaRef

@[expose] public section

set_option maxRecDepth 16384

noncomputable section

open Idealize.ShloMosaic Idealize.ShloMosaic.TcCoe Idealize.SL.Sem

namespace Cert.GlaRefIdeal.Ops

open Cert.GlaRefIdeal Cert.GlaRefIdeal.Gen Cert.Layer.Gla
open Cert.GlaIdeal.Block (gated)

/-! ## The arguments by batch, head and chunk -/

/-- A query, key or decay array by batch, head, chunk and row. -/
def byK (x : FVec Ideal S65536x256 .f32) : FVec Ideal S8x4x128x64x64 .f32 :=
  transpose S8x4x128x64x64 [0, 3, 1, 2, 4] (shapeCast S8x128x64x4x64 x shapeCasts_S65536x256_S8x128x64x4x64) transposes_S8x128x64x4x64_S8x4x128x64x64_0_3_1_2_4
/-- The values by batch, head, chunk and row. -/
def byV (x : FVec Ideal S65536x512 .f32) : FVec Ideal S8x4x128x64x128 .f32 :=
  transpose S8x4x128x64x128 [0, 3, 1, 2, 4] (shapeCast S8x128x64x4x128 x shapeCasts_S65536x512_S8x128x64x4x128) transposes_S8x128x64x4x128_S8x4x128x64x128_0_3_1_2_4

theorem byK_at (x : FVec Ideal S65536x256 .f32) (b : Fin 8) (h : Fin 4) (n : Fin 128) (r e : Fin 64) :
    byK x (ix5 b h n r e) = x (ix2 (row b.val n.val r.val) (colK h e)) := by
  pointwise [byK]
  refine congrArg x ?_
  have := b.isLt; have := n.isLt; have := r.isLt
  refine congr (congrArg ix2 (Fin.ext ?_)) (Fin.ext ?_)
  · show _ = (8192 * b.val + 64 * n.val + r.val) % 65536
    simp only []
    omega
  · show _ = 64 * h.val + e.val
    simp only []
    omega
theorem byV_at (x : FVec Ideal S65536x512 .f32) (b : Fin 8) (h : Fin 4) (n : Fin 128) (r : Fin 64) (e : Fin 128) :
    byV x (ix5 b h n r e) = x (ix2 (row b.val n.val r.val) (colV h e)) := by
  pointwise [byV]
  refine congrArg x ?_
  have := b.isLt; have := n.isLt; have := r.isLt
  refine congr (congrArg ix2 (Fin.ext ?_)) (Fin.ext ?_)
  · show _ = (8192 * b.val + 64 * n.val + r.val) % 65536
    simp only []
    omega
  · show _ = 128 * h.val + e.val
    simp only []
    omega

/-! ## The running sum -/

/-- The running sum of the decays down a chunk. -/
def cum (x : FVec Ideal S8x4x128x64x64 .f32) : FVec Ideal S8x4x128x64x64 .f32 :=
  Host.reduceWindowAdd ![1, 1, 1, 64, 1] ![1, 1, 1, 1, 1] ![0, 0, 0, 63, 0] ![0, 0, 0, 0, 0] x (broadcastInDim S_ ![] bcast_S_S_ (constant S_ .f32 0x00000000#32)) reduceWindows_S8x4x128x64x64_S8x4x128x64x64_w1s1p0_0_w1s1p0_0_w1s1p0_0_w64s1p63_0_w1s1p0_0 h_S_

theorem foldl_sum {ι : Type} (l : List ι) (g : ι → EReal) (z : EReal) : l.foldl (fun r a => r + g a) z = z + (l.map g).sum := by
  induction l generalizing z with
  | nil => simp
  | cons a l ih => rw [List.foldl_cons, ih, List.map_cons, List.sum_cons, add_assoc]

theorem place : ∀ (n : Fin 64) (a : Fin 5), ((⟨5, ![1, 1, 1, 64, 1]⟩ : Shape).rowMajor.symm (n.cast (by decide)) a).val = if a = 3 then n.val else 0 := by
  decide +kernel

theorem shifted (f : Fin 64 → EReal) (r : Fin 64) :
    (∑ n : Fin 64, if h : 63 ≤ r.val + n.val then f ⟨r.val + n.val - 63, by omega⟩ else 0) = pre f r.val := by
  unfold pre
  rw [← Finset.sum_filter (fun i : Fin 64 => i.val ≤ r.val) f, Finset.sum_dite, Finset.sum_const_zero, add_zero]
  refine Finset.sum_bij (fun n _ => ⟨r.val + n.1.val - 63, by omega⟩) (fun n _ => ?_) (fun a ha a' ha' he => ?_) (fun i hi => ?_) (fun n _ => rfl)
  · simp only [Finset.mem_filter, Finset.mem_univ, true_and]
    omega
  · have h1 := (Finset.mem_filter.mp a.2).2
    have h2 := (Finset.mem_filter.mp a'.2).2
    have := congrArg Fin.val he
    simp only [] at this
    exact Subtype.ext (Fin.ext (by omega))
  · have h1 := (Finset.mem_filter.mp hi).2
    refine ⟨⟨⟨i.val + 63 - r.val, by omega⟩, Finset.mem_filter.mpr ⟨Finset.mem_univ _, by simp only []; omega⟩⟩, Finset.mem_attach _ _, Fin.ext (by simp only []; omega)⟩

theorem place' (n : Fin (⟨5, ![1, 1, 1, 64, 1]⟩ : Shape).numel) (a : Fin 5) : ((⟨5, ![1, 1, 1, 64, 1]⟩ : Shape).rowMajor.symm n a).val = if a = 3 then n.val else 0 :=
  place (n.cast (by decide)) a

theorem cum_at (x : FVec Ideal S8x4x128x64x64 .f32) (b : Fin 8) (h : Fin 4) (n : Fin 128) (r e : Fin 64) :
    cum x (ix5 b h n r e) = pre (fun i => x (ix5 b h n i e)) r.val := by
  rw [← shifted]
  unfold cum Host.reduceWindowAdd
  show Host.reduceWindow (fun a b : EReal => a + b) ![1, 1, 1, 64, 1] ![1, 1, 1, 1, 1] ![0, 0, 0, 63, 0] ![0, 0, 0, 0, 0] x (fun _ : (⟨0, ![]⟩ : Shape).Idx => Ideal.ofBits .f32 0x00000000#32) reduceWindows_S8x4x128x64x64_S8x4x128x64x64_w1s1p0_0_w1s1p0_0_w1s1p0_0_w64s1p63_0_w1s1p0_0 (by decide) (ix5 b h n r e) = _
  rw [show Ideal.ofBits .f32 0x00000000#32 = 0 by simp]
  unfold Host.reduceWindow
  refine (foldl_sum _ _ _).trans ?_
  rw [zero_add, ← Fin.sum_univ_def]
  refine Fintype.sum_equiv (finCongr (by decide : (⟨5, ![1, 1, 1, 64, 1]⟩ : Shape).numel = 64)) _ _ fun i => ?_
  have hi : i.val < 64 := lt_of_lt_of_eq i.isLt (by decide)
  have p0 : ((⟨5, ![1, 1, 1, 64, 1]⟩ : Shape).rowMajor.symm i 0).val = 0 := place' i 0
  have p1 : ((⟨5, ![1, 1, 1, 64, 1]⟩ : Shape).rowMajor.symm i 1).val = 0 := place' i 1
  have p2 : ((⟨5, ![1, 1, 1, 64, 1]⟩ : Shape).rowMajor.symm i 2).val = 0 := place' i 2
  have p3 : ((⟨5, ![1, 1, 1, 64, 1]⟩ : Shape).rowMajor.symm i 3).val = i.val := place' i 3
  have p4 : ((⟨5, ![1, 1, 1, 64, 1]⟩ : Shape).rowMajor.symm i 4).val = 0 := place' i 4
  by_cases hc : 63 ≤ r.val + i.val
  · rw [dif_pos (show 63 ≤ r.val + (finCongr (by decide : (⟨5, ![1, 1, 1, 64, 1]⟩ : Shape).numel = 64) i).val from hc), dif_pos]
    · refine congrArg x (funext fun a => Fin.ext ?_)
      fin_cases a
      · show b.val * 1 + ((⟨5, ![1, 1, 1, 64, 1]⟩ : Shape).rowMajor.symm i 0).val - 0 = b.val; rw [p0]; omega
      · show h.val * 1 + ((⟨5, ![1, 1, 1, 64, 1]⟩ : Shape).rowMajor.symm i 1).val - 0 = h.val; rw [p1]; omega
      · show n.val * 1 + ((⟨5, ![1, 1, 1, 64, 1]⟩ : Shape).rowMajor.symm i 2).val - 0 = n.val; rw [p2]; omega
      · show r.val * 1 + ((⟨5, ![1, 1, 1, 64, 1]⟩ : Shape).rowMajor.symm i 3).val - 63 = r.val + i.val - 63; rw [p3]; omega
      · show e.val * 1 + ((⟨5, ![1, 1, 1, 64, 1]⟩ : Shape).rowMajor.symm i 4).val - 0 = e.val; rw [p4]; omega
    · have := b.isLt; have := h.isLt; have := n.isLt; have := e.isLt; have := r.isLt
      intro a
      fin_cases a
      · show 0 ≤ b.val * 1 + ((⟨5, ![1, 1, 1, 64, 1]⟩ : Shape).rowMajor.symm i 0).val ∧ b.val * 1 + ((⟨5, ![1, 1, 1, 64, 1]⟩ : Shape).rowMajor.symm i 0).val - 0 < 8; rw [p0]; omega
      · show 0 ≤ h.val * 1 + ((⟨5, ![1, 1, 1, 64, 1]⟩ : Shape).rowMajor.symm i 1).val ∧ h.val * 1 + ((⟨5, ![1, 1, 1, 64, 1]⟩ : Shape).rowMajor.symm i 1).val - 0 < 4; rw [p1]; omega
      · show 0 ≤ n.val * 1 + ((⟨5, ![1, 1, 1, 64, 1]⟩ : Shape).rowMajor.symm i 2).val ∧ n.val * 1 + ((⟨5, ![1, 1, 1, 64, 1]⟩ : Shape).rowMajor.symm i 2).val - 0 < 128; rw [p2]; omega
      · show 63 ≤ r.val * 1 + ((⟨5, ![1, 1, 1, 64, 1]⟩ : Shape).rowMajor.symm i 3).val ∧ r.val * 1 + ((⟨5, ![1, 1, 1, 64, 1]⟩ : Shape).rowMajor.symm i 3).val - 63 < 64; rw [p3]; omega
      · show 0 ≤ e.val * 1 + ((⟨5, ![1, 1, 1, 64, 1]⟩ : Shape).rowMajor.symm i 4).val ∧ e.val * 1 + ((⟨5, ![1, 1, 1, 64, 1]⟩ : Shape).rowMajor.symm i 4).val - 0 < 64; rw [p4]; omega
  · rw [dif_neg (show ¬63 ≤ r.val + (finCongr (by decide : (⟨5, ![1, 1, 1, 64, 1]⟩ : Shape).numel = 64) i).val from hc), dif_neg]
    intro hall
    have h3 : 63 ≤ r.val * 1 + ((⟨5, ![1, 1, 1, 64, 1]⟩ : Shape).rowMajor.symm i 3).val := (hall 3).1
    omega

/-! ## Inside a chunk -/

section
variable (q k c : FVec Ideal S8x4x128x64x64 .f32) (v : FVec Ideal S8x4x128x64x128 .f32)

/-- The queries with their decay. -/
def qd5 : FVec Ideal S8x4x128x64x64 .f32 := mulf q (Host.exp c)
/-- The keys with their decay undone. -/
def ki5 : FVec Ideal S8x4x128x64x64 .f32 := mulf k (Host.exp (Host.negf c))
/-- The whole decay of a chunk. -/
def last5 : FVec Ideal S8x4x128x1x64 .f32 := extractStridedSlice S8x4x128x1x64 ![0, 0, 0, 63, 0] c slices_S8x4x128x64x64_S8x4x128x1x64_0_0_0_63_0
/-- The keys with the decay left to the end of the chunk. -/
def ko5 : FVec Ideal S8x4x128x64x64 .f32 :=
  mulf k (Host.exp (subf (broadcastInDim S8x4x128x64x64 ![0, 1, 2, 3, 4] bcast_S8x4x128x1x64_S8x4x128x64x64_0_1_2_3_4 (last5 c)) c))
/-- The rows at or before a row. -/
def tri : IVec S64x64 1 :=
  select (cmpi .sge (addi (iotaInDim S64x64 32 0) (broadcastInDim S64x64 ![] bcast_S_S64x64 (constantI S_ 32 0#32))) (iotaInDim S64x64 32 1))
    (broadcastInDim S64x64 ![] bcast_S_S64x64 (constantI S_ 1 1#1)) (broadcastInDim S64x64 ![] bcast_S_S64x64 (constantI S_ 1 0#1))
/-- The products of queries and keys. -/
def prod5 : FVec Ideal S8x4x128x64x64 .f32 := Host.dotGeneral dot_S8x4x128x64x64_S8x4x128x64x64_S8x4x128x64x64_4_4_3_3_012_012 none q k
/-- A product array on the rows at or before. -/
def mask5 : FVec Ideal S8x4x128x64x64 .f32 :=
  select (broadcastInDim S8x4x128x64x64 ![3, 4] bcast_S64x64_S8x4x128x64x64_3_4 tri) q (broadcastInDim S8x4x128x64x64 ![] bcast_S_S8x4x128x64x64 (id (constant S_ .f32 0x00000000#32)))
/-- A row of products against the values. -/
def mix5 : FVec Ideal S8x4x128x64x128 .f32 := Host.dotGeneral dot_S8x4x128x64x64_S8x4x128x64x128_S8x4x128x64x128_4_3_3_4_012_012 none q v
/-- What a chunk adds to the state. -/
def add5 : FVec Ideal S8x4x128x64x128 .f32 := Host.dotGeneral dot_S8x4x128x64x64_S8x4x128x64x128_S8x4x128x64x128_3_3_4_4_012_012 none k v
/-- The decay of a chunk, by chunk. -/
def decT : FVec Ideal S128x8x4x64 .f32 := transpose S128x8x4x64 [2, 0, 1, 3] (Host.exp (shapeCast S8x4x128x64 (last5 c) shapeCasts_S8x4x128x1x64_S8x4x128x64)) transposes_S8x4x128x64_S128x8x4x64_2_0_1_3
/-- What each chunk adds, by chunk. -/
def addT (u : FVec Ideal S8x4x128x64x128 .f32) : FVec Ideal S128x8x4x64x128 .f32 := transpose S128x8x4x64x128 [2, 0, 1, 3, 4] u transposes_S8x4x128x64x128_S128x8x4x64x128_2_0_1_3_4

variable (b : Fin 8) (h : Fin 4) (n : Fin 128) (r e x : Fin 64) (d : Fin 128)

theorem qd5_at : qd5 q c (ix5 b h n r e) = q (ix5 b h n r e) * Ideal.exp (c (ix5 b h n r e)) := by pointwise [qd5]
theorem ki5_at : ki5 k c (ix5 b h n r e) = k (ix5 b h n r e) * Ideal.exp (-c (ix5 b h n r e)) := by pointwise [ki5]
theorem ko5_at : ko5 k c (ix5 b h n r e) = k (ix5 b h n r e) * Ideal.exp (c (ix5 b h n 63 e) - c (ix5 b h n r e)) := by
  pointwise [ko5, last5]
theorem tri_at : tri (ix2 r x) = if x.val ≤ r.val then 1#1 else 0#1 := by
  revert r x
  decide +kernel
theorem prod5_at : prod5 q k (ix5 b h n r x) = ∑ e : Fin 64, q (ix5 b h n r e) * k (ix5 b h n x e) := by pointwise [prod5]
theorem mix5_at : mix5 q v (ix5 b h n r d) = ∑ x : Fin 64, q (ix5 b h n r x) * v (ix5 b h n x d) := by pointwise [mix5]
theorem add5_at : add5 k v (ix5 b h n e d) = ∑ x : Fin 64, k (ix5 b h n x e) * v (ix5 b h n x d) := by pointwise [add5]
theorem decT_at : decT c (ix4 n b h e) = Ideal.exp (c (ix5 b h n 63 e)) := by pointwise [decT, last5]
theorem addT_at (u : FVec Ideal S8x4x128x64x128 .f32) : addT u (ix5 n b h e d) = u (ix5 b h n e d) := by pointwise [addT]
theorem mask5_at : mask5 q (ix5 b h n r x) = if x.val ≤ r.val then q (ix5 b h n r x) else 0 := by
  pointwise [mask5]
  rw [tri_at]
  split
  · rfl
  · show Ideal.ofBits .f32 0x00000000#32 = 0
    simp
end

/-! ## After the loop -/

section
variable (w : FVec Ideal S128x8x4x64x128 .f32) (o : FVec Ideal S8x4x128x64x128 .f32) (y : FVec Ideal S8x8192x4x128 .f32) (gn : FVec Ideal S128 .f32) (g : FVec Ideal S65536x512 .f32)

/-- The stored states by batch and head. -/
def stT : FVec Ideal S8x4x128x64x128 .f32 := transpose S8x4x128x64x128 [1, 2, 0, 3, 4] w transposes_S128x8x4x64x128_S8x4x128x64x128_1_2_0_3_4
/-- The result rows by batch, row and head. -/
def byR : FVec Ideal S8x8192x4x128 .f32 :=
  shapeCast S8x8192x4x128 (transpose S8x128x64x4x128 [0, 2, 3, 1, 4] o transposes_S8x4x128x64x128_S8x128x64x4x128_0_2_3_1_4) shapeCasts_S8x128x64x4x128_S8x8192x4x128
/-- The norm over a head's entries, and the gain. -/
def norm4 : FVec Ideal S8x8192x4x128 .f32 :=
  mulf (mulf y (broadcastInDim S8x8192x4x128 ![0, 1, 2, 3] bcast_S8x8192x4x1_S8x8192x4x128_0_1_2_3 (Host.rsqrt (addf (Host.divf
    (broadcastInDim S8x8192x4x1 ![0, 1, 2] bcast_S8x8192x4_S8x8192x4x1_0_1_2 (Host.reduceAdd (mulf y y) (constant S_ .f32 0x00000000#32) reducesTo_S8x8192x4x128_S8x8192x4_d3 h_S_))
    (broadcastInDim S8x8192x4x1 ![] bcast_S_S8x8192x4x1 (constant S_ .f32 0x43000000#32))) (broadcastInDim S8x8192x4x1 ![] bcast_S_S8x8192x4x1 (constant S_ .f32 0x358637BD#32))))))
    (broadcastInDim S8x8192x4x128 ![0, 1, 2, 3] bcast_S1x1x1x128_S8x8192x4x128_0_1_2_3 (broadcastInDim S1x1x1x128 ![3] bcast_S128_S1x1x1x128_3 gn))
/-- The gate. -/
def gate : FVec Ideal S65536x512 .f32 :=
  mulf g (Host.divf (broadcastInDim S65536x512 ![] bcast_S_S65536x512 (constant S_ .f32 0x3F800000#32))
    (addf (broadcastInDim S65536x512 ![] bcast_S_S65536x512 (constant S_ .f32 0x3F800000#32)) (Host.exp (Host.negf g))))
/-- The result. -/
def last2 (z : FVec Ideal S8x8192x4x128 .f32) : FVec Ideal S65536x512 .bf16 := truncf .bf16 (mulf (shapeCast S65536x512 z shapeCasts_S8x8192x4x128_S65536x512) g) bitsLt_bf16_f32

variable (b : Fin 8) (h : Fin 4) (n : Fin 128) (r e : Fin 64) (d : Fin 128) (R : Fin 8192)

theorem stT_at : stT w (ix5 b h n e d) = w (ix5 n b h e d) := by pointwise [stT]
theorem byR_at : byR o (ix4 b R h d) = o (ix5 b h (⟨R.val / 64, by omega⟩ : Fin 128) (⟨R.val % 64, by omega⟩ : Fin 64) d) := by
  pointwise [byR]
theorem norm4_at : norm4 y gn (ix4 b R h d) = y (ix4 b R h d)
    * Ideal.rsqrt (Ideal.div (∑ x : Fin 128, y (ix4 b R h x) * y (ix4 b R h x)) (Ideal.ofBits .f32 0x43000000#32) + Ideal.ofBits .f32 0x358637BD#32) * gn (ix1 d) := by
  pointwise [norm4]
theorem gate_at (i : Fin 65536) (j : Fin 512) : gate g (ix2 i j) = g (ix2 i j) * Ideal.logistic (g (ix2 i j)) := by
  pointwise [gate, Ideal.logistic]
theorem last2_at (z : FVec Ideal S8x8192x4x128 .f32) (i : Fin 65536) (j : Fin 512) :
    last2 g z (ix2 i j) = z (ix4 (⟨i.val / 8192, by omega⟩ : Fin 8) (⟨i.val % 8192, by omega⟩ : Fin 8192) (⟨j.val / 128, by omega⟩ : Fin 4) (⟨j.val % 128, by omega⟩ : Fin 128)) * g (ix2 i j) := by
  pointwise [last2]
end

/-! ## One trip of the loop -/

section
variable (dT : FVec Ideal S128x8x4x64 .f32) (aT w : FVec Ideal S128x8x4x64x128 .f32) (s : FVec Ideal S8x4x64x128 .f32) (ctr : (⟨S_, .i32⟩ : BufTy).Contents (Elt Ideal))

/-- The state after a trip. -/
def stepS : FVec Ideal S8x4x64x128 .f32 :=
  id (addf (mulf (broadcastInDim S8x4x64x128 ![0, 1, 2, 3] bcast_S8x4x64x1_S8x4x64x128_0_1_2_3 (broadcastInDim S8x4x64x1 ![0, 1, 2] bcast_S8x4x64_S8x4x64x1_0_1_2 (shapeCast S8x4x64 (Host.dynamicSlice S1x8x4x64 dT (fun k => (((![ctr, constantI S_ 32 0#32, constantI S_ 32 0#32, constantI S_ 32 0#32] : Fin 4 → (⟨S_, .i32⟩ : BufTy).Contents (Elt Ideal))) k (Shape.Idx.first h_S_)).toInt) sliceFits_S128x8x4x64_S1x8x4x64) shapeCasts_S1x8x4x64_S8x4x64))) s)
    (shapeCast S8x4x64x128 (Host.dynamicSlice S1x8x4x64x128 aT (fun k => (((![ctr, constantI S_ 32 0#32, constantI S_ 32 0#32, constantI S_ 32 0#32, constantI S_ 32 0#32] : Fin 5 → (⟨S_, .i32⟩ : BufTy).Contents (Elt Ideal))) k (Shape.Idx.first h_S_)).toInt) sliceFits_S128x8x4x64x128_S1x8x4x64x128) shapeCasts_S1x8x4x64x128_S8x4x64x128))
/-- The stored states after a trip. -/
def stepW : FVec Ideal S128x8x4x64x128 .f32 :=
  id (Host.dynamicUpdateSlice w (broadcastInDim S1x8x4x64x128 ![1, 2, 3, 4] bcast_S8x4x64x128_S1x8x4x64x128_1_2_3_4 s) (fun k => (((![ctr, constantI S_ 32 0#32, constantI S_ 32 0#32, constantI S_ 32 0#32, constantI S_ 32 0#32] : Fin 5 → (⟨S_, .i32⟩ : BufTy).Contents (Elt Ideal))) k (Shape.Idx.first h_S_)).toInt) updateFits_S128x8x4x64x128_S1x8x4x64x128)

theorem count : ∀ k : Fin 128, (Scf.iv 0#32 1#32 k.val).toInt = (k.val : Int) := by decide +kernel

variable (k n : Fin 128) (hc : ctr = fun _ => Scf.iv 0#32 1#32 k.val) (b : Fin 8) (h : Fin 4) (e : Fin 64) (d : Fin 128)

include hc in
theorem slice4 : Host.dynamicSlice S1x8x4x64 dT (fun k => (((![ctr, constantI S_ 32 0#32, constantI S_ 32 0#32, constantI S_ 32 0#32] : Fin 4 → (⟨S_, .i32⟩ : BufTy).Contents (Elt Ideal))) k (Shape.Idx.first h_S_)).toInt) sliceFits_S128x8x4x64_S1x8x4x64 (ix4 0 b h e) = dT (ix4 k b h e) := by
  subst hc
  have := k.isLt
  refine congrArg dT (funext fun a => Fin.ext ?_)
  fin_cases a
  · show (min (max (Scf.iv 0#32 1#32 k.val).toInt 0) ((128 - 1 : ℕ) : Int)).toNat + 0 = k.val
    rw [count]; omega
  · show (min (max (0#32).toInt 0) ((8 - 8 : ℕ) : Int)).toNat + b.val = b.val
    simp
  · show (min (max (0#32).toInt 0) ((4 - 4 : ℕ) : Int)).toNat + h.val = h.val
    simp
  · show (min (max (0#32).toInt 0) ((64 - 64 : ℕ) : Int)).toNat + e.val = e.val
    simp
include hc in
theorem slice5 : Host.dynamicSlice S1x8x4x64x128 aT (fun k => (((![ctr, constantI S_ 32 0#32, constantI S_ 32 0#32, constantI S_ 32 0#32, constantI S_ 32 0#32] : Fin 5 → (⟨S_, .i32⟩ : BufTy).Contents (Elt Ideal))) k (Shape.Idx.first h_S_)).toInt) sliceFits_S128x8x4x64x128_S1x8x4x64x128 (ix5 0 b h e d) = aT (ix5 k b h e d) := by
  subst hc
  have := k.isLt
  refine congrArg aT (funext fun a => Fin.ext ?_)
  fin_cases a
  · show (min (max (Scf.iv 0#32 1#32 k.val).toInt 0) ((128 - 1 : ℕ) : Int)).toNat + 0 = k.val
    rw [count]; omega
  · show (min (max (0#32).toInt 0) ((8 - 8 : ℕ) : Int)).toNat + b.val = b.val
    simp
  · show (min (max (0#32).toInt 0) ((4 - 4 : ℕ) : Int)).toNat + h.val = h.val
    simp
  · show (min (max (0#32).toInt 0) ((64 - 64 : ℕ) : Int)).toNat + e.val = e.val
    simp
  · show (min (max (0#32).toInt 0) ((128 - 128 : ℕ) : Int)).toNat + d.val = d.val
    simp

theorem spread (x : FVec Ideal S1x8x4x64 .f32) : broadcastInDim S8x4x64x128 ![0, 1, 2, 3] bcast_S8x4x64x1_S8x4x64x128_0_1_2_3 (broadcastInDim S8x4x64x1 ![0, 1, 2] bcast_S8x4x64_S8x4x64x1_0_1_2 (shapeCast S8x4x64 x shapeCasts_S1x8x4x64_S8x4x64)) (ix4 b h e d) = x (ix4 0 b h e) := by
  pointwise
theorem drop5 (x : FVec Ideal S1x8x4x64x128 .f32) : shapeCast S8x4x64x128 x shapeCasts_S1x8x4x64x128_S8x4x64x128 (ix4 b h e d) = x (ix5 0 b h e d) := by
  pointwise

include hc in
theorem stepS_at : stepS dT aT s ctr (ix4 b h e d) = dT (ix4 k b h e) * s (ix4 b h e d) + aT (ix5 k b h e d) :=
  congr (congrArg HAdd.hAdd (congrArg (fun z => z * s (ix4 b h e d)) ((spread b h e d _).trans (slice4 dT ctr k hc b h e)))) ((drop5 b h e d _).trans (slice5 aT ctr k hc b h e d))

include hc in
theorem stepW_at : stepW w s ctr (ix5 n b h e d) = if n = k then s (ix4 b h e d) else w (ix5 n b h e d) := by
  subst hc
  have := k.isLt; have := n.isLt; have := b.isLt; have := h.isLt; have := e.isLt; have := d.isLt
  unfold stepW
  rw [id, Host.dynamicUpdateSlice_apply]
  by_cases hn : n = k
  · subst hn
    rw [if_pos rfl, dif_pos]
    · refine congrArg s (funext fun a => Fin.ext ?_)
      fin_cases a
      · show b.val - (min (max (0#32).toInt 0) ((8 - 8 : ℕ) : Int)).toNat = b.val
        simp
      · show h.val - (min (max (0#32).toInt 0) ((4 - 4 : ℕ) : Int)).toNat = h.val
        simp
      · show e.val - (min (max (0#32).toInt 0) ((64 - 64 : ℕ) : Int)).toNat = e.val
        simp
      · show d.val - (min (max (0#32).toInt 0) ((128 - 128 : ℕ) : Int)).toNat = d.val
        simp
    · intro a
      fin_cases a
      · show (min (max (Scf.iv 0#32 1#32 n.val).toInt 0) ((128 - 1 : ℕ) : Int)).toNat ≤ n.val ∧ n.val < (min (max (Scf.iv 0#32 1#32 n.val).toInt 0) ((128 - 1 : ℕ) : Int)).toNat + 1
        rw [count]; omega
      · show (min (max (0#32).toInt 0) ((8 - 8 : ℕ) : Int)).toNat ≤ b.val ∧ b.val < (min (max (0#32).toInt 0) ((8 - 8 : ℕ) : Int)).toNat + 8
        simp
      · show (min (max (0#32).toInt 0) ((4 - 4 : ℕ) : Int)).toNat ≤ h.val ∧ h.val < (min (max (0#32).toInt 0) ((4 - 4 : ℕ) : Int)).toNat + 4
        simp
      · show (min (max (0#32).toInt 0) ((64 - 64 : ℕ) : Int)).toNat ≤ e.val ∧ e.val < (min (max (0#32).toInt 0) ((64 - 64 : ℕ) : Int)).toNat + 64
        simp
      · show (min (max (0#32).toInt 0) ((128 - 128 : ℕ) : Int)).toNat ≤ d.val ∧ d.val < (min (max (0#32).toInt 0) ((128 - 128 : ℕ) : Int)).toNat + 128
        simp
  · rw [if_neg hn, dif_neg]
    intro hall
    have h0 : (min (max (Scf.iv 0#32 1#32 k.val).toInt 0) ((128 - 1 : ℕ) : Int)).toNat ≤ n.val ∧ n.val < (min (max (Scf.iv 0#32 1#32 k.val).toInt 0) ((128 - 1 : ℕ) : Int)).toNat + 1 := hall 0
    rw [count] at h0
    exact hn (Fin.ext (by omega))
end

end Cert.GlaRefIdeal.Ops

end
-- ==== Proof.GlaRefRead.lean ====
/-
  What the gated linear attention reference's buffers hold, before its loop, after every trip and at the end.
-/
module

public import proofs.«01_k».proof.Defs
public import proofs.«01_k».proof.Proof.GlaRefOps
public import Idealize.ShloMosaic.Lib.StableHlo.RunRead

@[expose] public section

set_option maxRecDepth 100000

noncomputable section

open Idealize.ShloMosaic Idealize.ShloMosaic.TcCoe Idealize.SL.Sem
open Idealize.ShloMosaic.StableHlo

namespace Cert.GlaRefIdeal.Read

open Cert.GlaRefIdeal Cert.GlaRefIdeal.Gen Cert.GlaRefIdeal.Value Cert.GlaRefIdeal.Loop Cert.GlaRefIdeal.Ops Cert.Layer.Gla

/-! ## Before the loop -/

section
variable (X : Valuation τ sig (Elt Ideal))

/-- The queries by batch, head and chunk. -/
def qs (x : FVec Ideal S65536x512 .f32) : FVec Ideal S8x4x128x64x64 .f32 := byK (extractStridedSlice S65536x256 ![0, 0] x slices_S65536x512_S65536x256_0_0)
/-- The keys by batch, head and chunk. -/
def ks (x : FVec Ideal S65536x512 .f32) : FVec Ideal S8x4x128x64x64 .f32 := byK (extractStridedSlice S65536x256 ![0, 256] x slices_S65536x512_S65536x256_0_256)
/-- The values by batch, head and chunk. -/
def vs (x : FVec Ideal S65536x512 .bf16) : FVec Ideal S8x4x128x64x128 .f32 := byV (extf .f32 x bitsLt_bf16_f32)

theorem r_v2 : after hostOps0 X (Proc.devRef .tc main_v2) = qs (X (Proc.devRef .tc main_arg0)) := by after_reads_simp; rfl
theorem r_v5 : after hostOps0 X (Proc.devRef .tc main_v5) = ks (X (Proc.devRef .tc main_arg0)) := by after_reads_simp; rfl
theorem r_v8 : after hostOps0 X (Proc.devRef .tc main_v8) = vs (X (Proc.devRef .tc main_arg1)) := by after_reads_simp; rfl
theorem r_v10 : after hostOps0 X (Proc.devRef .tc main_v10) = byK (X (Proc.devRef .tc main_arg2)) := by after_reads_simp; rfl
theorem r_v11 : after hostOps0_1 X (Proc.devRef .tc main_v11) = cum (X (Proc.devRef .tc main_v10)) := by after_reads_simp; rfl
theorem r_v12 : after hostOps0_2 X (Proc.devRef .tc main_v12) = last5 (X (Proc.devRef .tc main_v11)) := by after_reads_simp; rfl
theorem r_v14 : after hostOps0_2 X (Proc.devRef .tc main_v14) = qd5 (X (Proc.devRef .tc main_v2)) (X (Proc.devRef .tc main_v11)) := by after_reads_simp; rfl
theorem r_v17 : after hostOps0_2 X (Proc.devRef .tc main_v17) = ki5 (X (Proc.devRef .tc main_v5)) (X (Proc.devRef .tc main_v11)) := by after_reads_simp; rfl
theorem r_v21 : after hostOps0_2 X (Proc.devRef .tc main_v21) = ko5 (X (Proc.devRef .tc main_v5)) (X (Proc.devRef .tc main_v11)) := by after_reads_simp; rfl
theorem r_v22 : after hostOps0_2 X (Proc.devRef .tc main_v22) = broadcastInDim S64x64 ![] bcast_S_S64x64 (constantI S_ 1 1#1) := by after_reads_simp
theorem r_v23 : after hostOps0_3 X (Proc.devRef .tc main_v23) = select (cmpi .sge (addi (iotaInDim S64x64 32 0) (broadcastInDim S64x64 ![] bcast_S_S64x64 (constantI S_ 32 0#32))) (iotaInDim S64x64 32 1))
    (X (Proc.devRef .tc main_v22)) (broadcastInDim S64x64 ![] bcast_S_S64x64 (constantI S_ 1 0#1)) := by after_reads_simp; rfl
theorem r_v24 : after hostOps0_4 X (Proc.devRef .tc main_v24) = prod5 (X (Proc.devRef .tc main_v14)) (X (Proc.devRef .tc main_v17)) := by after_reads_simp; rfl
theorem r_cst : after hostOps0_4 X (Proc.devRef .tc main_cst) = (constant S_ .f32 0x00000000#32 : FVec Ideal S_ .f32) := by after_reads_simp
theorem r_v25 : after hostOps0_5 X (Proc.devRef .tc main_v25) = select (broadcastInDim S8x4x128x64x64 ![3, 4] bcast_S64x64_S8x4x128x64x64_3_4 (X (Proc.devRef .tc main_v23))) (X (Proc.devRef .tc main_v24))
    (broadcastInDim S8x4x128x64x64 ![] bcast_S_S8x4x128x64x64 (id (X (Proc.devRef .tc main_cst)))) := by after_reads_simp; rfl
theorem r_v26 : after hostOps0_6 X (Proc.devRef .tc main_v26) = mix5 (X (Proc.devRef .tc main_v25)) (X (Proc.devRef .tc main_v8)) := by after_reads_simp; rfl
theorem r_d : after hostOps0_6 X (Proc.devRef .tc main_v34_0) = (transpose S128x8x4x64 [2, 0, 1, 3] (Host.exp (F := Ideal) (φ := .f32) (shapeCast S8x4x128x64 (X (Proc.devRef .tc main_v12)) shapeCasts_S8x4x128x1x64_S8x4x128x64)) transposes_S8x4x128x64_S128x8x4x64_2_0_1_3 : FVec Ideal S128x8x4x64 .f32) := by after_reads_simp; rfl
theorem r_a : after hostOps0_6 X (Proc.devRef .tc main_v34_1) = addT (add5 (X (Proc.devRef .tc main_v21)) (X (Proc.devRef .tc main_v8))) := by after_reads_simp; rfl
theorem r_s : after hostOps0_6 X (Proc.devRef .tc main_v34_3) = (broadcastInDim S8x4x64x128 ![] bcast_S_S8x4x64x128 (constant S_ .f32 0x00000000#32 : FVec Ideal S_ .f32) : FVec Ideal S8x4x64x128 .f32) := by after_reads_simp; rfl
theorem r_w : after hostOps0_6 X (Proc.devRef .tc main_v34_4) = (broadcastInDim S128x8x4x64x128 ![] bcast_S_S128x8x4x64x128 (constant S_ .f32 0x00000000#32 : FVec Ideal S_ .f32) : FVec Ideal S128x8x4x64x128 .f32) := by after_reads_simp; rfl

theorem k1 (r : Ref sig .tc) (h : r ∉ hostOps0_1_W) : after hostOps0_1 X (Proc.devRef .tc r) = X (Proc.devRef .tc r) := after_of_writes_sub _ _ hostOps0_1_writes h
theorem k2 (r : Ref sig .tc) (h : r ∉ hostOps0_2_W) : after hostOps0_2 X (Proc.devRef .tc r) = X (Proc.devRef .tc r) := after_of_writes_sub _ _ hostOps0_2_writes h
theorem k3 (r : Ref sig .tc) (h : r ∉ hostOps0_3_W) : after hostOps0_3 X (Proc.devRef .tc r) = X (Proc.devRef .tc r) := after_of_writes_sub _ _ hostOps0_3_writes h
theorem k4 (r : Ref sig .tc) (h : r ∉ hostOps0_4_W) : after hostOps0_4 X (Proc.devRef .tc r) = X (Proc.devRef .tc r) := after_of_writes_sub _ _ hostOps0_4_writes h
theorem k5 (r : Ref sig .tc) (h : r ∉ hostOps0_5_W) : after hostOps0_5 X (Proc.devRef .tc r) = X (Proc.devRef .tc r) := after_of_writes_sub _ _ hostOps0_5_writes h
theorem k6 (r : Ref sig .tc) (h : r ∉ hostOps0_6_W) : after hostOps0_6 X (Proc.devRef .tc r) = X (Proc.devRef .tc r) := after_of_writes_sub _ _ hostOps0_6_writes h

theorem r_v53 : after hostOps0_7 X (Proc.devRef .tc main_v53) = (shapeCast S65536x512 (norm4 (byR (addf (X (Proc.devRef .tc main_v26)) (mix5 (X (Proc.devRef .tc main_v14)) (stT (X (Proc.devRef .tc main_v34_4))))))
    (X (Proc.devRef .tc main_arg4))) shapeCasts_S8x8192x4x128_S65536x512 : FVec Ideal S65536x512 .f32) := by after_reads_simp; rfl
theorem r_v54 : after hostOps0_8 X (Proc.devRef .tc main_v54) = gate (X (Proc.devRef .tc main_arg3)) := by after_reads_simp; rfl
theorem r_v56 : after hostOps0_9 X (Proc.devRef .tc main_v56) = (truncf .bf16 (mulf (F := Ideal) (φ := .f32) (X (Proc.devRef .tc main_v53)) (X (Proc.devRef .tc main_v54))) bitsLt_bf16_f32 : FVec Ideal S65536x512 .bf16) := by after_reads_simp
theorem k7 (r : Ref sig .tc) (h : r ∉ post_W) : after hostOps0_7 X (Proc.devRef .tc r) = X (Proc.devRef .tc r) := after_of_writes_sub _ _ hostOps0_7_writes h
theorem k8 (r : Ref sig .tc) (h : r ∉ post1_W) : after hostOps0_8 X (Proc.devRef .tc r) = X (Proc.devRef .tc r) := after_of_writes_sub _ _ hostOps0_8_writes h
theorem r_end : afterL postI X (Proc.devRef .tc main_v56) = last2 (gate (X (Proc.devRef .tc main_arg3)))
    (norm4 (byR (addf (X (Proc.devRef .tc main_v26)) (mix5 (X (Proc.devRef .tc main_v14)) (stT (X (Proc.devRef .tc main_v34_4)))))) (X (Proc.devRef .tc main_arg4))) := by
  simp only [postI, afterL_cons, afterL_nil]
  rw [r_v56, k8 _ main_v53 (by decide), r_v53, r_v54, k7 _ main_arg3 (by decide)]
  rfl

end

section
variable (m : (ℓ : Loc nD τ sig) → Buf (Elt Ideal) ℓ) (c : Dev nD)

/-- The queries and keys argument. -/
abbrev a0 : FVec Ideal S65536x512 .f32 := m ((c : Thread nD τ).loc main_arg0)
/-- The values argument. -/
abbrev a1 : FVec Ideal S65536x512 .bf16 := m ((c : Thread nD τ).loc main_arg1)
/-- The log decays argument. -/
abbrev a2 : FVec Ideal S65536x256 .f32 := m ((c : Thread nD τ).loc main_arg2)
/-- The gates argument. -/
abbrev a3 : FVec Ideal S65536x512 .f32 := m ((c : Thread nD τ).loc main_arg3)
/-- The gain argument. -/
abbrev a4 : FVec Ideal S128 .f32 := m ((c : Thread nD τ).loc main_arg4)

theorem e_v14 : entryContents preI m c (Proc.devRef .tc main_v14) = qd5 (qs (a0 m c)) (cum (byK (a2 m c))) := by
  simp only [preI, entryContents, afterL_cons, afterL_nil]
  rw [k6 _ main_v14 (by decide), k5 _ main_v14 (by decide), k4 _ main_v14 (by decide), k3 _ main_v14 (by decide), r_v14, r_v11, r_v10, k1 _ main_v2 (by decide), r_v2]
theorem e_v26 : entryContents preI m c (Proc.devRef .tc main_v26)
    = mix5 (mask5 (prod5 (qd5 (qs (a0 m c)) (cum (byK (a2 m c)))) (ki5 (ks (a0 m c)) (cum (byK (a2 m c)))))) (vs (a1 m c)) := by
  simp only [preI, entryContents, afterL_cons, afterL_nil]
  rw [r_v26, r_v25, k4 _ main_v23 (by decide), r_v23, r_v22, r_v24, r_cst, k3 _ main_v14 (by decide), r_v14, k3 _ main_v17 (by decide), r_v17, r_v11, r_v10, k1 _ main_v2 (by decide), r_v2, k1 _ main_v5 (by decide), r_v5,
    k5 _ main_v8 (by decide), k4 _ main_v8 (by decide), k3 _ main_v8 (by decide), k2 _ main_v8 (by decide), k1 _ main_v8 (by decide), r_v8]
  rfl
theorem e_d : entryContents preI m c (Proc.devRef .tc main_v34_0) = decT (cum (byK (a2 m c))) := by
  simp only [preI, entryContents, afterL_cons, afterL_nil]
  rw [r_d, k5 _ main_v12 (by decide), k4 _ main_v12 (by decide), k3 _ main_v12 (by decide), r_v12, r_v11, r_v10]
  rfl
theorem e_a : entryContents preI m c (Proc.devRef .tc main_v34_1) = addT (add5 (ko5 (ks (a0 m c)) (cum (byK (a2 m c)))) (vs (a1 m c))) := by
  simp only [preI, entryContents, afterL_cons, afterL_nil]
  rw [r_a, k5 _ main_v21 (by decide), k4 _ main_v21 (by decide), k3 _ main_v21 (by decide), r_v21, r_v11, r_v10, k1 _ main_v5 (by decide), r_v5, k5 _ main_v8 (by decide), k4 _ main_v8 (by decide), k3 _ main_v8 (by decide), k2 _ main_v8 (by decide), k1 _ main_v8 (by decide), r_v8]

/-! ## The mathematics' arguments -/

/-- The queries. -/
def fq (R : Fin 65536) (j : Fin 256) : EReal := a0 m c (ix2 R (⟨j.val, by omega⟩ : Fin 512))
/-- The keys. -/
def fk (R : Fin 65536) (j : Fin 256) : EReal := a0 m c (ix2 R (⟨256 + j.val, by omega⟩ : Fin 512))
/-- The values. -/
def fv (R : Fin 65536) (j : Fin 512) : EReal := a1 m c (ix2 R j)
/-- The log decays. -/
def fl (R : Fin 65536) (j : Fin 256) : EReal := a2 m c (ix2 R j)
/-- The gates. -/
def fg (R : Fin 65536) (j : Fin 512) : EReal := a3 m c (ix2 R j)
/-- The gain. -/
def fn (d : Fin 128) : EReal := a4 m c (ix1 d)

variable (b : Fin 8) (h : Fin 4) (n : Fin 128) (r e x : Fin 64) (d : Fin 128)

theorem colQ (x : FVec Ideal S65536x512 .f32) (R : Fin 65536) (j : Fin 256) :
    extractStridedSlice S65536x256 ![0, 0] x slices_S65536x512_S65536x256_0_0 (ix2 R j) = x (ix2 R (⟨j.val, by omega⟩ : Fin 512)) := by pointwise
theorem colK' (x : FVec Ideal S65536x512 .f32) (R : Fin 65536) (j : Fin 256) :
    extractStridedSlice S65536x256 ![0, 256] x slices_S65536x512_S65536x256_0_256 (ix2 R j) = x (ix2 R (⟨256 + j.val, by omega⟩ : Fin 512)) := by pointwise

theorem qs_at : qs (a0 m c) (ix5 b h n r e) = fq m c (row b.val n.val r.val) (colK h e) := (byK_at _ _ _ _ _ _).trans (colQ _ _ _)
theorem ks_at : ks (a0 m c) (ix5 b h n r e) = fk m c (row b.val n.val r.val) (colK h e) := (byK_at _ _ _ _ _ _).trans (colK' _ _ _)
theorem vs_at : vs (a1 m c) (ix5 b h n r d) = fv m c (row b.val n.val r.val) (colV h d) := byV_at _ _ _ _ _ _
theorem lam_at : cum (byK (a2 m c)) (ix5 b h n r e) = lam (fl m c) b.val n.val h e r.val :=
  (cum_at _ _ _ _ _ _).trans (congrArg (fun f => pre f r.val) (funext fun i => byK_at _ _ _ _ _ _))
theorem qd_at : qd5 (qs (a0 m c)) (cum (byK (a2 m c))) (ix5 b h n r e) = fq m c (row b.val n.val r.val) (colK h e) * Ideal.exp (lam (fl m c) b.val n.val h e r.val) := by
  rw [qd5_at, qs_at, lam_at]
theorem ki_at : ki5 (ks (a0 m c)) (cum (byK (a2 m c))) (ix5 b h n r e) = fk m c (row b.val n.val r.val) (colK h e) * Ideal.exp (-lam (fl m c) b.val n.val h e r.val) := by
  rw [ki5_at, ks_at, lam_at]
theorem d_at : decT (cum (byK (a2 m c))) (ix4 n b h e) = Ideal.exp (lam (fl m c) b.val n.val h e 63) := by
  rw [decT_at, lam_at]
  rfl
theorem a_at : addT (add5 (ko5 (ks (a0 m c)) (cum (byK (a2 m c)))) (vs (a1 m c))) (ix5 n b h e d)
    = ∑ x : Fin 64, fv m c (row b.val n.val x.val) (colV h d) * (fk m c (row b.val n.val x.val) (colK h e) * Ideal.exp (lam (fl m c) b.val n.val h e 63 - lam (fl m c) b.val n.val h e x.val)) := by
  rw [addT_at, add5_at]
  refine Finset.sum_congr rfl fun x _ => ?_
  rw [ko5_at, ks_at, lam_at, lam_at, vs_at, mul_comm]
  rfl

/-! ## The loop -/

theorem t_d (k : ℕ) : atK m k c (Proc.devRef .tc main_v34_0) = decT (cum (byK (a2 m c))) := by
  induction k with
  | zero => exact e_d m c
  | succ k ih => exact ((trip_agree (atK m k c) main_v34_0 (by decide)).trans (STEP_main_v34_0 _)).trans ih
theorem t_a (k : ℕ) : atK m k c (Proc.devRef .tc main_v34_1) = addT (add5 (ko5 (ks (a0 m c)) (cum (byK (a2 m c)))) (vs (a1 m c))) := by
  induction k with
  | zero => exact e_a m c
  | succ k ih => exact ((trip_agree (atK m k c) main_v34_1 (by decide)).trans (STEP_main_v34_1 _)).trans ih
theorem t_s (k : ℕ) : atK m (k + 1) c (Proc.devRef .tc main_v34_3)
    = stepS (decT (cum (byK (a2 m c)))) (addT (add5 (ko5 (ks (a0 m c)) (cum (byK (a2 m c)))) (vs (a1 m c)))) (atK m k c (Proc.devRef .tc main_v34_3)) (atK m k c (Proc.devRef .tc main_v34_2)) := by
  refine ((trip_agree (atK m k c) main_v34_3 (by decide)).trans (STEP_main_v34_3 _)).trans ?_
  unfold step_main_v34_3
  rw [t_d, t_a]
  rfl
theorem t_w (k : ℕ) : atK m (k + 1) c (Proc.devRef .tc main_v34_4)
    = stepW (atK m k c (Proc.devRef .tc main_v34_4)) (atK m k c (Proc.devRef .tc main_v34_3)) (atK m k c (Proc.devRef .tc main_v34_2)) :=
  (trip_agree (atK m k c) main_v34_4 (by decide)).trans (STEP_main_v34_4 _)

/-- The carried state before trip `k`. -/
theorem s_at (k : ℕ) : ∀ (hk : k ≤ 128) (b : Fin 8) (h : Fin 4) (e : Fin 64) (d : Fin 128),
    (show FVec Ideal S8x4x64x128 .f32 from atK m k c (Proc.devRef .tc main_v34_3)) (ix4 b h e d) = state (fk m c) (fl m c) (fv m c) b.val h d e k := by
  induction k with
  | zero =>
    intro hk b h e d
    show (show FVec Ideal S8x4x64x128 .f32 from entryContents preI m c (Proc.devRef .tc main_v34_3)) (ix4 b h e d) = 0
    rw [show entryContents preI m c (Proc.devRef .tc main_v34_3) = (broadcastInDim S8x4x64x128 ![] bcast_S_S8x4x64x128 (constant S_ .f32 0x00000000#32 : FVec Ideal S_ .f32) : FVec Ideal S8x4x64x128 .f32) by
      simp only [preI, entryContents, afterL_cons, afterL_nil]; exact r_s _]
    show Ideal.ofBits .f32 0x00000000#32 = 0
    simp
  | succ k ih =>
    intro hk b h e d
    rw [t_s]
    refine (stepS_at _ _ _ _ ⟨k, by omega⟩ (atK_ctr m c k) b h e d).trans ?_
    exact (congr (congrArg HAdd.hAdd ((congr (congrArg HMul.hMul (d_at m c b h ⟨k, by omega⟩ e)) (ih (by omega) b h e d)).trans (mul_comm _ _))) (a_at m c b h ⟨k, by omega⟩ e d)).trans rfl

/-- The stored states before trip `k`. -/
theorem w_at (k : ℕ) : ∀ (hk : k ≤ 128) (n : Fin 128) (hn : n.val < k) (b : Fin 8) (h : Fin 4) (e : Fin 64) (d : Fin 128),
    (show FVec Ideal S128x8x4x64x128 .f32 from atK m k c (Proc.devRef .tc main_v34_4)) (ix5 n b h e d) = state (fk m c) (fl m c) (fv m c) b.val h d e n.val := by
  induction k with
  | zero => intro hk n hn; omega
  | succ k ih =>
    intro hk n hn b h e d
    rw [t_w]
    refine (stepW_at _ _ _ ⟨k, by omega⟩ n (atK_ctr m c k) b h e d).trans ?_
    by_cases hx : n = ⟨k, by omega⟩
    · rw [if_pos hx]
      have hk' : k = n.val := by rw [hx]
      subst hk'
      exact s_at m c n.val (by omega) b h e d
    · rw [if_neg hx]
      exact ih (by omega) n (by have : n.val ≠ k := fun he => hx (Fin.ext he); omega) b h e d

/-! ## The result -/

/-- The rows before the norm. -/
def rows : FVec Ideal S8x4x128x64x128 .f32 :=
  addf (mix5 (mask5 (prod5 (qd5 (qs (a0 m c)) (cum (byK (a2 m c)))) (ki5 (ks (a0 m c)) (cum (byK (a2 m c)))))) (vs (a1 m c)))
    (mix5 (qd5 (qs (a0 m c)) (cum (byK (a2 m c)))) (stT (atK m 128 c (Proc.devRef .tc main_v34_4))))

theorem intra_at : mix5 (mask5 (prod5 (qd5 (qs (a0 m c)) (cum (byK (a2 m c)))) (ki5 (ks (a0 m c)) (cum (byK (a2 m c)))))) (vs (a1 m c)) (ix5 b h n r d)
    = ∑ x : Fin 64, if x.val ≤ r.val then
      (∑ e : Fin 64, fq m c (row b.val n.val r.val) (colK h e) * Ideal.exp (lam (fl m c) b.val n.val h e r.val) * (fk m c (row b.val n.val x.val) (colK h e) * Ideal.exp (-lam (fl m c) b.val n.val h e x.val)))
        * fv m c (row b.val n.val x.val) (colV h d) else 0 := by
  refine (mix5_at _ _ _ _ _ _ _).trans (Finset.sum_congr rfl fun x _ => ?_)
  rw [mask5_at, ite_mul, zero_mul, vs_at, prod5_at]
  refine if_congr Iff.rfl (congrArg (fun z => z * _) (Finset.sum_congr rfl fun e _ => ?_)) rfl
  rw [qd_at, ki_at]

theorem inter_at (w : FVec Ideal S128x8x4x64x128 .f32) (hw : ∀ e : Fin 64, w (ix5 n b h e d) = state (fk m c) (fl m c) (fv m c) b.val h d e n.val) :
    mix5 (qd5 (qs (a0 m c)) (cum (byK (a2 m c)))) (stT w) (ix5 b h n r d)
      = ∑ e : Fin 64, fq m c (row b.val n.val r.val) (colK h e) * Ideal.exp (lam (fl m c) b.val n.val h e r.val) * state (fk m c) (fl m c) (fv m c) b.val h d e n.val := by
  refine (mix5_at _ _ _ _ _ _ _).trans (Finset.sum_congr rfl fun e _ => ?_)
  rw [qd_at, stT_at, hw]

theorem rows_at : rows m c (ix5 b h n r d) = score (fq m c) (fk m c) (fl m c) (fv m c) b.val n.val h r d :=
  congr (congrArg HAdd.hAdd (intra_at m c b h n r d)) (inter_at m c b h n r d _ fun e => w_at m c 128 (le_refl _) n n.isLt b h e d)

theorem result : finalContents condOps preI bodyI postI 128 m c (Proc.devRef .tc main_v56) = last2 (gate (a3 m c)) (norm4 (byR (rows m c)) (a4 m c)) := by
  refine (r_end (after condOps (atK m 128 c))).trans ?_
  unfold rows
  exact congrArg₂ (fun u v => last2 (gate u) v) ((loop_keep m c main_arg3 (by decide)).trans (entry_keep m c main_arg3 (by decide)))
    (congrArg₂ (fun u v => norm4 (byR u) v) (congrArg₂ (fun u v => addf u v) ((loop_keep m c main_v26 (by decide)).trans (e_v26 m c))
      (congrArg₂ (fun u v => mix5 u (stT v)) ((loop_keep m c main_v14 (by decide)).trans (e_v14 m c)) (cond_keeps (atK m 128 c) main_v34_4 (by decide))))
      ((loop_keep m c main_arg4 (by decide)).trans (entry_keep m c main_arg4 (by decide))))

/-- An entry of the reference's result. -/
theorem result_at (i : Fin 65536) (j : Fin 512) : (show FVec Ideal S65536x512 .bf16 from finalContents condOps preI bodyI postI 128 m c (Proc.devRef .tc main_v56)) (ix2 i j)
    = out (fq m c) (fk m c) (fl m c) (fv m c) (fg m c) (fn m c) (i.val / 8192) (i.val % 8192 / 64) (⟨j.val / 128, by omega⟩ : Fin 4) (⟨i.val % 64, Nat.mod_lt _ (by omega)⟩ : Fin 64) (⟨j.val % 128, Nat.mod_lt _ (by omega)⟩ : Fin 128) := by
  rw [result]
  refine (last2_at _ _ i j).trans ?_
  rw [gate_at, norm4_at]
  have hr : ∀ x : Fin 128, byR (rows m c) (ix4 (⟨i.val / 8192, by omega⟩ : Fin 8) (⟨i.val % 8192, by omega⟩ : Fin 8192) (⟨j.val / 128, by omega⟩ : Fin 4) x)
      = score (fq m c) (fk m c) (fl m c) (fv m c) (i.val / 8192) (i.val % 8192 / 64) (⟨j.val / 128, by omega⟩ : Fin 4) (⟨i.val % 64, Nat.mod_lt _ (by omega)⟩ : Fin 64) x := fun x => by
    rw [byR_at, rows_at]
    have e1 : i.val % 8192 % 64 = i.val % 64 := by omega
    simp only [e1]
  simp only [hr]
  have e1 : row (i.val / 8192) (i.val % 8192 / 64) (i.val % 64) = i := Fin.ext (by show (8192 * (i.val / 8192) + 64 * (i.val % 8192 / 64) + i.val % 64) % 65536 = i.val; omega)
  have e2 : colV (⟨j.val / 128, by omega⟩ : Fin 4) (⟨j.val % 128, Nat.mod_lt _ (by omega)⟩ : Fin 128) = j := Fin.ext (by show 128 * (j.val / 128) + j.val % 128 = j.val; omega)
  show _ = Cert.GlaIdeal.Block.gated _ _ (fg m c (row _ _ _) (colV _ _)) _
  simp only [e1, e2]
  rfl

end

end Cert.GlaRefIdeal.Read

end
-- ==== Proof.GlaValue.lean ====
/-
  Gated linear attention: the kernel's result is the reference's.
-/
module

public import proofs.«01_k».proof.Defs
public import proofs.«01_k».proof.Proof.GlaRows
public import proofs.«01_k».proof.Proof.GlaRefRead
public import proofs.«01_k».proof.Proof.Gen.GlaIdeal.Frame
public import proofs.«01_k».proof.Proof.Gen.GlaIdeal.Value
public import proofs.«01_k».proof.Proof.GlaRef
public import Idealize.ShloMosaic.Lib.Claim

@[expose] public section

set_option maxRecDepth 16384

noncomputable section

open Idealize.ShloMosaic Idealize.ShloMosaic.TcCoe Idealize.SL.Sem
open Idealize.ShloMosaic.StableHlo

namespace Cert.Proof.Gla

section
open Cert.GlaRefIdeal Cert.GlaRefIdeal.Gen Cert.GlaRefIdeal.Value Cert.GlaRefIdeal.Loop

set_option maxHeartbeats 4000000 in
/-- The reference's run: its result, and its arguments as they were. -/
theorem run_ref (m : (ℓ : Loc nD τ sig) → Buf (Elt Ideal) ℓ) (ρ) : θ_run (defs (F := Ideal)) (onTc (τ := τ) (main (F := Ideal))) ⟨m, fun _ => 0, ρ⟩ fun r => ∀ c : Dev nD,
    r.2.mem ((c : Thread nD τ).loc main_v56) = finalContents condOps preI bodyI postI 128 m c (Proc.devRef .tc main_v56)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run _ _ _).mono
    (fun r h c => ⟨h c main_v56 rfl, (h c main_arg0 rfl).trans (arg_keep m c _ (by decide) (by decide) (by decide) (by decide) (by decide)),
      (h c main_arg1 rfl).trans (arg_keep m c _ (by decide) (by decide) (by decide) (by decide) (by decide)),
      (h c main_arg2 rfl).trans (arg_keep m c _ (by decide) (by decide) (by decide) (by decide) (by decide)),
      (h c main_arg3 rfl).trans (arg_keep m c _ (by decide) (by decide) (by decide) (by decide) (by decide)),
      (h c main_arg4 rfl).trans (arg_keep m c _ (by decide) (by decide) (by decide) (by decide) (by decide))⟩)
    (Cert.GlaRefIdeal.Value.run_fold (F := Ideal) m ρ)

end

set_option maxHeartbeats 4000000 in
/-- From equal arguments, equal results. -/
theorem same (m : (ℓ : Loc Cert.GlaIdeal.nD Cert.GlaIdeal.τ Cert.GlaIdeal.sig) → Buf (Elt Ideal) ℓ) (m' : (ℓ : Loc Cert.GlaRefIdeal.nD Cert.GlaRefIdeal.τ Cert.GlaRefIdeal.sig) → Buf (Elt Ideal) ℓ)
    (c : Dev Cert.GlaIdeal.nD)
    (h0 : m' ((c : Thread Cert.GlaRefIdeal.nD Cert.GlaRefIdeal.τ).loc Cert.GlaRefIdeal.main_arg0) = m ((c : Thread Cert.GlaIdeal.nD Cert.GlaIdeal.τ).loc Cert.GlaIdeal.main_arg0))
    (h1 : m' ((c : Thread Cert.GlaRefIdeal.nD Cert.GlaRefIdeal.τ).loc Cert.GlaRefIdeal.main_arg1) = m ((c : Thread Cert.GlaIdeal.nD Cert.GlaIdeal.τ).loc Cert.GlaIdeal.main_arg1))
    (h2 : m' ((c : Thread Cert.GlaRefIdeal.nD Cert.GlaRefIdeal.τ).loc Cert.GlaRefIdeal.main_arg2) = m ((c : Thread Cert.GlaIdeal.nD Cert.GlaIdeal.τ).loc Cert.GlaIdeal.main_arg2))
    (h3 : m' ((c : Thread Cert.GlaRefIdeal.nD Cert.GlaRefIdeal.τ).loc Cert.GlaRefIdeal.main_arg3) = m ((c : Thread Cert.GlaIdeal.nD Cert.GlaIdeal.τ).loc Cert.GlaIdeal.main_arg3))
    (h4 : m' ((c : Thread Cert.GlaRefIdeal.nD Cert.GlaRefIdeal.τ).loc Cert.GlaRefIdeal.main_arg4) = m ((c : Thread Cert.GlaIdeal.nD Cert.GlaIdeal.τ).loc Cert.GlaIdeal.main_arg4)) :
    finalContents Cert.GlaRefIdeal.Value.condOps Cert.GlaRefIdeal.Value.preI Cert.GlaRefIdeal.Value.bodyI Cert.GlaRefIdeal.Value.postI 128 m' c (Proc.devRef .tc Cert.GlaRefIdeal.main_v56)
      = Cert.GlaIdeal.Rows.whole m c := by
  have eq : Cert.GlaRefIdeal.Read.fq m' c = Cert.GlaIdeal.Rows.Q m c := funext fun R => funext fun j => congrFun h0 _
  have ek : Cert.GlaRefIdeal.Read.fk m' c = Cert.GlaIdeal.Rows.K m c := funext fun R => funext fun j => congrFun h0 _
  have ev : Cert.GlaRefIdeal.Read.fv m' c = Cert.GlaIdeal.Rows.Vv m c := funext fun R => funext fun j => congrFun h1 _
  have el : Cert.GlaRefIdeal.Read.fl m' c = Cert.GlaIdeal.Rows.La m c := funext fun R => funext fun j => congrFun h2 _
  have eg : Cert.GlaRefIdeal.Read.fg m' c = Cert.GlaIdeal.Rows.Gg m c := funext fun R => funext fun j => congrFun h3 _
  have en : Cert.GlaRefIdeal.Read.fn m' c = Cert.GlaIdeal.Rows.Gn m c := funext fun d => congrFun h4 _
  funext y
  have h0 : (y 0).val < 65536 := (y 0).isLt
  have h1 : (y 1).val < 512 := (y 1).isLt
  have ey : y = ix2 (⟨(y 0).val, h0⟩ : Fin 65536) (⟨(y 1).val, h1⟩ : Fin 512) := by blk_ext
  refine (congrArg _ ey).trans ((Cert.GlaRefIdeal.Read.result_at m' c _ _).trans ?_)
  rw [eq, ek, ev, el, eg, en]
  rfl

set_option maxHeartbeats 4000000 in
/-- At the ideal values the call's result is the reference's. -/
theorem algebraic : Cert.algebraic_GlaIdeal_GlaRefIdeal := by
  pair_intro
  · run_from Cert.GlaIdeal.Value.run_blocks m g
  · run_from run_ref m' g'
    obtain ⟨h0, h1, h2, h3, h4⟩ := hagree c
    exact (same m m' c h0 h1 h2 h3 h4).trans (Cert.GlaIdeal.Rows.final5 m c).symm

end Cert.Proof.Gla

end
-- ==== Proof.lean ====
/-
  The certificate of four calls of one decoder layer: gated linear attention, the first feed-forward half step, the
  output projection with the second half step, and the input projections.
-/
module

public import proofs.«01_k».proof.Defs
public import proofs.«01_k».proof.Proof.Gen.Gla.Frame
public import proofs.«01_k».proof.Proof.Gen.GlaIdeal.Frame
public import proofs.«01_k».proof.Proof.Gen.Ffn.Frame
public import proofs.«01_k».proof.Proof.Gen.FfnIdeal.Frame
public import proofs.«01_k».proof.Proof.Gen.Mix.Frame
public import proofs.«01_k».proof.Proof.Gen.MixIdeal.Frame
public import proofs.«01_k».proof.Proof.GlaRef
public import proofs.«01_k».proof.Proof.FfnValue
public import proofs.«01_k».proof.Proof.MixValue
public import proofs.«01_k».proof.Proof.Gen.Inproj.Frame
public import proofs.«01_k».proof.Proof.Gen.InprojIdeal.Frame
public import proofs.«01_k».proof.Proof.InprojValue
public import proofs.«01_k».proof.Proof.GlaValue

@[expose] public section

noncomputable section

namespace Cert.Proof

open Idealize.ShloMosaic Idealize.SL.Sem

/-- The claims, in the order of the statement: the frames, then per call that the ideal reading is the
    printed kernel's and computes the reference's values. -/
theorem claim : Cert.Claim :=
  ⟨Cert.Gla.Gen.facts, Cert.GlaIdeal.Gen.facts, Cert.GlaRefIdeal.Gen.facts,
    Cert.Ffn.Gen.facts, Cert.FfnIdeal.Gen.facts, Cert.FfnRefIdeal.Gen.facts,
    Cert.Mix.Gen.facts, Cert.MixIdeal.Gen.facts, Cert.MixRefIdeal.Gen.facts,
    Cert.Inproj.Gen.facts, Cert.InprojIdeal.Gen.facts, Cert.InprojRefIdeal.Gen.facts,
    fun m ρ _ => Cert.Gla.Gen.frame m ρ, fun m ρ _ => Cert.GlaIdeal.Gen.frame m ρ, Cert.Proof.Gla.frame_r,
    fun m ρ _ => Cert.Ffn.Gen.frame m ρ, fun m ρ _ => Cert.FfnIdeal.Gen.frame m ρ, Cert.Proof.Ffn.frame_r,
    fun m ρ _ => Cert.Mix.Gen.frame m ρ, fun m ρ _ => Cert.MixIdeal.Gen.frame m ρ, Cert.Proof.Mix.frame_r,
    fun m ρ _ => Cert.Inproj.Gen.frame m ρ, fun m ρ _ => Cert.InprojIdeal.Gen.frame m ρ, Cert.Proof.Inproj.frame_r,
    trivial, Cert.Proof.Gla.algebraic, trivial, Cert.Proof.Ffn.algebraic, trivial, Cert.Proof.Mix.algebraic,
    trivial, Cert.Proof.Inproj.algebraic⟩

end Cert.Proof

end
